-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ConvA (m : (ℓ : Loc Cert.ConvA.nD Cert.ConvA.τ Cert.ConvA.sig) → Buf (Elt Bits) ℓ) : Prop :=
  True

def Pre_ConvAIdeal (m : (ℓ : Loc Cert.ConvAIdeal.nD Cert.ConvAIdeal.τ Cert.ConvAIdeal.sig) → Buf (Elt Ideal) ℓ) : Prop :=
  True

def Pre_ConvARefIdeal (m : (ℓ : Loc Cert.ConvARefIdeal.nD Cert.ConvARefIdeal.τ Cert.ConvARefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_InDwCx (m : (ℓ : Loc Cert.InDwCx.nD Cert.InDwCx.τ Cert.InDwCx.sig) → Buf (Elt Bits) ℓ) : Prop :=
  True

def Pre_InDwCxIdeal (m : (ℓ : Loc Cert.InDwCxIdeal.nD Cert.InDwCxIdeal.τ Cert.InDwCxIdeal.sig) → Buf (Elt Ideal) ℓ) : Prop :=
  True

def Pre_InDwCxRefIdeal (m : (ℓ : Loc Cert.InDwCxRefIdeal.nD Cert.InDwCxRefIdeal.τ Cert.InDwCxRefIdeal.sig) → Buf (Elt Ideal) ℓ) : Prop :=
  True

def Pre_InDwZ (m : (ℓ : Loc Cert.InDwZ.nD Cert.InDwZ.τ Cert.InDwZ.sig) → Buf (Elt Bits) ℓ) : Prop :=
  True

def Pre_InDwZIdeal (m : (ℓ : Loc Cert.InDwZIdeal.nD Cert.InDwZIdeal.τ Cert.InDwZIdeal.sig) → Buf (Elt Ideal) ℓ) : Prop :=
  True

def Pre_InDwZRefIdeal (m : (ℓ : Loc Cert.InDwZRefIdeal.nD Cert.InDwZRefIdeal.τ Cert.InDwZRefIdeal.sig) → Buf (Elt Ideal) ℓ) : Prop :=
  True

def Pre_InDu (m : (ℓ : Loc Cert.InDu.nD Cert.InDu.τ Cert.InDu.sig) → Buf (Elt Bits) ℓ) : Prop :=
  True

def Pre_InDuIdeal (m : (ℓ : Loc Cert.InDuIdeal.nD Cert.InDuIdeal.τ Cert.InDuIdeal.sig) → Buf (Elt Ideal) ℓ) : Prop :=
  True

def Pre_InDuRefIdeal (m : (ℓ : Loc Cert.InDuRefIdeal.nD Cert.InDuRefIdeal.τ Cert.InDuRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_finite_up [hPre_finite_up : Cert.Pre_finite_up.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_finite_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1))).1 = (fun _ => 1#1)
    ∧ (Cert.Pre_finite_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1))).2 = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_finite_up [hPre_finite_up : Cert.Pre_finite_up.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_finite_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1))).1 = (fun _ => 1#1)
    ∧ (Cert.Pre_finite_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1))).2 = (fun _ => 1#1)

def Pre_FfnDa (m : (ℓ : Loc Cert.FfnDa.nD Cert.FfnDa.τ Cert.FfnDa.sig) → Buf (Elt Bits) ℓ) : Prop :=
  True

def Pre_FfnDaIdeal (m : (ℓ : Loc Cert.FfnDaIdeal.nD Cert.FfnDaIdeal.τ Cert.FfnDaIdeal.sig) → Buf (Elt Ideal) ℓ) : Prop :=
  True

def Pre_FfnDaIdeal_finite_da [hPre_finite_da : Cert.Pre_finite_da.Facts] (m : (ℓ : Loc Cert.FfnDaIdeal.nD Cert.FfnDaIdeal.τ Cert.FfnDaIdeal.sig) → Buf (Elt Ideal) ℓ) : Prop :=
  ∀ c : Dev Cert.FfnDaIdeal.nD,
    (Cert.Pre_finite_da.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).1 = (fun _ => 1#1)
    ∧ (Cert.Pre_finite_da.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).2.1 = (fun _ => 1#1)
    ∧ (Cert.Pre_finite_da.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).2.2.1 = (fun _ => 1#1)
    ∧ (Cert.Pre_finite_da.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).2.2.2 = (fun _ => 1#1)

def Pre_FfnDaRefIdeal (m : (ℓ : Loc Cert.FfnDaRefIdeal.nD Cert.FfnDaRefIdeal.τ Cert.FfnDaRefIdeal.sig) → Buf (Elt Ideal) ℓ) : Prop :=
  True

def Pre_FfnDaRefIdeal_finite_da [hPre_finite_da : Cert.Pre_finite_da.Facts] (m : (ℓ : Loc Cert.FfnDaRefIdeal.nD Cert.FfnDaRefIdeal.τ Cert.FfnDaRefIdeal.sig) → Buf (Elt Ideal) ℓ) : Prop :=
  ∀ c : Dev Cert.FfnDaRefIdeal.nD,
    (Cert.Pre_finite_da.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).1 = (fun _ => 1#1)
    ∧ (Cert.Pre_finite_da.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).2.1 = (fun _ => 1#1)
    ∧ (Cert.Pre_finite_da.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).2.2.1 = (fun _ => 1#1)
    ∧ (Cert.Pre_finite_da.fn (F := Ideal) (m ((c.tc : Thread Cert.FfnDaRefIdeal.nD Cert.FfnDaRefIdeal.τ).loc Cert.FfnDaRefIdeal.main_arg0)) (m ((c.tc : Thread Cert.FfnDaRefIdeal.nD Cert.FfnDaRefIdeal.τ).loc Cert.FfnDaRefIdeal.main_arg1)) (m ((c.tc : Thread Cert.FfnDaRefIdeal.nD Cert.FfnDaRefIdeal.τ).loc Cert.FfnDaRefIdeal.main_arg2)) (m ((c.tc : Thread Cert.FfnDaRefIdeal.nD Cert.FfnDaRefIdeal.τ).loc Cert.FfnDaRefIdeal.main_arg3))).2.2.2 = (fun _ => 1#1)

def Pre_FfnDn (m : (ℓ : Loc Cert.FfnDn.nD Cert.FfnDn.τ Cert.FfnDn.sig) → Buf (Elt Bits) ℓ) : Prop :=
  True

def Pre_FfnDnIdeal (m : (ℓ : Loc Cert.FfnDnIdeal.nD Cert.FfnDnIdeal.τ Cert.FfnDnIdeal.sig) → Buf (Elt Ideal) ℓ) : Prop :=
  True

def Pre_FfnDnIdeal_finite_dn [hPre_finite_dn : Cert.Pre_finite_dn.Facts] (m : (ℓ : Loc Cert.FfnDnIdeal.nD Cert.FfnDnIdeal.τ Cert.FfnDnIdeal.sig) → Buf (Elt Ideal) ℓ) : Prop :=
  ∀ c : Dev Cert.FfnDnIdeal.nD,
    (Cert.Pre_finite_dn.fn (F := Ideal) (m ((c.tc : Thread Cert.FfnDnIdeal.nD Cert.FfnDnIdeal.τ).loc Cert.FfnDnIdeal.main_arg0)) (m ((c.tc : Thread Cert.FfnDnIdeal.nD Cert.FfnDnIdeal.τ).loc Cert.FfnDnIdeal.main_arg1)) (m ((c.tc : Thread Cert.FfnDnIdeal.nD Cert.FfnDnIdeal.τ).loc Cert.FfnDnIdeal.main_arg2)) (m ((c.tc : Thread Cert.FfnDnIdeal.nD Cert.FfnDnIdeal.τ).loc Cert.FfnDnIdeal.main_arg3)) (m ((c.tc : Thread Cert.FfnDnIdeal.nD Cert.FfnDnIdeal.τ).loc Cert.FfnDnIdeal.main_arg4)) (m ((c.tc : Thread Cert.FfnDnIdeal.nD Cert.FfnDnIdeal.τ).loc Cert.FfnDnIdeal.main_arg5)) (m ((c.tc : Thread Cert.FfnDnIdeal.nD Cert.FfnDnIdeal.τ).loc Cert.FfnDnIdeal.main_arg6))).1 = (fun _ => 1#1)
    ∧ (Cert.Pre_finite_dn.fn (F := Ideal) (m ((c.tc : Thread Cert.FfnDnIdeal.nD Cert.FfnDnIdeal.τ).loc Cert.FfnDnIdeal.main_arg0)) (m ((c.tc : Thread Cert.FfnDnIdeal.nD Cert.FfnDnIdeal.τ).loc Cert.FfnDnIdeal.main_arg1)) (m ((c.tc : Thread Cert.FfnDnIdeal.nD Cert.FfnDnIdeal.τ).loc Cert.FfnDnIdeal.main_arg2)) (m ((c.tc : Thread Cert.FfnDnIdeal.nD Cert.FfnDnIdeal.τ).loc Cert.FfnDnIdeal.main_arg3)) (m ((c.tc : Thread Cert.FfnDnIdeal.nD Cert.FfnDnIdeal.τ).loc Cert.FfnDnIdeal.main_arg4)) (m ((c.tc : Thread Cert.FfnDnIdeal.nD Cert.FfnDnIdeal.τ).loc Cert.FfnDnIdeal.main_arg5)) (m ((c.tc : Thread Cert.FfnDnIdeal.nD Cert.FfnDnIdeal.τ).loc Cert.FfnDnIdeal.main_arg6))).2.1 = (fun _ => 1#1)
    ∧ (Cert.Pre_finite_dn.fn (F := Ideal) (m ((c.tc : Thread Cert.FfnDnIdeal.nD Cert.FfnDnIdeal.τ).loc Cert.FfnDnIdeal.main_arg0)) (m ((c.tc : Thread Cert.FfnDnIdeal.nD Cert.FfnDnIdeal.τ).loc Cert.FfnDnIdeal.main_arg1)) (m ((c.tc : Thread Cert.FfnDnIdeal.nD Cert.FfnDnIdeal.τ).loc Cert.FfnDnIdeal.main_arg2)) (m ((c.tc : Thread Cert.FfnDnIdeal.nD Cert.FfnDnIdeal.τ).loc Cert.FfnDnIdeal.main_arg3)) (m ((c.tc : Thread Cert.FfnDnIdeal.nD Cert.FfnDnIdeal.τ).loc Cert.FfnDnIdeal.main_arg4)) (m ((c.tc : Thread Cert.FfnDnIdeal.nD Cert.FfnDnIdeal.τ).loc Cert.FfnDnIdeal.main_arg5)) (m ((c.tc : Thread Cert.FfnDnIdeal.nD Cert.FfnDnIdeal.τ).loc Cert.FfnDnIdeal.main_arg6))).2.2.1 = (fun _ => 1#1)
    ∧ (Cert.Pre_finite_dn.fn (F := Ideal) (m ((c.tc : Thread Cert.FfnDnIdeal.nD Cert.FfnDnIdeal.τ).loc Cert.FfnDnIdeal.main_arg0)) (m ((c.tc : Thread Cert.FfnDnIdeal.nD Cert.FfnDnIdeal.τ).loc Cert.FfnDnIdeal.main_arg1)) (m ((c.tc : Thread Cert.FfnDnIdeal.nD Cert.FfnDnIdeal.τ).loc Cert.FfnDnIdeal.main_arg2)) (m ((c.tc : Thread Cert.FfnDnIdeal.nD Cert.FfnDnIdeal.τ).loc Cert.FfnDnIdeal.main_arg3)) (m ((c.tc : Thread Cert.FfnDnIdeal.nD Cert.FfnDnIdeal.τ).loc Cert.FfnDnIdeal.main_arg4)) (m ((c.tc : Thread Cert.FfnDnIdeal.nD Cert.FfnDnIdeal.τ).loc Cert.FfnDnIdeal.main_arg5)) (m ((c.tc : Thread Cert.FfnDnIdeal.nD Cert.FfnDnIdeal.τ).loc Cert.FfnDnIdeal.main_arg6))).2.2.2.1 = (fun _ => 1#1)
    ∧ (Cert.Pre_finite_dn.fn (F := Ideal) (m ((c.tc : Thread Cert.FfnDnIdeal.nD Cert.FfnDnIdeal.τ).loc Cert.FfnDnIdeal.main_arg0)) (m ((c.tc : Thread Cert.FfnDnIdeal.nD Cert.FfnDnIdeal.τ).loc Cert.FfnDnIdeal.main_arg1)) (m ((c.tc : Thread Cert.FfnDnIdeal.nD Cert.FfnDnIdeal.τ).loc Cert.FfnDnIdeal.main_arg2)) (m ((c.tc : Thread Cert.FfnDnIdeal.nD Cert.FfnDnIdeal.τ).loc Cert.FfnDnIdeal.main_arg3)) (m ((c.tc : Thread Cert.FfnDnIdeal.nD Cert.FfnDnIdeal.τ).loc Cert.FfnDnIdeal.main_arg4)) (m ((c.tc : Thread Cert.FfnDnIdeal.nD Cert.FfnDnIdeal.τ).loc Cert.FfnDnIdeal.main_arg5)) (m ((c.tc : Thread Cert.FfnDnIdeal.nD Cert.FfnDnIdeal.τ).loc Cert.FfnDnIdeal.main_arg6))).2.2.2.2 = (fun _ => 1#1)

def Pre_FfnDnRefIdeal (m : (ℓ : Loc Cert.FfnDnRefIdeal.nD Cert.FfnDnRefIdeal.τ Cert.FfnDnRefIdeal.sig) → Buf (Elt Ideal) ℓ) : Prop :=
  True

def Pre_FfnDnRefIdeal_finite_dn [hPre_finite_dn : Cert.Pre_finite_dn.Facts] (m : (ℓ : Loc Cert.FfnDnRefIdeal.nD Cert.FfnDnRefIdeal.τ Cert.FfnDnRefIdeal.sig) → Buf (Elt Ideal) ℓ) : Prop :=
  ∀ c : Dev Cert.FfnDnRefIdeal.nD,
    (Cert.Pre_finite_dn.fn (F := Ideal) (m ((c.tc : Thread Cert.FfnDnRefIdeal.nD Cert.FfnDnRefIdeal.τ).loc Cert.FfnDnRefIdeal.main_arg0)) (m ((c.tc : Thread Cert.FfnDnRefIdeal.nD Cert.FfnDnRefIdeal.τ).loc Cert.FfnDnRefIdeal.main_arg1)) (m ((c.tc : Thread Cert.FfnDnRefIdeal.nD Cert.FfnDnRefIdeal.τ).loc Cert.FfnDnRefIdeal.main_arg2)) (m ((c.tc : Thread Cert.FfnDnRefIdeal.nD Cert.FfnDnRefIdeal.τ).loc Cert.FfnDnRefIdeal.main_arg3)) (m ((c.tc : Thread Cert.FfnDnRefIdeal.nD Cert.FfnDnRefIdeal.τ).loc Cert.FfnDnRefIdeal.main_arg4)) (m ((c.tc : Thread Cert.FfnDnRefIdeal.nD Cert.FfnDnRefIdeal.τ).loc Cert.FfnDnRefIdeal.main_arg5)) (m ((c.tc : Thread Cert.FfnDnRefIdeal.nD Cert.FfnDnRefIdeal.τ).loc Cert.FfnDnRefIdeal.main_arg6))).1 = (fun _ => 1#1)
    ∧ (Cert.Pre_finite_dn.fn (F := Ideal) (m ((c.tc : Thread Cert.FfnDnRefIdeal.nD Cert.FfnDnRefIdeal.τ).loc Cert.FfnDnRefIdeal.main_arg0)) (m ((c.tc : Thread Cert.FfnDnRefIdeal.nD Cert.FfnDnRefIdeal.τ).loc Cert.FfnDnRefIdeal.main_arg1)) (m ((c.tc : Thread Cert.FfnDnRefIdeal.nD Cert.FfnDnRefIdeal.τ).loc Cert.FfnDnRefIdeal.main_arg2)) (m ((c.tc : Thread Cert.FfnDnRefIdeal.nD Cert.FfnDnRefIdeal.τ).loc Cert.FfnDnRefIdeal.main_arg3)) (m ((c.tc : Thread Cert.FfnDnRefIdeal.nD Cert.FfnDnRefIdeal.τ).loc Cert.FfnDnRefIdeal.main_arg4)) (m ((c.tc : Thread Cert.FfnDnRefIdeal.nD Cert.FfnDnRefIdeal.τ).loc Cert.FfnDnRefIdeal.main_arg5)) (m ((c.tc : Thread Cert.FfnDnRefIdeal.nD Cert.FfnDnRefIdeal.τ).loc Cert.FfnDnRefIdeal.main_arg6))).2.1 = (fun _ => 1#1)
    ∧ (Cert.Pre_finite_dn.fn (F := Ideal) (m ((c.tc : Thread Cert.FfnDnRefIdeal.nD Cert.FfnDnRefIdeal.τ).loc Cert.FfnDnRefIdeal.main_arg0)) (m ((c.tc : Thread Cert.FfnDnRefIdeal.nD Cert.FfnDnRefIdeal.τ).loc Cert.FfnDnRefIdeal.main_arg1)) (m ((c.tc : Thread Cert.FfnDnRefIdeal.nD Cert.FfnDnRefIdeal.τ).loc Cert.FfnDnRefIdeal.main_arg2)) (m ((c.tc : Thread Cert.FfnDnRefIdeal.nD Cert.FfnDnRefIdeal.τ).loc Cert.FfnDnRefIdeal.main_arg3)) (m ((c.tc : Thread Cert.FfnDnRefIdeal.nD Cert.FfnDnRefIdeal.τ).loc Cert.FfnDnRefIdeal.main_arg4)) (m ((c.tc : Thread Cert.FfnDnRefIdeal.nD Cert.FfnDnRefIdeal.τ).loc Cert.FfnDnRefIdeal.main_arg5)) (m ((c.tc : Thread Cert.FfnDnRefIdeal.nD Cert.FfnDnRefIdeal.τ).loc Cert.FfnDnRefIdeal.main_arg6))).2.2.1 = (fun _ => 1#1)
    ∧ (Cert.Pre_finite_dn.fn (F := Ideal) (m ((c.tc : Thread Cert.FfnDnRefIdeal.nD Cert.FfnDnRefIdeal.τ).loc Cert.FfnDnRefIdeal.main_arg0)) (m ((c.tc : Thread Cert.FfnDnRefIdeal.nD Cert.FfnDnRefIdeal.τ).loc Cert.FfnDnRefIdeal.main_arg1)) (m ((c.tc : Thread Cert.FfnDnRefIdeal.nD Cert.FfnDnRefIdeal.τ).loc Cert.FfnDnRefIdeal.main_arg2)) (m ((c.tc : Thread Cert.FfnDnRefIdeal.nD Cert.FfnDnRefIdeal.τ).loc Cert.FfnDnRefIdeal.main_arg3)) (m ((c.tc : Thread Cert.FfnDnRefIdeal.nD Cert.FfnDnRefIdeal.τ).loc Cert.FfnDnRefIdeal.main_arg4)) (m ((c.tc : Thread Cert.FfnDnRefIdeal.nD Cert.FfnDnRefIdeal.τ).loc Cert.FfnDnRefIdeal.main_arg5)) (m ((c.tc : Thread Cert.FfnDnRefIdeal.nD Cert.FfnDnRefIdeal.τ).loc Cert.FfnDnRefIdeal.main_arg6))).2.2.2.1 = (fun _ => 1#1)
    ∧ (Cert.Pre_finite_dn.fn (F := Ideal) (m ((c.tc : Thread Cert.FfnDnRefIdeal.nD Cert.FfnDnRefIdeal.τ).loc Cert.FfnDnRefIdeal.main_arg0)) (m ((c.tc : Thread Cert.FfnDnRefIdeal.nD Cert.FfnDnRefIdeal.τ).loc Cert.FfnDnRefIdeal.main_arg1)) (m ((c.tc : Thread Cert.FfnDnRefIdeal.nD Cert.FfnDnRefIdeal.τ).loc Cert.FfnDnRefIdeal.main_arg2)) (m ((c.tc : Thread Cert.FfnDnRefIdeal.nD Cert.FfnDnRefIdeal.τ).loc Cert.FfnDnRefIdeal.main_arg3)) (m ((c.tc : Thread Cert.FfnDnRefIdeal.nD Cert.FfnDnRefIdeal.τ).loc Cert.FfnDnRefIdeal.main_arg4)) (m ((c.tc : Thread Cert.FfnDnRefIdeal.nD Cert.FfnDnRefIdeal.τ).loc Cert.FfnDnRefIdeal.main_arg5)) (m ((c.tc : Thread Cert.FfnDnRefIdeal.nD Cert.FfnDnRefIdeal.τ).loc Cert.FfnDnRefIdeal.main_arg6))).2.2.2.2 = (fun _ => 1#1)

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwMix (m : (ℓ : Loc Cert.DwMix.nD Cert.DwMix.τ Cert.DwMix.sig) → Buf (Elt Bits) ℓ) : Prop :=
  True

def Pre_DwMixIdeal (m : (ℓ : Loc Cert.DwMixIdeal.nD Cert.DwMixIdeal.τ Cert.DwMixIdeal.sig) → Buf (Elt Ideal) ℓ) : Prop :=
  True

def Pre_DwMixRefIdeal (m : (ℓ : Loc Cert.DwMixRefIdeal.nD Cert.DwMixRefIdeal.τ Cert.DwMixRefIdeal.sig) → Buf (Elt Ideal) ℓ) : Prop :=
  True

def Pre_DwSsm (m : (ℓ : Loc Cert.DwSsm.nD Cert.DwSsm.τ Cert.DwSsm.sig) → Buf (Elt Bits) ℓ) : Prop :=
  True

def Pre_DwSsmIdeal (m : (ℓ : Loc Cert.DwSsmIdeal.nD Cert.DwSsmIdeal.τ Cert.DwSsmIdeal.sig) → Buf (Elt Ideal) ℓ) : Prop :=
  True

def Pre_DwSsmRefIdeal (m : (ℓ : Loc Cert.DwSsmRefIdeal.nD Cert.DwSsmRefIdeal.τ Cert.DwSsmRefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_DO (m : (ℓ : Loc Cert.DO.nD Cert.DO.τ Cert.DO.sig) → Buf (Elt Bits) ℓ) : Prop :=
  True

def Pre_DOIdeal (m : (ℓ : Loc Cert.DOIdeal.nD Cert.DOIdeal.τ Cert.DOIdeal.sig) → Buf (Elt Ideal) ℓ) : Prop :=
  True

def Pre_DORefIdeal (m : (ℓ : Loc Cert.DORefIdeal.nD Cert.DORefIdeal.τ Cert.DORefIdeal.sig) → Buf (Elt Ideal) ℓ) : Prop :=
  True

def Pre_DUn (m : (ℓ : Loc Cert.DUn.nD Cert.DUn.τ Cert.DUn.sig) → Buf (Elt Bits) ℓ) : Prop :=
  True

def Pre_DUnIdeal (m : (ℓ : Loc Cert.DUnIdeal.nD Cert.DUnIdeal.τ Cert.DUnIdeal.sig) → Buf (Elt Ideal) ℓ) : Prop :=
  True

def Pre_DUnIdeal_finite_un [hPre_finite_un : Cert.Pre_finite_un.Facts] (m : (ℓ : Loc Cert.DUnIdeal.nD Cert.DUnIdeal.τ Cert.DUnIdeal.sig) → Buf (Elt Ideal) ℓ) : Prop :=
  ∀ c : Dev Cert.DUnIdeal.nD,
    (Cert.Pre_finite_un.fn (F := Ideal) (m ((c.tc : Thread Cert.DUnIdeal.nD Cert.DUnIdeal.τ).loc Cert.DUnIdeal.main_arg0)) (m ((c.tc : Thread Cert.DUnIdeal.nD Cert.DUnIdeal.τ).loc Cert.DUnIdeal.main_arg1)) (m ((c.tc : Thread Cert.DUnIdeal.nD Cert.DUnIdeal.τ).loc Cert.DUnIdeal.main_arg2)) (m ((c.tc : Thread Cert.DUnIdeal.nD Cert.DUnIdeal.τ).loc Cert.DUnIdeal.main_arg3)) (m ((c.tc : Thread Cert.DUnIdeal.nD Cert.DUnIdeal.τ).loc Cert.DUnIdeal.main_arg4))).1 = (fun _ => 1#1)
    ∧ (Cert.Pre_finite_un.fn (F := Ideal) (m ((c.tc : Thread Cert.DUnIdeal.nD Cert.DUnIdeal.τ).loc Cert.DUnIdeal.main_arg0)) (m ((c.tc : Thread Cert.DUnIdeal.nD Cert.DUnIdeal.τ).loc Cert.DUnIdeal.main_arg1)) (m ((c.tc : Thread Cert.DUnIdeal.nD Cert.DUnIdeal.τ).loc Cert.DUnIdeal.main_arg2)) (m ((c.tc : Thread Cert.DUnIdeal.nD Cert.DUnIdeal.τ).loc Cert.DUnIdeal.main_arg3)) (m ((c.tc : Thread Cert.DUnIdeal.nD Cert.DUnIdeal.τ).loc Cert.DUnIdeal.main_arg4))).2.1 = (fun _ => 1#1)
    ∧ (Cert.Pre_finite_un.fn (F := Ideal) (m ((c.tc : Thread Cert.DUnIdeal.nD Cert.DUnIdeal.τ).loc Cert.DUnIdeal.main_arg0)) (m ((c.tc : Thread Cert.DUnIdeal.nD Cert.DUnIdeal.τ).loc Cert.DUnIdeal.main_arg1)) (m ((c.tc : Thread Cert.DUnIdeal.nD Cert.DUnIdeal.τ).loc Cert.DUnIdeal.main_arg2)) (m ((c.tc : Thread Cert.DUnIdeal.nD Cert.DUnIdeal.τ).loc Cert.DUnIdeal.main_arg3)) (m ((c.tc : Thread Cert.DUnIdeal.nD Cert.DUnIdeal.τ).loc Cert.DUnIdeal.main_arg4))).2.2.1 = (fun _ => 1#1)
    ∧ (Cert.Pre_finite_un.fn (F := Ideal) (m ((c.tc : Thread Cert.DUnIdeal.nD Cert.DUnIdeal.τ).loc Cert.DUnIdeal.main_arg0)) (m ((c.tc : Thread Cert.DUnIdeal.nD Cert.DUnIdeal.τ).loc Cert.DUnIdeal.main_arg1)) (m ((c.tc : Thread Cert.DUnIdeal.nD Cert.DUnIdeal.τ).loc Cert.DUnIdeal.main_arg2)) (m ((c.tc : Thread Cert.DUnIdeal.nD Cert.DUnIdeal.τ).loc Cert.DUnIdeal.main_arg3)) (m ((c.tc : Thread Cert.DUnIdeal.nD Cert.DUnIdeal.τ).loc Cert.DUnIdeal.main_arg4))).2.2.2 = (fun _ => 1#1)

def Pre_DUnRefIdeal (m : (ℓ : Loc Cert.DUnRefIdeal.nD Cert.DUnRefIdeal.τ Cert.DUnRefIdeal.sig) → Buf (Elt Ideal) ℓ) : Prop :=
  True

def Pre_DUnRefIdeal_finite_un [hPre_finite_un : Cert.Pre_finite_un.Facts] (m : (ℓ : Loc Cert.DUnRefIdeal.nD Cert.DUnRefIdeal.τ Cert.DUnRefIdeal.sig) → Buf (Elt Ideal) ℓ) : Prop :=
  ∀ c : Dev Cert.DUnRefIdeal.nD,
    (Cert.Pre_finite_un.fn (F := Ideal) (m ((c.tc : Thread Cert.DUnRefIdeal.nD Cert.DUnRefIdeal.τ).loc Cert.DUnRefIdeal.main_arg0)) (m ((c.tc : Thread Cert.DUnRefIdeal.nD Cert.DUnRefIdeal.τ).loc Cert.DUnRefIdeal.main_arg1)) (m ((c.tc : Thread Cert.DUnRefIdeal.nD Cert.DUnRefIdeal.τ).loc Cert.DUnRefIdeal.main_arg2)) (m ((c.tc : Thread Cert.DUnRefIdeal.nD Cert.DUnRefIdeal.τ).loc Cert.DUnRefIdeal.main_arg3)) (m ((c.tc : Thread Cert.DUnRefIdeal.nD Cert.DUnRefIdeal.τ).loc Cert.DUnRefIdeal.main_arg4))).1 = (fun _ => 1#1)
    ∧ (Cert.Pre_finite_un.fn (F := Ideal) (m ((c.tc : Thread Cert.DUnRefIdeal.nD Cert.DUnRefIdeal.τ).loc Cert.DUnRefIdeal.main_arg0)) (m ((c.tc : Thread Cert.DUnRefIdeal.nD Cert.DUnRefIdeal.τ).loc Cert.DUnRefIdeal.main_arg1)) (m ((c.tc : Thread Cert.DUnRefIdeal.nD Cert.DUnRefIdeal.τ).loc Cert.DUnRefIdeal.main_arg2)) (m ((c.tc : Thread Cert.DUnRefIdeal.nD Cert.DUnRefIdeal.τ).loc Cert.DUnRefIdeal.main_arg3)) (m ((c.tc : Thread Cert.DUnRefIdeal.nD Cert.DUnRefIdeal.τ).loc Cert.DUnRefIdeal.main_arg4))).2.1 = (fun _ => 1#1)
    ∧ (Cert.Pre_finite_un.fn (F := Ideal) (m ((c.tc : Thread Cert.DUnRefIdeal.nD Cert.DUnRefIdeal.τ).loc Cert.DUnRefIdeal.main_arg0)) (m ((c.tc : Thread Cert.DUnRefIdeal.nD Cert.DUnRefIdeal.τ).loc Cert.DUnRefIdeal.main_arg1)) (m ((c.tc : Thread Cert.DUnRefIdeal.nD Cert.DUnRefIdeal.τ).loc Cert.DUnRefIdeal.main_arg2)) (m ((c.tc : Thread Cert.DUnRefIdeal.nD Cert.DUnRefIdeal.τ).loc Cert.DUnRefIdeal.main_arg3)) (m ((c.tc : Thread Cert.DUnRefIdeal.nD Cert.DUnRefIdeal.τ).loc Cert.DUnRefIdeal.main_arg4))).2.2.1 = (fun _ => 1#1)
    ∧ (Cert.Pre_finite_un.fn (F := Ideal) (m ((c.tc : Thread Cert.DUnRefIdeal.nD Cert.DUnRefIdeal.τ).loc Cert.DUnRefIdeal.main_arg0)) (m ((c.tc : Thread Cert.DUnRefIdeal.nD Cert.DUnRefIdeal.τ).loc Cert.DUnRefIdeal.main_arg1)) (m ((c.tc : Thread Cert.DUnRefIdeal.nD Cert.DUnRefIdeal.τ).loc Cert.DUnRefIdeal.main_arg2)) (m ((c.tc : Thread Cert.DUnRefIdeal.nD Cert.DUnRefIdeal.τ).loc Cert.DUnRefIdeal.main_arg3)) (m ((c.tc : Thread Cert.DUnRefIdeal.nD Cert.DUnRefIdeal.τ).loc Cert.DUnRefIdeal.main_arg4))).2.2.2 = (fun _ => 1#1)

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSsm (m : (ℓ : Loc Cert.AdamSsm.nD Cert.AdamSsm.τ Cert.AdamSsm.sig) → Buf (Elt Bits) ℓ) : Prop :=
  True

def Pre_AdamSsmIdeal (m : (ℓ : Loc Cert.AdamSsmIdeal.nD Cert.AdamSsmIdeal.τ Cert.AdamSsmIdeal.sig) → Buf (Elt Ideal) ℓ) : Prop :=
  True

def Pre_AdamSsmRefIdeal (m : (ℓ : Loc Cert.AdamSsmRefIdeal.nD Cert.AdamSsmRefIdeal.τ Cert.AdamSsmRefIdeal.sig) → Buf (Elt Ideal) ℓ) : Prop :=
  True

def Pre_AdamGateUp (m : (ℓ : Loc Cert.AdamGateUp.nD Cert.AdamGateUp.τ Cert.AdamGateUp.sig) → Buf (Elt Bits) ℓ) : Prop :=
  True

def Pre_AdamGateUpIdeal (m : (ℓ : Loc Cert.AdamGateUpIdeal.nD Cert.AdamGateUpIdeal.τ Cert.AdamGateUpIdeal.sig) → Buf (Elt Ideal) ℓ) : Prop :=
  True

def Pre_AdamGateUpRefIdeal (m : (ℓ : Loc Cert.AdamGateUpRefIdeal.nD Cert.AdamGateUpRefIdeal.τ Cert.AdamGateUpRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_XAttn (m : (ℓ : Loc Cert.XAttn.nD Cert.XAttn.τ Cert.XAttn.sig) → Buf (Elt Bits) ℓ) : Prop :=
  True

def Pre_XAttnIdeal (m : (ℓ : Loc Cert.XAttnIdeal.nD Cert.XAttnIdeal.τ Cert.XAttnIdeal.sig) → Buf (Elt Ideal) ℓ) : Prop :=
  True

def Pre_XAttnIdeal_finite_xattn [hPre_finite_xattn : Cert.Pre_finite_xattn.Facts] (m : (ℓ : Loc Cert.XAttnIdeal.nD Cert.XAttnIdeal.τ Cert.XAttnIdeal.sig) → Buf (Elt Ideal) ℓ) : Prop :=
  ∀ c : Dev Cert.XAttnIdeal.nD,
    (Cert.Pre_finite_xattn.fn (F := Ideal) (m ((c.tc : Thread Cert.XAttnIdeal.nD Cert.XAttnIdeal.τ).loc Cert.XAttnIdeal.main_arg0)) (m ((c.tc : Thread Cert.XAttnIdeal.nD Cert.XAttnIdeal.τ).loc Cert.XAttnIdeal.main_arg1)) (m ((c.tc : Thread Cert.XAttnIdeal.nD Cert.XAttnIdeal.τ).loc Cert.XAttnIdeal.main_arg2))).1 = (fun _ => 1#1)
    ∧ (Cert.Pre_finite_xattn.fn (F := Ideal) (m ((c.tc : Thread Cert.XAttnIdeal.nD Cert.XAttnIdeal.τ).loc Cert.XAttnIdeal.main_arg0)) (m ((c.tc : Thread Cert.XAttnIdeal.nD Cert.XAttnIdeal.τ).loc Cert.XAttnIdeal.main_arg1)) (m ((c.tc : Thread Cert.XAttnIdeal.nD Cert.XAttnIdeal.τ).loc Cert.XAttnIdeal.main_arg2))).2 = (fun _ => 1#1)

def Pre_XAttnRefIdeal (m : (ℓ : Loc Cert.XAttnRefIdeal.nD Cert.XAttnRefIdeal.τ Cert.XAttnRefIdeal.sig) → Buf (Elt Ideal) ℓ) : Prop :=
  True

def Pre_XAttnRefIdeal_finite_xattn [hPre_finite_xattn : Cert.Pre_finite_xattn.Facts] (m : (ℓ : Loc Cert.XAttnRefIdeal.nD Cert.XAttnRefIdeal.τ Cert.XAttnRefIdeal.sig) → Buf (Elt Ideal) ℓ) : Prop :=
  ∀ c : Dev Cert.XAttnRefIdeal.nD,
    (Cert.Pre_finite_xattn.fn (F := Ideal) (m ((c.tc : Thread Cert.XAttnRefIdeal.nD Cert.XAttnRefIdeal.τ).loc Cert.XAttnRefIdeal.main_arg0)) (m ((c.tc : Thread Cert.XAttnRefIdeal.nD Cert.XAttnRefIdeal.τ).loc Cert.XAttnRefIdeal.main_arg1)) (m ((c.tc : Thread Cert.XAttnRefIdeal.nD Cert.XAttnRefIdeal.τ).loc Cert.XAttnRefIdeal.main_arg2))).1 = (fun _ => 1#1)
    ∧ (Cert.Pre_finite_xattn.fn (F := Ideal) (m ((c.tc : Thread Cert.XAttnRefIdeal.nD Cert.XAttnRefIdeal.τ).loc Cert.XAttnRefIdeal.main_arg0)) (m ((c.tc : Thread Cert.XAttnRefIdeal.nD Cert.XAttnRefIdeal.τ).loc Cert.XAttnRefIdeal.main_arg1)) (m ((c.tc : Thread Cert.XAttnRefIdeal.nD Cert.XAttnRefIdeal.τ).loc Cert.XAttnRefIdeal.main_arg2))).2 = (fun _ => 1#1)

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossIdeal_finite_loss [hPre_finite_loss : Cert.Pre_finite_loss.Facts] (m : (ℓ : Loc Cert.FfnLossIdeal.nD Cert.FfnLossIdeal.τ Cert.FfnLossIdeal.sig) → Buf (Elt Ideal) ℓ) : Prop :=
  ∀ c : Dev Cert.FfnLossIdeal.nD,
    (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4))).1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4))).2.1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4))).2.2.1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4))).2.2.2.1 = (fun _ => 1#1)
    ∧ (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4))).2.2.2.2 = (fun _ => 1#1)

def Pre_FfnLossRefIdeal (m : (ℓ : Loc Cert.FfnLossRefIdeal.nD Cert.FfnLossRefIdeal.τ Cert.FfnLossRefIdeal.sig) → Buf (Elt Ideal) ℓ) : Prop :=
  True

def Pre_FfnLossRefIdeal_finite_loss [hPre_finite_loss : Cert.Pre_finite_loss.Facts] (m : (ℓ : Loc Cert.FfnLossRefIdeal.nD Cert.FfnLossRefIdeal.τ Cert.FfnLossRefIdeal.sig) → Buf (Elt Ideal) ℓ) : Prop :=
  ∀ c : Dev Cert.FfnLossRefIdeal.nD,
    (Cert.Pre_finite_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4))).1 = (fun _ => 1#1)
    ∧ (Cert.Pre_finite_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4))).2.1 = (fun _ => 1#1)
    ∧ (Cert.Pre_finite_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4))).2.2.1 = (fun _ => 1#1)
    ∧ (Cert.Pre_finite_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4))).2.2.2.1 = (fun _ => 1#1)
    ∧ (Cert.Pre_finite_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4))).2.2.2.2 = (fun _ => 1#1)

def Pre_GateNorm (m : (ℓ : Loc Cert.GateNorm.nD Cert.GateNorm.τ Cert.GateNorm.sig) → Buf (Elt Bits) ℓ) : Prop :=
  True

def Pre_GateNormIdeal (m : (ℓ : Loc Cert.GateNormIdeal.nD Cert.GateNormIdeal.τ Cert.GateNormIdeal.sig) → Buf (Elt Ideal) ℓ) : Prop :=
  True

def Pre_GateNormIdeal_finite_gate [hPre_finite_gate : Cert.Pre_finite_gate.Facts] (m : (ℓ : Loc Cert.GateNormIdeal.nD Cert.GateNormIdeal.τ Cert.GateNormIdeal.sig) → Buf (Elt Ideal) ℓ) : Prop :=
  ∀ c : Dev Cert.GateNormIdeal.nD,
    (Cert.Pre_finite_gate.fn (F := Ideal) (m ((c.tc : Thread Cert.GateNormIdeal.nD Cert.GateNormIdeal.τ).loc Cert.GateNormIdeal.main_arg0)) (m ((c.tc : Thread Cert.GateNormIdeal.nD Cert.GateNormIdeal.τ).loc Cert.GateNormIdeal.main_arg1)) (m ((c.tc : Thread Cert.GateNormIdeal.nD Cert.GateNormIdeal.τ).loc Cert.GateNormIdeal.main_arg2)) (m ((c.tc : Thread Cert.GateNormIdeal.nD Cert.GateNormIdeal.τ).loc Cert.GateNormIdeal.main_arg3)) (m ((c.tc : Thread Cert.GateNormIdeal.nD Cert.GateNormIdeal.τ).loc Cert.GateNormIdeal.main_arg4))).1 = (fun _ => 1#1)
    ∧ (Cert.Pre_finite_gate.fn (F := Ideal) (m ((c.tc : Thread Cert.GateNormIdeal.nD Cert.GateNormIdeal.τ).loc Cert.GateNormIdeal.main_arg0)) (m ((c.tc : Thread Cert.GateNormIdeal.nD Cert.GateNormIdeal.τ).loc Cert.GateNormIdeal.main_arg1)) (m ((c.tc : Thread Cert.GateNormIdeal.nD Cert.GateNormIdeal.τ).loc Cert.GateNormIdeal.main_arg2)) (m ((c.tc : Thread Cert.GateNormIdeal.nD Cert.GateNormIdeal.τ).loc Cert.GateNormIdeal.main_arg3)) (m ((c.tc : Thread Cert.GateNormIdeal.nD Cert.GateNormIdeal.τ).loc Cert.GateNormIdeal.main_arg4))).2.1 = (fun _ => 1#1)
    ∧ (Cert.Pre_finite_gate.fn (F := Ideal) (m ((c.tc : Thread Cert.GateNormIdeal.nD Cert.GateNormIdeal.τ).loc Cert.GateNormIdeal.main_arg0)) (m ((c.tc : Thread Cert.GateNormIdeal.nD Cert.GateNormIdeal.τ).loc Cert.GateNormIdeal.main_arg1)) (m ((c.tc : Thread Cert.GateNormIdeal.nD Cert.GateNormIdeal.τ).loc Cert.GateNormIdeal.main_arg2)) (m ((c.tc : Thread Cert.GateNormIdeal.nD Cert.GateNormIdeal.τ).loc Cert.GateNormIdeal.main_arg3)) (m ((c.tc : Thread Cert.GateNormIdeal.nD Cert.GateNormIdeal.τ).loc Cert.GateNormIdeal.main_arg4))).2.2.1 = (fun _ => 1#1)
    ∧ (Cert.Pre_finite_gate.fn (F := Ideal) (m ((c.tc : Thread Cert.GateNormIdeal.nD Cert.GateNormIdeal.τ).loc Cert.GateNormIdeal.main_arg0)) (m ((c.tc : Thread Cert.GateNormIdeal.nD Cert.GateNormIdeal.τ).loc Cert.GateNormIdeal.main_arg1)) (m ((c.tc : Thread Cert.GateNormIdeal.nD Cert.GateNormIdeal.τ).loc Cert.GateNormIdeal.main_arg2)) (m ((c.tc : Thread Cert.GateNormIdeal.nD Cert.GateNormIdeal.τ).loc Cert.GateNormIdeal.main_arg3)) (m ((c.tc : Thread Cert.GateNormIdeal.nD Cert.GateNormIdeal.τ).loc Cert.GateNormIdeal.main_arg4))).2.2.2.1 = (fun _ => 1#1)
    ∧ (Cert.Pre_finite_gate.fn (F := Ideal) (m ((c.tc : Thread Cert.GateNormIdeal.nD Cert.GateNormIdeal.τ).loc Cert.GateNormIdeal.main_arg0)) (m ((c.tc : Thread Cert.GateNormIdeal.nD Cert.GateNormIdeal.τ).loc Cert.GateNormIdeal.main_arg1)) (m ((c.tc : Thread Cert.GateNormIdeal.nD Cert.GateNormIdeal.τ).loc Cert.GateNormIdeal.main_arg2)) (m ((c.tc : Thread Cert.GateNormIdeal.nD Cert.GateNormIdeal.τ).loc Cert.GateNormIdeal.main_arg3)) (m ((c.tc : Thread Cert.GateNormIdeal.nD Cert.GateNormIdeal.τ).loc Cert.GateNormIdeal.main_arg4))).2.2.2.2 = (fun _ => 1#1)

def Pre_GateNormRefIdeal (m : (ℓ : Loc Cert.GateNormRefIdeal.nD Cert.GateNormRefIdeal.τ Cert.GateNormRefIdeal.sig) → Buf (Elt Ideal) ℓ) : Prop :=
  True

def Pre_GateNormRefIdeal_finite_gate [hPre_finite_gate : Cert.Pre_finite_gate.Facts] (m : (ℓ : Loc Cert.GateNormRefIdeal.nD Cert.GateNormRefIdeal.τ Cert.GateNormRefIdeal.sig) → Buf (Elt Ideal) ℓ) : Prop :=
  ∀ c : Dev Cert.GateNormRefIdeal.nD,
    (Cert.Pre_finite_gate.fn (F := Ideal) (m ((c.tc : Thread Cert.GateNormRefIdeal.nD Cert.GateNormRefIdeal.τ).loc Cert.GateNormRefIdeal.main_arg0)) (m ((c.tc : Thread Cert.GateNormRefIdeal.nD Cert.GateNormRefIdeal.τ).loc Cert.GateNormRefIdeal.main_arg1)) (m ((c.tc : Thread Cert.GateNormRefIdeal.nD Cert.GateNormRefIdeal.τ).loc Cert.GateNormRefIdeal.main_arg2)) (m ((c.tc : Thread Cert.GateNormRefIdeal.nD Cert.GateNormRefIdeal.τ).loc Cert.GateNormRefIdeal.main_arg3)) (m ((c.tc : Thread Cert.GateNormRefIdeal.nD Cert.GateNormRefIdeal.τ).loc Cert.GateNormRefIdeal.main_arg4))).1 = (fun _ => 1#1)
    ∧ (Cert.Pre_finite_gate.fn (F := Ideal) (m ((c.tc : Thread Cert.GateNormRefIdeal.nD Cert.GateNormRefIdeal.τ).loc Cert.GateNormRefIdeal.main_arg0)) (m ((c.tc : Thread Cert.GateNormRefIdeal.nD Cert.GateNormRefIdeal.τ).loc Cert.GateNormRefIdeal.main_arg1)) (m ((c.tc : Thread Cert.GateNormRefIdeal.nD Cert.GateNormRefIdeal.τ).loc Cert.GateNormRefIdeal.main_arg2)) (m ((c.tc : Thread Cert.GateNormRefIdeal.nD Cert.GateNormRefIdeal.τ).loc Cert.GateNormRefIdeal.main_arg3)) (m ((c.tc : Thread Cert.GateNormRefIdeal.nD Cert.GateNormRefIdeal.τ).loc Cert.GateNormRefIdeal.main_arg4))).2.1 = (fun _ => 1#1)
    ∧ (Cert.Pre_finite_gate.fn (F := Ideal) (m ((c.tc : Thread Cert.GateNormRefIdeal.nD Cert.GateNormRefIdeal.τ).loc Cert.GateNormRefIdeal.main_arg0)) (m ((c.tc : Thread Cert.GateNormRefIdeal.nD Cert.GateNormRefIdeal.τ).loc Cert.GateNormRefIdeal.main_arg1)) (m ((c.tc : Thread Cert.GateNormRefIdeal.nD Cert.GateNormRefIdeal.τ).loc Cert.GateNormRefIdeal.main_arg2)) (m ((c.tc : Thread Cert.GateNormRefIdeal.nD Cert.GateNormRefIdeal.τ).loc Cert.GateNormRefIdeal.main_arg3)) (m ((c.tc : Thread Cert.GateNormRefIdeal.nD Cert.GateNormRefIdeal.τ).loc Cert.GateNormRefIdeal.main_arg4))).2.2.1 = (fun _ => 1#1)
    ∧ (Cert.Pre_finite_gate.fn (F := Ideal) (m ((c.tc : Thread Cert.GateNormRefIdeal.nD Cert.GateNormRefIdeal.τ).loc Cert.GateNormRefIdeal.main_arg0)) (m ((c.tc : Thread Cert.GateNormRefIdeal.nD Cert.GateNormRefIdeal.τ).loc Cert.GateNormRefIdeal.main_arg1)) (m ((c.tc : Thread Cert.GateNormRefIdeal.nD Cert.GateNormRefIdeal.τ).loc Cert.GateNormRefIdeal.main_arg2)) (m ((c.tc : Thread Cert.GateNormRefIdeal.nD Cert.GateNormRefIdeal.τ).loc Cert.GateNormRefIdeal.main_arg3)) (m ((c.tc : Thread Cert.GateNormRefIdeal.nD Cert.GateNormRefIdeal.τ).loc Cert.GateNormRefIdeal.main_arg4))).2.2.2.1 = (fun _ => 1#1)
    ∧ (Cert.Pre_finite_gate.fn (F := Ideal) (m ((c.tc : Thread Cert.GateNormRefIdeal.nD Cert.GateNormRefIdeal.τ).loc Cert.GateNormRefIdeal.main_arg0)) (m ((c.tc : Thread Cert.GateNormRefIdeal.nD Cert.GateNormRefIdeal.τ).loc Cert.GateNormRefIdeal.main_arg1)) (m ((c.tc : Thread Cert.GateNormRefIdeal.nD Cert.GateNormRefIdeal.τ).loc Cert.GateNormRefIdeal.main_arg2)) (m ((c.tc : Thread Cert.GateNormRefIdeal.nD Cert.GateNormRefIdeal.τ).loc Cert.GateNormRefIdeal.main_arg3)) (m ((c.tc : Thread Cert.GateNormRefIdeal.nD Cert.GateNormRefIdeal.τ).loc Cert.GateNormRefIdeal.main_arg4))).2.2.2.2 = (fun _ => 1#1)

def Pre_MergeOut (m : (ℓ : Loc Cert.MergeOut.nD Cert.MergeOut.τ Cert.MergeOut.sig) → Buf (Elt Bits) ℓ) : Prop :=
  True

def Pre_MergeOutIdeal (m : (ℓ : Loc Cert.MergeOutIdeal.nD Cert.MergeOutIdeal.τ Cert.MergeOutIdeal.sig) → Buf (Elt Ideal) ℓ) : Prop :=
  True

def Pre_MergeOutRefIdeal (m : (ℓ : Loc Cert.MergeOutRefIdeal.nD Cert.MergeOutRefIdeal.τ Cert.MergeOutRefIdeal.sig) → Buf (Elt Ideal) ℓ) : Prop :=
  True

def Pre_GateOut (m : (ℓ : Loc Cert.GateOut.nD Cert.GateOut.τ Cert.GateOut.sig) → Buf (Elt Bits) ℓ) : Prop :=
  True

def Pre_GateOutIdeal (m : (ℓ : Loc Cert.GateOutIdeal.nD Cert.GateOutIdeal.τ Cert.GateOutIdeal.sig) → Buf (Elt Ideal) ℓ) : Prop :=
  True

def Pre_GateOutRefIdeal (m : (ℓ : Loc Cert.GateOutRefIdeal.nD Cert.GateOutRefIdeal.τ Cert.GateOutRefIdeal.sig) → Buf (Elt Ideal) ℓ) : Prop :=
  True

def Pre_XFwd (m : (ℓ : Loc Cert.XFwd.nD Cert.XFwd.τ Cert.XFwd.sig) → Buf (Elt Bits) ℓ) : Prop :=
  True

def Pre_XFwdIdeal (m : (ℓ : Loc Cert.XFwdIdeal.nD Cert.XFwdIdeal.τ Cert.XFwdIdeal.sig) → Buf (Elt Ideal) ℓ) : Prop :=
  True

def Pre_XFwdIdeal_finite_scores [hPre_finite_scores : Cert.Pre_finite_scores.Facts] (m : (ℓ : Loc Cert.XFwdIdeal.nD Cert.XFwdIdeal.τ Cert.XFwdIdeal.sig) → Buf (Elt Ideal) ℓ) : Prop :=
  ∀ c : Dev Cert.XFwdIdeal.nD,
    (Cert.Pre_finite_scores.fn (F := Ideal) (m ((c.tc : Thread Cert.XFwdIdeal.nD Cert.XFwdIdeal.τ).loc Cert.XFwdIdeal.main_arg0)) (m ((c.tc : Thread Cert.XFwdIdeal.nD Cert.XFwdIdeal.τ).loc Cert.XFwdIdeal.main_arg1))).1 = (fun _ => 1#1)
    ∧ (Cert.Pre_finite_scores.fn (F := Ideal) (m ((c.tc : Thread Cert.XFwdIdeal.nD Cert.XFwdIdeal.τ).loc Cert.XFwdIdeal.main_arg0)) (m ((c.tc : Thread Cert.XFwdIdeal.nD Cert.XFwdIdeal.τ).loc Cert.XFwdIdeal.main_arg1))).2 = (fun _ => 1#1)

def Pre_XFwdRefIdeal (m : (ℓ : Loc Cert.XFwdRefIdeal.nD Cert.XFwdRefIdeal.τ Cert.XFwdRefIdeal.sig) → Buf (Elt Ideal) ℓ) : Prop :=
  True

def Pre_XFwdRefIdeal_finite_scores [hPre_finite_scores : Cert.Pre_finite_scores.Facts] (m : (ℓ : Loc Cert.XFwdRefIdeal.nD Cert.XFwdRefIdeal.τ Cert.XFwdRefIdeal.sig) → Buf (Elt Ideal) ℓ) : Prop :=
  ∀ c : Dev Cert.XFwdRefIdeal.nD,
    (Cert.Pre_finite_scores.fn (F := Ideal) (m ((c.tc : Thread Cert.XFwdRefIdeal.nD Cert.XFwdRefIdeal.τ).loc Cert.XFwdRefIdeal.main_arg0)) (m ((c.tc : Thread Cert.XFwdRefIdeal.nD Cert.XFwdRefIdeal.τ).loc Cert.XFwdRefIdeal.main_arg1))).1 = (fun _ => 1#1)
    ∧ (Cert.Pre_finite_scores.fn (F := Ideal) (m ((c.tc : Thread Cert.XFwdRefIdeal.nD Cert.XFwdRefIdeal.τ).loc Cert.XFwdRefIdeal.main_arg0)) (m ((c.tc : Thread Cert.XFwdRefIdeal.nD Cert.XFwdRefIdeal.τ).loc Cert.XFwdRefIdeal.main_arg1))).2 = (fun _ => 1#1)

def Pre_CAFwd (m : (ℓ : Loc Cert.CAFwd.nD Cert.CAFwd.τ Cert.CAFwd.sig) → Buf (Elt Bits) ℓ) : Prop :=
  True

def Pre_CAFwdIdeal (m : (ℓ : Loc Cert.CAFwdIdeal.nD Cert.CAFwdIdeal.τ Cert.CAFwdIdeal.sig) → Buf (Elt Ideal) ℓ) : Prop :=
  True

def Pre_CAFwdRefIdeal (m : (ℓ : Loc Cert.CAFwdRefIdeal.nD Cert.CAFwdRefIdeal.τ Cert.CAFwdRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_RowNorm (m : (ℓ : Loc Cert.RowNorm.nD Cert.RowNorm.τ Cert.RowNorm.sig) → Buf (Elt Bits) ℓ) : Prop :=
  True

def Pre_RowNormIdeal (m : (ℓ : Loc Cert.RowNormIdeal.nD Cert.RowNormIdeal.τ Cert.RowNormIdeal.sig) → Buf (Elt Ideal) ℓ) : Prop :=
  True

def Pre_RowNormRefIdeal (m : (ℓ : Loc Cert.RowNormRefIdeal.nD Cert.RowNormRefIdeal.τ Cert.RowNormRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_DwKey (m : (ℓ : Loc Cert.DwKey.nD Cert.DwKey.τ Cert.DwKey.sig) → Buf (Elt Bits) ℓ) : Prop :=
  True

def Pre_DwKeyIdeal (m : (ℓ : Loc Cert.DwKeyIdeal.nD Cert.DwKeyIdeal.τ Cert.DwKeyIdeal.sig) → Buf (Elt Ideal) ℓ) : Prop :=
  True

def Pre_DwKeyRefIdeal (m : (ℓ : Loc Cert.DwKeyRefIdeal.nD Cert.DwKeyRefIdeal.τ Cert.DwKeyRefIdeal.sig) → Buf (Elt Ideal) ℓ) : Prop :=
  True

def Pre_DwVal (m : (ℓ : Loc Cert.DwVal.nD Cert.DwVal.τ Cert.DwVal.sig) → Buf (Elt Bits) ℓ) : Prop :=
  True

def Pre_DwValIdeal (m : (ℓ : Loc Cert.DwValIdeal.nD Cert.DwValIdeal.τ Cert.DwValIdeal.sig) → Buf (Elt Ideal) ℓ) : Prop :=
  True

def Pre_DwValRefIdeal (m : (ℓ : Loc Cert.DwValRefIdeal.nD Cert.DwValRefIdeal.τ Cert.DwValRefIdeal.sig) → Buf (Elt Ideal) ℓ) : Prop :=
  True

def Pre_InDt (m : (ℓ : Loc Cert.InDt.nD Cert.InDt.τ Cert.InDt.sig) → Buf (Elt Bits) ℓ) : Prop :=
  True

def Pre_InDtIdeal (m : (ℓ : Loc Cert.InDtIdeal.nD Cert.InDtIdeal.τ Cert.InDtIdeal.sig) → Buf (Elt Ideal) ℓ) : Prop :=
  True

def Pre_InDtRefIdeal (m : (ℓ : Loc Cert.InDtRefIdeal.nD Cert.InDtRefIdeal.τ Cert.InDtRefIdeal.sig) → Buf (Elt Ideal) ℓ) : Prop :=
  True

def Pre_DwDt (m : (ℓ : Loc Cert.DwDt.nD Cert.DwDt.τ Cert.DwDt.sig) → Buf (Elt Bits) ℓ) : Prop :=
  True

def Pre_DwDtIdeal (m : (ℓ : Loc Cert.DwDtIdeal.nD Cert.DwDtIdeal.τ Cert.DwDtIdeal.sig) → Buf (Elt Ideal) ℓ) : Prop :=
  True

def Pre_DwDtRefIdeal (m : (ℓ : Loc Cert.DwDtRefIdeal.nD Cert.DwDtRefIdeal.τ Cert.DwDtRefIdeal.sig) → Buf (Elt Ideal) ℓ) : Prop :=
  True

def Pre_DMn (m : (ℓ : Loc Cert.DMn.nD Cert.DMn.τ Cert.DMn.sig) → Buf (Elt Bits) ℓ) : Prop :=
  True

def Pre_DMnIdeal (m : (ℓ : Loc Cert.DMnIdeal.nD Cert.DMnIdeal.τ Cert.DMnIdeal.sig) → Buf (Elt Ideal) ℓ) : Prop :=
  True

def Pre_DMnIdeal_finite_mn [hPre_finite_mn : Cert.Pre_finite_mn.Facts] (m : (ℓ : Loc Cert.DMnIdeal.nD Cert.DMnIdeal.τ Cert.DMnIdeal.sig) → Buf (Elt Ideal) ℓ) : Prop :=
  ∀ c : Dev Cert.DMnIdeal.nD,
    (Cert.Pre_finite_mn.fn (F := Ideal) (m ((c.tc : Thread Cert.DMnIdeal.nD Cert.DMnIdeal.τ).loc Cert.DMnIdeal.main_arg0)) (m ((c.tc : Thread Cert.DMnIdeal.nD Cert.DMnIdeal.τ).loc Cert.DMnIdeal.main_arg1)) (m ((c.tc : Thread Cert.DMnIdeal.nD Cert.DMnIdeal.τ).loc Cert.DMnIdeal.main_arg2)) (m ((c.tc : Thread Cert.DMnIdeal.nD Cert.DMnIdeal.τ).loc Cert.DMnIdeal.main_arg3)) (m ((c.tc : Thread Cert.DMnIdeal.nD Cert.DMnIdeal.τ).loc Cert.DMnIdeal.main_arg4))).1 = (fun _ => 1#1)
    ∧ (Cert.Pre_finite_mn.fn (F := Ideal) (m ((c.tc : Thread Cert.DMnIdeal.nD Cert.DMnIdeal.τ).loc Cert.DMnIdeal.main_arg0)) (m ((c.tc : Thread Cert.DMnIdeal.nD Cert.DMnIdeal.τ).loc Cert.DMnIdeal.main_arg1)) (m ((c.tc : Thread Cert.DMnIdeal.nD Cert.DMnIdeal.τ).loc Cert.DMnIdeal.main_arg2)) (m ((c.tc : Thread Cert.DMnIdeal.nD Cert.DMnIdeal.τ).loc Cert.DMnIdeal.main_arg3)) (m ((c.tc : Thread Cert.DMnIdeal.nD Cert.DMnIdeal.τ).loc Cert.DMnIdeal.main_arg4))).2.1 = (fun _ => 1#1)
    ∧ (Cert.Pre_finite_mn.fn (F := Ideal) (m ((c.tc : Thread Cert.DMnIdeal.nD Cert.DMnIdeal.τ).loc Cert.DMnIdeal.main_arg0)) (m ((c.tc : Thread Cert.DMnIdeal.nD Cert.DMnIdeal.τ).loc Cert.DMnIdeal.main_arg1)) (m ((c.tc : Thread Cert.DMnIdeal.nD Cert.DMnIdeal.τ).loc Cert.DMnIdeal.main_arg2)) (m ((c.tc : Thread Cert.DMnIdeal.nD Cert.DMnIdeal.τ).loc Cert.DMnIdeal.main_arg3)) (m ((c.tc : Thread Cert.DMnIdeal.nD Cert.DMnIdeal.τ).loc Cert.DMnIdeal.main_arg4))).2.2.1 = (fun _ => 1#1)
    ∧ (Cert.Pre_finite_mn.fn (F := Ideal) (m ((c.tc : Thread Cert.DMnIdeal.nD Cert.DMnIdeal.τ).loc Cert.DMnIdeal.main_arg0)) (m ((c.tc : Thread Cert.DMnIdeal.nD Cert.DMnIdeal.τ).loc Cert.DMnIdeal.main_arg1)) (m ((c.tc : Thread Cert.DMnIdeal.nD Cert.DMnIdeal.τ).loc Cert.DMnIdeal.main_arg2)) (m ((c.tc : Thread Cert.DMnIdeal.nD Cert.DMnIdeal.τ).loc Cert.DMnIdeal.main_arg3)) (m ((c.tc : Thread Cert.DMnIdeal.nD Cert.DMnIdeal.τ).loc Cert.DMnIdeal.main_arg4))).2.2.2.1 = (fun _ => 1#1)
    ∧ (Cert.Pre_finite_mn.fn (F := Ideal) (m ((c.tc : Thread Cert.DMnIdeal.nD Cert.DMnIdeal.τ).loc Cert.DMnIdeal.main_arg0)) (m ((c.tc : Thread Cert.DMnIdeal.nD Cert.DMnIdeal.τ).loc Cert.DMnIdeal.main_arg1)) (m ((c.tc : Thread Cert.DMnIdeal.nD Cert.DMnIdeal.τ).loc Cert.DMnIdeal.main_arg2)) (m ((c.tc : Thread Cert.DMnIdeal.nD Cert.DMnIdeal.τ).loc Cert.DMnIdeal.main_arg3)) (m ((c.tc : Thread Cert.DMnIdeal.nD Cert.DMnIdeal.τ).loc Cert.DMnIdeal.main_arg4))).2.2.2.2 = (fun _ => 1#1)

def Pre_DMnRefIdeal (m : (ℓ : Loc Cert.DMnRefIdeal.nD Cert.DMnRefIdeal.τ Cert.DMnRefIdeal.sig) → Buf (Elt Ideal) ℓ) : Prop :=
  True

def Pre_DMnRefIdeal_finite_mn [hPre_finite_mn : Cert.Pre_finite_mn.Facts] (m : (ℓ : Loc Cert.DMnRefIdeal.nD Cert.DMnRefIdeal.τ Cert.DMnRefIdeal.sig) → Buf (Elt Ideal) ℓ) : Prop :=
  ∀ c : Dev Cert.DMnRefIdeal.nD,
    (Cert.Pre_finite_mn.fn (F := Ideal) (m ((c.tc : Thread Cert.DMnRefIdeal.nD Cert.DMnRefIdeal.τ).loc Cert.DMnRefIdeal.main_arg0)) (m ((c.tc : Thread Cert.DMnRefIdeal.nD Cert.DMnRefIdeal.τ).loc Cert.DMnRefIdeal.main_arg1)) (m ((c.tc : Thread Cert.DMnRefIdeal.nD Cert.DMnRefIdeal.τ).loc Cert.DMnRefIdeal.main_arg2)) (m ((c.tc : Thread Cert.DMnRefIdeal.nD Cert.DMnRefIdeal.τ).loc Cert.DMnRefIdeal.main_arg3)) (m ((c.tc : Thread Cert.DMnRefIdeal.nD Cert.DMnRefIdeal.τ).loc Cert.DMnRefIdeal.main_arg4))).1 = (fun _ => 1#1)
    ∧ (Cert.Pre_finite_mn.fn (F := Ideal) (m ((c.tc : Thread Cert.DMnRefIdeal.nD Cert.DMnRefIdeal.τ).loc Cert.DMnRefIdeal.main_arg0)) (m ((c.tc : Thread Cert.DMnRefIdeal.nD Cert.DMnRefIdeal.τ).loc Cert.DMnRefIdeal.main_arg1)) (m ((c.tc : Thread Cert.DMnRefIdeal.nD Cert.DMnRefIdeal.τ).loc Cert.DMnRefIdeal.main_arg2)) (m ((c.tc : Thread Cert.DMnRefIdeal.nD Cert.DMnRefIdeal.τ).loc Cert.DMnRefIdeal.main_arg3)) (m ((c.tc : Thread Cert.DMnRefIdeal.nD Cert.DMnRefIdeal.τ).loc Cert.DMnRefIdeal.main_arg4))).2.1 = (fun _ => 1#1)
    ∧ (Cert.Pre_finite_mn.fn (F := Ideal) (m ((c.tc : Thread Cert.DMnRefIdeal.nD Cert.DMnRefIdeal.τ).loc Cert.DMnRefIdeal.main_arg0)) (m ((c.tc : Thread Cert.DMnRefIdeal.nD Cert.DMnRefIdeal.τ).loc Cert.DMnRefIdeal.main_arg1)) (m ((c.tc : Thread Cert.DMnRefIdeal.nD Cert.DMnRefIdeal.τ).loc Cert.DMnRefIdeal.main_arg2)) (m ((c.tc : Thread Cert.DMnRefIdeal.nD Cert.DMnRefIdeal.τ).loc Cert.DMnRefIdeal.main_arg3)) (m ((c.tc : Thread Cert.DMnRefIdeal.nD Cert.DMnRefIdeal.τ).loc Cert.DMnRefIdeal.main_arg4))).2.2.1 = (fun _ => 1#1)
    ∧ (Cert.Pre_finite_mn.fn (F := Ideal) (m ((c.tc : Thread Cert.DMnRefIdeal.nD Cert.DMnRefIdeal.τ).loc Cert.DMnRefIdeal.main_arg0)) (m ((c.tc : Thread Cert.DMnRefIdeal.nD Cert.DMnRefIdeal.τ).loc Cert.DMnRefIdeal.main_arg1)) (m ((c.tc : Thread Cert.DMnRefIdeal.nD Cert.DMnRefIdeal.τ).loc Cert.DMnRefIdeal.main_arg2)) (m ((c.tc : Thread Cert.DMnRefIdeal.nD Cert.DMnRefIdeal.τ).loc Cert.DMnRefIdeal.main_arg3)) (m ((c.tc : Thread Cert.DMnRefIdeal.nD Cert.DMnRefIdeal.τ).loc Cert.DMnRefIdeal.main_arg4))).2.2.2.1 = (fun _ => 1#1)
    ∧ (Cert.Pre_finite_mn.fn (F := Ideal) (m ((c.tc : Thread Cert.DMnRefIdeal.nD Cert.DMnRefIdeal.τ).loc Cert.DMnRefIdeal.main_arg0)) (m ((c.tc : Thread Cert.DMnRefIdeal.nD Cert.DMnRefIdeal.τ).loc Cert.DMnRefIdeal.main_arg1)) (m ((c.tc : Thread Cert.DMnRefIdeal.nD Cert.DMnRefIdeal.τ).loc Cert.DMnRefIdeal.main_arg2)) (m ((c.tc : Thread Cert.DMnRefIdeal.nD Cert.DMnRefIdeal.τ).loc Cert.DMnRefIdeal.main_arg3)) (m ((c.tc : Thread Cert.DMnRefIdeal.nD Cert.DMnRefIdeal.τ).loc Cert.DMnRefIdeal.main_arg4))).2.2.2.2 = (fun _ => 1#1)

def Pre_DUDt (m : (ℓ : Loc Cert.DUDt.nD Cert.DUDt.τ Cert.DUDt.sig) → Buf (Elt Bits) ℓ) : Prop :=
  True

def Pre_DUDtIdeal (m : (ℓ : Loc Cert.DUDtIdeal.nD Cert.DUDtIdeal.τ Cert.DUDtIdeal.sig) → Buf (Elt Ideal) ℓ) : Prop :=
  True

def Pre_DUDtIdeal_finite_dt [hPre_finite_dt : Cert.Pre_finite_dt.Facts] (m : (ℓ : Loc Cert.DUDtIdeal.nD Cert.DUDtIdeal.τ Cert.DUDtIdeal.sig) → Buf (Elt Ideal) ℓ) : Prop :=
  ∀ c : Dev Cert.DUDtIdeal.nD,
    (Cert.Pre_finite_dt.fn (F := Ideal) (m ((c.tc : Thread Cert.DUDtIdeal.nD Cert.DUDtIdeal.τ).loc Cert.DUDtIdeal.main_arg0)) (m ((c.tc : Thread Cert.DUDtIdeal.nD Cert.DUDtIdeal.τ).loc Cert.DUDtIdeal.main_arg1)) (m ((c.tc : Thread Cert.DUDtIdeal.nD Cert.DUDtIdeal.τ).loc Cert.DUDtIdeal.main_arg2)) (m ((c.tc : Thread Cert.DUDtIdeal.nD Cert.DUDtIdeal.τ).loc Cert.DUDtIdeal.main_arg3)) (m ((c.tc : Thread Cert.DUDtIdeal.nD Cert.DUDtIdeal.τ).loc Cert.DUDtIdeal.main_arg4)) (m ((c.tc : Thread Cert.DUDtIdeal.nD Cert.DUDtIdeal.τ).loc Cert.DUDtIdeal.main_arg5))).1 = (fun _ => 1#1)
    ∧ (Cert.Pre_finite_dt.fn (F := Ideal) (m ((c.tc : Thread Cert.DUDtIdeal.nD Cert.DUDtIdeal.τ).loc Cert.DUDtIdeal.main_arg0)) (m ((c.tc : Thread Cert.DUDtIdeal.nD Cert.DUDtIdeal.τ).loc Cert.DUDtIdeal.main_arg1)) (m ((c.tc : Thread Cert.DUDtIdeal.nD Cert.DUDtIdeal.τ).loc Cert.DUDtIdeal.main_arg2)) (m ((c.tc : Thread Cert.DUDtIdeal.nD Cert.DUDtIdeal.τ).loc Cert.DUDtIdeal.main_arg3)) (m ((c.tc : Thread Cert.DUDtIdeal.nD Cert.DUDtIdeal.τ).loc Cert.DUDtIdeal.main_arg4)) (m ((c.tc : Thread Cert.DUDtIdeal.nD Cert.DUDtIdeal.τ).loc Cert.DUDtIdeal.main_arg5))).2.1 = (fun _ => 1#1)
    ∧ (Cert.Pre_finite_dt.fn (F := Ideal) (m ((c.tc : Thread Cert.DUDtIdeal.nD Cert.DUDtIdeal.τ).loc Cert.DUDtIdeal.main_arg0)) (m ((c.tc : Thread Cert.DUDtIdeal.nD Cert.DUDtIdeal.τ).loc Cert.DUDtIdeal.main_arg1)) (m ((c.tc : Thread Cert.DUDtIdeal.nD Cert.DUDtIdeal.τ).loc Cert.DUDtIdeal.main_arg2)) (m ((c.tc : Thread Cert.DUDtIdeal.nD Cert.DUDtIdeal.τ).loc Cert.DUDtIdeal.main_arg3)) (m ((c.tc : Thread Cert.DUDtIdeal.nD Cert.DUDtIdeal.τ).loc Cert.DUDtIdeal.main_arg4)) (m ((c.tc : Thread Cert.DUDtIdeal.nD Cert.DUDtIdeal.τ).loc Cert.DUDtIdeal.main_arg5))).2.2.1 = (fun _ => 1#1)
    ∧ (Cert.Pre_finite_dt.fn (F := Ideal) (m ((c.tc : Thread Cert.DUDtIdeal.nD Cert.DUDtIdeal.τ).loc Cert.DUDtIdeal.main_arg0)) (m ((c.tc : Thread Cert.DUDtIdeal.nD Cert.DUDtIdeal.τ).loc Cert.DUDtIdeal.main_arg1)) (m ((c.tc : Thread Cert.DUDtIdeal.nD Cert.DUDtIdeal.τ).loc Cert.DUDtIdeal.main_arg2)) (m ((c.tc : Thread Cert.DUDtIdeal.nD Cert.DUDtIdeal.τ).loc Cert.DUDtIdeal.main_arg3)) (m ((c.tc : Thread Cert.DUDtIdeal.nD Cert.DUDtIdeal.τ).loc Cert.DUDtIdeal.main_arg4)) (m ((c.tc : Thread Cert.DUDtIdeal.nD Cert.DUDtIdeal.τ).loc Cert.DUDtIdeal.main_arg5))).2.2.2.1 = (fun _ => 1#1)
    ∧ (Cert.Pre_finite_dt.fn (F := Ideal) (m ((c.tc : Thread Cert.DUDtIdeal.nD Cert.DUDtIdeal.τ).loc Cert.DUDtIdeal.main_arg0)) (m ((c.tc : Thread Cert.DUDtIdeal.nD Cert.DUDtIdeal.τ).loc Cert.DUDtIdeal.main_arg1)) (m ((c.tc : Thread Cert.DUDtIdeal.nD Cert.DUDtIdeal.τ).loc Cert.DUDtIdeal.main_arg2)) (m ((c.tc : Thread Cert.DUDtIdeal.nD Cert.DUDtIdeal.τ).loc Cert.DUDtIdeal.main_arg3)) (m ((c.tc : Thread Cert.DUDtIdeal.nD Cert.DUDtIdeal.τ).loc Cert.DUDtIdeal.main_arg4)) (m ((c.tc : Thread Cert.DUDtIdeal.nD Cert.DUDtIdeal.τ).loc Cert.DUDtIdeal.main_arg5))).2.2.2.2 = (fun _ => 1#1)

def Pre_DUDtRefIdeal (m : (ℓ : Loc Cert.DUDtRefIdeal.nD Cert.DUDtRefIdeal.τ Cert.DUDtRefIdeal.sig) → Buf (Elt Ideal) ℓ) : Prop :=
  True

def Pre_DUDtRefIdeal_finite_dt [hPre_finite_dt : Cert.Pre_finite_dt.Facts] (m : (ℓ : Loc Cert.DUDtRefIdeal.nD Cert.DUDtRefIdeal.τ Cert.DUDtRefIdeal.sig) → Buf (Elt Ideal) ℓ) : Prop :=
  ∀ c : Dev Cert.DUDtRefIdeal.nD,
    (Cert.Pre_finite_dt.fn (F := Ideal) (m ((c.tc : Thread Cert.DUDtRefIdeal.nD Cert.DUDtRefIdeal.τ).loc Cert.DUDtRefIdeal.main_arg0)) (m ((c.tc : Thread Cert.DUDtRefIdeal.nD Cert.DUDtRefIdeal.τ).loc Cert.DUDtRefIdeal.main_arg1)) (m ((c.tc : Thread Cert.DUDtRefIdeal.nD Cert.DUDtRefIdeal.τ).loc Cert.DUDtRefIdeal.main_arg2)) (m ((c.tc : Thread Cert.DUDtRefIdeal.nD Cert.DUDtRefIdeal.τ).loc Cert.DUDtRefIdeal.main_arg3)) (m ((c.tc : Thread Cert.DUDtRefIdeal.nD Cert.DUDtRefIdeal.τ).loc Cert.DUDtRefIdeal.main_arg4)) (m ((c.tc : Thread Cert.DUDtRefIdeal.nD Cert.DUDtRefIdeal.τ).loc Cert.DUDtRefIdeal.main_arg5))).1 = (fun _ => 1#1)
    ∧ (Cert.Pre_finite_dt.fn (F := Ideal) (m ((c.tc : Thread Cert.DUDtRefIdeal.nD Cert.DUDtRefIdeal.τ).loc Cert.DUDtRefIdeal.main_arg0)) (m ((c.tc : Thread Cert.DUDtRefIdeal.nD Cert.DUDtRefIdeal.τ).loc Cert.DUDtRefIdeal.main_arg1)) (m ((c.tc : Thread Cert.DUDtRefIdeal.nD Cert.DUDtRefIdeal.τ).loc Cert.DUDtRefIdeal.main_arg2)) (m ((c.tc : Thread Cert.DUDtRefIdeal.nD Cert.DUDtRefIdeal.τ).loc Cert.DUDtRefIdeal.main_arg3)) (m ((c.tc : Thread Cert.DUDtRefIdeal.nD Cert.DUDtRefIdeal.τ).loc Cert.DUDtRefIdeal.main_arg4)) (m ((c.tc : Thread Cert.DUDtRefIdeal.nD Cert.DUDtRefIdeal.τ).loc Cert.DUDtRefIdeal.main_arg5))).2.1 = (fun _ => 1#1)
    ∧ (Cert.Pre_finite_dt.fn (F := Ideal) (m ((c.tc : Thread Cert.DUDtRefIdeal.nD Cert.DUDtRefIdeal.τ).loc Cert.DUDtRefIdeal.main_arg0)) (m ((c.tc : Thread Cert.DUDtRefIdeal.nD Cert.DUDtRefIdeal.τ).loc Cert.DUDtRefIdeal.main_arg1)) (m ((c.tc : Thread Cert.DUDtRefIdeal.nD Cert.DUDtRefIdeal.τ).loc Cert.DUDtRefIdeal.main_arg2)) (m ((c.tc : Thread Cert.DUDtRefIdeal.nD Cert.DUDtRefIdeal.τ).loc Cert.DUDtRefIdeal.main_arg3)) (m ((c.tc : Thread Cert.DUDtRefIdeal.nD Cert.DUDtRefIdeal.τ).loc Cert.DUDtRefIdeal.main_arg4)) (m ((c.tc : Thread Cert.DUDtRefIdeal.nD Cert.DUDtRefIdeal.τ).loc Cert.DUDtRefIdeal.main_arg5))).2.2.1 = (fun _ => 1#1)
    ∧ (Cert.Pre_finite_dt.fn (F := Ideal) (m ((c.tc : Thread Cert.DUDtRefIdeal.nD Cert.DUDtRefIdeal.τ).loc Cert.DUDtRefIdeal.main_arg0)) (m ((c.tc : Thread Cert.DUDtRefIdeal.nD Cert.DUDtRefIdeal.τ).loc Cert.DUDtRefIdeal.main_arg1)) (m ((c.tc : Thread Cert.DUDtRefIdeal.nD Cert.DUDtRefIdeal.τ).loc Cert.DUDtRefIdeal.main_arg2)) (m ((c.tc : Thread Cert.DUDtRefIdeal.nD Cert.DUDtRefIdeal.τ).loc Cert.DUDtRefIdeal.main_arg3)) (m ((c.tc : Thread Cert.DUDtRefIdeal.nD Cert.DUDtRefIdeal.τ).loc Cert.DUDtRefIdeal.main_arg4)) (m ((c.tc : Thread Cert.DUDtRefIdeal.nD Cert.DUDtRefIdeal.τ).loc Cert.DUDtRefIdeal.main_arg5))).2.2.2.1 = (fun _ => 1#1)
    ∧ (Cert.Pre_finite_dt.fn (F := Ideal) (m ((c.tc : Thread Cert.DUDtRefIdeal.nD Cert.DUDtRefIdeal.τ).loc Cert.DUDtRefIdeal.main_arg0)) (m ((c.tc : Thread Cert.DUDtRefIdeal.nD Cert.DUDtRefIdeal.τ).loc Cert.DUDtRefIdeal.main_arg1)) (m ((c.tc : Thread Cert.DUDtRefIdeal.nD Cert.DUDtRefIdeal.τ).loc Cert.DUDtRefIdeal.main_arg2)) (m ((c.tc : Thread Cert.DUDtRefIdeal.nD Cert.DUDtRefIdeal.τ).loc Cert.DUDtRefIdeal.main_arg3)) (m ((c.tc : Thread Cert.DUDtRefIdeal.nD Cert.DUDtRefIdeal.τ).loc Cert.DUDtRefIdeal.main_arg4)) (m ((c.tc : Thread Cert.DUDtRefIdeal.nD Cert.DUDtRefIdeal.τ).loc Cert.DUDtRefIdeal.main_arg5))).2.2.2.2 = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_ConvA [hConvA : Cert.ConvA.Facts] : Prop :=
  ∀ (m : (ℓ : Loc Cert.ConvA.nD Cert.ConvA.τ Cert.ConvA.sig) → Buf (Elt Bits) ℓ) (g : Dev Cert.ConvA.nD → PrngReg), Pre_ConvA m →
    θ_run (Cert.ConvA.defs (F := Bits)) (onTc (τ := Cert.ConvA.τ) (Cert.ConvA.main (F := Bits))) ⟨m, fun _ => 0, g⟩ (fun r => (∀ c : Dev Cert.ConvA.nD,
      r.2.mem ((c.tc : Thread Cert.ConvA.nD Cert.ConvA.τ).loc Cert.ConvA.main_arg0) = m ((c.tc : Thread Cert.ConvA.nD Cert.ConvA.τ).loc Cert.ConvA.main_arg0)
      ∧ r.2.mem ((c.tc : Thread Cert.ConvA.nD Cert.ConvA.τ).loc Cert.ConvA.main_arg1) = m ((c.tc : Thread Cert.ConvA.nD Cert.ConvA.τ).loc Cert.ConvA.main_arg1)
      ∧ r.2.mem ((c.tc : Thread Cert.ConvA.nD Cert.ConvA.τ).loc Cert.ConvA.main_arg2) = m ((c.tc : Thread Cert.ConvA.nD Cert.ConvA.τ).loc Cert.ConvA.main_arg2)
      ∧ r.2.mem ((c.tc : Thread Cert.ConvA.nD Cert.ConvA.τ).loc Cert.ConvA.main_arg3) = m ((c.tc : Thread Cert.ConvA.nD Cert.ConvA.τ).loc Cert.ConvA.main_arg3))
      ∧ r.2.sem = fun _ => 0)

def quiescent_ConvAIdeal [hConvAIdeal : Cert.ConvAIdeal.Facts] : Prop :=
  ∀ (m : (ℓ : Loc Cert.ConvAIdeal.nD Cert.ConvAIdeal.τ Cert.ConvAIdeal.sig) → Buf (Elt Ideal) ℓ) (g : Dev Cert.ConvAIdeal.nD → PrngReg), Pre_ConvAIdeal m →
    θ_run (Cert.ConvAIdeal.defs (F := Ideal)) (onTc (τ := Cert.ConvAIdeal.τ) (Cert.ConvAIdeal.main (F := Ideal))) ⟨m, fun _ => 0, g⟩ (fun r => (∀ c : Dev Cert.ConvAIdeal.nD,
      r.2.mem ((c.tc : Thread Cert.ConvAIdeal.nD Cert.ConvAIdeal.τ).loc Cert.ConvAIdeal.main_arg0) = m ((c.tc : Thread Cert.ConvAIdeal.nD Cert.ConvAIdeal.τ).loc Cert.ConvAIdeal.main_arg0)
      ∧ r.2.mem ((c.tc : Thread Cert.ConvAIdeal.nD Cert.ConvAIdeal.τ).loc Cert.ConvAIdeal.main_arg1) = m ((c.tc : Thread Cert.ConvAIdeal.nD Cert.ConvAIdeal.τ).loc Cert.ConvAIdeal.main_arg1)
      ∧ r.2.mem ((c.tc : Thread Cert.ConvAIdeal.nD Cert.ConvAIdeal.τ).loc Cert.ConvAIdeal.main_arg2) = m ((c.tc : Thread Cert.ConvAIdeal.nD Cert.ConvAIdeal.τ).loc Cert.ConvAIdeal.main_arg2)
      ∧ r.2.mem ((c.tc : Thread Cert.ConvAIdeal.nD Cert.ConvAIdeal.τ).loc Cert.ConvAIdeal.main_arg3) = m ((c.tc : Thread Cert.ConvAIdeal.nD Cert.ConvAIdeal.τ).loc Cert.ConvAIdeal.main_arg3))
      ∧ r.2.sem = fun _ => 0)

def quiescent_ConvARefIdeal [hConvARefIdeal : Cert.ConvARefIdeal.Facts] : Prop :=
  ∀ (m : (ℓ : Loc Cert.ConvARefIdeal.nD Cert.ConvARefIdeal.τ Cert.ConvARefIdeal.sig) → Buf (Elt Ideal) ℓ) (g : Dev Cert.ConvARefIdeal.nD → PrngReg), Pre_ConvARefIdeal m →
    θ_run (Cert.ConvARefIdeal.defs (F := Ideal)) (onTc (τ := Cert.ConvARefIdeal.τ) (Cert.ConvARefIdeal.main (F := Ideal))) ⟨m, fun _ => 0, g⟩ (fun r => (∀ c : Dev Cert.ConvARefIdeal.nD,
      r.2.mem ((c.tc : Thread Cert.ConvARefIdeal.nD Cert.ConvARefIdeal.τ).loc Cert.ConvARefIdeal.main_arg0) = m ((c.tc : Thread Cert.ConvARefIdeal.nD Cert.ConvARefIdeal.τ).loc Cert.ConvARefIdeal.main_arg0)
      ∧ r.2.mem ((c.tc : Thread Cert.ConvARefIdeal.nD Cert.ConvARefIdeal.τ).loc Cert.ConvARefIdeal.main_arg1) = m ((c.tc : Thread Cert.ConvARefIdeal.nD Cert.ConvARefIdeal.τ).loc Cert.ConvARefIdeal.main_arg1)
      ∧ r.2.mem ((c.tc : Thread Cert.ConvARefIdeal.nD Cert.ConvARefIdeal.τ).loc Cert.ConvARefIdeal.main_arg2) = m ((c.tc : Thread Cert.ConvARefIdeal.nD Cert.ConvARefIdeal.τ).loc Cert.ConvARefIdeal.main_arg2)
      ∧ r.2.mem ((c.tc : Thread Cert.ConvARefIdeal.nD Cert.ConvARefIdeal.τ).loc Cert.ConvARefIdeal.main_arg3) = m ((c.tc : Thread Cert.ConvARefIdeal.nD Cert.ConvARefIdeal.τ).loc Cert.ConvARefIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_InDwCx [hInDwCx : Cert.InDwCx.Facts] : Prop :=
  ∀ (m : (ℓ : Loc Cert.InDwCx.nD Cert.InDwCx.τ Cert.InDwCx.sig) → Buf (Elt Bits) ℓ) (g : Dev Cert.InDwCx.nD → PrngReg), Pre_InDwCx m →
    θ_run (Cert.InDwCx.defs (F := Bits)) (onTc (τ := Cert.InDwCx.τ) (Cert.InDwCx.main (F := Bits))) ⟨m, fun _ => 0, g⟩ (fun r => (∀ c : Dev Cert.InDwCx.nD,
      r.2.mem ((c.tc : Thread Cert.InDwCx.nD Cert.InDwCx.τ).loc Cert.InDwCx.main_arg0) = m ((c.tc : Thread Cert.InDwCx.nD Cert.InDwCx.τ).loc Cert.InDwCx.main_arg0)
      ∧ r.2.mem ((c.tc : Thread Cert.InDwCx.nD Cert.InDwCx.τ).loc Cert.InDwCx.main_arg1) = m ((c.tc : Thread Cert.InDwCx.nD Cert.InDwCx.τ).loc Cert.InDwCx.main_arg1))
      ∧ r.2.sem = fun _ => 0)

def quiescent_InDwCxIdeal [hInDwCxIdeal : Cert.InDwCxIdeal.Facts] : Prop :=
  ∀ (m : (ℓ : Loc Cert.InDwCxIdeal.nD Cert.InDwCxIdeal.τ Cert.InDwCxIdeal.sig) → Buf (Elt Ideal) ℓ) (g : Dev Cert.InDwCxIdeal.nD → PrngReg), Pre_InDwCxIdeal m →
    θ_run (Cert.InDwCxIdeal.defs (F := Ideal)) (onTc (τ := Cert.InDwCxIdeal.τ) (Cert.InDwCxIdeal.main (F := Ideal))) ⟨m, fun _ => 0, g⟩ (fun r => (∀ c : Dev Cert.InDwCxIdeal.nD,
      r.2.mem ((c.tc : Thread Cert.InDwCxIdeal.nD Cert.InDwCxIdeal.τ).loc Cert.InDwCxIdeal.main_arg0) = m ((c.tc : Thread Cert.InDwCxIdeal.nD Cert.InDwCxIdeal.τ).loc Cert.InDwCxIdeal.main_arg0)
      ∧ r.2.mem ((c.tc : Thread Cert.InDwCxIdeal.nD Cert.InDwCxIdeal.τ).loc Cert.InDwCxIdeal.main_arg1) = m ((c.tc : Thread Cert.InDwCxIdeal.nD Cert.InDwCxIdeal.τ).loc Cert.InDwCxIdeal.main_arg1))
      ∧ r.2.sem = fun _ => 0)

def quiescent_InDwCxRefIdeal [hInDwCxRefIdeal : Cert.InDwCxRefIdeal.Facts] : Prop :=
  ∀ (m : (ℓ : Loc Cert.InDwCxRefIdeal.nD Cert.InDwCxRefIdeal.τ Cert.InDwCxRefIdeal.sig) → Buf (Elt Ideal) ℓ) (g : Dev Cert.InDwCxRefIdeal.nD → PrngReg), Pre_InDwCxRefIdeal m →
    θ_run (Cert.InDwCxRefIdeal.defs (F := Ideal)) (onTc (τ := Cert.InDwCxRefIdeal.τ) (Cert.InDwCxRefIdeal.main (F := Ideal))) ⟨m, fun _ => 0, g⟩ (fun r => (∀ c : Dev Cert.InDwCxRefIdeal.nD,
      r.2.mem ((c.tc : Thread Cert.InDwCxRefIdeal.nD Cert.InDwCxRefIdeal.τ).loc Cert.InDwCxRefIdeal.main_arg0) = m ((c.tc : Thread Cert.InDwCxRefIdeal.nD Cert.InDwCxRefIdeal.τ).loc Cert.InDwCxRefIdeal.main_arg0)
      ∧ r.2.mem ((c.tc : Thread Cert.InDwCxRefIdeal.nD Cert.InDwCxRefIdeal.τ).loc Cert.InDwCxRefIdeal.main_arg1) = m ((c.tc : Thread Cert.InDwCxRefIdeal.nD Cert.InDwCxRefIdeal.τ).loc Cert.InDwCxRefIdeal.main_arg1))
      ∧ r.2.sem = fun _ => 0)

def quiescent_InDwZ [hInDwZ : Cert.InDwZ.Facts] : Prop :=
  ∀ (m : (ℓ : Loc Cert.InDwZ.nD Cert.InDwZ.τ Cert.InDwZ.sig) → Buf (Elt Bits) ℓ) (g : Dev Cert.InDwZ.nD → PrngReg), Pre_InDwZ m →
    θ_run (Cert.InDwZ.defs (F := Bits)) (onTc (τ := Cert.InDwZ.τ) (Cert.InDwZ.main (F := Bits))) ⟨m, fun _ => 0, g⟩ (fun r => (∀ c : Dev Cert.InDwZ.nD,
      r.2.mem ((c.tc : Thread Cert.InDwZ.nD Cert.InDwZ.τ).loc Cert.InDwZ.main_arg0) = m ((c.tc : Thread Cert.InDwZ.nD Cert.InDwZ.τ).loc Cert.InDwZ.main_arg0)
      ∧ r.2.mem ((c.tc : Thread Cert.InDwZ.nD Cert.InDwZ.τ).loc Cert.InDwZ.main_arg1) = m ((c.tc : Thread Cert.InDwZ.nD Cert.InDwZ.τ).loc Cert.InDwZ.main_arg1))
      ∧ r.2.sem = fun _ => 0)

def quiescent_InDwZIdeal [hInDwZIdeal : Cert.InDwZIdeal.Facts] : Prop :=
  ∀ (m : (ℓ : Loc Cert.InDwZIdeal.nD Cert.InDwZIdeal.τ Cert.InDwZIdeal.sig) → Buf (Elt Ideal) ℓ) (g : Dev Cert.InDwZIdeal.nD → PrngReg), Pre_InDwZIdeal m →
    θ_run (Cert.InDwZIdeal.defs (F := Ideal)) (onTc (τ := Cert.InDwZIdeal.τ) (Cert.InDwZIdeal.main (F := Ideal))) ⟨m, fun _ => 0, g⟩ (fun r => (∀ c : Dev Cert.InDwZIdeal.nD,
      r.2.mem ((c.tc : Thread Cert.InDwZIdeal.nD Cert.InDwZIdeal.τ).loc Cert.InDwZIdeal.main_arg0) = m ((c.tc : Thread Cert.InDwZIdeal.nD Cert.InDwZIdeal.τ).loc Cert.InDwZIdeal.main_arg0)
      ∧ r.2.mem ((c.tc : Thread Cert.InDwZIdeal.nD Cert.InDwZIdeal.τ).loc Cert.InDwZIdeal.main_arg1) = m ((c.tc : Thread Cert.InDwZIdeal.nD Cert.InDwZIdeal.τ).loc Cert.InDwZIdeal.main_arg1))
      ∧ r.2.sem = fun _ => 0)

def quiescent_InDwZRefIdeal [hInDwZRefIdeal : Cert.InDwZRefIdeal.Facts] : Prop :=
  ∀ (m : (ℓ : Loc Cert.InDwZRefIdeal.nD Cert.InDwZRefIdeal.τ Cert.InDwZRefIdeal.sig) → Buf (Elt Ideal) ℓ) (g : Dev Cert.InDwZRefIdeal.nD → PrngReg), Pre_InDwZRefIdeal m →
    θ_run (Cert.InDwZRefIdeal.defs (F := Ideal)) (onTc (τ := Cert.InDwZRefIdeal.τ) (Cert.InDwZRefIdeal.main (F := Ideal))) ⟨m, fun _ => 0, g⟩ (fun r => (∀ c : Dev Cert.InDwZRefIdeal.nD,
      r.2.mem ((c.tc : Thread Cert.InDwZRefIdeal.nD Cert.InDwZRefIdeal.τ).loc Cert.InDwZRefIdeal.main_arg0) = m ((c.tc : Thread Cert.InDwZRefIdeal.nD Cert.InDwZRefIdeal.τ).loc Cert.InDwZRefIdeal.main_arg0)
      ∧ r.2.mem ((c.tc : Thread Cert.InDwZRefIdeal.nD Cert.InDwZRefIdeal.τ).loc Cert.InDwZRefIdeal.main_arg1) = m ((c.tc : Thread Cert.InDwZRefIdeal.nD Cert.InDwZRefIdeal.τ).loc Cert.InDwZRefIdeal.main_arg1))
      ∧ r.2.sem = fun _ => 0)

def quiescent_InDu [hInDu : Cert.InDu.Facts] : Prop :=
  ∀ (m : (ℓ : Loc Cert.InDu.nD Cert.InDu.τ Cert.InDu.sig) → Buf (Elt Bits) ℓ) (g : Dev Cert.InDu.nD → PrngReg), Pre_InDu m →
    θ_run (Cert.InDu.defs (F := Bits)) (onTc (τ := Cert.InDu.τ) (Cert.InDu.main (F := Bits))) ⟨m, fun _ => 0, g⟩ (fun r => (∀ c : Dev Cert.InDu.nD,
      r.2.mem ((c.tc : Thread Cert.InDu.nD Cert.InDu.τ).loc Cert.InDu.main_arg0) = m ((c.tc : Thread Cert.InDu.nD Cert.InDu.τ).loc Cert.InDu.main_arg0)
      ∧ r.2.mem ((c.tc : Thread Cert.InDu.nD Cert.InDu.τ).loc Cert.InDu.main_arg1) = m ((c.tc : Thread Cert.InDu.nD Cert.InDu.τ).loc Cert.InDu.main_arg1)
      ∧ r.2.mem ((c.tc : Thread Cert.InDu.nD Cert.InDu.τ).loc Cert.InDu.main_arg2) = m ((c.tc : Thread Cert.InDu.nD Cert.InDu.τ).loc Cert.InDu.main_arg2)
      ∧ r.2.mem ((c.tc : Thread Cert.InDu.nD Cert.InDu.τ).loc Cert.InDu.main_arg3) = m ((c.tc : Thread Cert.InDu.nD Cert.InDu.τ).loc Cert.InDu.main_arg3))
      ∧ r.2.sem = fun _ => 0)

def quiescent_InDuIdeal [hInDuIdeal : Cert.InDuIdeal.Facts] : Prop :=
  ∀ (m : (ℓ : Loc Cert.InDuIdeal.nD Cert.InDuIdeal.τ Cert.InDuIdeal.sig) → Buf (Elt Ideal) ℓ) (g : Dev Cert.InDuIdeal.nD → PrngReg), Pre_InDuIdeal m →
    θ_run (Cert.InDuIdeal.defs (F := Ideal)) (onTc (τ := Cert.InDuIdeal.τ) (Cert.InDuIdeal.main (F := Ideal))) ⟨m, fun _ => 0, g⟩ (fun r => (∀ c : Dev Cert.InDuIdeal.nD,
      r.2.mem ((c.tc : Thread Cert.InDuIdeal.nD Cert.InDuIdeal.τ).loc Cert.InDuIdeal.main_arg0) = m ((c.tc : Thread Cert.InDuIdeal.nD Cert.InDuIdeal.τ).loc Cert.InDuIdeal.main_arg0)
      ∧ r.2.mem ((c.tc : Thread Cert.InDuIdeal.nD Cert.InDuIdeal.τ).loc Cert.InDuIdeal.main_arg1) = m ((c.tc : Thread Cert.InDuIdeal.nD Cert.InDuIdeal.τ).loc Cert.InDuIdeal.main_arg1)
      ∧ r.2.mem ((c.tc : Thread Cert.InDuIdeal.nD Cert.InDuIdeal.τ).loc Cert.InDuIdeal.main_arg2) = m ((c.tc : Thread Cert.InDuIdeal.nD Cert.InDuIdeal.τ).loc Cert.InDuIdeal.main_arg2)
      ∧ r.2.mem ((c.tc : Thread Cert.InDuIdeal.nD Cert.InDuIdeal.τ).loc Cert.InDuIdeal.main_arg3) = m ((c.tc : Thread Cert.InDuIdeal.nD Cert.InDuIdeal.τ).loc Cert.InDuIdeal.main_arg3))
      ∧ r.2.sem = fun _ => 0)

def quiescent_InDuRefIdeal [hInDuRefIdeal : Cert.InDuRefIdeal.Facts] : Prop :=
  ∀ (m : (ℓ : Loc Cert.InDuRefIdeal.nD Cert.InDuRefIdeal.τ Cert.InDuRefIdeal.sig) → Buf (Elt Ideal) ℓ) (g : Dev Cert.InDuRefIdeal.nD → PrngReg), Pre_InDuRefIdeal m →
    θ_run (Cert.InDuRefIdeal.defs (F := Ideal)) (onTc (τ := Cert.InDuRefIdeal.τ) (Cert.InDuRefIdeal.main (F := Ideal))) ⟨m, fun _ => 0, g⟩ (fun r => (∀ c : Dev Cert.InDuRefIdeal.nD,
      r.2.mem ((c.tc : Thread Cert.InDuRefIdeal.nD Cert.InDuRefIdeal.τ).loc Cert.InDuRefIdeal.main_arg0) = m ((c.tc : Thread Cert.InDuRefIdeal.nD Cert.InDuRefIdeal.τ).loc Cert.InDuRefIdeal.main_arg0)
      ∧ r.2.mem ((c.tc : Thread Cert.InDuRefIdeal.nD Cert.InDuRefIdeal.τ).loc Cert.InDuRefIdeal.main_arg1) = m ((c.tc : Thread Cert.InDuRefIdeal.nD Cert.InDuRefIdeal.τ).loc Cert.InDuRefIdeal.main_arg1)
      ∧ r.2.mem ((c.tc : Thread Cert.InDuRefIdeal.nD Cert.InDuRefIdeal.τ).loc Cert.InDuRefIdeal.main_arg2) = m ((c.tc : Thread Cert.InDuRefIdeal.nD Cert.InDuRefIdeal.τ).loc Cert.InDuRefIdeal.main_arg2)
      ∧ r.2.mem ((c.tc : Thread Cert.InDuRefIdeal.nD Cert.InDuRefIdeal.τ).loc Cert.InDuRefIdeal.main_arg3) = m ((c.tc : Thread Cert.InDuRefIdeal.nD Cert.InDuRefIdeal.τ).loc Cert.InDuRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpIdeal_pre_finite_up [hFfnUpIdeal : Cert.FfnUpIdeal.Facts] [hPre_finite_up : Cert.Pre_finite_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_finite_up m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnUpRefIdeal_pre_finite_up [hFfnUpRefIdeal : Cert.FfnUpRefIdeal.Facts] [hPre_finite_up : Cert.Pre_finite_up.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_finite_up m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDa [hFfnDa : Cert.FfnDa.Facts] : Prop :=
  ∀ (m : (ℓ : Loc Cert.FfnDa.nD Cert.FfnDa.τ Cert.FfnDa.sig) → Buf (Elt Bits) ℓ) (g : Dev Cert.FfnDa.nD → PrngReg), Pre_FfnDa m →
    θ_run (Cert.FfnDa.defs (F := Bits)) (onTc (τ := Cert.FfnDa.τ) (Cert.FfnDa.main (F := Bits))) ⟨m, fun _ => 0, g⟩ (fun r => (∀ c : Dev Cert.FfnDa.nD,
      r.2.mem ((c.tc : Thread Cert.FfnDa.nD Cert.FfnDa.τ).loc Cert.FfnDa.main_arg0) = m ((c.tc : Thread Cert.FfnDa.nD Cert.FfnDa.τ).loc Cert.FfnDa.main_arg0)
      ∧ r.2.mem ((c.tc : Thread Cert.FfnDa.nD Cert.FfnDa.τ).loc Cert.FfnDa.main_arg1) = m ((c.tc : Thread Cert.FfnDa.nD Cert.FfnDa.τ).loc Cert.FfnDa.main_arg1)
      ∧ r.2.mem ((c.tc : Thread Cert.FfnDa.nD Cert.FfnDa.τ).loc Cert.FfnDa.main_arg2) = m ((c.tc : Thread Cert.FfnDa.nD Cert.FfnDa.τ).loc Cert.FfnDa.main_arg2)
      ∧ r.2.mem ((c.tc : Thread Cert.FfnDa.nD Cert.FfnDa.τ).loc Cert.FfnDa.main_arg3) = m ((c.tc : Thread Cert.FfnDa.nD Cert.FfnDa.τ).loc Cert.FfnDa.main_arg3))
      ∧ r.2.sem = fun _ => 0)

def quiescent_FfnDaIdeal [hFfnDaIdeal : Cert.FfnDaIdeal.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
      ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
      ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ r.2.sem = fun _ => 0)

def quiescent_FfnDaIdeal_pre_finite_da [hFfnDaIdeal : Cert.FfnDaIdeal.Facts] [hPre_finite_da : Cert.Pre_finite_da.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal_finite_da m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
      ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
      ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ r.2.sem = fun _ => 0)

def quiescent_FfnDaRefIdeal [hFfnDaRefIdeal : Cert.FfnDaRefIdeal.Facts] : Prop :=
  ∀ (m : (ℓ : Loc Cert.FfnDaRefIdeal.nD Cert.FfnDaRefIdeal.τ Cert.FfnDaRefIdeal.sig) → Buf (Elt Ideal) ℓ) (g : Dev Cert.FfnDaRefIdeal.nD → PrngReg), Pre_FfnDaRefIdeal m →
    θ_run (Cert.FfnDaRefIdeal.defs (F := Ideal)) (onTc (τ := Cert.FfnDaRefIdeal.τ) (Cert.FfnDaRefIdeal.main (F := Ideal))) ⟨m, fun _ => 0, g⟩ (fun r => (∀ c : Dev Cert.FfnDaRefIdeal.nD,
      r.2.mem ((c.tc : Thread Cert.FfnDaRefIdeal.nD Cert.FfnDaRefIdeal.τ).loc Cert.FfnDaRefIdeal.main_arg0) = m ((c.tc : Thread Cert.FfnDaRefIdeal.nD Cert.FfnDaRefIdeal.τ).loc Cert.FfnDaRefIdeal.main_arg0)
      ∧ r.2.mem ((c.tc : Thread Cert.FfnDaRefIdeal.nD Cert.FfnDaRefIdeal.τ).loc Cert.FfnDaRefIdeal.main_arg1) = m ((c.tc : Thread Cert.FfnDaRefIdeal.nD Cert.FfnDaRefIdeal.τ).loc Cert.FfnDaRefIdeal.main_arg1)
      ∧ r.2.mem ((c.tc : Thread Cert.FfnDaRefIdeal.nD Cert.FfnDaRefIdeal.τ).loc Cert.FfnDaRefIdeal.main_arg2) = m ((c.tc : Thread Cert.FfnDaRefIdeal.nD Cert.FfnDaRefIdeal.τ).loc Cert.FfnDaRefIdeal.main_arg2)
      ∧ r.2.mem ((c.tc : Thread Cert.FfnDaRefIdeal.nD Cert.FfnDaRefIdeal.τ).loc Cert.FfnDaRefIdeal.main_arg3) = m ((c.tc : Thread Cert.FfnDaRefIdeal.nD Cert.FfnDaRefIdeal.τ).loc Cert.FfnDaRefIdeal.main_arg3))
      ∧ r.2.sem = fun _ => 0)

def quiescent_FfnDaRefIdeal_pre_finite_da [hFfnDaRefIdeal : Cert.FfnDaRefIdeal.Facts] [hPre_finite_da : Cert.Pre_finite_da.Facts] : Prop :=
  ∀ (m : (ℓ : Loc Cert.FfnDaRefIdeal.nD Cert.FfnDaRefIdeal.τ Cert.FfnDaRefIdeal.sig) → Buf (Elt Ideal) ℓ) (g : Dev Cert.FfnDaRefIdeal.nD → PrngReg), Pre_FfnDaRefIdeal_finite_da m →
    θ_run (Cert.FfnDaRefIdeal.defs (F := Ideal)) (onTc (τ := Cert.FfnDaRefIdeal.τ) (Cert.FfnDaRefIdeal.main (F := Ideal))) ⟨m, fun _ => 0, g⟩ (fun r => (∀ c : Dev Cert.FfnDaRefIdeal.nD,
      r.2.mem ((c.tc : Thread Cert.FfnDaRefIdeal.nD Cert.FfnDaRefIdeal.τ).loc Cert.FfnDaRefIdeal.main_arg0) = m ((c.tc : Thread Cert.FfnDaRefIdeal.nD Cert.FfnDaRefIdeal.τ).loc Cert.FfnDaRefIdeal.main_arg0)
      ∧ r.2.mem ((c.tc : Thread Cert.FfnDaRefIdeal.nD Cert.FfnDaRefIdeal.τ).loc Cert.FfnDaRefIdeal.main_arg1) = m ((c.tc : Thread Cert.FfnDaRefIdeal.nD Cert.FfnDaRefIdeal.τ).loc Cert.FfnDaRefIdeal.main_arg1)
      ∧ r.2.mem ((c.tc : Thread Cert.FfnDaRefIdeal.nD Cert.FfnDaRefIdeal.τ).loc Cert.FfnDaRefIdeal.main_arg2) = m ((c.tc : Thread Cert.FfnDaRefIdeal.nD Cert.FfnDaRefIdeal.τ).loc Cert.FfnDaRefIdeal.main_arg2)
      ∧ r.2.mem ((c.tc : Thread Cert.FfnDaRefIdeal.nD Cert.FfnDaRefIdeal.τ).loc Cert.FfnDaRefIdeal.main_arg3) = m ((c.tc : Thread Cert.FfnDaRefIdeal.nD Cert.FfnDaRefIdeal.τ).loc Cert.FfnDaRefIdeal.main_arg3))
      ∧ r.2.sem = fun _ => 0)

def quiescent_FfnDn [hFfnDn : Cert.FfnDn.Facts] : Prop :=
  ∀ (m : (ℓ : Loc Cert.FfnDn.nD Cert.FfnDn.τ Cert.FfnDn.sig) → Buf (Elt Bits) ℓ) (g : Dev Cert.FfnDn.nD → PrngReg), Pre_FfnDn m →
    θ_run (Cert.FfnDn.defs (F := Bits)) (onTc (τ := Cert.FfnDn.τ) (Cert.FfnDn.main (F := Bits))) ⟨m, fun _ => 0, g⟩ (fun r => (∀ c : Dev Cert.FfnDn.nD,
      r.2.mem ((c.tc : Thread Cert.FfnDn.nD Cert.FfnDn.τ).loc Cert.FfnDn.main_arg0) = m ((c.tc : Thread Cert.FfnDn.nD Cert.FfnDn.τ).loc Cert.FfnDn.main_arg0)
      ∧ r.2.mem ((c.tc : Thread Cert.FfnDn.nD Cert.FfnDn.τ).loc Cert.FfnDn.main_arg1) = m ((c.tc : Thread Cert.FfnDn.nD Cert.FfnDn.τ).loc Cert.FfnDn.main_arg1)
      ∧ r.2.mem ((c.tc : Thread Cert.FfnDn.nD Cert.FfnDn.τ).loc Cert.FfnDn.main_arg2) = m ((c.tc : Thread Cert.FfnDn.nD Cert.FfnDn.τ).loc Cert.FfnDn.main_arg2)
      ∧ r.2.mem ((c.tc : Thread Cert.FfnDn.nD Cert.FfnDn.τ).loc Cert.FfnDn.main_arg3) = m ((c.tc : Thread Cert.FfnDn.nD Cert.FfnDn.τ).loc Cert.FfnDn.main_arg3)
      ∧ r.2.mem ((c.tc : Thread Cert.FfnDn.nD Cert.FfnDn.τ).loc Cert.FfnDn.main_arg4) = m ((c.tc : Thread Cert.FfnDn.nD Cert.FfnDn.τ).loc Cert.FfnDn.main_arg4)
      ∧ r.2.mem ((c.tc : Thread Cert.FfnDn.nD Cert.FfnDn.τ).loc Cert.FfnDn.main_arg5) = m ((c.tc : Thread Cert.FfnDn.nD Cert.FfnDn.τ).loc Cert.FfnDn.main_arg5)
      ∧ r.2.mem ((c.tc : Thread Cert.FfnDn.nD Cert.FfnDn.τ).loc Cert.FfnDn.main_arg6) = m ((c.tc : Thread Cert.FfnDn.nD Cert.FfnDn.τ).loc Cert.FfnDn.main_arg6))
      ∧ r.2.sem = fun _ => 0)

def quiescent_FfnDnIdeal [hFfnDnIdeal : Cert.FfnDnIdeal.Facts] : Prop :=
  ∀ (m : (ℓ : Loc Cert.FfnDnIdeal.nD Cert.FfnDnIdeal.τ Cert.FfnDnIdeal.sig) → Buf (Elt Ideal) ℓ) (g : Dev Cert.FfnDnIdeal.nD → PrngReg), Pre_FfnDnIdeal m →
    θ_run (Cert.FfnDnIdeal.defs (F := Ideal)) (onTc (τ := Cert.FfnDnIdeal.τ) (Cert.FfnDnIdeal.main (F := Ideal))) ⟨m, fun _ => 0, g⟩ (fun r => (∀ c : Dev Cert.FfnDnIdeal.nD,
      r.2.mem ((c.tc : Thread Cert.FfnDnIdeal.nD Cert.FfnDnIdeal.τ).loc Cert.FfnDnIdeal.main_arg0) = m ((c.tc : Thread Cert.FfnDnIdeal.nD Cert.FfnDnIdeal.τ).loc Cert.FfnDnIdeal.main_arg0)
      ∧ r.2.mem ((c.tc : Thread Cert.FfnDnIdeal.nD Cert.FfnDnIdeal.τ).loc Cert.FfnDnIdeal.main_arg1) = m ((c.tc : Thread Cert.FfnDnIdeal.nD Cert.FfnDnIdeal.τ).loc Cert.FfnDnIdeal.main_arg1)
      ∧ r.2.mem ((c.tc : Thread Cert.FfnDnIdeal.nD Cert.FfnDnIdeal.τ).loc Cert.FfnDnIdeal.main_arg2) = m ((c.tc : Thread Cert.FfnDnIdeal.nD Cert.FfnDnIdeal.τ).loc Cert.FfnDnIdeal.main_arg2)
      ∧ r.2.mem ((c.tc : Thread Cert.FfnDnIdeal.nD Cert.FfnDnIdeal.τ).loc Cert.FfnDnIdeal.main_arg3) = m ((c.tc : Thread Cert.FfnDnIdeal.nD Cert.FfnDnIdeal.τ).loc Cert.FfnDnIdeal.main_arg3)
      ∧ r.2.mem ((c.tc : Thread Cert.FfnDnIdeal.nD Cert.FfnDnIdeal.τ).loc Cert.FfnDnIdeal.main_arg4) = m ((c.tc : Thread Cert.FfnDnIdeal.nD Cert.FfnDnIdeal.τ).loc Cert.FfnDnIdeal.main_arg4)
      ∧ r.2.mem ((c.tc : Thread Cert.FfnDnIdeal.nD Cert.FfnDnIdeal.τ).loc Cert.FfnDnIdeal.main_arg5) = m ((c.tc : Thread Cert.FfnDnIdeal.nD Cert.FfnDnIdeal.τ).loc Cert.FfnDnIdeal.main_arg5)
      ∧ r.2.mem ((c.tc : Thread Cert.FfnDnIdeal.nD Cert.FfnDnIdeal.τ).loc Cert.FfnDnIdeal.main_arg6) = m ((c.tc : Thread Cert.FfnDnIdeal.nD Cert.FfnDnIdeal.τ).loc Cert.FfnDnIdeal.main_arg6))
      ∧ r.2.sem = fun _ => 0)

def quiescent_FfnDnIdeal_pre_finite_dn [hFfnDnIdeal : Cert.FfnDnIdeal.Facts] [hPre_finite_dn : Cert.Pre_finite_dn.Facts] : Prop :=
  ∀ (m : (ℓ : Loc Cert.FfnDnIdeal.nD Cert.FfnDnIdeal.τ Cert.FfnDnIdeal.sig) → Buf (Elt Ideal) ℓ) (g : Dev Cert.FfnDnIdeal.nD → PrngReg), Pre_FfnDnIdeal_finite_dn m →
    θ_run (Cert.FfnDnIdeal.defs (F := Ideal)) (onTc (τ := Cert.FfnDnIdeal.τ) (Cert.FfnDnIdeal.main (F := Ideal))) ⟨m, fun _ => 0, g⟩ (fun r => (∀ c : Dev Cert.FfnDnIdeal.nD,
      r.2.mem ((c.tc : Thread Cert.FfnDnIdeal.nD Cert.FfnDnIdeal.τ).loc Cert.FfnDnIdeal.main_arg0) = m ((c.tc : Thread Cert.FfnDnIdeal.nD Cert.FfnDnIdeal.τ).loc Cert.FfnDnIdeal.main_arg0)
      ∧ r.2.mem ((c.tc : Thread Cert.FfnDnIdeal.nD Cert.FfnDnIdeal.τ).loc Cert.FfnDnIdeal.main_arg1) = m ((c.tc : Thread Cert.FfnDnIdeal.nD Cert.FfnDnIdeal.τ).loc Cert.FfnDnIdeal.main_arg1)
      ∧ r.2.mem ((c.tc : Thread Cert.FfnDnIdeal.nD Cert.FfnDnIdeal.τ).loc Cert.FfnDnIdeal.main_arg2) = m ((c.tc : Thread Cert.FfnDnIdeal.nD Cert.FfnDnIdeal.τ).loc Cert.FfnDnIdeal.main_arg2)
      ∧ r.2.mem ((c.tc : Thread Cert.FfnDnIdeal.nD Cert.FfnDnIdeal.τ).loc Cert.FfnDnIdeal.main_arg3) = m ((c.tc : Thread Cert.FfnDnIdeal.nD Cert.FfnDnIdeal.τ).loc Cert.FfnDnIdeal.main_arg3)
      ∧ r.2.mem ((c.tc : Thread Cert.FfnDnIdeal.nD Cert.FfnDnIdeal.τ).loc Cert.FfnDnIdeal.main_arg4) = m ((c.tc : Thread Cert.FfnDnIdeal.nD Cert.FfnDnIdeal.τ).loc Cert.FfnDnIdeal.main_arg4)
      ∧ r.2.mem ((c.tc : Thread Cert.FfnDnIdeal.nD Cert.FfnDnIdeal.τ).loc Cert.FfnDnIdeal.main_arg5) = m ((c.tc : Thread Cert.FfnDnIdeal.nD Cert.FfnDnIdeal.τ).loc Cert.FfnDnIdeal.main_arg5)
      ∧ r.2.mem ((c.tc : Thread Cert.FfnDnIdeal.nD Cert.FfnDnIdeal.τ).loc Cert.FfnDnIdeal.main_arg6) = m ((c.tc : Thread Cert.FfnDnIdeal.nD Cert.FfnDnIdeal.τ).loc Cert.FfnDnIdeal.main_arg6))
      ∧ r.2.sem = fun _ => 0)

def quiescent_FfnDnRefIdeal [hFfnDnRefIdeal : Cert.FfnDnRefIdeal.Facts] : Prop :=
  ∀ (m : (ℓ : Loc Cert.FfnDnRefIdeal.nD Cert.FfnDnRefIdeal.τ Cert.FfnDnRefIdeal.sig) → Buf (Elt Ideal) ℓ) (g : Dev Cert.FfnDnRefIdeal.nD → PrngReg), Pre_FfnDnRefIdeal m →
    θ_run (Cert.FfnDnRefIdeal.defs (F := Ideal)) (onTc (τ := Cert.FfnDnRefIdeal.τ) (Cert.FfnDnRefIdeal.main (F := Ideal))) ⟨m, fun _ => 0, g⟩ (fun r => (∀ c : Dev Cert.FfnDnRefIdeal.nD,
      r.2.mem ((c.tc : Thread Cert.FfnDnRefIdeal.nD Cert.FfnDnRefIdeal.τ).loc Cert.FfnDnRefIdeal.main_arg0) = m ((c.tc : Thread Cert.FfnDnRefIdeal.nD Cert.FfnDnRefIdeal.τ).loc Cert.FfnDnRefIdeal.main_arg0)
      ∧ r.2.mem ((c.tc : Thread Cert.FfnDnRefIdeal.nD Cert.FfnDnRefIdeal.τ).loc Cert.FfnDnRefIdeal.main_arg1) = m ((c.tc : Thread Cert.FfnDnRefIdeal.nD Cert.FfnDnRefIdeal.τ).loc Cert.FfnDnRefIdeal.main_arg1)
      ∧ r.2.mem ((c.tc : Thread Cert.FfnDnRefIdeal.nD Cert.FfnDnRefIdeal.τ).loc Cert.FfnDnRefIdeal.main_arg2) = m ((c.tc : Thread Cert.FfnDnRefIdeal.nD Cert.FfnDnRefIdeal.τ).loc Cert.FfnDnRefIdeal.main_arg2)
      ∧ r.2.mem ((c.tc : Thread Cert.FfnDnRefIdeal.nD Cert.FfnDnRefIdeal.τ).loc Cert.FfnDnRefIdeal.main_arg3) = m ((c.tc : Thread Cert.FfnDnRefIdeal.nD Cert.FfnDnRefIdeal.τ).loc Cert.FfnDnRefIdeal.main_arg3)
      ∧ r.2.mem ((c.tc : Thread Cert.FfnDnRefIdeal.nD Cert.FfnDnRefIdeal.τ).loc Cert.FfnDnRefIdeal.main_arg4) = m ((c.tc : Thread Cert.FfnDnRefIdeal.nD Cert.FfnDnRefIdeal.τ).loc Cert.FfnDnRefIdeal.main_arg4)
      ∧ r.2.mem ((c.tc : Thread Cert.FfnDnRefIdeal.nD Cert.FfnDnRefIdeal.τ).loc Cert.FfnDnRefIdeal.main_arg5) = m ((c.tc : Thread Cert.FfnDnRefIdeal.nD Cert.FfnDnRefIdeal.τ).loc Cert.FfnDnRefIdeal.main_arg5)
      ∧ r.2.mem ((c.tc : Thread Cert.FfnDnRefIdeal.nD Cert.FfnDnRefIdeal.τ).loc Cert.FfnDnRefIdeal.main_arg6) = m ((c.tc : Thread Cert.FfnDnRefIdeal.nD Cert.FfnDnRefIdeal.τ).loc Cert.FfnDnRefIdeal.main_arg6))
      ∧ r.2.sem = fun _ => 0)

def quiescent_FfnDnRefIdeal_pre_finite_dn [hFfnDnRefIdeal : Cert.FfnDnRefIdeal.Facts] [hPre_finite_dn : Cert.Pre_finite_dn.Facts] : Prop :=
  ∀ (m : (ℓ : Loc Cert.FfnDnRefIdeal.nD Cert.FfnDnRefIdeal.τ Cert.FfnDnRefIdeal.sig) → Buf (Elt Ideal) ℓ) (g : Dev Cert.FfnDnRefIdeal.nD → PrngReg), Pre_FfnDnRefIdeal_finite_dn m →
    θ_run (Cert.FfnDnRefIdeal.defs (F := Ideal)) (onTc (τ := Cert.FfnDnRefIdeal.τ) (Cert.FfnDnRefIdeal.main (F := Ideal))) ⟨m, fun _ => 0, g⟩ (fun r => (∀ c : Dev Cert.FfnDnRefIdeal.nD,
      r.2.mem ((c.tc : Thread Cert.FfnDnRefIdeal.nD Cert.FfnDnRefIdeal.τ).loc Cert.FfnDnRefIdeal.main_arg0) = m ((c.tc : Thread Cert.FfnDnRefIdeal.nD Cert.FfnDnRefIdeal.τ).loc Cert.FfnDnRefIdeal.main_arg0)
      ∧ r.2.mem ((c.tc : Thread Cert.FfnDnRefIdeal.nD Cert.FfnDnRefIdeal.τ).loc Cert.FfnDnRefIdeal.main_arg1) = m ((c.tc : Thread Cert.FfnDnRefIdeal.nD Cert.FfnDnRefIdeal.τ).loc Cert.FfnDnRefIdeal.main_arg1)
      ∧ r.2.mem ((c.tc : Thread Cert.FfnDnRefIdeal.nD Cert.FfnDnRefIdeal.τ).loc Cert.FfnDnRefIdeal.main_arg2) = m ((c.tc : Thread Cert.FfnDnRefIdeal.nD Cert.FfnDnRefIdeal.τ).loc Cert.FfnDnRefIdeal.main_arg2)
      ∧ r.2.mem ((c.tc : Thread Cert.FfnDnRefIdeal.nD Cert.FfnDnRefIdeal.τ).loc Cert.FfnDnRefIdeal.main_arg3) = m ((c.tc : Thread Cert.FfnDnRefIdeal.nD Cert.FfnDnRefIdeal.τ).loc Cert.FfnDnRefIdeal.main_arg3)
      ∧ r.2.mem ((c.tc : Thread Cert.FfnDnRefIdeal.nD Cert.FfnDnRefIdeal.τ).loc Cert.FfnDnRefIdeal.main_arg4) = m ((c.tc : Thread Cert.FfnDnRefIdeal.nD Cert.FfnDnRefIdeal.τ).loc Cert.FfnDnRefIdeal.main_arg4)
      ∧ r.2.mem ((c.tc : Thread Cert.FfnDnRefIdeal.nD Cert.FfnDnRefIdeal.τ).loc Cert.FfnDnRefIdeal.main_arg5) = m ((c.tc : Thread Cert.FfnDnRefIdeal.nD Cert.FfnDnRefIdeal.τ).loc Cert.FfnDnRefIdeal.main_arg5)
      ∧ r.2.mem ((c.tc : Thread Cert.FfnDnRefIdeal.nD Cert.FfnDnRefIdeal.τ).loc Cert.FfnDnRefIdeal.main_arg6) = m ((c.tc : Thread Cert.FfnDnRefIdeal.nD Cert.FfnDnRefIdeal.τ).loc Cert.FfnDnRefIdeal.main_arg6))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwMix [hDwMix : Cert.DwMix.Facts] : Prop :=
  ∀ (m : (ℓ : Loc Cert.DwMix.nD Cert.DwMix.τ Cert.DwMix.sig) → Buf (Elt Bits) ℓ) (g : Dev Cert.DwMix.nD → PrngReg), Pre_DwMix m →
    θ_run (Cert.DwMix.defs (F := Bits)) (onTc (τ := Cert.DwMix.τ) (Cert.DwMix.main (F := Bits))) ⟨m, fun _ => 0, g⟩ (fun r => (∀ c : Dev Cert.DwMix.nD,
      r.2.mem ((c.tc : Thread Cert.DwMix.nD Cert.DwMix.τ).loc Cert.DwMix.main_arg0) = m ((c.tc : Thread Cert.DwMix.nD Cert.DwMix.τ).loc Cert.DwMix.main_arg0)
      ∧ r.2.mem ((c.tc : Thread Cert.DwMix.nD Cert.DwMix.τ).loc Cert.DwMix.main_arg1) = m ((c.tc : Thread Cert.DwMix.nD Cert.DwMix.τ).loc Cert.DwMix.main_arg1))
      ∧ r.2.sem = fun _ => 0)

def quiescent_DwMixIdeal [hDwMixIdeal : Cert.DwMixIdeal.Facts] : Prop :=
  ∀ (m : (ℓ : Loc Cert.DwMixIdeal.nD Cert.DwMixIdeal.τ Cert.DwMixIdeal.sig) → Buf (Elt Ideal) ℓ) (g : Dev Cert.DwMixIdeal.nD → PrngReg), Pre_DwMixIdeal m →
    θ_run (Cert.DwMixIdeal.defs (F := Ideal)) (onTc (τ := Cert.DwMixIdeal.τ) (Cert.DwMixIdeal.main (F := Ideal))) ⟨m, fun _ => 0, g⟩ (fun r => (∀ c : Dev Cert.DwMixIdeal.nD,
      r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
      ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1))
      ∧ r.2.sem = fun _ => 0)

def quiescent_DwMixRefIdeal [hDwMixRefIdeal : Cert.DwMixRefIdeal.Facts] : Prop :=
  ∀ (m : (ℓ : Loc Cert.DwMixRefIdeal.nD Cert.DwMixRefIdeal.τ Cert.DwMixRefIdeal.sig) → Buf (Elt Ideal) ℓ) (g : Dev Cert.DwMixRefIdeal.nD → PrngReg), Pre_DwMixRefIdeal m →
    θ_run (Cert.DwMixRefIdeal.defs (F := Ideal)) (onTc (τ := Cert.DwMixRefIdeal.τ) (Cert.DwMixRefIdeal.main (F := Ideal))) ⟨m, fun _ => 0, g⟩ (fun r => (∀ c : Dev Cert.DwMixRefIdeal.nD,
      r.2.mem ((c.tc : Thread Cert.DwMixRefIdeal.nD Cert.DwMixRefIdeal.τ).loc Cert.DwMixRefIdeal.main_arg0) = m ((c.tc : Thread Cert.DwMixRefIdeal.nD Cert.DwMixRefIdeal.τ).loc Cert.DwMixRefIdeal.main_arg0)
      ∧ r.2.mem ((c.tc : Thread Cert.DwMixRefIdeal.nD Cert.DwMixRefIdeal.τ).loc Cert.DwMixRefIdeal.main_arg1) = m ((c.tc : Thread Cert.DwMixRefIdeal.nD Cert.DwMixRefIdeal.τ).loc Cert.DwMixRefIdeal.main_arg1))
      ∧ r.2.sem = fun _ => 0)

def quiescent_DwSsm [hDwSsm : Cert.DwSsm.Facts] : Prop :=
  ∀ (m : (ℓ : Loc Cert.DwSsm.nD Cert.DwSsm.τ Cert.DwSsm.sig) → Buf (Elt Bits) ℓ) (g : Dev Cert.DwSsm.nD → PrngReg), Pre_DwSsm m →
    θ_run (Cert.DwSsm.defs (F := Bits)) (onTc (τ := Cert.DwSsm.τ) (Cert.DwSsm.main (F := Bits))) ⟨m, fun _ => 0, g⟩ (fun r => (∀ c : Dev Cert.DwSsm.nD,
      r.2.mem ((c.tc : Thread Cert.DwSsm.nD Cert.DwSsm.τ).loc Cert.DwSsm.main_arg0) = m ((c.tc : Thread Cert.DwSsm.nD Cert.DwSsm.τ).loc Cert.DwSsm.main_arg0)
      ∧ r.2.mem ((c.tc : Thread Cert.DwSsm.nD Cert.DwSsm.τ).loc Cert.DwSsm.main_arg1) = m ((c.tc : Thread Cert.DwSsm.nD Cert.DwSsm.τ).loc Cert.DwSsm.main_arg1))
      ∧ r.2.sem = fun _ => 0)

def quiescent_DwSsmIdeal [hDwSsmIdeal : Cert.DwSsmIdeal.Facts] : Prop :=
  ∀ (m : (ℓ : Loc Cert.DwSsmIdeal.nD Cert.DwSsmIdeal.τ Cert.DwSsmIdeal.sig) → Buf (Elt Ideal) ℓ) (g : Dev Cert.DwSsmIdeal.nD → PrngReg), Pre_DwSsmIdeal m →
    θ_run (Cert.DwSsmIdeal.defs (F := Ideal)) (onTc (τ := Cert.DwSsmIdeal.τ) (Cert.DwSsmIdeal.main (F := Ideal))) ⟨m, fun _ => 0, g⟩ (fun r => (∀ c : Dev Cert.DwSsmIdeal.nD,
      r.2.mem ((c.tc : Thread Cert.DwSsmIdeal.nD Cert.DwSsmIdeal.τ).loc Cert.DwSsmIdeal.main_arg0) = m ((c.tc : Thread Cert.DwSsmIdeal.nD Cert.DwSsmIdeal.τ).loc Cert.DwSsmIdeal.main_arg0)
      ∧ r.2.mem ((c.tc : Thread Cert.DwSsmIdeal.nD Cert.DwSsmIdeal.τ).loc Cert.DwSsmIdeal.main_arg1) = m ((c.tc : Thread Cert.DwSsmIdeal.nD Cert.DwSsmIdeal.τ).loc Cert.DwSsmIdeal.main_arg1))
      ∧ r.2.sem = fun _ => 0)

def quiescent_DwSsmRefIdeal [hDwSsmRefIdeal : Cert.DwSsmRefIdeal.Facts] : Prop :=
  ∀ (m : (ℓ : Loc Cert.DwSsmRefIdeal.nD Cert.DwSsmRefIdeal.τ Cert.DwSsmRefIdeal.sig) → Buf (Elt Ideal) ℓ) (g : Dev Cert.DwSsmRefIdeal.nD → PrngReg), Pre_DwSsmRefIdeal m →
    θ_run (Cert.DwSsmRefIdeal.defs (F := Ideal)) (onTc (τ := Cert.DwSsmRefIdeal.τ) (Cert.DwSsmRefIdeal.main (F := Ideal))) ⟨m, fun _ => 0, g⟩ (fun r => (∀ c : Dev Cert.DwSsmRefIdeal.nD,
      r.2.mem ((c.tc : Thread Cert.DwSsmRefIdeal.nD Cert.DwSsmRefIdeal.τ).loc Cert.DwSsmRefIdeal.main_arg0) = m ((c.tc : Thread Cert.DwSsmRefIdeal.nD Cert.DwSsmRefIdeal.τ).loc Cert.DwSsmRefIdeal.main_arg0)
      ∧ r.2.mem ((c.tc : Thread Cert.DwSsmRefIdeal.nD Cert.DwSsmRefIdeal.τ).loc Cert.DwSsmRefIdeal.main_arg1) = m ((c.tc : Thread Cert.DwSsmRefIdeal.nD Cert.DwSsmRefIdeal.τ).loc Cert.DwSsmRefIdeal.main_arg1))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1)
      ∧ r.2.mem ((c.tc : Thread Cert.OutARefIdeal.nD Cert.OutARefIdeal.τ).loc Cert.OutARefIdeal.main_arg2) = m ((c.tc : Thread Cert.OutARefIdeal.nD Cert.OutARefIdeal.τ).loc Cert.OutARefIdeal.main_arg2))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3))
      ∧ r.2.sem = fun _ => 0)

def quiescent_DO [hDO : Cert.DO.Facts] : Prop :=
  ∀ (m : (ℓ : Loc Cert.DO.nD Cert.DO.τ Cert.DO.sig) → Buf (Elt Bits) ℓ) (g : Dev Cert.DO.nD → PrngReg), Pre_DO m →
    θ_run (Cert.DO.defs (F := Bits)) (onTc (τ := Cert.DO.τ) (Cert.DO.main (F := Bits))) ⟨m, fun _ => 0, g⟩ (fun r => (∀ c : Dev Cert.DO.nD,
      r.2.mem ((c.tc : Thread Cert.DO.nD Cert.DO.τ).loc Cert.DO.main_arg0) = m ((c.tc : Thread Cert.DO.nD Cert.DO.τ).loc Cert.DO.main_arg0)
      ∧ r.2.mem ((c.tc : Thread Cert.DO.nD Cert.DO.τ).loc Cert.DO.main_arg1) = m ((c.tc : Thread Cert.DO.nD Cert.DO.τ).loc Cert.DO.main_arg1))
      ∧ r.2.sem = fun _ => 0)

def quiescent_DOIdeal [hDOIdeal : Cert.DOIdeal.Facts] : Prop :=
  ∀ (m : (ℓ : Loc Cert.DOIdeal.nD Cert.DOIdeal.τ Cert.DOIdeal.sig) → Buf (Elt Ideal) ℓ) (g : Dev Cert.DOIdeal.nD → PrngReg), Pre_DOIdeal m →
    θ_run (Cert.DOIdeal.defs (F := Ideal)) (onTc (τ := Cert.DOIdeal.τ) (Cert.DOIdeal.main (F := Ideal))) ⟨m, fun _ => 0, g⟩ (fun r => (∀ c : Dev Cert.DOIdeal.nD,
      r.2.mem ((c.tc : Thread Cert.DOIdeal.nD Cert.DOIdeal.τ).loc Cert.DOIdeal.main_arg0) = m ((c.tc : Thread Cert.DOIdeal.nD Cert.DOIdeal.τ).loc Cert.DOIdeal.main_arg0)
      ∧ r.2.mem ((c.tc : Thread Cert.DOIdeal.nD Cert.DOIdeal.τ).loc Cert.DOIdeal.main_arg1) = m ((c.tc : Thread Cert.DOIdeal.nD Cert.DOIdeal.τ).loc Cert.DOIdeal.main_arg1))
      ∧ r.2.sem = fun _ => 0)

def quiescent_DORefIdeal [hDORefIdeal : Cert.DORefIdeal.Facts] : Prop :=
  ∀ (m : (ℓ : Loc Cert.DORefIdeal.nD Cert.DORefIdeal.τ Cert.DORefIdeal.sig) → Buf (Elt Ideal) ℓ) (g : Dev Cert.DORefIdeal.nD → PrngReg), Pre_DORefIdeal m →
    θ_run (Cert.DORefIdeal.defs (F := Ideal)) (onTc (τ := Cert.DORefIdeal.τ) (Cert.DORefIdeal.main (F := Ideal))) ⟨m, fun _ => 0, g⟩ (fun r => (∀ c : Dev Cert.DORefIdeal.nD,
      r.2.mem ((c.tc : Thread Cert.DORefIdeal.nD Cert.DORefIdeal.τ).loc Cert.DORefIdeal.main_arg0) = m ((c.tc : Thread Cert.DORefIdeal.nD Cert.DORefIdeal.τ).loc Cert.DORefIdeal.main_arg0)
      ∧ r.2.mem ((c.tc : Thread Cert.DORefIdeal.nD Cert.DORefIdeal.τ).loc Cert.DORefIdeal.main_arg1) = m ((c.tc : Thread Cert.DORefIdeal.nD Cert.DORefIdeal.τ).loc Cert.DORefIdeal.main_arg1))
      ∧ r.2.sem = fun _ => 0)

def quiescent_DUn [hDUn : Cert.DUn.Facts] : Prop :=
  ∀ (m : (ℓ : Loc Cert.DUn.nD Cert.DUn.τ Cert.DUn.sig) → Buf (Elt Bits) ℓ) (g : Dev Cert.DUn.nD → PrngReg), Pre_DUn m →
    θ_run (Cert.DUn.defs (F := Bits)) (onTc (τ := Cert.DUn.τ) (Cert.DUn.main (F := Bits))) ⟨m, fun _ => 0, g⟩ (fun r => (∀ c : Dev Cert.DUn.nD,
      r.2.mem ((c.tc : Thread Cert.DUn.nD Cert.DUn.τ).loc Cert.DUn.main_arg0) = m ((c.tc : Thread Cert.DUn.nD Cert.DUn.τ).loc Cert.DUn.main_arg0)
      ∧ r.2.mem ((c.tc : Thread Cert.DUn.nD Cert.DUn.τ).loc Cert.DUn.main_arg1) = m ((c.tc : Thread Cert.DUn.nD Cert.DUn.τ).loc Cert.DUn.main_arg1)
      ∧ r.2.mem ((c.tc : Thread Cert.DUn.nD Cert.DUn.τ).loc Cert.DUn.main_arg2) = m ((c.tc : Thread Cert.DUn.nD Cert.DUn.τ).loc Cert.DUn.main_arg2)
      ∧ r.2.mem ((c.tc : Thread Cert.DUn.nD Cert.DUn.τ).loc Cert.DUn.main_arg3) = m ((c.tc : Thread Cert.DUn.nD Cert.DUn.τ).loc Cert.DUn.main_arg3)
      ∧ r.2.mem ((c.tc : Thread Cert.DUn.nD Cert.DUn.τ).loc Cert.DUn.main_arg4) = m ((c.tc : Thread Cert.DUn.nD Cert.DUn.τ).loc Cert.DUn.main_arg4))
      ∧ r.2.sem = fun _ => 0)

def quiescent_DUnIdeal [hDUnIdeal : Cert.DUnIdeal.Facts] : Prop :=
  ∀ (m : (ℓ : Loc Cert.DUnIdeal.nD Cert.DUnIdeal.τ Cert.DUnIdeal.sig) → Buf (Elt Ideal) ℓ) (g : Dev Cert.DUnIdeal.nD → PrngReg), Pre_DUnIdeal m →
    θ_run (Cert.DUnIdeal.defs (F := Ideal)) (onTc (τ := Cert.DUnIdeal.τ) (Cert.DUnIdeal.main (F := Ideal))) ⟨m, fun _ => 0, g⟩ (fun r => (∀ c : Dev Cert.DUnIdeal.nD,
      r.2.mem ((c.tc : Thread Cert.DUnIdeal.nD Cert.DUnIdeal.τ).loc Cert.DUnIdeal.main_arg0) = m ((c.tc : Thread Cert.DUnIdeal.nD Cert.DUnIdeal.τ).loc Cert.DUnIdeal.main_arg0)
      ∧ r.2.mem ((c.tc : Thread Cert.DUnIdeal.nD Cert.DUnIdeal.τ).loc Cert.DUnIdeal.main_arg1) = m ((c.tc : Thread Cert.DUnIdeal.nD Cert.DUnIdeal.τ).loc Cert.DUnIdeal.main_arg1)
      ∧ r.2.mem ((c.tc : Thread Cert.DUnIdeal.nD Cert.DUnIdeal.τ).loc Cert.DUnIdeal.main_arg2) = m ((c.tc : Thread Cert.DUnIdeal.nD Cert.DUnIdeal.τ).loc Cert.DUnIdeal.main_arg2)
      ∧ r.2.mem ((c.tc : Thread Cert.DUnIdeal.nD Cert.DUnIdeal.τ).loc Cert.DUnIdeal.main_arg3) = m ((c.tc : Thread Cert.DUnIdeal.nD Cert.DUnIdeal.τ).loc Cert.DUnIdeal.main_arg3)
      ∧ r.2.mem ((c.tc : Thread Cert.DUnIdeal.nD Cert.DUnIdeal.τ).loc Cert.DUnIdeal.main_arg4) = m ((c.tc : Thread Cert.DUnIdeal.nD Cert.DUnIdeal.τ).loc Cert.DUnIdeal.main_arg4))
      ∧ r.2.sem = fun _ => 0)

def quiescent_DUnIdeal_pre_finite_un [hDUnIdeal : Cert.DUnIdeal.Facts] [hPre_finite_un : Cert.Pre_finite_un.Facts] : Prop :=
  ∀ (m : (ℓ : Loc Cert.DUnIdeal.nD Cert.DUnIdeal.τ Cert.DUnIdeal.sig) → Buf (Elt Ideal) ℓ) (g : Dev Cert.DUnIdeal.nD → PrngReg), Pre_DUnIdeal_finite_un m →
    θ_run (Cert.DUnIdeal.defs (F := Ideal)) (onTc (τ := Cert.DUnIdeal.τ) (Cert.DUnIdeal.main (F := Ideal))) ⟨m, fun _ => 0, g⟩ (fun r => (∀ c : Dev Cert.DUnIdeal.nD,
      r.2.mem ((c.tc : Thread Cert.DUnIdeal.nD Cert.DUnIdeal.τ).loc Cert.DUnIdeal.main_arg0) = m ((c.tc : Thread Cert.DUnIdeal.nD Cert.DUnIdeal.τ).loc Cert.DUnIdeal.main_arg0)
      ∧ r.2.mem ((c.tc : Thread Cert.DUnIdeal.nD Cert.DUnIdeal.τ).loc Cert.DUnIdeal.main_arg1) = m ((c.tc : Thread Cert.DUnIdeal.nD Cert.DUnIdeal.τ).loc Cert.DUnIdeal.main_arg1)
      ∧ r.2.mem ((c.tc : Thread Cert.DUnIdeal.nD Cert.DUnIdeal.τ).loc Cert.DUnIdeal.main_arg2) = m ((c.tc : Thread Cert.DUnIdeal.nD Cert.DUnIdeal.τ).loc Cert.DUnIdeal.main_arg2)
      ∧ r.2.mem ((c.tc : Thread Cert.DUnIdeal.nD Cert.DUnIdeal.τ).loc Cert.DUnIdeal.main_arg3) = m ((c.tc : Thread Cert.DUnIdeal.nD Cert.DUnIdeal.τ).loc Cert.DUnIdeal.main_arg3)
      ∧ r.2.mem ((c.tc : Thread Cert.DUnIdeal.nD Cert.DUnIdeal.τ).loc Cert.DUnIdeal.main_arg4) = m ((c.tc : Thread Cert.DUnIdeal.nD Cert.DUnIdeal.τ).loc Cert.DUnIdeal.main_arg4))
      ∧ r.2.sem = fun _ => 0)

def quiescent_DUnRefIdeal [hDUnRefIdeal : Cert.DUnRefIdeal.Facts] : Prop :=
  ∀ (m : (ℓ : Loc Cert.DUnRefIdeal.nD Cert.DUnRefIdeal.τ Cert.DUnRefIdeal.sig) → Buf (Elt Ideal) ℓ) (g : Dev Cert.DUnRefIdeal.nD → PrngReg), Pre_DUnRefIdeal m →
    θ_run (Cert.DUnRefIdeal.defs (F := Ideal)) (onTc (τ := Cert.DUnRefIdeal.τ) (Cert.DUnRefIdeal.main (F := Ideal))) ⟨m, fun _ => 0, g⟩ (fun r => (∀ c : Dev Cert.DUnRefIdeal.nD,
      r.2.mem ((c.tc : Thread Cert.DUnRefIdeal.nD Cert.DUnRefIdeal.τ).loc Cert.DUnRefIdeal.main_arg0) = m ((c.tc : Thread Cert.DUnRefIdeal.nD Cert.DUnRefIdeal.τ).loc Cert.DUnRefIdeal.main_arg0)
      ∧ r.2.mem ((c.tc : Thread Cert.DUnRefIdeal.nD Cert.DUnRefIdeal.τ).loc Cert.DUnRefIdeal.main_arg1) = m ((c.tc : Thread Cert.DUnRefIdeal.nD Cert.DUnRefIdeal.τ).loc Cert.DUnRefIdeal.main_arg1)
      ∧ r.2.mem ((c.tc : Thread Cert.DUnRefIdeal.nD Cert.DUnRefIdeal.τ).loc Cert.DUnRefIdeal.main_arg2) = m ((c.tc : Thread Cert.DUnRefIdeal.nD Cert.DUnRefIdeal.τ).loc Cert.DUnRefIdeal.main_arg2)
      ∧ r.2.mem ((c.tc : Thread Cert.DUnRefIdeal.nD Cert.DUnRefIdeal.τ).loc Cert.DUnRefIdeal.main_arg3) = m ((c.tc : Thread Cert.DUnRefIdeal.nD Cert.DUnRefIdeal.τ).loc Cert.DUnRefIdeal.main_arg3)
      ∧ r.2.mem ((c.tc : Thread Cert.DUnRefIdeal.nD Cert.DUnRefIdeal.τ).loc Cert.DUnRefIdeal.main_arg4) = m ((c.tc : Thread Cert.DUnRefIdeal.nD Cert.DUnRefIdeal.τ).loc Cert.DUnRefIdeal.main_arg4))
      ∧ r.2.sem = fun _ => 0)

def quiescent_DUnRefIdeal_pre_finite_un [hDUnRefIdeal : Cert.DUnRefIdeal.Facts] [hPre_finite_un : Cert.Pre_finite_un.Facts] : Prop :=
  ∀ (m : (ℓ : Loc Cert.DUnRefIdeal.nD Cert.DUnRefIdeal.τ Cert.DUnRefIdeal.sig) → Buf (Elt Ideal) ℓ) (g : Dev Cert.DUnRefIdeal.nD → PrngReg), Pre_DUnRefIdeal_finite_un m →
    θ_run (Cert.DUnRefIdeal.defs (F := Ideal)) (onTc (τ := Cert.DUnRefIdeal.τ) (Cert.DUnRefIdeal.main (F := Ideal))) ⟨m, fun _ => 0, g⟩ (fun r => (∀ c : Dev Cert.DUnRefIdeal.nD,
      r.2.mem ((c.tc : Thread Cert.DUnRefIdeal.nD Cert.DUnRefIdeal.τ).loc Cert.DUnRefIdeal.main_arg0) = m ((c.tc : Thread Cert.DUnRefIdeal.nD Cert.DUnRefIdeal.τ).loc Cert.DUnRefIdeal.main_arg0)
      ∧ r.2.mem ((c.tc : Thread Cert.DUnRefIdeal.nD Cert.DUnRefIdeal.τ).loc Cert.DUnRefIdeal.main_arg1) = m ((c.tc : Thread Cert.DUnRefIdeal.nD Cert.DUnRefIdeal.τ).loc Cert.DUnRefIdeal.main_arg1)
      ∧ r.2.mem ((c.tc : Thread Cert.DUnRefIdeal.nD Cert.DUnRefIdeal.τ).loc Cert.DUnRefIdeal.main_arg2) = m ((c.tc : Thread Cert.DUnRefIdeal.nD Cert.DUnRefIdeal.τ).loc Cert.DUnRefIdeal.main_arg2)
      ∧ r.2.mem ((c.tc : Thread Cert.DUnRefIdeal.nD Cert.DUnRefIdeal.τ).loc Cert.DUnRefIdeal.main_arg3) = m ((c.tc : Thread Cert.DUnRefIdeal.nD Cert.DUnRefIdeal.τ).loc Cert.DUnRefIdeal.main_arg3)
      ∧ r.2.mem ((c.tc : Thread Cert.DUnRefIdeal.nD Cert.DUnRefIdeal.τ).loc Cert.DUnRefIdeal.main_arg4) = m ((c.tc : Thread Cert.DUnRefIdeal.nD Cert.DUnRefIdeal.τ).loc Cert.DUnRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSsm [hAdamSsm : Cert.AdamSsm.Facts] : Prop :=
  ∀ (m : (ℓ : Loc Cert.AdamSsm.nD Cert.AdamSsm.τ Cert.AdamSsm.sig) → Buf (Elt Bits) ℓ) (g : Dev Cert.AdamSsm.nD → PrngReg), Pre_AdamSsm m →
    θ_run (Cert.AdamSsm.defs (F := Bits)) (onTc (τ := Cert.AdamSsm.τ) (Cert.AdamSsm.main (F := Bits))) ⟨m, fun _ => 0, g⟩ (fun r => (∀ c : Dev Cert.AdamSsm.nD,
      r.2.mem ((c.tc : Thread Cert.AdamSsm.nD Cert.AdamSsm.τ).loc Cert.AdamSsm.main_arg0) = m ((c.tc : Thread Cert.AdamSsm.nD Cert.AdamSsm.τ).loc Cert.AdamSsm.main_arg0)
      ∧ r.2.mem ((c.tc : Thread Cert.AdamSsm.nD Cert.AdamSsm.τ).loc Cert.AdamSsm.main_arg1) = m ((c.tc : Thread Cert.AdamSsm.nD Cert.AdamSsm.τ).loc Cert.AdamSsm.main_arg1)
      ∧ r.2.mem ((c.tc : Thread Cert.AdamSsm.nD Cert.AdamSsm.τ).loc Cert.AdamSsm.main_arg2) = m ((c.tc : Thread Cert.AdamSsm.nD Cert.AdamSsm.τ).loc Cert.AdamSsm.main_arg2)
      ∧ r.2.mem ((c.tc : Thread Cert.AdamSsm.nD Cert.AdamSsm.τ).loc Cert.AdamSsm.main_arg3) = m ((c.tc : Thread Cert.AdamSsm.nD Cert.AdamSsm.τ).loc Cert.AdamSsm.main_arg3))
      ∧ r.2.sem = fun _ => 0)

def quiescent_AdamSsmIdeal [hAdamSsmIdeal : Cert.AdamSsmIdeal.Facts] : Prop :=
  ∀ (m : (ℓ : Loc Cert.AdamSsmIdeal.nD Cert.AdamSsmIdeal.τ Cert.AdamSsmIdeal.sig) → Buf (Elt Ideal) ℓ) (g : Dev Cert.AdamSsmIdeal.nD → PrngReg), Pre_AdamSsmIdeal m →
    θ_run (Cert.AdamSsmIdeal.defs (F := Ideal)) (onTc (τ := Cert.AdamSsmIdeal.τ) (Cert.AdamSsmIdeal.main (F := Ideal))) ⟨m, fun _ => 0, g⟩ (fun r => (∀ c : Dev Cert.AdamSsmIdeal.nD,
      r.2.mem ((c.tc : Thread Cert.AdamSsmIdeal.nD Cert.AdamSsmIdeal.τ).loc Cert.AdamSsmIdeal.main_arg0) = m ((c.tc : Thread Cert.AdamSsmIdeal.nD Cert.AdamSsmIdeal.τ).loc Cert.AdamSsmIdeal.main_arg0)
      ∧ r.2.mem ((c.tc : Thread Cert.AdamSsmIdeal.nD Cert.AdamSsmIdeal.τ).loc Cert.AdamSsmIdeal.main_arg1) = m ((c.tc : Thread Cert.AdamSsmIdeal.nD Cert.AdamSsmIdeal.τ).loc Cert.AdamSsmIdeal.main_arg1)
      ∧ r.2.mem ((c.tc : Thread Cert.AdamSsmIdeal.nD Cert.AdamSsmIdeal.τ).loc Cert.AdamSsmIdeal.main_arg2) = m ((c.tc : Thread Cert.AdamSsmIdeal.nD Cert.AdamSsmIdeal.τ).loc Cert.AdamSsmIdeal.main_arg2)
      ∧ r.2.mem ((c.tc : Thread Cert.AdamSsmIdeal.nD Cert.AdamSsmIdeal.τ).loc Cert.AdamSsmIdeal.main_arg3) = m ((c.tc : Thread Cert.AdamSsmIdeal.nD Cert.AdamSsmIdeal.τ).loc Cert.AdamSsmIdeal.main_arg3))
      ∧ r.2.sem = fun _ => 0)

def quiescent_AdamSsmRefIdeal [hAdamSsmRefIdeal : Cert.AdamSsmRefIdeal.Facts] : Prop :=
  ∀ (m : (ℓ : Loc Cert.AdamSsmRefIdeal.nD Cert.AdamSsmRefIdeal.τ Cert.AdamSsmRefIdeal.sig) → Buf (Elt Ideal) ℓ) (g : Dev Cert.AdamSsmRefIdeal.nD → PrngReg), Pre_AdamSsmRefIdeal m →
    θ_run (Cert.AdamSsmRefIdeal.defs (F := Ideal)) (onTc (τ := Cert.AdamSsmRefIdeal.τ) (Cert.AdamSsmRefIdeal.main (F := Ideal))) ⟨m, fun _ => 0, g⟩ (fun r => (∀ c : Dev Cert.AdamSsmRefIdeal.nD,
      r.2.mem ((c.tc : Thread Cert.AdamSsmRefIdeal.nD Cert.AdamSsmRefIdeal.τ).loc Cert.AdamSsmRefIdeal.main_arg0) = m ((c.tc : Thread Cert.AdamSsmRefIdeal.nD Cert.AdamSsmRefIdeal.τ).loc Cert.AdamSsmRefIdeal.main_arg0)
      ∧ r.2.mem ((c.tc : Thread Cert.AdamSsmRefIdeal.nD Cert.AdamSsmRefIdeal.τ).loc Cert.AdamSsmRefIdeal.main_arg1) = m ((c.tc : Thread Cert.AdamSsmRefIdeal.nD Cert.AdamSsmRefIdeal.τ).loc Cert.AdamSsmRefIdeal.main_arg1)
      ∧ r.2.mem ((c.tc : Thread Cert.AdamSsmRefIdeal.nD Cert.AdamSsmRefIdeal.τ).loc Cert.AdamSsmRefIdeal.main_arg2) = m ((c.tc : Thread Cert.AdamSsmRefIdeal.nD Cert.AdamSsmRefIdeal.τ).loc Cert.AdamSsmRefIdeal.main_arg2)
      ∧ r.2.mem ((c.tc : Thread Cert.AdamSsmRefIdeal.nD Cert.AdamSsmRefIdeal.τ).loc Cert.AdamSsmRefIdeal.main_arg3) = m ((c.tc : Thread Cert.AdamSsmRefIdeal.nD Cert.AdamSsmRefIdeal.τ).loc Cert.AdamSsmRefIdeal.main_arg3))
      ∧ r.2.sem = fun _ => 0)

def quiescent_AdamGateUp [hAdamGateUp : Cert.AdamGateUp.Facts] : Prop :=
  ∀ (m : (ℓ : Loc Cert.AdamGateUp.nD Cert.AdamGateUp.τ Cert.AdamGateUp.sig) → Buf (Elt Bits) ℓ) (g : Dev Cert.AdamGateUp.nD → PrngReg), Pre_AdamGateUp m →
    θ_run (Cert.AdamGateUp.defs (F := Bits)) (onTc (τ := Cert.AdamGateUp.τ) (Cert.AdamGateUp.main (F := Bits))) ⟨m, fun _ => 0, g⟩ (fun r => (∀ c : Dev Cert.AdamGateUp.nD,
      r.2.mem ((c.tc : Thread Cert.AdamGateUp.nD Cert.AdamGateUp.τ).loc Cert.AdamGateUp.main_arg0) = m ((c.tc : Thread Cert.AdamGateUp.nD Cert.AdamGateUp.τ).loc Cert.AdamGateUp.main_arg0)
      ∧ r.2.mem ((c.tc : Thread Cert.AdamGateUp.nD Cert.AdamGateUp.τ).loc Cert.AdamGateUp.main_arg1) = m ((c.tc : Thread Cert.AdamGateUp.nD Cert.AdamGateUp.τ).loc Cert.AdamGateUp.main_arg1)
      ∧ r.2.mem ((c.tc : Thread Cert.AdamGateUp.nD Cert.AdamGateUp.τ).loc Cert.AdamGateUp.main_arg2) = m ((c.tc : Thread Cert.AdamGateUp.nD Cert.AdamGateUp.τ).loc Cert.AdamGateUp.main_arg2)
      ∧ r.2.mem ((c.tc : Thread Cert.AdamGateUp.nD Cert.AdamGateUp.τ).loc Cert.AdamGateUp.main_arg3) = m ((c.tc : Thread Cert.AdamGateUp.nD Cert.AdamGateUp.τ).loc Cert.AdamGateUp.main_arg3))
      ∧ r.2.sem = fun _ => 0)

def quiescent_AdamGateUpIdeal [hAdamGateUpIdeal : Cert.AdamGateUpIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg), Pre_AdamGateUpIdeal m →
    θ_run (Cert.AdamGateUpIdeal.defs (F := Ideal)) (onTc (τ := Cert.AdamGateUpIdeal.τ) (Cert.AdamGateUpIdeal.main (F := Ideal))) ⟨m, fun _ => 0, g⟩ (fun r => (∀ c : Dev Cert.AdamGateUpIdeal.nD,
      r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
      ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
      ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
      ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ r.2.sem = fun _ => 0)

def quiescent_AdamGateUpRefIdeal [hAdamGateUpRefIdeal : Cert.AdamGateUpRefIdeal.Facts] : Prop :=
  ∀ (m : (ℓ : Loc Cert.AdamGateUpRefIdeal.nD Cert.AdamGateUpRefIdeal.τ Cert.AdamGateUpRefIdeal.sig) → Buf (Elt Ideal) ℓ) (g : Dev Cert.AdamGateUpRefIdeal.nD → PrngReg), Pre_AdamGateUpRefIdeal m →
    θ_run (Cert.AdamGateUpRefIdeal.defs (F := Ideal)) (onTc (τ := Cert.AdamGateUpRefIdeal.τ) (Cert.AdamGateUpRefIdeal.main (F := Ideal))) ⟨m, fun _ => 0, g⟩ (fun r => (∀ c : Dev Cert.AdamGateUpRefIdeal.nD,
      r.2.mem ((c.tc : Thread Cert.AdamGateUpRefIdeal.nD Cert.AdamGateUpRefIdeal.τ).loc Cert.AdamGateUpRefIdeal.main_arg0) = m ((c.tc : Thread Cert.AdamGateUpRefIdeal.nD Cert.AdamGateUpRefIdeal.τ).loc Cert.AdamGateUpRefIdeal.main_arg0)
      ∧ r.2.mem ((c.tc : Thread Cert.AdamGateUpRefIdeal.nD Cert.AdamGateUpRefIdeal.τ).loc Cert.AdamGateUpRefIdeal.main_arg1) = m ((c.tc : Thread Cert.AdamGateUpRefIdeal.nD Cert.AdamGateUpRefIdeal.τ).loc Cert.AdamGateUpRefIdeal.main_arg1)
      ∧ r.2.mem ((c.tc : Thread Cert.AdamGateUpRefIdeal.nD Cert.AdamGateUpRefIdeal.τ).loc Cert.AdamGateUpRefIdeal.main_arg2) = m ((c.tc : Thread Cert.AdamGateUpRefIdeal.nD Cert.AdamGateUpRefIdeal.τ).loc Cert.AdamGateUpRefIdeal.main_arg2)
      ∧ r.2.mem ((c.tc : Thread Cert.AdamGateUpRefIdeal.nD Cert.AdamGateUpRefIdeal.τ).loc Cert.AdamGateUpRefIdeal.main_arg3) = m ((c.tc : Thread Cert.AdamGateUpRefIdeal.nD Cert.AdamGateUpRefIdeal.τ).loc Cert.AdamGateUpRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_XAttn [hXAttn : Cert.XAttn.Facts] : Prop :=
  ∀ (m : (ℓ : Loc Cert.XAttn.nD Cert.XAttn.τ Cert.XAttn.sig) → Buf (Elt Bits) ℓ) (g : Dev Cert.XAttn.nD → PrngReg), Pre_XAttn m →
    θ_run (Cert.XAttn.defs (F := Bits)) (onTc (τ := Cert.XAttn.τ) (Cert.XAttn.main (F := Bits))) ⟨m, fun _ => 0, g⟩ (fun r => (∀ c : Dev Cert.XAttn.nD,
      r.2.mem ((c.tc : Thread Cert.XAttn.nD Cert.XAttn.τ).loc Cert.XAttn.main_arg0) = m ((c.tc : Thread Cert.XAttn.nD Cert.XAttn.τ).loc Cert.XAttn.main_arg0)
      ∧ r.2.mem ((c.tc : Thread Cert.XAttn.nD Cert.XAttn.τ).loc Cert.XAttn.main_arg1) = m ((c.tc : Thread Cert.XAttn.nD Cert.XAttn.τ).loc Cert.XAttn.main_arg1)
      ∧ r.2.mem ((c.tc : Thread Cert.XAttn.nD Cert.XAttn.τ).loc Cert.XAttn.main_arg2) = m ((c.tc : Thread Cert.XAttn.nD Cert.XAttn.τ).loc Cert.XAttn.main_arg2))
      ∧ r.2.sem = fun _ => 0)

def quiescent_XAttnIdeal [hXAttnIdeal : Cert.XAttnIdeal.Facts] : Prop :=
  ∀ (m : (ℓ : Loc Cert.XAttnIdeal.nD Cert.XAttnIdeal.τ Cert.XAttnIdeal.sig) → Buf (Elt Ideal) ℓ) (g : Dev Cert.XAttnIdeal.nD → PrngReg), Pre_XAttnIdeal m →
    θ_run (Cert.XAttnIdeal.defs (F := Ideal)) (onTc (τ := Cert.XAttnIdeal.τ) (Cert.XAttnIdeal.main (F := Ideal))) ⟨m, fun _ => 0, g⟩ (fun r => (∀ c : Dev Cert.XAttnIdeal.nD,
      r.2.mem ((c.tc : Thread Cert.XAttnIdeal.nD Cert.XAttnIdeal.τ).loc Cert.XAttnIdeal.main_arg0) = m ((c.tc : Thread Cert.XAttnIdeal.nD Cert.XAttnIdeal.τ).loc Cert.XAttnIdeal.main_arg0)
      ∧ r.2.mem ((c.tc : Thread Cert.XAttnIdeal.nD Cert.XAttnIdeal.τ).loc Cert.XAttnIdeal.main_arg1) = m ((c.tc : Thread Cert.XAttnIdeal.nD Cert.XAttnIdeal.τ).loc Cert.XAttnIdeal.main_arg1)
      ∧ r.2.mem ((c.tc : Thread Cert.XAttnIdeal.nD Cert.XAttnIdeal.τ).loc Cert.XAttnIdeal.main_arg2) = m ((c.tc : Thread Cert.XAttnIdeal.nD Cert.XAttnIdeal.τ).loc Cert.XAttnIdeal.main_arg2))
      ∧ r.2.sem = fun _ => 0)

def quiescent_XAttnIdeal_pre_finite_xattn [hXAttnIdeal : Cert.XAttnIdeal.Facts] [hPre_finite_xattn : Cert.Pre_finite_xattn.Facts] : Prop :=
  ∀ (m : (ℓ : Loc Cert.XAttnIdeal.nD Cert.XAttnIdeal.τ Cert.XAttnIdeal.sig) → Buf (Elt Ideal) ℓ) (g : Dev Cert.XAttnIdeal.nD → PrngReg), Pre_XAttnIdeal_finite_xattn m →
    θ_run (Cert.XAttnIdeal.defs (F := Ideal)) (onTc (τ := Cert.XAttnIdeal.τ) (Cert.XAttnIdeal.main (F := Ideal))) ⟨m, fun _ => 0, g⟩ (fun r => (∀ c : Dev Cert.XAttnIdeal.nD,
      r.2.mem ((c.tc : Thread Cert.XAttnIdeal.nD Cert.XAttnIdeal.τ).loc Cert.XAttnIdeal.main_arg0) = m ((c.tc : Thread Cert.XAttnIdeal.nD Cert.XAttnIdeal.τ).loc Cert.XAttnIdeal.main_arg0)
      ∧ r.2.mem ((c.tc : Thread Cert.XAttnIdeal.nD Cert.XAttnIdeal.τ).loc Cert.XAttnIdeal.main_arg1) = m ((c.tc : Thread Cert.XAttnIdeal.nD Cert.XAttnIdeal.τ).loc Cert.XAttnIdeal.main_arg1)
      ∧ r.2.mem ((c.tc : Thread Cert.XAttnIdeal.nD Cert.XAttnIdeal.τ).loc Cert.XAttnIdeal.main_arg2) = m ((c.tc : Thread Cert.XAttnIdeal.nD Cert.XAttnIdeal.τ).loc Cert.XAttnIdeal.main_arg2))
      ∧ r.2.sem = fun _ => 0)

def quiescent_XAttnRefIdeal [hXAttnRefIdeal : Cert.XAttnRefIdeal.Facts] : Prop :=
  ∀ (m : (ℓ : Loc Cert.XAttnRefIdeal.nD Cert.XAttnRefIdeal.τ Cert.XAttnRefIdeal.sig) → Buf (Elt Ideal) ℓ) (g : Dev Cert.XAttnRefIdeal.nD → PrngReg), Pre_XAttnRefIdeal m →
    θ_run (Cert.XAttnRefIdeal.defs (F := Ideal)) (onTc (τ := Cert.XAttnRefIdeal.τ) (Cert.XAttnRefIdeal.main (F := Ideal))) ⟨m, fun _ => 0, g⟩ (fun r => (∀ c : Dev Cert.XAttnRefIdeal.nD,
      r.2.mem ((c.tc : Thread Cert.XAttnRefIdeal.nD Cert.XAttnRefIdeal.τ).loc Cert.XAttnRefIdeal.main_arg0) = m ((c.tc : Thread Cert.XAttnRefIdeal.nD Cert.XAttnRefIdeal.τ).loc Cert.XAttnRefIdeal.main_arg0)
      ∧ r.2.mem ((c.tc : Thread Cert.XAttnRefIdeal.nD Cert.XAttnRefIdeal.τ).loc Cert.XAttnRefIdeal.main_arg1) = m ((c.tc : Thread Cert.XAttnRefIdeal.nD Cert.XAttnRefIdeal.τ).loc Cert.XAttnRefIdeal.main_arg1)
      ∧ r.2.mem ((c.tc : Thread Cert.XAttnRefIdeal.nD Cert.XAttnRefIdeal.τ).loc Cert.XAttnRefIdeal.main_arg2) = m ((c.tc : Thread Cert.XAttnRefIdeal.nD Cert.XAttnRefIdeal.τ).loc Cert.XAttnRefIdeal.main_arg2))
      ∧ r.2.sem = fun _ => 0)

def quiescent_XAttnRefIdeal_pre_finite_xattn [hXAttnRefIdeal : Cert.XAttnRefIdeal.Facts] [hPre_finite_xattn : Cert.Pre_finite_xattn.Facts] : Prop :=
  ∀ (m : (ℓ : Loc Cert.XAttnRefIdeal.nD Cert.XAttnRefIdeal.τ Cert.XAttnRefIdeal.sig) → Buf (Elt Ideal) ℓ) (g : Dev Cert.XAttnRefIdeal.nD → PrngReg), Pre_XAttnRefIdeal_finite_xattn m →
    θ_run (Cert.XAttnRefIdeal.defs (F := Ideal)) (onTc (τ := Cert.XAttnRefIdeal.τ) (Cert.XAttnRefIdeal.main (F := Ideal))) ⟨m, fun _ => 0, g⟩ (fun r => (∀ c : Dev Cert.XAttnRefIdeal.nD,
      r.2.mem ((c.tc : Thread Cert.XAttnRefIdeal.nD Cert.XAttnRefIdeal.τ).loc Cert.XAttnRefIdeal.main_arg0) = m ((c.tc : Thread Cert.XAttnRefIdeal.nD Cert.XAttnRefIdeal.τ).loc Cert.XAttnRefIdeal.main_arg0)
      ∧ r.2.mem ((c.tc : Thread Cert.XAttnRefIdeal.nD Cert.XAttnRefIdeal.τ).loc Cert.XAttnRefIdeal.main_arg1) = m ((c.tc : Thread Cert.XAttnRefIdeal.nD Cert.XAttnRefIdeal.τ).loc Cert.XAttnRefIdeal.main_arg1)
      ∧ r.2.mem ((c.tc : Thread Cert.XAttnRefIdeal.nD Cert.XAttnRefIdeal.τ).loc Cert.XAttnRefIdeal.main_arg2) = m ((c.tc : Thread Cert.XAttnRefIdeal.nD Cert.XAttnRefIdeal.τ).loc Cert.XAttnRefIdeal.main_arg2))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ r.2.sem = fun _ => 0)

def quiescent_FfnLossIdeal_pre_finite_loss [hFfnLossIdeal : Cert.FfnLossIdeal.Facts] [hPre_finite_loss : Cert.Pre_finite_loss.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal_finite_loss m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4))
      ∧ r.2.sem = fun _ => 0)

def quiescent_FfnLossRefIdeal_pre_finite_loss [hFfnLossRefIdeal : Cert.FfnLossRefIdeal.Facts] [hPre_finite_loss : Cert.Pre_finite_loss.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal_finite_loss m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4))
      ∧ r.2.sem = fun _ => 0)

def quiescent_GateNorm [hGateNorm : Cert.GateNorm.Facts] : Prop :=
  ∀ (m : (ℓ : Loc Cert.GateNorm.nD Cert.GateNorm.τ Cert.GateNorm.sig) → Buf (Elt Bits) ℓ) (g : Dev Cert.GateNorm.nD → PrngReg), Pre_GateNorm m →
    θ_run (Cert.GateNorm.defs (F := Bits)) (onTc (τ := Cert.GateNorm.τ) (Cert.GateNorm.main (F := Bits))) ⟨m, fun _ => 0, g⟩ (fun r => (∀ c : Dev Cert.GateNorm.nD,
      r.2.mem ((c.tc : Thread Cert.GateNorm.nD Cert.GateNorm.τ).loc Cert.GateNorm.main_arg0) = m ((c.tc : Thread Cert.GateNorm.nD Cert.GateNorm.τ).loc Cert.GateNorm.main_arg0)
      ∧ r.2.mem ((c.tc : Thread Cert.GateNorm.nD Cert.GateNorm.τ).loc Cert.GateNorm.main_arg1) = m ((c.tc : Thread Cert.GateNorm.nD Cert.GateNorm.τ).loc Cert.GateNorm.main_arg1)
      ∧ r.2.mem ((c.tc : Thread Cert.GateNorm.nD Cert.GateNorm.τ).loc Cert.GateNorm.main_arg2) = m ((c.tc : Thread Cert.GateNorm.nD Cert.GateNorm.τ).loc Cert.GateNorm.main_arg2)
      ∧ r.2.mem ((c.tc : Thread Cert.GateNorm.nD Cert.GateNorm.τ).loc Cert.GateNorm.main_arg3) = m ((c.tc : Thread Cert.GateNorm.nD Cert.GateNorm.τ).loc Cert.GateNorm.main_arg3)
      ∧ r.2.mem ((c.tc : Thread Cert.GateNorm.nD Cert.GateNorm.τ).loc Cert.GateNorm.main_arg4) = m ((c.tc : Thread Cert.GateNorm.nD Cert.GateNorm.τ).loc Cert.GateNorm.main_arg4))
      ∧ r.2.sem = fun _ => 0)

def quiescent_GateNormIdeal [hGateNormIdeal : Cert.GateNormIdeal.Facts] : Prop :=
  ∀ (m : (ℓ : Loc Cert.GateNormIdeal.nD Cert.GateNormIdeal.τ Cert.GateNormIdeal.sig) → Buf (Elt Ideal) ℓ) (g : Dev Cert.GateNormIdeal.nD → PrngReg), Pre_GateNormIdeal m →
    θ_run (Cert.GateNormIdeal.defs (F := Ideal)) (onTc (τ := Cert.GateNormIdeal.τ) (Cert.GateNormIdeal.main (F := Ideal))) ⟨m, fun _ => 0, g⟩ (fun r => (∀ c : Dev Cert.GateNormIdeal.nD,
      r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
      ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
      ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2)
      ∧ r.2.mem ((c.tc : Thread Cert.GateNormIdeal.nD Cert.GateNormIdeal.τ).loc Cert.GateNormIdeal.main_arg3) = m ((c.tc : Thread Cert.GateNormIdeal.nD Cert.GateNormIdeal.τ).loc Cert.GateNormIdeal.main_arg3)
      ∧ r.2.mem ((c.tc : Thread Cert.GateNormIdeal.nD Cert.GateNormIdeal.τ).loc Cert.GateNormIdeal.main_arg4) = m ((c.tc : Thread Cert.GateNormIdeal.nD Cert.GateNormIdeal.τ).loc Cert.GateNormIdeal.main_arg4))
      ∧ r.2.sem = fun _ => 0)

def quiescent_GateNormIdeal_pre_finite_gate [hGateNormIdeal : Cert.GateNormIdeal.Facts] [hPre_finite_gate : Cert.Pre_finite_gate.Facts] : Prop :=
  ∀ (m : (ℓ : Loc Cert.GateNormIdeal.nD Cert.GateNormIdeal.τ Cert.GateNormIdeal.sig) → Buf (Elt Ideal) ℓ) (g : Dev Cert.GateNormIdeal.nD → PrngReg), Pre_GateNormIdeal_finite_gate m →
    θ_run (Cert.GateNormIdeal.defs (F := Ideal)) (onTc (τ := Cert.GateNormIdeal.τ) (Cert.GateNormIdeal.main (F := Ideal))) ⟨m, fun _ => 0, g⟩ (fun r => (∀ c : Dev Cert.GateNormIdeal.nD,
      r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
      ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
      ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2)
      ∧ r.2.mem ((c.tc : Thread Cert.GateNormIdeal.nD Cert.GateNormIdeal.τ).loc Cert.GateNormIdeal.main_arg3) = m ((c.tc : Thread Cert.GateNormIdeal.nD Cert.GateNormIdeal.τ).loc Cert.GateNormIdeal.main_arg3)
      ∧ r.2.mem ((c.tc : Thread Cert.GateNormIdeal.nD Cert.GateNormIdeal.τ).loc Cert.GateNormIdeal.main_arg4) = m ((c.tc : Thread Cert.GateNormIdeal.nD Cert.GateNormIdeal.τ).loc Cert.GateNormIdeal.main_arg4))
      ∧ r.2.sem = fun _ => 0)

def quiescent_GateNormRefIdeal [hGateNormRefIdeal : Cert.GateNormRefIdeal.Facts] : Prop :=
  ∀ (m : (ℓ : Loc Cert.GateNormRefIdeal.nD Cert.GateNormRefIdeal.τ Cert.GateNormRefIdeal.sig) → Buf (Elt Ideal) ℓ) (g : Dev Cert.GateNormRefIdeal.nD → PrngReg), Pre_GateNormRefIdeal m →
    θ_run (Cert.GateNormRefIdeal.defs (F := Ideal)) (onTc (τ := Cert.GateNormRefIdeal.τ) (Cert.GateNormRefIdeal.main (F := Ideal))) ⟨m, fun _ => 0, g⟩ (fun r => (∀ c : Dev Cert.GateNormRefIdeal.nD,
      r.2.mem ((c.tc : Thread Cert.GateNormRefIdeal.nD Cert.GateNormRefIdeal.τ).loc Cert.GateNormRefIdeal.main_arg0) = m ((c.tc : Thread Cert.GateNormRefIdeal.nD Cert.GateNormRefIdeal.τ).loc Cert.GateNormRefIdeal.main_arg0)
      ∧ r.2.mem ((c.tc : Thread Cert.GateNormRefIdeal.nD Cert.GateNormRefIdeal.τ).loc Cert.GateNormRefIdeal.main_arg1) = m ((c.tc : Thread Cert.GateNormRefIdeal.nD Cert.GateNormRefIdeal.τ).loc Cert.GateNormRefIdeal.main_arg1)
      ∧ r.2.mem ((c.tc : Thread Cert.GateNormRefIdeal.nD Cert.GateNormRefIdeal.τ).loc Cert.GateNormRefIdeal.main_arg2) = m ((c.tc : Thread Cert.GateNormRefIdeal.nD Cert.GateNormRefIdeal.τ).loc Cert.GateNormRefIdeal.main_arg2)
      ∧ r.2.mem ((c.tc : Thread Cert.GateNormRefIdeal.nD Cert.GateNormRefIdeal.τ).loc Cert.GateNormRefIdeal.main_arg3) = m ((c.tc : Thread Cert.GateNormRefIdeal.nD Cert.GateNormRefIdeal.τ).loc Cert.GateNormRefIdeal.main_arg3)
      ∧ r.2.mem ((c.tc : Thread Cert.GateNormRefIdeal.nD Cert.GateNormRefIdeal.τ).loc Cert.GateNormRefIdeal.main_arg4) = m ((c.tc : Thread Cert.GateNormRefIdeal.nD Cert.GateNormRefIdeal.τ).loc Cert.GateNormRefIdeal.main_arg4))
      ∧ r.2.sem = fun _ => 0)

def quiescent_GateNormRefIdeal_pre_finite_gate [hGateNormRefIdeal : Cert.GateNormRefIdeal.Facts] [hPre_finite_gate : Cert.Pre_finite_gate.Facts] : Prop :=
  ∀ (m : (ℓ : Loc Cert.GateNormRefIdeal.nD Cert.GateNormRefIdeal.τ Cert.GateNormRefIdeal.sig) → Buf (Elt Ideal) ℓ) (g : Dev Cert.GateNormRefIdeal.nD → PrngReg), Pre_GateNormRefIdeal_finite_gate m →
    θ_run (Cert.GateNormRefIdeal.defs (F := Ideal)) (onTc (τ := Cert.GateNormRefIdeal.τ) (Cert.GateNormRefIdeal.main (F := Ideal))) ⟨m, fun _ => 0, g⟩ (fun r => (∀ c : Dev Cert.GateNormRefIdeal.nD,
      r.2.mem ((c.tc : Thread Cert.GateNormRefIdeal.nD Cert.GateNormRefIdeal.τ).loc Cert.GateNormRefIdeal.main_arg0) = m ((c.tc : Thread Cert.GateNormRefIdeal.nD Cert.GateNormRefIdeal.τ).loc Cert.GateNormRefIdeal.main_arg0)
      ∧ r.2.mem ((c.tc : Thread Cert.GateNormRefIdeal.nD Cert.GateNormRefIdeal.τ).loc Cert.GateNormRefIdeal.main_arg1) = m ((c.tc : Thread Cert.GateNormRefIdeal.nD Cert.GateNormRefIdeal.τ).loc Cert.GateNormRefIdeal.main_arg1)
      ∧ r.2.mem ((c.tc : Thread Cert.GateNormRefIdeal.nD Cert.GateNormRefIdeal.τ).loc Cert.GateNormRefIdeal.main_arg2) = m ((c.tc : Thread Cert.GateNormRefIdeal.nD Cert.GateNormRefIdeal.τ).loc Cert.GateNormRefIdeal.main_arg2)
      ∧ r.2.mem ((c.tc : Thread Cert.GateNormRefIdeal.nD Cert.GateNormRefIdeal.τ).loc Cert.GateNormRefIdeal.main_arg3) = m ((c.tc : Thread Cert.GateNormRefIdeal.nD Cert.GateNormRefIdeal.τ).loc Cert.GateNormRefIdeal.main_arg3)
      ∧ r.2.mem ((c.tc : Thread Cert.GateNormRefIdeal.nD Cert.GateNormRefIdeal.τ).loc Cert.GateNormRefIdeal.main_arg4) = m ((c.tc : Thread Cert.GateNormRefIdeal.nD Cert.GateNormRefIdeal.τ).loc Cert.GateNormRefIdeal.main_arg4))
      ∧ r.2.sem = fun _ => 0)

def quiescent_MergeOut [hMergeOut : Cert.MergeOut.Facts] : Prop :=
  ∀ (m : (ℓ : Loc Cert.MergeOut.nD Cert.MergeOut.τ Cert.MergeOut.sig) → Buf (Elt Bits) ℓ) (g : Dev Cert.MergeOut.nD → PrngReg), Pre_MergeOut m →
    θ_run (Cert.MergeOut.defs (F := Bits)) (onTc (τ := Cert.MergeOut.τ) (Cert.MergeOut.main (F := Bits))) ⟨m, fun _ => 0, g⟩ (fun r => (∀ c : Dev Cert.MergeOut.nD,
      r.2.mem ((c.tc : Thread Cert.MergeOut.nD Cert.MergeOut.τ).loc Cert.MergeOut.main_arg0) = m ((c.tc : Thread Cert.MergeOut.nD Cert.MergeOut.τ).loc Cert.MergeOut.main_arg0)
      ∧ r.2.mem ((c.tc : Thread Cert.MergeOut.nD Cert.MergeOut.τ).loc Cert.MergeOut.main_arg1) = m ((c.tc : Thread Cert.MergeOut.nD Cert.MergeOut.τ).loc Cert.MergeOut.main_arg1)
      ∧ r.2.mem ((c.tc : Thread Cert.MergeOut.nD Cert.MergeOut.τ).loc Cert.MergeOut.main_arg2) = m ((c.tc : Thread Cert.MergeOut.nD Cert.MergeOut.τ).loc Cert.MergeOut.main_arg2)
      ∧ r.2.mem ((c.tc : Thread Cert.MergeOut.nD Cert.MergeOut.τ).loc Cert.MergeOut.main_arg3) = m ((c.tc : Thread Cert.MergeOut.nD Cert.MergeOut.τ).loc Cert.MergeOut.main_arg3)
      ∧ r.2.mem ((c.tc : Thread Cert.MergeOut.nD Cert.MergeOut.τ).loc Cert.MergeOut.main_arg4) = m ((c.tc : Thread Cert.MergeOut.nD Cert.MergeOut.τ).loc Cert.MergeOut.main_arg4)
      ∧ r.2.mem ((c.tc : Thread Cert.MergeOut.nD Cert.MergeOut.τ).loc Cert.MergeOut.main_arg5) = m ((c.tc : Thread Cert.MergeOut.nD Cert.MergeOut.τ).loc Cert.MergeOut.main_arg5))
      ∧ r.2.sem = fun _ => 0)

def quiescent_MergeOutIdeal [hMergeOutIdeal : Cert.MergeOutIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg), Pre_MergeOutIdeal m →
    θ_run (Cert.MergeOutIdeal.defs (F := Ideal)) (onTc (τ := Cert.MergeOutIdeal.τ) (Cert.MergeOutIdeal.main (F := Ideal))) ⟨m, fun _ => 0, g⟩ (fun r => (∀ c : Dev Cert.MergeOutIdeal.nD,
      r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
      ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
      ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
      ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
      ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
      ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5))
      ∧ r.2.sem = fun _ => 0)

def quiescent_MergeOutRefIdeal [hMergeOutRefIdeal : Cert.MergeOutRefIdeal.Facts] : Prop :=
  ∀ (m : (ℓ : Loc Cert.MergeOutRefIdeal.nD Cert.MergeOutRefIdeal.τ Cert.MergeOutRefIdeal.sig) → Buf (Elt Ideal) ℓ) (g : Dev Cert.MergeOutRefIdeal.nD → PrngReg), Pre_MergeOutRefIdeal m →
    θ_run (Cert.MergeOutRefIdeal.defs (F := Ideal)) (onTc (τ := Cert.MergeOutRefIdeal.τ) (Cert.MergeOutRefIdeal.main (F := Ideal))) ⟨m, fun _ => 0, g⟩ (fun r => (∀ c : Dev Cert.MergeOutRefIdeal.nD,
      r.2.mem ((c.tc : Thread Cert.MergeOutRefIdeal.nD Cert.MergeOutRefIdeal.τ).loc Cert.MergeOutRefIdeal.main_arg0) = m ((c.tc : Thread Cert.MergeOutRefIdeal.nD Cert.MergeOutRefIdeal.τ).loc Cert.MergeOutRefIdeal.main_arg0)
      ∧ r.2.mem ((c.tc : Thread Cert.MergeOutRefIdeal.nD Cert.MergeOutRefIdeal.τ).loc Cert.MergeOutRefIdeal.main_arg1) = m ((c.tc : Thread Cert.MergeOutRefIdeal.nD Cert.MergeOutRefIdeal.τ).loc Cert.MergeOutRefIdeal.main_arg1)
      ∧ r.2.mem ((c.tc : Thread Cert.MergeOutRefIdeal.nD Cert.MergeOutRefIdeal.τ).loc Cert.MergeOutRefIdeal.main_arg2) = m ((c.tc : Thread Cert.MergeOutRefIdeal.nD Cert.MergeOutRefIdeal.τ).loc Cert.MergeOutRefIdeal.main_arg2)
      ∧ r.2.mem ((c.tc : Thread Cert.MergeOutRefIdeal.nD Cert.MergeOutRefIdeal.τ).loc Cert.MergeOutRefIdeal.main_arg3) = m ((c.tc : Thread Cert.MergeOutRefIdeal.nD Cert.MergeOutRefIdeal.τ).loc Cert.MergeOutRefIdeal.main_arg3)
      ∧ r.2.mem ((c.tc : Thread Cert.MergeOutRefIdeal.nD Cert.MergeOutRefIdeal.τ).loc Cert.MergeOutRefIdeal.main_arg4) = m ((c.tc : Thread Cert.MergeOutRefIdeal.nD Cert.MergeOutRefIdeal.τ).loc Cert.MergeOutRefIdeal.main_arg4)
      ∧ r.2.mem ((c.tc : Thread Cert.MergeOutRefIdeal.nD Cert.MergeOutRefIdeal.τ).loc Cert.MergeOutRefIdeal.main_arg5) = m ((c.tc : Thread Cert.MergeOutRefIdeal.nD Cert.MergeOutRefIdeal.τ).loc Cert.MergeOutRefIdeal.main_arg5))
      ∧ r.2.sem = fun _ => 0)

def quiescent_GateOut [hGateOut : Cert.GateOut.Facts] : Prop :=
  ∀ (m : (ℓ : Loc Cert.GateOut.nD Cert.GateOut.τ Cert.GateOut.sig) → Buf (Elt Bits) ℓ) (g : Dev Cert.GateOut.nD → PrngReg), Pre_GateOut m →
    θ_run (Cert.GateOut.defs (F := Bits)) (onTc (τ := Cert.GateOut.τ) (Cert.GateOut.main (F := Bits))) ⟨m, fun _ => 0, g⟩ (fun r => (∀ c : Dev Cert.GateOut.nD,
      r.2.mem ((c.tc : Thread Cert.GateOut.nD Cert.GateOut.τ).loc Cert.GateOut.main_arg0) = m ((c.tc : Thread Cert.GateOut.nD Cert.GateOut.τ).loc Cert.GateOut.main_arg0)
      ∧ r.2.mem ((c.tc : Thread Cert.GateOut.nD Cert.GateOut.τ).loc Cert.GateOut.main_arg1) = m ((c.tc : Thread Cert.GateOut.nD Cert.GateOut.τ).loc Cert.GateOut.main_arg1)
      ∧ r.2.mem ((c.tc : Thread Cert.GateOut.nD Cert.GateOut.τ).loc Cert.GateOut.main_arg2) = m ((c.tc : Thread Cert.GateOut.nD Cert.GateOut.τ).loc Cert.GateOut.main_arg2)
      ∧ r.2.mem ((c.tc : Thread Cert.GateOut.nD Cert.GateOut.τ).loc Cert.GateOut.main_arg3) = m ((c.tc : Thread Cert.GateOut.nD Cert.GateOut.τ).loc Cert.GateOut.main_arg3))
      ∧ r.2.sem = fun _ => 0)

def quiescent_GateOutIdeal [hGateOutIdeal : Cert.GateOutIdeal.Facts] : Prop :=
  ∀ (m : (ℓ : Loc Cert.GateOutIdeal.nD Cert.GateOutIdeal.τ Cert.GateOutIdeal.sig) → Buf (Elt Ideal) ℓ) (g : Dev Cert.GateOutIdeal.nD → PrngReg), Pre_GateOutIdeal m →
    θ_run (Cert.GateOutIdeal.defs (F := Ideal)) (onTc (τ := Cert.GateOutIdeal.τ) (Cert.GateOutIdeal.main (F := Ideal))) ⟨m, fun _ => 0, g⟩ (fun r => (∀ c : Dev Cert.GateOutIdeal.nD,
      r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
      ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1)
      ∧ r.2.mem ((c.tc : Thread Cert.GateOutIdeal.nD Cert.GateOutIdeal.τ).loc Cert.GateOutIdeal.main_arg2) = m ((c.tc : Thread Cert.GateOutIdeal.nD Cert.GateOutIdeal.τ).loc Cert.GateOutIdeal.main_arg2)
      ∧ r.2.mem ((c.tc : Thread Cert.GateOutIdeal.nD Cert.GateOutIdeal.τ).loc Cert.GateOutIdeal.main_arg3) = m ((c.tc : Thread Cert.GateOutIdeal.nD Cert.GateOutIdeal.τ).loc Cert.GateOutIdeal.main_arg3))
      ∧ r.2.sem = fun _ => 0)

def quiescent_GateOutRefIdeal [hGateOutRefIdeal : Cert.GateOutRefIdeal.Facts] : Prop :=
  ∀ (m : (ℓ : Loc Cert.GateOutRefIdeal.nD Cert.GateOutRefIdeal.τ Cert.GateOutRefIdeal.sig) → Buf (Elt Ideal) ℓ) (g : Dev Cert.GateOutRefIdeal.nD → PrngReg), Pre_GateOutRefIdeal m →
    θ_run (Cert.GateOutRefIdeal.defs (F := Ideal)) (onTc (τ := Cert.GateOutRefIdeal.τ) (Cert.GateOutRefIdeal.main (F := Ideal))) ⟨m, fun _ => 0, g⟩ (fun r => (∀ c : Dev Cert.GateOutRefIdeal.nD,
      r.2.mem ((c.tc : Thread Cert.GateOutRefIdeal.nD Cert.GateOutRefIdeal.τ).loc Cert.GateOutRefIdeal.main_arg0) = m ((c.tc : Thread Cert.GateOutRefIdeal.nD Cert.GateOutRefIdeal.τ).loc Cert.GateOutRefIdeal.main_arg0)
      ∧ r.2.mem ((c.tc : Thread Cert.GateOutRefIdeal.nD Cert.GateOutRefIdeal.τ).loc Cert.GateOutRefIdeal.main_arg1) = m ((c.tc : Thread Cert.GateOutRefIdeal.nD Cert.GateOutRefIdeal.τ).loc Cert.GateOutRefIdeal.main_arg1)
      ∧ r.2.mem ((c.tc : Thread Cert.GateOutRefIdeal.nD Cert.GateOutRefIdeal.τ).loc Cert.GateOutRefIdeal.main_arg2) = m ((c.tc : Thread Cert.GateOutRefIdeal.nD Cert.GateOutRefIdeal.τ).loc Cert.GateOutRefIdeal.main_arg2)
      ∧ r.2.mem ((c.tc : Thread Cert.GateOutRefIdeal.nD Cert.GateOutRefIdeal.τ).loc Cert.GateOutRefIdeal.main_arg3) = m ((c.tc : Thread Cert.GateOutRefIdeal.nD Cert.GateOutRefIdeal.τ).loc Cert.GateOutRefIdeal.main_arg3))
      ∧ r.2.sem = fun _ => 0)

def quiescent_XFwd [hXFwd : Cert.XFwd.Facts] : Prop :=
  ∀ (m : (ℓ : Loc Cert.XFwd.nD Cert.XFwd.τ Cert.XFwd.sig) → Buf (Elt Bits) ℓ) (g : Dev Cert.XFwd.nD → PrngReg), Pre_XFwd m →
    θ_run (Cert.XFwd.defs (F := Bits)) (onTc (τ := Cert.XFwd.τ) (Cert.XFwd.main (F := Bits))) ⟨m, fun _ => 0, g⟩ (fun r => (∀ c : Dev Cert.XFwd.nD,
      r.2.mem ((c.tc : Thread Cert.XFwd.nD Cert.XFwd.τ).loc Cert.XFwd.main_arg0) = m ((c.tc : Thread Cert.XFwd.nD Cert.XFwd.τ).loc Cert.XFwd.main_arg0)
      ∧ r.2.mem ((c.tc : Thread Cert.XFwd.nD Cert.XFwd.τ).loc Cert.XFwd.main_arg1) = m ((c.tc : Thread Cert.XFwd.nD Cert.XFwd.τ).loc Cert.XFwd.main_arg1))
      ∧ r.2.sem = fun _ => 0)

def quiescent_XFwdIdeal [hXFwdIdeal : Cert.XFwdIdeal.Facts] : Prop :=
  ∀ (m : (ℓ : Loc Cert.XFwdIdeal.nD Cert.XFwdIdeal.τ Cert.XFwdIdeal.sig) → Buf (Elt Ideal) ℓ) (g : Dev Cert.XFwdIdeal.nD → PrngReg), Pre_XFwdIdeal m →
    θ_run (Cert.XFwdIdeal.defs (F := Ideal)) (onTc (τ := Cert.XFwdIdeal.τ) (Cert.XFwdIdeal.main (F := Ideal))) ⟨m, fun _ => 0, g⟩ (fun r => (∀ c : Dev Cert.XFwdIdeal.nD,
      r.2.mem ((c.tc : Thread Cert.XFwdIdeal.nD Cert.XFwdIdeal.τ).loc Cert.XFwdIdeal.main_arg0) = m ((c.tc : Thread Cert.XFwdIdeal.nD Cert.XFwdIdeal.τ).loc Cert.XFwdIdeal.main_arg0)
      ∧ r.2.mem ((c.tc : Thread Cert.XFwdIdeal.nD Cert.XFwdIdeal.τ).loc Cert.XFwdIdeal.main_arg1) = m ((c.tc : Thread Cert.XFwdIdeal.nD Cert.XFwdIdeal.τ).loc Cert.XFwdIdeal.main_arg1))
      ∧ r.2.sem = fun _ => 0)

def quiescent_XFwdIdeal_pre_finite_scores [hXFwdIdeal : Cert.XFwdIdeal.Facts] [hPre_finite_scores : Cert.Pre_finite_scores.Facts] : Prop :=
  ∀ (m : (ℓ : Loc Cert.XFwdIdeal.nD Cert.XFwdIdeal.τ Cert.XFwdIdeal.sig) → Buf (Elt Ideal) ℓ) (g : Dev Cert.XFwdIdeal.nD → PrngReg), Pre_XFwdIdeal_finite_scores m →
    θ_run (Cert.XFwdIdeal.defs (F := Ideal)) (onTc (τ := Cert.XFwdIdeal.τ) (Cert.XFwdIdeal.main (F := Ideal))) ⟨m, fun _ => 0, g⟩ (fun r => (∀ c : Dev Cert.XFwdIdeal.nD,
      r.2.mem ((c.tc : Thread Cert.XFwdIdeal.nD Cert.XFwdIdeal.τ).loc Cert.XFwdIdeal.main_arg0) = m ((c.tc : Thread Cert.XFwdIdeal.nD Cert.XFwdIdeal.τ).loc Cert.XFwdIdeal.main_arg0)
      ∧ r.2.mem ((c.tc : Thread Cert.XFwdIdeal.nD Cert.XFwdIdeal.τ).loc Cert.XFwdIdeal.main_arg1) = m ((c.tc : Thread Cert.XFwdIdeal.nD Cert.XFwdIdeal.τ).loc Cert.XFwdIdeal.main_arg1))
      ∧ r.2.sem = fun _ => 0)

def quiescent_XFwdRefIdeal [hXFwdRefIdeal : Cert.XFwdRefIdeal.Facts] : Prop :=
  ∀ (m : (ℓ : Loc Cert.XFwdRefIdeal.nD Cert.XFwdRefIdeal.τ Cert.XFwdRefIdeal.sig) → Buf (Elt Ideal) ℓ) (g : Dev Cert.XFwdRefIdeal.nD → PrngReg), Pre_XFwdRefIdeal m →
    θ_run (Cert.XFwdRefIdeal.defs (F := Ideal)) (onTc (τ := Cert.XFwdRefIdeal.τ) (Cert.XFwdRefIdeal.main (F := Ideal))) ⟨m, fun _ => 0, g⟩ (fun r => (∀ c : Dev Cert.XFwdRefIdeal.nD,
      r.2.mem ((c.tc : Thread Cert.XFwdRefIdeal.nD Cert.XFwdRefIdeal.τ).loc Cert.XFwdRefIdeal.main_arg0) = m ((c.tc : Thread Cert.XFwdRefIdeal.nD Cert.XFwdRefIdeal.τ).loc Cert.XFwdRefIdeal.main_arg0)
      ∧ r.2.mem ((c.tc : Thread Cert.XFwdRefIdeal.nD Cert.XFwdRefIdeal.τ).loc Cert.XFwdRefIdeal.main_arg1) = m ((c.tc : Thread Cert.XFwdRefIdeal.nD Cert.XFwdRefIdeal.τ).loc Cert.XFwdRefIdeal.main_arg1))
      ∧ r.2.sem = fun _ => 0)

def quiescent_XFwdRefIdeal_pre_finite_scores [hXFwdRefIdeal : Cert.XFwdRefIdeal.Facts] [hPre_finite_scores : Cert.Pre_finite_scores.Facts] : Prop :=
  ∀ (m : (ℓ : Loc Cert.XFwdRefIdeal.nD Cert.XFwdRefIdeal.τ Cert.XFwdRefIdeal.sig) → Buf (Elt Ideal) ℓ) (g : Dev Cert.XFwdRefIdeal.nD → PrngReg), Pre_XFwdRefIdeal_finite_scores m →
    θ_run (Cert.XFwdRefIdeal.defs (F := Ideal)) (onTc (τ := Cert.XFwdRefIdeal.τ) (Cert.XFwdRefIdeal.main (F := Ideal))) ⟨m, fun _ => 0, g⟩ (fun r => (∀ c : Dev Cert.XFwdRefIdeal.nD,
      r.2.mem ((c.tc : Thread Cert.XFwdRefIdeal.nD Cert.XFwdRefIdeal.τ).loc Cert.XFwdRefIdeal.main_arg0) = m ((c.tc : Thread Cert.XFwdRefIdeal.nD Cert.XFwdRefIdeal.τ).loc Cert.XFwdRefIdeal.main_arg0)
      ∧ r.2.mem ((c.tc : Thread Cert.XFwdRefIdeal.nD Cert.XFwdRefIdeal.τ).loc Cert.XFwdRefIdeal.main_arg1) = m ((c.tc : Thread Cert.XFwdRefIdeal.nD Cert.XFwdRefIdeal.τ).loc Cert.XFwdRefIdeal.main_arg1))
      ∧ r.2.sem = fun _ => 0)

def quiescent_CAFwd [hCAFwd : Cert.CAFwd.Facts] : Prop :=
  ∀ (m : (ℓ : Loc Cert.CAFwd.nD Cert.CAFwd.τ Cert.CAFwd.sig) → Buf (Elt Bits) ℓ) (g : Dev Cert.CAFwd.nD → PrngReg), Pre_CAFwd m →
    θ_run (Cert.CAFwd.defs (F := Bits)) (onTc (τ := Cert.CAFwd.τ) (Cert.CAFwd.main (F := Bits))) ⟨m, fun _ => 0, g⟩ (fun r => (∀ c : Dev Cert.CAFwd.nD,
      r.2.mem ((c.tc : Thread Cert.CAFwd.nD Cert.CAFwd.τ).loc Cert.CAFwd.main_arg0) = m ((c.tc : Thread Cert.CAFwd.nD Cert.CAFwd.τ).loc Cert.CAFwd.main_arg0)
      ∧ r.2.mem ((c.tc : Thread Cert.CAFwd.nD Cert.CAFwd.τ).loc Cert.CAFwd.main_arg1) = m ((c.tc : Thread Cert.CAFwd.nD Cert.CAFwd.τ).loc Cert.CAFwd.main_arg1))
      ∧ r.2.sem = fun _ => 0)

def quiescent_CAFwdIdeal [hCAFwdIdeal : Cert.CAFwdIdeal.Facts] : Prop :=
  ∀ (m : (ℓ : Loc Cert.CAFwdIdeal.nD Cert.CAFwdIdeal.τ Cert.CAFwdIdeal.sig) → Buf (Elt Ideal) ℓ) (g : Dev Cert.CAFwdIdeal.nD → PrngReg), Pre_CAFwdIdeal m →
    θ_run (Cert.CAFwdIdeal.defs (F := Ideal)) (onTc (τ := Cert.CAFwdIdeal.τ) (Cert.CAFwdIdeal.main (F := Ideal))) ⟨m, fun _ => 0, g⟩ (fun r => (∀ c : Dev Cert.CAFwdIdeal.nD,
      r.2.mem ((c.tc : Thread Cert.CAFwdIdeal.nD Cert.CAFwdIdeal.τ).loc Cert.CAFwdIdeal.main_arg0) = m ((c.tc : Thread Cert.CAFwdIdeal.nD Cert.CAFwdIdeal.τ).loc Cert.CAFwdIdeal.main_arg0)
      ∧ r.2.mem ((c.tc : Thread Cert.CAFwdIdeal.nD Cert.CAFwdIdeal.τ).loc Cert.CAFwdIdeal.main_arg1) = m ((c.tc : Thread Cert.CAFwdIdeal.nD Cert.CAFwdIdeal.τ).loc Cert.CAFwdIdeal.main_arg1))
      ∧ r.2.sem = fun _ => 0)

def quiescent_CAFwdRefIdeal [hCAFwdRefIdeal : Cert.CAFwdRefIdeal.Facts] : Prop :=
  ∀ (m : (ℓ : Loc Cert.CAFwdRefIdeal.nD Cert.CAFwdRefIdeal.τ Cert.CAFwdRefIdeal.sig) → Buf (Elt Ideal) ℓ) (g : Dev Cert.CAFwdRefIdeal.nD → PrngReg), Pre_CAFwdRefIdeal m →
    θ_run (Cert.CAFwdRefIdeal.defs (F := Ideal)) (onTc (τ := Cert.CAFwdRefIdeal.τ) (Cert.CAFwdRefIdeal.main (F := Ideal))) ⟨m, fun _ => 0, g⟩ (fun r => (∀ c : Dev Cert.CAFwdRefIdeal.nD,
      r.2.mem ((c.tc : Thread Cert.CAFwdRefIdeal.nD Cert.CAFwdRefIdeal.τ).loc Cert.CAFwdRefIdeal.main_arg0) = m ((c.tc : Thread Cert.CAFwdRefIdeal.nD Cert.CAFwdRefIdeal.τ).loc Cert.CAFwdRefIdeal.main_arg0)
      ∧ r.2.mem ((c.tc : Thread Cert.CAFwdRefIdeal.nD Cert.CAFwdRefIdeal.τ).loc Cert.CAFwdRefIdeal.main_arg1) = m ((c.tc : Thread Cert.CAFwdRefIdeal.nD Cert.CAFwdRefIdeal.τ).loc Cert.CAFwdRefIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1))
      ∧ r.2.sem = fun _ => 0)

def quiescent_RowNorm [hRowNorm : Cert.RowNorm.Facts] : Prop :=
  ∀ (m : (ℓ : Loc Cert.RowNorm.nD Cert.RowNorm.τ Cert.RowNorm.sig) → Buf (Elt Bits) ℓ) (g : Dev Cert.RowNorm.nD → PrngReg), Pre_RowNorm m →
    θ_run (Cert.RowNorm.defs (F := Bits)) (onTc (τ := Cert.RowNorm.τ) (Cert.RowNorm.main (F := Bits))) ⟨m, fun _ => 0, g⟩ (fun r => (∀ c : Dev Cert.RowNorm.nD,
      r.2.mem ((c.tc : Thread Cert.RowNorm.nD Cert.RowNorm.τ).loc Cert.RowNorm.main_arg0) = m ((c.tc : Thread Cert.RowNorm.nD Cert.RowNorm.τ).loc Cert.RowNorm.main_arg0)
      ∧ r.2.mem ((c.tc : Thread Cert.RowNorm.nD Cert.RowNorm.τ).loc Cert.RowNorm.main_arg1) = m ((c.tc : Thread Cert.RowNorm.nD Cert.RowNorm.τ).loc Cert.RowNorm.main_arg1))
      ∧ r.2.sem = fun _ => 0)

def quiescent_RowNormIdeal [hRowNormIdeal : Cert.RowNormIdeal.Facts] : Prop :=
  ∀ (m : (ℓ : Loc Cert.RowNormIdeal.nD Cert.RowNormIdeal.τ Cert.RowNormIdeal.sig) → Buf (Elt Ideal) ℓ) (g : Dev Cert.RowNormIdeal.nD → PrngReg), Pre_RowNormIdeal m →
    θ_run (Cert.RowNormIdeal.defs (F := Ideal)) (onTc (τ := Cert.RowNormIdeal.τ) (Cert.RowNormIdeal.main (F := Ideal))) ⟨m, fun _ => 0, g⟩ (fun r => (∀ c : Dev Cert.RowNormIdeal.nD,
      r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
      ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ r.2.sem = fun _ => 0)

def quiescent_RowNormRefIdeal [hRowNormRefIdeal : Cert.RowNormRefIdeal.Facts] : Prop :=
  ∀ (m : (ℓ : Loc Cert.RowNormRefIdeal.nD Cert.RowNormRefIdeal.τ Cert.RowNormRefIdeal.sig) → Buf (Elt Ideal) ℓ) (g : Dev Cert.RowNormRefIdeal.nD → PrngReg), Pre_RowNormRefIdeal m →
    θ_run (Cert.RowNormRefIdeal.defs (F := Ideal)) (onTc (τ := Cert.RowNormRefIdeal.τ) (Cert.RowNormRefIdeal.main (F := Ideal))) ⟨m, fun _ => 0, g⟩ (fun r => (∀ c : Dev Cert.RowNormRefIdeal.nD,
      r.2.mem ((c.tc : Thread Cert.RowNormRefIdeal.nD Cert.RowNormRefIdeal.τ).loc Cert.RowNormRefIdeal.main_arg0) = m ((c.tc : Thread Cert.RowNormRefIdeal.nD Cert.RowNormRefIdeal.τ).loc Cert.RowNormRefIdeal.main_arg0)
      ∧ r.2.mem ((c.tc : Thread Cert.RowNormRefIdeal.nD Cert.RowNormRefIdeal.τ).loc Cert.RowNormRefIdeal.main_arg1) = m ((c.tc : Thread Cert.RowNormRefIdeal.nD Cert.RowNormRefIdeal.τ).loc Cert.RowNormRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_DwKey [hDwKey : Cert.DwKey.Facts] : Prop :=
  ∀ (m : (ℓ : Loc Cert.DwKey.nD Cert.DwKey.τ Cert.DwKey.sig) → Buf (Elt Bits) ℓ) (g : Dev Cert.DwKey.nD → PrngReg), Pre_DwKey m →
    θ_run (Cert.DwKey.defs (F := Bits)) (onTc (τ := Cert.DwKey.τ) (Cert.DwKey.main (F := Bits))) ⟨m, fun _ => 0, g⟩ (fun r => (∀ c : Dev Cert.DwKey.nD,
      r.2.mem ((c.tc : Thread Cert.DwKey.nD Cert.DwKey.τ).loc Cert.DwKey.main_arg0) = m ((c.tc : Thread Cert.DwKey.nD Cert.DwKey.τ).loc Cert.DwKey.main_arg0)
      ∧ r.2.mem ((c.tc : Thread Cert.DwKey.nD Cert.DwKey.τ).loc Cert.DwKey.main_arg1) = m ((c.tc : Thread Cert.DwKey.nD Cert.DwKey.τ).loc Cert.DwKey.main_arg1))
      ∧ r.2.sem = fun _ => 0)

def quiescent_DwKeyIdeal [hDwKeyIdeal : Cert.DwKeyIdeal.Facts] : Prop :=
  ∀ (m : (ℓ : Loc Cert.DwKeyIdeal.nD Cert.DwKeyIdeal.τ Cert.DwKeyIdeal.sig) → Buf (Elt Ideal) ℓ) (g : Dev Cert.DwKeyIdeal.nD → PrngReg), Pre_DwKeyIdeal m →
    θ_run (Cert.DwKeyIdeal.defs (F := Ideal)) (onTc (τ := Cert.DwKeyIdeal.τ) (Cert.DwKeyIdeal.main (F := Ideal))) ⟨m, fun _ => 0, g⟩ (fun r => (∀ c : Dev Cert.DwKeyIdeal.nD,
      r.2.mem ((c.tc : Thread Cert.DwKeyIdeal.nD Cert.DwKeyIdeal.τ).loc Cert.DwKeyIdeal.main_arg0) = m ((c.tc : Thread Cert.DwKeyIdeal.nD Cert.DwKeyIdeal.τ).loc Cert.DwKeyIdeal.main_arg0)
      ∧ r.2.mem ((c.tc : Thread Cert.DwKeyIdeal.nD Cert.DwKeyIdeal.τ).loc Cert.DwKeyIdeal.main_arg1) = m ((c.tc : Thread Cert.DwKeyIdeal.nD Cert.DwKeyIdeal.τ).loc Cert.DwKeyIdeal.main_arg1))
      ∧ r.2.sem = fun _ => 0)

def quiescent_DwKeyRefIdeal [hDwKeyRefIdeal : Cert.DwKeyRefIdeal.Facts] : Prop :=
  ∀ (m : (ℓ : Loc Cert.DwKeyRefIdeal.nD Cert.DwKeyRefIdeal.τ Cert.DwKeyRefIdeal.sig) → Buf (Elt Ideal) ℓ) (g : Dev Cert.DwKeyRefIdeal.nD → PrngReg), Pre_DwKeyRefIdeal m →
    θ_run (Cert.DwKeyRefIdeal.defs (F := Ideal)) (onTc (τ := Cert.DwKeyRefIdeal.τ) (Cert.DwKeyRefIdeal.main (F := Ideal))) ⟨m, fun _ => 0, g⟩ (fun r => (∀ c : Dev Cert.DwKeyRefIdeal.nD,
      r.2.mem ((c.tc : Thread Cert.DwKeyRefIdeal.nD Cert.DwKeyRefIdeal.τ).loc Cert.DwKeyRefIdeal.main_arg0) = m ((c.tc : Thread Cert.DwKeyRefIdeal.nD Cert.DwKeyRefIdeal.τ).loc Cert.DwKeyRefIdeal.main_arg0)
      ∧ r.2.mem ((c.tc : Thread Cert.DwKeyRefIdeal.nD Cert.DwKeyRefIdeal.τ).loc Cert.DwKeyRefIdeal.main_arg1) = m ((c.tc : Thread Cert.DwKeyRefIdeal.nD Cert.DwKeyRefIdeal.τ).loc Cert.DwKeyRefIdeal.main_arg1))
      ∧ r.2.sem = fun _ => 0)

def quiescent_DwVal [hDwVal : Cert.DwVal.Facts] : Prop :=
  ∀ (m : (ℓ : Loc Cert.DwVal.nD Cert.DwVal.τ Cert.DwVal.sig) → Buf (Elt Bits) ℓ) (g : Dev Cert.DwVal.nD → PrngReg), Pre_DwVal m →
    θ_run (Cert.DwVal.defs (F := Bits)) (onTc (τ := Cert.DwVal.τ) (Cert.DwVal.main (F := Bits))) ⟨m, fun _ => 0, g⟩ (fun r => (∀ c : Dev Cert.DwVal.nD,
      r.2.mem ((c.tc : Thread Cert.DwVal.nD Cert.DwVal.τ).loc Cert.DwVal.main_arg0) = m ((c.tc : Thread Cert.DwVal.nD Cert.DwVal.τ).loc Cert.DwVal.main_arg0)
      ∧ r.2.mem ((c.tc : Thread Cert.DwVal.nD Cert.DwVal.τ).loc Cert.DwVal.main_arg1) = m ((c.tc : Thread Cert.DwVal.nD Cert.DwVal.τ).loc Cert.DwVal.main_arg1)
      ∧ r.2.mem ((c.tc : Thread Cert.DwVal.nD Cert.DwVal.τ).loc Cert.DwVal.main_arg2) = m ((c.tc : Thread Cert.DwVal.nD Cert.DwVal.τ).loc Cert.DwVal.main_arg2))
      ∧ r.2.sem = fun _ => 0)

def quiescent_DwValIdeal [hDwValIdeal : Cert.DwValIdeal.Facts] : Prop :=
  ∀ (m : (ℓ : Loc Cert.DwValIdeal.nD Cert.DwValIdeal.τ Cert.DwValIdeal.sig) → Buf (Elt Ideal) ℓ) (g : Dev Cert.DwValIdeal.nD → PrngReg), Pre_DwValIdeal m →
    θ_run (Cert.DwValIdeal.defs (F := Ideal)) (onTc (τ := Cert.DwValIdeal.τ) (Cert.DwValIdeal.main (F := Ideal))) ⟨m, fun _ => 0, g⟩ (fun r => (∀ c : Dev Cert.DwValIdeal.nD,
      r.2.mem ((c.tc : Thread Cert.DwValIdeal.nD Cert.DwValIdeal.τ).loc Cert.DwValIdeal.main_arg0) = m ((c.tc : Thread Cert.DwValIdeal.nD Cert.DwValIdeal.τ).loc Cert.DwValIdeal.main_arg0)
      ∧ r.2.mem ((c.tc : Thread Cert.DwValIdeal.nD Cert.DwValIdeal.τ).loc Cert.DwValIdeal.main_arg1) = m ((c.tc : Thread Cert.DwValIdeal.nD Cert.DwValIdeal.τ).loc Cert.DwValIdeal.main_arg1)
      ∧ r.2.mem ((c.tc : Thread Cert.DwValIdeal.nD Cert.DwValIdeal.τ).loc Cert.DwValIdeal.main_arg2) = m ((c.tc : Thread Cert.DwValIdeal.nD Cert.DwValIdeal.τ).loc Cert.DwValIdeal.main_arg2))
      ∧ r.2.sem = fun _ => 0)

def quiescent_DwValRefIdeal [hDwValRefIdeal : Cert.DwValRefIdeal.Facts] : Prop :=
  ∀ (m : (ℓ : Loc Cert.DwValRefIdeal.nD Cert.DwValRefIdeal.τ Cert.DwValRefIdeal.sig) → Buf (Elt Ideal) ℓ) (g : Dev Cert.DwValRefIdeal.nD → PrngReg), Pre_DwValRefIdeal m →
    θ_run (Cert.DwValRefIdeal.defs (F := Ideal)) (onTc (τ := Cert.DwValRefIdeal.τ) (Cert.DwValRefIdeal.main (F := Ideal))) ⟨m, fun _ => 0, g⟩ (fun r => (∀ c : Dev Cert.DwValRefIdeal.nD,
      r.2.mem ((c.tc : Thread Cert.DwValRefIdeal.nD Cert.DwValRefIdeal.τ).loc Cert.DwValRefIdeal.main_arg0) = m ((c.tc : Thread Cert.DwValRefIdeal.nD Cert.DwValRefIdeal.τ).loc Cert.DwValRefIdeal.main_arg0)
      ∧ r.2.mem ((c.tc : Thread Cert.DwValRefIdeal.nD Cert.DwValRefIdeal.τ).loc Cert.DwValRefIdeal.main_arg1) = m ((c.tc : Thread Cert.DwValRefIdeal.nD Cert.DwValRefIdeal.τ).loc Cert.DwValRefIdeal.main_arg1)
      ∧ r.2.mem ((c.tc : Thread Cert.DwValRefIdeal.nD Cert.DwValRefIdeal.τ).loc Cert.DwValRefIdeal.main_arg2) = m ((c.tc : Thread Cert.DwValRefIdeal.nD Cert.DwValRefIdeal.τ).loc Cert.DwValRefIdeal.main_arg2))
      ∧ r.2.sem = fun _ => 0)

def quiescent_InDt [hInDt : Cert.InDt.Facts] : Prop :=
  ∀ (m : (ℓ : Loc Cert.InDt.nD Cert.InDt.τ Cert.InDt.sig) → Buf (Elt Bits) ℓ) (g : Dev Cert.InDt.nD → PrngReg), Pre_InDt m →
    θ_run (Cert.InDt.defs (F := Bits)) (onTc (τ := Cert.InDt.τ) (Cert.InDt.main (F := Bits))) ⟨m, fun _ => 0, g⟩ (fun r => (∀ c : Dev Cert.InDt.nD,
      r.2.mem ((c.tc : Thread Cert.InDt.nD Cert.InDt.τ).loc Cert.InDt.main_arg0) = m ((c.tc : Thread Cert.InDt.nD Cert.InDt.τ).loc Cert.InDt.main_arg0)
      ∧ r.2.mem ((c.tc : Thread Cert.InDt.nD Cert.InDt.τ).loc Cert.InDt.main_arg1) = m ((c.tc : Thread Cert.InDt.nD Cert.InDt.τ).loc Cert.InDt.main_arg1))
      ∧ r.2.sem = fun _ => 0)

def quiescent_InDtIdeal [hInDtIdeal : Cert.InDtIdeal.Facts] : Prop :=
  ∀ (m : (ℓ : Loc Cert.InDtIdeal.nD Cert.InDtIdeal.τ Cert.InDtIdeal.sig) → Buf (Elt Ideal) ℓ) (g : Dev Cert.InDtIdeal.nD → PrngReg), Pre_InDtIdeal m →
    θ_run (Cert.InDtIdeal.defs (F := Ideal)) (onTc (τ := Cert.InDtIdeal.τ) (Cert.InDtIdeal.main (F := Ideal))) ⟨m, fun _ => 0, g⟩ (fun r => (∀ c : Dev Cert.InDtIdeal.nD,
      r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
      ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ r.2.sem = fun _ => 0)

def quiescent_InDtRefIdeal [hInDtRefIdeal : Cert.InDtRefIdeal.Facts] : Prop :=
  ∀ (m : (ℓ : Loc Cert.InDtRefIdeal.nD Cert.InDtRefIdeal.τ Cert.InDtRefIdeal.sig) → Buf (Elt Ideal) ℓ) (g : Dev Cert.InDtRefIdeal.nD → PrngReg), Pre_InDtRefIdeal m →
    θ_run (Cert.InDtRefIdeal.defs (F := Ideal)) (onTc (τ := Cert.InDtRefIdeal.τ) (Cert.InDtRefIdeal.main (F := Ideal))) ⟨m, fun _ => 0, g⟩ (fun r => (∀ c : Dev Cert.InDtRefIdeal.nD,
      r.2.mem ((c.tc : Thread Cert.InDtRefIdeal.nD Cert.InDtRefIdeal.τ).loc Cert.InDtRefIdeal.main_arg0) = m ((c.tc : Thread Cert.InDtRefIdeal.nD Cert.InDtRefIdeal.τ).loc Cert.InDtRefIdeal.main_arg0)
      ∧ r.2.mem ((c.tc : Thread Cert.InDtRefIdeal.nD Cert.InDtRefIdeal.τ).loc Cert.InDtRefIdeal.main_arg1) = m ((c.tc : Thread Cert.InDtRefIdeal.nD Cert.InDtRefIdeal.τ).loc Cert.InDtRefIdeal.main_arg1))
      ∧ r.2.sem = fun _ => 0)

def quiescent_DwDt [hDwDt : Cert.DwDt.Facts] : Prop :=
  ∀ (m : (ℓ : Loc Cert.DwDt.nD Cert.DwDt.τ Cert.DwDt.sig) → Buf (Elt Bits) ℓ) (g : Dev Cert.DwDt.nD → PrngReg), Pre_DwDt m →
    θ_run (Cert.DwDt.defs (F := Bits)) (onTc (τ := Cert.DwDt.τ) (Cert.DwDt.main (F := Bits))) ⟨m, fun _ => 0, g⟩ (fun r => (∀ c : Dev Cert.DwDt.nD,
      r.2.mem ((c.tc : Thread Cert.DwDt.nD Cert.DwDt.τ).loc Cert.DwDt.main_arg0) = m ((c.tc : Thread Cert.DwDt.nD Cert.DwDt.τ).loc Cert.DwDt.main_arg0)
      ∧ r.2.mem ((c.tc : Thread Cert.DwDt.nD Cert.DwDt.τ).loc Cert.DwDt.main_arg1) = m ((c.tc : Thread Cert.DwDt.nD Cert.DwDt.τ).loc Cert.DwDt.main_arg1))
      ∧ r.2.sem = fun _ => 0)

def quiescent_DwDtIdeal [hDwDtIdeal : Cert.DwDtIdeal.Facts] : Prop :=
  ∀ (m : (ℓ : Loc Cert.DwDtIdeal.nD Cert.DwDtIdeal.τ Cert.DwDtIdeal.sig) → Buf (Elt Ideal) ℓ) (g : Dev Cert.DwDtIdeal.nD → PrngReg), Pre_DwDtIdeal m →
    θ_run (Cert.DwDtIdeal.defs (F := Ideal)) (onTc (τ := Cert.DwDtIdeal.τ) (Cert.DwDtIdeal.main (F := Ideal))) ⟨m, fun _ => 0, g⟩ (fun r => (∀ c : Dev Cert.DwDtIdeal.nD,
      r.2.mem ((c.tc : Thread Cert.DwDtIdeal.nD Cert.DwDtIdeal.τ).loc Cert.DwDtIdeal.main_arg0) = m ((c.tc : Thread Cert.DwDtIdeal.nD Cert.DwDtIdeal.τ).loc Cert.DwDtIdeal.main_arg0)
      ∧ r.2.mem ((c.tc : Thread Cert.DwDtIdeal.nD Cert.DwDtIdeal.τ).loc Cert.DwDtIdeal.main_arg1) = m ((c.tc : Thread Cert.DwDtIdeal.nD Cert.DwDtIdeal.τ).loc Cert.DwDtIdeal.main_arg1))
      ∧ r.2.sem = fun _ => 0)

def quiescent_DwDtRefIdeal [hDwDtRefIdeal : Cert.DwDtRefIdeal.Facts] : Prop :=
  ∀ (m : (ℓ : Loc Cert.DwDtRefIdeal.nD Cert.DwDtRefIdeal.τ Cert.DwDtRefIdeal.sig) → Buf (Elt Ideal) ℓ) (g : Dev Cert.DwDtRefIdeal.nD → PrngReg), Pre_DwDtRefIdeal m →
    θ_run (Cert.DwDtRefIdeal.defs (F := Ideal)) (onTc (τ := Cert.DwDtRefIdeal.τ) (Cert.DwDtRefIdeal.main (F := Ideal))) ⟨m, fun _ => 0, g⟩ (fun r => (∀ c : Dev Cert.DwDtRefIdeal.nD,
      r.2.mem ((c.tc : Thread Cert.DwDtRefIdeal.nD Cert.DwDtRefIdeal.τ).loc Cert.DwDtRefIdeal.main_arg0) = m ((c.tc : Thread Cert.DwDtRefIdeal.nD Cert.DwDtRefIdeal.τ).loc Cert.DwDtRefIdeal.main_arg0)
      ∧ r.2.mem ((c.tc : Thread Cert.DwDtRefIdeal.nD Cert.DwDtRefIdeal.τ).loc Cert.DwDtRefIdeal.main_arg1) = m ((c.tc : Thread Cert.DwDtRefIdeal.nD Cert.DwDtRefIdeal.τ).loc Cert.DwDtRefIdeal.main_arg1))
      ∧ r.2.sem = fun _ => 0)

def quiescent_DMn [hDMn : Cert.DMn.Facts] : Prop :=
  ∀ (m : (ℓ : Loc Cert.DMn.nD Cert.DMn.τ Cert.DMn.sig) → Buf (Elt Bits) ℓ) (g : Dev Cert.DMn.nD → PrngReg), Pre_DMn m →
    θ_run (Cert.DMn.defs (F := Bits)) (onTc (τ := Cert.DMn.τ) (Cert.DMn.main (F := Bits))) ⟨m, fun _ => 0, g⟩ (fun r => (∀ c : Dev Cert.DMn.nD,
      r.2.mem ((c.tc : Thread Cert.DMn.nD Cert.DMn.τ).loc Cert.DMn.main_arg0) = m ((c.tc : Thread Cert.DMn.nD Cert.DMn.τ).loc Cert.DMn.main_arg0)
      ∧ r.2.mem ((c.tc : Thread Cert.DMn.nD Cert.DMn.τ).loc Cert.DMn.main_arg1) = m ((c.tc : Thread Cert.DMn.nD Cert.DMn.τ).loc Cert.DMn.main_arg1)
      ∧ r.2.mem ((c.tc : Thread Cert.DMn.nD Cert.DMn.τ).loc Cert.DMn.main_arg2) = m ((c.tc : Thread Cert.DMn.nD Cert.DMn.τ).loc Cert.DMn.main_arg2)
      ∧ r.2.mem ((c.tc : Thread Cert.DMn.nD Cert.DMn.τ).loc Cert.DMn.main_arg3) = m ((c.tc : Thread Cert.DMn.nD Cert.DMn.τ).loc Cert.DMn.main_arg3)
      ∧ r.2.mem ((c.tc : Thread Cert.DMn.nD Cert.DMn.τ).loc Cert.DMn.main_arg4) = m ((c.tc : Thread Cert.DMn.nD Cert.DMn.τ).loc Cert.DMn.main_arg4))
      ∧ r.2.sem = fun _ => 0)

def quiescent_DMnIdeal [hDMnIdeal : Cert.DMnIdeal.Facts] : Prop :=
  ∀ (m : (ℓ : Loc Cert.DMnIdeal.nD Cert.DMnIdeal.τ Cert.DMnIdeal.sig) → Buf (Elt Ideal) ℓ) (g : Dev Cert.DMnIdeal.nD → PrngReg), Pre_DMnIdeal m →
    θ_run (Cert.DMnIdeal.defs (F := Ideal)) (onTc (τ := Cert.DMnIdeal.τ) (Cert.DMnIdeal.main (F := Ideal))) ⟨m, fun _ => 0, g⟩ (fun r => (∀ c : Dev Cert.DMnIdeal.nD,
      r.2.mem ((c.tc : Thread Cert.DMnIdeal.nD Cert.DMnIdeal.τ).loc Cert.DMnIdeal.main_arg0) = m ((c.tc : Thread Cert.DMnIdeal.nD Cert.DMnIdeal.τ).loc Cert.DMnIdeal.main_arg0)
      ∧ r.2.mem ((c.tc : Thread Cert.DMnIdeal.nD Cert.DMnIdeal.τ).loc Cert.DMnIdeal.main_arg1) = m ((c.tc : Thread Cert.DMnIdeal.nD Cert.DMnIdeal.τ).loc Cert.DMnIdeal.main_arg1)
      ∧ r.2.mem ((c.tc : Thread Cert.DMnIdeal.nD Cert.DMnIdeal.τ).loc Cert.DMnIdeal.main_arg2) = m ((c.tc : Thread Cert.DMnIdeal.nD Cert.DMnIdeal.τ).loc Cert.DMnIdeal.main_arg2)
      ∧ r.2.mem ((c.tc : Thread Cert.DMnIdeal.nD Cert.DMnIdeal.τ).loc Cert.DMnIdeal.main_arg3) = m ((c.tc : Thread Cert.DMnIdeal.nD Cert.DMnIdeal.τ).loc Cert.DMnIdeal.main_arg3)
      ∧ r.2.mem ((c.tc : Thread Cert.DMnIdeal.nD Cert.DMnIdeal.τ).loc Cert.DMnIdeal.main_arg4) = m ((c.tc : Thread Cert.DMnIdeal.nD Cert.DMnIdeal.τ).loc Cert.DMnIdeal.main_arg4))
      ∧ r.2.sem = fun _ => 0)

def quiescent_DMnIdeal_pre_finite_mn [hDMnIdeal : Cert.DMnIdeal.Facts] [hPre_finite_mn : Cert.Pre_finite_mn.Facts] : Prop :=
  ∀ (m : (ℓ : Loc Cert.DMnIdeal.nD Cert.DMnIdeal.τ Cert.DMnIdeal.sig) → Buf (Elt Ideal) ℓ) (g : Dev Cert.DMnIdeal.nD → PrngReg), Pre_DMnIdeal_finite_mn m →
    θ_run (Cert.DMnIdeal.defs (F := Ideal)) (onTc (τ := Cert.DMnIdeal.τ) (Cert.DMnIdeal.main (F := Ideal))) ⟨m, fun _ => 0, g⟩ (fun r => (∀ c : Dev Cert.DMnIdeal.nD,
      r.2.mem ((c.tc : Thread Cert.DMnIdeal.nD Cert.DMnIdeal.τ).loc Cert.DMnIdeal.main_arg0) = m ((c.tc : Thread Cert.DMnIdeal.nD Cert.DMnIdeal.τ).loc Cert.DMnIdeal.main_arg0)
      ∧ r.2.mem ((c.tc : Thread Cert.DMnIdeal.nD Cert.DMnIdeal.τ).loc Cert.DMnIdeal.main_arg1) = m ((c.tc : Thread Cert.DMnIdeal.nD Cert.DMnIdeal.τ).loc Cert.DMnIdeal.main_arg1)
      ∧ r.2.mem ((c.tc : Thread Cert.DMnIdeal.nD Cert.DMnIdeal.τ).loc Cert.DMnIdeal.main_arg2) = m ((c.tc : Thread Cert.DMnIdeal.nD Cert.DMnIdeal.τ).loc Cert.DMnIdeal.main_arg2)
      ∧ r.2.mem ((c.tc : Thread Cert.DMnIdeal.nD Cert.DMnIdeal.τ).loc Cert.DMnIdeal.main_arg3) = m ((c.tc : Thread Cert.DMnIdeal.nD Cert.DMnIdeal.τ).loc Cert.DMnIdeal.main_arg3)
      ∧ r.2.mem ((c.tc : Thread Cert.DMnIdeal.nD Cert.DMnIdeal.τ).loc Cert.DMnIdeal.main_arg4) = m ((c.tc : Thread Cert.DMnIdeal.nD Cert.DMnIdeal.τ).loc Cert.DMnIdeal.main_arg4))
      ∧ r.2.sem = fun _ => 0)

def quiescent_DMnRefIdeal [hDMnRefIdeal : Cert.DMnRefIdeal.Facts] : Prop :=
  ∀ (m : (ℓ : Loc Cert.DMnRefIdeal.nD Cert.DMnRefIdeal.τ Cert.DMnRefIdeal.sig) → Buf (Elt Ideal) ℓ) (g : Dev Cert.DMnRefIdeal.nD → PrngReg), Pre_DMnRefIdeal m →
    θ_run (Cert.DMnRefIdeal.defs (F := Ideal)) (onTc (τ := Cert.DMnRefIdeal.τ) (Cert.DMnRefIdeal.main (F := Ideal))) ⟨m, fun _ => 0, g⟩ (fun r => (∀ c : Dev Cert.DMnRefIdeal.nD,
      r.2.mem ((c.tc : Thread Cert.DMnRefIdeal.nD Cert.DMnRefIdeal.τ).loc Cert.DMnRefIdeal.main_arg0) = m ((c.tc : Thread Cert.DMnRefIdeal.nD Cert.DMnRefIdeal.τ).loc Cert.DMnRefIdeal.main_arg0)
      ∧ r.2.mem ((c.tc : Thread Cert.DMnRefIdeal.nD Cert.DMnRefIdeal.τ).loc Cert.DMnRefIdeal.main_arg1) = m ((c.tc : Thread Cert.DMnRefIdeal.nD Cert.DMnRefIdeal.τ).loc Cert.DMnRefIdeal.main_arg1)
      ∧ r.2.mem ((c.tc : Thread Cert.DMnRefIdeal.nD Cert.DMnRefIdeal.τ).loc Cert.DMnRefIdeal.main_arg2) = m ((c.tc : Thread Cert.DMnRefIdeal.nD Cert.DMnRefIdeal.τ).loc Cert.DMnRefIdeal.main_arg2)
      ∧ r.2.mem ((c.tc : Thread Cert.DMnRefIdeal.nD Cert.DMnRefIdeal.τ).loc Cert.DMnRefIdeal.main_arg3) = m ((c.tc : Thread Cert.DMnRefIdeal.nD Cert.DMnRefIdeal.τ).loc Cert.DMnRefIdeal.main_arg3)
      ∧ r.2.mem ((c.tc : Thread Cert.DMnRefIdeal.nD Cert.DMnRefIdeal.τ).loc Cert.DMnRefIdeal.main_arg4) = m ((c.tc : Thread Cert.DMnRefIdeal.nD Cert.DMnRefIdeal.τ).loc Cert.DMnRefIdeal.main_arg4))
      ∧ r.2.sem = fun _ => 0)

def quiescent_DMnRefIdeal_pre_finite_mn [hDMnRefIdeal : Cert.DMnRefIdeal.Facts] [hPre_finite_mn : Cert.Pre_finite_mn.Facts] : Prop :=
  ∀ (m : (ℓ : Loc Cert.DMnRefIdeal.nD Cert.DMnRefIdeal.τ Cert.DMnRefIdeal.sig) → Buf (Elt Ideal) ℓ) (g : Dev Cert.DMnRefIdeal.nD → PrngReg), Pre_DMnRefIdeal_finite_mn m →
    θ_run (Cert.DMnRefIdeal.defs (F := Ideal)) (onTc (τ := Cert.DMnRefIdeal.τ) (Cert.DMnRefIdeal.main (F := Ideal))) ⟨m, fun _ => 0, g⟩ (fun r => (∀ c : Dev Cert.DMnRefIdeal.nD,
      r.2.mem ((c.tc : Thread Cert.DMnRefIdeal.nD Cert.DMnRefIdeal.τ).loc Cert.DMnRefIdeal.main_arg0) = m ((c.tc : Thread Cert.DMnRefIdeal.nD Cert.DMnRefIdeal.τ).loc Cert.DMnRefIdeal.main_arg0)
      ∧ r.2.mem ((c.tc : Thread Cert.DMnRefIdeal.nD Cert.DMnRefIdeal.τ).loc Cert.DMnRefIdeal.main_arg1) = m ((c.tc : Thread Cert.DMnRefIdeal.nD Cert.DMnRefIdeal.τ).loc Cert.DMnRefIdeal.main_arg1)
      ∧ r.2.mem ((c.tc : Thread Cert.DMnRefIdeal.nD Cert.DMnRefIdeal.τ).loc Cert.DMnRefIdeal.main_arg2) = m ((c.tc : Thread Cert.DMnRefIdeal.nD Cert.DMnRefIdeal.τ).loc Cert.DMnRefIdeal.main_arg2)
      ∧ r.2.mem ((c.tc : Thread Cert.DMnRefIdeal.nD Cert.DMnRefIdeal.τ).loc Cert.DMnRefIdeal.main_arg3) = m ((c.tc : Thread Cert.DMnRefIdeal.nD Cert.DMnRefIdeal.τ).loc Cert.DMnRefIdeal.main_arg3)
      ∧ r.2.mem ((c.tc : Thread Cert.DMnRefIdeal.nD Cert.DMnRefIdeal.τ).loc Cert.DMnRefIdeal.main_arg4) = m ((c.tc : Thread Cert.DMnRefIdeal.nD Cert.DMnRefIdeal.τ).loc Cert.DMnRefIdeal.main_arg4))
      ∧ r.2.sem = fun _ => 0)

def quiescent_DUDt [hDUDt : Cert.DUDt.Facts] : Prop :=
  ∀ (m : (ℓ : Loc Cert.DUDt.nD Cert.DUDt.τ Cert.DUDt.sig) → Buf (Elt Bits) ℓ) (g : Dev Cert.DUDt.nD → PrngReg), Pre_DUDt m →
    θ_run (Cert.DUDt.defs (F := Bits)) (onTc (τ := Cert.DUDt.τ) (Cert.DUDt.main (F := Bits))) ⟨m, fun _ => 0, g⟩ (fun r => (∀ c : Dev Cert.DUDt.nD,
      r.2.mem ((c.tc : Thread Cert.DUDt.nD Cert.DUDt.τ).loc Cert.DUDt.main_arg0) = m ((c.tc : Thread Cert.DUDt.nD Cert.DUDt.τ).loc Cert.DUDt.main_arg0)
      ∧ r.2.mem ((c.tc : Thread Cert.DUDt.nD Cert.DUDt.τ).loc Cert.DUDt.main_arg1) = m ((c.tc : Thread Cert.DUDt.nD Cert.DUDt.τ).loc Cert.DUDt.main_arg1)
      ∧ r.2.mem ((c.tc : Thread Cert.DUDt.nD Cert.DUDt.τ).loc Cert.DUDt.main_arg2) = m ((c.tc : Thread Cert.DUDt.nD Cert.DUDt.τ).loc Cert.DUDt.main_arg2)
      ∧ r.2.mem ((c.tc : Thread Cert.DUDt.nD Cert.DUDt.τ).loc Cert.DUDt.main_arg3) = m ((c.tc : Thread Cert.DUDt.nD Cert.DUDt.τ).loc Cert.DUDt.main_arg3)
      ∧ r.2.mem ((c.tc : Thread Cert.DUDt.nD Cert.DUDt.τ).loc Cert.DUDt.main_arg4) = m ((c.tc : Thread Cert.DUDt.nD Cert.DUDt.τ).loc Cert.DUDt.main_arg4)
      ∧ r.2.mem ((c.tc : Thread Cert.DUDt.nD Cert.DUDt.τ).loc Cert.DUDt.main_arg5) = m ((c.tc : Thread Cert.DUDt.nD Cert.DUDt.τ).loc Cert.DUDt.main_arg5))
      ∧ r.2.sem = fun _ => 0)

def quiescent_DUDtIdeal [hDUDtIdeal : Cert.DUDtIdeal.Facts] : Prop :=
  ∀ (m : (ℓ : Loc Cert.DUDtIdeal.nD Cert.DUDtIdeal.τ Cert.DUDtIdeal.sig) → Buf (Elt Ideal) ℓ) (g : Dev Cert.DUDtIdeal.nD → PrngReg), Pre_DUDtIdeal m →
    θ_run (Cert.DUDtIdeal.defs (F := Ideal)) (onTc (τ := Cert.DUDtIdeal.τ) (Cert.DUDtIdeal.main (F := Ideal))) ⟨m, fun _ => 0, g⟩ (fun r => (∀ c : Dev Cert.DUDtIdeal.nD,
      r.2.mem ((c.tc : Thread Cert.DUDtIdeal.nD Cert.DUDtIdeal.τ).loc Cert.DUDtIdeal.main_arg0) = m ((c.tc : Thread Cert.DUDtIdeal.nD Cert.DUDtIdeal.τ).loc Cert.DUDtIdeal.main_arg0)
      ∧ r.2.mem ((c.tc : Thread Cert.DUDtIdeal.nD Cert.DUDtIdeal.τ).loc Cert.DUDtIdeal.main_arg1) = m ((c.tc : Thread Cert.DUDtIdeal.nD Cert.DUDtIdeal.τ).loc Cert.DUDtIdeal.main_arg1)
      ∧ r.2.mem ((c.tc : Thread Cert.DUDtIdeal.nD Cert.DUDtIdeal.τ).loc Cert.DUDtIdeal.main_arg2) = m ((c.tc : Thread Cert.DUDtIdeal.nD Cert.DUDtIdeal.τ).loc Cert.DUDtIdeal.main_arg2)
      ∧ r.2.mem ((c.tc : Thread Cert.DUDtIdeal.nD Cert.DUDtIdeal.τ).loc Cert.DUDtIdeal.main_arg3) = m ((c.tc : Thread Cert.DUDtIdeal.nD Cert.DUDtIdeal.τ).loc Cert.DUDtIdeal.main_arg3)
      ∧ r.2.mem ((c.tc : Thread Cert.DUDtIdeal.nD Cert.DUDtIdeal.τ).loc Cert.DUDtIdeal.main_arg4) = m ((c.tc : Thread Cert.DUDtIdeal.nD Cert.DUDtIdeal.τ).loc Cert.DUDtIdeal.main_arg4)
      ∧ r.2.mem ((c.tc : Thread Cert.DUDtIdeal.nD Cert.DUDtIdeal.τ).loc Cert.DUDtIdeal.main_arg5) = m ((c.tc : Thread Cert.DUDtIdeal.nD Cert.DUDtIdeal.τ).loc Cert.DUDtIdeal.main_arg5))
      ∧ r.2.sem = fun _ => 0)

def quiescent_DUDtIdeal_pre_finite_dt [hDUDtIdeal : Cert.DUDtIdeal.Facts] [hPre_finite_dt : Cert.Pre_finite_dt.Facts] : Prop :=
  ∀ (m : (ℓ : Loc Cert.DUDtIdeal.nD Cert.DUDtIdeal.τ Cert.DUDtIdeal.sig) → Buf (Elt Ideal) ℓ) (g : Dev Cert.DUDtIdeal.nD → PrngReg), Pre_DUDtIdeal_finite_dt m →
    θ_run (Cert.DUDtIdeal.defs (F := Ideal)) (onTc (τ := Cert.DUDtIdeal.τ) (Cert.DUDtIdeal.main (F := Ideal))) ⟨m, fun _ => 0, g⟩ (fun r => (∀ c : Dev Cert.DUDtIdeal.nD,
      r.2.mem ((c.tc : Thread Cert.DUDtIdeal.nD Cert.DUDtIdeal.τ).loc Cert.DUDtIdeal.main_arg0) = m ((c.tc : Thread Cert.DUDtIdeal.nD Cert.DUDtIdeal.τ).loc Cert.DUDtIdeal.main_arg0)
      ∧ r.2.mem ((c.tc : Thread Cert.DUDtIdeal.nD Cert.DUDtIdeal.τ).loc Cert.DUDtIdeal.main_arg1) = m ((c.tc : Thread Cert.DUDtIdeal.nD Cert.DUDtIdeal.τ).loc Cert.DUDtIdeal.main_arg1)
      ∧ r.2.mem ((c.tc : Thread Cert.DUDtIdeal.nD Cert.DUDtIdeal.τ).loc Cert.DUDtIdeal.main_arg2) = m ((c.tc : Thread Cert.DUDtIdeal.nD Cert.DUDtIdeal.τ).loc Cert.DUDtIdeal.main_arg2)
      ∧ r.2.mem ((c.tc : Thread Cert.DUDtIdeal.nD Cert.DUDtIdeal.τ).loc Cert.DUDtIdeal.main_arg3) = m ((c.tc : Thread Cert.DUDtIdeal.nD Cert.DUDtIdeal.τ).loc Cert.DUDtIdeal.main_arg3)
      ∧ r.2.mem ((c.tc : Thread Cert.DUDtIdeal.nD Cert.DUDtIdeal.τ).loc Cert.DUDtIdeal.main_arg4) = m ((c.tc : Thread Cert.DUDtIdeal.nD Cert.DUDtIdeal.τ).loc Cert.DUDtIdeal.main_arg4)
      ∧ r.2.mem ((c.tc : Thread Cert.DUDtIdeal.nD Cert.DUDtIdeal.τ).loc Cert.DUDtIdeal.main_arg5) = m ((c.tc : Thread Cert.DUDtIdeal.nD Cert.DUDtIdeal.τ).loc Cert.DUDtIdeal.main_arg5))
      ∧ r.2.sem = fun _ => 0)

def quiescent_DUDtRefIdeal [hDUDtRefIdeal : Cert.DUDtRefIdeal.Facts] : Prop :=
  ∀ (m : (ℓ : Loc Cert.DUDtRefIdeal.nD Cert.DUDtRefIdeal.τ Cert.DUDtRefIdeal.sig) → Buf (Elt Ideal) ℓ) (g : Dev Cert.DUDtRefIdeal.nD → PrngReg), Pre_DUDtRefIdeal m →
    θ_run (Cert.DUDtRefIdeal.defs (F := Ideal)) (onTc (τ := Cert.DUDtRefIdeal.τ) (Cert.DUDtRefIdeal.main (F := Ideal))) ⟨m, fun _ => 0, g⟩ (fun r => (∀ c : Dev Cert.DUDtRefIdeal.nD,
      r.2.mem ((c.tc : Thread Cert.DUDtRefIdeal.nD Cert.DUDtRefIdeal.τ).loc Cert.DUDtRefIdeal.main_arg0) = m ((c.tc : Thread Cert.DUDtRefIdeal.nD Cert.DUDtRefIdeal.τ).loc Cert.DUDtRefIdeal.main_arg0)
      ∧ r.2.mem ((c.tc : Thread Cert.DUDtRefIdeal.nD Cert.DUDtRefIdeal.τ).loc Cert.DUDtRefIdeal.main_arg1) = m ((c.tc : Thread Cert.DUDtRefIdeal.nD Cert.DUDtRefIdeal.τ).loc Cert.DUDtRefIdeal.main_arg1)
      ∧ r.2.mem ((c.tc : Thread Cert.DUDtRefIdeal.nD Cert.DUDtRefIdeal.τ).loc Cert.DUDtRefIdeal.main_arg2) = m ((c.tc : Thread Cert.DUDtRefIdeal.nD Cert.DUDtRefIdeal.τ).loc Cert.DUDtRefIdeal.main_arg2)
      ∧ r.2.mem ((c.tc : Thread Cert.DUDtRefIdeal.nD Cert.DUDtRefIdeal.τ).loc Cert.DUDtRefIdeal.main_arg3) = m ((c.tc : Thread Cert.DUDtRefIdeal.nD Cert.DUDtRefIdeal.τ).loc Cert.DUDtRefIdeal.main_arg3)
      ∧ r.2.mem ((c.tc : Thread Cert.DUDtRefIdeal.nD Cert.DUDtRefIdeal.τ).loc Cert.DUDtRefIdeal.main_arg4) = m ((c.tc : Thread Cert.DUDtRefIdeal.nD Cert.DUDtRefIdeal.τ).loc Cert.DUDtRefIdeal.main_arg4)
      ∧ r.2.mem ((c.tc : Thread Cert.DUDtRefIdeal.nD Cert.DUDtRefIdeal.τ).loc Cert.DUDtRefIdeal.main_arg5) = m ((c.tc : Thread Cert.DUDtRefIdeal.nD Cert.DUDtRefIdeal.τ).loc Cert.DUDtRefIdeal.main_arg5))
      ∧ r.2.sem = fun _ => 0)

def quiescent_DUDtRefIdeal_pre_finite_dt [hDUDtRefIdeal : Cert.DUDtRefIdeal.Facts] [hPre_finite_dt : Cert.Pre_finite_dt.Facts] : Prop :=
  ∀ (m : (ℓ : Loc Cert.DUDtRefIdeal.nD Cert.DUDtRefIdeal.τ Cert.DUDtRefIdeal.sig) → Buf (Elt Ideal) ℓ) (g : Dev Cert.DUDtRefIdeal.nD → PrngReg), Pre_DUDtRefIdeal_finite_dt m →
    θ_run (Cert.DUDtRefIdeal.defs (F := Ideal)) (onTc (τ := Cert.DUDtRefIdeal.τ) (Cert.DUDtRefIdeal.main (F := Ideal))) ⟨m, fun _ => 0, g⟩ (fun r => (∀ c : Dev Cert.DUDtRefIdeal.nD,
      r.2.mem ((c.tc : Thread Cert.DUDtRefIdeal.nD Cert.DUDtRefIdeal.τ).loc Cert.DUDtRefIdeal.main_arg0) = m ((c.tc : Thread Cert.DUDtRefIdeal.nD Cert.DUDtRefIdeal.τ).loc Cert.DUDtRefIdeal.main_arg0)
      ∧ r.2.mem ((c.tc : Thread Cert.DUDtRefIdeal.nD Cert.DUDtRefIdeal.τ).loc Cert.DUDtRefIdeal.main_arg1) = m ((c.tc : Thread Cert.DUDtRefIdeal.nD Cert.DUDtRefIdeal.τ).loc Cert.DUDtRefIdeal.main_arg1)
      ∧ r.2.mem ((c.tc : Thread Cert.DUDtRefIdeal.nD Cert.DUDtRefIdeal.τ).loc Cert.DUDtRefIdeal.main_arg2) = m ((c.tc : Thread Cert.DUDtRefIdeal.nD Cert.DUDtRefIdeal.τ).loc Cert.DUDtRefIdeal.main_arg2)
      ∧ r.2.mem ((c.tc : Thread Cert.DUDtRefIdeal.nD Cert.DUDtRefIdeal.τ).loc Cert.DUDtRefIdeal.main_arg3) = m ((c.tc : Thread Cert.DUDtRefIdeal.nD Cert.DUDtRefIdeal.τ).loc Cert.DUDtRefIdeal.main_arg3)
      ∧ r.2.mem ((c.tc : Thread Cert.DUDtRefIdeal.nD Cert.DUDtRefIdeal.τ).loc Cert.DUDtRefIdeal.main_arg4) = m ((c.tc : Thread Cert.DUDtRefIdeal.nD Cert.DUDtRefIdeal.τ).loc Cert.DUDtRefIdeal.main_arg4)
      ∧ r.2.mem ((c.tc : Thread Cert.DUDtRefIdeal.nD Cert.DUDtRefIdeal.τ).loc Cert.DUDtRefIdeal.main_arg5) = m ((c.tc : Thread Cert.DUDtRefIdeal.nD Cert.DUDtRefIdeal.τ).loc Cert.DUDtRefIdeal.main_arg5))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_v36) = v1 c
          ∧ r.2.mem ((c.tc : Thread Cert.MergeRefIdeal.nD Cert.MergeRefIdeal.τ).loc Cert.MergeRefIdeal.main_v38) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_ConvA_ConvAIdeal : Prop :=
  True

def algebraic_ConvAIdeal_ConvARefIdeal_on_conv_a_cols [hConvAIdeal : Cert.ConvAIdeal.Facts] [hConvARefIdeal : Cert.ConvARefIdeal.Facts] [hOn_conv_a_cols : Cert.On_conv_a_cols.Facts] : Prop :=
  ∀ (m : (ℓ : Loc Cert.ConvAIdeal.nD Cert.ConvAIdeal.τ Cert.ConvAIdeal.sig) → Buf (Elt Ideal) ℓ) (g : Dev Cert.ConvAIdeal.nD → PrngReg)
    (m' : (ℓ : Loc Cert.ConvARefIdeal.nD Cert.ConvARefIdeal.τ Cert.ConvARefIdeal.sig) → Buf (Elt Ideal) ℓ) (g' : Dev Cert.ConvARefIdeal.nD → PrngReg), Pre_ConvAIdeal m →
    (∀ c : Dev Cert.ConvAIdeal.nD,
      m' ((c.tc : Thread Cert.ConvARefIdeal.nD Cert.ConvARefIdeal.τ).loc Cert.ConvARefIdeal.main_arg0) = m ((c.tc : Thread Cert.ConvAIdeal.nD Cert.ConvAIdeal.τ).loc Cert.ConvAIdeal.main_arg0)
      ∧ m' ((c.tc : Thread Cert.ConvARefIdeal.nD Cert.ConvARefIdeal.τ).loc Cert.ConvARefIdeal.main_arg1) = m ((c.tc : Thread Cert.ConvAIdeal.nD Cert.ConvAIdeal.τ).loc Cert.ConvAIdeal.main_arg1)
      ∧ m' ((c.tc : Thread Cert.ConvARefIdeal.nD Cert.ConvARefIdeal.τ).loc Cert.ConvARefIdeal.main_arg2) = m ((c.tc : Thread Cert.ConvAIdeal.nD Cert.ConvAIdeal.τ).loc Cert.ConvAIdeal.main_arg2)
      ∧ m' ((c.tc : Thread Cert.ConvARefIdeal.nD Cert.ConvARefIdeal.τ).loc Cert.ConvARefIdeal.main_arg3) = m ((c.tc : Thread Cert.ConvAIdeal.nD Cert.ConvAIdeal.τ).loc Cert.ConvAIdeal.main_arg3)) →
    ∃ (v0 : (c : Dev Cert.ConvAIdeal.nD) → Buf (Elt Ideal) ((c.tc : Thread Cert.ConvAIdeal.nD Cert.ConvAIdeal.τ).loc Cert.ConvAIdeal.main_v0_0)) (v1 : (c : Dev Cert.ConvAIdeal.nD) → Buf (Elt Ideal) ((c.tc : Thread Cert.ConvAIdeal.nD Cert.ConvAIdeal.τ).loc Cert.ConvAIdeal.main_v0_1)),
      θ_run (Cert.ConvAIdeal.defs (F := Ideal)) (onTc (τ := Cert.ConvAIdeal.τ) (Cert.ConvAIdeal.main (F := Ideal))) ⟨m, fun _ => 0, g⟩ (fun r => ∀ c : Dev Cert.ConvAIdeal.nD,
          (∀ i : (⟨2, ![8192, 6144]⟩ : Shape).Idx, (Cert.On_conv_a_cols.fn (F := Ideal) (m ((c.tc : Thread Cert.ConvAIdeal.nD Cert.ConvAIdeal.τ).loc Cert.ConvAIdeal.main_arg0)) (m ((c.tc : Thread Cert.ConvAIdeal.nD Cert.ConvAIdeal.τ).loc Cert.ConvAIdeal.main_arg1)) (m ((c.tc : Thread Cert.ConvAIdeal.nD Cert.ConvAIdeal.τ).loc Cert.ConvAIdeal.main_arg2)) (m ((c.tc : Thread Cert.ConvAIdeal.nD Cert.ConvAIdeal.τ).loc Cert.ConvAIdeal.main_arg3))).1 i = 1#1 → r.2.mem ((c.tc : Thread Cert.ConvAIdeal.nD Cert.ConvAIdeal.τ).loc Cert.ConvAIdeal.main_v0_0) i = v0 c i)
          ∧ (∀ i : (⟨2, ![8, 1024]⟩ : Shape).Idx, (Cert.On_conv_a_cols.fn (F := Ideal) (m ((c.tc : Thread Cert.ConvAIdeal.nD Cert.ConvAIdeal.τ).loc Cert.ConvAIdeal.main_arg0)) (m ((c.tc : Thread Cert.ConvAIdeal.nD Cert.ConvAIdeal.τ).loc Cert.ConvAIdeal.main_arg1)) (m ((c.tc : Thread Cert.ConvAIdeal.nD Cert.ConvAIdeal.τ).loc Cert.ConvAIdeal.main_arg2)) (m ((c.tc : Thread Cert.ConvAIdeal.nD Cert.ConvAIdeal.τ).loc Cert.ConvAIdeal.main_arg3))).2 i = 1#1 → r.2.mem ((c.tc : Thread Cert.ConvAIdeal.nD Cert.ConvAIdeal.τ).loc Cert.ConvAIdeal.main_v0_1) i = v1 c i)
          ∧ r.2.mem ((c.tc : Thread Cert.ConvAIdeal.nD Cert.ConvAIdeal.τ).loc Cert.ConvAIdeal.main_arg0) = m ((c.tc : Thread Cert.ConvAIdeal.nD Cert.ConvAIdeal.τ).loc Cert.ConvAIdeal.main_arg0)
          ∧ r.2.mem ((c.tc : Thread Cert.ConvAIdeal.nD Cert.ConvAIdeal.τ).loc Cert.ConvAIdeal.main_arg1) = m ((c.tc : Thread Cert.ConvAIdeal.nD Cert.ConvAIdeal.τ).loc Cert.ConvAIdeal.main_arg1)
          ∧ r.2.mem ((c.tc : Thread Cert.ConvAIdeal.nD Cert.ConvAIdeal.τ).loc Cert.ConvAIdeal.main_arg2) = m ((c.tc : Thread Cert.ConvAIdeal.nD Cert.ConvAIdeal.τ).loc Cert.ConvAIdeal.main_arg2)
          ∧ r.2.mem ((c.tc : Thread Cert.ConvAIdeal.nD Cert.ConvAIdeal.τ).loc Cert.ConvAIdeal.main_arg3) = m ((c.tc : Thread Cert.ConvAIdeal.nD Cert.ConvAIdeal.τ).loc Cert.ConvAIdeal.main_arg3))
      ∧ θ_run (Cert.ConvARefIdeal.defs (F := Ideal)) (onTc (τ := Cert.ConvARefIdeal.τ) (Cert.ConvARefIdeal.main (F := Ideal))) ⟨m', fun _ => 0, g'⟩ (fun r => ∀ c : Dev Cert.ConvARefIdeal.nD,
          (∀ i : (⟨2, ![8192, 6144]⟩ : Shape).Idx, (Cert.On_conv_a_cols.fn (F := Ideal) (m ((c.tc : Thread Cert.ConvAIdeal.nD Cert.ConvAIdeal.τ).loc Cert.ConvAIdeal.main_arg0)) (m ((c.tc : Thread Cert.ConvAIdeal.nD Cert.ConvAIdeal.τ).loc Cert.ConvAIdeal.main_arg1)) (m ((c.tc : Thread Cert.ConvAIdeal.nD Cert.ConvAIdeal.τ).loc Cert.ConvAIdeal.main_arg2)) (m ((c.tc : Thread Cert.ConvAIdeal.nD Cert.ConvAIdeal.τ).loc Cert.ConvAIdeal.main_arg3))).1 i = 1#1 → r.2.mem ((c.tc : Thread Cert.ConvARefIdeal.nD Cert.ConvARefIdeal.τ).loc Cert.ConvARefIdeal.main_v101) i = v0 c i)
          ∧ (∀ i : (⟨2, ![8, 1024]⟩ : Shape).Idx, (Cert.On_conv_a_cols.fn (F := Ideal) (m ((c.tc : Thread Cert.ConvAIdeal.nD Cert.ConvAIdeal.τ).loc Cert.ConvAIdeal.main_arg0)) (m ((c.tc : Thread Cert.ConvAIdeal.nD Cert.ConvAIdeal.τ).loc Cert.ConvAIdeal.main_arg1)) (m ((c.tc : Thread Cert.ConvAIdeal.nD Cert.ConvAIdeal.τ).loc Cert.ConvAIdeal.main_arg2)) (m ((c.tc : Thread Cert.ConvAIdeal.nD Cert.ConvAIdeal.τ).loc Cert.ConvAIdeal.main_arg3))).2 i = 1#1 → r.2.mem ((c.tc : Thread Cert.ConvARefIdeal.nD Cert.ConvARefIdeal.τ).loc Cert.ConvARefIdeal.main_v85) i = v1 c i)
          ∧ r.2.mem ((c.tc : Thread Cert.ConvARefIdeal.nD Cert.ConvARefIdeal.τ).loc Cert.ConvARefIdeal.main_arg0) = m' ((c.tc : Thread Cert.ConvARefIdeal.nD Cert.ConvARefIdeal.τ).loc Cert.ConvARefIdeal.main_arg0)
          ∧ r.2.mem ((c.tc : Thread Cert.ConvARefIdeal.nD Cert.ConvARefIdeal.τ).loc Cert.ConvARefIdeal.main_arg1) = m' ((c.tc : Thread Cert.ConvARefIdeal.nD Cert.ConvARefIdeal.τ).loc Cert.ConvARefIdeal.main_arg1)
          ∧ r.2.mem ((c.tc : Thread Cert.ConvARefIdeal.nD Cert.ConvARefIdeal.τ).loc Cert.ConvARefIdeal.main_arg2) = m' ((c.tc : Thread Cert.ConvARefIdeal.nD Cert.ConvARefIdeal.τ).loc Cert.ConvARefIdeal.main_arg2)
          ∧ r.2.mem ((c.tc : Thread Cert.ConvARefIdeal.nD Cert.ConvARefIdeal.τ).loc Cert.ConvARefIdeal.main_arg3) = m' ((c.tc : Thread Cert.ConvARefIdeal.nD Cert.ConvARefIdeal.τ).loc Cert.ConvARefIdeal.main_arg3))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v9) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwGate_DwGateIdeal : Prop :=
  True

def algebraic_DwGateIdeal_DwGateRefIdeal_on_gate_rows [hDwGateIdeal : Cert.DwGateIdeal.Facts] [hDwGateRefIdeal : Cert.DwGateRefIdeal.Facts] [hOn_gate_rows : Cert.On_gate_rows.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          (∀ i : (⟨2, ![5632, 1024]⟩ : Shape).Idx, (Cert.On_gate_rows.fn (F := Ideal) (m ((c.tc : Thread Cert.DwGateIdeal.nD Cert.DwGateIdeal.τ).loc Cert.DwGateIdeal.main_arg0)) (m ((c.tc : Thread Cert.DwGateIdeal.nD Cert.DwGateIdeal.τ).loc Cert.DwGateIdeal.main_arg1))) i = 1#1 → r.2.mem ((c.tc : Thread Cert.DwGateIdeal.nD Cert.DwGateIdeal.τ).loc Cert.DwGateIdeal.main_v0) i = v0 c i)
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          (∀ i : (⟨2, ![5632, 1024]⟩ : Shape).Idx, (Cert.On_gate_rows.fn (F := Ideal) (m ((c.tc : Thread Cert.DwGateIdeal.nD Cert.DwGateIdeal.τ).loc Cert.DwGateIdeal.main_arg0)) (m ((c.tc : Thread Cert.DwGateIdeal.nD Cert.DwGateIdeal.τ).loc Cert.DwGateIdeal.main_arg1))) i = 1#1 → r.2.mem ((c.tc : Thread Cert.DwGateRefIdeal.nD Cert.DwGateRefIdeal.τ).loc Cert.DwGateRefIdeal.main_v9) i = v0 c i)
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v10) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_InDwCx_InDwCxIdeal : Prop :=
  True

def algebraic_InDwCxIdeal_InDwCxRefIdeal [hInDwCxIdeal : Cert.InDwCxIdeal.Facts] [hInDwCxRefIdeal : Cert.InDwCxRefIdeal.Facts] : Prop :=
  ∀ (m : (ℓ : Loc Cert.InDwCxIdeal.nD Cert.InDwCxIdeal.τ Cert.InDwCxIdeal.sig) → Buf (Elt Ideal) ℓ) (g : Dev Cert.InDwCxIdeal.nD → PrngReg)
    (m' : (ℓ : Loc Cert.InDwCxRefIdeal.nD Cert.InDwCxRefIdeal.τ Cert.InDwCxRefIdeal.sig) → Buf (Elt Ideal) ℓ) (g' : Dev Cert.InDwCxRefIdeal.nD → PrngReg), Pre_InDwCxIdeal m →
    (∀ c : Dev Cert.InDwCxIdeal.nD,
      m' ((c.tc : Thread Cert.InDwCxRefIdeal.nD Cert.InDwCxRefIdeal.τ).loc Cert.InDwCxRefIdeal.main_arg0) = m ((c.tc : Thread Cert.InDwCxIdeal.nD Cert.InDwCxIdeal.τ).loc Cert.InDwCxIdeal.main_arg0)
      ∧ m' ((c.tc : Thread Cert.InDwCxRefIdeal.nD Cert.InDwCxRefIdeal.τ).loc Cert.InDwCxRefIdeal.main_arg1) = m ((c.tc : Thread Cert.InDwCxIdeal.nD Cert.InDwCxIdeal.τ).loc Cert.InDwCxIdeal.main_arg1)) →
    ∃ (v0 : (c : Dev Cert.InDwCxIdeal.nD) → Buf (Elt Ideal) ((c.tc : Thread Cert.InDwCxIdeal.nD Cert.InDwCxIdeal.τ).loc Cert.InDwCxIdeal.main_v0)),
      θ_run (Cert.InDwCxIdeal.defs (F := Ideal)) (onTc (τ := Cert.InDwCxIdeal.τ) (Cert.InDwCxIdeal.main (F := Ideal))) ⟨m, fun _ => 0, g⟩ (fun r => ∀ c : Dev Cert.InDwCxIdeal.nD,
          r.2.mem ((c.tc : Thread Cert.InDwCxIdeal.nD Cert.InDwCxIdeal.τ).loc Cert.InDwCxIdeal.main_v0) = v0 c
          ∧ r.2.mem ((c.tc : Thread Cert.InDwCxIdeal.nD Cert.InDwCxIdeal.τ).loc Cert.InDwCxIdeal.main_arg0) = m ((c.tc : Thread Cert.InDwCxIdeal.nD Cert.InDwCxIdeal.τ).loc Cert.InDwCxIdeal.main_arg0)
          ∧ r.2.mem ((c.tc : Thread Cert.InDwCxIdeal.nD Cert.InDwCxIdeal.τ).loc Cert.InDwCxIdeal.main_arg1) = m ((c.tc : Thread Cert.InDwCxIdeal.nD Cert.InDwCxIdeal.τ).loc Cert.InDwCxIdeal.main_arg1))
      ∧ θ_run (Cert.InDwCxRefIdeal.defs (F := Ideal)) (onTc (τ := Cert.InDwCxRefIdeal.τ) (Cert.InDwCxRefIdeal.main (F := Ideal))) ⟨m', fun _ => 0, g'⟩ (fun r => ∀ c : Dev Cert.InDwCxRefIdeal.nD,
          r.2.mem ((c.tc : Thread Cert.InDwCxRefIdeal.nD Cert.InDwCxRefIdeal.τ).loc Cert.InDwCxRefIdeal.main_v8) = v0 c
          ∧ r.2.mem ((c.tc : Thread Cert.InDwCxRefIdeal.nD Cert.InDwCxRefIdeal.τ).loc Cert.InDwCxRefIdeal.main_arg0) = m' ((c.tc : Thread Cert.InDwCxRefIdeal.nD Cert.InDwCxRefIdeal.τ).loc Cert.InDwCxRefIdeal.main_arg0)
          ∧ r.2.mem ((c.tc : Thread Cert.InDwCxRefIdeal.nD Cert.InDwCxRefIdeal.τ).loc Cert.InDwCxRefIdeal.main_arg1) = m' ((c.tc : Thread Cert.InDwCxRefIdeal.nD Cert.InDwCxRefIdeal.τ).loc Cert.InDwCxRefIdeal.main_arg1))

def preserves_InDwZ_InDwZIdeal : Prop :=
  True

def algebraic_InDwZIdeal_InDwZRefIdeal [hInDwZIdeal : Cert.InDwZIdeal.Facts] [hInDwZRefIdeal : Cert.InDwZRefIdeal.Facts] : Prop :=
  ∀ (m : (ℓ : Loc Cert.InDwZIdeal.nD Cert.InDwZIdeal.τ Cert.InDwZIdeal.sig) → Buf (Elt Ideal) ℓ) (g : Dev Cert.InDwZIdeal.nD → PrngReg)
    (m' : (ℓ : Loc Cert.InDwZRefIdeal.nD Cert.InDwZRefIdeal.τ Cert.InDwZRefIdeal.sig) → Buf (Elt Ideal) ℓ) (g' : Dev Cert.InDwZRefIdeal.nD → PrngReg), Pre_InDwZIdeal m →
    (∀ c : Dev Cert.InDwZIdeal.nD,
      m' ((c.tc : Thread Cert.InDwZRefIdeal.nD Cert.InDwZRefIdeal.τ).loc Cert.InDwZRefIdeal.main_arg0) = m ((c.tc : Thread Cert.InDwZIdeal.nD Cert.InDwZIdeal.τ).loc Cert.InDwZIdeal.main_arg0)
      ∧ m' ((c.tc : Thread Cert.InDwZRefIdeal.nD Cert.InDwZRefIdeal.τ).loc Cert.InDwZRefIdeal.main_arg1) = m ((c.tc : Thread Cert.InDwZIdeal.nD Cert.InDwZIdeal.τ).loc Cert.InDwZIdeal.main_arg1)) →
    ∃ (v0 : (c : Dev Cert.InDwZIdeal.nD) → Buf (Elt Ideal) ((c.tc : Thread Cert.InDwZIdeal.nD Cert.InDwZIdeal.τ).loc Cert.InDwZIdeal.main_v0)),
      θ_run (Cert.InDwZIdeal.defs (F := Ideal)) (onTc (τ := Cert.InDwZIdeal.τ) (Cert.InDwZIdeal.main (F := Ideal))) ⟨m, fun _ => 0, g⟩ (fun r => ∀ c : Dev Cert.InDwZIdeal.nD,
          r.2.mem ((c.tc : Thread Cert.InDwZIdeal.nD Cert.InDwZIdeal.τ).loc Cert.InDwZIdeal.main_v0) = v0 c
          ∧ r.2.mem ((c.tc : Thread Cert.InDwZIdeal.nD Cert.InDwZIdeal.τ).loc Cert.InDwZIdeal.main_arg0) = m ((c.tc : Thread Cert.InDwZIdeal.nD Cert.InDwZIdeal.τ).loc Cert.InDwZIdeal.main_arg0)
          ∧ r.2.mem ((c.tc : Thread Cert.InDwZIdeal.nD Cert.InDwZIdeal.τ).loc Cert.InDwZIdeal.main_arg1) = m ((c.tc : Thread Cert.InDwZIdeal.nD Cert.InDwZIdeal.τ).loc Cert.InDwZIdeal.main_arg1))
      ∧ θ_run (Cert.InDwZRefIdeal.defs (F := Ideal)) (onTc (τ := Cert.InDwZRefIdeal.τ) (Cert.InDwZRefIdeal.main (F := Ideal))) ⟨m', fun _ => 0, g'⟩ (fun r => ∀ c : Dev Cert.InDwZRefIdeal.nD,
          r.2.mem ((c.tc : Thread Cert.InDwZRefIdeal.nD Cert.InDwZRefIdeal.τ).loc Cert.InDwZRefIdeal.main_v8) = v0 c
          ∧ r.2.mem ((c.tc : Thread Cert.InDwZRefIdeal.nD Cert.InDwZRefIdeal.τ).loc Cert.InDwZRefIdeal.main_arg0) = m' ((c.tc : Thread Cert.InDwZRefIdeal.nD Cert.InDwZRefIdeal.τ).loc Cert.InDwZRefIdeal.main_arg0)
          ∧ r.2.mem ((c.tc : Thread Cert.InDwZRefIdeal.nD Cert.InDwZRefIdeal.τ).loc Cert.InDwZRefIdeal.main_arg1) = m' ((c.tc : Thread Cert.InDwZRefIdeal.nD Cert.InDwZRefIdeal.τ).loc Cert.InDwZRefIdeal.main_arg1))

def preserves_InDu_InDuIdeal : Prop :=
  True

def algebraic_InDuIdeal_InDuRefIdeal [hInDuIdeal : Cert.InDuIdeal.Facts] [hInDuRefIdeal : Cert.InDuRefIdeal.Facts] : Prop :=
  ∀ (m : (ℓ : Loc Cert.InDuIdeal.nD Cert.InDuIdeal.τ Cert.InDuIdeal.sig) → Buf (Elt Ideal) ℓ) (g : Dev Cert.InDuIdeal.nD → PrngReg)
    (m' : (ℓ : Loc Cert.InDuRefIdeal.nD Cert.InDuRefIdeal.τ Cert.InDuRefIdeal.sig) → Buf (Elt Ideal) ℓ) (g' : Dev Cert.InDuRefIdeal.nD → PrngReg), Pre_InDuIdeal m →
    (∀ c : Dev Cert.InDuIdeal.nD,
      m' ((c.tc : Thread Cert.InDuRefIdeal.nD Cert.InDuRefIdeal.τ).loc Cert.InDuRefIdeal.main_arg0) = m ((c.tc : Thread Cert.InDuIdeal.nD Cert.InDuIdeal.τ).loc Cert.InDuIdeal.main_arg0)
      ∧ m' ((c.tc : Thread Cert.InDuRefIdeal.nD Cert.InDuRefIdeal.τ).loc Cert.InDuRefIdeal.main_arg1) = m ((c.tc : Thread Cert.InDuIdeal.nD Cert.InDuIdeal.τ).loc Cert.InDuIdeal.main_arg1)
      ∧ m' ((c.tc : Thread Cert.InDuRefIdeal.nD Cert.InDuRefIdeal.τ).loc Cert.InDuRefIdeal.main_arg2) = m ((c.tc : Thread Cert.InDuIdeal.nD Cert.InDuIdeal.τ).loc Cert.InDuIdeal.main_arg2)
      ∧ m' ((c.tc : Thread Cert.InDuRefIdeal.nD Cert.InDuRefIdeal.τ).loc Cert.InDuRefIdeal.main_arg3) = m ((c.tc : Thread Cert.InDuIdeal.nD Cert.InDuIdeal.τ).loc Cert.InDuIdeal.main_arg3)) →
    ∃ (v0 : (c : Dev Cert.InDuIdeal.nD) → Buf (Elt Ideal) ((c.tc : Thread Cert.InDuIdeal.nD Cert.InDuIdeal.τ).loc Cert.InDuIdeal.main_v0)),
      θ_run (Cert.InDuIdeal.defs (F := Ideal)) (onTc (τ := Cert.InDuIdeal.τ) (Cert.InDuIdeal.main (F := Ideal))) ⟨m, fun _ => 0, g⟩ (fun r => ∀ c : Dev Cert.InDuIdeal.nD,
          r.2.mem ((c.tc : Thread Cert.InDuIdeal.nD Cert.InDuIdeal.τ).loc Cert.InDuIdeal.main_v0) = v0 c
          ∧ r.2.mem ((c.tc : Thread Cert.InDuIdeal.nD Cert.InDuIdeal.τ).loc Cert.InDuIdeal.main_arg0) = m ((c.tc : Thread Cert.InDuIdeal.nD Cert.InDuIdeal.τ).loc Cert.InDuIdeal.main_arg0)
          ∧ r.2.mem ((c.tc : Thread Cert.InDuIdeal.nD Cert.InDuIdeal.τ).loc Cert.InDuIdeal.main_arg1) = m ((c.tc : Thread Cert.InDuIdeal.nD Cert.InDuIdeal.τ).loc Cert.InDuIdeal.main_arg1)
          ∧ r.2.mem ((c.tc : Thread Cert.InDuIdeal.nD Cert.InDuIdeal.τ).loc Cert.InDuIdeal.main_arg2) = m ((c.tc : Thread Cert.InDuIdeal.nD Cert.InDuIdeal.τ).loc Cert.InDuIdeal.main_arg2)
          ∧ r.2.mem ((c.tc : Thread Cert.InDuIdeal.nD Cert.InDuIdeal.τ).loc Cert.InDuIdeal.main_arg3) = m ((c.tc : Thread Cert.InDuIdeal.nD Cert.InDuIdeal.τ).loc Cert.InDuIdeal.main_arg3))
      ∧ θ_run (Cert.InDuRefIdeal.defs (F := Ideal)) (onTc (τ := Cert.InDuRefIdeal.τ) (Cert.InDuRefIdeal.main (F := Ideal))) ⟨m', fun _ => 0, g'⟩ (fun r => ∀ c : Dev Cert.InDuRefIdeal.nD,
          r.2.mem ((c.tc : Thread Cert.InDuRefIdeal.nD Cert.InDuRefIdeal.τ).loc Cert.InDuRefIdeal.main_v15) = v0 c
          ∧ r.2.mem ((c.tc : Thread Cert.InDuRefIdeal.nD Cert.InDuRefIdeal.τ).loc Cert.InDuRefIdeal.main_arg0) = m' ((c.tc : Thread Cert.InDuRefIdeal.nD Cert.InDuRefIdeal.τ).loc Cert.InDuRefIdeal.main_arg0)
          ∧ r.2.mem ((c.tc : Thread Cert.InDuRefIdeal.nD Cert.InDuRefIdeal.τ).loc Cert.InDuRefIdeal.main_arg1) = m' ((c.tc : Thread Cert.InDuRefIdeal.nD Cert.InDuRefIdeal.τ).loc Cert.InDuRefIdeal.main_arg1)
          ∧ r.2.mem ((c.tc : Thread Cert.InDuRefIdeal.nD Cert.InDuRefIdeal.τ).loc Cert.InDuRefIdeal.main_arg2) = m' ((c.tc : Thread Cert.InDuRefIdeal.nD Cert.InDuRefIdeal.τ).loc Cert.InDuRefIdeal.main_arg2)
          ∧ r.2.mem ((c.tc : Thread Cert.InDuRefIdeal.nD Cert.InDuRefIdeal.τ).loc Cert.InDuRefIdeal.main_arg3) = m' ((c.tc : Thread Cert.InDuRefIdeal.nD Cert.InDuRefIdeal.τ).loc Cert.InDuRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_v18) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_FfnUp_FfnUpIdeal : Prop :=
  True

def algebraic_FfnUpIdeal_FfnUpRefIdeal_pre_finite_up [hFfnUpIdeal : Cert.FfnUpIdeal.Facts] [hFfnUpRefIdeal : Cert.FfnUpRefIdeal.Facts] [hPre_finite_up : Cert.Pre_finite_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_finite_up m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v12) = v0 c
          ∧ r.2.mem ((c.tc : Thread Cert.FfnUpRefIdeal.nD Cert.FfnUpRefIdeal.τ).loc Cert.FfnUpRefIdeal.main_v13) = v1 c
          ∧ r.2.mem ((c.tc : Thread Cert.FfnUpRefIdeal.nD Cert.FfnUpRefIdeal.τ).loc Cert.FfnUpRefIdeal.main_v14) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDa_FfnDaIdeal : Prop :=
  True

def algebraic_FfnDaIdeal_FfnDaRefIdeal_pre_finite_da [hFfnDaIdeal : Cert.FfnDaIdeal.Facts] [hFfnDaRefIdeal : Cert.FfnDaRefIdeal.Facts] [hPre_finite_da : Cert.Pre_finite_da.Facts] : Prop :=
  ∀ (m : (ℓ : Loc Cert.FfnDaIdeal.nD Cert.FfnDaIdeal.τ Cert.FfnDaIdeal.sig) → Buf (Elt Ideal) ℓ) (g : Dev Cert.FfnDaIdeal.nD → PrngReg)
    (m' : (ℓ : Loc Cert.FfnDaRefIdeal.nD Cert.FfnDaRefIdeal.τ Cert.FfnDaRefIdeal.sig) → Buf (Elt Ideal) ℓ) (g' : Dev Cert.FfnDaRefIdeal.nD → PrngReg), Pre_FfnDaIdeal_finite_da m →
    (∀ c : Dev Cert.FfnDaIdeal.nD,
      m' ((c.tc : Thread Cert.FfnDaRefIdeal.nD Cert.FfnDaRefIdeal.τ).loc Cert.FfnDaRefIdeal.main_arg0) = m ((c.tc : Thread Cert.FfnDaIdeal.nD Cert.FfnDaIdeal.τ).loc Cert.FfnDaIdeal.main_arg0)
      ∧ m' ((c.tc : Thread Cert.FfnDaRefIdeal.nD Cert.FfnDaRefIdeal.τ).loc Cert.FfnDaRefIdeal.main_arg1) = m ((c.tc : Thread Cert.FfnDaIdeal.nD Cert.FfnDaIdeal.τ).loc Cert.FfnDaIdeal.main_arg1)
      ∧ m' ((c.tc : Thread Cert.FfnDaRefIdeal.nD Cert.FfnDaRefIdeal.τ).loc Cert.FfnDaRefIdeal.main_arg2) = m ((c.tc : Thread Cert.FfnDaIdeal.nD Cert.FfnDaIdeal.τ).loc Cert.FfnDaIdeal.main_arg2)
      ∧ m' ((c.tc : Thread Cert.FfnDaRefIdeal.nD Cert.FfnDaRefIdeal.τ).loc Cert.FfnDaRefIdeal.main_arg3) = m ((c.tc : Thread Cert.FfnDaIdeal.nD Cert.FfnDaIdeal.τ).loc Cert.FfnDaIdeal.main_arg3)) →
    ∃ (v0 : (c : Dev Cert.FfnDaIdeal.nD) → Buf (Elt Ideal) ((c.tc : Thread Cert.FfnDaIdeal.nD Cert.FfnDaIdeal.τ).loc Cert.FfnDaIdeal.main_v18_0)) (v1 : (c : Dev Cert.FfnDaIdeal.nD) → Buf (Elt Ideal) ((c.tc : Thread Cert.FfnDaIdeal.nD Cert.FfnDaIdeal.τ).loc Cert.FfnDaIdeal.main_v18_1)),
      θ_run (Cert.FfnDaIdeal.defs (F := Ideal)) (onTc (τ := Cert.FfnDaIdeal.τ) (Cert.FfnDaIdeal.main (F := Ideal))) ⟨m, fun _ => 0, g⟩ (fun r => ∀ c : Dev Cert.FfnDaIdeal.nD,
          r.2.mem ((c.tc : Thread Cert.FfnDaIdeal.nD Cert.FfnDaIdeal.τ).loc Cert.FfnDaIdeal.main_v18_0) = v0 c
          ∧ r.2.mem ((c.tc : Thread Cert.FfnDaIdeal.nD Cert.FfnDaIdeal.τ).loc Cert.FfnDaIdeal.main_v18_1) = v1 c
          ∧ r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
          ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
          ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
          ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ θ_run (Cert.FfnDaRefIdeal.defs (F := Ideal)) (onTc (τ := Cert.FfnDaRefIdeal.τ) (Cert.FfnDaRefIdeal.main (F := Ideal))) ⟨m', fun _ => 0, g'⟩ (fun r => ∀ c : Dev Cert.FfnDaRefIdeal.nD,
          r.2.mem ((c.tc : Thread Cert.FfnDaRefIdeal.nD Cert.FfnDaRefIdeal.τ).loc Cert.FfnDaRefIdeal.main_v14) = v0 c
          ∧ r.2.mem ((c.tc : Thread Cert.FfnDaRefIdeal.nD Cert.FfnDaRefIdeal.τ).loc Cert.FfnDaRefIdeal.main_v15) = v1 c
          ∧ r.2.mem ((c.tc : Thread Cert.FfnDaRefIdeal.nD Cert.FfnDaRefIdeal.τ).loc Cert.FfnDaRefIdeal.main_arg0) = m' ((c.tc : Thread Cert.FfnDaRefIdeal.nD Cert.FfnDaRefIdeal.τ).loc Cert.FfnDaRefIdeal.main_arg0)
          ∧ r.2.mem ((c.tc : Thread Cert.FfnDaRefIdeal.nD Cert.FfnDaRefIdeal.τ).loc Cert.FfnDaRefIdeal.main_arg1) = m' ((c.tc : Thread Cert.FfnDaRefIdeal.nD Cert.FfnDaRefIdeal.τ).loc Cert.FfnDaRefIdeal.main_arg1)
          ∧ r.2.mem ((c.tc : Thread Cert.FfnDaRefIdeal.nD Cert.FfnDaRefIdeal.τ).loc Cert.FfnDaRefIdeal.main_arg2) = m' ((c.tc : Thread Cert.FfnDaRefIdeal.nD Cert.FfnDaRefIdeal.τ).loc Cert.FfnDaRefIdeal.main_arg2)
          ∧ r.2.mem ((c.tc : Thread Cert.FfnDaRefIdeal.nD Cert.FfnDaRefIdeal.τ).loc Cert.FfnDaRefIdeal.main_arg3) = m' ((c.tc : Thread Cert.FfnDaRefIdeal.nD Cert.FfnDaRefIdeal.τ).loc Cert.FfnDaRefIdeal.main_arg3))

def preserves_FfnDn_FfnDnIdeal : Prop :=
  True

def algebraic_FfnDnIdeal_FfnDnRefIdeal_pre_finite_dn [hFfnDnIdeal : Cert.FfnDnIdeal.Facts] [hFfnDnRefIdeal : Cert.FfnDnRefIdeal.Facts] [hPre_finite_dn : Cert.Pre_finite_dn.Facts] : Prop :=
  ∀ (m : (ℓ : Loc Cert.FfnDnIdeal.nD Cert.FfnDnIdeal.τ Cert.FfnDnIdeal.sig) → Buf (Elt Ideal) ℓ) (g : Dev Cert.FfnDnIdeal.nD → PrngReg)
    (m' : (ℓ : Loc Cert.FfnDnRefIdeal.nD Cert.FfnDnRefIdeal.τ Cert.FfnDnRefIdeal.sig) → Buf (Elt Ideal) ℓ) (g' : Dev Cert.FfnDnRefIdeal.nD → PrngReg), Pre_FfnDnIdeal_finite_dn m →
    (∀ c : Dev Cert.FfnDnIdeal.nD,
      m' ((c.tc : Thread Cert.FfnDnRefIdeal.nD Cert.FfnDnRefIdeal.τ).loc Cert.FfnDnRefIdeal.main_arg0) = m ((c.tc : Thread Cert.FfnDnIdeal.nD Cert.FfnDnIdeal.τ).loc Cert.FfnDnIdeal.main_arg0)
      ∧ m' ((c.tc : Thread Cert.FfnDnRefIdeal.nD Cert.FfnDnRefIdeal.τ).loc Cert.FfnDnRefIdeal.main_arg1) = m ((c.tc : Thread Cert.FfnDnIdeal.nD Cert.FfnDnIdeal.τ).loc Cert.FfnDnIdeal.main_arg1)
      ∧ m' ((c.tc : Thread Cert.FfnDnRefIdeal.nD Cert.FfnDnRefIdeal.τ).loc Cert.FfnDnRefIdeal.main_arg2) = m ((c.tc : Thread Cert.FfnDnIdeal.nD Cert.FfnDnIdeal.τ).loc Cert.FfnDnIdeal.main_arg2)
      ∧ m' ((c.tc : Thread Cert.FfnDnRefIdeal.nD Cert.FfnDnRefIdeal.τ).loc Cert.FfnDnRefIdeal.main_arg3) = m ((c.tc : Thread Cert.FfnDnIdeal.nD Cert.FfnDnIdeal.τ).loc Cert.FfnDnIdeal.main_arg3)
      ∧ m' ((c.tc : Thread Cert.FfnDnRefIdeal.nD Cert.FfnDnRefIdeal.τ).loc Cert.FfnDnRefIdeal.main_arg4) = m ((c.tc : Thread Cert.FfnDnIdeal.nD Cert.FfnDnIdeal.τ).loc Cert.FfnDnIdeal.main_arg4)
      ∧ m' ((c.tc : Thread Cert.FfnDnRefIdeal.nD Cert.FfnDnRefIdeal.τ).loc Cert.FfnDnRefIdeal.main_arg5) = m ((c.tc : Thread Cert.FfnDnIdeal.nD Cert.FfnDnIdeal.τ).loc Cert.FfnDnIdeal.main_arg5)
      ∧ m' ((c.tc : Thread Cert.FfnDnRefIdeal.nD Cert.FfnDnRefIdeal.τ).loc Cert.FfnDnRefIdeal.main_arg6) = m ((c.tc : Thread Cert.FfnDnIdeal.nD Cert.FfnDnIdeal.τ).loc Cert.FfnDnIdeal.main_arg6)) →
    ∃ (v0 : (c : Dev Cert.FfnDnIdeal.nD) → Buf (Elt Ideal) ((c.tc : Thread Cert.FfnDnIdeal.nD Cert.FfnDnIdeal.τ).loc Cert.FfnDnIdeal.main_v0_0)) (v1 : (c : Dev Cert.FfnDnIdeal.nD) → Buf (Elt Ideal) ((c.tc : Thread Cert.FfnDnIdeal.nD Cert.FfnDnIdeal.τ).loc Cert.FfnDnIdeal.main_v0_1)),
      θ_run (Cert.FfnDnIdeal.defs (F := Ideal)) (onTc (τ := Cert.FfnDnIdeal.τ) (Cert.FfnDnIdeal.main (F := Ideal))) ⟨m, fun _ => 0, g⟩ (fun r => ∀ c : Dev Cert.FfnDnIdeal.nD,
          r.2.mem ((c.tc : Thread Cert.FfnDnIdeal.nD Cert.FfnDnIdeal.τ).loc Cert.FfnDnIdeal.main_v0_0) = v0 c
          ∧ r.2.mem ((c.tc : Thread Cert.FfnDnIdeal.nD Cert.FfnDnIdeal.τ).loc Cert.FfnDnIdeal.main_v0_1) = v1 c
          ∧ r.2.mem ((c.tc : Thread Cert.FfnDnIdeal.nD Cert.FfnDnIdeal.τ).loc Cert.FfnDnIdeal.main_arg0) = m ((c.tc : Thread Cert.FfnDnIdeal.nD Cert.FfnDnIdeal.τ).loc Cert.FfnDnIdeal.main_arg0)
          ∧ r.2.mem ((c.tc : Thread Cert.FfnDnIdeal.nD Cert.FfnDnIdeal.τ).loc Cert.FfnDnIdeal.main_arg1) = m ((c.tc : Thread Cert.FfnDnIdeal.nD Cert.FfnDnIdeal.τ).loc Cert.FfnDnIdeal.main_arg1)
          ∧ r.2.mem ((c.tc : Thread Cert.FfnDnIdeal.nD Cert.FfnDnIdeal.τ).loc Cert.FfnDnIdeal.main_arg2) = m ((c.tc : Thread Cert.FfnDnIdeal.nD Cert.FfnDnIdeal.τ).loc Cert.FfnDnIdeal.main_arg2)
          ∧ r.2.mem ((c.tc : Thread Cert.FfnDnIdeal.nD Cert.FfnDnIdeal.τ).loc Cert.FfnDnIdeal.main_arg3) = m ((c.tc : Thread Cert.FfnDnIdeal.nD Cert.FfnDnIdeal.τ).loc Cert.FfnDnIdeal.main_arg3)
          ∧ r.2.mem ((c.tc : Thread Cert.FfnDnIdeal.nD Cert.FfnDnIdeal.τ).loc Cert.FfnDnIdeal.main_arg4) = m ((c.tc : Thread Cert.FfnDnIdeal.nD Cert.FfnDnIdeal.τ).loc Cert.FfnDnIdeal.main_arg4)
          ∧ r.2.mem ((c.tc : Thread Cert.FfnDnIdeal.nD Cert.FfnDnIdeal.τ).loc Cert.FfnDnIdeal.main_arg5) = m ((c.tc : Thread Cert.FfnDnIdeal.nD Cert.FfnDnIdeal.τ).loc Cert.FfnDnIdeal.main_arg5)
          ∧ r.2.mem ((c.tc : Thread Cert.FfnDnIdeal.nD Cert.FfnDnIdeal.τ).loc Cert.FfnDnIdeal.main_arg6) = m ((c.tc : Thread Cert.FfnDnIdeal.nD Cert.FfnDnIdeal.τ).loc Cert.FfnDnIdeal.main_arg6))
      ∧ θ_run (Cert.FfnDnRefIdeal.defs (F := Ideal)) (onTc (τ := Cert.FfnDnRefIdeal.τ) (Cert.FfnDnRefIdeal.main (F := Ideal))) ⟨m', fun _ => 0, g'⟩ (fun r => ∀ c : Dev Cert.FfnDnRefIdeal.nD,
          r.2.mem ((c.tc : Thread Cert.FfnDnRefIdeal.nD Cert.FfnDnRefIdeal.τ).loc Cert.FfnDnRefIdeal.main_v45) = v0 c
          ∧ r.2.mem ((c.tc : Thread Cert.FfnDnRefIdeal.nD Cert.FfnDnRefIdeal.τ).loc Cert.FfnDnRefIdeal.main_v28) = v1 c
          ∧ r.2.mem ((c.tc : Thread Cert.FfnDnRefIdeal.nD Cert.FfnDnRefIdeal.τ).loc Cert.FfnDnRefIdeal.main_arg0) = m' ((c.tc : Thread Cert.FfnDnRefIdeal.nD Cert.FfnDnRefIdeal.τ).loc Cert.FfnDnRefIdeal.main_arg0)
          ∧ r.2.mem ((c.tc : Thread Cert.FfnDnRefIdeal.nD Cert.FfnDnRefIdeal.τ).loc Cert.FfnDnRefIdeal.main_arg1) = m' ((c.tc : Thread Cert.FfnDnRefIdeal.nD Cert.FfnDnRefIdeal.τ).loc Cert.FfnDnRefIdeal.main_arg1)
          ∧ r.2.mem ((c.tc : Thread Cert.FfnDnRefIdeal.nD Cert.FfnDnRefIdeal.τ).loc Cert.FfnDnRefIdeal.main_arg2) = m' ((c.tc : Thread Cert.FfnDnRefIdeal.nD Cert.FfnDnRefIdeal.τ).loc Cert.FfnDnRefIdeal.main_arg2)
          ∧ r.2.mem ((c.tc : Thread Cert.FfnDnRefIdeal.nD Cert.FfnDnRefIdeal.τ).loc Cert.FfnDnRefIdeal.main_arg3) = m' ((c.tc : Thread Cert.FfnDnRefIdeal.nD Cert.FfnDnRefIdeal.τ).loc Cert.FfnDnRefIdeal.main_arg3)
          ∧ r.2.mem ((c.tc : Thread Cert.FfnDnRefIdeal.nD Cert.FfnDnRefIdeal.τ).loc Cert.FfnDnRefIdeal.main_arg4) = m' ((c.tc : Thread Cert.FfnDnRefIdeal.nD Cert.FfnDnRefIdeal.τ).loc Cert.FfnDnRefIdeal.main_arg4)
          ∧ r.2.mem ((c.tc : Thread Cert.FfnDnRefIdeal.nD Cert.FfnDnRefIdeal.τ).loc Cert.FfnDnRefIdeal.main_arg5) = m' ((c.tc : Thread Cert.FfnDnRefIdeal.nD Cert.FfnDnRefIdeal.τ).loc Cert.FfnDnRefIdeal.main_arg5)
          ∧ r.2.mem ((c.tc : Thread Cert.FfnDnRefIdeal.nD Cert.FfnDnRefIdeal.τ).loc Cert.FfnDnRefIdeal.main_arg6) = m' ((c.tc : Thread Cert.FfnDnRefIdeal.nD Cert.FfnDnRefIdeal.τ).loc Cert.FfnDnRefIdeal.main_arg6))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwMix_DwMixIdeal : Prop :=
  True

def algebraic_DwMixIdeal_DwMixRefIdeal [hDwMixIdeal : Cert.DwMixIdeal.Facts] [hDwMixRefIdeal : Cert.DwMixRefIdeal.Facts] : Prop :=
  ∀ (m : (ℓ : Loc Cert.DwMixIdeal.nD Cert.DwMixIdeal.τ Cert.DwMixIdeal.sig) → Buf (Elt Ideal) ℓ) (g : Dev Cert.DwMixIdeal.nD → PrngReg)
    (m' : (ℓ : Loc Cert.DwMixRefIdeal.nD Cert.DwMixRefIdeal.τ Cert.DwMixRefIdeal.sig) → Buf (Elt Ideal) ℓ) (g' : Dev Cert.DwMixRefIdeal.nD → PrngReg), Pre_DwMixIdeal m →
    (∀ c : Dev Cert.DwMixIdeal.nD,
      m' ((c.tc : Thread Cert.DwMixRefIdeal.nD Cert.DwMixRefIdeal.τ).loc Cert.DwMixRefIdeal.main_arg0) = m ((c.tc : Thread Cert.DwMixIdeal.nD Cert.DwMixIdeal.τ).loc Cert.DwMixIdeal.main_arg0)
      ∧ m' ((c.tc : Thread Cert.DwMixRefIdeal.nD Cert.DwMixRefIdeal.τ).loc Cert.DwMixRefIdeal.main_arg1) = m ((c.tc : Thread Cert.DwMixIdeal.nD Cert.DwMixIdeal.τ).loc Cert.DwMixIdeal.main_arg1)) →
    ∃ (v0 : (c : Dev Cert.DwMixIdeal.nD) → Buf (Elt Ideal) ((c.tc : Thread Cert.DwMixIdeal.nD Cert.DwMixIdeal.τ).loc Cert.DwMixIdeal.main_v0)),
      θ_run (Cert.DwMixIdeal.defs (F := Ideal)) (onTc (τ := Cert.DwMixIdeal.τ) (Cert.DwMixIdeal.main (F := Ideal))) ⟨m, fun _ => 0, g⟩ (fun r => ∀ c : Dev Cert.DwMixIdeal.nD,
          r.2.mem ((c.tc : Thread Cert.DwMixIdeal.nD Cert.DwMixIdeal.τ).loc Cert.DwMixIdeal.main_v0) = v0 c
          ∧ r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
          ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1))
      ∧ θ_run (Cert.DwMixRefIdeal.defs (F := Ideal)) (onTc (τ := Cert.DwMixRefIdeal.τ) (Cert.DwMixRefIdeal.main (F := Ideal))) ⟨m', fun _ => 0, g'⟩ (fun r => ∀ c : Dev Cert.DwMixRefIdeal.nD,
          r.2.mem ((c.tc : Thread Cert.DwMixRefIdeal.nD Cert.DwMixRefIdeal.τ).loc Cert.DwMixRefIdeal.main_v5) = v0 c
          ∧ r.2.mem ((c.tc : Thread Cert.DwMixRefIdeal.nD Cert.DwMixRefIdeal.τ).loc Cert.DwMixRefIdeal.main_arg0) = m' ((c.tc : Thread Cert.DwMixRefIdeal.nD Cert.DwMixRefIdeal.τ).loc Cert.DwMixRefIdeal.main_arg0)
          ∧ r.2.mem ((c.tc : Thread Cert.DwMixRefIdeal.nD Cert.DwMixRefIdeal.τ).loc Cert.DwMixRefIdeal.main_arg1) = m' ((c.tc : Thread Cert.DwMixRefIdeal.nD Cert.DwMixRefIdeal.τ).loc Cert.DwMixRefIdeal.main_arg1))

def preserves_DwSsm_DwSsmIdeal : Prop :=
  True

def algebraic_DwSsmIdeal_DwSsmRefIdeal [hDwSsmIdeal : Cert.DwSsmIdeal.Facts] [hDwSsmRefIdeal : Cert.DwSsmRefIdeal.Facts] : Prop :=
  ∀ (m : (ℓ : Loc Cert.DwSsmIdeal.nD Cert.DwSsmIdeal.τ Cert.DwSsmIdeal.sig) → Buf (Elt Ideal) ℓ) (g : Dev Cert.DwSsmIdeal.nD → PrngReg)
    (m' : (ℓ : Loc Cert.DwSsmRefIdeal.nD Cert.DwSsmRefIdeal.τ Cert.DwSsmRefIdeal.sig) → Buf (Elt Ideal) ℓ) (g' : Dev Cert.DwSsmRefIdeal.nD → PrngReg), Pre_DwSsmIdeal m →
    (∀ c : Dev Cert.DwSsmIdeal.nD,
      m' ((c.tc : Thread Cert.DwSsmRefIdeal.nD Cert.DwSsmRefIdeal.τ).loc Cert.DwSsmRefIdeal.main_arg0) = m ((c.tc : Thread Cert.DwSsmIdeal.nD Cert.DwSsmIdeal.τ).loc Cert.DwSsmIdeal.main_arg0)
      ∧ m' ((c.tc : Thread Cert.DwSsmRefIdeal.nD Cert.DwSsmRefIdeal.τ).loc Cert.DwSsmRefIdeal.main_arg1) = m ((c.tc : Thread Cert.DwSsmIdeal.nD Cert.DwSsmIdeal.τ).loc Cert.DwSsmIdeal.main_arg1)) →
    ∃ (v0 : (c : Dev Cert.DwSsmIdeal.nD) → Buf (Elt Ideal) ((c.tc : Thread Cert.DwSsmIdeal.nD Cert.DwSsmIdeal.τ).loc Cert.DwSsmIdeal.main_v0)),
      θ_run (Cert.DwSsmIdeal.defs (F := Ideal)) (onTc (τ := Cert.DwSsmIdeal.τ) (Cert.DwSsmIdeal.main (F := Ideal))) ⟨m, fun _ => 0, g⟩ (fun r => ∀ c : Dev Cert.DwSsmIdeal.nD,
          r.2.mem ((c.tc : Thread Cert.DwSsmIdeal.nD Cert.DwSsmIdeal.τ).loc Cert.DwSsmIdeal.main_v0) = v0 c
          ∧ r.2.mem ((c.tc : Thread Cert.DwSsmIdeal.nD Cert.DwSsmIdeal.τ).loc Cert.DwSsmIdeal.main_arg0) = m ((c.tc : Thread Cert.DwSsmIdeal.nD Cert.DwSsmIdeal.τ).loc Cert.DwSsmIdeal.main_arg0)
          ∧ r.2.mem ((c.tc : Thread Cert.DwSsmIdeal.nD Cert.DwSsmIdeal.τ).loc Cert.DwSsmIdeal.main_arg1) = m ((c.tc : Thread Cert.DwSsmIdeal.nD Cert.DwSsmIdeal.τ).loc Cert.DwSsmIdeal.main_arg1))
      ∧ θ_run (Cert.DwSsmRefIdeal.defs (F := Ideal)) (onTc (τ := Cert.DwSsmRefIdeal.τ) (Cert.DwSsmRefIdeal.main (F := Ideal))) ⟨m', fun _ => 0, g'⟩ (fun r => ∀ c : Dev Cert.DwSsmRefIdeal.nD,
          r.2.mem ((c.tc : Thread Cert.DwSsmRefIdeal.nD Cert.DwSsmRefIdeal.τ).loc Cert.DwSsmRefIdeal.main_v6) = v0 c
          ∧ r.2.mem ((c.tc : Thread Cert.DwSsmRefIdeal.nD Cert.DwSsmRefIdeal.τ).loc Cert.DwSsmRefIdeal.main_arg0) = m' ((c.tc : Thread Cert.DwSsmRefIdeal.nD Cert.DwSsmRefIdeal.τ).loc Cert.DwSsmRefIdeal.main_arg0)
          ∧ r.2.mem ((c.tc : Thread Cert.DwSsmRefIdeal.nD Cert.DwSsmRefIdeal.τ).loc Cert.DwSsmRefIdeal.main_arg1) = m' ((c.tc : Thread Cert.DwSsmRefIdeal.nD Cert.DwSsmRefIdeal.τ).loc Cert.DwSsmRefIdeal.main_arg1))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)
      ∧ m' ((c.tc : Thread Cert.OutARefIdeal.nD Cert.OutARefIdeal.τ).loc Cert.OutARefIdeal.main_arg2) = m ((c.tc : Thread Cert.OutAIdeal.nD Cert.OutAIdeal.τ).loc Cert.OutAIdeal.main_arg2)) →
    ∃ (v0 : (c : Dev Cert.OutAIdeal.nD) → Buf (Elt Ideal) ((c.tc : Thread Cert.OutAIdeal.nD Cert.OutAIdeal.τ).loc Cert.OutAIdeal.main_v0)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v0) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v3) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1)
          ∧ r.2.mem ((c.tc : Thread Cert.OutARefIdeal.nD Cert.OutARefIdeal.τ).loc Cert.OutARefIdeal.main_arg2) = m' ((c.tc : Thread Cert.OutARefIdeal.nD Cert.OutARefIdeal.τ).loc Cert.OutARefIdeal.main_arg2))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)) →
    ∃ (v0 : (c : Dev Cert.QProjIdeal.nD) → Buf (Elt Ideal) ((c.tc : Thread Cert.QProjIdeal.nD Cert.QProjIdeal.τ).loc Cert.QProjIdeal.main_v0)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v0) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v3) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)) →
    ∃ (v0 : (c : Dev Cert.OProjIdeal.nD) → Buf (Elt Ideal) ((c.tc : Thread Cert.OProjIdeal.nD Cert.OProjIdeal.τ).loc Cert.OProjIdeal.main_v0_0)) (v1 : (c : Dev Cert.OProjIdeal.nD) → Buf (Elt Ideal) ((c.tc : Thread Cert.OProjIdeal.nD Cert.OProjIdeal.τ).loc Cert.OProjIdeal.main_v0_1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0_0) = v0 c
          ∧ r.2.mem ((c.tc : Thread Cert.OProjIdeal.nD Cert.OProjIdeal.τ).loc Cert.OProjIdeal.main_v0_1) = v1 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v3) = v0 c
          ∧ r.2.mem ((c.tc : Thread Cert.OProjRefIdeal.nD Cert.OProjRefIdeal.τ).loc Cert.OProjRefIdeal.main_v16) = v1 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3))

def preserves_DO_DOIdeal : Prop :=
  True

def algebraic_DOIdeal_DORefIdeal [hDOIdeal : Cert.DOIdeal.Facts] [hDORefIdeal : Cert.DORefIdeal.Facts] : Prop :=
  ∀ (m : (ℓ : Loc Cert.DOIdeal.nD Cert.DOIdeal.τ Cert.DOIdeal.sig) → Buf (Elt Ideal) ℓ) (g : Dev Cert.DOIdeal.nD → PrngReg)
    (m' : (ℓ : Loc Cert.DORefIdeal.nD Cert.DORefIdeal.τ Cert.DORefIdeal.sig) → Buf (Elt Ideal) ℓ) (g' : Dev Cert.DORefIdeal.nD → PrngReg), Pre_DOIdeal m →
    (∀ c : Dev Cert.DOIdeal.nD,
      m' ((c.tc : Thread Cert.DORefIdeal.nD Cert.DORefIdeal.τ).loc Cert.DORefIdeal.main_arg0) = m ((c.tc : Thread Cert.DOIdeal.nD Cert.DOIdeal.τ).loc Cert.DOIdeal.main_arg0)
      ∧ m' ((c.tc : Thread Cert.DORefIdeal.nD Cert.DORefIdeal.τ).loc Cert.DORefIdeal.main_arg1) = m ((c.tc : Thread Cert.DOIdeal.nD Cert.DOIdeal.τ).loc Cert.DOIdeal.main_arg1)) →
    ∃ (v0 : (c : Dev Cert.DOIdeal.nD) → Buf (Elt Ideal) ((c.tc : Thread Cert.DOIdeal.nD Cert.DOIdeal.τ).loc Cert.DOIdeal.main_v0)),
      θ_run (Cert.DOIdeal.defs (F := Ideal)) (onTc (τ := Cert.DOIdeal.τ) (Cert.DOIdeal.main (F := Ideal))) ⟨m, fun _ => 0, g⟩ (fun r => ∀ c : Dev Cert.DOIdeal.nD,
          r.2.mem ((c.tc : Thread Cert.DOIdeal.nD Cert.DOIdeal.τ).loc Cert.DOIdeal.main_v0) = v0 c
          ∧ r.2.mem ((c.tc : Thread Cert.DOIdeal.nD Cert.DOIdeal.τ).loc Cert.DOIdeal.main_arg0) = m ((c.tc : Thread Cert.DOIdeal.nD Cert.DOIdeal.τ).loc Cert.DOIdeal.main_arg0)
          ∧ r.2.mem ((c.tc : Thread Cert.DOIdeal.nD Cert.DOIdeal.τ).loc Cert.DOIdeal.main_arg1) = m ((c.tc : Thread Cert.DOIdeal.nD Cert.DOIdeal.τ).loc Cert.DOIdeal.main_arg1))
      ∧ θ_run (Cert.DORefIdeal.defs (F := Ideal)) (onTc (τ := Cert.DORefIdeal.τ) (Cert.DORefIdeal.main (F := Ideal))) ⟨m', fun _ => 0, g'⟩ (fun r => ∀ c : Dev Cert.DORefIdeal.nD,
          r.2.mem ((c.tc : Thread Cert.DORefIdeal.nD Cert.DORefIdeal.τ).loc Cert.DORefIdeal.main_v4) = v0 c
          ∧ r.2.mem ((c.tc : Thread Cert.DORefIdeal.nD Cert.DORefIdeal.τ).loc Cert.DORefIdeal.main_arg0) = m' ((c.tc : Thread Cert.DORefIdeal.nD Cert.DORefIdeal.τ).loc Cert.DORefIdeal.main_arg0)
          ∧ r.2.mem ((c.tc : Thread Cert.DORefIdeal.nD Cert.DORefIdeal.τ).loc Cert.DORefIdeal.main_arg1) = m' ((c.tc : Thread Cert.DORefIdeal.nD Cert.DORefIdeal.τ).loc Cert.DORefIdeal.main_arg1))

def preserves_DUn_DUnIdeal : Prop :=
  True

def algebraic_DUnIdeal_DUnRefIdeal_pre_finite_un [hDUnIdeal : Cert.DUnIdeal.Facts] [hDUnRefIdeal : Cert.DUnRefIdeal.Facts] [hPre_finite_un : Cert.Pre_finite_un.Facts] : Prop :=
  ∀ (m : (ℓ : Loc Cert.DUnIdeal.nD Cert.DUnIdeal.τ Cert.DUnIdeal.sig) → Buf (Elt Ideal) ℓ) (g : Dev Cert.DUnIdeal.nD → PrngReg)
    (m' : (ℓ : Loc Cert.DUnRefIdeal.nD Cert.DUnRefIdeal.τ Cert.DUnRefIdeal.sig) → Buf (Elt Ideal) ℓ) (g' : Dev Cert.DUnRefIdeal.nD → PrngReg), Pre_DUnIdeal_finite_un m →
    (∀ c : Dev Cert.DUnIdeal.nD,
      m' ((c.tc : Thread Cert.DUnRefIdeal.nD Cert.DUnRefIdeal.τ).loc Cert.DUnRefIdeal.main_arg0) = m ((c.tc : Thread Cert.DUnIdeal.nD Cert.DUnIdeal.τ).loc Cert.DUnIdeal.main_arg0)
      ∧ m' ((c.tc : Thread Cert.DUnRefIdeal.nD Cert.DUnRefIdeal.τ).loc Cert.DUnRefIdeal.main_arg1) = m ((c.tc : Thread Cert.DUnIdeal.nD Cert.DUnIdeal.τ).loc Cert.DUnIdeal.main_arg1)
      ∧ m' ((c.tc : Thread Cert.DUnRefIdeal.nD Cert.DUnRefIdeal.τ).loc Cert.DUnRefIdeal.main_arg2) = m ((c.tc : Thread Cert.DUnIdeal.nD Cert.DUnIdeal.τ).loc Cert.DUnIdeal.main_arg2)
      ∧ m' ((c.tc : Thread Cert.DUnRefIdeal.nD Cert.DUnRefIdeal.τ).loc Cert.DUnRefIdeal.main_arg3) = m ((c.tc : Thread Cert.DUnIdeal.nD Cert.DUnIdeal.τ).loc Cert.DUnIdeal.main_arg3)
      ∧ m' ((c.tc : Thread Cert.DUnRefIdeal.nD Cert.DUnRefIdeal.τ).loc Cert.DUnRefIdeal.main_arg4) = m ((c.tc : Thread Cert.DUnIdeal.nD Cert.DUnIdeal.τ).loc Cert.DUnIdeal.main_arg4)) →
    ∃ (v0 : (c : Dev Cert.DUnIdeal.nD) → Buf (Elt Ideal) ((c.tc : Thread Cert.DUnIdeal.nD Cert.DUnIdeal.τ).loc Cert.DUnIdeal.main_v0_0)) (v1 : (c : Dev Cert.DUnIdeal.nD) → Buf (Elt Ideal) ((c.tc : Thread Cert.DUnIdeal.nD Cert.DUnIdeal.τ).loc Cert.DUnIdeal.main_v0_1)),
      θ_run (Cert.DUnIdeal.defs (F := Ideal)) (onTc (τ := Cert.DUnIdeal.τ) (Cert.DUnIdeal.main (F := Ideal))) ⟨m, fun _ => 0, g⟩ (fun r => ∀ c : Dev Cert.DUnIdeal.nD,
          r.2.mem ((c.tc : Thread Cert.DUnIdeal.nD Cert.DUnIdeal.τ).loc Cert.DUnIdeal.main_v0_0) = v0 c
          ∧ r.2.mem ((c.tc : Thread Cert.DUnIdeal.nD Cert.DUnIdeal.τ).loc Cert.DUnIdeal.main_v0_1) = v1 c
          ∧ r.2.mem ((c.tc : Thread Cert.DUnIdeal.nD Cert.DUnIdeal.τ).loc Cert.DUnIdeal.main_arg0) = m ((c.tc : Thread Cert.DUnIdeal.nD Cert.DUnIdeal.τ).loc Cert.DUnIdeal.main_arg0)
          ∧ r.2.mem ((c.tc : Thread Cert.DUnIdeal.nD Cert.DUnIdeal.τ).loc Cert.DUnIdeal.main_arg1) = m ((c.tc : Thread Cert.DUnIdeal.nD Cert.DUnIdeal.τ).loc Cert.DUnIdeal.main_arg1)
          ∧ r.2.mem ((c.tc : Thread Cert.DUnIdeal.nD Cert.DUnIdeal.τ).loc Cert.DUnIdeal.main_arg2) = m ((c.tc : Thread Cert.DUnIdeal.nD Cert.DUnIdeal.τ).loc Cert.DUnIdeal.main_arg2)
          ∧ r.2.mem ((c.tc : Thread Cert.DUnIdeal.nD Cert.DUnIdeal.τ).loc Cert.DUnIdeal.main_arg3) = m ((c.tc : Thread Cert.DUnIdeal.nD Cert.DUnIdeal.τ).loc Cert.DUnIdeal.main_arg3)
          ∧ r.2.mem ((c.tc : Thread Cert.DUnIdeal.nD Cert.DUnIdeal.τ).loc Cert.DUnIdeal.main_arg4) = m ((c.tc : Thread Cert.DUnIdeal.nD Cert.DUnIdeal.τ).loc Cert.DUnIdeal.main_arg4))
      ∧ θ_run (Cert.DUnRefIdeal.defs (F := Ideal)) (onTc (τ := Cert.DUnRefIdeal.τ) (Cert.DUnRefIdeal.main (F := Ideal))) ⟨m', fun _ => 0, g'⟩ (fun r => ∀ c : Dev Cert.DUnRefIdeal.nD,
          r.2.mem ((c.tc : Thread Cert.DUnRefIdeal.nD Cert.DUnRefIdeal.τ).loc Cert.DUnRefIdeal.main_v38) = v0 c
          ∧ r.2.mem ((c.tc : Thread Cert.DUnRefIdeal.nD Cert.DUnRefIdeal.τ).loc Cert.DUnRefIdeal.main_v21) = v1 c
          ∧ r.2.mem ((c.tc : Thread Cert.DUnRefIdeal.nD Cert.DUnRefIdeal.τ).loc Cert.DUnRefIdeal.main_arg0) = m' ((c.tc : Thread Cert.DUnRefIdeal.nD Cert.DUnRefIdeal.τ).loc Cert.DUnRefIdeal.main_arg0)
          ∧ r.2.mem ((c.tc : Thread Cert.DUnRefIdeal.nD Cert.DUnRefIdeal.τ).loc Cert.DUnRefIdeal.main_arg1) = m' ((c.tc : Thread Cert.DUnRefIdeal.nD Cert.DUnRefIdeal.τ).loc Cert.DUnRefIdeal.main_arg1)
          ∧ r.2.mem ((c.tc : Thread Cert.DUnRefIdeal.nD Cert.DUnRefIdeal.τ).loc Cert.DUnRefIdeal.main_arg2) = m' ((c.tc : Thread Cert.DUnRefIdeal.nD Cert.DUnRefIdeal.τ).loc Cert.DUnRefIdeal.main_arg2)
          ∧ r.2.mem ((c.tc : Thread Cert.DUnRefIdeal.nD Cert.DUnRefIdeal.τ).loc Cert.DUnRefIdeal.main_arg3) = m' ((c.tc : Thread Cert.DUnRefIdeal.nD Cert.DUnRefIdeal.τ).loc Cert.DUnRefIdeal.main_arg3)
          ∧ r.2.mem ((c.tc : Thread Cert.DUnRefIdeal.nD Cert.DUnRefIdeal.τ).loc Cert.DUnRefIdeal.main_arg4) = m' ((c.tc : Thread Cert.DUnRefIdeal.nD Cert.DUnRefIdeal.τ).loc Cert.DUnRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v2) = v0 c
          ∧ r.2.mem ((c.tc : Thread Cert.AdamDownRefIdeal.nD Cert.AdamDownRefIdeal.τ).loc Cert.AdamDownRefIdeal.main_v26) = v1 c
          ∧ r.2.mem ((c.tc : Thread Cert.AdamDownRefIdeal.nD Cert.AdamDownRefIdeal.τ).loc Cert.AdamDownRefIdeal.main_v7) = v2 c
          ∧ r.2.mem ((c.tc : Thread Cert.AdamDownRefIdeal.nD Cert.AdamDownRefIdeal.τ).loc Cert.AdamDownRefIdeal.main_v13) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v2) = v0 c
          ∧ r.2.mem ((c.tc : Thread Cert.AdamOutRefIdeal.nD Cert.AdamOutRefIdeal.τ).loc Cert.AdamOutRefIdeal.main_v26) = v1 c
          ∧ r.2.mem ((c.tc : Thread Cert.AdamOutRefIdeal.nD Cert.AdamOutRefIdeal.τ).loc Cert.AdamOutRefIdeal.main_v7) = v2 c
          ∧ r.2.mem ((c.tc : Thread Cert.AdamOutRefIdeal.nD Cert.AdamOutRefIdeal.τ).loc Cert.AdamOutRefIdeal.main_v13) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSsm_AdamSsmIdeal : Prop :=
  True

def algebraic_AdamSsmIdeal_AdamSsmRefIdeal [hAdamSsmIdeal : Cert.AdamSsmIdeal.Facts] [hAdamSsmRefIdeal : Cert.AdamSsmRefIdeal.Facts] : Prop :=
  ∀ (m : (ℓ : Loc Cert.AdamSsmIdeal.nD Cert.AdamSsmIdeal.τ Cert.AdamSsmIdeal.sig) → Buf (Elt Ideal) ℓ) (g : Dev Cert.AdamSsmIdeal.nD → PrngReg)
    (m' : (ℓ : Loc Cert.AdamSsmRefIdeal.nD Cert.AdamSsmRefIdeal.τ Cert.AdamSsmRefIdeal.sig) → Buf (Elt Ideal) ℓ) (g' : Dev Cert.AdamSsmRefIdeal.nD → PrngReg), Pre_AdamSsmIdeal m →
    (∀ c : Dev Cert.AdamSsmIdeal.nD,
      m' ((c.tc : Thread Cert.AdamSsmRefIdeal.nD Cert.AdamSsmRefIdeal.τ).loc Cert.AdamSsmRefIdeal.main_arg0) = m ((c.tc : Thread Cert.AdamSsmIdeal.nD Cert.AdamSsmIdeal.τ).loc Cert.AdamSsmIdeal.main_arg0)
      ∧ m' ((c.tc : Thread Cert.AdamSsmRefIdeal.nD Cert.AdamSsmRefIdeal.τ).loc Cert.AdamSsmRefIdeal.main_arg1) = m ((c.tc : Thread Cert.AdamSsmIdeal.nD Cert.AdamSsmIdeal.τ).loc Cert.AdamSsmIdeal.main_arg1)
      ∧ m' ((c.tc : Thread Cert.AdamSsmRefIdeal.nD Cert.AdamSsmRefIdeal.τ).loc Cert.AdamSsmRefIdeal.main_arg2) = m ((c.tc : Thread Cert.AdamSsmIdeal.nD Cert.AdamSsmIdeal.τ).loc Cert.AdamSsmIdeal.main_arg2)
      ∧ m' ((c.tc : Thread Cert.AdamSsmRefIdeal.nD Cert.AdamSsmRefIdeal.τ).loc Cert.AdamSsmRefIdeal.main_arg3) = m ((c.tc : Thread Cert.AdamSsmIdeal.nD Cert.AdamSsmIdeal.τ).loc Cert.AdamSsmIdeal.main_arg3)) →
    ∃ (v0 : (c : Dev Cert.AdamSsmIdeal.nD) → Buf (Elt Ideal) ((c.tc : Thread Cert.AdamSsmIdeal.nD Cert.AdamSsmIdeal.τ).loc Cert.AdamSsmIdeal.main_v0_0)) (v1 : (c : Dev Cert.AdamSsmIdeal.nD) → Buf (Elt Ideal) ((c.tc : Thread Cert.AdamSsmIdeal.nD Cert.AdamSsmIdeal.τ).loc Cert.AdamSsmIdeal.main_v0_1)) (v2 : (c : Dev Cert.AdamSsmIdeal.nD) → Buf (Elt Ideal) ((c.tc : Thread Cert.AdamSsmIdeal.nD Cert.AdamSsmIdeal.τ).loc Cert.AdamSsmIdeal.main_v0_2)) (v3 : (c : Dev Cert.AdamSsmIdeal.nD) → Buf (Elt Ideal) ((c.tc : Thread Cert.AdamSsmIdeal.nD Cert.AdamSsmIdeal.τ).loc Cert.AdamSsmIdeal.main_v0_3)),
      θ_run (Cert.AdamSsmIdeal.defs (F := Ideal)) (onTc (τ := Cert.AdamSsmIdeal.τ) (Cert.AdamSsmIdeal.main (F := Ideal))) ⟨m, fun _ => 0, g⟩ (fun r => ∀ c : Dev Cert.AdamSsmIdeal.nD,
          r.2.mem ((c.tc : Thread Cert.AdamSsmIdeal.nD Cert.AdamSsmIdeal.τ).loc Cert.AdamSsmIdeal.main_v0_0) = v0 c
          ∧ r.2.mem ((c.tc : Thread Cert.AdamSsmIdeal.nD Cert.AdamSsmIdeal.τ).loc Cert.AdamSsmIdeal.main_v0_1) = v1 c
          ∧ r.2.mem ((c.tc : Thread Cert.AdamSsmIdeal.nD Cert.AdamSsmIdeal.τ).loc Cert.AdamSsmIdeal.main_v0_2) = v2 c
          ∧ r.2.mem ((c.tc : Thread Cert.AdamSsmIdeal.nD Cert.AdamSsmIdeal.τ).loc Cert.AdamSsmIdeal.main_v0_3) = v3 c
          ∧ r.2.mem ((c.tc : Thread Cert.AdamSsmIdeal.nD Cert.AdamSsmIdeal.τ).loc Cert.AdamSsmIdeal.main_arg0) = m ((c.tc : Thread Cert.AdamSsmIdeal.nD Cert.AdamSsmIdeal.τ).loc Cert.AdamSsmIdeal.main_arg0)
          ∧ r.2.mem ((c.tc : Thread Cert.AdamSsmIdeal.nD Cert.AdamSsmIdeal.τ).loc Cert.AdamSsmIdeal.main_arg1) = m ((c.tc : Thread Cert.AdamSsmIdeal.nD Cert.AdamSsmIdeal.τ).loc Cert.AdamSsmIdeal.main_arg1)
          ∧ r.2.mem ((c.tc : Thread Cert.AdamSsmIdeal.nD Cert.AdamSsmIdeal.τ).loc Cert.AdamSsmIdeal.main_arg2) = m ((c.tc : Thread Cert.AdamSsmIdeal.nD Cert.AdamSsmIdeal.τ).loc Cert.AdamSsmIdeal.main_arg2)
          ∧ r.2.mem ((c.tc : Thread Cert.AdamSsmIdeal.nD Cert.AdamSsmIdeal.τ).loc Cert.AdamSsmIdeal.main_arg3) = m ((c.tc : Thread Cert.AdamSsmIdeal.nD Cert.AdamSsmIdeal.τ).loc Cert.AdamSsmIdeal.main_arg3))
      ∧ θ_run (Cert.AdamSsmRefIdeal.defs (F := Ideal)) (onTc (τ := Cert.AdamSsmRefIdeal.τ) (Cert.AdamSsmRefIdeal.main (F := Ideal))) ⟨m', fun _ => 0, g'⟩ (fun r => ∀ c : Dev Cert.AdamSsmRefIdeal.nD,
          r.2.mem ((c.tc : Thread Cert.AdamSsmRefIdeal.nD Cert.AdamSsmRefIdeal.τ).loc Cert.AdamSsmRefIdeal.main_v2) = v0 c
          ∧ r.2.mem ((c.tc : Thread Cert.AdamSsmRefIdeal.nD Cert.AdamSsmRefIdeal.τ).loc Cert.AdamSsmRefIdeal.main_v26) = v1 c
          ∧ r.2.mem ((c.tc : Thread Cert.AdamSsmRefIdeal.nD Cert.AdamSsmRefIdeal.τ).loc Cert.AdamSsmRefIdeal.main_v7) = v2 c
          ∧ r.2.mem ((c.tc : Thread Cert.AdamSsmRefIdeal.nD Cert.AdamSsmRefIdeal.τ).loc Cert.AdamSsmRefIdeal.main_v13) = v3 c
          ∧ r.2.mem ((c.tc : Thread Cert.AdamSsmRefIdeal.nD Cert.AdamSsmRefIdeal.τ).loc Cert.AdamSsmRefIdeal.main_arg0) = m' ((c.tc : Thread Cert.AdamSsmRefIdeal.nD Cert.AdamSsmRefIdeal.τ).loc Cert.AdamSsmRefIdeal.main_arg0)
          ∧ r.2.mem ((c.tc : Thread Cert.AdamSsmRefIdeal.nD Cert.AdamSsmRefIdeal.τ).loc Cert.AdamSsmRefIdeal.main_arg1) = m' ((c.tc : Thread Cert.AdamSsmRefIdeal.nD Cert.AdamSsmRefIdeal.τ).loc Cert.AdamSsmRefIdeal.main_arg1)
          ∧ r.2.mem ((c.tc : Thread Cert.AdamSsmRefIdeal.nD Cert.AdamSsmRefIdeal.τ).loc Cert.AdamSsmRefIdeal.main_arg2) = m' ((c.tc : Thread Cert.AdamSsmRefIdeal.nD Cert.AdamSsmRefIdeal.τ).loc Cert.AdamSsmRefIdeal.main_arg2)
          ∧ r.2.mem ((c.tc : Thread Cert.AdamSsmRefIdeal.nD Cert.AdamSsmRefIdeal.τ).loc Cert.AdamSsmRefIdeal.main_arg3) = m' ((c.tc : Thread Cert.AdamSsmRefIdeal.nD Cert.AdamSsmRefIdeal.τ).loc Cert.AdamSsmRefIdeal.main_arg3))

def preserves_AdamGateUp_AdamGateUpIdeal : Prop :=
  True

def algebraic_AdamGateUpIdeal_AdamGateUpRefIdeal [hAdamGateUpIdeal : Cert.AdamGateUpIdeal.Facts] [hAdamGateUpRefIdeal : Cert.AdamGateUpRefIdeal.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg)
    (m' : (ℓ : Loc Cert.AdamGateUpRefIdeal.nD Cert.AdamGateUpRefIdeal.τ Cert.AdamGateUpRefIdeal.sig) → Buf (Elt Ideal) ℓ) (g' : Dev Cert.AdamGateUpRefIdeal.nD → PrngReg), Pre_AdamGateUpIdeal m →
    (∀ c : Dev Cert.AdamGateUpIdeal.nD,
      m' ((c.tc : Thread Cert.AdamGateUpRefIdeal.nD Cert.AdamGateUpRefIdeal.τ).loc Cert.AdamGateUpRefIdeal.main_arg0) = m ((c.tc : Thread Cert.AdamGateUpIdeal.nD Cert.AdamGateUpIdeal.τ).loc Cert.AdamGateUpIdeal.main_arg0)
      ∧ m' ((c.tc : Thread Cert.AdamGateUpRefIdeal.nD Cert.AdamGateUpRefIdeal.τ).loc Cert.AdamGateUpRefIdeal.main_arg1) = m ((c.tc : Thread Cert.AdamGateUpIdeal.nD Cert.AdamGateUpIdeal.τ).loc Cert.AdamGateUpIdeal.main_arg1)
      ∧ m' ((c.tc : Thread Cert.AdamGateUpRefIdeal.nD Cert.AdamGateUpRefIdeal.τ).loc Cert.AdamGateUpRefIdeal.main_arg2) = m ((c.tc : Thread Cert.AdamGateUpIdeal.nD Cert.AdamGateUpIdeal.τ).loc Cert.AdamGateUpIdeal.main_arg2)
      ∧ m' ((c.tc : Thread Cert.AdamGateUpRefIdeal.nD Cert.AdamGateUpRefIdeal.τ).loc Cert.AdamGateUpRefIdeal.main_arg3) = m ((c.tc : Thread Cert.AdamGateUpIdeal.nD Cert.AdamGateUpIdeal.τ).loc Cert.AdamGateUpIdeal.main_arg3)) →
    ∃ (v0 : (c : Dev Cert.AdamGateUpIdeal.nD) → Buf (Elt Ideal) ((c.tc : Thread Cert.AdamGateUpIdeal.nD Cert.AdamGateUpIdeal.τ).loc Cert.AdamGateUpIdeal.main_v3_0)) (v1 : (c : Dev Cert.AdamGateUpIdeal.nD) → Buf (Elt Ideal) ((c.tc : Thread Cert.AdamGateUpIdeal.nD Cert.AdamGateUpIdeal.τ).loc Cert.AdamGateUpIdeal.main_v3_1)) (v2 : (c : Dev Cert.AdamGateUpIdeal.nD) → Buf (Elt Ideal) ((c.tc : Thread Cert.AdamGateUpIdeal.nD Cert.AdamGateUpIdeal.τ).loc Cert.AdamGateUpIdeal.main_v3_2)) (v3 : (c : Dev Cert.AdamGateUpIdeal.nD) → Buf (Elt Ideal) ((c.tc : Thread Cert.AdamGateUpIdeal.nD Cert.AdamGateUpIdeal.τ).loc Cert.AdamGateUpIdeal.main_v3_3)),
      θ_run (Cert.AdamGateUpIdeal.defs (F := Ideal)) (onTc (τ := Cert.AdamGateUpIdeal.τ) (Cert.AdamGateUpIdeal.main (F := Ideal))) ⟨m, fun _ => 0, g⟩ (fun r => ∀ c : Dev Cert.AdamGateUpIdeal.nD,
          r.2.mem ((c.tc : Thread Cert.AdamGateUpIdeal.nD Cert.AdamGateUpIdeal.τ).loc Cert.AdamGateUpIdeal.main_v3_0) = v0 c
          ∧ r.2.mem ((c.tc : Thread Cert.AdamGateUpIdeal.nD Cert.AdamGateUpIdeal.τ).loc Cert.AdamGateUpIdeal.main_v3_1) = v1 c
          ∧ r.2.mem ((c.tc : Thread Cert.AdamGateUpIdeal.nD Cert.AdamGateUpIdeal.τ).loc Cert.AdamGateUpIdeal.main_v3_2) = v2 c
          ∧ r.2.mem ((c.tc : Thread Cert.AdamGateUpIdeal.nD Cert.AdamGateUpIdeal.τ).loc Cert.AdamGateUpIdeal.main_v3_3) = v3 c
          ∧ r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
          ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
          ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
          ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3))
      ∧ θ_run (Cert.AdamGateUpRefIdeal.defs (F := Ideal)) (onTc (τ := Cert.AdamGateUpRefIdeal.τ) (Cert.AdamGateUpRefIdeal.main (F := Ideal))) ⟨m', fun _ => 0, g'⟩ (fun r => ∀ c : Dev Cert.AdamGateUpRefIdeal.nD,
          r.2.mem ((c.tc : Thread Cert.AdamGateUpRefIdeal.nD Cert.AdamGateUpRefIdeal.τ).loc Cert.AdamGateUpRefIdeal.main_v28) = v0 c
          ∧ r.2.mem ((c.tc : Thread Cert.AdamGateUpRefIdeal.nD Cert.AdamGateUpRefIdeal.τ).loc Cert.AdamGateUpRefIdeal.main_v29) = v1 c
          ∧ r.2.mem ((c.tc : Thread Cert.AdamGateUpRefIdeal.nD Cert.AdamGateUpRefIdeal.τ).loc Cert.AdamGateUpRefIdeal.main_v30) = v2 c
          ∧ r.2.mem ((c.tc : Thread Cert.AdamGateUpRefIdeal.nD Cert.AdamGateUpRefIdeal.τ).loc Cert.AdamGateUpRefIdeal.main_v31) = v3 c
          ∧ r.2.mem ((c.tc : Thread Cert.AdamGateUpRefIdeal.nD Cert.AdamGateUpRefIdeal.τ).loc Cert.AdamGateUpRefIdeal.main_arg0) = m' ((c.tc : Thread Cert.AdamGateUpRefIdeal.nD Cert.AdamGateUpRefIdeal.τ).loc Cert.AdamGateUpRefIdeal.main_arg0)
          ∧ r.2.mem ((c.tc : Thread Cert.AdamGateUpRefIdeal.nD Cert.AdamGateUpRefIdeal.τ).loc Cert.AdamGateUpRefIdeal.main_arg1) = m' ((c.tc : Thread Cert.AdamGateUpRefIdeal.nD Cert.AdamGateUpRefIdeal.τ).loc Cert.AdamGateUpRefIdeal.main_arg1)
          ∧ r.2.mem ((c.tc : Thread Cert.AdamGateUpRefIdeal.nD Cert.AdamGateUpRefIdeal.τ).loc Cert.AdamGateUpRefIdeal.main_arg2) = m' ((c.tc : Thread Cert.AdamGateUpRefIdeal.nD Cert.AdamGateUpRefIdeal.τ).loc Cert.AdamGateUpRefIdeal.main_arg2)
          ∧ r.2.mem ((c.tc : Thread Cert.AdamGateUpRefIdeal.nD Cert.AdamGateUpRefIdeal.τ).loc Cert.AdamGateUpRefIdeal.main_arg3) = m' ((c.tc : Thread Cert.AdamGateUpRefIdeal.nD Cert.AdamGateUpRefIdeal.τ).loc Cert.AdamGateUpRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v1_0)) (v1 : (c : Dev Cert.AdamKvIdeal.nD) → Buf (Elt Ideal) ((c.tc : Thread Cert.AdamKvIdeal.nD Cert.AdamKvIdeal.τ).loc Cert.AdamKvIdeal.main_v1_1)) (v2 : (c : Dev Cert.AdamKvIdeal.nD) → Buf (Elt Ideal) ((c.tc : Thread Cert.AdamKvIdeal.nD Cert.AdamKvIdeal.τ).loc Cert.AdamKvIdeal.main_v1_2)) (v3 : (c : Dev Cert.AdamKvIdeal.nD) → Buf (Elt Ideal) ((c.tc : Thread Cert.AdamKvIdeal.nD Cert.AdamKvIdeal.τ).loc Cert.AdamKvIdeal.main_v1_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v1_0) = v0 c
          ∧ r.2.mem ((c.tc : Thread Cert.AdamKvIdeal.nD Cert.AdamKvIdeal.τ).loc Cert.AdamKvIdeal.main_v1_1) = v1 c
          ∧ r.2.mem ((c.tc : Thread Cert.AdamKvIdeal.nD Cert.AdamKvIdeal.τ).loc Cert.AdamKvIdeal.main_v1_2) = v2 c
          ∧ r.2.mem ((c.tc : Thread Cert.AdamKvIdeal.nD Cert.AdamKvIdeal.τ).loc Cert.AdamKvIdeal.main_v1_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v3) = v0 c
          ∧ r.2.mem ((c.tc : Thread Cert.AdamKvRefIdeal.nD Cert.AdamKvRefIdeal.τ).loc Cert.AdamKvRefIdeal.main_v27) = v1 c
          ∧ r.2.mem ((c.tc : Thread Cert.AdamKvRefIdeal.nD Cert.AdamKvRefIdeal.τ).loc Cert.AdamKvRefIdeal.main_v8) = v2 c
          ∧ r.2.mem ((c.tc : Thread Cert.AdamKvRefIdeal.nD Cert.AdamKvRefIdeal.τ).loc Cert.AdamKvRefIdeal.main_v14) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v6_0)) (v1 : (c : Dev Cert.AdamInIdeal.nD) → Buf (Elt Ideal) ((c.tc : Thread Cert.AdamInIdeal.nD Cert.AdamInIdeal.τ).loc Cert.AdamInIdeal.main_v6_1)) (v2 : (c : Dev Cert.AdamInIdeal.nD) → Buf (Elt Ideal) ((c.tc : Thread Cert.AdamInIdeal.nD Cert.AdamInIdeal.τ).loc Cert.AdamInIdeal.main_v6_2)) (v3 : (c : Dev Cert.AdamInIdeal.nD) → Buf (Elt Ideal) ((c.tc : Thread Cert.AdamInIdeal.nD Cert.AdamInIdeal.τ).loc Cert.AdamInIdeal.main_v6_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v6_0) = v0 c
          ∧ r.2.mem ((c.tc : Thread Cert.AdamInIdeal.nD Cert.AdamInIdeal.τ).loc Cert.AdamInIdeal.main_v6_1) = v1 c
          ∧ r.2.mem ((c.tc : Thread Cert.AdamInIdeal.nD Cert.AdamInIdeal.τ).loc Cert.AdamInIdeal.main_v6_2) = v2 c
          ∧ r.2.mem ((c.tc : Thread Cert.AdamInIdeal.nD Cert.AdamInIdeal.τ).loc Cert.AdamInIdeal.main_v6_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v30) = v0 c
          ∧ r.2.mem ((c.tc : Thread Cert.AdamInRefIdeal.nD Cert.AdamInRefIdeal.τ).loc Cert.AdamInRefIdeal.main_v32) = v1 c
          ∧ r.2.mem ((c.tc : Thread Cert.AdamInRefIdeal.nD Cert.AdamInRefIdeal.τ).loc Cert.AdamInRefIdeal.main_v34) = v2 c
          ∧ r.2.mem ((c.tc : Thread Cert.AdamInRefIdeal.nD Cert.AdamInRefIdeal.τ).loc Cert.AdamInRefIdeal.main_v36) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_XAttn_XAttnIdeal : Prop :=
  True

def algebraic_XAttnIdeal_XAttnRefIdeal_pre_finite_xattn [hXAttnIdeal : Cert.XAttnIdeal.Facts] [hXAttnRefIdeal : Cert.XAttnRefIdeal.Facts] [hPre_finite_xattn : Cert.Pre_finite_xattn.Facts] : Prop :=
  ∀ (m : (ℓ : Loc Cert.XAttnIdeal.nD Cert.XAttnIdeal.τ Cert.XAttnIdeal.sig) → Buf (Elt Ideal) ℓ) (g : Dev Cert.XAttnIdeal.nD → PrngReg)
    (m' : (ℓ : Loc Cert.XAttnRefIdeal.nD Cert.XAttnRefIdeal.τ Cert.XAttnRefIdeal.sig) → Buf (Elt Ideal) ℓ) (g' : Dev Cert.XAttnRefIdeal.nD → PrngReg), Pre_XAttnIdeal_finite_xattn m →
    (∀ c : Dev Cert.XAttnIdeal.nD,
      m' ((c.tc : Thread Cert.XAttnRefIdeal.nD Cert.XAttnRefIdeal.τ).loc Cert.XAttnRefIdeal.main_arg0) = m ((c.tc : Thread Cert.XAttnIdeal.nD Cert.XAttnIdeal.τ).loc Cert.XAttnIdeal.main_arg0)
      ∧ m' ((c.tc : Thread Cert.XAttnRefIdeal.nD Cert.XAttnRefIdeal.τ).loc Cert.XAttnRefIdeal.main_arg1) = m ((c.tc : Thread Cert.XAttnIdeal.nD Cert.XAttnIdeal.τ).loc Cert.XAttnIdeal.main_arg1)
      ∧ m' ((c.tc : Thread Cert.XAttnRefIdeal.nD Cert.XAttnRefIdeal.τ).loc Cert.XAttnRefIdeal.main_arg2) = m ((c.tc : Thread Cert.XAttnIdeal.nD Cert.XAttnIdeal.τ).loc Cert.XAttnIdeal.main_arg2)) →
    ∃ (v0 : (c : Dev Cert.XAttnIdeal.nD) → Buf (Elt Ideal) ((c.tc : Thread Cert.XAttnIdeal.nD Cert.XAttnIdeal.τ).loc Cert.XAttnIdeal.main_v0_0)) (v1 : (c : Dev Cert.XAttnIdeal.nD) → Buf (Elt Ideal) ((c.tc : Thread Cert.XAttnIdeal.nD Cert.XAttnIdeal.τ).loc Cert.XAttnIdeal.main_v0_1)) (v2 : (c : Dev Cert.XAttnIdeal.nD) → Buf (Elt Ideal) ((c.tc : Thread Cert.XAttnIdeal.nD Cert.XAttnIdeal.τ).loc Cert.XAttnIdeal.main_v0_2)),
      θ_run (Cert.XAttnIdeal.defs (F := Ideal)) (onTc (τ := Cert.XAttnIdeal.τ) (Cert.XAttnIdeal.main (F := Ideal))) ⟨m, fun _ => 0, g⟩ (fun r => ∀ c : Dev Cert.XAttnIdeal.nD,
          r.2.mem ((c.tc : Thread Cert.XAttnIdeal.nD Cert.XAttnIdeal.τ).loc Cert.XAttnIdeal.main_v0_0) = v0 c
          ∧ r.2.mem ((c.tc : Thread Cert.XAttnIdeal.nD Cert.XAttnIdeal.τ).loc Cert.XAttnIdeal.main_v0_1) = v1 c
          ∧ r.2.mem ((c.tc : Thread Cert.XAttnIdeal.nD Cert.XAttnIdeal.τ).loc Cert.XAttnIdeal.main_v0_2) = v2 c
          ∧ r.2.mem ((c.tc : Thread Cert.XAttnIdeal.nD Cert.XAttnIdeal.τ).loc Cert.XAttnIdeal.main_arg0) = m ((c.tc : Thread Cert.XAttnIdeal.nD Cert.XAttnIdeal.τ).loc Cert.XAttnIdeal.main_arg0)
          ∧ r.2.mem ((c.tc : Thread Cert.XAttnIdeal.nD Cert.XAttnIdeal.τ).loc Cert.XAttnIdeal.main_arg1) = m ((c.tc : Thread Cert.XAttnIdeal.nD Cert.XAttnIdeal.τ).loc Cert.XAttnIdeal.main_arg1)
          ∧ r.2.mem ((c.tc : Thread Cert.XAttnIdeal.nD Cert.XAttnIdeal.τ).loc Cert.XAttnIdeal.main_arg2) = m ((c.tc : Thread Cert.XAttnIdeal.nD Cert.XAttnIdeal.τ).loc Cert.XAttnIdeal.main_arg2))
      ∧ θ_run (Cert.XAttnRefIdeal.defs (F := Ideal)) (onTc (τ := Cert.XAttnRefIdeal.τ) (Cert.XAttnRefIdeal.main (F := Ideal))) ⟨m', fun _ => 0, g'⟩ (fun r => ∀ c : Dev Cert.XAttnRefIdeal.nD,
          r.2.mem ((c.tc : Thread Cert.XAttnRefIdeal.nD Cert.XAttnRefIdeal.τ).loc Cert.XAttnRefIdeal.main_v68) = v0 c
          ∧ r.2.mem ((c.tc : Thread Cert.XAttnRefIdeal.nD Cert.XAttnRefIdeal.τ).loc Cert.XAttnRefIdeal.main_v66) = v1 c
          ∧ r.2.mem ((c.tc : Thread Cert.XAttnRefIdeal.nD Cert.XAttnRefIdeal.τ).loc Cert.XAttnRefIdeal.main_v65) = v2 c
          ∧ r.2.mem ((c.tc : Thread Cert.XAttnRefIdeal.nD Cert.XAttnRefIdeal.τ).loc Cert.XAttnRefIdeal.main_arg0) = m' ((c.tc : Thread Cert.XAttnRefIdeal.nD Cert.XAttnRefIdeal.τ).loc Cert.XAttnRefIdeal.main_arg0)
          ∧ r.2.mem ((c.tc : Thread Cert.XAttnRefIdeal.nD Cert.XAttnRefIdeal.τ).loc Cert.XAttnRefIdeal.main_arg1) = m' ((c.tc : Thread Cert.XAttnRefIdeal.nD Cert.XAttnRefIdeal.τ).loc Cert.XAttnRefIdeal.main_arg1)
          ∧ r.2.mem ((c.tc : Thread Cert.XAttnRefIdeal.nD Cert.XAttnRefIdeal.τ).loc Cert.XAttnRefIdeal.main_arg2) = m' ((c.tc : Thread Cert.XAttnRefIdeal.nD Cert.XAttnRefIdeal.τ).loc Cert.XAttnRefIdeal.main_arg2))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_FfnLoss_FfnLossIdeal : Prop :=
  True

def algebraic_FfnLossIdeal_FfnLossRefIdeal_pre_finite_loss [hFfnLossIdeal : Cert.FfnLossIdeal.Facts] [hFfnLossRefIdeal : Cert.FfnLossRefIdeal.Facts] [hPre_finite_loss : Cert.Pre_finite_loss.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal_finite_loss m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)
      ∧ m' ((c.tc : Thread Cert.FfnLossRefIdeal.nD Cert.FfnLossRefIdeal.τ).loc Cert.FfnLossRefIdeal.main_arg4) = m ((c.tc : Thread Cert.FfnLossIdeal.nD Cert.FfnLossIdeal.τ).loc Cert.FfnLossIdeal.main_arg4)) →
    ∃ (v0 : (c : Dev Cert.FfnLossIdeal.nD) → Buf (Elt Ideal) ((c.tc : Thread Cert.FfnLossIdeal.nD Cert.FfnLossIdeal.τ).loc Cert.FfnLossIdeal.main_v0_0)) (v1 : (c : Dev Cert.FfnLossIdeal.nD) → Buf (Elt Ideal) ((c.tc : Thread Cert.FfnLossIdeal.nD Cert.FfnLossIdeal.τ).loc Cert.FfnLossIdeal.main_v0_1)) (v2 : (c : Dev Cert.FfnLossIdeal.nD) → Buf (Elt Ideal) ((c.tc : Thread Cert.FfnLossIdeal.nD Cert.FfnLossIdeal.τ).loc Cert.FfnLossIdeal.main_v0_2)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v0_0) = v0 c
          ∧ r.2.mem ((c.tc : Thread Cert.FfnLossIdeal.nD Cert.FfnLossIdeal.τ).loc Cert.FfnLossIdeal.main_v0_1) = v1 c
          ∧ r.2.mem ((c.tc : Thread Cert.FfnLossIdeal.nD Cert.FfnLossIdeal.τ).loc Cert.FfnLossIdeal.main_v0_2) = v2 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v54) = v0 c
          ∧ r.2.mem ((c.tc : Thread Cert.FfnLossRefIdeal.nD Cert.FfnLossRefIdeal.τ).loc Cert.FfnLossRefIdeal.main_v38) = v1 c
          ∧ r.2.mem ((c.tc : Thread Cert.FfnLossRefIdeal.nD Cert.FfnLossRefIdeal.τ).loc Cert.FfnLossRefIdeal.main_v55) = v2 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3)
          ∧ r.2.mem ((c.tc : Thread Cert.FfnLossRefIdeal.nD Cert.FfnLossRefIdeal.τ).loc Cert.FfnLossRefIdeal.main_arg4) = m' ((c.tc : Thread Cert.FfnLossRefIdeal.nD Cert.FfnLossRefIdeal.τ).loc Cert.FfnLossRefIdeal.main_arg4))

def preserves_GateNorm_GateNormIdeal : Prop :=
  True

def algebraic_GateNormIdeal_GateNormRefIdeal_pre_finite_gate [hGateNormIdeal : Cert.GateNormIdeal.Facts] [hGateNormRefIdeal : Cert.GateNormRefIdeal.Facts] [hPre_finite_gate : Cert.Pre_finite_gate.Facts] : Prop :=
  ∀ (m : (ℓ : Loc Cert.GateNormIdeal.nD Cert.GateNormIdeal.τ Cert.GateNormIdeal.sig) → Buf (Elt Ideal) ℓ) (g : Dev Cert.GateNormIdeal.nD → PrngReg)
    (m' : (ℓ : Loc Cert.GateNormRefIdeal.nD Cert.GateNormRefIdeal.τ Cert.GateNormRefIdeal.sig) → Buf (Elt Ideal) ℓ) (g' : Dev Cert.GateNormRefIdeal.nD → PrngReg), Pre_GateNormIdeal_finite_gate m →
    (∀ c : Dev Cert.GateNormIdeal.nD,
      m' ((c.tc : Thread Cert.GateNormRefIdeal.nD Cert.GateNormRefIdeal.τ).loc Cert.GateNormRefIdeal.main_arg0) = m ((c.tc : Thread Cert.GateNormIdeal.nD Cert.GateNormIdeal.τ).loc Cert.GateNormIdeal.main_arg0)
      ∧ m' ((c.tc : Thread Cert.GateNormRefIdeal.nD Cert.GateNormRefIdeal.τ).loc Cert.GateNormRefIdeal.main_arg1) = m ((c.tc : Thread Cert.GateNormIdeal.nD Cert.GateNormIdeal.τ).loc Cert.GateNormIdeal.main_arg1)
      ∧ m' ((c.tc : Thread Cert.GateNormRefIdeal.nD Cert.GateNormRefIdeal.τ).loc Cert.GateNormRefIdeal.main_arg2) = m ((c.tc : Thread Cert.GateNormIdeal.nD Cert.GateNormIdeal.τ).loc Cert.GateNormIdeal.main_arg2)
      ∧ m' ((c.tc : Thread Cert.GateNormRefIdeal.nD Cert.GateNormRefIdeal.τ).loc Cert.GateNormRefIdeal.main_arg3) = m ((c.tc : Thread Cert.GateNormIdeal.nD Cert.GateNormIdeal.τ).loc Cert.GateNormIdeal.main_arg3)
      ∧ m' ((c.tc : Thread Cert.GateNormRefIdeal.nD Cert.GateNormRefIdeal.τ).loc Cert.GateNormRefIdeal.main_arg4) = m ((c.tc : Thread Cert.GateNormIdeal.nD Cert.GateNormIdeal.τ).loc Cert.GateNormIdeal.main_arg4)) →
    ∃ (v0 : (c : Dev Cert.GateNormIdeal.nD) → Buf (Elt Ideal) ((c.tc : Thread Cert.GateNormIdeal.nD Cert.GateNormIdeal.τ).loc Cert.GateNormIdeal.main_v0_0)) (v1 : (c : Dev Cert.GateNormIdeal.nD) → Buf (Elt Ideal) ((c.tc : Thread Cert.GateNormIdeal.nD Cert.GateNormIdeal.τ).loc Cert.GateNormIdeal.main_v0_1)) (v2 : (c : Dev Cert.GateNormIdeal.nD) → Buf (Elt Ideal) ((c.tc : Thread Cert.GateNormIdeal.nD Cert.GateNormIdeal.τ).loc Cert.GateNormIdeal.main_v0_2)),
      θ_run (Cert.GateNormIdeal.defs (F := Ideal)) (onTc (τ := Cert.GateNormIdeal.τ) (Cert.GateNormIdeal.main (F := Ideal))) ⟨m, fun _ => 0, g⟩ (fun r => ∀ c : Dev Cert.GateNormIdeal.nD,
          r.2.mem ((c.tc : Thread Cert.GateNormIdeal.nD Cert.GateNormIdeal.τ).loc Cert.GateNormIdeal.main_v0_0) = v0 c
          ∧ r.2.mem ((c.tc : Thread Cert.GateNormIdeal.nD Cert.GateNormIdeal.τ).loc Cert.GateNormIdeal.main_v0_1) = v1 c
          ∧ r.2.mem ((c.tc : Thread Cert.GateNormIdeal.nD Cert.GateNormIdeal.τ).loc Cert.GateNormIdeal.main_v0_2) = v2 c
          ∧ r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
          ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
          ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2)
          ∧ r.2.mem ((c.tc : Thread Cert.GateNormIdeal.nD Cert.GateNormIdeal.τ).loc Cert.GateNormIdeal.main_arg3) = m ((c.tc : Thread Cert.GateNormIdeal.nD Cert.GateNormIdeal.τ).loc Cert.GateNormIdeal.main_arg3)
          ∧ r.2.mem ((c.tc : Thread Cert.GateNormIdeal.nD Cert.GateNormIdeal.τ).loc Cert.GateNormIdeal.main_arg4) = m ((c.tc : Thread Cert.GateNormIdeal.nD Cert.GateNormIdeal.τ).loc Cert.GateNormIdeal.main_arg4))
      ∧ θ_run (Cert.GateNormRefIdeal.defs (F := Ideal)) (onTc (τ := Cert.GateNormRefIdeal.τ) (Cert.GateNormRefIdeal.main (F := Ideal))) ⟨m', fun _ => 0, g'⟩ (fun r => ∀ c : Dev Cert.GateNormRefIdeal.nD,
          r.2.mem ((c.tc : Thread Cert.GateNormRefIdeal.nD Cert.GateNormRefIdeal.τ).loc Cert.GateNormRefIdeal.main_v50) = v0 c
          ∧ r.2.mem ((c.tc : Thread Cert.GateNormRefIdeal.nD Cert.GateNormRefIdeal.τ).loc Cert.GateNormRefIdeal.main_v51) = v1 c
          ∧ r.2.mem ((c.tc : Thread Cert.GateNormRefIdeal.nD Cert.GateNormRefIdeal.τ).loc Cert.GateNormRefIdeal.main_v28) = v2 c
          ∧ r.2.mem ((c.tc : Thread Cert.GateNormRefIdeal.nD Cert.GateNormRefIdeal.τ).loc Cert.GateNormRefIdeal.main_arg0) = m' ((c.tc : Thread Cert.GateNormRefIdeal.nD Cert.GateNormRefIdeal.τ).loc Cert.GateNormRefIdeal.main_arg0)
          ∧ r.2.mem ((c.tc : Thread Cert.GateNormRefIdeal.nD Cert.GateNormRefIdeal.τ).loc Cert.GateNormRefIdeal.main_arg1) = m' ((c.tc : Thread Cert.GateNormRefIdeal.nD Cert.GateNormRefIdeal.τ).loc Cert.GateNormRefIdeal.main_arg1)
          ∧ r.2.mem ((c.tc : Thread Cert.GateNormRefIdeal.nD Cert.GateNormRefIdeal.τ).loc Cert.GateNormRefIdeal.main_arg2) = m' ((c.tc : Thread Cert.GateNormRefIdeal.nD Cert.GateNormRefIdeal.τ).loc Cert.GateNormRefIdeal.main_arg2)
          ∧ r.2.mem ((c.tc : Thread Cert.GateNormRefIdeal.nD Cert.GateNormRefIdeal.τ).loc Cert.GateNormRefIdeal.main_arg3) = m' ((c.tc : Thread Cert.GateNormRefIdeal.nD Cert.GateNormRefIdeal.τ).loc Cert.GateNormRefIdeal.main_arg3)
          ∧ r.2.mem ((c.tc : Thread Cert.GateNormRefIdeal.nD Cert.GateNormRefIdeal.τ).loc Cert.GateNormRefIdeal.main_arg4) = m' ((c.tc : Thread Cert.GateNormRefIdeal.nD Cert.GateNormRefIdeal.τ).loc Cert.GateNormRefIdeal.main_arg4))

def preserves_MergeOut_MergeOutIdeal : Prop :=
  True

def algebraic_MergeOutIdeal_MergeOutRefIdeal [hMergeOutIdeal : Cert.MergeOutIdeal.Facts] [hMergeOutRefIdeal : Cert.MergeOutRefIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg)
    (m' : (ℓ : Loc Cert.MergeOutRefIdeal.nD Cert.MergeOutRefIdeal.τ Cert.MergeOutRefIdeal.sig) → Buf (Elt Ideal) ℓ) (g' : Dev Cert.MergeOutRefIdeal.nD → PrngReg), Pre_MergeOutIdeal m →
    (∀ c : Dev Cert.MergeOutIdeal.nD,
      m' ((c.tc : Thread Cert.MergeOutRefIdeal.nD Cert.MergeOutRefIdeal.τ).loc Cert.MergeOutRefIdeal.main_arg0) = m ((c.tc : Thread Cert.MergeOutIdeal.nD Cert.MergeOutIdeal.τ).loc Cert.MergeOutIdeal.main_arg0)
      ∧ m' ((c.tc : Thread Cert.MergeOutRefIdeal.nD Cert.MergeOutRefIdeal.τ).loc Cert.MergeOutRefIdeal.main_arg1) = m ((c.tc : Thread Cert.MergeOutIdeal.nD Cert.MergeOutIdeal.τ).loc Cert.MergeOutIdeal.main_arg1)
      ∧ m' ((c.tc : Thread Cert.MergeOutRefIdeal.nD Cert.MergeOutRefIdeal.τ).loc Cert.MergeOutRefIdeal.main_arg2) = m ((c.tc : Thread Cert.MergeOutIdeal.nD Cert.MergeOutIdeal.τ).loc Cert.MergeOutIdeal.main_arg2)
      ∧ m' ((c.tc : Thread Cert.MergeOutRefIdeal.nD Cert.MergeOutRefIdeal.τ).loc Cert.MergeOutRefIdeal.main_arg3) = m ((c.tc : Thread Cert.MergeOutIdeal.nD Cert.MergeOutIdeal.τ).loc Cert.MergeOutIdeal.main_arg3)
      ∧ m' ((c.tc : Thread Cert.MergeOutRefIdeal.nD Cert.MergeOutRefIdeal.τ).loc Cert.MergeOutRefIdeal.main_arg4) = m ((c.tc : Thread Cert.MergeOutIdeal.nD Cert.MergeOutIdeal.τ).loc Cert.MergeOutIdeal.main_arg4)
      ∧ m' ((c.tc : Thread Cert.MergeOutRefIdeal.nD Cert.MergeOutRefIdeal.τ).loc Cert.MergeOutRefIdeal.main_arg5) = m ((c.tc : Thread Cert.MergeOutIdeal.nD Cert.MergeOutIdeal.τ).loc Cert.MergeOutIdeal.main_arg5)) →
    ∃ (v0 : (c : Dev Cert.MergeOutIdeal.nD) → Buf (Elt Ideal) ((c.tc : Thread Cert.MergeOutIdeal.nD Cert.MergeOutIdeal.τ).loc Cert.MergeOutIdeal.main_v0_0)) (v1 : (c : Dev Cert.MergeOutIdeal.nD) → Buf (Elt Ideal) ((c.tc : Thread Cert.MergeOutIdeal.nD Cert.MergeOutIdeal.τ).loc Cert.MergeOutIdeal.main_v0_1)) (v2 : (c : Dev Cert.MergeOutIdeal.nD) → Buf (Elt Ideal) ((c.tc : Thread Cert.MergeOutIdeal.nD Cert.MergeOutIdeal.τ).loc Cert.MergeOutIdeal.main_v0_2)),
      θ_run (Cert.MergeOutIdeal.defs (F := Ideal)) (onTc (τ := Cert.MergeOutIdeal.τ) (Cert.MergeOutIdeal.main (F := Ideal))) ⟨m, fun _ => 0, g⟩ (fun r => ∀ c : Dev Cert.MergeOutIdeal.nD,
          r.2.mem ((c.tc : Thread Cert.MergeOutIdeal.nD Cert.MergeOutIdeal.τ).loc Cert.MergeOutIdeal.main_v0_0) = v0 c
          ∧ r.2.mem ((c.tc : Thread Cert.MergeOutIdeal.nD Cert.MergeOutIdeal.τ).loc Cert.MergeOutIdeal.main_v0_1) = v1 c
          ∧ r.2.mem ((c.tc : Thread Cert.MergeOutIdeal.nD Cert.MergeOutIdeal.τ).loc Cert.MergeOutIdeal.main_v0_2) = v2 c
          ∧ r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
          ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
          ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
          ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
          ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
          ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5))
      ∧ θ_run (Cert.MergeOutRefIdeal.defs (F := Ideal)) (onTc (τ := Cert.MergeOutRefIdeal.τ) (Cert.MergeOutRefIdeal.main (F := Ideal))) ⟨m', fun _ => 0, g'⟩ (fun r => ∀ c : Dev Cert.MergeOutRefIdeal.nD,
          r.2.mem ((c.tc : Thread Cert.MergeOutRefIdeal.nD Cert.MergeOutRefIdeal.τ).loc Cert.MergeOutRefIdeal.main_v23) = v0 c
          ∧ r.2.mem ((c.tc : Thread Cert.MergeOutRefIdeal.nD Cert.MergeOutRefIdeal.τ).loc Cert.MergeOutRefIdeal.main_v22) = v1 c
          ∧ r.2.mem ((c.tc : Thread Cert.MergeOutRefIdeal.nD Cert.MergeOutRefIdeal.τ).loc Cert.MergeOutRefIdeal.main_v36) = v2 c
          ∧ r.2.mem ((c.tc : Thread Cert.MergeOutRefIdeal.nD Cert.MergeOutRefIdeal.τ).loc Cert.MergeOutRefIdeal.main_arg0) = m' ((c.tc : Thread Cert.MergeOutRefIdeal.nD Cert.MergeOutRefIdeal.τ).loc Cert.MergeOutRefIdeal.main_arg0)
          ∧ r.2.mem ((c.tc : Thread Cert.MergeOutRefIdeal.nD Cert.MergeOutRefIdeal.τ).loc Cert.MergeOutRefIdeal.main_arg1) = m' ((c.tc : Thread Cert.MergeOutRefIdeal.nD Cert.MergeOutRefIdeal.τ).loc Cert.MergeOutRefIdeal.main_arg1)
          ∧ r.2.mem ((c.tc : Thread Cert.MergeOutRefIdeal.nD Cert.MergeOutRefIdeal.τ).loc Cert.MergeOutRefIdeal.main_arg2) = m' ((c.tc : Thread Cert.MergeOutRefIdeal.nD Cert.MergeOutRefIdeal.τ).loc Cert.MergeOutRefIdeal.main_arg2)
          ∧ r.2.mem ((c.tc : Thread Cert.MergeOutRefIdeal.nD Cert.MergeOutRefIdeal.τ).loc Cert.MergeOutRefIdeal.main_arg3) = m' ((c.tc : Thread Cert.MergeOutRefIdeal.nD Cert.MergeOutRefIdeal.τ).loc Cert.MergeOutRefIdeal.main_arg3)
          ∧ r.2.mem ((c.tc : Thread Cert.MergeOutRefIdeal.nD Cert.MergeOutRefIdeal.τ).loc Cert.MergeOutRefIdeal.main_arg4) = m' ((c.tc : Thread Cert.MergeOutRefIdeal.nD Cert.MergeOutRefIdeal.τ).loc Cert.MergeOutRefIdeal.main_arg4)
          ∧ r.2.mem ((c.tc : Thread Cert.MergeOutRefIdeal.nD Cert.MergeOutRefIdeal.τ).loc Cert.MergeOutRefIdeal.main_arg5) = m' ((c.tc : Thread Cert.MergeOutRefIdeal.nD Cert.MergeOutRefIdeal.τ).loc Cert.MergeOutRefIdeal.main_arg5))

def preserves_GateOut_GateOutIdeal : Prop :=
  True

def algebraic_GateOutIdeal_GateOutRefIdeal [hGateOutIdeal : Cert.GateOutIdeal.Facts] [hGateOutRefIdeal : Cert.GateOutRefIdeal.Facts] : Prop :=
  ∀ (m : (ℓ : Loc Cert.GateOutIdeal.nD Cert.GateOutIdeal.τ Cert.GateOutIdeal.sig) → Buf (Elt Ideal) ℓ) (g : Dev Cert.GateOutIdeal.nD → PrngReg)
    (m' : (ℓ : Loc Cert.GateOutRefIdeal.nD Cert.GateOutRefIdeal.τ Cert.GateOutRefIdeal.sig) → Buf (Elt Ideal) ℓ) (g' : Dev Cert.GateOutRefIdeal.nD → PrngReg), Pre_GateOutIdeal m →
    (∀ c : Dev Cert.GateOutIdeal.nD,
      m' ((c.tc : Thread Cert.GateOutRefIdeal.nD Cert.GateOutRefIdeal.τ).loc Cert.GateOutRefIdeal.main_arg0) = m ((c.tc : Thread Cert.GateOutIdeal.nD Cert.GateOutIdeal.τ).loc Cert.GateOutIdeal.main_arg0)
      ∧ m' ((c.tc : Thread Cert.GateOutRefIdeal.nD Cert.GateOutRefIdeal.τ).loc Cert.GateOutRefIdeal.main_arg1) = m ((c.tc : Thread Cert.GateOutIdeal.nD Cert.GateOutIdeal.τ).loc Cert.GateOutIdeal.main_arg1)
      ∧ m' ((c.tc : Thread Cert.GateOutRefIdeal.nD Cert.GateOutRefIdeal.τ).loc Cert.GateOutRefIdeal.main_arg2) = m ((c.tc : Thread Cert.GateOutIdeal.nD Cert.GateOutIdeal.τ).loc Cert.GateOutIdeal.main_arg2)
      ∧ m' ((c.tc : Thread Cert.GateOutRefIdeal.nD Cert.GateOutRefIdeal.τ).loc Cert.GateOutRefIdeal.main_arg3) = m ((c.tc : Thread Cert.GateOutIdeal.nD Cert.GateOutIdeal.τ).loc Cert.GateOutIdeal.main_arg3)) →
    ∃ (v0 : (c : Dev Cert.GateOutIdeal.nD) → Buf (Elt Ideal) ((c.tc : Thread Cert.GateOutIdeal.nD Cert.GateOutIdeal.τ).loc Cert.GateOutIdeal.main_v0_0)) (v1 : (c : Dev Cert.GateOutIdeal.nD) → Buf (Elt Ideal) ((c.tc : Thread Cert.GateOutIdeal.nD Cert.GateOutIdeal.τ).loc Cert.GateOutIdeal.main_v0_1)),
      θ_run (Cert.GateOutIdeal.defs (F := Ideal)) (onTc (τ := Cert.GateOutIdeal.τ) (Cert.GateOutIdeal.main (F := Ideal))) ⟨m, fun _ => 0, g⟩ (fun r => ∀ c : Dev Cert.GateOutIdeal.nD,
          r.2.mem ((c.tc : Thread Cert.GateOutIdeal.nD Cert.GateOutIdeal.τ).loc Cert.GateOutIdeal.main_v0_0) = v0 c
          ∧ r.2.mem ((c.tc : Thread Cert.GateOutIdeal.nD Cert.GateOutIdeal.τ).loc Cert.GateOutIdeal.main_v0_1) = v1 c
          ∧ r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
          ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1)
          ∧ r.2.mem ((c.tc : Thread Cert.GateOutIdeal.nD Cert.GateOutIdeal.τ).loc Cert.GateOutIdeal.main_arg2) = m ((c.tc : Thread Cert.GateOutIdeal.nD Cert.GateOutIdeal.τ).loc Cert.GateOutIdeal.main_arg2)
          ∧ r.2.mem ((c.tc : Thread Cert.GateOutIdeal.nD Cert.GateOutIdeal.τ).loc Cert.GateOutIdeal.main_arg3) = m ((c.tc : Thread Cert.GateOutIdeal.nD Cert.GateOutIdeal.τ).loc Cert.GateOutIdeal.main_arg3))
      ∧ θ_run (Cert.GateOutRefIdeal.defs (F := Ideal)) (onTc (τ := Cert.GateOutRefIdeal.τ) (Cert.GateOutRefIdeal.main (F := Ideal))) ⟨m', fun _ => 0, g'⟩ (fun r => ∀ c : Dev Cert.GateOutRefIdeal.nD,
          r.2.mem ((c.tc : Thread Cert.GateOutRefIdeal.nD Cert.GateOutRefIdeal.τ).loc Cert.GateOutRefIdeal.main_v20) = v0 c
          ∧ r.2.mem ((c.tc : Thread Cert.GateOutRefIdeal.nD Cert.GateOutRefIdeal.τ).loc Cert.GateOutRefIdeal.main_v22) = v1 c
          ∧ r.2.mem ((c.tc : Thread Cert.GateOutRefIdeal.nD Cert.GateOutRefIdeal.τ).loc Cert.GateOutRefIdeal.main_arg0) = m' ((c.tc : Thread Cert.GateOutRefIdeal.nD Cert.GateOutRefIdeal.τ).loc Cert.GateOutRefIdeal.main_arg0)
          ∧ r.2.mem ((c.tc : Thread Cert.GateOutRefIdeal.nD Cert.GateOutRefIdeal.τ).loc Cert.GateOutRefIdeal.main_arg1) = m' ((c.tc : Thread Cert.GateOutRefIdeal.nD Cert.GateOutRefIdeal.τ).loc Cert.GateOutRefIdeal.main_arg1)
          ∧ r.2.mem ((c.tc : Thread Cert.GateOutRefIdeal.nD Cert.GateOutRefIdeal.τ).loc Cert.GateOutRefIdeal.main_arg2) = m' ((c.tc : Thread Cert.GateOutRefIdeal.nD Cert.GateOutRefIdeal.τ).loc Cert.GateOutRefIdeal.main_arg2)
          ∧ r.2.mem ((c.tc : Thread Cert.GateOutRefIdeal.nD Cert.GateOutRefIdeal.τ).loc Cert.GateOutRefIdeal.main_arg3) = m' ((c.tc : Thread Cert.GateOutRefIdeal.nD Cert.GateOutRefIdeal.τ).loc Cert.GateOutRefIdeal.main_arg3))

def preserves_XFwd_XFwdIdeal : Prop :=
  True

def algebraic_XFwdIdeal_XFwdRefIdeal_pre_finite_scores [hXFwdIdeal : Cert.XFwdIdeal.Facts] [hXFwdRefIdeal : Cert.XFwdRefIdeal.Facts] [hPre_finite_scores : Cert.Pre_finite_scores.Facts] : Prop :=
  ∀ (m : (ℓ : Loc Cert.XFwdIdeal.nD Cert.XFwdIdeal.τ Cert.XFwdIdeal.sig) → Buf (Elt Ideal) ℓ) (g : Dev Cert.XFwdIdeal.nD → PrngReg)
    (m' : (ℓ : Loc Cert.XFwdRefIdeal.nD Cert.XFwdRefIdeal.τ Cert.XFwdRefIdeal.sig) → Buf (Elt Ideal) ℓ) (g' : Dev Cert.XFwdRefIdeal.nD → PrngReg), Pre_XFwdIdeal_finite_scores m →
    (∀ c : Dev Cert.XFwdIdeal.nD,
      m' ((c.tc : Thread Cert.XFwdRefIdeal.nD Cert.XFwdRefIdeal.τ).loc Cert.XFwdRefIdeal.main_arg0) = m ((c.tc : Thread Cert.XFwdIdeal.nD Cert.XFwdIdeal.τ).loc Cert.XFwdIdeal.main_arg0)
      ∧ m' ((c.tc : Thread Cert.XFwdRefIdeal.nD Cert.XFwdRefIdeal.τ).loc Cert.XFwdRefIdeal.main_arg1) = m ((c.tc : Thread Cert.XFwdIdeal.nD Cert.XFwdIdeal.τ).loc Cert.XFwdIdeal.main_arg1)) →
    ∃ (v0 : (c : Dev Cert.XFwdIdeal.nD) → Buf (Elt Ideal) ((c.tc : Thread Cert.XFwdIdeal.nD Cert.XFwdIdeal.τ).loc Cert.XFwdIdeal.main_v0)),
      θ_run (Cert.XFwdIdeal.defs (F := Ideal)) (onTc (τ := Cert.XFwdIdeal.τ) (Cert.XFwdIdeal.main (F := Ideal))) ⟨m, fun _ => 0, g⟩ (fun r => ∀ c : Dev Cert.XFwdIdeal.nD,
          r.2.mem ((c.tc : Thread Cert.XFwdIdeal.nD Cert.XFwdIdeal.τ).loc Cert.XFwdIdeal.main_v0) = v0 c
          ∧ r.2.mem ((c.tc : Thread Cert.XFwdIdeal.nD Cert.XFwdIdeal.τ).loc Cert.XFwdIdeal.main_arg0) = m ((c.tc : Thread Cert.XFwdIdeal.nD Cert.XFwdIdeal.τ).loc Cert.XFwdIdeal.main_arg0)
          ∧ r.2.mem ((c.tc : Thread Cert.XFwdIdeal.nD Cert.XFwdIdeal.τ).loc Cert.XFwdIdeal.main_arg1) = m ((c.tc : Thread Cert.XFwdIdeal.nD Cert.XFwdIdeal.τ).loc Cert.XFwdIdeal.main_arg1))
      ∧ θ_run (Cert.XFwdRefIdeal.defs (F := Ideal)) (onTc (τ := Cert.XFwdRefIdeal.τ) (Cert.XFwdRefIdeal.main (F := Ideal))) ⟨m', fun _ => 0, g'⟩ (fun r => ∀ c : Dev Cert.XFwdRefIdeal.nD,
          r.2.mem ((c.tc : Thread Cert.XFwdRefIdeal.nD Cert.XFwdRefIdeal.τ).loc Cert.XFwdRefIdeal.main_v24) = v0 c
          ∧ r.2.mem ((c.tc : Thread Cert.XFwdRefIdeal.nD Cert.XFwdRefIdeal.τ).loc Cert.XFwdRefIdeal.main_arg0) = m' ((c.tc : Thread Cert.XFwdRefIdeal.nD Cert.XFwdRefIdeal.τ).loc Cert.XFwdRefIdeal.main_arg0)
          ∧ r.2.mem ((c.tc : Thread Cert.XFwdRefIdeal.nD Cert.XFwdRefIdeal.τ).loc Cert.XFwdRefIdeal.main_arg1) = m' ((c.tc : Thread Cert.XFwdRefIdeal.nD Cert.XFwdRefIdeal.τ).loc Cert.XFwdRefIdeal.main_arg1))

def preserves_CAFwd_CAFwdIdeal : Prop :=
  True

def algebraic_CAFwdIdeal_CAFwdRefIdeal [hCAFwdIdeal : Cert.CAFwdIdeal.Facts] [hCAFwdRefIdeal : Cert.CAFwdRefIdeal.Facts] : Prop :=
  ∀ (m : (ℓ : Loc Cert.CAFwdIdeal.nD Cert.CAFwdIdeal.τ Cert.CAFwdIdeal.sig) → Buf (Elt Ideal) ℓ) (g : Dev Cert.CAFwdIdeal.nD → PrngReg)
    (m' : (ℓ : Loc Cert.CAFwdRefIdeal.nD Cert.CAFwdRefIdeal.τ Cert.CAFwdRefIdeal.sig) → Buf (Elt Ideal) ℓ) (g' : Dev Cert.CAFwdRefIdeal.nD → PrngReg), Pre_CAFwdIdeal m →
    (∀ c : Dev Cert.CAFwdIdeal.nD,
      m' ((c.tc : Thread Cert.CAFwdRefIdeal.nD Cert.CAFwdRefIdeal.τ).loc Cert.CAFwdRefIdeal.main_arg0) = m ((c.tc : Thread Cert.CAFwdIdeal.nD Cert.CAFwdIdeal.τ).loc Cert.CAFwdIdeal.main_arg0)
      ∧ m' ((c.tc : Thread Cert.CAFwdRefIdeal.nD Cert.CAFwdRefIdeal.τ).loc Cert.CAFwdRefIdeal.main_arg1) = m ((c.tc : Thread Cert.CAFwdIdeal.nD Cert.CAFwdIdeal.τ).loc Cert.CAFwdIdeal.main_arg1)) →
    ∃ (v0 : (c : Dev Cert.CAFwdIdeal.nD) → Buf (Elt Ideal) ((c.tc : Thread Cert.CAFwdIdeal.nD Cert.CAFwdIdeal.τ).loc Cert.CAFwdIdeal.main_v0)),
      θ_run (Cert.CAFwdIdeal.defs (F := Ideal)) (onTc (τ := Cert.CAFwdIdeal.τ) (Cert.CAFwdIdeal.main (F := Ideal))) ⟨m, fun _ => 0, g⟩ (fun r => ∀ c : Dev Cert.CAFwdIdeal.nD,
          r.2.mem ((c.tc : Thread Cert.CAFwdIdeal.nD Cert.CAFwdIdeal.τ).loc Cert.CAFwdIdeal.main_v0) = v0 c
          ∧ r.2.mem ((c.tc : Thread Cert.CAFwdIdeal.nD Cert.CAFwdIdeal.τ).loc Cert.CAFwdIdeal.main_arg0) = m ((c.tc : Thread Cert.CAFwdIdeal.nD Cert.CAFwdIdeal.τ).loc Cert.CAFwdIdeal.main_arg0)
          ∧ r.2.mem ((c.tc : Thread Cert.CAFwdIdeal.nD Cert.CAFwdIdeal.τ).loc Cert.CAFwdIdeal.main_arg1) = m ((c.tc : Thread Cert.CAFwdIdeal.nD Cert.CAFwdIdeal.τ).loc Cert.CAFwdIdeal.main_arg1))
      ∧ θ_run (Cert.CAFwdRefIdeal.defs (F := Ideal)) (onTc (τ := Cert.CAFwdRefIdeal.τ) (Cert.CAFwdRefIdeal.main (F := Ideal))) ⟨m', fun _ => 0, g'⟩ (fun r => ∀ c : Dev Cert.CAFwdRefIdeal.nD,
          r.2.mem ((c.tc : Thread Cert.CAFwdRefIdeal.nD Cert.CAFwdRefIdeal.τ).loc Cert.CAFwdRefIdeal.main_v43) = v0 c
          ∧ r.2.mem ((c.tc : Thread Cert.CAFwdRefIdeal.nD Cert.CAFwdRefIdeal.τ).loc Cert.CAFwdRefIdeal.main_arg0) = m' ((c.tc : Thread Cert.CAFwdRefIdeal.nD Cert.CAFwdRefIdeal.τ).loc Cert.CAFwdRefIdeal.main_arg0)
          ∧ r.2.mem ((c.tc : Thread Cert.CAFwdRefIdeal.nD Cert.CAFwdRefIdeal.τ).loc Cert.CAFwdRefIdeal.main_arg1) = m' ((c.tc : Thread Cert.CAFwdRefIdeal.nD Cert.CAFwdRefIdeal.τ).loc Cert.CAFwdRefIdeal.main_arg1))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v4) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1))

def preserves_RowNorm_RowNormIdeal : Prop :=
  True

def algebraic_RowNormIdeal_RowNormRefIdeal [hRowNormIdeal : Cert.RowNormIdeal.Facts] [hRowNormRefIdeal : Cert.RowNormRefIdeal.Facts] : Prop :=
  ∀ (m : (ℓ : Loc Cert.RowNormIdeal.nD Cert.RowNormIdeal.τ Cert.RowNormIdeal.sig) → Buf (Elt Ideal) ℓ) (g : Dev Cert.RowNormIdeal.nD → PrngReg)
    (m' : (ℓ : Loc Cert.RowNormRefIdeal.nD Cert.RowNormRefIdeal.τ Cert.RowNormRefIdeal.sig) → Buf (Elt Ideal) ℓ) (g' : Dev Cert.RowNormRefIdeal.nD → PrngReg), Pre_RowNormIdeal m →
    (∀ c : Dev Cert.RowNormIdeal.nD,
      m' ((c.tc : Thread Cert.RowNormRefIdeal.nD Cert.RowNormRefIdeal.τ).loc Cert.RowNormRefIdeal.main_arg0) = m ((c.tc : Thread Cert.RowNormIdeal.nD Cert.RowNormIdeal.τ).loc Cert.RowNormIdeal.main_arg0)
      ∧ m' ((c.tc : Thread Cert.RowNormRefIdeal.nD Cert.RowNormRefIdeal.τ).loc Cert.RowNormRefIdeal.main_arg1) = m ((c.tc : Thread Cert.RowNormIdeal.nD Cert.RowNormIdeal.τ).loc Cert.RowNormIdeal.main_arg1)) →
    ∃ (v0 : (c : Dev Cert.RowNormIdeal.nD) → Buf (Elt Ideal) ((c.tc : Thread Cert.RowNormIdeal.nD Cert.RowNormIdeal.τ).loc Cert.RowNormIdeal.main_v0)),
      θ_run (Cert.RowNormIdeal.defs (F := Ideal)) (onTc (τ := Cert.RowNormIdeal.τ) (Cert.RowNormIdeal.main (F := Ideal))) ⟨m, fun _ => 0, g⟩ (fun r => ∀ c : Dev Cert.RowNormIdeal.nD,
          r.2.mem ((c.tc : Thread Cert.RowNormIdeal.nD Cert.RowNormIdeal.τ).loc Cert.RowNormIdeal.main_v0) = v0 c
          ∧ r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
          ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ θ_run (Cert.RowNormRefIdeal.defs (F := Ideal)) (onTc (τ := Cert.RowNormRefIdeal.τ) (Cert.RowNormRefIdeal.main (F := Ideal))) ⟨m', fun _ => 0, g'⟩ (fun r => ∀ c : Dev Cert.RowNormRefIdeal.nD,
          r.2.mem ((c.tc : Thread Cert.RowNormRefIdeal.nD Cert.RowNormRefIdeal.τ).loc Cert.RowNormRefIdeal.main_v12) = v0 c
          ∧ r.2.mem ((c.tc : Thread Cert.RowNormRefIdeal.nD Cert.RowNormRefIdeal.τ).loc Cert.RowNormRefIdeal.main_arg0) = m' ((c.tc : Thread Cert.RowNormRefIdeal.nD Cert.RowNormRefIdeal.τ).loc Cert.RowNormRefIdeal.main_arg0)
          ∧ r.2.mem ((c.tc : Thread Cert.RowNormRefIdeal.nD Cert.RowNormRefIdeal.τ).loc Cert.RowNormRefIdeal.main_arg1) = m' ((c.tc : Thread Cert.RowNormRefIdeal.nD Cert.RowNormRefIdeal.τ).loc Cert.RowNormRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v12) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_DwKey_DwKeyIdeal : Prop :=
  True

def algebraic_DwKeyIdeal_DwKeyRefIdeal_on_key_rows [hDwKeyIdeal : Cert.DwKeyIdeal.Facts] [hDwKeyRefIdeal : Cert.DwKeyRefIdeal.Facts] [hOn_key_rows : Cert.On_key_rows.Facts] : Prop :=
  ∀ (m : (ℓ : Loc Cert.DwKeyIdeal.nD Cert.DwKeyIdeal.τ Cert.DwKeyIdeal.sig) → Buf (Elt Ideal) ℓ) (g : Dev Cert.DwKeyIdeal.nD → PrngReg)
    (m' : (ℓ : Loc Cert.DwKeyRefIdeal.nD Cert.DwKeyRefIdeal.τ Cert.DwKeyRefIdeal.sig) → Buf (Elt Ideal) ℓ) (g' : Dev Cert.DwKeyRefIdeal.nD → PrngReg), Pre_DwKeyIdeal m →
    (∀ c : Dev Cert.DwKeyIdeal.nD,
      m' ((c.tc : Thread Cert.DwKeyRefIdeal.nD Cert.DwKeyRefIdeal.τ).loc Cert.DwKeyRefIdeal.main_arg0) = m ((c.tc : Thread Cert.DwKeyIdeal.nD Cert.DwKeyIdeal.τ).loc Cert.DwKeyIdeal.main_arg0)
      ∧ m' ((c.tc : Thread Cert.DwKeyRefIdeal.nD Cert.DwKeyRefIdeal.τ).loc Cert.DwKeyRefIdeal.main_arg1) = m ((c.tc : Thread Cert.DwKeyIdeal.nD Cert.DwKeyIdeal.τ).loc Cert.DwKeyIdeal.main_arg1)) →
    ∃ (v0 : (c : Dev Cert.DwKeyIdeal.nD) → Buf (Elt Ideal) ((c.tc : Thread Cert.DwKeyIdeal.nD Cert.DwKeyIdeal.τ).loc Cert.DwKeyIdeal.main_v0)),
      θ_run (Cert.DwKeyIdeal.defs (F := Ideal)) (onTc (τ := Cert.DwKeyIdeal.τ) (Cert.DwKeyIdeal.main (F := Ideal))) ⟨m, fun _ => 0, g⟩ (fun r => ∀ c : Dev Cert.DwKeyIdeal.nD,
          (∀ i : (⟨2, ![2048, 1024]⟩ : Shape).Idx, (Cert.On_key_rows.fn (F := Ideal) (m ((c.tc : Thread Cert.DwKeyIdeal.nD Cert.DwKeyIdeal.τ).loc Cert.DwKeyIdeal.main_arg0)) (m ((c.tc : Thread Cert.DwKeyIdeal.nD Cert.DwKeyIdeal.τ).loc Cert.DwKeyIdeal.main_arg1))) i = 1#1 → r.2.mem ((c.tc : Thread Cert.DwKeyIdeal.nD Cert.DwKeyIdeal.τ).loc Cert.DwKeyIdeal.main_v0) i = v0 c i)
          ∧ r.2.mem ((c.tc : Thread Cert.DwKeyIdeal.nD Cert.DwKeyIdeal.τ).loc Cert.DwKeyIdeal.main_arg0) = m ((c.tc : Thread Cert.DwKeyIdeal.nD Cert.DwKeyIdeal.τ).loc Cert.DwKeyIdeal.main_arg0)
          ∧ r.2.mem ((c.tc : Thread Cert.DwKeyIdeal.nD Cert.DwKeyIdeal.τ).loc Cert.DwKeyIdeal.main_arg1) = m ((c.tc : Thread Cert.DwKeyIdeal.nD Cert.DwKeyIdeal.τ).loc Cert.DwKeyIdeal.main_arg1))
      ∧ θ_run (Cert.DwKeyRefIdeal.defs (F := Ideal)) (onTc (τ := Cert.DwKeyRefIdeal.τ) (Cert.DwKeyRefIdeal.main (F := Ideal))) ⟨m', fun _ => 0, g'⟩ (fun r => ∀ c : Dev Cert.DwKeyRefIdeal.nD,
          (∀ i : (⟨2, ![2048, 1024]⟩ : Shape).Idx, (Cert.On_key_rows.fn (F := Ideal) (m ((c.tc : Thread Cert.DwKeyIdeal.nD Cert.DwKeyIdeal.τ).loc Cert.DwKeyIdeal.main_arg0)) (m ((c.tc : Thread Cert.DwKeyIdeal.nD Cert.DwKeyIdeal.τ).loc Cert.DwKeyIdeal.main_arg1))) i = 1#1 → r.2.mem ((c.tc : Thread Cert.DwKeyRefIdeal.nD Cert.DwKeyRefIdeal.τ).loc Cert.DwKeyRefIdeal.main_v8) i = v0 c i)
          ∧ r.2.mem ((c.tc : Thread Cert.DwKeyRefIdeal.nD Cert.DwKeyRefIdeal.τ).loc Cert.DwKeyRefIdeal.main_arg0) = m' ((c.tc : Thread Cert.DwKeyRefIdeal.nD Cert.DwKeyRefIdeal.τ).loc Cert.DwKeyRefIdeal.main_arg0)
          ∧ r.2.mem ((c.tc : Thread Cert.DwKeyRefIdeal.nD Cert.DwKeyRefIdeal.τ).loc Cert.DwKeyRefIdeal.main_arg1) = m' ((c.tc : Thread Cert.DwKeyRefIdeal.nD Cert.DwKeyRefIdeal.τ).loc Cert.DwKeyRefIdeal.main_arg1))

def preserves_DwVal_DwValIdeal : Prop :=
  True

def algebraic_DwValIdeal_DwValRefIdeal [hDwValIdeal : Cert.DwValIdeal.Facts] [hDwValRefIdeal : Cert.DwValRefIdeal.Facts] : Prop :=
  ∀ (m : (ℓ : Loc Cert.DwValIdeal.nD Cert.DwValIdeal.τ Cert.DwValIdeal.sig) → Buf (Elt Ideal) ℓ) (g : Dev Cert.DwValIdeal.nD → PrngReg)
    (m' : (ℓ : Loc Cert.DwValRefIdeal.nD Cert.DwValRefIdeal.τ Cert.DwValRefIdeal.sig) → Buf (Elt Ideal) ℓ) (g' : Dev Cert.DwValRefIdeal.nD → PrngReg), Pre_DwValIdeal m →
    (∀ c : Dev Cert.DwValIdeal.nD,
      m' ((c.tc : Thread Cert.DwValRefIdeal.nD Cert.DwValRefIdeal.τ).loc Cert.DwValRefIdeal.main_arg0) = m ((c.tc : Thread Cert.DwValIdeal.nD Cert.DwValIdeal.τ).loc Cert.DwValIdeal.main_arg0)
      ∧ m' ((c.tc : Thread Cert.DwValRefIdeal.nD Cert.DwValRefIdeal.τ).loc Cert.DwValRefIdeal.main_arg1) = m ((c.tc : Thread Cert.DwValIdeal.nD Cert.DwValIdeal.τ).loc Cert.DwValIdeal.main_arg1)
      ∧ m' ((c.tc : Thread Cert.DwValRefIdeal.nD Cert.DwValRefIdeal.τ).loc Cert.DwValRefIdeal.main_arg2) = m ((c.tc : Thread Cert.DwValIdeal.nD Cert.DwValIdeal.τ).loc Cert.DwValIdeal.main_arg2)) →
    ∃ (v0 : (c : Dev Cert.DwValIdeal.nD) → Buf (Elt Ideal) ((c.tc : Thread Cert.DwValIdeal.nD Cert.DwValIdeal.τ).loc Cert.DwValIdeal.main_v0)),
      θ_run (Cert.DwValIdeal.defs (F := Ideal)) (onTc (τ := Cert.DwValIdeal.τ) (Cert.DwValIdeal.main (F := Ideal))) ⟨m, fun _ => 0, g⟩ (fun r => ∀ c : Dev Cert.DwValIdeal.nD,
          r.2.mem ((c.tc : Thread Cert.DwValIdeal.nD Cert.DwValIdeal.τ).loc Cert.DwValIdeal.main_v0) = v0 c
          ∧ r.2.mem ((c.tc : Thread Cert.DwValIdeal.nD Cert.DwValIdeal.τ).loc Cert.DwValIdeal.main_arg0) = m ((c.tc : Thread Cert.DwValIdeal.nD Cert.DwValIdeal.τ).loc Cert.DwValIdeal.main_arg0)
          ∧ r.2.mem ((c.tc : Thread Cert.DwValIdeal.nD Cert.DwValIdeal.τ).loc Cert.DwValIdeal.main_arg1) = m ((c.tc : Thread Cert.DwValIdeal.nD Cert.DwValIdeal.τ).loc Cert.DwValIdeal.main_arg1)
          ∧ r.2.mem ((c.tc : Thread Cert.DwValIdeal.nD Cert.DwValIdeal.τ).loc Cert.DwValIdeal.main_arg2) = m ((c.tc : Thread Cert.DwValIdeal.nD Cert.DwValIdeal.τ).loc Cert.DwValIdeal.main_arg2))
      ∧ θ_run (Cert.DwValRefIdeal.defs (F := Ideal)) (onTc (τ := Cert.DwValRefIdeal.τ) (Cert.DwValRefIdeal.main (F := Ideal))) ⟨m', fun _ => 0, g'⟩ (fun r => ∀ c : Dev Cert.DwValRefIdeal.nD,
          r.2.mem ((c.tc : Thread Cert.DwValRefIdeal.nD Cert.DwValRefIdeal.τ).loc Cert.DwValRefIdeal.main_v9) = v0 c
          ∧ r.2.mem ((c.tc : Thread Cert.DwValRefIdeal.nD Cert.DwValRefIdeal.τ).loc Cert.DwValRefIdeal.main_arg0) = m' ((c.tc : Thread Cert.DwValRefIdeal.nD Cert.DwValRefIdeal.τ).loc Cert.DwValRefIdeal.main_arg0)
          ∧ r.2.mem ((c.tc : Thread Cert.DwValRefIdeal.nD Cert.DwValRefIdeal.τ).loc Cert.DwValRefIdeal.main_arg1) = m' ((c.tc : Thread Cert.DwValRefIdeal.nD Cert.DwValRefIdeal.τ).loc Cert.DwValRefIdeal.main_arg1)
          ∧ r.2.mem ((c.tc : Thread Cert.DwValRefIdeal.nD Cert.DwValRefIdeal.τ).loc Cert.DwValRefIdeal.main_arg2) = m' ((c.tc : Thread Cert.DwValRefIdeal.nD Cert.DwValRefIdeal.τ).loc Cert.DwValRefIdeal.main_arg2))

def preserves_InDt_InDtIdeal : Prop :=
  True

def algebraic_InDtIdeal_InDtRefIdeal [hInDtIdeal : Cert.InDtIdeal.Facts] [hInDtRefIdeal : Cert.InDtRefIdeal.Facts] : Prop :=
  ∀ (m : (ℓ : Loc Cert.InDtIdeal.nD Cert.InDtIdeal.τ Cert.InDtIdeal.sig) → Buf (Elt Ideal) ℓ) (g : Dev Cert.InDtIdeal.nD → PrngReg)
    (m' : (ℓ : Loc Cert.InDtRefIdeal.nD Cert.InDtRefIdeal.τ Cert.InDtRefIdeal.sig) → Buf (Elt Ideal) ℓ) (g' : Dev Cert.InDtRefIdeal.nD → PrngReg), Pre_InDtIdeal m →
    (∀ c : Dev Cert.InDtIdeal.nD,
      m' ((c.tc : Thread Cert.InDtRefIdeal.nD Cert.InDtRefIdeal.τ).loc Cert.InDtRefIdeal.main_arg0) = m ((c.tc : Thread Cert.InDtIdeal.nD Cert.InDtIdeal.τ).loc Cert.InDtIdeal.main_arg0)
      ∧ m' ((c.tc : Thread Cert.InDtRefIdeal.nD Cert.InDtRefIdeal.τ).loc Cert.InDtRefIdeal.main_arg1) = m ((c.tc : Thread Cert.InDtIdeal.nD Cert.InDtIdeal.τ).loc Cert.InDtIdeal.main_arg1)) →
    ∃ (v0 : (c : Dev Cert.InDtIdeal.nD) → Buf (Elt Ideal) ((c.tc : Thread Cert.InDtIdeal.nD Cert.InDtIdeal.τ).loc Cert.InDtIdeal.main_v0)),
      θ_run (Cert.InDtIdeal.defs (F := Ideal)) (onTc (τ := Cert.InDtIdeal.τ) (Cert.InDtIdeal.main (F := Ideal))) ⟨m, fun _ => 0, g⟩ (fun r => ∀ c : Dev Cert.InDtIdeal.nD,
          r.2.mem ((c.tc : Thread Cert.InDtIdeal.nD Cert.InDtIdeal.τ).loc Cert.InDtIdeal.main_v0) = v0 c
          ∧ r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
          ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ θ_run (Cert.InDtRefIdeal.defs (F := Ideal)) (onTc (τ := Cert.InDtRefIdeal.τ) (Cert.InDtRefIdeal.main (F := Ideal))) ⟨m', fun _ => 0, g'⟩ (fun r => ∀ c : Dev Cert.InDtRefIdeal.nD,
          r.2.mem ((c.tc : Thread Cert.InDtRefIdeal.nD Cert.InDtRefIdeal.τ).loc Cert.InDtRefIdeal.main_v3) = v0 c
          ∧ r.2.mem ((c.tc : Thread Cert.InDtRefIdeal.nD Cert.InDtRefIdeal.τ).loc Cert.InDtRefIdeal.main_arg0) = m' ((c.tc : Thread Cert.InDtRefIdeal.nD Cert.InDtRefIdeal.τ).loc Cert.InDtRefIdeal.main_arg0)
          ∧ r.2.mem ((c.tc : Thread Cert.InDtRefIdeal.nD Cert.InDtRefIdeal.τ).loc Cert.InDtRefIdeal.main_arg1) = m' ((c.tc : Thread Cert.InDtRefIdeal.nD Cert.InDtRefIdeal.τ).loc Cert.InDtRefIdeal.main_arg1))

def preserves_DwDt_DwDtIdeal : Prop :=
  True

def algebraic_DwDtIdeal_DwDtRefIdeal [hDwDtIdeal : Cert.DwDtIdeal.Facts] [hDwDtRefIdeal : Cert.DwDtRefIdeal.Facts] : Prop :=
  ∀ (m : (ℓ : Loc Cert.DwDtIdeal.nD Cert.DwDtIdeal.τ Cert.DwDtIdeal.sig) → Buf (Elt Ideal) ℓ) (g : Dev Cert.DwDtIdeal.nD → PrngReg)
    (m' : (ℓ : Loc Cert.DwDtRefIdeal.nD Cert.DwDtRefIdeal.τ Cert.DwDtRefIdeal.sig) → Buf (Elt Ideal) ℓ) (g' : Dev Cert.DwDtRefIdeal.nD → PrngReg), Pre_DwDtIdeal m →
    (∀ c : Dev Cert.DwDtIdeal.nD,
      m' ((c.tc : Thread Cert.DwDtRefIdeal.nD Cert.DwDtRefIdeal.τ).loc Cert.DwDtRefIdeal.main_arg0) = m ((c.tc : Thread Cert.DwDtIdeal.nD Cert.DwDtIdeal.τ).loc Cert.DwDtIdeal.main_arg0)
      ∧ m' ((c.tc : Thread Cert.DwDtRefIdeal.nD Cert.DwDtRefIdeal.τ).loc Cert.DwDtRefIdeal.main_arg1) = m ((c.tc : Thread Cert.DwDtIdeal.nD Cert.DwDtIdeal.τ).loc Cert.DwDtIdeal.main_arg1)) →
    ∃ (v0 : (c : Dev Cert.DwDtIdeal.nD) → Buf (Elt Ideal) ((c.tc : Thread Cert.DwDtIdeal.nD Cert.DwDtIdeal.τ).loc Cert.DwDtIdeal.main_v0)),
      θ_run (Cert.DwDtIdeal.defs (F := Ideal)) (onTc (τ := Cert.DwDtIdeal.τ) (Cert.DwDtIdeal.main (F := Ideal))) ⟨m, fun _ => 0, g⟩ (fun r => ∀ c : Dev Cert.DwDtIdeal.nD,
          r.2.mem ((c.tc : Thread Cert.DwDtIdeal.nD Cert.DwDtIdeal.τ).loc Cert.DwDtIdeal.main_v0) = v0 c
          ∧ r.2.mem ((c.tc : Thread Cert.DwDtIdeal.nD Cert.DwDtIdeal.τ).loc Cert.DwDtIdeal.main_arg0) = m ((c.tc : Thread Cert.DwDtIdeal.nD Cert.DwDtIdeal.τ).loc Cert.DwDtIdeal.main_arg0)
          ∧ r.2.mem ((c.tc : Thread Cert.DwDtIdeal.nD Cert.DwDtIdeal.τ).loc Cert.DwDtIdeal.main_arg1) = m ((c.tc : Thread Cert.DwDtIdeal.nD Cert.DwDtIdeal.τ).loc Cert.DwDtIdeal.main_arg1))
      ∧ θ_run (Cert.DwDtRefIdeal.defs (F := Ideal)) (onTc (τ := Cert.DwDtRefIdeal.τ) (Cert.DwDtRefIdeal.main (F := Ideal))) ⟨m', fun _ => 0, g'⟩ (fun r => ∀ c : Dev Cert.DwDtRefIdeal.nD,
          r.2.mem ((c.tc : Thread Cert.DwDtRefIdeal.nD Cert.DwDtRefIdeal.τ).loc Cert.DwDtRefIdeal.main_v7) = v0 c
          ∧ r.2.mem ((c.tc : Thread Cert.DwDtRefIdeal.nD Cert.DwDtRefIdeal.τ).loc Cert.DwDtRefIdeal.main_arg0) = m' ((c.tc : Thread Cert.DwDtRefIdeal.nD Cert.DwDtRefIdeal.τ).loc Cert.DwDtRefIdeal.main_arg0)
          ∧ r.2.mem ((c.tc : Thread Cert.DwDtRefIdeal.nD Cert.DwDtRefIdeal.τ).loc Cert.DwDtRefIdeal.main_arg1) = m' ((c.tc : Thread Cert.DwDtRefIdeal.nD Cert.DwDtRefIdeal.τ).loc Cert.DwDtRefIdeal.main_arg1))

def preserves_DMn_DMnIdeal : Prop :=
  True

def algebraic_DMnIdeal_DMnRefIdeal_pre_finite_mn [hDMnIdeal : Cert.DMnIdeal.Facts] [hDMnRefIdeal : Cert.DMnRefIdeal.Facts] [hPre_finite_mn : Cert.Pre_finite_mn.Facts] : Prop :=
  ∀ (m : (ℓ : Loc Cert.DMnIdeal.nD Cert.DMnIdeal.τ Cert.DMnIdeal.sig) → Buf (Elt Ideal) ℓ) (g : Dev Cert.DMnIdeal.nD → PrngReg)
    (m' : (ℓ : Loc Cert.DMnRefIdeal.nD Cert.DMnRefIdeal.τ Cert.DMnRefIdeal.sig) → Buf (Elt Ideal) ℓ) (g' : Dev Cert.DMnRefIdeal.nD → PrngReg), Pre_DMnIdeal_finite_mn m →
    (∀ c : Dev Cert.DMnIdeal.nD,
      m' ((c.tc : Thread Cert.DMnRefIdeal.nD Cert.DMnRefIdeal.τ).loc Cert.DMnRefIdeal.main_arg0) = m ((c.tc : Thread Cert.DMnIdeal.nD Cert.DMnIdeal.τ).loc Cert.DMnIdeal.main_arg0)
      ∧ m' ((c.tc : Thread Cert.DMnRefIdeal.nD Cert.DMnRefIdeal.τ).loc Cert.DMnRefIdeal.main_arg1) = m ((c.tc : Thread Cert.DMnIdeal.nD Cert.DMnIdeal.τ).loc Cert.DMnIdeal.main_arg1)
      ∧ m' ((c.tc : Thread Cert.DMnRefIdeal.nD Cert.DMnRefIdeal.τ).loc Cert.DMnRefIdeal.main_arg2) = m ((c.tc : Thread Cert.DMnIdeal.nD Cert.DMnIdeal.τ).loc Cert.DMnIdeal.main_arg2)
      ∧ m' ((c.tc : Thread Cert.DMnRefIdeal.nD Cert.DMnRefIdeal.τ).loc Cert.DMnRefIdeal.main_arg3) = m ((c.tc : Thread Cert.DMnIdeal.nD Cert.DMnIdeal.τ).loc Cert.DMnIdeal.main_arg3)
      ∧ m' ((c.tc : Thread Cert.DMnRefIdeal.nD Cert.DMnRefIdeal.τ).loc Cert.DMnRefIdeal.main_arg4) = m ((c.tc : Thread Cert.DMnIdeal.nD Cert.DMnIdeal.τ).loc Cert.DMnIdeal.main_arg4)) →
    ∃ (v0 : (c : Dev Cert.DMnIdeal.nD) → Buf (Elt Ideal) ((c.tc : Thread Cert.DMnIdeal.nD Cert.DMnIdeal.τ).loc Cert.DMnIdeal.main_v0_0)) (v1 : (c : Dev Cert.DMnIdeal.nD) → Buf (Elt Ideal) ((c.tc : Thread Cert.DMnIdeal.nD Cert.DMnIdeal.τ).loc Cert.DMnIdeal.main_v0_1)),
      θ_run (Cert.DMnIdeal.defs (F := Ideal)) (onTc (τ := Cert.DMnIdeal.τ) (Cert.DMnIdeal.main (F := Ideal))) ⟨m, fun _ => 0, g⟩ (fun r => ∀ c : Dev Cert.DMnIdeal.nD,
          r.2.mem ((c.tc : Thread Cert.DMnIdeal.nD Cert.DMnIdeal.τ).loc Cert.DMnIdeal.main_v0_0) = v0 c
          ∧ r.2.mem ((c.tc : Thread Cert.DMnIdeal.nD Cert.DMnIdeal.τ).loc Cert.DMnIdeal.main_v0_1) = v1 c
          ∧ r.2.mem ((c.tc : Thread Cert.DMnIdeal.nD Cert.DMnIdeal.τ).loc Cert.DMnIdeal.main_arg0) = m ((c.tc : Thread Cert.DMnIdeal.nD Cert.DMnIdeal.τ).loc Cert.DMnIdeal.main_arg0)
          ∧ r.2.mem ((c.tc : Thread Cert.DMnIdeal.nD Cert.DMnIdeal.τ).loc Cert.DMnIdeal.main_arg1) = m ((c.tc : Thread Cert.DMnIdeal.nD Cert.DMnIdeal.τ).loc Cert.DMnIdeal.main_arg1)
          ∧ r.2.mem ((c.tc : Thread Cert.DMnIdeal.nD Cert.DMnIdeal.τ).loc Cert.DMnIdeal.main_arg2) = m ((c.tc : Thread Cert.DMnIdeal.nD Cert.DMnIdeal.τ).loc Cert.DMnIdeal.main_arg2)
          ∧ r.2.mem ((c.tc : Thread Cert.DMnIdeal.nD Cert.DMnIdeal.τ).loc Cert.DMnIdeal.main_arg3) = m ((c.tc : Thread Cert.DMnIdeal.nD Cert.DMnIdeal.τ).loc Cert.DMnIdeal.main_arg3)
          ∧ r.2.mem ((c.tc : Thread Cert.DMnIdeal.nD Cert.DMnIdeal.τ).loc Cert.DMnIdeal.main_arg4) = m ((c.tc : Thread Cert.DMnIdeal.nD Cert.DMnIdeal.τ).loc Cert.DMnIdeal.main_arg4))
      ∧ θ_run (Cert.DMnRefIdeal.defs (F := Ideal)) (onTc (τ := Cert.DMnRefIdeal.τ) (Cert.DMnRefIdeal.main (F := Ideal))) ⟨m', fun _ => 0, g'⟩ (fun r => ∀ c : Dev Cert.DMnRefIdeal.nD,
          r.2.mem ((c.tc : Thread Cert.DMnRefIdeal.nD Cert.DMnRefIdeal.τ).loc Cert.DMnRefIdeal.main_v42) = v0 c
          ∧ r.2.mem ((c.tc : Thread Cert.DMnRefIdeal.nD Cert.DMnRefIdeal.τ).loc Cert.DMnRefIdeal.main_v26) = v1 c
          ∧ r.2.mem ((c.tc : Thread Cert.DMnRefIdeal.nD Cert.DMnRefIdeal.τ).loc Cert.DMnRefIdeal.main_arg0) = m' ((c.tc : Thread Cert.DMnRefIdeal.nD Cert.DMnRefIdeal.τ).loc Cert.DMnRefIdeal.main_arg0)
          ∧ r.2.mem ((c.tc : Thread Cert.DMnRefIdeal.nD Cert.DMnRefIdeal.τ).loc Cert.DMnRefIdeal.main_arg1) = m' ((c.tc : Thread Cert.DMnRefIdeal.nD Cert.DMnRefIdeal.τ).loc Cert.DMnRefIdeal.main_arg1)
          ∧ r.2.mem ((c.tc : Thread Cert.DMnRefIdeal.nD Cert.DMnRefIdeal.τ).loc Cert.DMnRefIdeal.main_arg2) = m' ((c.tc : Thread Cert.DMnRefIdeal.nD Cert.DMnRefIdeal.τ).loc Cert.DMnRefIdeal.main_arg2)
          ∧ r.2.mem ((c.tc : Thread Cert.DMnRefIdeal.nD Cert.DMnRefIdeal.τ).loc Cert.DMnRefIdeal.main_arg3) = m' ((c.tc : Thread Cert.DMnRefIdeal.nD Cert.DMnRefIdeal.τ).loc Cert.DMnRefIdeal.main_arg3)
          ∧ r.2.mem ((c.tc : Thread Cert.DMnRefIdeal.nD Cert.DMnRefIdeal.τ).loc Cert.DMnRefIdeal.main_arg4) = m' ((c.tc : Thread Cert.DMnRefIdeal.nD Cert.DMnRefIdeal.τ).loc Cert.DMnRefIdeal.main_arg4))

def preserves_DUDt_DUDtIdeal : Prop :=
  True

def algebraic_DUDtIdeal_DUDtRefIdeal_pre_finite_dt [hDUDtIdeal : Cert.DUDtIdeal.Facts] [hDUDtRefIdeal : Cert.DUDtRefIdeal.Facts] [hPre_finite_dt : Cert.Pre_finite_dt.Facts] : Prop :=
  ∀ (m : (ℓ : Loc Cert.DUDtIdeal.nD Cert.DUDtIdeal.τ Cert.DUDtIdeal.sig) → Buf (Elt Ideal) ℓ) (g : Dev Cert.DUDtIdeal.nD → PrngReg)
    (m' : (ℓ : Loc Cert.DUDtRefIdeal.nD Cert.DUDtRefIdeal.τ Cert.DUDtRefIdeal.sig) → Buf (Elt Ideal) ℓ) (g' : Dev Cert.DUDtRefIdeal.nD → PrngReg), Pre_DUDtIdeal_finite_dt m →
    (∀ c : Dev Cert.DUDtIdeal.nD,
      m' ((c.tc : Thread Cert.DUDtRefIdeal.nD Cert.DUDtRefIdeal.τ).loc Cert.DUDtRefIdeal.main_arg0) = m ((c.tc : Thread Cert.DUDtIdeal.nD Cert.DUDtIdeal.τ).loc Cert.DUDtIdeal.main_arg0)
      ∧ m' ((c.tc : Thread Cert.DUDtRefIdeal.nD Cert.DUDtRefIdeal.τ).loc Cert.DUDtRefIdeal.main_arg1) = m ((c.tc : Thread Cert.DUDtIdeal.nD Cert.DUDtIdeal.τ).loc Cert.DUDtIdeal.main_arg1)
      ∧ m' ((c.tc : Thread Cert.DUDtRefIdeal.nD Cert.DUDtRefIdeal.τ).loc Cert.DUDtRefIdeal.main_arg2) = m ((c.tc : Thread Cert.DUDtIdeal.nD Cert.DUDtIdeal.τ).loc Cert.DUDtIdeal.main_arg2)
      ∧ m' ((c.tc : Thread Cert.DUDtRefIdeal.nD Cert.DUDtRefIdeal.τ).loc Cert.DUDtRefIdeal.main_arg3) = m ((c.tc : Thread Cert.DUDtIdeal.nD Cert.DUDtIdeal.τ).loc Cert.DUDtIdeal.main_arg3)
      ∧ m' ((c.tc : Thread Cert.DUDtRefIdeal.nD Cert.DUDtRefIdeal.τ).loc Cert.DUDtRefIdeal.main_arg4) = m ((c.tc : Thread Cert.DUDtIdeal.nD Cert.DUDtIdeal.τ).loc Cert.DUDtIdeal.main_arg4)
      ∧ m' ((c.tc : Thread Cert.DUDtRefIdeal.nD Cert.DUDtRefIdeal.τ).loc Cert.DUDtRefIdeal.main_arg5) = m ((c.tc : Thread Cert.DUDtIdeal.nD Cert.DUDtIdeal.τ).loc Cert.DUDtIdeal.main_arg5)) →
    ∃ (v0 : (c : Dev Cert.DUDtIdeal.nD) → Buf (Elt Ideal) ((c.tc : Thread Cert.DUDtIdeal.nD Cert.DUDtIdeal.τ).loc Cert.DUDtIdeal.main_v0_0)) (v1 : (c : Dev Cert.DUDtIdeal.nD) → Buf (Elt Ideal) ((c.tc : Thread Cert.DUDtIdeal.nD Cert.DUDtIdeal.τ).loc Cert.DUDtIdeal.main_v0_1)),
      θ_run (Cert.DUDtIdeal.defs (F := Ideal)) (onTc (τ := Cert.DUDtIdeal.τ) (Cert.DUDtIdeal.main (F := Ideal))) ⟨m, fun _ => 0, g⟩ (fun r => ∀ c : Dev Cert.DUDtIdeal.nD,
          r.2.mem ((c.tc : Thread Cert.DUDtIdeal.nD Cert.DUDtIdeal.τ).loc Cert.DUDtIdeal.main_v0_0) = v0 c
          ∧ r.2.mem ((c.tc : Thread Cert.DUDtIdeal.nD Cert.DUDtIdeal.τ).loc Cert.DUDtIdeal.main_v0_1) = v1 c
          ∧ r.2.mem ((c.tc : Thread Cert.DUDtIdeal.nD Cert.DUDtIdeal.τ).loc Cert.DUDtIdeal.main_arg0) = m ((c.tc : Thread Cert.DUDtIdeal.nD Cert.DUDtIdeal.τ).loc Cert.DUDtIdeal.main_arg0)
          ∧ r.2.mem ((c.tc : Thread Cert.DUDtIdeal.nD Cert.DUDtIdeal.τ).loc Cert.DUDtIdeal.main_arg1) = m ((c.tc : Thread Cert.DUDtIdeal.nD Cert.DUDtIdeal.τ).loc Cert.DUDtIdeal.main_arg1)
          ∧ r.2.mem ((c.tc : Thread Cert.DUDtIdeal.nD Cert.DUDtIdeal.τ).loc Cert.DUDtIdeal.main_arg2) = m ((c.tc : Thread Cert.DUDtIdeal.nD Cert.DUDtIdeal.τ).loc Cert.DUDtIdeal.main_arg2)
          ∧ r.2.mem ((c.tc : Thread Cert.DUDtIdeal.nD Cert.DUDtIdeal.τ).loc Cert.DUDtIdeal.main_arg3) = m ((c.tc : Thread Cert.DUDtIdeal.nD Cert.DUDtIdeal.τ).loc Cert.DUDtIdeal.main_arg3)
          ∧ r.2.mem ((c.tc : Thread Cert.DUDtIdeal.nD Cert.DUDtIdeal.τ).loc Cert.DUDtIdeal.main_arg4) = m ((c.tc : Thread Cert.DUDtIdeal.nD Cert.DUDtIdeal.τ).loc Cert.DUDtIdeal.main_arg4)
          ∧ r.2.mem ((c.tc : Thread Cert.DUDtIdeal.nD Cert.DUDtIdeal.τ).loc Cert.DUDtIdeal.main_arg5) = m ((c.tc : Thread Cert.DUDtIdeal.nD Cert.DUDtIdeal.τ).loc Cert.DUDtIdeal.main_arg5))
      ∧ θ_run (Cert.DUDtRefIdeal.defs (F := Ideal)) (onTc (τ := Cert.DUDtRefIdeal.τ) (Cert.DUDtRefIdeal.main (F := Ideal))) ⟨m', fun _ => 0, g'⟩ (fun r => ∀ c : Dev Cert.DUDtRefIdeal.nD,
          r.2.mem ((c.tc : Thread Cert.DUDtRefIdeal.nD Cert.DUDtRefIdeal.τ).loc Cert.DUDtRefIdeal.main_v39) = v0 c
          ∧ r.2.mem ((c.tc : Thread Cert.DUDtRefIdeal.nD Cert.DUDtRefIdeal.τ).loc Cert.DUDtRefIdeal.main_v22) = v1 c
          ∧ r.2.mem ((c.tc : Thread Cert.DUDtRefIdeal.nD Cert.DUDtRefIdeal.τ).loc Cert.DUDtRefIdeal.main_arg0) = m' ((c.tc : Thread Cert.DUDtRefIdeal.nD Cert.DUDtRefIdeal.τ).loc Cert.DUDtRefIdeal.main_arg0)
          ∧ r.2.mem ((c.tc : Thread Cert.DUDtRefIdeal.nD Cert.DUDtRefIdeal.τ).loc Cert.DUDtRefIdeal.main_arg1) = m' ((c.tc : Thread Cert.DUDtRefIdeal.nD Cert.DUDtRefIdeal.τ).loc Cert.DUDtRefIdeal.main_arg1)
          ∧ r.2.mem ((c.tc : Thread Cert.DUDtRefIdeal.nD Cert.DUDtRefIdeal.τ).loc Cert.DUDtRefIdeal.main_arg2) = m' ((c.tc : Thread Cert.DUDtRefIdeal.nD Cert.DUDtRefIdeal.τ).loc Cert.DUDtRefIdeal.main_arg2)
          ∧ r.2.mem ((c.tc : Thread Cert.DUDtRefIdeal.nD Cert.DUDtRefIdeal.τ).loc Cert.DUDtRefIdeal.main_arg3) = m' ((c.tc : Thread Cert.DUDtRefIdeal.nD Cert.DUDtRefIdeal.τ).loc Cert.DUDtRefIdeal.main_arg3)
          ∧ r.2.mem ((c.tc : Thread Cert.DUDtRefIdeal.nD Cert.DUDtRefIdeal.τ).loc Cert.DUDtRefIdeal.main_arg4) = m' ((c.tc : Thread Cert.DUDtRefIdeal.nD Cert.DUDtRefIdeal.τ).loc Cert.DUDtRefIdeal.main_arg4)
          ∧ r.2.mem ((c.tc : Thread Cert.DUDtRefIdeal.nD Cert.DUDtRefIdeal.τ).loc Cert.DUDtRefIdeal.main_arg5) = m' ((c.tc : Thread Cert.DUDtRefIdeal.nD Cert.DUDtRefIdeal.τ).loc Cert.DUDtRefIdeal.main_arg5))

def Claim : Prop :=
  ∃ (hMerge : Cert.Merge.Facts) (hMergeIdeal : Cert.MergeIdeal.Facts) (hMergeRefIdeal : Cert.MergeRefIdeal.Facts) (hConvA : Cert.ConvA.Facts) (hConvAIdeal : Cert.ConvAIdeal.Facts) (hConvARefIdeal : Cert.ConvARefIdeal.Facts) (hDwDown : Cert.DwDown.Facts) (hDwDownIdeal : Cert.DwDownIdeal.Facts) (hDwDownRefIdeal : Cert.DwDownRefIdeal.Facts) (hDwGate : Cert.DwGate.Facts) (hDwGateIdeal : Cert.DwGateIdeal.Facts) (hDwGateRefIdeal : Cert.DwGateRefIdeal.Facts) (hDwUp : Cert.DwUp.Facts) (hDwUpIdeal : Cert.DwUpIdeal.Facts) (hDwUpRefIdeal : Cert.DwUpRefIdeal.Facts) (hInDwCx : Cert.InDwCx.Facts) (hInDwCxIdeal : Cert.InDwCxIdeal.Facts) (hInDwCxRefIdeal : Cert.InDwCxRefIdeal.Facts) (hInDwZ : Cert.InDwZ.Facts) (hInDwZIdeal : Cert.InDwZIdeal.Facts) (hInDwZRefIdeal : Cert.InDwZRefIdeal.Facts) (hInDu : Cert.InDu.Facts) (hInDuIdeal : Cert.InDuIdeal.Facts) (hInDuRefIdeal : Cert.InDuRefIdeal.Facts) (hInProj : Cert.InProj.Facts) (hInProjIdeal : Cert.InProjIdeal.Facts) (hInProjRefIdeal : Cert.InProjRefIdeal.Facts) (hFfnDown : Cert.FfnDown.Facts) (hFfnDownIdeal : Cert.FfnDownIdeal.Facts) (hFfnDownRefIdeal : Cert.FfnDownRefIdeal.Facts) (hFfnUp : Cert.FfnUp.Facts) (hFfnUpIdeal : Cert.FfnUpIdeal.Facts) (hFfnUpRefIdeal : Cert.FfnUpRefIdeal.Facts) (hFfnDa : Cert.FfnDa.Facts) (hFfnDaIdeal : Cert.FfnDaIdeal.Facts) (hFfnDaRefIdeal : Cert.FfnDaRefIdeal.Facts) (hFfnDn : Cert.FfnDn.Facts) (hFfnDnIdeal : Cert.FfnDnIdeal.Facts) (hFfnDnRefIdeal : Cert.FfnDnRefIdeal.Facts) (hDwOut : Cert.DwOut.Facts) (hDwOutIdeal : Cert.DwOutIdeal.Facts) (hDwOutRefIdeal : Cert.DwOutRefIdeal.Facts) (hDwMix : Cert.DwMix.Facts) (hDwMixIdeal : Cert.DwMixIdeal.Facts) (hDwMixRefIdeal : Cert.DwMixRefIdeal.Facts) (hDwSsm : Cert.DwSsm.Facts) (hDwSsmIdeal : Cert.DwSsmIdeal.Facts) (hDwSsmRefIdeal : Cert.DwSsmRefIdeal.Facts) (hOutA : Cert.OutA.Facts) (hOutAIdeal : Cert.OutAIdeal.Facts) (hOutARefIdeal : Cert.OutARefIdeal.Facts) (hQProj : Cert.QProj.Facts) (hQProjIdeal : Cert.QProjIdeal.Facts) (hQProjRefIdeal : Cert.QProjRefIdeal.Facts) (hOProj : Cert.OProj.Facts) (hOProjIdeal : Cert.OProjIdeal.Facts) (hOProjRefIdeal : Cert.OProjRefIdeal.Facts) (hDO : Cert.DO.Facts) (hDOIdeal : Cert.DOIdeal.Facts) (hDORefIdeal : Cert.DORefIdeal.Facts) (hDUn : Cert.DUn.Facts) (hDUnIdeal : Cert.DUnIdeal.Facts) (hDUnRefIdeal : Cert.DUnRefIdeal.Facts) (hAdamDown : Cert.AdamDown.Facts) (hAdamDownIdeal : Cert.AdamDownIdeal.Facts) (hAdamDownRefIdeal : Cert.AdamDownRefIdeal.Facts) (hAdamOut : Cert.AdamOut.Facts) (hAdamOutIdeal : Cert.AdamOutIdeal.Facts) (hAdamOutRefIdeal : Cert.AdamOutRefIdeal.Facts) (hAdamSsm : Cert.AdamSsm.Facts) (hAdamSsmIdeal : Cert.AdamSsmIdeal.Facts) (hAdamSsmRefIdeal : Cert.AdamSsmRefIdeal.Facts) (hAdamGateUp : Cert.AdamGateUp.Facts) (hAdamGateUpIdeal : Cert.AdamGateUpIdeal.Facts) (hAdamGateUpRefIdeal : Cert.AdamGateUpRefIdeal.Facts) (hAdamKv : Cert.AdamKv.Facts) (hAdamKvIdeal : Cert.AdamKvIdeal.Facts) (hAdamKvRefIdeal : Cert.AdamKvRefIdeal.Facts) (hAdamIn : Cert.AdamIn.Facts) (hAdamInIdeal : Cert.AdamInIdeal.Facts) (hAdamInRefIdeal : Cert.AdamInRefIdeal.Facts) (hXAttn : Cert.XAttn.Facts) (hXAttnIdeal : Cert.XAttnIdeal.Facts) (hXAttnRefIdeal : Cert.XAttnRefIdeal.Facts) (hSumSmall : Cert.SumSmall.Facts) (hSumSmallIdeal : Cert.SumSmallIdeal.Facts) (hSumSmallRefIdeal : Cert.SumSmallRefIdeal.Facts) (hAdamSmall : Cert.AdamSmall.Facts) (hAdamSmallIdeal : Cert.AdamSmallIdeal.Facts) (hAdamSmallRefIdeal : Cert.AdamSmallRefIdeal.Facts) (hFfnLoss : Cert.FfnLoss.Facts) (hFfnLossIdeal : Cert.FfnLossIdeal.Facts) (hFfnLossRefIdeal : Cert.FfnLossRefIdeal.Facts) (hGateNorm : Cert.GateNorm.Facts) (hGateNormIdeal : Cert.GateNormIdeal.Facts) (hGateNormRefIdeal : Cert.GateNormRefIdeal.Facts) (hMergeOut : Cert.MergeOut.Facts) (hMergeOutIdeal : Cert.MergeOutIdeal.Facts) (hMergeOutRefIdeal : Cert.MergeOutRefIdeal.Facts) (hGateOut : Cert.GateOut.Facts) (hGateOutIdeal : Cert.GateOutIdeal.Facts) (hGateOutRefIdeal : Cert.GateOutRefIdeal.Facts) (hXFwd : Cert.XFwd.Facts) (hXFwdIdeal : Cert.XFwdIdeal.Facts) (hXFwdRefIdeal : Cert.XFwdRefIdeal.Facts) (hCAFwd : Cert.CAFwd.Facts) (hCAFwdIdeal : Cert.CAFwdIdeal.Facts) (hCAFwdRefIdeal : Cert.CAFwdRefIdeal.Facts) (hKvProj : Cert.KvProj.Facts) (hKvProjIdeal : Cert.KvProjIdeal.Facts) (hKvProjRefIdeal : Cert.KvProjRefIdeal.Facts) (hRowNorm : Cert.RowNorm.Facts) (hRowNormIdeal : Cert.RowNormIdeal.Facts) (hRowNormRefIdeal : Cert.RowNormRefIdeal.Facts) (hMemNorm : Cert.MemNorm.Facts) (hMemNormIdeal : Cert.MemNormIdeal.Facts) (hMemNormRefIdeal : Cert.MemNormRefIdeal.Facts) (hDwKey : Cert.DwKey.Facts) (hDwKeyIdeal : Cert.DwKeyIdeal.Facts) (hDwKeyRefIdeal : Cert.DwKeyRefIdeal.Facts) (hDwVal : Cert.DwVal.Facts) (hDwValIdeal : Cert.DwValIdeal.Facts) (hDwValRefIdeal : Cert.DwValRefIdeal.Facts) (hInDt : Cert.InDt.Facts) (hInDtIdeal : Cert.InDtIdeal.Facts) (hInDtRefIdeal : Cert.InDtRefIdeal.Facts) (hDwDt : Cert.DwDt.Facts) (hDwDtIdeal : Cert.DwDtIdeal.Facts) (hDwDtRefIdeal : Cert.DwDtRefIdeal.Facts) (hDMn : Cert.DMn.Facts) (hDMnIdeal : Cert.DMnIdeal.Facts) (hDMnRefIdeal : Cert.DMnRefIdeal.Facts) (hDUDt : Cert.DUDt.Facts) (hDUDtIdeal : Cert.DUDtIdeal.Facts) (hDUDtRefIdeal : Cert.DUDtRefIdeal.Facts) (hPre_finite_up : Cert.Pre_finite_up.Facts) (hPre_finite_da : Cert.Pre_finite_da.Facts) (hPre_finite_dn : Cert.Pre_finite_dn.Facts) (hPre_finite_un : Cert.Pre_finite_un.Facts) (hPre_finite_xattn : Cert.Pre_finite_xattn.Facts) (hPre_finite_loss : Cert.Pre_finite_loss.Facts) (hPre_finite_gate : Cert.Pre_finite_gate.Facts) (hPre_finite_scores : Cert.Pre_finite_scores.Facts) (hPre_finite_mn : Cert.Pre_finite_mn.Facts) (hPre_finite_dt : Cert.Pre_finite_dt.Facts) (hOn_conv_a_cols : Cert.On_conv_a_cols.Facts) (hOn_gate_rows : Cert.On_gate_rows.Facts) (hOn_key_rows : Cert.On_key_rows.Facts),
    quiescent_Merge (hMerge := hMerge)
    ∧ quiescent_MergeIdeal (hMergeIdeal := hMergeIdeal)
    ∧ quiescent_MergeRefIdeal (hMergeRefIdeal := hMergeRefIdeal)
    ∧ quiescent_ConvA (hConvA := hConvA)
    ∧ quiescent_ConvAIdeal (hConvAIdeal := hConvAIdeal)
    ∧ quiescent_ConvARefIdeal (hConvARefIdeal := hConvARefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_InDwCx (hInDwCx := hInDwCx)
    ∧ quiescent_InDwCxIdeal (hInDwCxIdeal := hInDwCxIdeal)
    ∧ quiescent_InDwCxRefIdeal (hInDwCxRefIdeal := hInDwCxRefIdeal)
    ∧ quiescent_InDwZ (hInDwZ := hInDwZ)
    ∧ quiescent_InDwZIdeal (hInDwZIdeal := hInDwZIdeal)
    ∧ quiescent_InDwZRefIdeal (hInDwZRefIdeal := hInDwZRefIdeal)
    ∧ quiescent_InDu (hInDu := hInDu)
    ∧ quiescent_InDuIdeal (hInDuIdeal := hInDuIdeal)
    ∧ quiescent_InDuRefIdeal (hInDuRefIdeal := hInDuRefIdeal)
    ∧ quiescent_InProj (hInProj := hInProj)
    ∧ quiescent_InProjIdeal (hInProjIdeal := hInProjIdeal)
    ∧ quiescent_InProjRefIdeal (hInProjRefIdeal := hInProjRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnUp (hFfnUp := hFfnUp)
    ∧ quiescent_FfnUpIdeal (hFfnUpIdeal := hFfnUpIdeal)
    ∧ quiescent_FfnUpIdeal_pre_finite_up (hFfnUpIdeal := hFfnUpIdeal) (hPre_finite_up := hPre_finite_up)
    ∧ quiescent_FfnUpRefIdeal (hFfnUpRefIdeal := hFfnUpRefIdeal)
    ∧ quiescent_FfnUpRefIdeal_pre_finite_up (hFfnUpRefIdeal := hFfnUpRefIdeal) (hPre_finite_up := hPre_finite_up)
    ∧ quiescent_FfnDa (hFfnDa := hFfnDa)
    ∧ quiescent_FfnDaIdeal (hFfnDaIdeal := hFfnDaIdeal)
    ∧ quiescent_FfnDaIdeal_pre_finite_da (hFfnDaIdeal := hFfnDaIdeal) (hPre_finite_da := hPre_finite_da)
    ∧ quiescent_FfnDaRefIdeal (hFfnDaRefIdeal := hFfnDaRefIdeal)
    ∧ quiescent_FfnDaRefIdeal_pre_finite_da (hFfnDaRefIdeal := hFfnDaRefIdeal) (hPre_finite_da := hPre_finite_da)
    ∧ quiescent_FfnDn (hFfnDn := hFfnDn)
    ∧ quiescent_FfnDnIdeal (hFfnDnIdeal := hFfnDnIdeal)
    ∧ quiescent_FfnDnIdeal_pre_finite_dn (hFfnDnIdeal := hFfnDnIdeal) (hPre_finite_dn := hPre_finite_dn)
    ∧ quiescent_FfnDnRefIdeal (hFfnDnRefIdeal := hFfnDnRefIdeal)
    ∧ quiescent_FfnDnRefIdeal_pre_finite_dn (hFfnDnRefIdeal := hFfnDnRefIdeal) (hPre_finite_dn := hPre_finite_dn)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwMix (hDwMix := hDwMix)
    ∧ quiescent_DwMixIdeal (hDwMixIdeal := hDwMixIdeal)
    ∧ quiescent_DwMixRefIdeal (hDwMixRefIdeal := hDwMixRefIdeal)
    ∧ quiescent_DwSsm (hDwSsm := hDwSsm)
    ∧ quiescent_DwSsmIdeal (hDwSsmIdeal := hDwSsmIdeal)
    ∧ quiescent_DwSsmRefIdeal (hDwSsmRefIdeal := hDwSsmRefIdeal)
    ∧ quiescent_OutA (hOutA := hOutA)
    ∧ quiescent_OutAIdeal (hOutAIdeal := hOutAIdeal)
    ∧ quiescent_OutARefIdeal (hOutARefIdeal := hOutARefIdeal)
    ∧ quiescent_QProj (hQProj := hQProj)
    ∧ quiescent_QProjIdeal (hQProjIdeal := hQProjIdeal)
    ∧ quiescent_QProjRefIdeal (hQProjRefIdeal := hQProjRefIdeal)
    ∧ quiescent_OProj (hOProj := hOProj)
    ∧ quiescent_OProjIdeal (hOProjIdeal := hOProjIdeal)
    ∧ quiescent_OProjRefIdeal (hOProjRefIdeal := hOProjRefIdeal)
    ∧ quiescent_DO (hDO := hDO)
    ∧ quiescent_DOIdeal (hDOIdeal := hDOIdeal)
    ∧ quiescent_DORefIdeal (hDORefIdeal := hDORefIdeal)
    ∧ quiescent_DUn (hDUn := hDUn)
    ∧ quiescent_DUnIdeal (hDUnIdeal := hDUnIdeal)
    ∧ quiescent_DUnIdeal_pre_finite_un (hDUnIdeal := hDUnIdeal) (hPre_finite_un := hPre_finite_un)
    ∧ quiescent_DUnRefIdeal (hDUnRefIdeal := hDUnRefIdeal)
    ∧ quiescent_DUnRefIdeal_pre_finite_un (hDUnRefIdeal := hDUnRefIdeal) (hPre_finite_un := hPre_finite_un)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSsm (hAdamSsm := hAdamSsm)
    ∧ quiescent_AdamSsmIdeal (hAdamSsmIdeal := hAdamSsmIdeal)
    ∧ quiescent_AdamSsmRefIdeal (hAdamSsmRefIdeal := hAdamSsmRefIdeal)
    ∧ quiescent_AdamGateUp (hAdamGateUp := hAdamGateUp)
    ∧ quiescent_AdamGateUpIdeal (hAdamGateUpIdeal := hAdamGateUpIdeal)
    ∧ quiescent_AdamGateUpRefIdeal (hAdamGateUpRefIdeal := hAdamGateUpRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_XAttn (hXAttn := hXAttn)
    ∧ quiescent_XAttnIdeal (hXAttnIdeal := hXAttnIdeal)
    ∧ quiescent_XAttnIdeal_pre_finite_xattn (hXAttnIdeal := hXAttnIdeal) (hPre_finite_xattn := hPre_finite_xattn)
    ∧ quiescent_XAttnRefIdeal (hXAttnRefIdeal := hXAttnRefIdeal)
    ∧ quiescent_XAttnRefIdeal_pre_finite_xattn (hXAttnRefIdeal := hXAttnRefIdeal) (hPre_finite_xattn := hPre_finite_xattn)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_FfnLoss (hFfnLoss := hFfnLoss)
    ∧ quiescent_FfnLossIdeal (hFfnLossIdeal := hFfnLossIdeal)
    ∧ quiescent_FfnLossIdeal_pre_finite_loss (hFfnLossIdeal := hFfnLossIdeal) (hPre_finite_loss := hPre_finite_loss)
    ∧ quiescent_FfnLossRefIdeal (hFfnLossRefIdeal := hFfnLossRefIdeal)
    ∧ quiescent_FfnLossRefIdeal_pre_finite_loss (hFfnLossRefIdeal := hFfnLossRefIdeal) (hPre_finite_loss := hPre_finite_loss)
    ∧ quiescent_GateNorm (hGateNorm := hGateNorm)
    ∧ quiescent_GateNormIdeal (hGateNormIdeal := hGateNormIdeal)
    ∧ quiescent_GateNormIdeal_pre_finite_gate (hGateNormIdeal := hGateNormIdeal) (hPre_finite_gate := hPre_finite_gate)
    ∧ quiescent_GateNormRefIdeal (hGateNormRefIdeal := hGateNormRefIdeal)
    ∧ quiescent_GateNormRefIdeal_pre_finite_gate (hGateNormRefIdeal := hGateNormRefIdeal) (hPre_finite_gate := hPre_finite_gate)
    ∧ quiescent_MergeOut (hMergeOut := hMergeOut)
    ∧ quiescent_MergeOutIdeal (hMergeOutIdeal := hMergeOutIdeal)
    ∧ quiescent_MergeOutRefIdeal (hMergeOutRefIdeal := hMergeOutRefIdeal)
    ∧ quiescent_GateOut (hGateOut := hGateOut)
    ∧ quiescent_GateOutIdeal (hGateOutIdeal := hGateOutIdeal)
    ∧ quiescent_GateOutRefIdeal (hGateOutRefIdeal := hGateOutRefIdeal)
    ∧ quiescent_XFwd (hXFwd := hXFwd)
    ∧ quiescent_XFwdIdeal (hXFwdIdeal := hXFwdIdeal)
    ∧ quiescent_XFwdIdeal_pre_finite_scores (hXFwdIdeal := hXFwdIdeal) (hPre_finite_scores := hPre_finite_scores)
    ∧ quiescent_XFwdRefIdeal (hXFwdRefIdeal := hXFwdRefIdeal)
    ∧ quiescent_XFwdRefIdeal_pre_finite_scores (hXFwdRefIdeal := hXFwdRefIdeal) (hPre_finite_scores := hPre_finite_scores)
    ∧ quiescent_CAFwd (hCAFwd := hCAFwd)
    ∧ quiescent_CAFwdIdeal (hCAFwdIdeal := hCAFwdIdeal)
    ∧ quiescent_CAFwdRefIdeal (hCAFwdRefIdeal := hCAFwdRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_RowNorm (hRowNorm := hRowNorm)
    ∧ quiescent_RowNormIdeal (hRowNormIdeal := hRowNormIdeal)
    ∧ quiescent_RowNormRefIdeal (hRowNormRefIdeal := hRowNormRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_DwKey (hDwKey := hDwKey)
    ∧ quiescent_DwKeyIdeal (hDwKeyIdeal := hDwKeyIdeal)
    ∧ quiescent_DwKeyRefIdeal (hDwKeyRefIdeal := hDwKeyRefIdeal)
    ∧ quiescent_DwVal (hDwVal := hDwVal)
    ∧ quiescent_DwValIdeal (hDwValIdeal := hDwValIdeal)
    ∧ quiescent_DwValRefIdeal (hDwValRefIdeal := hDwValRefIdeal)
    ∧ quiescent_InDt (hInDt := hInDt)
    ∧ quiescent_InDtIdeal (hInDtIdeal := hInDtIdeal)
    ∧ quiescent_InDtRefIdeal (hInDtRefIdeal := hInDtRefIdeal)
    ∧ quiescent_DwDt (hDwDt := hDwDt)
    ∧ quiescent_DwDtIdeal (hDwDtIdeal := hDwDtIdeal)
    ∧ quiescent_DwDtRefIdeal (hDwDtRefIdeal := hDwDtRefIdeal)
    ∧ quiescent_DMn (hDMn := hDMn)
    ∧ quiescent_DMnIdeal (hDMnIdeal := hDMnIdeal)
    ∧ quiescent_DMnIdeal_pre_finite_mn (hDMnIdeal := hDMnIdeal) (hPre_finite_mn := hPre_finite_mn)
    ∧ quiescent_DMnRefIdeal (hDMnRefIdeal := hDMnRefIdeal)
    ∧ quiescent_DMnRefIdeal_pre_finite_mn (hDMnRefIdeal := hDMnRefIdeal) (hPre_finite_mn := hPre_finite_mn)
    ∧ quiescent_DUDt (hDUDt := hDUDt)
    ∧ quiescent_DUDtIdeal (hDUDtIdeal := hDUDtIdeal)
    ∧ quiescent_DUDtIdeal_pre_finite_dt (hDUDtIdeal := hDUDtIdeal) (hPre_finite_dt := hPre_finite_dt)
    ∧ quiescent_DUDtRefIdeal (hDUDtRefIdeal := hDUDtRefIdeal)
    ∧ quiescent_DUDtRefIdeal_pre_finite_dt (hDUDtRefIdeal := hDUDtRefIdeal) (hPre_finite_dt := hPre_finite_dt)
    ∧ preserves_Merge_MergeIdeal
    ∧ algebraic_MergeIdeal_MergeRefIdeal (hMergeIdeal := hMergeIdeal) (hMergeRefIdeal := hMergeRefIdeal)
    ∧ preserves_ConvA_ConvAIdeal
    ∧ algebraic_ConvAIdeal_ConvARefIdeal_on_conv_a_cols (hConvAIdeal := hConvAIdeal) (hConvARefIdeal := hConvARefIdeal) (hOn_conv_a_cols := hOn_conv_a_cols)
    ∧ preserves_DwDown_DwDownIdeal
    ∧ algebraic_DwDownIdeal_DwDownRefIdeal (hDwDownIdeal := hDwDownIdeal) (hDwDownRefIdeal := hDwDownRefIdeal)
    ∧ preserves_DwGate_DwGateIdeal
    ∧ algebraic_DwGateIdeal_DwGateRefIdeal_on_gate_rows (hDwGateIdeal := hDwGateIdeal) (hDwGateRefIdeal := hDwGateRefIdeal) (hOn_gate_rows := hOn_gate_rows)
    ∧ preserves_DwUp_DwUpIdeal
    ∧ algebraic_DwUpIdeal_DwUpRefIdeal (hDwUpIdeal := hDwUpIdeal) (hDwUpRefIdeal := hDwUpRefIdeal)
    ∧ preserves_InDwCx_InDwCxIdeal
    ∧ algebraic_InDwCxIdeal_InDwCxRefIdeal (hInDwCxIdeal := hInDwCxIdeal) (hInDwCxRefIdeal := hInDwCxRefIdeal)
    ∧ preserves_InDwZ_InDwZIdeal
    ∧ algebraic_InDwZIdeal_InDwZRefIdeal (hInDwZIdeal := hInDwZIdeal) (hInDwZRefIdeal := hInDwZRefIdeal)
    ∧ preserves_InDu_InDuIdeal
    ∧ algebraic_InDuIdeal_InDuRefIdeal (hInDuIdeal := hInDuIdeal) (hInDuRefIdeal := hInDuRefIdeal)
    ∧ preserves_InProj_InProjIdeal
    ∧ algebraic_InProjIdeal_InProjRefIdeal (hInProjIdeal := hInProjIdeal) (hInProjRefIdeal := hInProjRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnUp_FfnUpIdeal
    ∧ algebraic_FfnUpIdeal_FfnUpRefIdeal_pre_finite_up (hFfnUpIdeal := hFfnUpIdeal) (hFfnUpRefIdeal := hFfnUpRefIdeal) (hPre_finite_up := hPre_finite_up)
    ∧ preserves_FfnDa_FfnDaIdeal
    ∧ algebraic_FfnDaIdeal_FfnDaRefIdeal_pre_finite_da (hFfnDaIdeal := hFfnDaIdeal) (hFfnDaRefIdeal := hFfnDaRefIdeal) (hPre_finite_da := hPre_finite_da)
    ∧ preserves_FfnDn_FfnDnIdeal
    ∧ algebraic_FfnDnIdeal_FfnDnRefIdeal_pre_finite_dn (hFfnDnIdeal := hFfnDnIdeal) (hFfnDnRefIdeal := hFfnDnRefIdeal) (hPre_finite_dn := hPre_finite_dn)
    ∧ preserves_DwOut_DwOutIdeal
    ∧ algebraic_DwOutIdeal_DwOutRefIdeal (hDwOutIdeal := hDwOutIdeal) (hDwOutRefIdeal := hDwOutRefIdeal)
    ∧ preserves_DwMix_DwMixIdeal
    ∧ algebraic_DwMixIdeal_DwMixRefIdeal (hDwMixIdeal := hDwMixIdeal) (hDwMixRefIdeal := hDwMixRefIdeal)
    ∧ preserves_DwSsm_DwSsmIdeal
    ∧ algebraic_DwSsmIdeal_DwSsmRefIdeal (hDwSsmIdeal := hDwSsmIdeal) (hDwSsmRefIdeal := hDwSsmRefIdeal)
    ∧ preserves_OutA_OutAIdeal
    ∧ algebraic_OutAIdeal_OutARefIdeal (hOutAIdeal := hOutAIdeal) (hOutARefIdeal := hOutARefIdeal)
    ∧ preserves_QProj_QProjIdeal
    ∧ algebraic_QProjIdeal_QProjRefIdeal (hQProjIdeal := hQProjIdeal) (hQProjRefIdeal := hQProjRefIdeal)
    ∧ preserves_OProj_OProjIdeal
    ∧ algebraic_OProjIdeal_OProjRefIdeal (hOProjIdeal := hOProjIdeal) (hOProjRefIdeal := hOProjRefIdeal)
    ∧ preserves_DO_DOIdeal
    ∧ algebraic_DOIdeal_DORefIdeal (hDOIdeal := hDOIdeal) (hDORefIdeal := hDORefIdeal)
    ∧ preserves_DUn_DUnIdeal
    ∧ algebraic_DUnIdeal_DUnRefIdeal_pre_finite_un (hDUnIdeal := hDUnIdeal) (hDUnRefIdeal := hDUnRefIdeal) (hPre_finite_un := hPre_finite_un)
    ∧ preserves_AdamDown_AdamDownIdeal
    ∧ algebraic_AdamDownIdeal_AdamDownRefIdeal (hAdamDownIdeal := hAdamDownIdeal) (hAdamDownRefIdeal := hAdamDownRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSsm_AdamSsmIdeal
    ∧ algebraic_AdamSsmIdeal_AdamSsmRefIdeal (hAdamSsmIdeal := hAdamSsmIdeal) (hAdamSsmRefIdeal := hAdamSsmRefIdeal)
    ∧ preserves_AdamGateUp_AdamGateUpIdeal
    ∧ algebraic_AdamGateUpIdeal_AdamGateUpRefIdeal (hAdamGateUpIdeal := hAdamGateUpIdeal) (hAdamGateUpRefIdeal := hAdamGateUpRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamIn_AdamInIdeal
    ∧ algebraic_AdamInIdeal_AdamInRefIdeal (hAdamInIdeal := hAdamInIdeal) (hAdamInRefIdeal := hAdamInRefIdeal)
    ∧ preserves_XAttn_XAttnIdeal
    ∧ algebraic_XAttnIdeal_XAttnRefIdeal_pre_finite_xattn (hXAttnIdeal := hXAttnIdeal) (hXAttnRefIdeal := hXAttnRefIdeal) (hPre_finite_xattn := hPre_finite_xattn)
    ∧ preserves_SumSmall_SumSmallIdeal
    ∧ algebraic_SumSmallIdeal_SumSmallRefIdeal (hSumSmallIdeal := hSumSmallIdeal) (hSumSmallRefIdeal := hSumSmallRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_FfnLoss_FfnLossIdeal
    ∧ algebraic_FfnLossIdeal_FfnLossRefIdeal_pre_finite_loss (hFfnLossIdeal := hFfnLossIdeal) (hFfnLossRefIdeal := hFfnLossRefIdeal) (hPre_finite_loss := hPre_finite_loss)
    ∧ preserves_GateNorm_GateNormIdeal
    ∧ algebraic_GateNormIdeal_GateNormRefIdeal_pre_finite_gate (hGateNormIdeal := hGateNormIdeal) (hGateNormRefIdeal := hGateNormRefIdeal) (hPre_finite_gate := hPre_finite_gate)
    ∧ preserves_MergeOut_MergeOutIdeal
    ∧ algebraic_MergeOutIdeal_MergeOutRefIdeal (hMergeOutIdeal := hMergeOutIdeal) (hMergeOutRefIdeal := hMergeOutRefIdeal)
    ∧ preserves_GateOut_GateOutIdeal
    ∧ algebraic_GateOutIdeal_GateOutRefIdeal (hGateOutIdeal := hGateOutIdeal) (hGateOutRefIdeal := hGateOutRefIdeal)
    ∧ preserves_XFwd_XFwdIdeal
    ∧ algebraic_XFwdIdeal_XFwdRefIdeal_pre_finite_scores (hXFwdIdeal := hXFwdIdeal) (hXFwdRefIdeal := hXFwdRefIdeal) (hPre_finite_scores := hPre_finite_scores)
    ∧ preserves_CAFwd_CAFwdIdeal
    ∧ algebraic_CAFwdIdeal_CAFwdRefIdeal (hCAFwdIdeal := hCAFwdIdeal) (hCAFwdRefIdeal := hCAFwdRefIdeal)
    ∧ preserves_KvProj_KvProjIdeal
    ∧ algebraic_KvProjIdeal_KvProjRefIdeal (hKvProjIdeal := hKvProjIdeal) (hKvProjRefIdeal := hKvProjRefIdeal)
    ∧ preserves_RowNorm_RowNormIdeal
    ∧ algebraic_RowNormIdeal_RowNormRefIdeal (hRowNormIdeal := hRowNormIdeal) (hRowNormRefIdeal := hRowNormRefIdeal)
    ∧ preserves_MemNorm_MemNormIdeal
    ∧ algebraic_MemNormIdeal_MemNormRefIdeal (hMemNormIdeal := hMemNormIdeal) (hMemNormRefIdeal := hMemNormRefIdeal)
    ∧ preserves_DwKey_DwKeyIdeal
    ∧ algebraic_DwKeyIdeal_DwKeyRefIdeal_on_key_rows (hDwKeyIdeal := hDwKeyIdeal) (hDwKeyRefIdeal := hDwKeyRefIdeal) (hOn_key_rows := hOn_key_rows)
    ∧ preserves_DwVal_DwValIdeal
    ∧ algebraic_DwValIdeal_DwValRefIdeal (hDwValIdeal := hDwValIdeal) (hDwValRefIdeal := hDwValRefIdeal)
    ∧ preserves_InDt_InDtIdeal
    ∧ algebraic_InDtIdeal_InDtRefIdeal (hInDtIdeal := hInDtIdeal) (hInDtRefIdeal := hInDtRefIdeal)
    ∧ preserves_DwDt_DwDtIdeal
    ∧ algebraic_DwDtIdeal_DwDtRefIdeal (hDwDtIdeal := hDwDtIdeal) (hDwDtRefIdeal := hDwDtRefIdeal)
    ∧ preserves_DMn_DMnIdeal
    ∧ algebraic_DMnIdeal_DMnRefIdeal_pre_finite_mn (hDMnIdeal := hDMnIdeal) (hDMnRefIdeal := hDMnRefIdeal) (hPre_finite_mn := hPre_finite_mn)
    ∧ preserves_DUDt_DUDtIdeal
    ∧ algebraic_DUDtIdeal_DUDtRefIdeal_pre_finite_dt (hDUDtIdeal := hDUDtIdeal) (hDUDtRefIdeal := hDUDtRefIdeal) (hPre_finite_dt := hPre_finite_dt)
-- ==== On_conv_a_cols.lean ====
abbrev S8192x1024 : Shape := ⟨2, ![8192, 1024]⟩
abbrev S1024x1024 : Shape := ⟨2, ![1024, 1024]⟩
abbrev S8192x10240 : Shape := ⟨2, ![8192, 10240]⟩
abbrev S8x1024 : Shape := ⟨2, ![8, 1024]⟩
abbrev S8192x6144 : Shape := ⟨2, ![8192, 6144]⟩
abbrev S_ : Shape := ⟨0, ![]⟩

class Facts : Prop where
  bcast_S_S8192x6144 : S_.BroadcastsInDim S8192x6144 (![] : Fin 0 → Fin S8192x6144.rank)
  bcast_S_S8x1024 : S_.BroadcastsInDim S8x1024 (![] : Fin 0 → Fin S8x1024.rank)

variable [Facts]

def fn {F : FTy → Type} [FloatOps F] (main_arg0 : FVec F S8192x1024 .bf16) (main_arg1 : FVec F S1024x1024 .bf16) (main_arg2 : FVec F S8192x10240 .bf16) (main_arg3 : FVec F S8x1024 .f32) : IVec S8192x6144 1 × IVec S8x1024 1 :=
  let main_v0 : IVec S8192x6144 32 := iotaInDim S8192x6144 32 1
  let main_c : IVec S_ 32 := constantI S_ 32 3072#32
  let main_v1 : IVec S8192x6144 32 := broadcastInDim S8192x6144 ![] bcast_S_S8192x6144 main_c
  let main_v2 : IVec S8192x6144 1 := cmpi .slt main_v0 main_v1
  let main_v3 : IVec S8x1024 32 := iotaInDim S8x1024 32 1
  let main_c_0 : IVec S_ 32 := constantI S_ 32 0#32
  let main_v4 : IVec S8x1024 32 := broadcastInDim S8x1024 ![] bcast_S_S8x1024 main_c_0
  let main_v5 : IVec S8x1024 1 := cmpi .sge main_v3 main_v4
  (main_v2, main_v5)
-- ==== On_gate_rows.lean ====
abbrev S8192x2816 : Shape := ⟨2, ![8192, 2816]⟩
abbrev S8192x1024 : Shape := ⟨2, ![8192, 1024]⟩
abbrev S5632x1024 : Shape := ⟨2, ![5632, 1024]⟩
abbrev S_ : Shape := ⟨0, ![]⟩

class Facts : Prop where
  bcast_S_S5632x1024 : S_.BroadcastsInDim S5632x1024 (![] : Fin 0 → Fin S5632x1024.rank)

variable [Facts]

def fn {F : FTy → Type} [FloatOps F] (main_arg0 : FVec F S8192x2816 .bf16) (main_arg1 : FVec F S8192x1024 .bf16) : IVec S5632x1024 1 :=
  let main_v0 : IVec S5632x1024 32 := iotaInDim S5632x1024 32 0
  let main_c : IVec S_ 32 := constantI S_ 32 2816#32
  let main_v1 : IVec S5632x1024 32 := broadcastInDim S5632x1024 ![] bcast_S_S5632x1024 main_c
  let main_v2 : IVec S5632x1024 1 := cmpi .slt main_v0 main_v1
  main_v2
-- ==== On_key_rows.lean ====
abbrev S1024x1024 : Shape := ⟨2, ![1024, 1024]⟩
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S1024x1024 .f32) (main_arg1 : FVec F S1024x1024 .bf16) : IVec S2048x1024 1 :=
  let main_v0 : IVec S2048x1024 32 := iotaInDim S2048x1024 32 0
  let main_c : IVec S_ 32 := constantI S_ 32 1024#32
  let main_v1 : IVec S2048x1024 32 := broadcastInDim S2048x1024 ![] bcast_S_S2048x1024 main_c
  let main_v2 : IVec S2048x1024 1 := cmpi .slt main_v0 main_v1
  main_v2
-- ==== Pre_finite_da.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S2816x1024 .bf16) (main_arg2 : FVec F S8192x2816 .bf16) (main_arg3 : FVec F S8192x2816 .bf16) : IVec S8192x1024 1 × IVec S2816x1024 1 × IVec S8192x2816 1 × IVec S8192x2816 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S2816x1024 .bf16 := subf main_arg1 main_arg1
  let main_cst_0 : FVec F S_ .bf16 := constant S_ .bf16 0x0000#16
  let main_v4 : FVec F S2816x1024 .bf16 := broadcastInDim S2816x1024 ![] bcast_S_S2816x1024 main_cst_0
  let main_v5 : IVec S2816x1024 1 := cmpf .oeq main_v3 main_v4
  let main_v6 : FVec F S8192x2816 .bf16 := subf main_arg2 main_arg2
  let main_cst_1 : FVec F S_ .bf16 := constant S_ .bf16 0x0000#16
  let main_v7 : FVec F S8192x2816 .bf16 := broadcastInDim S8192x2816 ![] bcast_S_S8192x2816 main_cst_1
  let main_v8 : IVec S8192x2816 1 := cmpf .oeq main_v6 main_v7
  let main_v9 : FVec F S8192x2816 .bf16 := subf main_arg3 main_arg3
  let main_cst_2 : FVec F S_ .bf16 := constant S_ .bf16 0x0000#16
  let main_v10 : FVec F S8192x2816 .bf16 := broadcastInDim S8192x2816 ![] bcast_S_S8192x2816 main_cst_2
  let main_v11 : IVec S8192x2816 1 := cmpf .oeq main_v9 main_v10
  (main_v2, main_v5, main_v8, main_v11)
-- ==== Pre_finite_dn.lean ====
abbrev S8192x2816 : Shape := ⟨2, ![8192, 2816]⟩
abbrev S5632x1024 : Shape := ⟨2, ![5632, 1024]⟩
abbrev S8192x1024 : Shape := ⟨2, ![8192, 1024]⟩
abbrev S8x128 : Shape := ⟨2, ![8, 128]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  bcast_S_S5632x1024 : S_.BroadcastsInDim S5632x1024 (![] : Fin 0 → Fin S5632x1024.rank)
  bcast_S_S1x1024 : S_.BroadcastsInDim S1x1024 (![] : Fin 0 → Fin S1x1024.rank)
  bcast_S_S8192x1024 : S_.BroadcastsInDim S8192x1024 (![] : Fin 0 → Fin S8192x1024.rank)

variable [Facts]

def fn {F : FTy → Type} [FloatOps F] (main_arg0 : FVec F S8192x2816 .bf16) (main_arg1 : FVec F S8192x2816 .bf16) (main_arg2 : FVec F S5632x1024 .bf16) (main_arg3 : FVec F S8192x1024 .f32) (main_arg4 : FVec F S8x128 .f32) (main_arg5 : FVec F S1x1024 .f32) (main_arg6 : FVec F S8192x1024 .f32) : IVec S8192x2816 1 × IVec S8192x2816 1 × IVec S5632x1024 1 × IVec S1x1024 1 × IVec S8192x1024 1 :=
  let main_v0 : FVec F S8192x2816 .bf16 := subf main_arg0 main_arg0
  let main_cst : FVec F S_ .bf16 := constant S_ .bf16 0x0000#16
  let main_v1 : FVec F S8192x2816 .bf16 := broadcastInDim S8192x2816 ![] bcast_S_S8192x2816 main_cst
  let main_v2 : IVec S8192x2816 1 := cmpf .oeq main_v0 main_v1
  let main_v3 : FVec F S8192x2816 .bf16 := subf main_arg1 main_arg1
  let main_cst_0 : FVec F S_ .bf16 := constant S_ .bf16 0x0000#16
  let main_v4 : FVec F S8192x2816 .bf16 := broadcastInDim S8192x2816 ![] bcast_S_S8192x2816 main_cst_0
  let main_v5 : IVec S8192x2816 1 := cmpf .oeq main_v3 main_v4
  let main_v6 : FVec F S5632x1024 .bf16 := subf main_arg2 main_arg2
  let main_cst_1 : FVec F S_ .bf16 := constant S_ .bf16 0x0000#16
  let main_v7 : FVec F S5632x1024 .bf16 := broadcastInDim S5632x1024 ![] bcast_S_S5632x1024 main_cst_1
  let main_v8 : IVec S5632x1024 1 := cmpf .oeq main_v6 main_v7
  let main_v9 : FVec F S1x1024 .f32 := subf main_arg5 main_arg5
  let main_cst_2 : FVec F S_ .f32 := constant S_ .f32 0x00000000#32
  let main_v10 : FVec F S1x1024 .f32 := broadcastInDim S1x1024 ![] bcast_S_S1x1024 main_cst_2
  let main_v11 : IVec S1x1024 1 := cmpf .oeq main_v9 main_v10
  let main_v12 : FVec F S8192x1024 .f32 := subf main_arg6 main_arg6
  let main_cst_3 : FVec F S_ .f32 := constant S_ .f32 0x00000000#32
  let main_v13 : FVec F S8192x1024 .f32 := broadcastInDim S8192x1024 ![] bcast_S_S8192x1024 main_cst_3
  let main_v14 : IVec S8192x1024 1 := cmpf .oeq main_v12 main_v13
  (main_v2, main_v5, main_v8, main_v11, main_v14)
-- ==== Pre_finite_dt.lean ====
abbrev S8192x128 : Shape := ⟨2, ![8192, 128]⟩
abbrev S128x1024 : Shape := ⟨2, ![128, 1024]⟩
abbrev S8192x1024 : Shape := ⟨2, ![8192, 1024]⟩
abbrev S1x1024 : Shape := ⟨2, ![1, 1024]⟩
abbrev S_ : Shape := ⟨0, ![]⟩

class Facts : Prop where
  bcast_S_S8192x128 : S_.BroadcastsInDim S8192x128 (![] : Fin 0 → Fin S8192x128.rank)
  bcast_S_S128x1024 : S_.BroadcastsInDim S128x1024 (![] : Fin 0 → Fin S128x1024.rank)
  bcast_S_S1x1024 : S_.BroadcastsInDim S1x1024 (![] : Fin 0 → Fin S1x1024.rank)
  bcast_S_S8192x1024 : S_.BroadcastsInDim S8192x1024 (![] : Fin 0 → Fin S8192x1024.rank)

variable [Facts]

def fn {F : FTy → Type} [FloatOps F] (main_arg0 : FVec F S8192x128 .f32) (main_arg1 : FVec F S128x1024 .bf16) (main_arg2 : FVec F S8192x1024 .f32) (main_arg3 : FVec F S1x1024 .f32) (main_arg4 : FVec F S8192x1024 .f32) (main_arg5 : FVec F S8192x1024 .f32) : IVec S8192x128 1 × IVec S128x1024 1 × IVec S1x1024 1 × IVec S8192x1024 1 × IVec S8192x1024 1 :=
  let main_v0 : FVec F S8192x128 .f32 := subf main_arg0 main_arg0
  let main_cst : FVec F S_ .f32 := constant S_ .f32 0x00000000#32
  let main_v1 : FVec F S8192x128 .f32 := broadcastInDim S8192x128 ![] bcast_S_S8192x128 main_cst
  let main_v2 : IVec S8192x128 1 := cmpf .oeq main_v0 main_v1
  let main_v3 : FVec F S128x1024 .bf16 := subf main_arg1 main_arg1
  let main_cst_0 : FVec F S_ .bf16 := constant S_ .bf16 0x0000#16
  let main_v4 : FVec F S128x1024 .bf16 := broadcastInDim S128x1024 ![] bcast_S_S128x1024 main_cst_0
  let main_v5 : IVec S128x1024 1 := cmpf .oeq main_v3 main_v4
  let main_v6 : FVec F S1x1024 .f32 := subf main_arg3 main_arg3
  let main_cst_1 : FVec F S_ .f32 := constant S_ .f32 0x00000000#32
  let main_v7 : FVec F S1x1024 .f32 := broadcastInDim S1x1024 ![] bcast_S_S1x1024 main_cst_1
  let main_v8 : IVec S1x1024 1 := cmpf .oeq main_v6 main_v7
  let main_v9 : FVec F S8192x1024 .f32 := subf main_arg4 main_arg4
  let main_cst_2 : FVec F S_ .f32 := constant S_ .f32 0x00000000#32
  let main_v10 : FVec F S8192x1024 .f32 := broadcastInDim S8192x1024 ![] bcast_S_S8192x1024 main_cst_2
  let main_v11 : IVec S8192x1024 1 := cmpf .oeq main_v9 main_v10
  let main_v12 : FVec F S8192x1024 .f32 := subf main_arg5 main_arg5
  let main_cst_3 : FVec F S_ .f32 := constant S_ .f32 0x00000000#32
  let main_v13 : FVec F S8192x1024 .f32 := broadcastInDim S8192x1024 ![] bcast_S_S8192x1024 main_cst_3
  let main_v14 : IVec S8192x1024 1 := cmpf .oeq main_v12 main_v13
  (main_v2, main_v5, main_v8, main_v11, main_v14)
-- ==== Pre_finite_gate.lean ====
abbrev S8192x1024 : Shape := ⟨2, ![8192, 1024]⟩
abbrev S2048x1024 : Shape := ⟨2, ![2048, 1024]⟩
abbrev S8192x2048 : Shape := ⟨2, ![8192, 2048]⟩
abbrev S8192x10240 : Shape := ⟨2, ![8192, 10240]⟩
abbrev S1x2048 : Shape := ⟨2, ![1, 2048]⟩
abbrev S_ : Shape := ⟨0, ![]⟩

class Facts : Prop where
  slices_S8192x10240_S8192x2048_0_6144 : S8192x10240.Slices ![0, 6144] S8192x2048
  bcast_S_S8192x1024 : S_.BroadcastsInDim S8192x1024 (![] : Fin 0 → Fin S8192x1024.rank)
  bcast_S_S2048x1024 : S_.BroadcastsInDim S2048x1024 (![] : Fin 0 → Fin S2048x1024.rank)
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x1024 .bf16) (main_arg1 : FVec F S2048x1024 .bf16) (main_arg2 : FVec F S8192x2048 .bf16) (main_arg3 : FVec F S8192x10240 .bf16) (main_arg4 : FVec F S1x2048 .f32) : IVec S8192x1024 1 × IVec S2048x1024 1 × IVec S8192x2048 1 × IVec S8192x2048 1 × IVec S1x2048 1 :=
  let main_v0 : FVec F S8192x2048 .bf16 := (extractStridedSlice S8192x2048 ![0, 6144] · slices_S8192x10240_S8192x2048_0_6144) main_arg3
  let main_v1 : FVec F S8192x1024 .bf16 := subf main_arg0 main_arg0
  let main_cst : FVec F S_ .bf16 := constant S_ .bf16 0x0000#16
  let main_v2 : FVec F S8192x1024 .bf16 := broadcastInDim S8192x1024 ![] bcast_S_S8192x1024 main_cst
  let main_v3 : IVec S8192x1024 1 := cmpf .oeq main_v1 main_v2
  let main_v4 : FVec F S2048x1024 .bf16 := subf main_arg1 main_arg1
  let main_cst_0 : FVec F S_ .bf16 := constant S_ .bf16 0x0000#16
  let main_v5 : FVec F S2048x1024 .bf16 := broadcastInDim S2048x1024 ![] bcast_S_S2048x1024 main_cst_0
  let main_v6 : IVec S2048x1024 1 := cmpf .oeq main_v4 main_v5
  let main_v7 : FVec F S8192x2048 .bf16 := subf main_arg2 main_arg2
  let main_cst_1 : FVec F S_ .bf16 := constant S_ .bf16 0x0000#16
  let main_v8 : FVec F S8192x2048 .bf16 := broadcastInDim S8192x2048 ![] bcast_S_S8192x2048 main_cst_1
  let main_v9 : IVec S8192x2048 1 := cmpf .oeq main_v7 main_v8
  let main_v10 : FVec F S8192x2048 .bf16 := subf main_v0 main_v0
  let main_cst_2 : FVec F S_ .bf16 := constant S_ .bf16 0x0000#16
  let main_v11 : FVec F S8192x2048 .bf16 := broadcastInDim S8192x2048 ![] bcast_S_S8192x2048 main_cst_2
  let main_v12 : IVec S8192x2048 1 := cmpf .oeq main_v10 main_v11
  let main_v13 : FVec F S1x2048 .f32 := subf main_arg4 main_arg4
  let main_cst_3 : FVec F S_ .f32 := constant S_ .f32 0x00000000#32
  let main_v14 : FVec F S1x2048 .f32 := broadcastInDim S1x2048 ![] bcast_S_S1x2048 main_cst_3
  let main_v15 : IVec S1x2048 1 := cmpf .oeq main_v13 main_v14
  (main_v3, main_v6, main_v9, main_v12, main_v15)
-- ==== Pre_finite_loss.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x2816 .bf16) (main_arg1 : FVec F S2816x1024 .bf16) (main_arg2 : FVec F S8192x1024 .f32) (main_arg3 : FVec F S1x1024 .f32) (main_arg4 : FVec F S8192x1024 .f32) : IVec S8192x2816 1 × IVec S2816x1024 1 × IVec S8192x1024 1 × IVec S1x1024 1 × IVec S8192x1024 1 :=
  let main_v0 : FVec F S8192x2816 .bf16 := subf main_arg0 main_arg0
  let main_cst : FVec F S_ .bf16 := constant S_ .bf16 0x0000#16
  let main_v1 : FVec F S8192x2816 .bf16 := broadcastInDim S8192x2816 ![] bcast_S_S8192x2816 main_cst
  let main_v2 : IVec S8192x2816 1 := cmpf .oeq main_v0 main_v1
  let main_v3 : FVec F S2816x1024 .bf16 := subf main_arg1 main_arg1
  let main_cst_0 : FVec F S_ .bf16 := constant S_ .bf16 0x0000#16
  let main_v4 : FVec F S2816x1024 .bf16 := broadcastInDim S2816x1024 ![] bcast_S_S2816x1024 main_cst_0
  let main_v5 : IVec S2816x1024 1 := cmpf .oeq main_v3 main_v4
  let main_v6 : FVec F S8192x1024 .f32 := subf main_arg2 main_arg2
  let main_cst_1 : FVec F S_ .f32 := constant S_ .f32 0x00000000#32
  let main_v7 : FVec F S8192x1024 .f32 := broadcastInDim S8192x1024 ![] bcast_S_S8192x1024 main_cst_1
  let main_v8 : IVec S8192x1024 1 := cmpf .oeq main_v6 main_v7
  let main_v9 : FVec F S1x1024 .f32 := subf main_arg3 main_arg3
  let main_cst_2 : FVec F S_ .f32 := constant S_ .f32 0x00000000#32
  let main_v10 : FVec F S1x1024 .f32 := broadcastInDim S1x1024 ![] bcast_S_S1x1024 main_cst_2
  let main_v11 : IVec S1x1024 1 := cmpf .oeq main_v9 main_v10
  let main_v12 : FVec F S8192x1024 .f32 := subf main_arg4 main_arg4
  let main_cst_3 : FVec F S_ .f32 := constant S_ .f32 0x00000000#32
  let main_v13 : FVec F S8192x1024 .f32 := broadcastInDim S8192x1024 ![] bcast_S_S8192x1024 main_cst_3
  let main_v14 : IVec S8192x1024 1 := cmpf .oeq main_v12 main_v13
  (main_v2, main_v5, main_v8, main_v11, main_v14)
-- ==== Pre_finite_mn.lean ====
abbrev S1024x1024 : Shape := ⟨2, ![1024, 1024]⟩
abbrev S2048x1024 : Shape := ⟨2, ![2048, 1024]⟩
abbrev S1x1024 : Shape := ⟨2, ![1, 1024]⟩
abbrev S_ : Shape := ⟨0, ![]⟩

class Facts : Prop where
  bcast_S_S1024x1024 : S_.BroadcastsInDim S1024x1024 (![] : Fin 0 → Fin S1024x1024.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S1024x1024 .f32) (main_arg1 : FVec F S1024x1024 .f32) (main_arg2 : FVec F S2048x1024 .bf16) (main_arg3 : FVec F S1x1024 .f32) (main_arg4 : FVec F S1024x1024 .f32) : IVec S1024x1024 1 × IVec S1024x1024 1 × IVec S2048x1024 1 × IVec S1x1024 1 × IVec S1024x1024 1 :=
  let main_v0 : FVec F S1024x1024 .f32 := subf main_arg0 main_arg0
  let main_cst : FVec F S_ .f32 := constant S_ .f32 0x00000000#32
  let main_v1 : FVec F S1024x1024 .f32 := broadcastInDim S1024x1024 ![] bcast_S_S1024x1024 main_cst
  let main_v2 : IVec S1024x1024 1 := cmpf .oeq main_v0 main_v1
  let main_v3 : FVec F S1024x1024 .f32 := subf main_arg1 main_arg1
  let main_cst_0 : FVec F S_ .f32 := constant S_ .f32 0x00000000#32
  let main_v4 : FVec F S1024x1024 .f32 := broadcastInDim S1024x1024 ![] bcast_S_S1024x1024 main_cst_0
  let main_v5 : IVec S1024x1024 1 := cmpf .oeq main_v3 main_v4
  let main_v6 : FVec F S2048x1024 .bf16 := subf main_arg2 main_arg2
  let main_cst_1 : FVec F S_ .bf16 := constant S_ .bf16 0x0000#16
  let main_v7 : FVec F S2048x1024 .bf16 := broadcastInDim S2048x1024 ![] bcast_S_S2048x1024 main_cst_1
  let main_v8 : IVec S2048x1024 1 := cmpf .oeq main_v6 main_v7
  let main_v9 : FVec F S1x1024 .f32 := subf main_arg3 main_arg3
  let main_cst_2 : FVec F S_ .f32 := constant S_ .f32 0x00000000#32
  let main_v10 : FVec F S1x1024 .f32 := broadcastInDim S1x1024 ![] bcast_S_S1x1024 main_cst_2
  let main_v11 : IVec S1x1024 1 := cmpf .oeq main_v9 main_v10
  let main_v12 : FVec F S1024x1024 .f32 := subf main_arg4 main_arg4
  let main_cst_3 : FVec F S_ .f32 := constant S_ .f32 0x00000000#32
  let main_v13 : FVec F S1024x1024 .f32 := broadcastInDim S1024x1024 ![] bcast_S_S1024x1024 main_cst_3
  let main_v14 : IVec S1024x1024 1 := cmpf .oeq main_v12 main_v13
  (main_v2, main_v5, main_v8, main_v11, main_v14)
-- ==== Pre_finite_scores.lean ====
abbrev S8192x1024 : Shape := ⟨2, ![8192, 1024]⟩
abbrev S1024x2048 : Shape := ⟨2, ![1024, 2048]⟩
abbrev S1024x1024 : Shape := ⟨2, ![1024, 1024]⟩
abbrev S_ : Shape := ⟨0, ![]⟩

class Facts : Prop where
  slices_S1024x2048_S1024x1024_0_0 : S1024x2048.Slices ![0, 0] S1024x1024
  bcast_S_S8192x1024 : S_.BroadcastsInDim S8192x1024 (![] : Fin 0 → Fin S8192x1024.rank)
  bcast_S_S1024x1024 : S_.BroadcastsInDim S1024x1024 (![] : Fin 0 → Fin S1024x1024.rank)

variable [Facts]

def fn {F : FTy → Type} [FloatOps F] (main_arg0 : FVec F S8192x1024 .bf16) (main_arg1 : FVec F S1024x2048 .bf16) : IVec S8192x1024 1 × IVec S1024x1024 1 :=
  let main_v0 : FVec F S1024x1024 .bf16 := (extractStridedSlice S1024x1024 ![0, 0] · slices_S1024x2048_S1024x1024_0_0) main_arg1
  let main_v1 : FVec F S8192x1024 .bf16 := subf main_arg0 main_arg0
  let main_cst : FVec F S_ .bf16 := constant S_ .bf16 0x0000#16
  let main_v2 : FVec F S8192x1024 .bf16 := broadcastInDim S8192x1024 ![] bcast_S_S8192x1024 main_cst
  let main_v3 : IVec S8192x1024 1 := cmpf .oeq main_v1 main_v2
  let main_v4 : FVec F S1024x1024 .bf16 := subf main_v0 main_v0
  let main_cst_0 : FVec F S_ .bf16 := constant S_ .bf16 0x0000#16
  let main_v5 : FVec F S1024x1024 .bf16 := broadcastInDim S1024x1024 ![] bcast_S_S1024x1024 main_cst_0
  let main_v6 : IVec S1024x1024 1 := cmpf .oeq main_v4 main_v5
  (main_v3, main_v6)
-- ==== Pre_finite_un.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S8192x1024 .bf16) (main_arg1 : FVec F S1024x1024 .bf16) (main_arg2 : FVec F S8192x1024 .f32) (main_arg3 : FVec F S1x1024 .f32) (main_arg4 : FVec F S8192x1024 .f32) : IVec S8192x1024 1 × IVec S1024x1024 1 × IVec S1x1024 1 × IVec S8192x1024 1 :=
  let main_v0 : FVec F S8192x1024 .bf16 := subf main_arg0 main_arg0
  let main_cst : FVec F S_ .bf16 := constant S_ .bf16 0x0000#16
  let main_v1 : FVec F S8192x1024 .bf16 := broadcastInDim S8192x1024 ![] bcast_S_S8192x1024 main_cst
  let main_v2 : IVec S8192x1024 1 := cmpf .oeq main_v0 main_v1
  let main_v3 : FVec F S1024x1024 .bf16 := subf main_arg1 main_arg1
  let main_cst_0 : FVec F S_ .bf16 := constant S_ .bf16 0x0000#16
  let main_v4 : FVec F S1024x1024 .bf16 := broadcastInDim S1024x1024 ![] bcast_S_S1024x1024 main_cst_0
  let main_v5 : IVec S1024x1024 1 := cmpf .oeq main_v3 main_v4
  let main_v6 : FVec F S1x1024 .f32 := subf main_arg3 main_arg3
  let main_cst_1 : FVec F S_ .f32 := constant S_ .f32 0x00000000#32
  let main_v7 : FVec F S1x1024 .f32 := broadcastInDim S1x1024 ![] bcast_S_S1x1024 main_cst_1
  let main_v8 : IVec S1x1024 1 := cmpf .oeq main_v6 main_v7
  let main_v9 : FVec F S8192x1024 .f32 := subf main_arg4 main_arg4
  let main_cst_2 : FVec F S_ .f32 := constant S_ .f32 0x00000000#32
  let main_v10 : FVec F S8192x1024 .f32 := broadcastInDim S8192x1024 ![] bcast_S_S8192x1024 main_cst_2
  let main_v11 : IVec S8192x1024 1 := cmpf .oeq main_v9 main_v10
  (main_v2, main_v5, main_v8, main_v11)
-- ==== Pre_finite_up.lean ====
abbrev S8192x1024 : Shape := ⟨2, ![8192, 1024]⟩
abbrev S5632x1024 : Shape := ⟨2, ![5632, 1024]⟩
abbrev S_ : Shape := ⟨0, ![]⟩

class Facts : Prop where
  bcast_S_S8192x1024 : S_.BroadcastsInDim S8192x1024 (![] : Fin 0 → Fin S8192x1024.rank)
  bcast_S_S5632x1024 : S_.BroadcastsInDim S5632x1024 (![] : Fin 0 → Fin S5632x1024.rank)

variable [Facts]

def fn {F : FTy → Type} [FloatOps F] (main_arg0 : FVec F S8192x1024 .bf16) (main_arg1 : FVec F S5632x1024 .bf16) : IVec S8192x1024 1 × IVec S5632x1024 1 :=
  let main_v0 : FVec F S8192x1024 .bf16 := subf main_arg0 main_arg0
  let main_cst : FVec F S_ .bf16 := constant S_ .bf16 0x0000#16
  let main_v1 : FVec F S8192x1024 .bf16 := broadcastInDim S8192x1024 ![] bcast_S_S8192x1024 main_cst
  let main_v2 : IVec S8192x1024 1 := cmpf .oeq main_v0 main_v1
  let main_v3 : FVec F S5632x1024 .bf16 := subf main_arg1 main_arg1
  let main_cst_0 : FVec F S_ .bf16 := constant S_ .bf16 0x0000#16
  let main_v4 : FVec F S5632x1024 .bf16 := broadcastInDim S5632x1024 ![] bcast_S_S5632x1024 main_cst_0
  let main_v5 : IVec S5632x1024 1 := cmpf .oeq main_v3 main_v4
  (main_v2, main_v5)
-- ==== Pre_finite_xattn.lean ====
abbrev S8192x1024 : Shape := ⟨2, ![8192, 1024]⟩
abbrev S1024x2048 : Shape := ⟨2, ![1024, 2048]⟩
abbrev S_ : Shape := ⟨0, ![]⟩

class Facts : Prop where
  bcast_S_S8192x1024 : S_.BroadcastsInDim S8192x1024 (![] : Fin 0 → Fin S8192x1024.rank)
  bcast_S_S1024x2048 : S_.BroadcastsInDim S1024x2048 (![] : Fin 0 → Fin S1024x2048.rank)

variable [Facts]

def fn {F : FTy → Type} [FloatOps F] (main_arg0 : FVec F S8192x1024 .bf16) (main_arg1 : FVec F S8192x1024 .bf16) (main_arg2 : FVec F S1024x2048 .bf16) : IVec S8192x1024 1 × IVec S1024x2048 1 :=
  let main_v0 : FVec F S8192x1024 .bf16 := subf main_arg1 main_arg1
  let main_cst : FVec F S_ .bf16 := constant S_ .bf16 0x0000#16
  let main_v1 : FVec F S8192x1024 .bf16 := broadcastInDim S8192x1024 ![] bcast_S_S8192x1024 main_cst
  let main_v2 : IVec S8192x1024 1 := cmpf .oeq main_v0 main_v1
  let main_v3 : FVec F S1024x2048 .bf16 := subf main_arg2 main_arg2
  let main_cst_0 : FVec F S_ .bf16 := constant S_ .bf16 0x0000#16
  let main_v4 : FVec F S1024x2048 .bf16 := broadcastInDim S1024x2048 ![] bcast_S_S1024x2048 main_cst_0
  let main_v5 : IVec S1024x2048 1 := cmpf .oeq main_v3 main_v4
  (main_v2, main_v5)
-- ==== Merge.lean ====
abbrev S8192x1024 : Shape := ⟨2, ![8192, 1024]⟩
abbrev S1024x1024 : Shape := ⟨2, ![1024, 1024]⟩
abbrev S8192x10240 : Shape := ⟨2, ![8192, 10240]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S8192x10240, .bf16⟩
  | .hbm, ⟨5, _⟩ => ⟨S8192x1024, .bf16⟩
  | .hbm, ⟨6, _⟩ => ⟨S8192x1024, .bf16⟩
  | .hbm, ⟨7, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S8192x1024 : Shape := ⟨2, ![8192, 1024]⟩
abbrev S1024x1024 : Shape := ⟨2, ![1024, 1024]⟩
abbrev S8192x10240 : Shape := ⟨2, ![8192, 10240]⟩
abbrev S_ : Shape := ⟨0, ![]⟩
abbrev S8192x2048 : Shape := ⟨2, ![8192, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S8192x10240, .bf16⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x10240, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .bf16⟩
  | .hbm, ⟨47, _⟩ => ⟨S8192x1024, .bf16⟩
  | .hbm, ⟨48, _⟩ => ⟨S8192x2048, .f32⟩
  | .hbm, ⟨49, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== ConvA.lean ====
abbrev S8192x1024 : Shape := ⟨2, ![8192, 1024]⟩
abbrev S1024x1024 : Shape := ⟨2, ![1024, 1024]⟩
abbrev S8192x10240 : Shape := ⟨2, ![8192, 10240]⟩
abbrev S8x1024 : Shape := ⟨2, ![8, 1024]⟩
abbrev S8192x6144 : Shape := ⟨2, ![8192, 6144]⟩
abbrev S2048x1024 : Shape := ⟨2, ![2048, 1024]⟩
abbrev S256x1024 : Shape := ⟨2, ![256, 1024]⟩
abbrev S2048x768 : Shape := ⟨2, ![2048, 768]⟩
abbrev S8x256 : Shape := ⟨2, ![8, 256]⟩
abbrev S2048x256 : Shape := ⟨2, ![2048, 256]⟩
abbrev S1x256 : Shape := ⟨2, ![1, 256]⟩
abbrev S256 : Shape := ⟨1, ![256]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x10240, .bf16⟩
  | .hbm, ⟨3, _⟩ => ⟨S8x1024, .f32⟩
  | .hbm, ⟨4, _⟩ => ⟨S8192x6144, .bf16⟩
  | .hbm, ⟨5, _⟩ => ⟨S8x1024, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x768, .bf16⟩
  | .local _ .vmem, ⟨5, _⟩ => ⟨S2048x768, .bf16⟩
  | .local _ .vmem, ⟨6, _⟩ => ⟨S8x256, .f32⟩
  | .local _ .vmem, ⟨7, _⟩ => ⟨S8x256, .f32⟩
  | .local _ .vmem, ⟨8, _⟩ => ⟨S2048x768, .bf16⟩
  | .local _ .vmem, ⟨9, _⟩ => ⟨S2048x768, .bf16⟩
  | .local _ .vmem, ⟨10, _⟩ => ⟨S8x256, .f32⟩
  | .local _ .vmem, ⟨11, _⟩ => ⟨S8x256, .f32⟩
  | .local _ .vmem, ⟨12, _⟩ => ⟨S2048x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_43 : BitVec 32 := 0#32
  let v97 : BitVec 1 := Scalar.cmpi .eq arg1 c0_i32_43
  let v98 : BitVec 32 := Scalar.extui v97
  let c0_i32_44 : BitVec 32 := 0#32
  let v99 : BitVec 1 := Scalar.cmpi .ne v98 c0_i32_44
  v99

def k0_cond2 (i : grid0.Coords) : BitVec 1 :=
  let arg1 : BitVec 32 := BitVec.ofNat 32 (i 1).val
  let c0_i32_45 : BitVec 32 := 0#32
  let v100 : BitVec 1 := Scalar.cmpi .sgt arg1 c0_i32_45
  let v101 : BitVec 32 := Scalar.extui v100
  let c0_i32_46 : BitVec 32 := 0#32
  let v102 : BitVec 1 := Scalar.cmpi .ne v101 c0_i32_46
  v102

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ConvARefIdeal.lean ====
abbrev S8192x1024 : Shape := ⟨2, ![8192, 1024]⟩
abbrev S1024x1024 : Shape := ⟨2, ![1024, 1024]⟩
abbrev S8192x10240 : Shape := ⟨2, ![8192, 10240]⟩
abbrev S8x1024 : Shape := ⟨2, ![8, 1024]⟩
abbrev S8192x3072 : Shape := ⟨2, ![8192, 3072]⟩
abbrev S4x2048x4x3x256 : Shape := ⟨5, ![4, 2048, 4, 3, 256]⟩
abbrev S4x2048x4x1x256 : Shape := ⟨5, ![4, 2048, 4, 1, 256]⟩
abbrev S4x2048x4x256 : Shape := ⟨4, ![4, 2048, 4, 256]⟩
abbrev S4x2048x1024 : Shape := ⟨3, ![4, 2048, 1024]⟩
abbrev S3x1024 : Shape := ⟨2, ![3, 1024]⟩
abbrev S4x2x1024 : Shape := ⟨3, ![4, 2, 1024]⟩
abbrev S_ : Shape := ⟨0, ![]⟩
abbrev S4x2046x1024 : Shape := ⟨3, ![4, 2046, 1024]⟩
abbrev S1x1024 : Shape := ⟨2, ![1, 1024]⟩
abbrev S1024 : Shape := ⟨1, ![1024]⟩
abbrev S1x1x1024 : Shape := ⟨3, ![1, 1, 1024]⟩
abbrev S4x1x1024 : Shape := ⟨3, ![4, 1, 1024]⟩
abbrev S4x2047x1024 : Shape := ⟨3, ![4, 2047, 1024]⟩
abbrev S8192x6144 : Shape := ⟨2, ![8192, 6144]⟩

abbrev nBuf : Space → Nat
  | .hbm => 128
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x10240, .bf16⟩
  | .hbm, ⟨3, _⟩ => ⟨S8x1024, .f32⟩
  | .hbm, ⟨4, _⟩ => ⟨S8192x1024, .f32⟩
  | .hbm, ⟨5, _⟩ => ⟨S1024x1024, .f32⟩
  | .hbm, ⟨6, _⟩ => ⟨S8192x10240, .f32⟩
  | .hbm, ⟨7, _⟩ => ⟨S8192x3072, .f32⟩
  | .hbm, ⟨8, _⟩ => ⟨S4x2048x4x3x256, .f32⟩
  | .hbm, ⟨9, _⟩ => ⟨S4x2048x4x1x256, .f32⟩
  | .hbm, ⟨10, _⟩ => ⟨S4x2048x4x256, .f32⟩
  | .hbm, ⟨11, _⟩ => ⟨S4x2048x1024, .f32⟩
  | .hbm, ⟨12, _⟩ => ⟨S4x2048x4x1x256, .f32⟩
  | .hbm, ⟨13, _⟩ => ⟨S4x2048x4x256, .f32⟩
  | .hbm, ⟨14, _⟩ => ⟨S4x2048x1024, .f32⟩
  | .hbm, ⟨15, _⟩ => ⟨S4x2048x4x1x256, .f32⟩
  | .hbm, ⟨16, _⟩ => ⟨S4x2048x4x256, .f32⟩
  | .hbm, ⟨17, _⟩ => ⟨S4x2048x1024, .f32⟩
  | .hbm, ⟨18, _⟩ => ⟨S4x2048x1024, .f32⟩
  | .hbm, ⟨19, _⟩ => ⟨S3x1024, .f32⟩
  | .hbm, ⟨20, _⟩ => ⟨S4x2x1024, .f32⟩
  | .hbm, ⟨21, _⟩ => ⟨S_, .f32⟩
  | .hbm, ⟨22, _⟩ => ⟨S4x2x1024, .f32⟩
  | .hbm, ⟨23, _⟩ => ⟨S4x2046x1024, .f32⟩
  | .hbm, ⟨24, _⟩ => ⟨S4x2048x1024, .f32⟩
  | .hbm, ⟨25, _⟩ => ⟨S_, .f32⟩
  | .hbm, ⟨26, _⟩ => ⟨S4x2x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S4x2048x1024, .f32⟩
  | .hbm, ⟨31, _⟩ => ⟨S4x2048x1024, .f32⟩
  | .hbm, ⟨32, _⟩ => ⟨S_, .f32⟩
  | .hbm, ⟨33, _⟩ => ⟨S4x2048x1024, .f32⟩
  | .hbm, ⟨34, _⟩ => ⟨S4x2048x1024, .f32⟩
  | .hbm, ⟨35, _⟩ => ⟨S4x1x1024, .f32⟩
  | .hbm, ⟨36, _⟩ => ⟨S_, .f32⟩
  | .hbm, ⟨37, _⟩ => ⟨S4x1x1024, .f32⟩
  | .hbm, ⟨38, _⟩ => ⟨S4x2047x1024, .f32⟩
  | .hbm, ⟨39, _⟩ => ⟨S4x2048x1024, .f32⟩
  | .hbm, ⟨40, _⟩ => ⟨S_, .f32⟩
  | .hbm, ⟨41, _⟩ => ⟨S4x1x1024, .f32⟩
  | .hbm, ⟨42, _⟩ => ⟨S1x1024, .f32⟩
  | .hbm, ⟨43, _⟩ => ⟨S1024, .f32⟩
  | .hbm, ⟨44, _⟩ => ⟨S1x1x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S1x1024, .f32⟩
  | .hbm, ⟨49, _⟩ => ⟨S1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S4x2048x1024, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S1024, .f32⟩
  | .hbm, ⟨65, _⟩ => ⟨S1x1x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S3x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S_, .f32⟩
  | .hbm, ⟨75, _⟩ => ⟨S1024, .f32⟩
  | .hbm, ⟨76, _⟩ => ⟨S1x1x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S3x1024, .f32⟩
  | .hbm, ⟨82, _⟩ => ⟨S3x1024, .f32⟩
  | .hbm, ⟨83, _⟩ => ⟨S4x1x1024, .f32⟩
  | .hbm, ⟨84, _⟩ => ⟨S4x2047x1024, .f32⟩
  | .hbm, ⟨85, _⟩ => ⟨S_, .f32⟩
  | .hbm, ⟨86, _⟩ => ⟨S4x2048x1024, .f32⟩
  | .hbm, ⟨87, _⟩ => ⟨S4x2048x1024, .f32⟩
  | .hbm, ⟨88, _⟩ => ⟨S4x2048x1024, .f32⟩
  | .hbm, ⟨89, _⟩ => ⟨S4x2048x1024, .f32⟩
  | .hbm, ⟨90, _⟩ => ⟨S4x2048x1024, .f32⟩
  | .hbm, ⟨91, _⟩ => ⟨S_, .f32⟩
  | .hbm, ⟨92, _⟩ => ⟨S1024, .f32⟩
  | .hbm, ⟨93, _⟩ => ⟨S1x1x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S_, .f32⟩
  | .hbm, ⟨98, _⟩ => ⟨S3x1024, .f32⟩
  | .hbm, ⟨99, _⟩ => ⟨S3x1024, .f32⟩
  | .hbm, ⟨100, _⟩ => ⟨S4x2x1024, .f32⟩
  | .hbm, ⟨101, _⟩ => ⟨S4x2046x1024, .f32⟩
  | .hbm, ⟨102, _⟩ => ⟨S_, .f32⟩
  | .hbm, ⟨103, _⟩ => ⟨S4x2048x1024, .f32⟩
  | .hbm, ⟨104, _⟩ => ⟨S4x2048x1024, .f32⟩
  | .hbm, ⟨105, _⟩ => ⟨S_, .f32⟩
  | .hbm, ⟨106, _⟩ => ⟨S8x1024, .f32⟩
  | .hbm, ⟨107, _⟩ => ⟨S4x2048x1024, .f32⟩
  | .hbm, ⟨108, _⟩ => ⟨S4x2048x1024, .f32⟩
  | .hbm, ⟨109, _⟩ => ⟨S4x2048x4x256, .f32⟩
  | .hbm, ⟨110, _⟩ => ⟨S4x2048x4x1x256, .f32⟩
  | .hbm, ⟨111, _⟩ => ⟨S_, .f32⟩
  | .hbm, ⟨112, _⟩ => ⟨S4x2048x4x3x256, .f32⟩
  | .hbm, ⟨113, _⟩ => ⟨S4x2048x4x256, .f32⟩
  | .hbm, ⟨114, _⟩ => ⟨S4x2048x4x1x256, .f32⟩
  | .hbm, ⟨115, _⟩ => ⟨S_, .f32⟩
  | .hbm, ⟨116, _⟩ => ⟨S4x2048x4x3x256, .f32⟩
  | .hbm, ⟨117, _⟩ => ⟨S4x2048x4x3x256, .f32⟩
  | .hbm, ⟨118, _⟩ => ⟨S4x2048x4x256, .f32⟩
  | .hbm, ⟨119, _⟩ => ⟨S4x2048x4x1x256, .f32⟩
  | .hbm, ⟨120, _⟩ => ⟨S_, .f32⟩
  | .hbm, ⟨121, _⟩ => ⟨S4x2048x4x3x256, .f32⟩
  | .hbm, ⟨122, _⟩ => ⟨S4x2048x4x3x256, .f32⟩
  | .hbm, ⟨123, _⟩ => ⟨S8192x3072, .f32⟩
  | .hbm, ⟨124, _⟩ => ⟨S_, .i32⟩
  | .hbm, ⟨125, _⟩ => ⟨S_, .f32⟩
  | .hbm, ⟨126, _⟩ => ⟨S8192x6144, .f32⟩
  | .hbm, ⟨127, _⟩ => ⟨S8192x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_v56 : Ref sig .tc := ⟨.hbm, 67, rfl⟩
abbrev main_v57 : Ref sig .tc := ⟨.hbm, 68, rfl⟩
abbrev main_cst_6 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_v62 : Ref sig .tc := ⟨.hbm, 75, rfl⟩
abbrev main_v63 : Ref sig .tc := ⟨.hbm, 76, rfl⟩
abbrev main_cst_8 : Ref sig .tc := ⟨.hbm, 77, rfl⟩
abbrev main_v64 : Ref sig .tc := ⟨.hbm, 78, rfl⟩
abbrev main_v65 : Ref sig .tc := ⟨.hbm, 79, rfl⟩
abbrev main_cst_9 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_10 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_11 : Ref sig .tc := ⟨.hbm, 91, rfl⟩
abbrev main_v75 : Ref sig .tc := ⟨.hbm, 92, rfl⟩
abbrev main_v76 : Ref sig .tc := ⟨.hbm, 93, rfl⟩
abbrev main_cst_12 : Ref sig .tc := ⟨.hbm, 94, rfl⟩
abbrev main_v77 : Ref sig .tc := ⟨.hbm, 95, rfl⟩
abbrev main_v78 : Ref sig .tc := ⟨.hbm, 96, rfl⟩
abbrev main_cst_13 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_14 : Ref sig .tc := ⟨.hbm, 102, rfl⟩
abbrev main_v83 : Ref sig .tc := ⟨.hbm, 103, rfl⟩
abbrev main_v84 : Ref sig .tc := ⟨.hbm, 104, rfl⟩
abbrev main_cst_15 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_16 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_17 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_18 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_c : Ref sig .tc := ⟨.hbm, 124, rfl⟩
abbrev main_call0_v0 : Ref sig .tc := ⟨.hbm, 125, rfl⟩
abbrev main_v100 : Ref sig .tc := ⟨.hbm, 126, rfl⟩
abbrev main_v101 : Ref sig .tc := ⟨.hbm, 127, rfl⟩

abbrev nD : Nat := 1
abbrev τ : Topo := Topo.v7x

variable {F : FTy → Type} [FloatOps F]
-- ==== DwDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== DwGate.lean ====
abbrev S8192x2816 : Shape := ⟨2, ![8192, 2816]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S1024x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S_, .i32⟩
  | .hbm, ⟨12, _⟩ => ⟨S_, .f32⟩
  | .hbm, ⟨13, _⟩ => ⟨S5632x1024, .f32⟩
  | .hbm, ⟨14, _⟩ => ⟨S5632x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== DwUp.lean ====
abbrev S8192x2816 : Shape := ⟨2, ![8192, 2816]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x2816 : Shape := ⟨2, ![8192, 2816]⟩
abbrev S8192x1024 : Shape := ⟨2, ![8192, 1024]⟩
abbrev S5632x1024 : Shape := ⟨2, ![5632, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .bf16⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S2816x1024, .f32⟩
  | .hbm, ⟨7, _⟩ => ⟨S1024x2816, .f32⟩
  | .hbm, ⟨8, _⟩ => ⟨S8192x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S2816x1024, .bf16⟩
  | .hbm, ⟨14, _⟩ => ⟨S5632x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== InDwCx.lean ====
abbrev S8192x6144 : Shape := ⟨2, ![8192, 6144]⟩
abbrev S8192x1024 : Shape := ⟨2, ![8192, 1024]⟩
abbrev S6144x1024 : Shape := ⟨2, ![6144, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .bf16⟩
  | .hbm, ⟨2, _⟩ => ⟨S6144x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwCxRefIdeal.lean ====
abbrev S8192x6144 : Shape := ⟨2, ![8192, 6144]⟩
abbrev S8192x1024 : Shape := ⟨2, ![8192, 1024]⟩
abbrev S_ : Shape := ⟨0, ![]⟩
abbrev S6144x1024 : Shape := ⟨2, ![6144, 1024]⟩
abbrev S1024x6144 : Shape := ⟨2, ![1024, 6144]⟩

abbrev nBuf : Space → Nat
  | .hbm => 12
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .bf16⟩
  | .hbm, ⟨2, _⟩ => ⟨S8192x6144, .f32⟩
  | .hbm, ⟨3, _⟩ => ⟨S8192x1024, .f32⟩
  | .hbm, ⟨4, _⟩ => ⟨S_, .f32⟩
  | .hbm, ⟨5, _⟩ => ⟨S6144x1024, .f32⟩
  | .hbm, ⟨6, _⟩ => ⟨S1024x6144, .f32⟩
  | .hbm, ⟨7, _⟩ => ⟨S8192x6144, .f32⟩
  | .hbm, ⟨8, _⟩ => ⟨S6144x1024, .f32⟩
  | .hbm, ⟨9, _⟩ => ⟨S1024x6144, .f32⟩
  | .hbm, ⟨10, _⟩ => ⟨S6144x1024, .f32⟩
  | .hbm, ⟨11, _⟩ => ⟨S6144x1024, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDwZ.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwZRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S1024x2048, .f32⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDu.lean ====
abbrev S8192x6144 : Shape := ⟨2, ![8192, 6144]⟩
abbrev S8192x2048 : Shape := ⟨2, ![8192, 2048]⟩
abbrev S10240x1024 : Shape := ⟨2, ![10240, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S8192x2048, .bf16⟩
  | .hbm, ⟨3, _⟩ => ⟨S10240x1024, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 5], ![false, false, false]⟩

def k0_cond5 (i : grid0.Coords) : BitVec 1 :=
  let arg2 : BitVec 32 := BitVec.ofNat 32 (i 2).val
  let c4_i32_7 : BitVec 32 := 4#32
  let v18 : BitVec 1 := Scalar.cmpi .eq arg2 c4_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== InDuRefIdeal.lean ====
abbrev S8192x6144 : Shape := ⟨2, ![8192, 6144]⟩
abbrev S8192x2048 : Shape := ⟨2, ![8192, 2048]⟩
abbrev S10240x1024 : Shape := ⟨2, ![10240, 1024]⟩
abbrev S_ : Shape := ⟨0, ![]⟩
abbrev S8192x1024 : Shape := ⟨2, ![8192, 1024]⟩
abbrev S1024x10240 : Shape := ⟨2, ![1024, 10240]⟩
abbrev S8192x10240 : Shape := ⟨2, ![8192, 10240]⟩

abbrev nBuf : Space → Nat
  | .hbm => 24
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S8192x2048, .bf16⟩
  | .hbm, ⟨3, _⟩ => ⟨S10240x1024, .bf16⟩
  | .hbm, ⟨4, _⟩ => ⟨S8192x6144, .f32⟩
  | .hbm, ⟨5, _⟩ => ⟨S8192x2048, .f32⟩
  | .hbm, ⟨6, _⟩ => ⟨S8192x2048, .f32⟩
  | .hbm, ⟨7, _⟩ => ⟨S10240x1024, .f32⟩
  | .hbm, ⟨8, _⟩ => ⟨S_, .f32⟩
  | .hbm, ⟨9, _⟩ => ⟨S8192x1024, .f32⟩
  | .hbm, ⟨10, _⟩ => ⟨S1024x10240, .f32⟩
  | .hbm, ⟨11, _⟩ => ⟨S8192x10240, .f32⟩
  | .hbm, ⟨12, _⟩ => ⟨S8192x6144, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x10240, .f32⟩
  | .hbm, ⟨17, _⟩ => ⟨S_, .f32⟩
  | .hbm, ⟨18, _⟩ => ⟨S8192x10240, .f32⟩
  | .hbm, ⟨19, _⟩ => ⟨S8192x10240, .f32⟩
  | .hbm, ⟨20, _⟩ => ⟨S_, .f32⟩
  | .hbm, ⟨21, _⟩ => ⟨S8192x10240, .f32⟩
  | .hbm, ⟨22, _⟩ => ⟨S8192x10240, .f32⟩
  | .hbm, ⟨23, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== InProj.lean ====
abbrev S8192x1024 : Shape := ⟨2, ![8192, 1024]⟩
abbrev S10240x1024 : Shape := ⟨2, ![10240, 1024]⟩
abbrev S8x128 : Shape := ⟨2, ![8, 128]⟩
abbrev S8192x10240 : Shape := ⟨2, ![8192, 10240]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S10240x1024, .bf16⟩
  | .hbm, ⟨2, _⟩ => ⟨S8x128, .f32⟩
  | .hbm, ⟨3, _⟩ => ⟨S8192x10240, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x128, .f32⟩
  | .local _ .vmem, ⟨5, _⟩ => ⟨S1024x2048, .bf16⟩
  | .local _ .vmem, ⟨6, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjRefIdeal.lean ====
abbrev S8192x1024 : Shape := ⟨2, ![8192, 1024]⟩
abbrev S10240x1024 : Shape := ⟨2, ![10240, 1024]⟩
abbrev S8x128 : Shape := ⟨2, ![8, 128]⟩
abbrev S1024x10240 : Shape := ⟨2, ![1024, 10240]⟩
abbrev S8192x10240 : Shape := ⟨2, ![8192, 10240]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S10240x1024, .bf16⟩
  | .hbm, ⟨2, _⟩ => ⟨S8x128, .f32⟩
  | .hbm, ⟨3, _⟩ => ⟨S8192x1024, .f32⟩
  | .hbm, ⟨4, _⟩ => ⟨S10240x1024, .f32⟩
  | .hbm, ⟨5, _⟩ => ⟨S1024x10240, .f32⟩
  | .hbm, ⟨6, _⟩ => ⟨S8192x10240, .f32⟩
  | .hbm, ⟨7, _⟩ => ⟨S8192x10240, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDownRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== FfnUp.lean ====
abbrev S8192x1024 : Shape := ⟨2, ![8192, 1024]⟩
abbrev S5632x1024 : Shape := ⟨2, ![5632, 1024]⟩
abbrev S8192x2816 : Shape := ⟨2, ![8192, 2816]⟩
abbrev S512x1024 : Shape := ⟨2, ![512, 1024]⟩
abbrev S2816x1024 : Shape := ⟨2, ![2816, 1024]⟩
abbrev S512x2816 : Shape := ⟨2, ![512, 2816]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | .hbm, ⟨32, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v6_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v6_1 : Ref sig .tc := ⟨.hbm, 19, rfl⟩
abbrev main_v6_0 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]
-- ==== FfnDa.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S512x1024 : Shape := ⟨2, ![512, 1024]⟩
abbrev S512x2816 : Shape := ⟨2, ![512, 2816]⟩

abbrev nBuf : Space → Nat
  | .hbm => 28
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .bf16⟩
  | .hbm, ⟨24, _⟩ => ⟨S8192x2816, .f32⟩
  | .hbm, ⟨25, _⟩ => ⟨S8192x2816, .bf16⟩
  | .hbm, ⟨26, _⟩ => ⟨S8192x2816, .bf16⟩
  | .hbm, ⟨27, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDaRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .bf16⟩
  | .hbm, ⟨36, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== FfnDn.lean ====
abbrev S8192x2816 : Shape := ⟨2, ![8192, 2816]⟩
abbrev S5632x1024 : Shape := ⟨2, ![5632, 1024]⟩
abbrev S8192x1024 : Shape := ⟨2, ![8192, 1024]⟩
abbrev S8x128 : Shape := ⟨2, ![8, 128]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .f32⟩
  | .hbm, ⟨4, _⟩ => ⟨S8x128, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![8, 1, 4], ![false, false, false]⟩

def k0_cond4 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_6 : BitVec 32 := 0#32
  let v16 : BitVec 1 := Scalar.cmpi .ne v15 c0_i32_6
  v16

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v45 : BitVec 32 := Scalar.extui v0
  let c0_i32_17 : BitVec 32 := 0#32
  let v46 : BitVec 1 := Scalar.cmpi .ne v45 c0_i32_17
  v46

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v47 : BitVec 1 := Scalar.xori v0 v_true
  let v48 : BitVec 32 := Scalar.extui v47
  let c0_i32_18 : BitVec 32 := 0#32
  let v49 : BitVec 1 := Scalar.cmpi .ne v48 c0_i32_18
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== FfnDnRefIdeal.lean ====
abbrev S8192x2816 : Shape := ⟨2, ![8192, 2816]⟩
abbrev S5632x1024 : Shape := ⟨2, ![5632, 1024]⟩
abbrev S8192x1024 : Shape := ⟨2, ![8192, 1024]⟩
abbrev S8x128 : Shape := ⟨2, ![8, 128]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .f32⟩
  | .hbm, ⟨4, _⟩ => ⟨S8x128, .f32⟩
  | .hbm, ⟨5, _⟩ => ⟨S1x1024, .f32⟩
  | .hbm, ⟨6, _⟩ => ⟨S8192x1024, .f32⟩
  | .hbm, ⟨7, _⟩ => ⟨S8192x2816, .f32⟩
  | .hbm, ⟨8, _⟩ => ⟨S8192x2816, .f32⟩
  | .hbm, ⟨9, _⟩ => ⟨S5632x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1024x5632, .f32⟩
  | .hbm, ⟨30, _⟩ => ⟨S8192x5632, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwMix.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwMixRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwSsm.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSsmRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutA.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8x128, .f32⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S8x128, .f32⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutARefIdeal.lean ====
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8x128, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QProj.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QProjRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OProj.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OProjRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DO.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DORefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DUn.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v31 : BitVec 32 := Scalar.extui v0
  let c0_i32_13 : BitVec 32 := 0#32
  let v32 : BitVec 1 := Scalar.cmpi .ne v31 c0_i32_13
  v32

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v33 : BitVec 1 := Scalar.xori v0 v_true
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DUnRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== AdamDown.lean ====
abbrev S8x352x1024 : Shape := ⟨3, ![8, 352, 1024]⟩
abbrev S1x352x1024 : Shape := ⟨3, ![1, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownIdeal.lean ====
abbrev S8x352x1024 : Shape := ⟨3, ![8, 352, 1024]⟩
abbrev S1x352x1024 : Shape := ⟨3, ![1, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownRefIdeal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamOut.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamOutIdeal.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamOutRefIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamSsm.lean ====
abbrev S8x256x1024 : Shape := ⟨3, ![8, 256, 1024]⟩
abbrev S1x256x1024 : Shape := ⟨3, ![1, 256, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamSsmRefIdeal.lean ====
abbrev S8x256x1024 : Shape := ⟨3, ![8, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamGateUp.lean ====
abbrev S8x704x1024 : Shape := ⟨3, ![8, 704, 1024]⟩
abbrev S1x1024x704 : Shape := ⟨3, ![1, 1024, 704]⟩
abbrev S1x704x1024 : Shape := ⟨3, ![1, 704, 1024]⟩
abbrev S8x64x1024 : Shape := ⟨3, ![8, 64, 1024]⟩
abbrev S1x64x1024 : Shape := ⟨3, ![1, 64, 1024]⟩
abbrev S64x1024 : Shape := ⟨2, ![64, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamGateUpRefIdeal.lean ====
abbrev S8x704x1024 : Shape := ⟨3, ![8, 704, 1024]⟩
abbrev S1x1024x704 : Shape := ⟨3, ![1, 1024, 704]⟩
abbrev S_ : Shape := ⟨0, ![]⟩
abbrev S704x1024 : Shape := ⟨2, ![704, 1024]⟩
abbrev S1024x704 : Shape := ⟨2, ![1024, 704]⟩
abbrev S1x704x1024 : Shape := ⟨3, ![1, 704, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1024x704, .f32⟩
  | .hbm, ⟨8, _⟩ => ⟨S1x1024x704, .f32⟩
  | .hbm, ⟨9, _⟩ => ⟨S_, .f32⟩
  | .hbm, ⟨10, _⟩ => ⟨S1x1024x704, .f32⟩
  | .hbm, ⟨11, _⟩ => ⟨S1x1024x704, .f32⟩
  | .hbm, ⟨12, _⟩ => ⟨S_, .f32⟩
  | .hbm, ⟨13, _⟩ => ⟨S1x1024x704, .f32⟩
  | .hbm, ⟨14, _⟩ => ⟨S1x1024x704, .f32⟩
  | .hbm, ⟨15, _⟩ => ⟨S1x1024x704, .f32⟩
  | .hbm, ⟨16, _⟩ => ⟨S_, .f32⟩
  | .hbm, ⟨17, _⟩ => ⟨S1x1024x704, .f32⟩
  | .hbm, ⟨18, _⟩ => ⟨S1x1024x704, .f32⟩
  | .hbm, ⟨19, _⟩ => ⟨S1x1024x704, .f32⟩
  | .hbm, ⟨20, _⟩ => ⟨S_, .f32⟩
  | .hbm, ⟨21, _⟩ => ⟨S1x1024x704, .f32⟩
  | .hbm, ⟨22, _⟩ => ⟨S1x1024x704, .f32⟩
  | .hbm, ⟨23, _⟩ => ⟨S1x1024x704, .f32⟩
  | .hbm, ⟨24, _⟩ => ⟨S_, .f32⟩
  | .hbm, ⟨25, _⟩ => ⟨S1x1024x704, .f32⟩
  | .hbm, ⟨26, _⟩ => ⟨S1x1024x704, .f32⟩
  | .hbm, ⟨27, _⟩ => ⟨S_, .f32⟩
  | .hbm, ⟨28, _⟩ => ⟨S1x1024x704, .f32⟩
  | .hbm, ⟨29, _⟩ => ⟨S1x1024x704, .f32⟩
  | .hbm, ⟨30, _⟩ => ⟨S1x1024x704, .f32⟩
  | .hbm, ⟨31, _⟩ => ⟨S_, .f32⟩
  | .hbm, ⟨32, _⟩ => ⟨S1x1024x704, .f32⟩
  | .hbm, ⟨33, _⟩ => ⟨S1x1024x704, .f32⟩
  | .hbm, ⟨34, _⟩ => ⟨S1x1024x704, .f32⟩
  | .hbm, ⟨35, _⟩ => ⟨S_, .f32⟩
  | .hbm, ⟨36, _⟩ => ⟨S1x1024x704, .f32⟩
  | .hbm, ⟨37, _⟩ => ⟨S1x1024x704, .f32⟩
  | .hbm, ⟨38, _⟩ => ⟨S1x1024x704, .f32⟩
  | .hbm, ⟨39, _⟩ => ⟨S_, .f32⟩
  | .hbm, ⟨40, _⟩ => ⟨S1x1024x704, .f32⟩
  | .hbm, ⟨41, _⟩ => ⟨S1x1024x704, .f32⟩
  | .hbm, ⟨42, _⟩ => ⟨S1x704x1024, .f32⟩
  | .hbm, ⟨43, _⟩ => ⟨S1x704x1024, .f32⟩
  | .hbm, ⟨44, _⟩ => ⟨S1x704x1024, .f32⟩
  | .hbm, ⟨45, _⟩ => ⟨S1x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamKv.lean ====
abbrev S8x256x1024 : Shape := ⟨3, ![8, 256, 1024]⟩
abbrev S1x1024x256 : Shape := ⟨3, ![1, 1024, 256]⟩
abbrev S8x1024x256 : Shape := ⟨3, ![8, 1024, 256]⟩
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 9
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S8x1024x256, .bf16⟩
  | .hbm, ⟨5, _⟩ => ⟨S1x1024x256, .f32⟩
  | .hbm, ⟨6, _⟩ => ⟨S1x1024x256, .f32⟩
  | .hbm, ⟨7, _⟩ => ⟨S1x1024x256, .f32⟩
  | .hbm, ⟨8, _⟩ => ⟨S1x1024x256, .f32⟩
  | .local _ .vmem, ⟨0, _⟩ => ⟨S8x128x256, .bf16⟩
  | .local _ .vmem, ⟨1, _⟩ => ⟨S8x128x256, .bf16⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamKvRefIdeal.lean ====
abbrev S8x256x1024 : Shape := ⟨3, ![8, 256, 1024]⟩
abbrev S1x1024x256 : Shape := ⟨3, ![1, 1024, 256]⟩
abbrev S_ : Shape := ⟨0, ![]⟩
abbrev S256x1024 : Shape := ⟨2, ![256, 1024]⟩
abbrev S1024x256 : Shape := ⟨2, ![1024, 256]⟩

abbrev nBuf : Space → Nat
  | .hbm => 42
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S1024x256, .f32⟩
  | .hbm, ⟨8, _⟩ => ⟨S1x1024x256, .f32⟩
  | .hbm, ⟨9, _⟩ => ⟨S_, .f32⟩
  | .hbm, ⟨10, _⟩ => ⟨S1x1024x256, .f32⟩
  | .hbm, ⟨11, _⟩ => ⟨S1x1024x256, .f32⟩
  | .hbm, ⟨12, _⟩ => ⟨S_, .f32⟩
  | .hbm, ⟨13, _⟩ => ⟨S1x1024x256, .f32⟩
  | .hbm, ⟨14, _⟩ => ⟨S1x1024x256, .f32⟩
  | .hbm, ⟨15, _⟩ => ⟨S1x1024x256, .f32⟩
  | .hbm, ⟨16, _⟩ => ⟨S_, .f32⟩
  | .hbm, ⟨17, _⟩ => ⟨S1x1024x256, .f32⟩
  | .hbm, ⟨18, _⟩ => ⟨S1x1024x256, .f32⟩
  | .hbm, ⟨19, _⟩ => ⟨S1x1024x256, .f32⟩
  | .hbm, ⟨20, _⟩ => ⟨S_, .f32⟩
  | .hbm, ⟨21, _⟩ => ⟨S1x1024x256, .f32⟩
  | .hbm, ⟨22, _⟩ => ⟨S1x1024x256, .f32⟩
  | .hbm, ⟨23, _⟩ => ⟨S1x1024x256, .f32⟩
  | .hbm, ⟨24, _⟩ => ⟨S_, .f32⟩
  | .hbm, ⟨25, _⟩ => ⟨S1x1024x256, .f32⟩
  | .hbm, ⟨26, _⟩ => ⟨S1x1024x256, .f32⟩
  | .hbm, ⟨27, _⟩ => ⟨S_, .f32⟩
  | .hbm, ⟨28, _⟩ => ⟨S1x1024x256, .f32⟩
  | .hbm, ⟨29, _⟩ => ⟨S1x1024x256, .f32⟩
  | .hbm, ⟨30, _⟩ => ⟨S1x1024x256, .f32⟩
  | .hbm, ⟨31, _⟩ => ⟨S_, .f32⟩
  | .hbm, ⟨32, _⟩ => ⟨S1x1024x256, .f32⟩
  | .hbm, ⟨33, _⟩ => ⟨S1x1024x256, .f32⟩
  | .hbm, ⟨34, _⟩ => ⟨S1x1024x256, .f32⟩
  | .hbm, ⟨35, _⟩ => ⟨S_, .f32⟩
  | .hbm, ⟨36, _⟩ => ⟨S1x1024x256, .f32⟩
  | .hbm, ⟨37, _⟩ => ⟨S1x1024x256, .f32⟩
  | .hbm, ⟨38, _⟩ => ⟨S1x1024x256, .f32⟩
  | .hbm, ⟨39, _⟩ => ⟨S_, .f32⟩
  | .hbm, ⟨40, _⟩ => ⟨S1x1024x256, .f32⟩
  | .hbm, ⟨41, _⟩ => ⟨S1x1024x256, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamIn.lean ====
abbrev S8x10272x128 : Shape := ⟨3, ![8, 10272, 128]⟩
abbrev S1x1024x1284 : Shape := ⟨3, ![1, 1024, 1284]⟩
abbrev S1x1284x1024 : Shape := ⟨3, ![1, 1284, 1024]⟩
abbrev S1x10272x128 : Shape := ⟨3, ![1, 10272, 128]⟩
abbrev S8x1712x128 : Shape := ⟨3, ![8, 1712, 128]⟩
abbrev S1x1712x128 : Shape := ⟨3, ![1, 1712, 128]⟩
abbrev S1712x128 : Shape := ⟨2, ![1712, 128]⟩

abbrev nBuf : Space → Nat
  | .hbm => 14
  | .vmem => 16
  | .smem => 0
  | _ => 0

abbrev bufTy : (tb : Table) → Fin (tcTables nBuf tb) → BufTy
  | .hbm, ⟨0, _⟩ => ⟨S8x10272x128, .bf16⟩
  | .hbm, ⟨1, _⟩ => ⟨S1x1024x1284, .f32⟩
  | .hbm, ⟨2, _⟩ => ⟨S1x1024x1284, .f32⟩
  | .hbm, ⟨3, _⟩ => ⟨S1x1024x1284, .f32⟩
  | .hbm, ⟨4, _⟩ => ⟨S1x1284x1024, .f32⟩
  | .hbm, ⟨5, _⟩ => ⟨S1x10272x128, .f32⟩
  | .hbm, ⟨6, _⟩ => ⟨S1x1284x1024, .f32⟩
  | .hbm, ⟨7, _⟩ => ⟨S1x10272x128, .f32⟩
  | .hbm, ⟨8, _⟩ => ⟨S1x1284x1024, .f32⟩
  | .hbm, ⟨9, _⟩ => ⟨S1x10272x128, .f32⟩
  | .hbm, ⟨10, _⟩ => ⟨S1x10272x128, .f32⟩
  | .hbm, ⟨11, _⟩ => ⟨S1x10272x128, .f32⟩
  | .hbm, ⟨12, _⟩ => ⟨S1x10272x128, .f32⟩
  | .hbm, ⟨13, _⟩ => ⟨S1x10272x128, .f32⟩
  | .local _ .vmem, ⟨0, _⟩ => ⟨S8x1712x128, .bf16⟩
  | .local _ .vmem, ⟨1, _⟩ => ⟨S8x1712x128, .bf16⟩
  | .local _ .vmem, ⟨2, _⟩ => ⟨S1x1712x128, .f32⟩
  | .local _ .vmem, ⟨3, _⟩ => ⟨S1x1712x128, .f32⟩
  | .local _ .vmem, ⟨4, _⟩ => ⟨S1x1712x128, .f32⟩
  | .local _ .vmem, ⟨5, _⟩ => ⟨S1x1712x128, .f32⟩
  | .local _ .vmem, ⟨6, _⟩ => ⟨S1x1712x128, .f32⟩
  | .local _ .vmem, ⟨7, _⟩ => ⟨S1x1712x128, .f32⟩
  | .local _ .vmem, ⟨8, _⟩ => ⟨S1x1712x128, .f32⟩
  | .local _ .vmem, ⟨9, _⟩ => ⟨S1x1712x128, .f32⟩
  | .local _ .vmem, ⟨10, _⟩ => ⟨S1x1712x128, .f32⟩
  | .local _ .vmem, ⟨11, _⟩ => ⟨S1x1712x128, .f32⟩
  | .local _ .vmem, ⟨12, _⟩ => ⟨S1x1712x128, .f32⟩
  | .local _ .vmem, ⟨13, _⟩ => ⟨S1x1712x128, .f32⟩
  | .local _ .vmem, ⟨14, _⟩ => ⟨S1x1712x128, .f32⟩
  | .local _ .vmem, ⟨15, _⟩ => ⟨S1x1712x128, .f32⟩
  | _, _ => ⟨S8x10272x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x1712x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1712x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1712x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1712x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1712x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1712x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1712x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1712x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S8x10272x128 : Shape := ⟨3, ![8, 10272, 128]⟩
abbrev S1x1024x1284 : Shape := ⟨3, ![1, 1024, 1284]⟩
abbrev S_ : Shape := ⟨0, ![]⟩
abbrev S10272x128 : Shape := ⟨2, ![10272, 128]⟩
abbrev S1284x1024 : Shape := ⟨2, ![1284, 1024]⟩
abbrev S1024x1284 : Shape := ⟨2, ![1024, 1284]⟩
abbrev S1x1284x1024 : Shape := ⟨3, ![1, 1284, 1024]⟩
abbrev S1x10272x128 : Shape := ⟨3, ![1, 10272, 128]⟩

abbrev nBuf : Space → Nat
  | .hbm => 51
  | .vmem => 0
  | .smem => 0
  | _ => 0

abbrev bufTy : (tb : Table) → Fin (tcTables nBuf tb) → BufTy
  | .hbm, ⟨0, _⟩ => ⟨S8x10272x128, .bf16⟩
  | .hbm, ⟨1, _⟩ => ⟨S1x1024x1284, .f32⟩
  | .hbm, ⟨2, _⟩ => ⟨S1x1024x1284, .f32⟩
  | .hbm, ⟨3, _⟩ => ⟨S1x1024x1284, .f32⟩
  | .hbm, ⟨4, _⟩ => ⟨S8x10272x128, .f32⟩
  | .hbm, ⟨5, _⟩ => ⟨S_, .f32⟩
  | .hbm, ⟨6, _⟩ => ⟨S10272x128, .f32⟩
  | .hbm, ⟨7, _⟩ => ⟨S1284x1024, .f32⟩
  | .hbm, ⟨8, _⟩ => ⟨S1024x1284, .f32⟩
  | .hbm, ⟨9, _⟩ => ⟨S1x1024x1284, .f32⟩
  | .hbm, ⟨10, _⟩ => ⟨S_, .f32⟩
  | .hbm, ⟨11, _⟩ => ⟨S1x1024x1284, .f32⟩
  | .hbm, ⟨12, _⟩ => ⟨S1x1024x1284, .f32⟩
  | .hbm, ⟨13, _⟩ => ⟨S_, .f32⟩
  | .hbm, ⟨14, _⟩ => ⟨S1x1024x1284, .f32⟩
  | .hbm, ⟨15, _⟩ => ⟨S1x1024x1284, .f32⟩
  | .hbm, ⟨16, _⟩ => ⟨S1x1024x1284, .f32⟩
  | .hbm, ⟨17, _⟩ => ⟨S_, .f32⟩
  | .hbm, ⟨18, _⟩ => ⟨S1x1024x1284, .f32⟩
  | .hbm, ⟨19, _⟩ => ⟨S1x1024x1284, .f32⟩
  | .hbm, ⟨20, _⟩ => ⟨S1x1024x1284, .f32⟩
  | .hbm, ⟨21, _⟩ => ⟨S_, .f32⟩
  | .hbm, ⟨22, _⟩ => ⟨S1x1024x1284, .f32⟩
  | .hbm, ⟨23, _⟩ => ⟨S1x1024x1284, .f32⟩
  | .hbm, ⟨24, _⟩ => ⟨S1x1024x1284, .f32⟩
  | .hbm, ⟨25, _⟩ => ⟨S_, .f32⟩
  | .hbm, ⟨26, _⟩ => ⟨S1x1024x1284, .f32⟩
  | .hbm, ⟨27, _⟩ => ⟨S1x1024x1284, .f32⟩
  | .hbm, ⟨28, _⟩ => ⟨S_, .f32⟩
  | .hbm, ⟨29, _⟩ => ⟨S1x1024x1284, .f32⟩
  | .hbm, ⟨30, _⟩ => ⟨S1x1024x1284, .f32⟩
  | .hbm, ⟨31, _⟩ => ⟨S1x1024x1284, .f32⟩
  | .hbm, ⟨32, _⟩ => ⟨S_, .f32⟩
  | .hbm, ⟨33, _⟩ => ⟨S1x1024x1284, .f32⟩
  | .hbm, ⟨34, _⟩ => ⟨S1x1024x1284, .f32⟩
  | .hbm, ⟨35, _⟩ => ⟨S1x1024x1284, .f32⟩
  | .hbm, ⟨36, _⟩ => ⟨S_, .f32⟩
  | .hbm, ⟨37, _⟩ => ⟨S1x1024x1284, .f32⟩
  | .hbm, ⟨38, _⟩ => ⟨S1x1024x1284, .f32⟩
  | .hbm, ⟨39, _⟩ => ⟨S1x1024x1284, .f32⟩
  | .hbm, ⟨40, _⟩ => ⟨S_, .f32⟩
  | .hbm, ⟨41, _⟩ => ⟨S1x1024x1284, .f32⟩
  | .hbm, ⟨42, _⟩ => ⟨S1x1024x1284, .f32⟩
  | .hbm, ⟨43, _⟩ => ⟨S1x1284x1024, .f32⟩
  | .hbm, ⟨44, _⟩ => ⟨S1x10272x128, .f32⟩
  | .hbm, ⟨45, _⟩ => ⟨S1x1284x1024, .f32⟩
  | .hbm, ⟨46, _⟩ => ⟨S1x10272x128, .f32⟩
  | .hbm, ⟨47, _⟩ => ⟨S1x1284x1024, .f32⟩
  | .hbm, ⟨48, _⟩ => ⟨S1x10272x128, .f32⟩
  | .hbm, ⟨49, _⟩ => ⟨S1x1284x1024, .f32⟩
  | .hbm, ⟨50, _⟩ => ⟨S1x10272x128, .f32⟩
  | _, _ => ⟨S8x10272x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== XAttn.lean ====
abbrev S8192x1024 : Shape := ⟨2, ![8192, 1024]⟩
abbrev S1024x2048 : Shape := ⟨2, ![1024, 2048]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S8192x1024, .bf16⟩
  | .hbm, ⟨4, _⟩ => ⟨S1024x1024, .f32⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v35 : BitVec 32 := Scalar.extui v0
  let c0_i32_19 : BitVec 32 := 0#32
  let v36 : BitVec 1 := Scalar.cmpi .ne v35 c0_i32_19
  v36

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v37 : BitVec 1 := Scalar.xori v0 v_true
  let v38 : BitVec 32 := Scalar.extui v37
  let c0_i32_20 : BitVec 32 := 0#32
  let v39 : BitVec 1 := Scalar.cmpi .ne v38 c0_i32_20
  v39

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v74 : BitVec 32 := Scalar.extui v0
  let c0_i32_41 : BitVec 32 := 0#32
  let v75 : BitVec 1 := Scalar.cmpi .ne v74 c0_i32_41
  v75

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let true_42 : BitVec 1 := 1#1
  let v76 : BitVec 1 := Scalar.xori v0 true_42
  let v77 : BitVec 32 := Scalar.extui v76
  let c0_i32_43 : BitVec 32 := 0#32
  let v78 : BitVec 1 := Scalar.cmpi .ne v77 c0_i32_43
  v78

def k0_cond5 (i : grid0.Coords) : BitVec 1 :=
  let arg1 : BitVec 32 := BitVec.ofNat 32 (i 1).val
  let c0_i32 : BitVec 32 := 0#32
  let v0 : BitVec 1 := Scalar.cmpi .eq arg1 c0_i32
  let v113 : BitVec 32 := Scalar.extui v0
  let c0_i32_64 : BitVec 32 := 0#32
  let v114 : BitVec 1 := Scalar.cmpi .ne v113 c0_i32_64
  v114

def k0_cond6 (i : grid0.Coords) : BitVec 1 :=
  let arg1 : BitVec 32 := BitVec.ofNat 32 (i 1).val
  let c0_i32 : BitVec 32 := 0#32
  let v0 : BitVec 1 := Scalar.cmpi .eq arg1 c0_i32
  let true_65 : BitVec 1 := 1#1
  let v115 : BitVec 1 := Scalar.xori v0 true_65
  let v116 : BitVec 32 := Scalar.extui v115
  let c0_i32_66 : BitVec 32 := 0#32
  let v117 : BitVec 1 := Scalar.cmpi .ne v116 c0_i32_66
  v117

def k0_cond7 (i : grid0.Coords) : BitVec 1 :=
  let arg1 : BitVec 32 := BitVec.ofNat 32 (i 1).val
  let c0_i32 : BitVec 32 := 0#32
  let v0 : BitVec 1 := Scalar.cmpi .eq arg1 c0_i32
  let v152 : BitVec 32 := Scalar.extui v0
  let c0_i32_87 : BitVec 32 := 0#32
  let v153 : BitVec 1 := Scalar.cmpi .ne v152 c0_i32_87
  v153

def k0_cond8 (i : grid0.Coords) : BitVec 1 :=
  let arg1 : BitVec 32 := BitVec.ofNat 32 (i 1).val
  let c0_i32 : BitVec 32 := 0#32
  let v0 : BitVec 1 := Scalar.cmpi .eq arg1 c0_i32
  let true_88 : BitVec 1 := 1#1
  let v154 : BitVec 1 := Scalar.xori v0 true_88
  let v155 : BitVec 32 := Scalar.extui v154
  let c0_i32_89 : BitVec 32 := 0#32
  let v156 : BitVec 1 := Scalar.cmpi .ne v155 c0_i32_89
  v156

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== XAttnRefIdeal.lean ====
abbrev S8192x1024 : Shape := ⟨2, ![8192, 1024]⟩
abbrev S1024x2048 : Shape := ⟨2, ![1024, 2048]⟩
abbrev S1024x1024 : Shape := ⟨2, ![1024, 1024]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S4x4x256x256 : Shape := ⟨4, ![4, 4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S8192x1024, .f32⟩
  | .hbm, ⟨4, _⟩ => ⟨S8192x1024, .f32⟩
  | .hbm, ⟨5, _⟩ => ⟨S1024x2048, .f32⟩
  | .hbm, ⟨6, _⟩ => ⟨S1024x1024, .f32⟩
  | .hbm, ⟨7, _⟩ => ⟨S1024x1024, .f32⟩
  | .hbm, ⟨8, _⟩ => ⟨S4x2048x4x256, .f32⟩
  | .hbm, ⟨9, _⟩ => ⟨S4x256x4x256, .f32⟩
  | .hbm, ⟨10, _⟩ => ⟨S4x256x4x256, .f32⟩
  | .hbm, ⟨11, _⟩ => ⟨S4x4x2048x256, .f32⟩
  | .hbm, ⟨12, _⟩ => ⟨S_, .f32⟩
  | .hbm, ⟨13, _⟩ => ⟨S4x4x2048x256, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .i1⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S_, .f32⟩
  | .hbm, ⟨24, _⟩ => ⟨S4x4x2048, .f32⟩
  | .hbm, ⟨25, _⟩ => ⟨S4x4x2048, .f32⟩
  | .hbm, ⟨26, _⟩ => ⟨S_, .f32⟩
  | .hbm, ⟨27, _⟩ => ⟨S4x4x2048, .f32⟩
  | .hbm, ⟨28, _⟩ => ⟨S4x4x2048, .i1⟩
  | .hbm, ⟨29, _⟩ => ⟨S_, .f32⟩
  | .hbm, ⟨30, _⟩ => ⟨S4x4x2048, .f32⟩
  | .hbm, ⟨31, _⟩ => ⟨S4x4x2048, .i1⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S4x4x2048, .f32⟩
  | .hbm, ⟨40, _⟩ => ⟨S4x4x2048x1, .f32⟩
  | .hbm, ⟨41, _⟩ => ⟨S4x4x2048x256, .f32⟩
  | .hbm, ⟨42, _⟩ => ⟨S4x4x2048x256, .f32⟩
  | .hbm, ⟨43, _⟩ => ⟨S4x4x2048x256, .f32⟩
  | .hbm, ⟨44, _⟩ => ⟨S_, .f32⟩
  | .hbm, ⟨45, _⟩ => ⟨S4x4x2048, .f32⟩
  | .hbm, ⟨46, _⟩ => ⟨S4x4x2048x1, .f32⟩
  | .hbm, ⟨47, _⟩ => ⟨S4x4x2048x256, .f32⟩
  | .hbm, ⟨48, _⟩ => ⟨S4x4x2048x256, .f32⟩
  | .hbm, ⟨49, _⟩ => ⟨S4x4x2048x1, .f32⟩
  | .hbm, ⟨50, _⟩ => ⟨S_, .f32⟩
  | .hbm, ⟨51, _⟩ => ⟨S4x4x2048x1, .f32⟩
  | .hbm, ⟨52, _⟩ => ⟨S4x4x2048x1, .f32⟩
  | .hbm, ⟨53, _⟩ => ⟨S4x4x256x2048, .f32⟩
  | .hbm, ⟨54, _⟩ => ⟨S4x2048x4x256, .f32⟩
  | .hbm, ⟨55, _⟩ => ⟨S8192x1024, .f32⟩
  | .hbm, ⟨56, _⟩ => ⟨S4x2048x4x256, .f32⟩
  | .hbm, ⟨57, _⟩ => ⟨S4x4x256x2048, .f32⟩
  | .hbm, ⟨58, _⟩ => ⟨S4x4x2048x256, .f32⟩
  | .hbm, ⟨59, _⟩ => ⟨S4x4x256x256, .f32⟩
  | .hbm, ⟨60, _⟩ => ⟨S4x256x4x256, .f32⟩
  | .hbm, ⟨61, _⟩ => ⟨S4x4x2048x256, .f32⟩
  | .hbm, ⟨62, _⟩ => ⟨S4x4x2048x256, .f32⟩
  | .hbm, ⟨63, _⟩ => ⟨S4x4x2048x256, .f32⟩
  | .hbm, ⟨64, _⟩ => ⟨S_, .f32⟩
  | .hbm, ⟨65, _⟩ => ⟨S4x4x2048, .f32⟩
  | .hbm, ⟨66, _⟩ => ⟨S4x4x2048x1, .f32⟩
  | .hbm, ⟨67, _⟩ => ⟨S4x4x2048x1, .f32⟩
  | .hbm, ⟨68, _⟩ => ⟨S4x4x2048x256, .f32⟩
  | .hbm, ⟨69, _⟩ => ⟨S4x4x2048x256, .f32⟩
  | .hbm, ⟨70, _⟩ => ⟨S_, .f32⟩
  | .hbm, ⟨71, _⟩ => ⟨S4x4x2048, .f32⟩
  | .hbm, ⟨72, _⟩ => ⟨S4x4x2048x256, .f32⟩
  | .hbm, ⟨73, _⟩ => ⟨S4x4x2048x256, .f32⟩
  | .hbm, ⟨74, _⟩ => ⟨S4x4x2048x256, .f32⟩
  | .hbm, ⟨75, _⟩ => ⟨S_, .f32⟩
  | .hbm, ⟨76, _⟩ => ⟨S4x4x2048x256, .f32⟩
  | .hbm, ⟨77, _⟩ => ⟨S4x4x2048x256, .f32⟩
  | .hbm, ⟨78, _⟩ => ⟨S4x4x256x256, .f32⟩
  | .hbm, ⟨79, _⟩ => ⟨S4x256x4x256, .f32⟩
  | .hbm, ⟨80, _⟩ => ⟨S4x4x2048x256, .f32⟩
  | .hbm, ⟨81, _⟩ => ⟨S4x2048x4x256, .f32⟩
  | .hbm, ⟨82, _⟩ => ⟨S1024x1024, .f32⟩
  | .hbm, ⟨83, _⟩ => ⟨S1024x1024, .f32⟩
  | .hbm, ⟨84, _⟩ => ⟨S8192x1024, .f32⟩
  | .hbm, ⟨85, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== SumSmall.lean ====
abbrev S8x232x128 : Shape := ⟨3, ![8, 232, 128]⟩
abbrev S232x128 : Shape := ⟨2, ![232, 128]⟩
abbrev S1x232x128 : Shape := ⟨3, ![1, 232, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x232x128, .f32⟩
  | .hbm, ⟨1, _⟩ => ⟨S232x128, .f32⟩
  | .local _ .vmem, ⟨0, _⟩ => ⟨S8x232x128, .f32⟩
  | .local _ .vmem, ⟨1, _⟩ => ⟨S232x128, .f32⟩
  | _, _ => ⟨S8x232x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x232x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S232x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x232x128 : Shape := ⟨3, ![8, 232, 128]⟩
abbrev S_ : Shape := ⟨0, ![]⟩
abbrev S232x128 : Shape := ⟨2, ![232, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x232x128, .f32⟩
  | .hbm, ⟨1, _⟩ => ⟨S_, .f32⟩
  | .hbm, ⟨2, _⟩ => ⟨S232x128, .f32⟩
  | _, _ => ⟨S8x232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamSmall.lean ====
abbrev S136x128 : Shape := ⟨2, ![136, 128]⟩

abbrev nBuf : Space → Nat
  | .hbm => 7
  | .vmem => 7
  | .smem => 0
  | _ => 0

abbrev bufTy : (tb : Table) → Fin (tcTables nBuf tb) → BufTy
  | .hbm, ⟨0, _⟩ => ⟨S136x128, .f32⟩
  | .hbm, ⟨1, _⟩ => ⟨S136x128, .f32⟩
  | .hbm, ⟨2, _⟩ => ⟨S136x128, .f32⟩
  | .hbm, ⟨3, _⟩ => ⟨S136x128, .f32⟩
  | .hbm, ⟨4, _⟩ => ⟨S136x128, .f32⟩
  | .hbm, ⟨5, _⟩ => ⟨S136x128, .f32⟩
  | .hbm, ⟨6, _⟩ => ⟨S136x128, .f32⟩
  | .local _ .vmem, ⟨0, _⟩ => ⟨S136x128, .f32⟩
  | .local _ .vmem, ⟨1, _⟩ => ⟨S136x128, .f32⟩
  | .local _ .vmem, ⟨2, _⟩ => ⟨S136x128, .f32⟩
  | .local _ .vmem, ⟨3, _⟩ => ⟨S136x128, .f32⟩
  | .local _ .vmem, ⟨4, _⟩ => ⟨S136x128, .f32⟩
  | .local _ .vmem, ⟨5, _⟩ => ⟨S136x128, .f32⟩
  | .local _ .vmem, ⟨6, _⟩ => ⟨S136x128, .f32⟩
  | _, _ => ⟨S136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S136x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S136x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S136x128 : Shape := ⟨2, ![136, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S136x128, .f32⟩
  | .hbm, ⟨1, _⟩ => ⟨S136x128, .f32⟩
  | .hbm, ⟨2, _⟩ => ⟨S136x128, .f32⟩
  | .hbm, ⟨3, _⟩ => ⟨S136x128, .f32⟩
  | .hbm, ⟨4, _⟩ => ⟨S_, .f32⟩
  | .hbm, ⟨5, _⟩ => ⟨S136x128, .f32⟩
  | .hbm, ⟨6, _⟩ => ⟨S136x128, .f32⟩
  | .hbm, ⟨7, _⟩ => ⟨S_, .f32⟩
  | .hbm, ⟨8, _⟩ => ⟨S136x128, .f32⟩
  | .hbm, ⟨9, _⟩ => ⟨S136x128, .f32⟩
  | .hbm, ⟨10, _⟩ => ⟨S136x128, .f32⟩
  | .hbm, ⟨11, _⟩ => ⟨S_, .f32⟩
  | .hbm, ⟨12, _⟩ => ⟨S136x128, .f32⟩
  | .hbm, ⟨13, _⟩ => ⟨S136x128, .f32⟩
  | .hbm, ⟨14, _⟩ => ⟨S136x128, .f32⟩
  | .hbm, ⟨15, _⟩ => ⟨S_, .f32⟩
  | .hbm, ⟨16, _⟩ => ⟨S136x128, .f32⟩
  | .hbm, ⟨17, _⟩ => ⟨S136x128, .f32⟩
  | .hbm, ⟨18, _⟩ => ⟨S136x128, .f32⟩
  | .hbm, ⟨19, _⟩ => ⟨S_, .f32⟩
  | .hbm, ⟨20, _⟩ => ⟨S136x128, .f32⟩
  | .hbm, ⟨21, _⟩ => ⟨S136x128, .f32⟩
  | .hbm, ⟨22, _⟩ => ⟨S_, .f32⟩
  | .hbm, ⟨23, _⟩ => ⟨S136x128, .f32⟩
  | .hbm, ⟨24, _⟩ => ⟨S136x128, .f32⟩
  | .hbm, ⟨25, _⟩ => ⟨S136x128, .f32⟩
  | .hbm, ⟨26, _⟩ => ⟨S_, .f32⟩
  | .hbm, ⟨27, _⟩ => ⟨S136x128, .f32⟩
  | .hbm, ⟨28, _⟩ => ⟨S136x128, .f32⟩
  | .hbm, ⟨29, _⟩ => ⟨S136x128, .f32⟩
  | .hbm, ⟨30, _⟩ => ⟨S_, .f32⟩
  | .hbm, ⟨31, _⟩ => ⟨S136x128, .f32⟩
  | .hbm, ⟨32, _⟩ => ⟨S136x128, .f32⟩
  | .hbm, ⟨33, _⟩ => ⟨S136x128, .f32⟩
  | .hbm, ⟨34, _⟩ => ⟨S_, .f32⟩
  | .hbm, ⟨35, _⟩ => ⟨S136x128, .f32⟩
  | .hbm, ⟨36, _⟩ => ⟨S136x128, .f32⟩
  | _, _ => ⟨S136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FfnLoss.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x128 : Shape := ⟨2, ![1, 128]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x128, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v50 : BitVec 32 := Scalar.extui v0
  let c0_i32_23 : BitVec 32 := 0#32
  let v51 : BitVec 1 := Scalar.cmpi .ne v50 c0_i32_23
  v51

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v52 : BitVec 1 := Scalar.xori v0 v_true
  let v53 : BitVec 32 := Scalar.extui v52
  let c0_i32_24 : BitVec 32 := 0#32
  let v54 : BitVec 1 := Scalar.cmpi .ne v53 c0_i32_24
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== FfnLossRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== GateNorm.lean ====
abbrev S8192x1024 : Shape := ⟨2, ![8192, 1024]⟩
abbrev S2048x1024 : Shape := ⟨2, ![2048, 1024]⟩
abbrev S8192x2048 : Shape := ⟨2, ![8192, 2048]⟩
abbrev S8192x10240 : Shape := ⟨2, ![8192, 10240]⟩
abbrev S1x2048 : Shape := ⟨2, ![1, 2048]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .hbm, ⟨3, _⟩ => ⟨S8192x10240, .bf16⟩
  | .hbm, ⟨4, _⟩ => ⟨S1x2048, .f32⟩
  | .hbm, ⟨5, _⟩ => ⟨S8192x2048, .bf16⟩
  | .hbm, ⟨6, _⟩ => ⟨S8192x2048, .bf16⟩
  | .hbm, ⟨7, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v65 : BitVec 32 := Scalar.extui v6
  let c0_i32_29 : BitVec 32 := 0#32
  let v66 : BitVec 1 := Scalar.cmpi .ne v65 c0_i32_29
  v66

def k0_cond2 (i : grid0.Coords) : BitVec 1 :=
  let arg0 : BitVec 32 := BitVec.ofNat 32 (i 0).val
  let c0_i32 : BitVec 32 := 0#32
  let v6 : BitVec 1 := Scalar.cmpi .eq arg0 c0_i32
  let v_true : BitVec 1 := 1#1
  let v67 : BitVec 1 := Scalar.xori v6 v_true
  let v68 : BitVec 32 := Scalar.extui v67
  let c0_i32_30 : BitVec 32 := 0#32
  let v69 : BitVec 1 := Scalar.cmpi .ne v68 c0_i32_30
  v69

def k0_cond3 (i : grid0.Coords) : BitVec 1 :=
  let arg0 : BitVec 32 := BitVec.ofNat 32 (i 0).val
  let c0_i32 : BitVec 32 := 0#32
  let v6 : BitVec 1 := Scalar.cmpi .eq arg0 c0_i32
  let v128 : BitVec 32 := Scalar.extui v6
  let c0_i32_54 : BitVec 32 := 0#32
  let v129 : BitVec 1 := Scalar.cmpi .ne v128 c0_i32_54
  v129

def k0_cond4 (i : grid0.Coords) : BitVec 1 :=
  let arg0 : BitVec 32 := BitVec.ofNat 32 (i 0).val
  let c0_i32 : BitVec 32 := 0#32
  let v6 : BitVec 1 := Scalar.cmpi .eq arg0 c0_i32
  let true_55 : BitVec 1 := 1#1
  let v130 : BitVec 1 := Scalar.xori v6 true_55
  let v131 : BitVec 32 := Scalar.extui v130
  let c0_i32_56 : BitVec 32 := 0#32
  let v132 : BitVec 1 := Scalar.cmpi .ne v131 c0_i32_56
  v132

def k0_cond5 (i : grid0.Coords) : BitVec 1 :=
  let arg0 : BitVec 32 := BitVec.ofNat 32 (i 0).val
  let c0_i32 : BitVec 32 := 0#32
  let v6 : BitVec 1 := Scalar.cmpi .eq arg0 c0_i32
  let v191 : BitVec 32 := Scalar.extui v6
  let c0_i32_80 : BitVec 32 := 0#32
  let v192 : BitVec 1 := Scalar.cmpi .ne v191 c0_i32_80
  v192

def k0_cond6 (i : grid0.Coords) : BitVec 1 :=
  let arg0 : BitVec 32 := BitVec.ofNat 32 (i 0).val
  let c0_i32 : BitVec 32 := 0#32
  let v6 : BitVec 1 := Scalar.cmpi .eq arg0 c0_i32
  let true_81 : BitVec 1 := 1#1
  let v193 : BitVec 1 := Scalar.xori v6 true_81
  let v194 : BitVec 32 := Scalar.extui v193
  let c0_i32_82 : BitVec 32 := 0#32
  let v195 : BitVec 1 := Scalar.cmpi .ne v194 c0_i32_82
  v195

def k0_cond7 (i : grid0.Coords) : BitVec 1 :=
  let arg0 : BitVec 32 := BitVec.ofNat 32 (i 0).val
  let c0_i32 : BitVec 32 := 0#32
  let v6 : BitVec 1 := Scalar.cmpi .eq arg0 c0_i32
  let v254 : BitVec 32 := Scalar.extui v6
  let c0_i32_106 : BitVec 32 := 0#32
  let v255 : BitVec 1 := Scalar.cmpi .ne v254 c0_i32_106
  v255

def k0_cond8 (i : grid0.Coords) : BitVec 1 :=
  let arg0 : BitVec 32 := BitVec.ofNat 32 (i 0).val
  let c0_i32 : BitVec 32 := 0#32
  let v6 : BitVec 1 := Scalar.cmpi .eq arg0 c0_i32
  let true_107 : BitVec 1 := 1#1
  let v256 : BitVec 1 := Scalar.xori v6 true_107
  let v257 : BitVec 32 := Scalar.extui v256
  let c0_i32_108 : BitVec 32 := 0#32
  let v258 : BitVec 1 := Scalar.cmpi .ne v257 c0_i32_108
  v258

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateNormRefIdeal.lean ====
abbrev S8192x1024 : Shape := ⟨2, ![8192, 1024]⟩
abbrev S2048x1024 : Shape := ⟨2, ![2048, 1024]⟩
abbrev S8192x2048 : Shape := ⟨2, ![8192, 2048]⟩
abbrev S8192x10240 : Shape := ⟨2, ![8192, 10240]⟩
abbrev S1x2048 : Shape := ⟨2, ![1, 2048]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩
abbrev S2048 : Shape := ⟨1, ![2048]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .hbm, ⟨3, _⟩ => ⟨S8192x10240, .bf16⟩
  | .hbm, ⟨4, _⟩ => ⟨S1x2048, .f32⟩
  | .hbm, ⟨5, _⟩ => ⟨S8192x1024, .f32⟩
  | .hbm, ⟨6, _⟩ => ⟨S2048x1024, .f32⟩
  | .hbm, ⟨7, _⟩ => ⟨S8192x2048, .f32⟩
  | .hbm, ⟨8, _⟩ => ⟨S8192x10240, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x4x512, .f32⟩
  | .hbm, ⟨25, _⟩ => ⟨S8192x4x512, .f32⟩
  | .hbm, ⟨26, _⟩ => ⟨S_, .f32⟩
  | .hbm, ⟨27, _⟩ => ⟨S8192x4, .f32⟩
  | .hbm, ⟨28, _⟩ => ⟨S8192x4x1, .f32⟩
  | .hbm, ⟨29, _⟩ => ⟨S_, .f32⟩
  | .hbm, ⟨30, _⟩ => ⟨S8192x4x1, .f32⟩
  | .hbm, ⟨31, _⟩ => ⟨S8192x4x1, .f32⟩
  | .hbm, ⟨32, _⟩ => ⟨S_, .f32⟩
  | .hbm, ⟨33, _⟩ => ⟨S8192x4x1, .f32⟩
  | .hbm, ⟨34, _⟩ => ⟨S8192x4x1, .f32⟩
  | .hbm, ⟨35, _⟩ => ⟨S8192x4x1, .f32⟩
  | .hbm, ⟨36, _⟩ => ⟨S8192x4x1, .f32⟩
  | .hbm, ⟨37, _⟩ => ⟨S_, .f32⟩
  | .hbm, ⟨38, _⟩ => ⟨S8192x4x1, .f32⟩
  | .hbm, ⟨39, _⟩ => ⟨S8192x4x1, .f32⟩
  | .hbm, ⟨40, _⟩ => ⟨S8192x4x512, .f32⟩
  | .hbm, ⟨41, _⟩ => ⟨S8192x4x512, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x1024, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x4x512, .f32⟩
  | .hbm, ⟨54, _⟩ => ⟨S8192x4x512, .f32⟩
  | .hbm, ⟨55, _⟩ => ⟨S_, .f32⟩
  | .hbm, ⟨56, _⟩ => ⟨S8192x4, .f32⟩
  | .hbm, ⟨57, _⟩ => ⟨S8192x4x1, .f32⟩
  | .hbm, ⟨58, _⟩ => ⟨S8192x4x512, .f32⟩
  | .hbm, ⟨59, _⟩ => ⟨S8192x4x512, .f32⟩
  | .hbm, ⟨60, _⟩ => ⟨S8192x4x1, .f32⟩
  | .hbm, ⟨61, _⟩ => ⟨S_, .f32⟩
  | .hbm, ⟨62, _⟩ => ⟨S8192x4x1, .f32⟩
  | .hbm, ⟨63, _⟩ => ⟨S8192x4x1, .f32⟩
  | .hbm, ⟨64, _⟩ => ⟨S_, .f32⟩
  | .hbm, ⟨65, _⟩ => ⟨S8192x4, .f32⟩
  | .hbm, ⟨66, _⟩ => ⟨S8192x4x512, .f32⟩
  | .hbm, ⟨67, _⟩ => ⟨S8192x4x512, .f32⟩
  | .hbm, ⟨68, _⟩ => ⟨S8192x4x512, .f32⟩
  | .hbm, ⟨69, _⟩ => ⟨S8192x4x512, .f32⟩
  | .hbm, ⟨70, _⟩ => ⟨S8192x4x512, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .bf16⟩
  | .hbm, ⟨79, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]
-- ==== MergeOut.lean ====
abbrev S8192x1024 : Shape := ⟨2, ![8192, 1024]⟩
abbrev S8192x10240 : Shape := ⟨2, ![8192, 10240]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x10240, .bf16⟩
  | .hbm, ⟨3, _⟩ => ⟨S1024x1024, .bf16⟩
  | .hbm, ⟨4, _⟩ => ⟨S8192x1024, .f32⟩
  | .hbm, ⟨5, _⟩ => ⟨S1x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeOutRefIdeal.lean ====
abbrev S8192x1024 : Shape := ⟨2, ![8192, 1024]⟩
abbrev S8192x10240 : Shape := ⟨2, ![8192, 10240]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x10240, .bf16⟩
  | .hbm, ⟨3, _⟩ => ⟨S1024x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x10240, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== GateOut.lean ====
abbrev S8192x2048 : Shape := ⟨2, ![8192, 2048]⟩
abbrev S8192x10240 : Shape := ⟨2, ![8192, 10240]⟩
abbrev S1x2048 : Shape := ⟨2, ![1, 2048]⟩
abbrev S2048x1024 : Shape := ⟨2, ![2048, 1024]⟩
abbrev S8192x1024 : Shape := ⟨2, ![8192, 1024]⟩
abbrev S512x2048 : Shape := ⟨2, ![512, 2048]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x10240, .bf16⟩
  | .hbm, ⟨2, _⟩ => ⟨S1x2048, .f32⟩
  | .hbm, ⟨3, _⟩ => ⟨S2048x1024, .bf16⟩
  | .hbm, ⟨4, _⟩ => ⟨S8192x2048, .bf16⟩
  | .hbm, ⟨5, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S2048x1024, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateOutRefIdeal.lean ====
abbrev S8192x2048 : Shape := ⟨2, ![8192, 2048]⟩
abbrev S8192x10240 : Shape := ⟨2, ![8192, 10240]⟩
abbrev S1x2048 : Shape := ⟨2, ![1, 2048]⟩
abbrev S2048x1024 : Shape := ⟨2, ![2048, 1024]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩
abbrev S8192x1024 : Shape := ⟨2, ![8192, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x10240, .bf16⟩
  | .hbm, ⟨2, _⟩ => ⟨S1x2048, .f32⟩
  | .hbm, ⟨3, _⟩ => ⟨S2048x1024, .bf16⟩
  | .hbm, ⟨4, _⟩ => ⟨S8192x2048, .f32⟩
  | .hbm, ⟨5, _⟩ => ⟨S8192x10240, .f32⟩
  | .hbm, ⟨6, _⟩ => ⟨S2048x1024, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x4x512, .f32⟩
  | .hbm, ⟨19, _⟩ => ⟨S8192x4x512, .f32⟩
  | .hbm, ⟨20, _⟩ => ⟨S_, .f32⟩
  | .hbm, ⟨21, _⟩ => ⟨S8192x4, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S_, .f32⟩
  | .hbm, ⟨27, _⟩ => ⟨S8192x4x1, .f32⟩
  | .hbm, ⟨28, _⟩ => ⟨S8192x4x1, .f32⟩
  | .hbm, ⟨29, _⟩ => ⟨S8192x4x1, .f32⟩
  | .hbm, ⟨30, _⟩ => ⟨S8192x4x512, .f32⟩
  | .hbm, ⟨31, _⟩ => ⟨S8192x4x512, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | .hbm, ⟨36, _⟩ => ⟨S8192x1024, .f32⟩
  | .hbm, ⟨37, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== XFwd.lean ====
abbrev S8192x1024 : Shape := ⟨2, ![8192, 1024]⟩
abbrev S1024x2048 : Shape := ⟨2, ![1024, 2048]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XFwdRefIdeal.lean ====
abbrev S8192x1024 : Shape := ⟨2, ![8192, 1024]⟩
abbrev S1024x2048 : Shape := ⟨2, ![1024, 2048]⟩
abbrev S4x2048x4x256 : Shape := ⟨4, ![4, 2048, 4, 256]⟩
abbrev S1024x1024 : Shape := ⟨2, ![1024, 1024]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S4x2048x4x256, .f32⟩
  | .hbm, ⟨5, _⟩ => ⟨S1024x1024, .f32⟩
  | .hbm, ⟨6, _⟩ => ⟨S4x256x4x256, .f32⟩
  | .hbm, ⟨7, _⟩ => ⟨S1024x1024, .f32⟩
  | .hbm, ⟨8, _⟩ => ⟨S4x256x4x256, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S_, .f32⟩
  | .hbm, ⟨16, _⟩ => ⟨S4x4x2048, .f32⟩
  | .hbm, ⟨17, _⟩ => ⟨S4x4x2048, .f32⟩
  | .hbm, ⟨18, _⟩ => ⟨S4x4x2048x1, .f32⟩
  | .hbm, ⟨19, _⟩ => ⟨S4x4x2048x256, .f32⟩
  | .hbm, ⟨20, _⟩ => ⟨S4x4x2048x256, .f32⟩
  | .hbm, ⟨21, _⟩ => ⟨S4x4x2048x256, .f32⟩
  | .hbm, ⟨22, _⟩ => ⟨S_, .f32⟩
  | .hbm, ⟨23, _⟩ => ⟨S4x4x2048, .f32⟩
  | .hbm, ⟨24, _⟩ => ⟨S4x4x2048x1, .f32⟩
  | .hbm, ⟨25, _⟩ => ⟨S4x4x2048x256, .f32⟩
  | .hbm, ⟨26, _⟩ => ⟨S4x4x2048x256, .f32⟩
  | .hbm, ⟨27, _⟩ => ⟨S4x4x256x2048, .f32⟩
  | .hbm, ⟨28, _⟩ => ⟨S4x2048x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== CAFwd.lean ====
abbrev S8192x10240 : Shape := ⟨2, ![8192, 10240]⟩
abbrev S8x1024 : Shape := ⟨2, ![8, 1024]⟩
abbrev S8192x1024 : Shape := ⟨2, ![8192, 1024]⟩
abbrev S2048x768 : Shape := ⟨2, ![2048, 768]⟩
abbrev S8x256 : Shape := ⟨2, ![8, 256]⟩
abbrev S2048x256 : Shape := ⟨2, ![2048, 256]⟩
abbrev S1x256 : Shape := ⟨2, ![1, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x10240, .bf16⟩
  | .hbm, ⟨1, _⟩ => ⟨S8x1024, .f32⟩
  | .hbm, ⟨2, _⟩ => ⟨S8192x1024, .bf16⟩
  | .local _ .vmem, ⟨0, _⟩ => ⟨S2048x768, .bf16⟩
  | .local _ .vmem, ⟨1, _⟩ => ⟨S2048x768, .bf16⟩
  | .local _ .vmem, ⟨2, _⟩ => ⟨S8x256, .f32⟩
  | .local _ .vmem, ⟨3, _⟩ => ⟨S8x256, .f32⟩
  | .local _ .vmem, ⟨4, _⟩ => ⟨S2048x256, .bf16⟩
  | .local _ .vmem, ⟨5, _⟩ => ⟨S2048x256, .bf16⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CAFwdRefIdeal.lean ====
abbrev S8192x10240 : Shape := ⟨2, ![8192, 10240]⟩
abbrev S8x1024 : Shape := ⟨2, ![8, 1024]⟩
abbrev S8192x3072 : Shape := ⟨2, ![8192, 3072]⟩
abbrev S4x2048x4x3x256 : Shape := ⟨5, ![4, 2048, 4, 3, 256]⟩
abbrev S4x2048x4x1x256 : Shape := ⟨5, ![4, 2048, 4, 1, 256]⟩
abbrev S4x2048x4x256 : Shape := ⟨4, ![4, 2048, 4, 256]⟩
abbrev S4x2048x1024 : Shape := ⟨3, ![4, 2048, 1024]⟩
abbrev S3x1024 : Shape := ⟨2, ![3, 1024]⟩
abbrev S4x2x1024 : Shape := ⟨3, ![4, 2, 1024]⟩
abbrev S_ : Shape := ⟨0, ![]⟩
abbrev S4x2046x1024 : Shape := ⟨3, ![4, 2046, 1024]⟩
abbrev S1x1024 : Shape := ⟨2, ![1, 1024]⟩
abbrev S1024 : Shape := ⟨1, ![1024]⟩
abbrev S1x1x1024 : Shape := ⟨3, ![1, 1, 1024]⟩
abbrev S4x1x1024 : Shape := ⟨3, ![4, 1, 1024]⟩
abbrev S4x2047x1024 : Shape := ⟨3, ![4, 2047, 1024]⟩
abbrev S8192x1024 : Shape := ⟨2, ![8192, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S8x1024, .f32⟩
  | .hbm, ⟨2, _⟩ => ⟨S8192x10240, .f32⟩
  | .hbm, ⟨3, _⟩ => ⟨S8192x3072, .f32⟩
  | .hbm, ⟨4, _⟩ => ⟨S4x2048x4x3x256, .f32⟩
  | .hbm, ⟨5, _⟩ => ⟨S4x2048x4x1x256, .f32⟩
  | .hbm, ⟨6, _⟩ => ⟨S4x2048x4x256, .f32⟩
  | .hbm, ⟨7, _⟩ => ⟨S4x2048x1024, .f32⟩
  | .hbm, ⟨8, _⟩ => ⟨S4x2048x4x1x256, .f32⟩
  | .hbm, ⟨9, _⟩ => ⟨S4x2048x4x256, .f32⟩
  | .hbm, ⟨10, _⟩ => ⟨S4x2048x1024, .f32⟩
  | .hbm, ⟨11, _⟩ => ⟨S4x2048x4x1x256, .f32⟩
  | .hbm, ⟨12, _⟩ => ⟨S4x2048x4x256, .f32⟩
  | .hbm, ⟨13, _⟩ => ⟨S4x2048x1024, .f32⟩
  | .hbm, ⟨14, _⟩ => ⟨S4x2048x1024, .f32⟩
  | .hbm, ⟨15, _⟩ => ⟨S3x1024, .f32⟩
  | .hbm, ⟨16, _⟩ => ⟨S4x2x1024, .f32⟩
  | .hbm, ⟨17, _⟩ => ⟨S_, .f32⟩
  | .hbm, ⟨18, _⟩ => ⟨S4x2x1024, .f32⟩
  | .hbm, ⟨19, _⟩ => ⟨S4x2046x1024, .f32⟩
  | .hbm, ⟨20, _⟩ => ⟨S4x2048x1024, .f32⟩
  | .hbm, ⟨21, _⟩ => ⟨S1x1024, .f32⟩
  | .hbm, ⟨22, _⟩ => ⟨S1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x2048x1024, .f32⟩
  | .hbm, ⟨28, _⟩ => ⟨S4x2048x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x2047x1024, .f32⟩
  | .hbm, ⟨33, _⟩ => ⟨S4x2048x1024, .f32⟩
  | .hbm, ⟨34, _⟩ => ⟨S1x1024, .f32⟩
  | .hbm, ⟨35, _⟩ => ⟨S1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S1x1024, .f32⟩
  | .hbm, ⟨41, _⟩ => ⟨S1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S8192x1024, .f32⟩
  | .hbm, ⟨48, _⟩ => ⟨S8192x1024, .bf16⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩

abbrev nD : Nat := 1
abbrev τ : Topo := Topo.v7x

variable {F : FTy → Type} [FloatOps F]
-- ==== KvProj.lean ====
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S2048x1024, .bf16⟩
  | .hbm, ⟨2, _⟩ => ⟨S1024x2048, .bf16⟩
  | .local _ .vmem, ⟨0, _⟩ => ⟨S1024x1024, .bf16⟩
  | .local _ .vmem, ⟨1, _⟩ => ⟨S2048x1024, .bf16⟩
  | .local _ .vmem, ⟨2, _⟩ => ⟨S1024x2048, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvProjRefIdeal.lean ====
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S2048x1024, .bf16⟩
  | .hbm, ⟨2, _⟩ => ⟨S1024x1024, .f32⟩
  | .hbm, ⟨3, _⟩ => ⟨S2048x1024, .f32⟩
  | .hbm, ⟨4, _⟩ => ⟨S1024x2048, .f32⟩
  | .hbm, ⟨5, _⟩ => ⟨S1024x2048, .f32⟩
  | .hbm, ⟨6, _⟩ => ⟨S1024x2048, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== RowNorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowNormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemNorm.lean ====
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemNormRefIdeal.lean ====
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S1024x1 : Shape := ⟨2, ![1024, 1]⟩

abbrev nBuf : Space → Nat
  | .hbm => 18
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== DwKey.lean ====
abbrev S1024x1024 : Shape := ⟨2, ![1024, 1024]⟩
abbrev S2048x1024 : Shape := ⟨2, ![2048, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S2048x1024, .bf16⟩
  | .local _ .vmem, ⟨0, _⟩ => ⟨S1024x1024, .f32⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwKeyRefIdeal.lean ====
abbrev S1024x1024 : Shape := ⟨2, ![1024, 1024]⟩
abbrev S_ : Shape := ⟨0, ![]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .i32⟩
  | .hbm, ⟨11, _⟩ => ⟨S_, .f32⟩
  | .hbm, ⟨12, _⟩ => ⟨S2048x1024, .f32⟩
  | .hbm, ⟨13, _⟩ => ⟨S2048x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== DwVal.lean ====
abbrev S1024x1024 : Shape := ⟨2, ![1024, 1024]⟩
abbrev S2048x1024 : Shape := ⟨2, ![2048, 1024]⟩

abbrev nBuf : Space → Nat
  | .hbm => 4
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S2048x1024, .bf16⟩
  | .hbm, ⟨3, _⟩ => ⟨S2048x1024, .bf16⟩
  | .local _ .vmem, ⟨0, _⟩ => ⟨S1024x1024, .f32⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwValRefIdeal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S2048x1024, .bf16⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .bf16⟩
  | .hbm, ⟨13, _⟩ => ⟨S2048x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== InDt.lean ====
abbrev S8192x1024 : Shape := ⟨2, ![8192, 1024]⟩
abbrev S128x1024 : Shape := ⟨2, ![128, 1024]⟩
abbrev S8192x128 : Shape := ⟨2, ![8192, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDtRefIdeal.lean ====
abbrev S8192x1024 : Shape := ⟨2, ![8192, 1024]⟩
abbrev S128x1024 : Shape := ⟨2, ![128, 1024]⟩
abbrev S1024x128 : Shape := ⟨2, ![1024, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x1024, .f32⟩
  | .hbm, ⟨3, _⟩ => ⟨S128x1024, .f32⟩
  | .hbm, ⟨4, _⟩ => ⟨S1024x128, .f32⟩
  | .hbm, ⟨5, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwDt.lean ====
abbrev S8192x128 : Shape := ⟨2, ![8192, 128]⟩
abbrev S8192x1024 : Shape := ⟨2, ![8192, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x1024, .bf16⟩
  | .hbm, ⟨2, _⟩ => ⟨S128x1024, .bf16⟩
  | .local _ .vmem, ⟨0, _⟩ => ⟨S2048x128, .f32⟩
  | .local _ .vmem, ⟨1, _⟩ => ⟨S2048x128, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwDtRefIdeal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S128x1024, .f32⟩
  | .hbm, ⟨5, _⟩ => ⟨S1024x128, .f32⟩
  | .hbm, ⟨6, _⟩ => ⟨S8192x128, .f32⟩
  | .hbm, ⟨7, _⟩ => ⟨S128x1024, .f32⟩
  | .hbm, ⟨8, _⟩ => ⟨S1024x128, .f32⟩
  | .hbm, ⟨9, _⟩ => ⟨S128x1024, .f32⟩
  | .hbm, ⟨10, _⟩ => ⟨S128x1024, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DMn.lean ====
abbrev S1024x1024 : Shape := ⟨2, ![1024, 1024]⟩
abbrev S2048x1024 : Shape := ⟨2, ![2048, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S2048x1024, .bf16⟩
  | .hbm, ⟨3, _⟩ => ⟨S1x1024, .f32⟩
  | .hbm, ⟨4, _⟩ => ⟨S1024x1024, .f32⟩
  | .hbm, ⟨5, _⟩ => ⟨S1024x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨3, ![1, 1, 2], ![false, false, false]⟩

def k0_cond4 (i : grid0.Coords) : BitVec 1 :=
  let arg2 : BitVec 32 := BitVec.ofNat 32 (i 2).val
  let c1_i32_6 : BitVec 32 := 1#32
  let v14 : BitVec 1 := Scalar.cmpi .eq arg2 c1_i32_6
  let v15 : BitVec 32 := Scalar.extui v14
  let c0_i32_7 : BitVec 32 := 0#32
  let v16 : BitVec 1 := Scalar.cmpi .ne v15 c0_i32_7
  v16

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v45 : BitVec 32 := Scalar.extui v0
  let c0_i32_18 : BitVec 32 := 0#32
  let v46 : BitVec 1 := Scalar.cmpi .ne v45 c0_i32_18
  v46

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v47 : BitVec 1 := Scalar.xori v0 v_true
  let v48 : BitVec 32 := Scalar.extui v47
  let c0_i32_19 : BitVec 32 := 0#32
  let v49 : BitVec 1 := Scalar.cmpi .ne v48 c0_i32_19
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DMnRefIdeal.lean ====
abbrev S1024x1024 : Shape := ⟨2, ![1024, 1024]⟩
abbrev S2048x1024 : Shape := ⟨2, ![2048, 1024]⟩
abbrev S1x1024 : Shape := ⟨2, ![1, 1024]⟩
abbrev S_ : Shape := ⟨0, ![]⟩
abbrev S1024 : Shape := ⟨1, ![1024]⟩
abbrev S1024x1 : Shape := ⟨2, ![1024, 1]⟩
abbrev S1024x2048 : Shape := ⟨2, ![1024, 2048]⟩

abbrev nBuf : Space → Nat
  | .hbm => 58
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S2048x1024, .bf16⟩
  | .hbm, ⟨3, _⟩ => ⟨S1x1024, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S_, .f32⟩
  | .hbm, ⟨19, _⟩ => ⟨S1024x1, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x2048, .f32⟩
  | .hbm, ⟨26, _⟩ => ⟨S1024x2048, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024, .f32⟩
  | .hbm, ⟨44, _⟩ => ⟨S1024x1, .f32⟩
  | .hbm, ⟨45, _⟩ => ⟨S1024x1024, .f32⟩
  | .hbm, ⟨46, _⟩ => ⟨S1024x1024, .f32⟩
  | .hbm, ⟨47, _⟩ => ⟨S1024x1, .f32⟩
  | .hbm, ⟨48, _⟩ => ⟨S_, .f32⟩
  | .hbm, ⟨49, _⟩ => ⟨S1024x1, .f32⟩
  | .hbm, ⟨50, _⟩ => ⟨S1024x1, .f32⟩
  | .hbm, ⟨51, _⟩ => ⟨S_, .f32⟩
  | .hbm, ⟨52, _⟩ => ⟨S1024, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== DUDt.lean ====
abbrev S8192x128 : Shape := ⟨2, ![8192, 128]⟩
abbrev S128x1024 : Shape := ⟨2, ![128, 1024]⟩
abbrev S8192x1024 : Shape := ⟨2, ![8192, 1024]⟩
abbrev S1x1024 : Shape := ⟨2, ![1, 1024]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S128x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S1024x128, .f32⟩
  | .local _ .vmem, ⟨1, _⟩ => ⟨S1024x128, .f32⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v34 : BitVec 32 := Scalar.extui v0
  let c0_i32_15 : BitVec 32 := 0#32
  let v35 : BitVec 1 := Scalar.cmpi .ne v34 c0_i32_15
  v35

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v36 : BitVec 1 := Scalar.xori v0 v_true
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== DUDtRefIdeal.lean ====
abbrev S8192x128 : Shape := ⟨2, ![8192, 128]⟩
abbrev S128x1024 : Shape := ⟨2, ![128, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x128 : Shape := ⟨2, ![1024, 128]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S128x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024x128, .f32⟩
  | .hbm, ⟨27, _⟩ => ⟨S8192x128, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.Adam.lean ====
/-
  One step of the optimiser at one element: the decayed first and second moments of the gradient and the weight's change.
-/
module

public import Idealize.ShloMosaic.Lib.Pointwise

@[expose] public section

noncomputable section

namespace Cert.Proof.Adam

open Idealize.ShloMosaic

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The weight's change. -/
def delta (g w m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

end Cert.Proof.Adam

end
-- ==== Proof.AdamDownValue.lean ====
/-
  The sum of the eight devices' parts of a row-sharded weight's gradient, with the optimiser's step.
-/
module

public import proofs.«01_k».proof.Defs
public import proofs.«01_k».proof.Proof.Adam
public import proofs.«01_k».proof.Proof.Gen.AdamDownIdeal.Value
public import proofs.«01_k».proof.Proof.Gen.AdamDownRefIdeal.Run
public import proofs.«01_k».proof.Proof.Gen.AdamDownRefIdeal.Read
public import Idealize.ShloMosaic.Lib.Pipeline.ValueKit
public import Idealize.ShloMosaic.Lib.Pipeline.ReadBack
public import Idealize.ShloMosaic.Lib.Pointwise

@[expose] public section

noncomputable section

namespace Cert.Proof.AdamDown

open Cert.AdamDownIdeal Cert.AdamDownIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![0, t.val, 0] :=
  (by decide +kernel : ∀ t : Fin grid0.N, win0_0.index t = ![0, t.val, 0])
theorem e1 : ∀ t : Fin cfg0.N, win0_1.index t = ![0, t.val, 0] :=
  (by decide +kernel : ∀ t : Fin grid0.N, win0_1.index t = ![0, t.val, 0])
theorem e2 : ∀ t : Fin cfg0.N, win0_2.index t = ![0, t.val, 0] :=
  (by decide +kernel : ∀ t : Fin grid0.N, win0_2.index t = ![0, t.val, 0])
theorem e3 : ∀ t : Fin cfg0.N, win0_3.index t = ![0, t.val, 0] :=
  (by decide +kernel : ∀ t : Fin grid0.N, win0_3.index t = ![0, t.val, 0])
theorem e4 : ∀ t : Fin cfg0.N, win0_4.index t = ![0, t.val, 0] :=
  (by decide +kernel : ∀ t : Fin grid0.N, win0_4.index t = ![0, t.val, 0])
theorem e5 : ∀ t : Fin cfg0.N, win0_5.index t = ![0, t.val, 0] :=
  (by decide +kernel : ∀ t : Fin grid0.N, win0_5.index t = ![0, t.val, 0])
theorem e6 : ∀ t : Fin cfg0.N, win0_6.index t = ![0, t.val, 0] :=
  (by decide +kernel : ∀ t : Fin grid0.N, win0_6.index t = ![0, t.val, 0])
theorem e7 : ∀ t : Fin cfg0.N, win0_7.index t = ![0, t.val, 0] :=
  (by decide +kernel : ∀ t : Fin grid0.N, win0_7.index t = ![0, t.val, 0])

/-- The array row of row `r` of point `t`'s tile. -/
def row (t : Fin cfg0.N) (r : Fin 32) : Fin 352 := ⟨t.val * 32 + r.val, by
  have := t.isLt; have h : cfg0.N = 11 := N_0; omega⟩

variable (c : Dev nD) (t : Fin cfg0.N)

/-- The four arguments' arrays. -/
def A0 : S8x352x1024.Idx → EReal := m ((c : Thread nD τ).loc main_arg0)
def A1 : S1x352x1024.Idx → EReal := m ((c : Thread nD τ).loc main_arg1)
def A2 : S1x352x1024.Idx → EReal := m ((c : Thread nD τ).loc main_arg2)
def A3 : S1x352x1024.Idx → EReal := m ((c : Thread nD τ).loc main_arg3)

/-- Part `j`'s element at row `i` and column `k` of the kernel's arrays. -/
def part (x0 : S8x352x1024.Idx → EReal) (j : Fin 8) (i : Fin 352) (k : Fin 1024) : EReal := x0 (ix3 j i k)
/-- A weight's or moment's element there. -/
def at' (x : S1x352x1024.Idx → EReal) (i : Fin 352) (k : Fin 1024) : EReal := x (ix3 0 i k)

theorem blk0 (j : Fin 8) (r : Fin 32) (k : Fin 1024) : iblk m c 0 t (ix3 j r k) = part (A0 m c) j (row t r) k := by

  blk_ext [iblk, V, part, A0, e0, row]
theorem blk1 (j : Fin 1) (r : Fin 32) (k : Fin 1024) : iblk m c 1 t (ix3 j r k) = at' (A1 m c) (row t r) k := by
  obtain rfl : j = 0 := Subsingleton.elim _ _
  blk_ext [iblk, V, at', A1, e1, row]
theorem blk2 (j : Fin 1) (r : Fin 32) (k : Fin 1024) : iblk m c 2 t (ix3 j r k) = at' (A2 m c) (row t r) k := by
  obtain rfl : j = 0 := Subsingleton.elim _ _
  blk_ext [iblk, V, at', A2, e2, row]
theorem blk3 (j : Fin 1) (r : Fin 32) (k : Fin 1024) : iblk m c 3 t (ix3 j r k) = at' (A3 m c) (row t r) k := by
  obtain rfl : j = 0 := Subsingleton.elim _ _
  blk_ext [iblk, V, at', A3, e3, row]
theorem emb4 (j : Fin 1) (r : Fin 32) (k : Fin 1024) : (win0_4.blk t).view.emb (ix3 j r k) = ix3 j (row t r) k := by
  blk_ext [e4, row]
theorem emb5 (j : Fin 1) (r : Fin 32) (k : Fin 1024) : (win0_5.blk t).view.emb (ix3 j r k) = ix3 j (row t r) k := by
  blk_ext [e5, row]
theorem emb6 (j : Fin 1) (r : Fin 32) (k : Fin 1024) : (win0_6.blk t).view.emb (ix3 j r k) = ix3 j (row t r) k := by
  blk_ext [e6, row]
theorem emb7 (j : Fin 1) (r : Fin 32) (k : Fin 1024) : (win0_7.blk t).view.emb (ix3 j r k) = ix3 j (row t r) k := by
  blk_ext [e7, row]

/-- The gradient: the sum of the eight parts. -/
def grad (x0 : S8x352x1024.Idx → EReal) (i : Fin 352) (k : Fin 1024) : EReal := ∑ j : Fin 8, part x0 j i k

theorem pay (r : Fin 32) (k : Fin 1024) :
    k0_pay8 (F := Ideal) (iblk m c 0 t) (iblk m c 1 t) (iblk m c 2 t) (iblk m c 3 t) (ix2 r k) = grad (A0 m c) (row t r) k := by
  unfold k0_pay8 k0_pay3 grad
  rw [Fin.sum_univ_eight]
  pointwise [blk0]

open Cert.AdamDownRefIdeal.Read

variable (x0 : S8x352x1024.Idx → EReal) (x1 x2 x3 : S1x352x1024.Idx → EReal)

theorem ref_grad (j : Fin 1) (a : Fin 352) (b : Fin 1024) : val_main_v2 (F := Ideal) x0 (ix3 j a b) = grad x0 a b := by
  unfold val_main_v2 val_main_v1 val_main_v0 val_main_cst grad part
  pointwise

theorem ref_first (j : Fin 1) (a : Fin 352) (b : Fin 1024) :
    val_main_v7 (F := Ideal) x0 x2 (ix3 j a b) = Adam.first (grad x0 a b) (x2 (ix3 j a b)) := by
  unfold val_main_v7 val_main_v6 val_main_v5 val_main_v4 val_main_v3 val_main_cst_0 val_main_cst_1 Adam.first
  pointwise [ref_grad]

theorem ref_second (j : Fin 1) (a : Fin 352) (b : Fin 1024) :
    val_main_v13 (F := Ideal) x0 x3 (ix3 j a b) = Adam.second (grad x0 a b) (x3 (ix3 j a b)) := by
  unfold val_main_v13 val_main_v12 val_main_v11 val_main_v10 val_main_v9 val_main_v8 val_main_cst_2 val_main_cst_3 Adam.second
  pointwise [ref_grad]

theorem ref_delta (j : Fin 1) (a : Fin 352) (b : Fin 1024) :
    val_main_v26 (F := Ideal) x0 x1 x2 x3 (ix3 j a b)
      = Adam.delta (grad x0 a b) (x1 (ix3 j a b)) (x2 (ix3 j a b)) (x3 (ix3 j a b)) := by
  unfold val_main_v26 val_main_v25 val_main_v24 val_main_v23 val_main_v22 val_main_v21 val_main_v20 val_main_v19 val_main_v18 val_main_v17 val_main_v16 val_main_v15 val_main_v14 val_main_cst_4 val_main_cst_5 val_main_cst_6 val_main_cst_7 val_main_cst_8 Adam.delta
  pointwise [ref_first, ref_second]

theorem pay_first (r : Fin 32) (k : Fin 1024) (p : FVec Ideal S32x1024 .f32) (g : EReal) (h : p (ix2 r k) = g) :
    k0_pay5 (F := Ideal) p (iblk m c 2 t) (ix2 r k) = Adam.first g (at' (A2 m c) (row t r) k) := by
  unfold k0_pay5 Adam.first
  pointwise [blk2, h]

theorem pay_second (r : Fin 32) (k : Fin 1024) (p : FVec Ideal S32x1024 .f32) (g : EReal) (h : p (ix2 r k) = g) :
    k0_pay6 (F := Ideal) p (iblk m c 3 t) (ix2 r k) = Adam.second g (at' (A3 m c) (row t r) k) := by
  unfold k0_pay6 Adam.second
  pointwise [blk3, h]

theorem out4 (i : Fin 352) (k : Fin 1024) : val_main_v2 (F := Ideal) x0 (ix3 0 i k) = grad x0 i k := by
  rw [ref_grad]
  all_goals rfl

theorem out5 (i : Fin 352) (k : Fin 1024) : val_main_v26 (F := Ideal) x0 x1 x2 x3 (ix3 0 i k) = Adam.delta (grad x0 i k) (at' x1 i k) (at' x2 i k) (at' x3 i k) := by
  rw [ref_delta]
  all_goals rfl

theorem out6 (i : Fin 352) (k : Fin 1024) : val_main_v7 (F := Ideal) x0 x2 (ix3 0 i k) = Adam.first (grad x0 i k) (at' x2 i k) := by
  rw [ref_first]
  all_goals rfl

theorem out7 (i : Fin 352) (k : Fin 1024) : val_main_v13 (F := Ideal) x0 x3 (ix3 0 i k) = Adam.second (grad x0 i k) (at' x3 i k) := by
  rw [ref_second]
  all_goals rfl

theorem final4 : (dats m 0 c).arrAt 4 cfg0.N
    = val_main_v2 (F := Ideal) (m ((c : Thread nD τ).loc main_arg0)) := by
  refine (dats m 0 c).arrAt_eq_of_covers 4 _ (by decide +kernel) fun t hf y => ?_
  blk_simp
  obtain ⟨j, r, k, rfl⟩ : ∃ (j : Fin 1) (r : Fin 32) (k : Fin 1024), y = ix3 j r k := ⟨y 0, y 1, y 2, eq_ix3 y⟩
  obtain rfl : j = 0 := Subsingleton.elim _ _
  rw [after0_4, emb4, out4]
  frame_out
  unfold k0_pay4
  pointwise [pay, blk1, pay_first m c t r k _ _ (pay m c t r k), pay_second m c t r k _ _ (pay m c t r k)]
  rfl

theorem final5 : (dats m 0 c).arrAt 5 cfg0.N
    = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨j, r, k, rfl⟩ : ∃ (j : Fin 1) (r : Fin 32) (k : Fin 1024), y = ix3 j r k := ⟨y 0, y 1, y 2, eq_ix3 y⟩
  obtain rfl : j = 0 := Subsingleton.elim _ _
  rw [after0_5, emb5, out5]
  frame_out
  unfold k0_pay7 Adam.delta
  pointwise [pay, blk1, pay_first m c t r k _ _ (pay m c t r k), pay_second m c t r k _ _ (pay m c t r k)]
  rfl

theorem final6 : (dats m 0 c).arrAt 6 cfg0.N
    = val_main_v7 (F := Ideal) (m ((c : Thread nD τ).loc main_arg0)) (m ((c : Thread nD τ).loc main_arg2)) := by
  refine (dats m 0 c).arrAt_eq_of_covers 6 _ (by decide +kernel) fun t hf y => ?_
  blk_simp
  obtain ⟨j, r, k, rfl⟩ : ∃ (j : Fin 1) (r : Fin 32) (k : Fin 1024), y = ix3 j r k := ⟨y 0, y 1, y 2, eq_ix3 y⟩
  obtain rfl : j = 0 := Subsingleton.elim _ _
  rw [after0_6, emb6, out6]
  frame_out
  unfold k0_pay1
  pointwise [pay, blk1, pay_first m c t r k _ _ (pay m c t r k), pay_second m c t r k _ _ (pay m c t r k)]
  rfl

theorem final7 : (dats m 0 c).arrAt 7 cfg0.N
    = val_main_v13 (F := Ideal) (m ((c : Thread nD τ).loc main_arg0)) (m ((c : Thread nD τ).loc main_arg3)) := by
  refine (dats m 0 c).arrAt_eq_of_covers 7 _ (by decide +kernel) fun t hf y => ?_
  blk_simp
  obtain ⟨j, r, k, rfl⟩ : ∃ (j : Fin 1) (r : Fin 32) (k : Fin 1024), y = ix3 j r k := ⟨y 0, y 1, y 2, eq_ix3 y⟩
  obtain rfl : j = 0 := Subsingleton.elim _ _
  rw [after0_7, emb7, out7]
  frame_out
  unfold k0_pay2
  pointwise [pay, blk1, pay_first m c t r k _ _ (pay m c t r k), pay_second m c t r k _ _ (pay m c t r k)]
  rfl

theorem ref_frame : Cert.quiescent_AdamDownRefIdeal := fun m ρ _ =>
  (θ_run Cert.AdamDownRefIdeal.defs _ _).mono (fun r h => ⟨fun c => (h c).2.2.2.2,
      Idealize.ShloMosaic.sem_eq_zero_of_no_sems (by decide) r.2⟩)
    (Cert.AdamDownRefIdeal.Value.run (F := Ideal) m ρ)

theorem algebraic : Cert.algebraic_AdamDownIdeal_AdamDownRefIdeal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N, Value.run_blocks (F := Ideal) m ρ, ?_⟩
  refine (θ_run Cert.AdamDownRefIdeal.defs _ _).mono (fun r h c => ?_) (Cert.AdamDownRefIdeal.Value.run (F := Ideal) m' ρ')
  obtain ⟨h0, h1, h2, h3, h⟩ := h c
  obtain ⟨a0, a1, a2, a3⟩ := hagree c
  rw [val_main_v2_eq, a0] at h0
  rw [val_main_v26_eq, a0, a1, a2, a3] at h1
  rw [val_main_v7_eq, a0, a2] at h2
  rw [val_main_v13_eq, a0, a3] at h3
  exact ⟨h0.trans (final4 m c).symm, h1.trans (final5 m c).symm, h2.trans (final6 m c).symm, h3.trans (final7 m c).symm, h⟩

end Cert.Proof.AdamDown

end
-- ==== Proof.AdamGateUpValue.lean ====
/-
  The sum of the eight devices' parts of a gate/up matrix's gradient, with the optimiser's step in the transposed layout.
-/
module

public import proofs.«01_k».proof.Defs
public import proofs.«01_k».proof.Proof.Adam
public import proofs.«01_k».proof.Proof.Gen.AdamGateUpIdeal.Value
public import proofs.«01_k».proof.Proof.Gen.AdamGateUpRefIdeal.Run
public import proofs.«01_k».proof.Proof.Gen.AdamGateUpRefIdeal.Read
public import Idealize.ShloMosaic.Lib.Pipeline.ValueKit
public import Idealize.ShloMosaic.Lib.Pipeline.ReadBack
public import Idealize.ShloMosaic.Lib.Pointwise

@[expose] public section

noncomputable section

namespace Cert.Proof.AdamGateUp

open Cert.AdamGateUpIdeal Cert.AdamGateUpIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![0, t.val, 0] :=
  (by decide +kernel : ∀ t : Fin grid0.N, win0_0.index t = ![0, t.val, 0])
theorem e1 : ∀ t : Fin cfg0.N, win0_1.index t = ![0, t.val, 0] :=
  (by decide +kernel : ∀ t : Fin grid0.N, win0_1.index t = ![0, t.val, 0])
theorem e2 : ∀ t : Fin cfg0.N, win0_2.index t = ![0, t.val, 0] :=
  (by decide +kernel : ∀ t : Fin grid0.N, win0_2.index t = ![0, t.val, 0])
theorem e3 : ∀ t : Fin cfg0.N, win0_3.index t = ![0, t.val, 0] :=
  (by decide +kernel : ∀ t : Fin grid0.N, win0_3.index t = ![0, t.val, 0])
theorem e4 : ∀ t : Fin cfg0.N, win0_4.index t = ![0, t.val, 0] :=
  (by decide +kernel : ∀ t : Fin grid0.N, win0_4.index t = ![0, t.val, 0])
theorem e5 : ∀ t : Fin cfg0.N, win0_5.index t = ![0, t.val, 0] :=
  (by decide +kernel : ∀ t : Fin grid0.N, win0_5.index t = ![0, t.val, 0])
theorem e6 : ∀ t : Fin cfg0.N, win0_6.index t = ![0, t.val, 0] :=
  (by decide +kernel : ∀ t : Fin grid0.N, win0_6.index t = ![0, t.val, 0])
theorem e7 : ∀ t : Fin cfg0.N, win0_7.index t = ![0, t.val, 0] :=
  (by decide +kernel : ∀ t : Fin grid0.N, win0_7.index t = ![0, t.val, 0])

/-- The array row of row `r` of point `t`'s tile. -/
def row (t : Fin cfg0.N) (r : Fin 64) : Fin 704 := ⟨t.val * 64 + r.val, by
  have := t.isLt; have h : cfg0.N = 11 := N_0; omega⟩

variable (c : Dev nD) (t : Fin cfg0.N)

/-- The four arguments' arrays. -/
def A0 : S8x704x1024.Idx → EReal := m ((c : Thread nD τ).loc main_arg0)
def A1 : S1x1024x704.Idx → EReal := m ((c : Thread nD τ).loc main_arg1)
def A2 : S1x1024x704.Idx → EReal := m ((c : Thread nD τ).loc main_arg2)
def A3 : S1x1024x704.Idx → EReal := m ((c : Thread nD τ).loc main_arg3)

/-- Part `j`'s element at row `i` and column `k` of the kernel's arrays. -/
def part (x0 : S8x704x1024.Idx → EReal) (j : Fin 8) (i : Fin 704) (k : Fin 1024) : EReal := x0 (ix3 j i k)
/-- A weight's or moment's element there. -/
def at' (x : S1x1024x704.Idx → EReal) (i : Fin 704) (k : Fin 1024) : EReal := x (ix3 0 k i)

theorem blk0 (j : Fin 8) (r : Fin 64) (k : Fin 1024) : iblk m c 0 t (ix3 j r k) = part (A0 m c) j (row t r) k := by

  blk_ext [iblk, V, part, A0, e0, row]
/-- The array the host prepares for window 1. -/
def H1 : S1x704x1024.Idx → EReal := V m c main_v0
theorem H1_eq : H1 m c = transpose S1x704x1024 [0, 2, 1] (A1 m c) transposes_S1x1024x704_S1x704x1024_0_2_1 := by
  unfold H1
  simp only [V, hostOps0]
  after_results_simp
  rfl
theorem H1_apply (j : Fin 1) (i : Fin 704) (k : Fin 1024) : H1 m c (ix3 j i k) = at' (A1 m c) i k := by
  rw [H1_eq]
  unfold at' A1
  pointwise
  all_goals rfl
theorem blk1 (j : Fin 1) (r : Fin 64) (k : Fin 1024) : iblk m c 1 t (ix3 j r k) = at' (A1 m c) (row t r) k := by
  rw [← H1_apply m c j]
  blk_ext [iblk, H1, e1, row]
/-- The array the host prepares for window 2. -/
def H2 : S1x704x1024.Idx → EReal := V m c main_v1
theorem H2_eq : H2 m c = transpose S1x704x1024 [0, 2, 1] (A2 m c) transposes_S1x1024x704_S1x704x1024_0_2_1 := by
  unfold H2
  simp only [V, hostOps0]
  after_results_simp
  rfl
theorem H2_apply (j : Fin 1) (i : Fin 704) (k : Fin 1024) : H2 m c (ix3 j i k) = at' (A2 m c) i k := by
  rw [H2_eq]
  unfold at' A2
  pointwise
  all_goals rfl
theorem blk2 (j : Fin 1) (r : Fin 64) (k : Fin 1024) : iblk m c 2 t (ix3 j r k) = at' (A2 m c) (row t r) k := by
  rw [← H2_apply m c j]
  blk_ext [iblk, H2, e2, row]
/-- The array the host prepares for window 3. -/
def H3 : S1x704x1024.Idx → EReal := V m c main_v2
theorem H3_eq : H3 m c = transpose S1x704x1024 [0, 2, 1] (A3 m c) transposes_S1x1024x704_S1x704x1024_0_2_1 := by
  unfold H3
  simp only [V, hostOps0]
  after_results_simp
  rfl
theorem H3_apply (j : Fin 1) (i : Fin 704) (k : Fin 1024) : H3 m c (ix3 j i k) = at' (A3 m c) i k := by
  rw [H3_eq]
  unfold at' A3
  pointwise
  all_goals rfl
theorem blk3 (j : Fin 1) (r : Fin 64) (k : Fin 1024) : iblk m c 3 t (ix3 j r k) = at' (A3 m c) (row t r) k := by
  rw [← H3_apply m c j]
  blk_ext [iblk, H3, e3, row]
theorem emb4 (j : Fin 1) (r : Fin 64) (k : Fin 1024) : (win0_4.blk t).view.emb (ix3 j r k) = ix3 j (row t r) k := by
  blk_ext [e4, row]
theorem emb5 (j : Fin 1) (r : Fin 64) (k : Fin 1024) : (win0_5.blk t).view.emb (ix3 j r k) = ix3 j (row t r) k := by
  blk_ext [e5, row]
theorem emb6 (j : Fin 1) (r : Fin 64) (k : Fin 1024) : (win0_6.blk t).view.emb (ix3 j r k) = ix3 j (row t r) k := by
  blk_ext [e6, row]
theorem emb7 (j : Fin 1) (r : Fin 64) (k : Fin 1024) : (win0_7.blk t).view.emb (ix3 j r k) = ix3 j (row t r) k := by
  blk_ext [e7, row]

/-- The gradient: the sum of the eight parts. -/
def grad (x0 : S8x704x1024.Idx → EReal) (i : Fin 704) (k : Fin 1024) : EReal := ∑ j : Fin 8, part x0 j i k

theorem pay (r : Fin 64) (k : Fin 1024) :
    k0_pay8 (F := Ideal) (iblk m c 0 t) (iblk m c 1 t) (iblk m c 2 t) (iblk m c 3 t) (ix2 r k) = grad (A0 m c) (row t r) k := by
  unfold k0_pay8 k0_pay3 grad
  rw [Fin.sum_univ_eight]
  pointwise [blk0]

open Cert.AdamGateUpRefIdeal.Read

variable (x0 : S8x704x1024.Idx → EReal) (x1 x2 x3 : S1x1024x704.Idx → EReal)

theorem ref_grad (j : Fin 1) (a : Fin 1024) (b : Fin 704) : val_main_v3 (F := Ideal) x0 (ix3 j a b) = grad x0 b a := by
  unfold val_main_v3 val_main_v2 val_main_v1 val_main_v0 val_main_cst grad part
  pointwise

theorem ref_first (j : Fin 1) (a : Fin 1024) (b : Fin 704) :
    val_main_v8 (F := Ideal) x0 x2 (ix3 j a b) = Adam.first (grad x0 b a) (x2 (ix3 j a b)) := by
  unfold val_main_v8 val_main_v7 val_main_v6 val_main_v5 val_main_v4 val_main_cst_0 val_main_cst_1 Adam.first
  pointwise [ref_grad]

theorem ref_second (j : Fin 1) (a : Fin 1024) (b : Fin 704) :
    val_main_v14 (F := Ideal) x0 x3 (ix3 j a b) = Adam.second (grad x0 b a) (x3 (ix3 j a b)) := by
  unfold val_main_v14 val_main_v13 val_main_v12 val_main_v11 val_main_v10 val_main_v9 val_main_cst_2 val_main_cst_3 Adam.second
  pointwise [ref_grad]

theorem ref_delta (j : Fin 1) (a : Fin 1024) (b : Fin 704) :
    val_main_v27 (F := Ideal) x0 x1 x2 x3 (ix3 j a b)
      = Adam.delta (grad x0 b a) (x1 (ix3 j a b)) (x2 (ix3 j a b)) (x3 (ix3 j a b)) := by
  unfold val_main_v27 val_main_v26 val_main_v25 val_main_v24 val_main_v23 val_main_v22 val_main_v21 val_main_v20 val_main_v19 val_main_v18 val_main_v17 val_main_v16 val_main_v15 val_main_cst_4 val_main_cst_5 val_main_cst_6 val_main_cst_7 val_main_cst_8 Adam.delta
  pointwise [ref_first, ref_second]

theorem pay_first (r : Fin 64) (k : Fin 1024) (p : FVec Ideal S64x1024 .f32) (g : EReal) (h : p (ix2 r k) = g) :
    k0_pay5 (F := Ideal) p (iblk m c 2 t) (ix2 r k) = Adam.first g (at' (A2 m c) (row t r) k) := by
  unfold k0_pay5 Adam.first
  pointwise [blk2, h]

theorem pay_second (r : Fin 64) (k : Fin 1024) (p : FVec Ideal S64x1024 .f32) (g : EReal) (h : p (ix2 r k) = g) :
    k0_pay6 (F := Ideal) p (iblk m c 3 t) (ix2 r k) = Adam.second g (at' (A3 m c) (row t r) k) := by
  unfold k0_pay6 Adam.second
  pointwise [blk3, h]

theorem out4 (i : Fin 704) (k : Fin 1024) : val_main_v28 (F := Ideal) x0 (ix3 0 i k) = grad x0 i k := by
  unfold val_main_v28
  pointwise [ref_grad]
  all_goals rfl

theorem out5 (i : Fin 704) (k : Fin 1024) : val_main_v29 (F := Ideal) x0 x1 x2 x3 (ix3 0 i k) = Adam.delta (grad x0 i k) (at' x1 i k) (at' x2 i k) (at' x3 i k) := by
  unfold val_main_v29
  pointwise [ref_delta]
  all_goals rfl

theorem out6 (i : Fin 704) (k : Fin 1024) : val_main_v30 (F := Ideal) x0 x2 (ix3 0 i k) = Adam.first (grad x0 i k) (at' x2 i k) := by
  unfold val_main_v30
  pointwise [ref_first]
  all_goals rfl

theorem out7 (i : Fin 704) (k : Fin 1024) : val_main_v31 (F := Ideal) x0 x3 (ix3 0 i k) = Adam.second (grad x0 i k) (at' x3 i k) := by
  unfold val_main_v31
  pointwise [ref_second]
  all_goals rfl

theorem final4 : (dats m 0 c).arrAt 4 cfg0.N
    = val_main_v28 (F := Ideal) (m ((c : Thread nD τ).loc main_arg0)) := by
  refine (dats m 0 c).arrAt_eq_of_covers 4 _ (by decide +kernel) fun t hf y => ?_
  blk_simp
  obtain ⟨j, r, k, rfl⟩ : ∃ (j : Fin 1) (r : Fin 64) (k : Fin 1024), y = ix3 j r k := ⟨y 0, y 1, y 2, eq_ix3 y⟩
  obtain rfl : j = 0 := Subsingleton.elim _ _
  rw [after0_4, emb4, out4]
  frame_out
  unfold k0_pay4
  pointwise [pay, blk1, pay_first m c t r k _ _ (pay m c t r k), pay_second m c t r k _ _ (pay m c t r k)]
  rfl

theorem final5 : (dats m 0 c).arrAt 5 cfg0.N
    = val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨j, r, k, rfl⟩ : ∃ (j : Fin 1) (r : Fin 64) (k : Fin 1024), y = ix3 j r k := ⟨y 0, y 1, y 2, eq_ix3 y⟩
  obtain rfl : j = 0 := Subsingleton.elim _ _
  rw [after0_5, emb5, out5]
  frame_out
  unfold k0_pay7 Adam.delta
  pointwise [pay, blk1, pay_first m c t r k _ _ (pay m c t r k), pay_second m c t r k _ _ (pay m c t r k)]
  rfl

theorem final6 : (dats m 0 c).arrAt 6 cfg0.N
    = val_main_v30 (F := Ideal) (m ((c : Thread nD τ).loc main_arg0)) (m ((c : Thread nD τ).loc main_arg2)) := by
  refine (dats m 0 c).arrAt_eq_of_covers 6 _ (by decide +kernel) fun t hf y => ?_
  blk_simp
  obtain ⟨j, r, k, rfl⟩ : ∃ (j : Fin 1) (r : Fin 64) (k : Fin 1024), y = ix3 j r k := ⟨y 0, y 1, y 2, eq_ix3 y⟩
  obtain rfl : j = 0 := Subsingleton.elim _ _
  rw [after0_6, emb6, out6]
  frame_out
  unfold k0_pay1
  pointwise [pay, blk1, pay_first m c t r k _ _ (pay m c t r k), pay_second m c t r k _ _ (pay m c t r k)]
  rfl

theorem final7 : (dats m 0 c).arrAt 7 cfg0.N
    = val_main_v31 (F := Ideal) (m ((c : Thread nD τ).loc main_arg0)) (m ((c : Thread nD τ).loc main_arg3)) := by
  refine (dats m 0 c).arrAt_eq_of_covers 7 _ (by decide +kernel) fun t hf y => ?_
  blk_simp
  obtain ⟨j, r, k, rfl⟩ : ∃ (j : Fin 1) (r : Fin 64) (k : Fin 1024), y = ix3 j r k := ⟨y 0, y 1, y 2, eq_ix3 y⟩
  obtain rfl : j = 0 := Subsingleton.elim _ _
  rw [after0_7, emb7, out7]
  frame_out
  unfold k0_pay2
  pointwise [pay, blk1, pay_first m c t r k _ _ (pay m c t r k), pay_second m c t r k _ _ (pay m c t r k)]
  rfl

theorem ref_frame : Cert.quiescent_AdamGateUpRefIdeal := fun m ρ _ =>
  (θ_run Cert.AdamGateUpRefIdeal.defs _ _).mono (fun r h => ⟨fun c => (h c).2.2.2.2,
      Idealize.ShloMosaic.sem_eq_zero_of_no_sems (by decide) r.2⟩)
    (Cert.AdamGateUpRefIdeal.Value.run (F := Ideal) m ρ)

theorem algebraic : Cert.algebraic_AdamGateUpIdeal_AdamGateUpRefIdeal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N, Value.run_blocks (F := Ideal) m ρ, ?_⟩
  refine (θ_run Cert.AdamGateUpRefIdeal.defs _ _).mono (fun r h c => ?_) (Cert.AdamGateUpRefIdeal.Value.run (F := Ideal) m' ρ')
  obtain ⟨h0, h1, h2, h3, h⟩ := h c
  obtain ⟨a0, a1, a2, a3⟩ := hagree c
  rw [val_main_v28_eq, a0] at h0
  rw [val_main_v29_eq, a0, a1, a2, a3] at h1
  rw [val_main_v30_eq, a0, a2] at h2
  rw [val_main_v31_eq, a0, a3] at h3
  exact ⟨h0.trans (final4 m c).symm, h1.trans (final5 m c).symm, h2.trans (final6 m c).symm, h3.trans (final7 m c).symm, h⟩

end Cert.Proof.AdamGateUp

end
-- ==== Proof.AdamInValue.lean ====
/-
  The sum of the eight devices' parts of the input projection's gradient, with the optimiser's step in the transposed layout as rows of 128.
-/
module

public import proofs.«01_k».proof.Defs
public import proofs.«01_k».proof.Proof.Adam
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pipeline.ValueKit
public import Idealize.ShloMosaic.Lib.Pipeline.ReadBack
public import Idealize.ShloMosaic.Lib.Pointwise

@[expose] public section

noncomputable section

namespace Cert.Proof.AdamIn

open Cert.AdamInIdeal Cert.AdamInIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![0, t.val, 0] :=
  (by decide +kernel : ∀ t : Fin grid0.N, win0_0.index t = ![0, t.val, 0])
theorem e1 : ∀ t : Fin cfg0.N, win0_1.index t = ![0, t.val, 0] :=
  (by decide +kernel : ∀ t : Fin grid0.N, win0_1.index t = ![0, t.val, 0])
theorem e2 : ∀ t : Fin cfg0.N, win0_2.index t = ![0, t.val, 0] :=
  (by decide +kernel : ∀ t : Fin grid0.N, win0_2.index t = ![0, t.val, 0])
theorem e3 : ∀ t : Fin cfg0.N, win0_3.index t = ![0, t.val, 0] :=
  (by decide +kernel : ∀ t : Fin grid0.N, win0_3.index t = ![0, t.val, 0])
theorem e4 : ∀ t : Fin cfg0.N, win0_4.index t = ![0, t.val, 0] :=
  (by decide +kernel : ∀ t : Fin grid0.N, win0_4.index t = ![0, t.val, 0])
theorem e5 : ∀ t : Fin cfg0.N, win0_5.index t = ![0, t.val, 0] :=
  (by decide +kernel : ∀ t : Fin grid0.N, win0_5.index t = ![0, t.val, 0])
theorem e6 : ∀ t : Fin cfg0.N, win0_6.index t = ![0, t.val, 0] :=
  (by decide +kernel : ∀ t : Fin grid0.N, win0_6.index t = ![0, t.val, 0])
theorem e7 : ∀ t : Fin cfg0.N, win0_7.index t = ![0, t.val, 0] :=
  (by decide +kernel : ∀ t : Fin grid0.N, win0_7.index t = ![0, t.val, 0])

/-- The array row of row `r` of point `t`'s tile. -/
def row (t : Fin cfg0.N) (r : Fin 1712) : Fin 10272 := ⟨t.val * 1712 + r.val, by
  have := t.isLt; have h : cfg0.N = 6 := N_0; omega⟩

variable (c : Dev nD) (t : Fin cfg0.N)

/-- The four arguments' arrays. -/
def A0 : S8x10272x128.Idx → EReal := m ((c : Thread nD τ).loc main_arg0)
def A1 : S1x1024x1284.Idx → EReal := m ((c : Thread nD τ).loc main_arg1)
def A2 : S1x1024x1284.Idx → EReal := m ((c : Thread nD τ).loc main_arg2)
def A3 : S1x1024x1284.Idx → EReal := m ((c : Thread nD τ).loc main_arg3)

/-- Part `j`'s element at row `i` and column `k` of the kernel's arrays. -/
def part (x0 : S8x10272x128.Idx → EReal) (j : Fin 8) (i : Fin 10272) (k : Fin 128) : EReal := x0 (ix3 j i k)
/-- A weight's or moment's element there. -/
def at' (x : S1x1024x1284.Idx → EReal) (i : Fin 10272) (k : Fin 128) : EReal := x (ix3 0 ⟨i.val % 8 * 128 + k.val, by omega⟩ ⟨i.val / 8, by omega⟩)

theorem blk0 (j : Fin 8) (r : Fin 1712) (k : Fin 128) : iblk m c 0 t (ix3 j r k) = part (A0 m c) j (row t r) k := by

  blk_ext [iblk, V, part, A0, e0, row]
/-- The array the host prepares for window 1. -/
def H1 : S1x10272x128.Idx → EReal := V m c main_v1
theorem H1_eq : H1 m c = shapeCast S1x10272x128 (transpose S1x1284x1024 [0, 2, 1] (A1 m c) transposes_S1x1024x1284_S1x1284x1024_0_2_1) shapeCasts_S1x1284x1024_S1x10272x128 := by
  unfold H1
  simp only [V, hostOps0]
  after_results_simp
  rfl
theorem H1_apply (j : Fin 1) (i : Fin 10272) (k : Fin 128) : H1 m c (ix3 j i k) = at' (A1 m c) i k := by
  rw [H1_eq]
  unfold at' A1
  pointwise
  all_goals rfl
theorem blk1 (j : Fin 1) (r : Fin 1712) (k : Fin 128) : iblk m c 1 t (ix3 j r k) = at' (A1 m c) (row t r) k := by
  rw [← H1_apply m c j]
  blk_ext [iblk, H1, e1, row]
/-- The array the host prepares for window 2. -/
def H2 : S1x10272x128.Idx → EReal := V m c main_v3
theorem H2_eq : H2 m c = shapeCast S1x10272x128 (transpose S1x1284x1024 [0, 2, 1] (A2 m c) transposes_S1x1024x1284_S1x1284x1024_0_2_1) shapeCasts_S1x1284x1024_S1x10272x128 := by
  unfold H2
  simp only [V, hostOps0]
  after_results_simp
  rfl
theorem H2_apply (j : Fin 1) (i : Fin 10272) (k : Fin 128) : H2 m c (ix3 j i k) = at' (A2 m c) i k := by
  rw [H2_eq]
  unfold at' A2
  pointwise
  all_goals rfl
theorem blk2 (j : Fin 1) (r : Fin 1712) (k : Fin 128) : iblk m c 2 t (ix3 j r k) = at' (A2 m c) (row t r) k := by
  rw [← H2_apply m c j]
  blk_ext [iblk, H2, e2, row]
/-- The array the host prepares for window 3. -/
def H3 : S1x10272x128.Idx → EReal := V m c main_v5
theorem H3_eq : H3 m c = shapeCast S1x10272x128 (transpose S1x1284x1024 [0, 2, 1] (A3 m c) transposes_S1x1024x1284_S1x1284x1024_0_2_1) shapeCasts_S1x1284x1024_S1x10272x128 := by
  unfold H3
  simp only [V, hostOps0]
  after_results_simp
  rfl
theorem H3_apply (j : Fin 1) (i : Fin 10272) (k : Fin 128) : H3 m c (ix3 j i k) = at' (A3 m c) i k := by
  rw [H3_eq]
  unfold at' A3
  pointwise
  all_goals rfl
theorem blk3 (j : Fin 1) (r : Fin 1712) (k : Fin 128) : iblk m c 3 t (ix3 j r k) = at' (A3 m c) (row t r) k := by
  rw [← H3_apply m c j]
  blk_ext [iblk, H3, e3, row]
theorem emb4 (j : Fin 1) (r : Fin 1712) (k : Fin 128) : (win0_4.blk t).view.emb (ix3 j r k) = ix3 j (row t r) k := by
  blk_ext [e4, row]
theorem emb5 (j : Fin 1) (r : Fin 1712) (k : Fin 128) : (win0_5.blk t).view.emb (ix3 j r k) = ix3 j (row t r) k := by
  blk_ext [e5, row]
theorem emb6 (j : Fin 1) (r : Fin 1712) (k : Fin 128) : (win0_6.blk t).view.emb (ix3 j r k) = ix3 j (row t r) k := by
  blk_ext [e6, row]
theorem emb7 (j : Fin 1) (r : Fin 1712) (k : Fin 128) : (win0_7.blk t).view.emb (ix3 j r k) = ix3 j (row t r) k := by
  blk_ext [e7, row]

theorem row_eq (i : Fin 10272) (k : Fin 128) (h) : (⟨i.val / 8 * 8 + (i.val % 8 * 128 + k.val) / 128, h⟩ : Fin 10272) = i :=
  Fin.ext (by simp only; omega)
theorem col_eq (i : Fin 10272) (k : Fin 128) (h) : (⟨(i.val % 8 * 128 + k.val) % 128, h⟩ : Fin 128) = k :=
  Fin.ext (by simp only; omega)

/-- The gradient: the sum of the eight parts. -/
def grad (x0 : S8x10272x128.Idx → EReal) (i : Fin 10272) (k : Fin 128) : EReal := ∑ j : Fin 8, part x0 j i k

theorem pay (r : Fin 1712) (k : Fin 128) :
    k0_pay8 (F := Ideal) (iblk m c 0 t) (iblk m c 1 t) (iblk m c 2 t) (iblk m c 3 t) (ix2 r k) = grad (A0 m c) (row t r) k := by
  unfold k0_pay8 k0_pay3 grad
  rw [Fin.sum_univ_eight]
  pointwise [blk0]

open Cert.AdamInRefIdeal.Read

variable (x0 : S8x10272x128.Idx → EReal) (x1 x2 x3 : S1x1024x1284.Idx → EReal)

theorem ref_grad (j : Fin 1) (a : Fin 1024) (b : Fin 1284) : val_main_v4 (F := Ideal) x0 (ix3 j a b) = grad x0 ⟨b.val * 8 + a.val / 128, by omega⟩ ⟨a.val % 128, by omega⟩ := by
  unfold val_main_v4 val_main_v3 val_main_v2 val_main_v1 val_main_v0 val_main_cst grad part
  pointwise

theorem ref_first (j : Fin 1) (a : Fin 1024) (b : Fin 1284) :
    val_main_v9 (F := Ideal) x0 x2 (ix3 j a b) = Adam.first (grad x0 ⟨b.val * 8 + a.val / 128, by omega⟩ ⟨a.val % 128, by omega⟩) (x2 (ix3 j a b)) := by
  unfold val_main_v9 val_main_v8 val_main_v7 val_main_v6 val_main_v5 val_main_cst_0 val_main_cst_1 Adam.first
  pointwise [ref_grad]

theorem ref_second (j : Fin 1) (a : Fin 1024) (b : Fin 1284) :
    val_main_v15 (F := Ideal) x0 x3 (ix3 j a b) = Adam.second (grad x0 ⟨b.val * 8 + a.val / 128, by omega⟩ ⟨a.val % 128, by omega⟩) (x3 (ix3 j a b)) := by
  unfold val_main_v15 val_main_v14 val_main_v13 val_main_v12 val_main_v11 val_main_v10 val_main_cst_2 val_main_cst_3 Adam.second
  pointwise [ref_grad]

theorem ref_delta (j : Fin 1) (a : Fin 1024) (b : Fin 1284) :
    val_main_v28 (F := Ideal) x0 x1 x2 x3 (ix3 j a b)
      = Adam.delta (grad x0 ⟨b.val * 8 + a.val / 128, by omega⟩ ⟨a.val % 128, by omega⟩) (x1 (ix3 j a b)) (x2 (ix3 j a b)) (x3 (ix3 j a b)) := by
  unfold val_main_v28 val_main_v27 val_main_v26 val_main_v25 val_main_v24 val_main_v23 val_main_v22 val_main_v21 val_main_v20 val_main_v19 val_main_v18 val_main_v17 val_main_v16 val_main_cst_4 val_main_cst_5 val_main_cst_6 val_main_cst_7 val_main_cst_8 Adam.delta
  pointwise [ref_first, ref_second]

theorem pay_first (r : Fin 1712) (k : Fin 128) (p : FVec Ideal S1712x128 .f32) (g : EReal) (h : p (ix2 r k) = g) :
    k0_pay5 (F := Ideal) p (iblk m c 2 t) (ix2 r k) = Adam.first g (at' (A2 m c) (row t r) k) := by
  unfold k0_pay5 Adam.first
  pointwise [blk2, h]

theorem pay_second (r : Fin 1712) (k : Fin 128) (p : FVec Ideal S1712x128 .f32) (g : EReal) (h : p (ix2 r k) = g) :
    k0_pay6 (F := Ideal) p (iblk m c 3 t) (ix2 r k) = Adam.second g (at' (A3 m c) (row t r) k) := by
  unfold k0_pay6 Adam.second
  pointwise [blk3, h]

theorem out4 (i : Fin 10272) (k : Fin 128) : val_main_v30 (F := Ideal) x0 (ix3 0 i k) = grad x0 i k := by
  unfold val_main_v30 val_main_v29
  pointwise [ref_grad]
  rw [row_eq, col_eq]
  all_goals rfl

theorem out5 (i : Fin 10272) (k : Fin 128) : val_main_v32 (F := Ideal) x0 x1 x2 x3 (ix3 0 i k) = Adam.delta (grad x0 i k) (at' x1 i k) (at' x2 i k) (at' x3 i k) := by
  unfold val_main_v32 val_main_v31
  pointwise [ref_delta]
  rw [row_eq, col_eq]
  all_goals rfl

theorem out6 (i : Fin 10272) (k : Fin 128) : val_main_v34 (F := Ideal) x0 x2 (ix3 0 i k) = Adam.first (grad x0 i k) (at' x2 i k) := by
  unfold val_main_v34 val_main_v33
  pointwise [ref_first]
  rw [row_eq, col_eq]
  all_goals rfl

theorem out7 (i : Fin 10272) (k : Fin 128) : val_main_v36 (F := Ideal) x0 x3 (ix3 0 i k) = Adam.second (grad x0 i k) (at' x3 i k) := by
  unfold val_main_v36 val_main_v35
  pointwise [ref_second]
  rw [row_eq, col_eq]
  all_goals rfl

theorem final4 : (dats m 0 c).arrAt 4 cfg0.N
    = val_main_v30 (F := Ideal) (m ((c : Thread nD τ).loc main_arg0)) := by
  refine (dats m 0 c).arrAt_eq_of_covers 4 _ (by decide +kernel) fun t hf y => ?_
  blk_simp
  obtain ⟨j, r, k, rfl⟩ : ∃ (j : Fin 1) (r : Fin 1712) (k : Fin 128), y = ix3 j r k := ⟨y 0, y 1, y 2, eq_ix3 y⟩
  obtain rfl : j = 0 := Subsingleton.elim _ _
  rw [after0_4, emb4, out4]
  frame_out
  unfold k0_pay4
  pointwise [pay, blk1, pay_first m c t r k _ _ (pay m c t r k), pay_second m c t r k _ _ (pay m c t r k)]
  rfl

theorem final5 : (dats m 0 c).arrAt 5 cfg0.N
    = val_main_v32 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨j, r, k, rfl⟩ : ∃ (j : Fin 1) (r : Fin 1712) (k : Fin 128), y = ix3 j r k := ⟨y 0, y 1, y 2, eq_ix3 y⟩
  obtain rfl : j = 0 := Subsingleton.elim _ _
  rw [after0_5, emb5, out5]
  frame_out
  unfold k0_pay7 Adam.delta
  pointwise [pay, blk1, pay_first m c t r k _ _ (pay m c t r k), pay_second m c t r k _ _ (pay m c t r k)]
  rfl

theorem final6 : (dats m 0 c).arrAt 6 cfg0.N
    = val_main_v34 (F := Ideal) (m ((c : Thread nD τ).loc main_arg0)) (m ((c : Thread nD τ).loc main_arg2)) := by
  refine (dats m 0 c).arrAt_eq_of_covers 6 _ (by decide +kernel) fun t hf y => ?_
  blk_simp
  obtain ⟨j, r, k, rfl⟩ : ∃ (j : Fin 1) (r : Fin 1712) (k : Fin 128), y = ix3 j r k := ⟨y 0, y 1, y 2, eq_ix3 y⟩
  obtain rfl : j = 0 := Subsingleton.elim _ _
  rw [after0_6, emb6, out6]
  frame_out
  unfold k0_pay1
  pointwise [pay, blk1, pay_first m c t r k _ _ (pay m c t r k), pay_second m c t r k _ _ (pay m c t r k)]
  rfl

theorem final7 : (dats m 0 c).arrAt 7 cfg0.N
    = val_main_v36 (F := Ideal) (m ((c : Thread nD τ).loc main_arg0)) (m ((c : Thread nD τ).loc main_arg3)) := by
  refine (dats m 0 c).arrAt_eq_of_covers 7 _ (by decide +kernel) fun t hf y => ?_
  blk_simp
  obtain ⟨j, r, k, rfl⟩ : ∃ (j : Fin 1) (r : Fin 1712) (k : Fin 128), y = ix3 j r k := ⟨y 0, y 1, y 2, eq_ix3 y⟩
  obtain rfl : j = 0 := Subsingleton.elim _ _
  rw [after0_7, emb7, out7]
  frame_out
  unfold k0_pay2
  pointwise [pay, blk1, pay_first m c t r k _ _ (pay m c t r k), pay_second m c t r k _ _ (pay m c t r k)]
  rfl

theorem ref_frame : Cert.quiescent_AdamInRefIdeal := fun m ρ _ =>
  (θ_run Cert.AdamInRefIdeal.defs _ _).mono (fun r h => ⟨fun c => (h c).2.2.2.2,
      Idealize.ShloMosaic.sem_eq_zero_of_no_sems (by decide) r.2⟩)
    (Cert.AdamInRefIdeal.Value.run (F := Ideal) m ρ)

theorem algebraic : Cert.algebraic_AdamInIdeal_AdamInRefIdeal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N, Value.run_blocks (F := Ideal) m ρ, ?_⟩
  refine (θ_run Cert.AdamInRefIdeal.defs _ _).mono (fun r h c => ?_) (Cert.AdamInRefIdeal.Value.run (F := Ideal) m' ρ')
  obtain ⟨h0, h1, h2, h3, h⟩ := h c
  obtain ⟨a0, a1, a2, a3⟩ := hagree c
  rw [val_main_v30_eq, a0] at h0
  rw [val_main_v32_eq, a0, a1, a2, a3] at h1
  rw [val_main_v34_eq, a0, a2] at h2
  rw [val_main_v36_eq, a0, a3] at h3
  exact ⟨h0.trans (final4 m c).symm, h1.trans (final5 m c).symm, h2.trans (final6 m c).symm, h3.trans (final7 m c).symm, h⟩

end Cert.Proof.AdamIn

end
-- ==== Proof.AdamKvValue.lean ====
/-
  The sum of the eight devices' parts of the memory projection's gradient, which arrive transposed, with the optimiser's step.
-/
module

public import proofs.«01_k».proof.Defs
public import proofs.«01_k».proof.Proof.Adam
public import proofs.«01_k».proof.Proof.Gen.AdamKvIdeal.Value
public import proofs.«01_k».proof.Proof.Gen.AdamKvRefIdeal.Run
public import proofs.«01_k».proof.Proof.Gen.AdamKvRefIdeal.Read
public import Idealize.ShloMosaic.Lib.Pipeline.ValueKit
public import Idealize.ShloMosaic.Lib.Pipeline.ReadBack
public import Idealize.ShloMosaic.Lib.Pointwise

@[expose] public section

noncomputable section

namespace Cert.Proof.AdamKv

open Cert.AdamKvIdeal Cert.AdamKvIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![0, t.val, 0] :=
  (by decide +kernel : ∀ t : Fin grid0.N, win0_0.index t = ![0, t.val, 0])
theorem e1 : ∀ t : Fin cfg0.N, win0_1.index t = ![0, t.val, 0] :=
  (by decide +kernel : ∀ t : Fin grid0.N, win0_1.index t = ![0, t.val, 0])
theorem e2 : ∀ t : Fin cfg0.N, win0_2.index t = ![0, t.val, 0] :=
  (by decide +kernel : ∀ t : Fin grid0.N, win0_2.index t = ![0, t.val, 0])
theorem e3 : ∀ t : Fin cfg0.N, win0_3.index t = ![0, t.val, 0] :=
  (by decide +kernel : ∀ t : Fin grid0.N, win0_3.index t = ![0, t.val, 0])
theorem e4 : ∀ t : Fin cfg0.N, win0_4.index t = ![0, t.val, 0] :=
  (by decide +kernel : ∀ t : Fin grid0.N, win0_4.index t = ![0, t.val, 0])
theorem e5 : ∀ t : Fin cfg0.N, win0_5.index t = ![0, t.val, 0] :=
  (by decide +kernel : ∀ t : Fin grid0.N, win0_5.index t = ![0, t.val, 0])
theorem e6 : ∀ t : Fin cfg0.N, win0_6.index t = ![0, t.val, 0] :=
  (by decide +kernel : ∀ t : Fin grid0.N, win0_6.index t = ![0, t.val, 0])
theorem e7 : ∀ t : Fin cfg0.N, win0_7.index t = ![0, t.val, 0] :=
  (by decide +kernel : ∀ t : Fin grid0.N, win0_7.index t = ![0, t.val, 0])

/-- The array row of row `r` of point `t`'s tile. -/
def row (t : Fin cfg0.N) (r : Fin 128) : Fin 1024 := ⟨t.val * 128 + r.val, by
  have := t.isLt; have h : cfg0.N = 8 := N_0; omega⟩

variable (c : Dev nD) (t : Fin cfg0.N)

/-- The four arguments' arrays. -/
def A0 : S8x256x1024.Idx → EReal := m ((c : Thread nD τ).loc main_arg0)
def A1 : S1x1024x256.Idx → EReal := m ((c : Thread nD τ).loc main_arg1)
def A2 : S1x1024x256.Idx → EReal := m ((c : Thread nD τ).loc main_arg2)
def A3 : S1x1024x256.Idx → EReal := m ((c : Thread nD τ).loc main_arg3)

/-- Part `j`'s element at row `i` and column `k` of the kernel's arrays. -/
def part (x0 : S8x256x1024.Idx → EReal) (j : Fin 8) (i : Fin 1024) (k : Fin 256) : EReal := x0 (ix3 j k i)
/-- A weight's or moment's element there. -/
def at' (x : S1x1024x256.Idx → EReal) (i : Fin 1024) (k : Fin 256) : EReal := x (ix3 0 i k)

/-- The array the host prepares for window 0. -/
def H0 : S8x1024x256.Idx → EReal := V m c main_v0
theorem H0_eq : H0 m c = transpose S8x1024x256 [0, 2, 1] (A0 m c) transposes_S8x256x1024_S8x1024x256_0_2_1 := by
  unfold H0
  simp only [V, hostOps0]
  after_results_simp
  rfl
theorem H0_apply (j : Fin 8) (i : Fin 1024) (k : Fin 256) : H0 m c (ix3 j i k) = part (A0 m c) j i k := by
  rw [H0_eq]
  unfold part A0
  pointwise
  all_goals rfl
theorem blk0 (j : Fin 8) (r : Fin 128) (k : Fin 256) : iblk m c 0 t (ix3 j r k) = part (A0 m c) j (row t r) k := by
  rw [← H0_apply m c j]
  blk_ext [iblk, H0, e0, row]
theorem blk1 (j : Fin 1) (r : Fin 128) (k : Fin 256) : iblk m c 1 t (ix3 j r k) = at' (A1 m c) (row t r) k := by
  obtain rfl : j = 0 := Subsingleton.elim _ _
  blk_ext [iblk, V, at', A1, e1, row]
theorem blk2 (j : Fin 1) (r : Fin 128) (k : Fin 256) : iblk m c 2 t (ix3 j r k) = at' (A2 m c) (row t r) k := by
  obtain rfl : j = 0 := Subsingleton.elim _ _
  blk_ext [iblk, V, at', A2, e2, row]
theorem blk3 (j : Fin 1) (r : Fin 128) (k : Fin 256) : iblk m c 3 t (ix3 j r k) = at' (A3 m c) (row t r) k := by
  obtain rfl : j = 0 := Subsingleton.elim _ _
  blk_ext [iblk, V, at', A3, e3, row]
theorem emb4 (j : Fin 1) (r : Fin 128) (k : Fin 256) : (win0_4.blk t).view.emb (ix3 j r k) = ix3 j (row t r) k := by
  blk_ext [e4, row]
theorem emb5 (j : Fin 1) (r : Fin 128) (k : Fin 256) : (win0_5.blk t).view.emb (ix3 j r k) = ix3 j (row t r) k := by
  blk_ext [e5, row]
theorem emb6 (j : Fin 1) (r : Fin 128) (k : Fin 256) : (win0_6.blk t).view.emb (ix3 j r k) = ix3 j (row t r) k := by
  blk_ext [e6, row]
theorem emb7 (j : Fin 1) (r : Fin 128) (k : Fin 256) : (win0_7.blk t).view.emb (ix3 j r k) = ix3 j (row t r) k := by
  blk_ext [e7, row]

/-- The gradient: the sum of the eight parts. -/
def grad (x0 : S8x256x1024.Idx → EReal) (i : Fin 1024) (k : Fin 256) : EReal := ∑ j : Fin 8, part x0 j i k

theorem pay (r : Fin 128) (k : Fin 256) :
    k0_pay8 (F := Ideal) (iblk m c 0 t) (iblk m c 1 t) (iblk m c 2 t) (iblk m c 3 t) (ix2 r k) = grad (A0 m c) (row t r) k := by
  unfold k0_pay8 k0_pay3 grad
  rw [Fin.sum_univ_eight]
  pointwise [blk0]

open Cert.AdamKvRefIdeal.Read

variable (x0 : S8x256x1024.Idx → EReal) (x1 x2 x3 : S1x1024x256.Idx → EReal)

theorem ref_grad (j : Fin 1) (a : Fin 1024) (b : Fin 256) : val_main_v3 (F := Ideal) x0 (ix3 j a b) = grad x0 a b := by
  unfold val_main_v3 val_main_v2 val_main_v1 val_main_v0 val_main_cst grad part
  pointwise

theorem ref_first (j : Fin 1) (a : Fin 1024) (b : Fin 256) :
    val_main_v8 (F := Ideal) x0 x2 (ix3 j a b) = Adam.first (grad x0 a b) (x2 (ix3 j a b)) := by
  unfold val_main_v8 val_main_v7 val_main_v6 val_main_v5 val_main_v4 val_main_cst_0 val_main_cst_1 Adam.first
  pointwise [ref_grad]

theorem ref_second (j : Fin 1) (a : Fin 1024) (b : Fin 256) :
    val_main_v14 (F := Ideal) x0 x3 (ix3 j a b) = Adam.second (grad x0 a b) (x3 (ix3 j a b)) := by
  unfold val_main_v14 val_main_v13 val_main_v12 val_main_v11 val_main_v10 val_main_v9 val_main_cst_2 val_main_cst_3 Adam.second
  pointwise [ref_grad]

theorem ref_delta (j : Fin 1) (a : Fin 1024) (b : Fin 256) :
    val_main_v27 (F := Ideal) x0 x1 x2 x3 (ix3 j a b)
      = Adam.delta (grad x0 a b) (x1 (ix3 j a b)) (x2 (ix3 j a b)) (x3 (ix3 j a b)) := by
  unfold val_main_v27 val_main_v26 val_main_v25 val_main_v24 val_main_v23 val_main_v22 val_main_v21 val_main_v20 val_main_v19 val_main_v18 val_main_v17 val_main_v16 val_main_v15 val_main_cst_4 val_main_cst_5 val_main_cst_6 val_main_cst_7 val_main_cst_8 Adam.delta
  pointwise [ref_first, ref_second]

theorem pay_first (r : Fin 128) (k : Fin 256) (p : FVec Ideal S128x256 .f32) (g : EReal) (h : p (ix2 r k) = g) :
    k0_pay5 (F := Ideal) p (iblk m c 2 t) (ix2 r k) = Adam.first g (at' (A2 m c) (row t r) k) := by
  unfold k0_pay5 Adam.first
  pointwise [blk2, h]

theorem pay_second (r : Fin 128) (k : Fin 256) (p : FVec Ideal S128x256 .f32) (g : EReal) (h : p (ix2 r k) = g) :
    k0_pay6 (F := Ideal) p (iblk m c 3 t) (ix2 r k) = Adam.second g (at' (A3 m c) (row t r) k) := by
  unfold k0_pay6 Adam.second
  pointwise [blk3, h]

theorem out4 (i : Fin 1024) (k : Fin 256) : val_main_v3 (F := Ideal) x0 (ix3 0 i k) = grad x0 i k := by
  rw [ref_grad]
  all_goals rfl

theorem out5 (i : Fin 1024) (k : Fin 256) : val_main_v27 (F := Ideal) x0 x1 x2 x3 (ix3 0 i k) = Adam.delta (grad x0 i k) (at' x1 i k) (at' x2 i k) (at' x3 i k) := by
  rw [ref_delta]
  all_goals rfl

theorem out6 (i : Fin 1024) (k : Fin 256) : val_main_v8 (F := Ideal) x0 x2 (ix3 0 i k) = Adam.first (grad x0 i k) (at' x2 i k) := by
  rw [ref_first]
  all_goals rfl

theorem out7 (i : Fin 1024) (k : Fin 256) : val_main_v14 (F := Ideal) x0 x3 (ix3 0 i k) = Adam.second (grad x0 i k) (at' x3 i k) := by
  rw [ref_second]
  all_goals rfl

theorem final4 : (dats m 0 c).arrAt 4 cfg0.N
    = val_main_v3 (F := Ideal) (m ((c : Thread nD τ).loc main_arg0)) := by
  refine (dats m 0 c).arrAt_eq_of_covers 4 _ (by decide +kernel) fun t hf y => ?_
  blk_simp
  obtain ⟨j, r, k, rfl⟩ : ∃ (j : Fin 1) (r : Fin 128) (k : Fin 256), y = ix3 j r k := ⟨y 0, y 1, y 2, eq_ix3 y⟩
  obtain rfl : j = 0 := Subsingleton.elim _ _
  rw [after0_4, emb4, out4]
  frame_out
  unfold k0_pay4
  pointwise [pay, blk1, pay_first m c t r k _ _ (pay m c t r k), pay_second m c t r k _ _ (pay m c t r k)]
  rfl

theorem final5 : (dats m 0 c).arrAt 5 cfg0.N
    = val_main_v27 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨j, r, k, rfl⟩ : ∃ (j : Fin 1) (r : Fin 128) (k : Fin 256), y = ix3 j r k := ⟨y 0, y 1, y 2, eq_ix3 y⟩
  obtain rfl : j = 0 := Subsingleton.elim _ _
  rw [after0_5, emb5, out5]
  frame_out
  unfold k0_pay7 Adam.delta
  pointwise [pay, blk1, pay_first m c t r k _ _ (pay m c t r k), pay_second m c t r k _ _ (pay m c t r k)]
  rfl

theorem final6 : (dats m 0 c).arrAt 6 cfg0.N
    = val_main_v8 (F := Ideal) (m ((c : Thread nD τ).loc main_arg0)) (m ((c : Thread nD τ).loc main_arg2)) := by
  refine (dats m 0 c).arrAt_eq_of_covers 6 _ (by decide +kernel) fun t hf y => ?_
  blk_simp
  obtain ⟨j, r, k, rfl⟩ : ∃ (j : Fin 1) (r : Fin 128) (k : Fin 256), y = ix3 j r k := ⟨y 0, y 1, y 2, eq_ix3 y⟩
  obtain rfl : j = 0 := Subsingleton.elim _ _
  rw [after0_6, emb6, out6]
  frame_out
  unfold k0_pay1
  pointwise [pay, blk1, pay_first m c t r k _ _ (pay m c t r k), pay_second m c t r k _ _ (pay m c t r k)]
  rfl

theorem final7 : (dats m 0 c).arrAt 7 cfg0.N
    = val_main_v14 (F := Ideal) (m ((c : Thread nD τ).loc main_arg0)) (m ((c : Thread nD τ).loc main_arg3)) := by
  refine (dats m 0 c).arrAt_eq_of_covers 7 _ (by decide +kernel) fun t hf y => ?_
  blk_simp
  obtain ⟨j, r, k, rfl⟩ : ∃ (j : Fin 1) (r : Fin 128) (k : Fin 256), y = ix3 j r k := ⟨y 0, y 1, y 2, eq_ix3 y⟩
  obtain rfl : j = 0 := Subsingleton.elim _ _
  rw [after0_7, emb7, out7]
  frame_out
  unfold k0_pay2
  pointwise [pay, blk1, pay_first m c t r k _ _ (pay m c t r k), pay_second m c t r k _ _ (pay m c t r k)]
  rfl

theorem ref_frame : Cert.quiescent_AdamKvRefIdeal := fun m ρ _ =>
  (θ_run Cert.AdamKvRefIdeal.defs _ _).mono (fun r h => ⟨fun c => (h c).2.2.2.2,
      Idealize.ShloMosaic.sem_eq_zero_of_no_sems (by decide) r.2⟩)
    (Cert.AdamKvRefIdeal.Value.run (F := Ideal) m ρ)

theorem algebraic : Cert.algebraic_AdamKvIdeal_AdamKvRefIdeal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N, Value.run_blocks (F := Ideal) m ρ, ?_⟩
  refine (θ_run Cert.AdamKvRefIdeal.defs _ _).mono (fun r h c => ?_) (Cert.AdamKvRefIdeal.Value.run (F := Ideal) m' ρ')
  obtain ⟨h0, h1, h2, h3, h⟩ := h c
  obtain ⟨a0, a1, a2, a3⟩ := hagree c
  rw [val_main_v3_eq, a0] at h0
  rw [val_main_v27_eq, a0, a1, a2, a3] at h1
  rw [val_main_v8_eq, a0, a2] at h2
  rw [val_main_v14_eq, a0, a3] at h3
  exact ⟨h0.trans (final4 m c).symm, h1.trans (final5 m c).symm, h2.trans (final6 m c).symm, h3.trans (final7 m c).symm, h⟩

end Cert.Proof.AdamKv

end
-- ==== Proof.AdamOutValue.lean ====
/-
  The sum of the eight devices' parts of a row-sharded weight's gradient, with the optimiser's step.
-/
module

public import proofs.«01_k».proof.Defs
public import proofs.«01_k».proof.Proof.Adam
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.ValueKit
public import Idealize.ShloMosaic.Lib.Pipeline.ReadBack
public import Idealize.ShloMosaic.Lib.Pointwise

@[expose] public section

noncomputable section

namespace Cert.Proof.AdamOut

open Cert.AdamOutIdeal Cert.AdamOutIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![0, t.val, 0] :=
  (by decide +kernel : ∀ t : Fin grid0.N, win0_0.index t = ![0, t.val, 0])
theorem e1 : ∀ t : Fin cfg0.N, win0_1.index t = ![0, t.val, 0] :=
  (by decide +kernel : ∀ t : Fin grid0.N, win0_1.index t = ![0, t.val, 0])
theorem e2 : ∀ t : Fin cfg0.N, win0_2.index t = ![0, t.val, 0] :=
  (by decide +kernel : ∀ t : Fin grid0.N, win0_2.index t = ![0, t.val, 0])
theorem e3 : ∀ t : Fin cfg0.N, win0_3.index t = ![0, t.val, 0] :=
  (by decide +kernel : ∀ t : Fin grid0.N, win0_3.index t = ![0, t.val, 0])
theorem e4 : ∀ t : Fin cfg0.N, win0_4.index t = ![0, t.val, 0] :=
  (by decide +kernel : ∀ t : Fin grid0.N, win0_4.index t = ![0, t.val, 0])
theorem e5 : ∀ t : Fin cfg0.N, win0_5.index t = ![0, t.val, 0] :=
  (by decide +kernel : ∀ t : Fin grid0.N, win0_5.index t = ![0, t.val, 0])
theorem e6 : ∀ t : Fin cfg0.N, win0_6.index t = ![0, t.val, 0] :=
  (by decide +kernel : ∀ t : Fin grid0.N, win0_6.index t = ![0, t.val, 0])
theorem e7 : ∀ t : Fin cfg0.N, win0_7.index t = ![0, t.val, 0] :=
  (by decide +kernel : ∀ t : Fin grid0.N, win0_7.index t = ![0, t.val, 0])

/-- The array row of row `r` of point `t`'s tile. -/
def row (t : Fin cfg0.N) (r : Fin 128) : Fin 128 := ⟨t.val * 128 + r.val, by
  have := t.isLt; have h : cfg0.N = 1 := N_0; omega⟩

variable (c : Dev nD) (t : Fin cfg0.N)

/-- The four arguments' arrays. -/
def A0 : S8x128x1024.Idx → EReal := m ((c : Thread nD τ).loc main_arg0)
def A1 : S1x128x1024.Idx → EReal := m ((c : Thread nD τ).loc main_arg1)
def A2 : S1x128x1024.Idx → EReal := m ((c : Thread nD τ).loc main_arg2)
def A3 : S1x128x1024.Idx → EReal := m ((c : Thread nD τ).loc main_arg3)

/-- Part `j`'s element at row `i` and column `k` of the kernel's arrays. -/
def part (x0 : S8x128x1024.Idx → EReal) (j : Fin 8) (i : Fin 128) (k : Fin 1024) : EReal := x0 (ix3 j i k)
/-- A weight's or moment's element there. -/
def at' (x : S1x128x1024.Idx → EReal) (i : Fin 128) (k : Fin 1024) : EReal := x (ix3 0 i k)

theorem blk0 (j : Fin 8) (r : Fin 128) (k : Fin 1024) : iblk m c 0 t (ix3 j r k) = part (A0 m c) j (row t r) k := by

  blk_ext [iblk, V, part, A0, e0, row]
theorem blk1 (j : Fin 1) (r : Fin 128) (k : Fin 1024) : iblk m c 1 t (ix3 j r k) = at' (A1 m c) (row t r) k := by
  obtain rfl : j = 0 := Subsingleton.elim _ _
  blk_ext [iblk, V, at', A1, e1, row]
theorem blk2 (j : Fin 1) (r : Fin 128) (k : Fin 1024) : iblk m c 2 t (ix3 j r k) = at' (A2 m c) (row t r) k := by
  obtain rfl : j = 0 := Subsingleton.elim _ _
  blk_ext [iblk, V, at', A2, e2, row]
theorem blk3 (j : Fin 1) (r : Fin 128) (k : Fin 1024) : iblk m c 3 t (ix3 j r k) = at' (A3 m c) (row t r) k := by
  obtain rfl : j = 0 := Subsingleton.elim _ _
  blk_ext [iblk, V, at', A3, e3, row]
theorem emb4 (j : Fin 1) (r : Fin 128) (k : Fin 1024) : (win0_4.blk t).view.emb (ix3 j r k) = ix3 j (row t r) k := by
  blk_ext [e4, row]
theorem emb5 (j : Fin 1) (r : Fin 128) (k : Fin 1024) : (win0_5.blk t).view.emb (ix3 j r k) = ix3 j (row t r) k := by
  blk_ext [e5, row]
theorem emb6 (j : Fin 1) (r : Fin 128) (k : Fin 1024) : (win0_6.blk t).view.emb (ix3 j r k) = ix3 j (row t r) k := by
  blk_ext [e6, row]
theorem emb7 (j : Fin 1) (r : Fin 128) (k : Fin 1024) : (win0_7.blk t).view.emb (ix3 j r k) = ix3 j (row t r) k := by
  blk_ext [e7, row]

/-- The gradient: the sum of the eight parts. -/
def grad (x0 : S8x128x1024.Idx → EReal) (i : Fin 128) (k : Fin 1024) : EReal := ∑ j : Fin 8, part x0 j i k

theorem pay (r : Fin 128) (k : Fin 1024) :
    k0_pay8 (F := Ideal) (iblk m c 0 t) (iblk m c 1 t) (iblk m c 2 t) (iblk m c 3 t) (ix2 r k) = grad (A0 m c) (row t r) k := by
  unfold k0_pay8 k0_pay3 grad
  rw [Fin.sum_univ_eight]
  pointwise [blk0]

open Cert.AdamOutRefIdeal.Read

variable (x0 : S8x128x1024.Idx → EReal) (x1 x2 x3 : S1x128x1024.Idx → EReal)

theorem ref_grad (j : Fin 1) (a : Fin 128) (b : Fin 1024) : val_main_v2 (F := Ideal) x0 (ix3 j a b) = grad x0 a b := by
  unfold val_main_v2 val_main_v1 val_main_v0 val_main_cst grad part
  pointwise

theorem ref_first (j : Fin 1) (a : Fin 128) (b : Fin 1024) :
    val_main_v7 (F := Ideal) x0 x2 (ix3 j a b) = Adam.first (grad x0 a b) (x2 (ix3 j a b)) := by
  unfold val_main_v7 val_main_v6 val_main_v5 val_main_v4 val_main_v3 val_main_cst_0 val_main_cst_1 Adam.first
  pointwise [ref_grad]

theorem ref_second (j : Fin 1) (a : Fin 128) (b : Fin 1024) :
    val_main_v13 (F := Ideal) x0 x3 (ix3 j a b) = Adam.second (grad x0 a b) (x3 (ix3 j a b)) := by
  unfold val_main_v13 val_main_v12 val_main_v11 val_main_v10 val_main_v9 val_main_v8 val_main_cst_2 val_main_cst_3 Adam.second
  pointwise [ref_grad]

theorem ref_delta (j : Fin 1) (a : Fin 128) (b : Fin 1024) :
    val_main_v26 (F := Ideal) x0 x1 x2 x3 (ix3 j a b)
      = Adam.delta (grad x0 a b) (x1 (ix3 j a b)) (x2 (ix3 j a b)) (x3 (ix3 j a b)) := by
  unfold val_main_v26 val_main_v25 val_main_v24 val_main_v23 val_main_v22 val_main_v21 val_main_v20 val_main_v19 val_main_v18 val_main_v17 val_main_v16 val_main_v15 val_main_v14 val_main_cst_4 val_main_cst_5 val_main_cst_6 val_main_cst_7 val_main_cst_8 Adam.delta
  pointwise [ref_first, ref_second]

theorem pay_first (r : Fin 128) (k : Fin 1024) (p : FVec Ideal S128x1024 .f32) (g : EReal) (h : p (ix2 r k) = g) :
    k0_pay5 (F := Ideal) p (iblk m c 2 t) (ix2 r k) = Adam.first g (at' (A2 m c) (row t r) k) := by
  unfold k0_pay5 Adam.first
  pointwise [blk2, h]

theorem pay_second (r : Fin 128) (k : Fin 1024) (p : FVec Ideal S128x1024 .f32) (g : EReal) (h : p (ix2 r k) = g) :
    k0_pay6 (F := Ideal) p (iblk m c 3 t) (ix2 r k) = Adam.second g (at' (A3 m c) (row t r) k) := by
  unfold k0_pay6 Adam.second
  pointwise [blk3, h]

theorem out4 (i : Fin 128) (k : Fin 1024) : val_main_v2 (F := Ideal) x0 (ix3 0 i k) = grad x0 i k := by
  rw [ref_grad]
  all_goals rfl

theorem out5 (i : Fin 128) (k : Fin 1024) : val_main_v26 (F := Ideal) x0 x1 x2 x3 (ix3 0 i k) = Adam.delta (grad x0 i k) (at' x1 i k) (at' x2 i k) (at' x3 i k) := by
  rw [ref_delta]
  all_goals rfl

theorem out6 (i : Fin 128) (k : Fin 1024) : val_main_v7 (F := Ideal) x0 x2 (ix3 0 i k) = Adam.first (grad x0 i k) (at' x2 i k) := by
  rw [ref_first]
  all_goals rfl

theorem out7 (i : Fin 128) (k : Fin 1024) : val_main_v13 (F := Ideal) x0 x3 (ix3 0 i k) = Adam.second (grad x0 i k) (at' x3 i k) := by
  rw [ref_second]
  all_goals rfl

theorem final4 : (dats m 0 c).arrAt 4 cfg0.N
    = val_main_v2 (F := Ideal) (m ((c : Thread nD τ).loc main_arg0)) := by
  refine (dats m 0 c).arrAt_eq_of_covers 4 _ (by decide +kernel) fun t hf y => ?_
  blk_simp
  obtain ⟨j, r, k, rfl⟩ : ∃ (j : Fin 1) (r : Fin 128) (k : Fin 1024), y = ix3 j r k := ⟨y 0, y 1, y 2, eq_ix3 y⟩
  obtain rfl : j = 0 := Subsingleton.elim _ _
  rw [after0_4, emb4, out4]
  frame_out
  unfold k0_pay4
  pointwise [pay, blk1, pay_first m c t r k _ _ (pay m c t r k), pay_second m c t r k _ _ (pay m c t r k)]
  rfl

theorem final5 : (dats m 0 c).arrAt 5 cfg0.N
    = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨j, r, k, rfl⟩ : ∃ (j : Fin 1) (r : Fin 128) (k : Fin 1024), y = ix3 j r k := ⟨y 0, y 1, y 2, eq_ix3 y⟩
  obtain rfl : j = 0 := Subsingleton.elim _ _
  rw [after0_5, emb5, out5]
  frame_out
  unfold k0_pay7 Adam.delta
  pointwise [pay, blk1, pay_first m c t r k _ _ (pay m c t r k), pay_second m c t r k _ _ (pay m c t r k)]
  rfl

theorem final6 : (dats m 0 c).arrAt 6 cfg0.N
    = val_main_v7 (F := Ideal) (m ((c : Thread nD τ).loc main_arg0)) (m ((c : Thread nD τ).loc main_arg2)) := by
  refine (dats m 0 c).arrAt_eq_of_covers 6 _ (by decide +kernel) fun t hf y => ?_
  blk_simp
  obtain ⟨j, r, k, rfl⟩ : ∃ (j : Fin 1) (r : Fin 128) (k : Fin 1024), y = ix3 j r k := ⟨y 0, y 1, y 2, eq_ix3 y⟩
  obtain rfl : j = 0 := Subsingleton.elim _ _
  rw [after0_6, emb6, out6]
  frame_out
  unfold k0_pay1
  pointwise [pay, blk1, pay_first m c t r k _ _ (pay m c t r k), pay_second m c t r k _ _ (pay m c t r k)]
  rfl

theorem final7 : (dats m 0 c).arrAt 7 cfg0.N
    = val_main_v13 (F := Ideal) (m ((c : Thread nD τ).loc main_arg0)) (m ((c : Thread nD τ).loc main_arg3)) := by
  refine (dats m 0 c).arrAt_eq_of_covers 7 _ (by decide +kernel) fun t hf y => ?_
  blk_simp
  obtain ⟨j, r, k, rfl⟩ : ∃ (j : Fin 1) (r : Fin 128) (k : Fin 1024), y = ix3 j r k := ⟨y 0, y 1, y 2, eq_ix3 y⟩
  obtain rfl : j = 0 := Subsingleton.elim _ _
  rw [after0_7, emb7, out7]
  frame_out
  unfold k0_pay2
  pointwise [pay, blk1, pay_first m c t r k _ _ (pay m c t r k), pay_second m c t r k _ _ (pay m c t r k)]
  rfl

theorem ref_frame : Cert.quiescent_AdamOutRefIdeal := fun m ρ _ =>
  (θ_run Cert.AdamOutRefIdeal.defs _ _).mono (fun r h => ⟨fun c => (h c).2.2.2.2,
      Idealize.ShloMosaic.sem_eq_zero_of_no_sems (by decide) r.2⟩)
    (Cert.AdamOutRefIdeal.Value.run (F := Ideal) m ρ)

theorem algebraic : Cert.algebraic_AdamOutIdeal_AdamOutRefIdeal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N, Value.run_blocks (F := Ideal) m ρ, ?_⟩
  refine (θ_run Cert.AdamOutRefIdeal.defs _ _).mono (fun r h c => ?_) (Cert.AdamOutRefIdeal.Value.run (F := Ideal) m' ρ')
  obtain ⟨h0, h1, h2, h3, h⟩ := h c
  obtain ⟨a0, a1, a2, a3⟩ := hagree c
  rw [val_main_v2_eq, a0] at h0
  rw [val_main_v26_eq, a0, a1, a2, a3] at h1
  rw [val_main_v7_eq, a0, a2] at h2
  rw [val_main_v13_eq, a0, a3] at h3
  exact ⟨h0.trans (final4 m c).symm, h1.trans (final5 m c).symm, h2.trans (final6 m c).symm, h3.trans (final7 m c).symm, h⟩

end Cert.Proof.AdamOut

end
-- ==== Proof.AdamSmallValue.lean ====
/-
  The optimiser's step of the small weights, all packed in rows of one array: the kernel applies the same operations to every
  element as the reference.
-/
module

public import proofs.«01_k».proof.Defs
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Pointwise

@[expose] public section

noncomputable section

namespace Cert.Proof.AdamSmall

open Cert.AdamSmallIdeal Cert.AdamSmallIdeal.Gen Idealize.ShloMosaic Idealize.ShloMosaic.TcCoe Idealize.SL.Sem
open Cert.AdamSmallRefIdeal.Read

variable (g w p v : S136x128.Idx → EReal)

theorem changed : Value.G4 (F := Ideal) w g p v = val_main_v23 (F := Ideal) g w p v := rfl
theorem first : Value.G5 (F := Ideal) g p = val_main_v4 (F := Ideal) g p := rfl
theorem second : Value.G6 (F := Ideal) g v = val_main_v10 (F := Ideal) g v := rfl

theorem ref_frame : Cert.quiescent_AdamSmallRefIdeal := fun m ρ _ =>
  (θ_run Cert.AdamSmallRefIdeal.defs _ _).mono (fun r h => ⟨fun c => (h c).2.2.2,
      Idealize.ShloMosaic.sem_eq_zero_of_no_sems (by decide) r.2⟩)
    (Cert.AdamSmallRefIdeal.Value.run (F := Ideal) m ρ)

theorem algebraic : Cert.algebraic_AdamSmallIdeal_AdamSmallRefIdeal := by
  intro m ρ m' ρ' _ hagree
  refine ⟨_, _, _, Value.run (F := Ideal) m ρ, ?_⟩
  refine (θ_run Cert.AdamSmallRefIdeal.defs _ _).mono (fun r h c => ?_) (Cert.AdamSmallRefIdeal.Value.run (F := Ideal) m' ρ')
  obtain ⟨h0, h1, h2, h⟩ := h c
  obtain ⟨a0, a1, a2, a3⟩ := hagree c
  rw [val_main_v23_eq, a0, a1, a2, a3] at h0
  rw [val_main_v4_eq, a0, a2] at h1
  rw [val_main_v10_eq, a0, a3] at h2
  exact ⟨h0.trans (changed _ _ _ _).symm, h1.trans (first _ _).symm, h2.trans (second _ _).symm, h⟩

end Cert.Proof.AdamSmall

end
-- ==== Proof.AdamSsmValue.lean ====
/-
  The sum of the eight devices' parts of a row-sharded weight's gradient, with the optimiser's step.
-/
module

public import proofs.«01_k».proof.Defs
public import proofs.«01_k».proof.Proof.Adam
public import proofs.«01_k».proof.Proof.Gen.AdamSsmIdeal.Value
public import proofs.«01_k».proof.Proof.Gen.AdamSsmRefIdeal.Run
public import proofs.«01_k».proof.Proof.Gen.AdamSsmRefIdeal.Read
public import Idealize.ShloMosaic.Lib.Pipeline.ValueKit
public import Idealize.ShloMosaic.Lib.Pipeline.ReadBack
public import Idealize.ShloMosaic.Lib.Pointwise

@[expose] public section

noncomputable section

namespace Cert.Proof.AdamSsm

open Cert.AdamSsmIdeal Cert.AdamSsmIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![0, t.val, 0] :=
  (by decide +kernel : ∀ t : Fin grid0.N, win0_0.index t = ![0, t.val, 0])
theorem e1 : ∀ t : Fin cfg0.N, win0_1.index t = ![0, t.val, 0] :=
  (by decide +kernel : ∀ t : Fin grid0.N, win0_1.index t = ![0, t.val, 0])
theorem e2 : ∀ t : Fin cfg0.N, win0_2.index t = ![0, t.val, 0] :=
  (by decide +kernel : ∀ t : Fin grid0.N, win0_2.index t = ![0, t.val, 0])
theorem e3 : ∀ t : Fin cfg0.N, win0_3.index t = ![0, t.val, 0] :=
  (by decide +kernel : ∀ t : Fin grid0.N, win0_3.index t = ![0, t.val, 0])
theorem e4 : ∀ t : Fin cfg0.N, win0_4.index t = ![0, t.val, 0] :=
  (by decide +kernel : ∀ t : Fin grid0.N, win0_4.index t = ![0, t.val, 0])
theorem e5 : ∀ t : Fin cfg0.N, win0_5.index t = ![0, t.val, 0] :=
  (by decide +kernel : ∀ t : Fin grid0.N, win0_5.index t = ![0, t.val, 0])
theorem e6 : ∀ t : Fin cfg0.N, win0_6.index t = ![0, t.val, 0] :=
  (by decide +kernel : ∀ t : Fin grid0.N, win0_6.index t = ![0, t.val, 0])
theorem e7 : ∀ t : Fin cfg0.N, win0_7.index t = ![0, t.val, 0] :=
  (by decide +kernel : ∀ t : Fin grid0.N, win0_7.index t = ![0, t.val, 0])

/-- The array row of row `r` of point `t`'s tile. -/
def row (t : Fin cfg0.N) (r : Fin 128) : Fin 256 := ⟨t.val * 128 + r.val, by
  have := t.isLt; have h : cfg0.N = 2 := N_0; omega⟩

variable (c : Dev nD) (t : Fin cfg0.N)

/-- The four arguments' arrays. -/
def A0 : S8x256x1024.Idx → EReal := m ((c : Thread nD τ).loc main_arg0)
def A1 : S1x256x1024.Idx → EReal := m ((c : Thread nD τ).loc main_arg1)
def A2 : S1x256x1024.Idx → EReal := m ((c : Thread nD τ).loc main_arg2)
def A3 : S1x256x1024.Idx → EReal := m ((c : Thread nD τ).loc main_arg3)

/-- Part `j`'s element at row `i` and column `k` of the kernel's arrays. -/
def part (x0 : S8x256x1024.Idx → EReal) (j : Fin 8) (i : Fin 256) (k : Fin 1024) : EReal := x0 (ix3 j i k)
/-- A weight's or moment's element there. -/
def at' (x : S1x256x1024.Idx → EReal) (i : Fin 256) (k : Fin 1024) : EReal := x (ix3 0 i k)

theorem blk0 (j : Fin 8) (r : Fin 128) (k : Fin 1024) : iblk m c 0 t (ix3 j r k) = part (A0 m c) j (row t r) k := by

  blk_ext [iblk, V, part, A0, e0, row]
theorem blk1 (j : Fin 1) (r : Fin 128) (k : Fin 1024) : iblk m c 1 t (ix3 j r k) = at' (A1 m c) (row t r) k := by
  obtain rfl : j = 0 := Subsingleton.elim _ _
  blk_ext [iblk, V, at', A1, e1, row]
theorem blk2 (j : Fin 1) (r : Fin 128) (k : Fin 1024) : iblk m c 2 t (ix3 j r k) = at' (A2 m c) (row t r) k := by
  obtain rfl : j = 0 := Subsingleton.elim _ _
  blk_ext [iblk, V, at', A2, e2, row]
theorem blk3 (j : Fin 1) (r : Fin 128) (k : Fin 1024) : iblk m c 3 t (ix3 j r k) = at' (A3 m c) (row t r) k := by
  obtain rfl : j = 0 := Subsingleton.elim _ _
  blk_ext [iblk, V, at', A3, e3, row]
theorem emb4 (j : Fin 1) (r : Fin 128) (k : Fin 1024) : (win0_4.blk t).view.emb (ix3 j r k) = ix3 j (row t r) k := by
  blk_ext [e4, row]
theorem emb5 (j : Fin 1) (r : Fin 128) (k : Fin 1024) : (win0_5.blk t).view.emb (ix3 j r k) = ix3 j (row t r) k := by
  blk_ext [e5, row]
theorem emb6 (j : Fin 1) (r : Fin 128) (k : Fin 1024) : (win0_6.blk t).view.emb (ix3 j r k) = ix3 j (row t r) k := by
  blk_ext [e6, row]
theorem emb7 (j : Fin 1) (r : Fin 128) (k : Fin 1024) : (win0_7.blk t).view.emb (ix3 j r k) = ix3 j (row t r) k := by
  blk_ext [e7, row]

/-- The gradient: the sum of the eight parts. -/
def grad (x0 : S8x256x1024.Idx → EReal) (i : Fin 256) (k : Fin 1024) : EReal := ∑ j : Fin 8, part x0 j i k

theorem pay (r : Fin 128) (k : Fin 1024) :
    k0_pay8 (F := Ideal) (iblk m c 0 t) (iblk m c 1 t) (iblk m c 2 t) (iblk m c 3 t) (ix2 r k) = grad (A0 m c) (row t r) k := by
  unfold k0_pay8 k0_pay3 grad
  rw [Fin.sum_univ_eight]
  pointwise [blk0]

open Cert.AdamSsmRefIdeal.Read

variable (x0 : S8x256x1024.Idx → EReal) (x1 x2 x3 : S1x256x1024.Idx → EReal)

theorem ref_grad (j : Fin 1) (a : Fin 256) (b : Fin 1024) : val_main_v2 (F := Ideal) x0 (ix3 j a b) = grad x0 a b := by
  unfold val_main_v2 val_main_v1 val_main_v0 val_main_cst grad part
  pointwise

theorem ref_first (j : Fin 1) (a : Fin 256) (b : Fin 1024) :
    val_main_v7 (F := Ideal) x0 x2 (ix3 j a b) = Adam.first (grad x0 a b) (x2 (ix3 j a b)) := by
  unfold val_main_v7 val_main_v6 val_main_v5 val_main_v4 val_main_v3 val_main_cst_0 val_main_cst_1 Adam.first
  pointwise [ref_grad]

theorem ref_second (j : Fin 1) (a : Fin 256) (b : Fin 1024) :
    val_main_v13 (F := Ideal) x0 x3 (ix3 j a b) = Adam.second (grad x0 a b) (x3 (ix3 j a b)) := by
  unfold val_main_v13 val_main_v12 val_main_v11 val_main_v10 val_main_v9 val_main_v8 val_main_cst_2 val_main_cst_3 Adam.second
  pointwise [ref_grad]

theorem ref_delta (j : Fin 1) (a : Fin 256) (b : Fin 1024) :
    val_main_v26 (F := Ideal) x0 x1 x2 x3 (ix3 j a b)
      = Adam.delta (grad x0 a b) (x1 (ix3 j a b)) (x2 (ix3 j a b)) (x3 (ix3 j a b)) := by
  unfold val_main_v26 val_main_v25 val_main_v24 val_main_v23 val_main_v22 val_main_v21 val_main_v20 val_main_v19 val_main_v18 val_main_v17 val_main_v16 val_main_v15 val_main_v14 val_main_cst_4 val_main_cst_5 val_main_cst_6 val_main_cst_7 val_main_cst_8 Adam.delta
  pointwise [ref_first, ref_second]

theorem pay_first (r : Fin 128) (k : Fin 1024) (p : FVec Ideal S128x1024 .f32) (g : EReal) (h : p (ix2 r k) = g) :
    k0_pay5 (F := Ideal) p (iblk m c 2 t) (ix2 r k) = Adam.first g (at' (A2 m c) (row t r) k) := by
  unfold k0_pay5 Adam.first
  pointwise [blk2, h]

theorem pay_second (r : Fin 128) (k : Fin 1024) (p : FVec Ideal S128x1024 .f32) (g : EReal) (h : p (ix2 r k) = g) :
    k0_pay6 (F := Ideal) p (iblk m c 3 t) (ix2 r k) = Adam.second g (at' (A3 m c) (row t r) k) := by
  unfold k0_pay6 Adam.second
  pointwise [blk3, h]

theorem out4 (i : Fin 256) (k : Fin 1024) : val_main_v2 (F := Ideal) x0 (ix3 0 i k) = grad x0 i k := by
  rw [ref_grad]
  all_goals rfl

theorem out5 (i : Fin 256) (k : Fin 1024) : val_main_v26 (F := Ideal) x0 x1 x2 x3 (ix3 0 i k) = Adam.delta (grad x0 i k) (at' x1 i k) (at' x2 i k) (at' x3 i k) := by
  rw [ref_delta]
  all_goals rfl

theorem out6 (i : Fin 256) (k : Fin 1024) : val_main_v7 (F := Ideal) x0 x2 (ix3 0 i k) = Adam.first (grad x0 i k) (at' x2 i k) := by
  rw [ref_first]
  all_goals rfl

theorem out7 (i : Fin 256) (k : Fin 1024) : val_main_v13 (F := Ideal) x0 x3 (ix3 0 i k) = Adam.second (grad x0 i k) (at' x3 i k) := by
  rw [ref_second]
  all_goals rfl

theorem final4 : (dats m 0 c).arrAt 4 cfg0.N
    = val_main_v2 (F := Ideal) (m ((c : Thread nD τ).loc main_arg0)) := by
  refine (dats m 0 c).arrAt_eq_of_covers 4 _ (by decide +kernel) fun t hf y => ?_
  blk_simp
  obtain ⟨j, r, k, rfl⟩ : ∃ (j : Fin 1) (r : Fin 128) (k : Fin 1024), y = ix3 j r k := ⟨y 0, y 1, y 2, eq_ix3 y⟩
  obtain rfl : j = 0 := Subsingleton.elim _ _
  rw [after0_4, emb4, out4]
  frame_out
  unfold k0_pay4
  pointwise [pay, blk1, pay_first m c t r k _ _ (pay m c t r k), pay_second m c t r k _ _ (pay m c t r k)]
  rfl

theorem final5 : (dats m 0 c).arrAt 5 cfg0.N
    = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  obtain ⟨j, r, k, rfl⟩ : ∃ (j : Fin 1) (r : Fin 128) (k : Fin 1024), y = ix3 j r k := ⟨y 0, y 1, y 2, eq_ix3 y⟩
  obtain rfl : j = 0 := Subsingleton.elim _ _
  rw [after0_5, emb5, out5]
  frame_out
  unfold k0_pay7 Adam.delta
  pointwise [pay, blk1, pay_first m c t r k _ _ (pay m c t r k), pay_second m c t r k _ _ (pay m c t r k)]
  rfl

theorem final6 : (dats m 0 c).arrAt 6 cfg0.N
    = val_main_v7 (F := Ideal) (m ((c : Thread nD τ).loc main_arg0)) (m ((c : Thread nD τ).loc main_arg2)) := by
  refine (dats m 0 c).arrAt_eq_of_covers 6 _ (by decide +kernel) fun t hf y => ?_
  blk_simp
  obtain ⟨j, r, k, rfl⟩ : ∃ (j : Fin 1) (r : Fin 128) (k : Fin 1024), y = ix3 j r k := ⟨y 0, y 1, y 2, eq_ix3 y⟩
  obtain rfl : j = 0 := Subsingleton.elim _ _
  rw [after0_6, emb6, out6]
  frame_out
  unfold k0_pay1
  pointwise [pay, blk1, pay_first m c t r k _ _ (pay m c t r k), pay_second m c t r k _ _ (pay m c t r k)]
  rfl

theorem final7 : (dats m 0 c).arrAt 7 cfg0.N
    = val_main_v13 (F := Ideal) (m ((c : Thread nD τ).loc main_arg0)) (m ((c : Thread nD τ).loc main_arg3)) := by
  refine (dats m 0 c).arrAt_eq_of_covers 7 _ (by decide +kernel) fun t hf y => ?_
  blk_simp
  obtain ⟨j, r, k, rfl⟩ : ∃ (j : Fin 1) (r : Fin 128) (k : Fin 1024), y = ix3 j r k := ⟨y 0, y 1, y 2, eq_ix3 y⟩
  obtain rfl : j = 0 := Subsingleton.elim _ _
  rw [after0_7, emb7, out7]
  frame_out
  unfold k0_pay2
  pointwise [pay, blk1, pay_first m c t r k _ _ (pay m c t r k), pay_second m c t r k _ _ (pay m c t r k)]
  rfl

theorem ref_frame : Cert.quiescent_AdamSsmRefIdeal := fun m ρ _ =>
  (θ_run Cert.AdamSsmRefIdeal.defs _ _).mono (fun r h => ⟨fun c => (h c).2.2.2.2,
      Idealize.ShloMosaic.sem_eq_zero_of_no_sems (by decide) r.2⟩)
    (Cert.AdamSsmRefIdeal.Value.run (F := Ideal) m ρ)

theorem algebraic : Cert.algebraic_AdamSsmIdeal_AdamSsmRefIdeal := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N, Value.run_blocks (F := Ideal) m ρ, ?_⟩
  refine (θ_run Cert.AdamSsmRefIdeal.defs _ _).mono (fun r h c => ?_) (Cert.AdamSsmRefIdeal.Value.run (F := Ideal) m' ρ')
  obtain ⟨h0, h1, h2, h3, h⟩ := h c
  obtain ⟨a0, a1, a2, a3⟩ := hagree c
  rw [val_main_v2_eq, a0] at h0
  rw [val_main_v26_eq, a0, a1, a2, a3] at h1
  rw [val_main_v7_eq, a0, a2] at h2
  rw [val_main_v13_eq, a0, a3] at h3
  exact ⟨h0.trans (final4 m c).symm, h1.trans (final5 m c).symm, h2.trans (final6 m c).symm, h3.trans (final7 m c).symm, h⟩

end Cert.Proof.AdamSsm

end
-- ==== Proof.Words.lean ====
/-
  Selections by a comparison of a row number with a constant, as a choice; and a sum over the two leading axes.
-/
module

public import Idealize.ShloMosaic.Lib.Pointwise
public import Idealize.ShloMosaic.Lib.WordCmp

@[expose] public section

namespace Cert.Proof.Words

open Idealize.ShloMosaic Idealize.ShloMosaic.WordCmp

variable {α : Type} {N : Nat}

theorem select_sge (hN : N ≤ 2 ^ 31) (n : Nat) (hn : n < 2 ^ 31) (r : Fin N) (a b : α) :
    Scalar.select (IntOp.cmpi .sge (BitVec.ofNat 32 r.val) (BitVec.ofNat 32 n)) a b = if n ≤ r.val then a else b := by
  rw [cmpi_sge_ofNat (by have := r.isLt; norm_num; omega) (by norm_num; omega)]
  by_cases h : n ≤ r.val <;> simp [h, Scalar.select]

theorem select_slt (hN : N ≤ 2 ^ 31) (n : Nat) (hn : n < 2 ^ 31) (r : Fin N) (a b : α) :
    Scalar.select (IntOp.cmpi .slt (BitVec.ofNat 32 r.val) (BitVec.ofNat 32 n)) a b = if r.val < n then a else b := by
  rw [cmpi_slt_ofNat (by have := r.isLt; norm_num; omega) (by norm_num; omega)]
  by_cases h : r.val < n <;> simp [h, Scalar.select]

theorem select_eq (hN : N ≤ 2 ^ 31) (n : Nat) (hn : n < 2 ^ 31) (r : Fin N) (a b : α) :
    Scalar.select (IntOp.cmpi .eq (BitVec.ofNat 32 r.val) (BitVec.ofNat 32 n)) a b = if r.val = n then a else b := by
  rw [cmpi_eq_ofNat (by have := r.isLt; norm_num; omega) (by norm_num; omega)]
  by_cases h : r.val = n <;> simp [h, Scalar.select]

/-- The host's sum over the first two of three axes. -/
theorem sum_leading {n0 n1 n2 : Nat} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  unfold Ideal.hostReduceAdd
  congr 1
  have fib : ∀ i : (⟨3, ![n0, n1, n2]⟩ : Shape).Idx, h.drop i = ix1 k ↔ ∃ p : Fin n0 × Fin n1, ix3 p.1 p.2 k = i := by
    intro i
    constructor
    · intro e
      refine ⟨(i 0, i 1), ?_⟩
      have e0 : i 2 = k := Fin.ext (congrArg Fin.val (congrFun e 0))
      rw [← e0]
      exact (eq_ix3 i).symm
    · rintro ⟨p, rfl⟩
      funext a
      match a with
      | ⟨0, _⟩ => rfl
  rw [Finset.sum_filter_eq_sum_of_fiber _ (fun p : Fin n0 × Fin n1 => ix3 p.1 p.2 k)
    (fun _ _ e => Prod.ext (congrFun e 0) (congrFun e 1)) fib v, Fintype.sum_prod_type]

end Cert.Proof.Words
-- ==== Proof.CAFwdValue.lean ====
/-
  The gated short convolution: what the kernel's result array holds after the run, read as the reference's value of the
  same arguments.
-/
module

public import proofs.«01_k».proof.Defs
public import proofs.«01_k».proof.Proof.Words
public import proofs.«01_k».proof.Proof.Gen.CAFwdIdeal.Value
public import proofs.«01_k».proof.Proof.Gen.CAFwdRefIdeal.Run
public import proofs.«01_k».proof.Proof.Gen.CAFwdRefIdeal.Read
public import Idealize.ShloMosaic.Lib.Pipeline.ValueKit
public import Idealize.ShloMosaic.Lib.Pipeline.ReadBack
public import Idealize.ShloMosaic.Lib.Pointwise

@[expose] public section

noncomputable section

namespace Cert.Proof.CAFwd

open Cert.CAFwdIdeal Cert.CAFwdIdeal.Gen Idealize.ShloMosaic Idealize.ShloMosaic.TcCoe Idealize.SL.Sem
open Idealize.ShloMosaic.Pipeline (Dat)

/-- Row `r` of sequence `b`. -/
def row (b : Fin 4) (r : Fin 2048) : Fin 8192 := ⟨b.val * 2048 + r.val, by omega⟩
/-- Channel `q` of group `j`. -/
def col (j : Fin 4) (q : Fin 256) : Fin 1024 := ⟨j.val * 256 + q.val, by omega⟩

section Reference

open Cert.CAFwdRefIdeal.Read

variable (x0 : (⟨2, ![8192, 10240]⟩ : Shape).Idx → EReal) (x1 : (⟨2, ![8, 1024]⟩ : Shape).Idx → EReal)
variable (b : Fin 4) (r : Fin 2048) (j : Fin 4) (q : Fin 256)

/-- The gate, the key and the value of a channel: three blocks of a group's columns. -/
def tB : EReal := x0 (ix2 (row b r) ⟨j.val * 768 + q.val, by omega⟩)
def tC : EReal := x0 (ix2 (row b r) ⟨j.val * 768 + 256 + q.val, by omega⟩)
def tV : EReal := x0 (ix2 (row b r) ⟨j.val * 768 + 512 + q.val, by omega⟩)
/-- A tap's weight. -/
def wt (i : Fin 8) : EReal := x1 (ix2 i (col j q))
/-- The convolution's input and the same `n` rows before. -/
def inp : EReal := tC x0 b r j q * tV x0 b r j q
def past (n : Nat) : EReal := if h : n ≤ r.val then inp x0 b ⟨r.val - n, by omega⟩ j q else 0
/-- The convolution. -/
def conv : EReal := wt x1 j q 0 * past x0 b r j q 2 + wt x1 j q 1 * past x0 b r j q 1 + wt x1 j q 2 * inp x0 b r j q

theorem ref5 : val_main_v5 (F := Ideal) x0 (ix3 b r (col j q)) = tB x0 b r j q := by
  unfold val_main_v5 val_main_v4 val_main_v3 val_main_v2 val_main_v1 val_main_v0 tB col row
  pointwise

theorem ref8 : val_main_v8 (F := Ideal) x0 (ix3 b r (col j q)) = tC x0 b r j q := by
  unfold val_main_v8 val_main_v7 val_main_v6 val_main_v2 val_main_v1 val_main_v0 tC col row
  pointwise

theorem ref11 : val_main_v11 (F := Ideal) x0 (ix3 b r (col j q)) = tV x0 b r j q := by
  unfold val_main_v11 val_main_v10 val_main_v9 val_main_v2 val_main_v1 val_main_v0 tV col row
  pointwise

theorem ref12 : val_main_v12 (F := Ideal) x0 (ix3 b r (col j q)) = inp x0 b r j q := by
  unfold val_main_v12 inp
  pointwise [ref8, ref11]

theorem ref17 : val_main_v17 (F := Ideal) x0 (ix3 b r (col j q)) = past x0 b r j q 2 := by
  unfold val_main_v17 val_main_v16 val_main_v15 val_main_cst past
  pointwise [ref12]
  by_cases h : r.val < 2
  · rw [dif_pos h, dif_neg (by omega)]
  · rw [dif_neg h, dif_pos (by omega)]

theorem ref28 : val_main_v28 (F := Ideal) x0 (ix3 b r (col j q)) = past x0 b r j q 1 := by
  unfold val_main_v28 val_main_v27 val_main_v26 val_main_cst_1 past
  pointwise [ref12]
  by_cases h : r.val < 1
  · rw [dif_pos h, dif_neg (by omega)]
  · rw [dif_neg h, dif_pos (by omega)]

theorem ref40 : val_main_v40 (F := Ideal) x0 x1 (ix3 b r (col j q)) = conv x0 x1 b r j q := by
  unfold val_main_v40 val_main_v39 val_main_v38 val_main_v37 val_main_v36 val_main_v35 val_main_v34 val_main_v33 val_main_v32
    val_main_v31 val_main_v30 val_main_v29 val_main_v24 val_main_v23 val_main_cst_0 val_main_v22 val_main_v21 val_main_v20
    val_main_v19 val_main_v18 val_main_v13 conv wt
  pointwise [ref12, ref17, ref28]

theorem ref : val_main_v43 (F := Ideal) x0 x1 (ix2 (row b r) (col j q)) = tB x0 b r j q * conv x0 x1 b r j q := by
  rw [← ref5, ← ref40]
  unfold val_main_v43 val_main_v42 val_main_v41 row
  pointwise

end Reference

variable (m : (ℓ : Loc nD τ sig) → Buf (Elt Ideal) ℓ)

theorem e0 : ∀ t : Fin cfg0.N, win0_0.index t = ![t.val / 4, t.val % 4] :=
  (by decide +kernel : ∀ t : Fin grid0.N, win0_0.index t = ![t.val / 4, t.val % 4])
theorem e1 : ∀ t : Fin cfg0.N, win0_1.index t = ![0, t.val % 4] :=
  (by decide +kernel : ∀ t : Fin grid0.N, win0_1.index t = ![0, t.val % 4])
theorem e2 : ∀ t : Fin cfg0.N, win0_2.index t = ![t.val / 4, t.val % 4] :=
  (by decide +kernel : ∀ t : Fin grid0.N, win0_2.index t = ![t.val / 4, t.val % 4])

variable (c : Dev nD) (t : Fin cfg0.N)

/-- The sequence and the column group of point `t`. -/
def seq : Fin 4 := ⟨t.val / 4, by have := t.isLt; have h : cfg0.N = 16 := N_0; omega⟩
def grp : Fin 4 := ⟨t.val % 4, by omega⟩

/-- The arguments' arrays. -/
def A0 : S8192x10240.Idx → EReal := m ((c : Thread nD τ).loc main_arg0)
def A1 : S8x1024.Idx → EReal := m ((c : Thread nD τ).loc main_arg1)

theorem blk0 (r : Fin 2048) (k : Fin 768) :
    X0_0 m c t (ix2 r k) = A0 m c (ix2 ⟨(seq t).val * 2048 + r.val, by omega⟩ ⟨(grp t).val * 768 + k.val, by omega⟩) := by
  unfold X0_0 Pipeline.Window.fill
  rw [dif_pos (moved0_0 t _)]
  blk_ext [iblk, V, A0, e0, grp, seq]
theorem blk1 (r : Fin 8) (k : Fin 256) :
    iblk m c 1 t (ix2 r k) = A1 m c (ix2 r ⟨(grp t).val * 256 + k.val, by omega⟩) := by
  blk_ext [iblk, V, A1, e1, grp]
theorem emb2 (r : Fin 2048) (k : Fin 256) : (win0_2.blk t).view.emb (ix2 r k) = ix2 (row (seq t) r) (col (grp t) k) := by
  blk_ext [e2, grp, seq, row, col]

abbrev lB := View.ld (X0_0 m c t) (Rect.unit ![0, 0] ![2048, 256] inb_S2048x768_S2048x256_0_0)
abbrev lC := View.ld (X0_0 m c t) (Rect.unit ![0, 256] ![2048, 256] inb_S2048x768_S2048x256_0_256)
abbrev lV := View.ld (X0_0 m c t) (Rect.unit ![0, 512] ![2048, 256] inb_S2048x768_S2048x256_0_512)
abbrev l0 := View.ld (iblk m c 1 t) (Rect.unit ![0, 0] ![1, 256] inb_S8x256_S1x256_0_0)
abbrev l1 := View.ld (iblk m c 1 t) (Rect.unit ![1, 0] ![1, 256] inb_S8x256_S1x256_1_0)
abbrev l2 := View.ld (iblk m c 1 t) (Rect.unit ![2, 0] ![1, 256] inb_S8x256_S1x256_2_0)

variable (r : Fin 2048) (q : Fin 256)

theorem ldB : lB m c t (ix2 r q) = tB (A0 m c) (seq t) r (grp t) q := by
  unfold lB tB row
  pointwise [blk0]

theorem ldC : lC m c t (ix2 r q) = tC (A0 m c) (seq t) r (grp t) q := by
  unfold lC tC row
  pointwise [blk0]
  simp only [← add_assoc]

theorem ldV : lV m c t (ix2 r q) = tV (A0 m c) (seq t) r (grp t) q := by
  unfold lV tV row
  pointwise [blk0]
  simp only [← add_assoc]

theorem ld0 : l0 m c t (ix2 0 q) = wt (A1 m c) (grp t) q 0 := by
  unfold l0 wt col
  pointwise [blk1]

theorem ld1 : l1 m c t (ix2 0 q) = wt (A1 m c) (grp t) q 1 := by
  unfold l1 wt col
  pointwise [blk1]

theorem ld2 : l2 m c t (ix2 0 q) = wt (A1 m c) (grp t) q 2 := by
  unfold l2 wt col
  pointwise [blk1]

/-- What a point computes. -/
theorem pay : k0_pay1 (F := Ideal) (lC m c t) (lV m c t) (l0 m c t) (l1 m c t) (l2 m c t) (lB m c t) (ix2 r q)
    = tB (A0 m c) (seq t) r (grp t) q * conv (A0 m c) (A1 m c) (seq t) r (grp t) q := by
  unfold k0_pay1 conv past inp
  pointwise [ldB, ldC, ldV, ld0, ld1, ld2]
  rw [Words.select_sge (by norm_num) 2 (by norm_num), Words.select_sge (by norm_num) 1 (by norm_num)]
  congr 4
  · split_ifs with h
    · simp only [show (r.val + 2048 - 2) % 2048 = r.val - 2 by omega]
    · rw [mul_zero]
  · split_ifs with h
    · simp only [show (r.val + 2048 - 1) % 2048 = r.val - 1 by omega]
    · rw [mul_zero]

theorem out : outsAt0 m c t (ix2 r q)
    = tB (A0 m c) (seq t) r (grp t) q * conv (A0 m c) (A1 m c) (seq t) r (grp t) q := by
  rw [← pay]
  unfold outsAt0
  frame_out
  rfl

theorem final2 : (dats m 0 c).arrAt 2 cfg0.N = Cert.CAFwdRefIdeal.Read.val_main_v43 (F := Ideal)
    (m ((c : Thread nD τ).loc main_arg0)) (m ((c : Thread nD τ).loc main_arg1)) := by
  refine (dats m 0 c).arrAt_eq_of_covers 2 _ (by decide +kernel) fun t hf y => ?_
  blk_simp
  obtain ⟨r, q, rfl⟩ : ∃ (r : Fin 2048) (q : Fin 256), y = ix2 r q := ⟨y 0, y 1, eq_ix2 y⟩
  rw [after0_2, emb2, ref, out]
  rfl

theorem ref_frame : Cert.quiescent_CAFwdRefIdeal := fun m ρ _ =>
  (θ_run Cert.CAFwdRefIdeal.defs _ _).mono (fun r h => ⟨fun c => (h c).2,
      Idealize.ShloMosaic.sem_eq_zero_of_no_sems (by decide) r.2⟩)
    (Cert.CAFwdRefIdeal.Value.run (F := Ideal) m ρ)

theorem algebraic : Cert.algebraic_CAFwdIdeal_CAFwdRefIdeal := by
  intro m ρ m' ρ' _ hagree
  refine ⟨fun c => (dats m 0 c).arrAt 2 cfg0.N, Value.run_blocks (F := Ideal) m ρ, ?_⟩
  refine (θ_run Cert.CAFwdRefIdeal.defs _ _).mono (fun r h c => ?_) (Cert.CAFwdRefIdeal.Value.run (F := Ideal) m' ρ')
  obtain ⟨h0, h⟩ := h c
  obtain ⟨a0, a1⟩ := hagree c
  rw [Cert.CAFwdRefIdeal.Read.val_main_v43_eq, a0, a1] at h0
  exact ⟨h0.trans (final2 m c).symm, h⟩

end Cert.Proof.CAFwd

end
-- ==== Proof.ConvARef.lean ====
/-
  The gradient of the gated short convolution: the reference's two results at an index, as plain formulas.
-/
module

public import proofs.«01_k».proof.Defs
public import proofs.«01_k».proof.Proof.Gen.ConvARefIdeal.Read
public import Idealize.ShloMosaic.Lib.Pointwise
public import proofs.«01_k».proof.Proof.Words

@[expose] public section

noncomputable section

namespace Cert.Proof.ConvA

open Cert.ConvARefIdeal.Read Idealize.ShloMosaic

variable (x0 : (⟨2, ![8192, 1024]⟩ : Shape).Idx → EReal) (x1 : (⟨2, ![1024, 1024]⟩ : Shape).Idx → EReal)
  (x2 : (⟨2, ![8192, 10240]⟩ : Shape).Idx → EReal) (x3 : (⟨2, ![8, 1024]⟩ : Shape).Idx → EReal)

/-- Row `r` of sequence `b`. -/
def row (b : Fin 4) (r : Fin 2048) : Fin 8192 := ⟨b.val * 2048 + r.val, by omega⟩
/-- Channel `q` of group `j`. -/
def col (j : Fin 4) (q : Fin 256) : Fin 1024 := ⟨j.val * 256 + q.val, by omega⟩

variable (b : Fin 4) (r : Fin 2048) (j : Fin 4) (q : Fin 256)

/-- The gate, the key and the value of a channel: three blocks of a group's columns. -/
def tB : EReal := x2 (ix2 (row b r) ⟨j.val * 768 + q.val, by omega⟩)
def tC : EReal := x2 (ix2 (row b r) ⟨j.val * 768 + 256 + q.val, by omega⟩)
def tV : EReal := x2 (ix2 (row b r) ⟨j.val * 768 + 512 + q.val, by omega⟩)
/-- A tap's weight. -/
def wt (i : Fin 8) : EReal := x3 (ix2 i (col j q))
/-- The gradient of the gated output. -/
def up (k : Fin 1024) : EReal := ∑ l : Fin 1024, x0 (ix2 (row b r) l) * x1 (ix2 k l)
/-- The convolution's input and the same `n` rows before. -/
def inp : EReal := tC x2 b r j q * tV x2 b r j q
def past (n : Nat) : EReal := if h : n ≤ r.val then inp x2 b ⟨r.val - n, by omega⟩ j q else 0
/-- The convolution. -/
def conv : EReal := wt x3 j q 0 * past x2 b r j q 2 + wt x3 j q 1 * past x2 b r j q 1 + wt x3 j q 2 * inp x2 b r j q
/-- The gradient of the convolution's output and the same `n` rows after. -/
def gr : EReal := up x0 x1 b r (col j q) * tB x2 b r j q
def next (n : Nat) : EReal := if h : r.val + n < 2048 then gr x0 x1 x2 b ⟨r.val + n, h⟩ j q else 0
/-- The gradient of the convolution's input. -/
def din : EReal := wt x3 j q 0 * next x0 x1 x2 b r j q 2 + wt x3 j q 1 * next x0 x1 x2 b r j q 1 + wt x3 j q 2 * gr x0 x1 x2 b r j q
/-- One sequence's share of a tap's gradient. -/
def dtap (i : Fin 8) : EReal :=
  if i.val = 2 then ∑ r, gr x0 x1 x2 b r j q * inp x2 b r j q
  else if i.val = 1 then ∑ r, gr x0 x1 x2 b r j q * past x2 b r j q 1
  else if i.val = 0 then ∑ r, gr x0 x1 x2 b r j q * past x2 b r j q 2 else 0

theorem ref7 : val_main_v7 (F := Ideal) x2 (ix3 b r (col j q)) = tB x2 b r j q := by
  unfold val_main_v7 val_main_v6 val_main_v5 val_main_v4 val_main_v3 val_main_v2 tB col row
  pointwise

theorem ref10 : val_main_v10 (F := Ideal) x2 (ix3 b r (col j q)) = tC x2 b r j q := by
  unfold val_main_v10 val_main_v9 val_main_v8 val_main_v4 val_main_v3 val_main_v2 tC col row
  pointwise

theorem ref13 : val_main_v13 (F := Ideal) x2 (ix3 b r (col j q)) = tV x2 b r j q := by
  unfold val_main_v13 val_main_v12 val_main_v11 val_main_v4 val_main_v3 val_main_v2 tV col row
  pointwise

theorem ref14 : val_main_v14 (F := Ideal) x2 (ix3 b r (col j q)) = inp x2 b r j q := by
  unfold val_main_v14 inp
  pointwise [ref10, ref13]

theorem ref48 (k : Fin 1024) : val_main_v48 (F := Ideal) x0 x1 (ix3 b r k) = up x0 x1 b r k := by
  unfold val_main_v48 val_main_v47 val_main_v0 val_main_v1 up row
  pointwise

theorem ref49 : val_main_v49 (F := Ideal) x0 x1 x2 (ix3 b r (col j q)) = gr x0 x1 x2 b r j q := by
  unfold val_main_v49 gr
  pointwise [ref7, ref48]
  rw [mul_comm]

theorem ref19 : val_main_v19 (F := Ideal) x2 (ix3 b r (col j q)) = past x2 b r j q 2 := by
  unfold val_main_v19 val_main_v18 val_main_v17 val_main_cst past
  pointwise [ref14]
  by_cases h : r.val < 2
  · rw [dif_pos h, dif_neg (by omega)]
  · rw [dif_neg h, dif_pos (by omega)]

theorem ref31 : val_main_v31 (F := Ideal) x2 (ix3 b r (col j q)) = past x2 b r j q 1 := by
  unfold val_main_v31 val_main_v30 val_main_v29 val_main_cst_2 past
  pointwise [ref14]
  by_cases h : r.val < 1
  · rw [dif_pos h, dif_neg (by omega)]
  · rw [dif_neg h, dif_pos (by omega)]

theorem ref44 : val_main_v44 (F := Ideal) x2 x3 (ix3 b r (col j q)) = conv x2 x3 b r j q := by
  unfold val_main_v44 val_main_v38 val_main_v27 val_main_v26 val_main_cst_1 val_main_v25 val_main_v24 val_main_v23 val_main_v22 val_main_v21 val_main_v37 val_main_v36 val_main_v35 val_main_v34 val_main_v33 val_main_v43 val_main_v42 val_main_v41 val_main_v40 val_main_v39 val_main_v15 conv wt
  pointwise [ref14, ref19, ref31]

theorem ref84 : val_main_v84 (F := Ideal) x0 x1 x2 x3 (ix3 b r (col j q)) = din x0 x1 x2 x3 b r j q := by
  unfold val_main_v84 val_main_v71 val_main_v83 val_main_v82 val_main_v70 val_main_v69 val_main_v73 val_main_v60 val_main_v52 val_main_cst_14 val_main_cst_10 val_main_v72 val_main_v59 val_main_v51 val_main_v23 val_main_v22 val_main_v21 val_main_v35 val_main_v34 val_main_v33 val_main_v41 val_main_v40 val_main_v39 val_main_v15 din wt next
  pointwise [ref49]
  rw [add_comm, add_comm (_ * gr x0 x1 x2 b r j q), ← add_assoc]
  simp only [add_comm 1, add_comm 2]
  by_cases h2 : r.val < 2046
  · simp only [h2, show r.val < 2047 by omega, show r.val + 2 < 2048 by omega, show r.val + 1 < 2048 by omega, dite_true]
  · by_cases h1 : r.val < 2047
    · simp only [h2, h1, show ¬r.val + 2 < 2048 by omega, show r.val + 1 < 2048 by omega, dite_true, dite_false, mul_zero]
    · simp only [h2, h1, show ¬r.val + 2 < 2048 by omega, show ¬r.val + 1 < 2048 by omega, dite_false, mul_zero]

theorem ref85 (i : Fin 8) :
    val_main_v85 (F := Ideal) x0 x1 x2 (ix2 i (col j q)) = ∑ b, dtap x0 x1 x2 b j q i := by
  unfold val_main_v85 val_main_v80 val_main_v67 val_main_v79 val_main_v78 val_main_v77 val_main_v76 val_main_v75 val_main_v58 val_main_v57 val_main_v56 val_main_v55 val_main_v54 val_main_v66 val_main_v65 val_main_v64 val_main_v63 val_main_v62 val_main_cst_4 val_main_cst_5 val_main_cst_6 val_main_cst_7 val_main_cst_8 val_main_cst_9 val_main_cst_11 val_main_cst_12 val_main_cst_13 val_main_cst_15 val_main_v74 val_main_v61 val_main_v53
  pointwise [ref49, ref14, ref19, ref31, Words.sum_leading]
  simp only [Finset.univ_unique, Finset.sum_singleton, dtap]
  fin_cases i <;> simp

theorem refB : val_main_v101 (F := Ideal) x0 x1 x2 x3 (ix2 (row b r) ⟨j.val * 768 + q.val, by omega⟩)
    = up x0 x1 b r (col j q) * conv x2 x3 b r j q := by
  have h1 : (j.val * 768 + q.val) / 256 % 3 = 0 := by omega
  unfold val_main_v101 val_main_v100 val_main_v99 val_main_v98 val_main_v94 val_main_v97 val_main_v96 val_main_v95 val_main_v93 val_main_v92 val_main_v91 val_main_v90 val_main_v89 val_main_v88 val_main_cst_16 val_main_cst_17 val_main_cst_18 val_main_v50 row
  pointwise [h1]
  rw [dif_pos (by omega), ← ref48, ← ref44]
  rfl

theorem refC : val_main_v101 (F := Ideal) x0 x1 x2 x3 (ix2 (row b r) ⟨j.val * 768 + 256 + q.val, by omega⟩)
    = din x0 x1 x2 x3 b r j q * tV x2 b r j q := by
  have h1 : (j.val * 768 + 256 + q.val) / 256 % 3 = 1 := by omega
  unfold val_main_v101 val_main_v100 val_main_v99 val_main_v98 val_main_v94 val_main_v97 val_main_v96 val_main_v95 val_main_v93 val_main_v92 val_main_v91 val_main_v90 val_main_v89 val_main_v88 val_main_cst_16 val_main_cst_17 val_main_cst_18 val_main_v87 row
  pointwise [h1]
  rw [dif_pos (by omega), ← ref84, ← ref13]
  rfl

theorem refV : val_main_v101 (F := Ideal) x0 x1 x2 x3 (ix2 (row b r) ⟨j.val * 768 + 512 + q.val, by omega⟩)
    = din x0 x1 x2 x3 b r j q * tC x2 b r j q := by
  have h1 : (j.val * 768 + 512 + q.val) / 256 % 3 = 2 := by omega
  unfold val_main_v101 val_main_v100 val_main_v99 val_main_v98 val_main_v94 val_main_v97 val_main_v96 val_main_v95 val_main_v93 val_main_v92 val_main_v91 val_main_v90 val_main_v89 val_main_v88 val_main_cst_16 val_main_cst_17 val_main_cst_18 val_main_v86 row
  pointwise [h1]
  rw [dif_pos (by omega), ← ref84, ← ref10, mul_comm]
  rfl

end Cert.Proof.ConvA
-- ==== Proof.ConvAValue.lean ====
/-
  The gradient of the gated short convolution: what the kernel's two result arrays hold after the run, read as the
  reference's values of the same arguments.
-/
module

public import proofs.«01_k».proof.Defs
public import proofs.«01_k».proof.Proof.Gen.ConvAIdeal.Value
public import proofs.«01_k».proof.Proof.ConvARef
public import proofs.«01_k».proof.Proof.Gen.On_conv_a_cols
public import proofs.«01_k».proof.Proof.Gen.ConvARefIdeal.Run
public import Idealize.ShloMosaic.Lib.Pipeline.ValueKit
public import Idealize.ShloMosaic.Lib.Pointwise

@[expose] public section

noncomputable section

namespace Cert.Proof.ConvA

open Cert.ConvAIdeal Cert.ConvAIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val % 4, 0] :=
  (by decide +kernel : ∀ t : Fin grid0.N, win0_0.index t = ![t.val % 4, 0])
theorem e1 : ∀ t : Fin cfg0.N, win0_1.index t = ![t.val / 4, 0] :=
  (by decide +kernel : ∀ t : Fin grid0.N, win0_1.index t = ![t.val / 4, 0])
theorem e2 : ∀ t : Fin cfg0.N, win0_2.index t = ![t.val % 4, t.val / 4] :=
  (by decide +kernel : ∀ t : Fin grid0.N, win0_2.index t = ![t.val % 4, t.val / 4])
theorem e3 : ∀ t : Fin cfg0.N, win0_3.index t = ![0, t.val / 4] :=
  (by decide +kernel : ∀ t : Fin grid0.N, win0_3.index t = ![0, t.val / 4])
theorem e4 : ∀ t : Fin cfg0.N, win0_4.index t = ![t.val % 4, t.val / 4] :=
  (by decide +kernel : ∀ t : Fin grid0.N, win0_4.index t = ![t.val % 4, t.val / 4])
theorem e5 : ∀ t : Fin cfg0.N, win0_5.index t = ![0, t.val / 4] :=
  (by decide +kernel : ∀ t : Fin grid0.N, win0_5.index t = ![0, t.val / 4])

variable (c : Dev nD) (t : Fin cfg0.N)

/-- The sequence and the column group of point `t`. -/
def seq : Fin 4 := ⟨t.val % 4, by omega⟩
def grp : Fin 4 := ⟨t.val / 4, by have := t.isLt; have h : cfg0.N = 16 := N_0; omega⟩

theorem blk0 (r : Fin 2048) (k : Fin 1024) :
    iblk m c 0 t (ix2 r k) = m ((c : Thread nD τ).loc main_arg0) (ix2 ⟨(seq t).val * 2048 + r.val, by omega⟩ k) := by
  blk_ext [iblk, V, e0, seq]
theorem blk1 (r : Fin 256) (k : Fin 1024) :
    iblk m c 1 t (ix2 r k) = m ((c : Thread nD τ).loc main_arg1) (ix2 ⟨(grp t).val * 256 + r.val, by omega⟩ k) := by
  blk_ext [iblk, V, e1, grp]
theorem blk2 (r : Fin 2048) (k : Fin 768) :
    X0_2 m c t (ix2 r k) = m ((c : Thread nD τ).loc main_arg2) (ix2 ⟨(seq t).val * 2048 + r.val, by omega⟩ ⟨(grp t).val * 768 + k.val, by omega⟩) := by
  unfold X0_2 Pipeline.Window.fill
  rw [dif_pos (moved0_2 t _)]
  blk_ext [iblk, V, e2, grp, seq]
theorem blk3 (r : Fin 8) (k : Fin 256) :
    iblk m c 3 t (ix2 r k) = m ((c : Thread nD τ).loc main_arg3) (ix2 r ⟨(grp t).val * 256 + k.val, by omega⟩) := by
  blk_ext [iblk, V, e3, grp]
theorem emb4 (r : Fin 2048) (k : Fin 768) : (win0_4.blk t).view.emb (ix2 r k) = ix2 ⟨(seq t).val * 2048 + r.val, by omega⟩ ⟨(grp t).val * 768 + k.val, by omega⟩ := by
  blk_ext [e4, grp, seq]
theorem emb5 (r : Fin 8) (k : Fin 256) : (win0_5.blk t).view.emb (ix2 r k) = ix2 r ⟨(grp t).val * 256 + k.val, by omega⟩ := by
  blk_ext [e5, grp]

/-! ## What a point computes -/

abbrev A0 := m ((c : Thread nD τ).loc main_arg0)
abbrev A1 := m ((c : Thread nD τ).loc main_arg1)
abbrev A2 := m ((c : Thread nD τ).loc main_arg2)
abbrev A3 := m ((c : Thread nD τ).loc main_arg3)

abbrev lB := View.ld (X0_2 m c t) (Rect.unit ![0, 0] ![2048, 256] inb_S2048x768_S2048x256_0_0)
abbrev lC := View.ld (X0_2 m c t) (Rect.unit ![0, 256] ![2048, 256] inb_S2048x768_S2048x256_0_256)
abbrev lV := View.ld (X0_2 m c t) (Rect.unit ![0, 512] ![2048, 256] inb_S2048x768_S2048x256_0_512)
abbrev l0 := View.ld (iblk m c 3 t) (Rect.unit ![0, 0] ![1, 256] inb_S8x256_S1x256_0_0)
abbrev l1 := View.ld (iblk m c 3 t) (Rect.unit ![1, 0] ![1, 256] inb_S8x256_S1x256_1_0)
abbrev l2 := View.ld (iblk m c 3 t) (Rect.unit ![2, 0] ![1, 256] inb_S8x256_S1x256_2_0)

variable (r : Fin 2048) (q : Fin 256)

theorem ldB : lB m c t (ix2 r q) = tB (A2 m c) (seq t) r (grp t) q := by
  unfold lB tB row
  pointwise [blk2]

theorem ldC : lC m c t (ix2 r q) = tC (A2 m c) (seq t) r (grp t) q := by
  unfold lC tC row
  pointwise [blk2]
  simp only [← add_assoc]

theorem ldV : lV m c t (ix2 r q) = tV (A2 m c) (seq t) r (grp t) q := by
  unfold lV tV row
  pointwise [blk2]
  simp only [← add_assoc]

theorem ld0 : l0 m c t (ix2 0 q) = wt (A3 m c) (grp t) q 0 := by
  unfold l0 wt col
  pointwise [blk3]

theorem ld1 : l1 m c t (ix2 0 q) = wt (A3 m c) (grp t) q 1 := by
  unfold l1 wt col
  pointwise [blk3]

theorem ld2 : l2 m c t (ix2 0 q) = wt (A3 m c) (grp t) q 2 := by
  unfold l2 wt col
  pointwise [blk3]

theorem pay3 : k0_pay3 (iblk m c 0 t) (iblk m c 1 t) (ix2 r q) = up (A0 m c) (A1 m c) (seq t) r (col (grp t) q) := by
  unfold_payloads
  unfold up row col
  pointwise [blk0, blk1]

theorem pay6 : k0_pay6 (lC m c t) (lV m c t) (ix2 r q) = inp (A2 m c) (seq t) r (grp t) q := by
  unfold_payloads
  unfold inp
  pointwise [ldC, ldV]

theorem pay7 : k0_pay7 (lC m c t) (lV m c t) (ix2 r q) = past (A2 m c) (seq t) r (grp t) q 2 := by
  unfold k0_pay7 past
  pointwise [pay6]
  rw [Words.select_sge (by norm_num) 2 (by norm_num)]
  split_ifs with h
  · simp only [show (r.val + 2048 - 2) % 2048 = r.val - 2 by omega]
  · rfl

theorem pay8 : k0_pay8 (lC m c t) (lV m c t) (ix2 r q) = past (A2 m c) (seq t) r (grp t) q 1 := by
  unfold k0_pay8 past
  pointwise [pay6]
  rw [Words.select_sge (by norm_num) 1 (by norm_num)]
  split_ifs with h
  · simp only [show (r.val + 2048 - 1) % 2048 = r.val - 1 by omega]
  · rfl

theorem pay9 : k0_pay9 (lC m c t) (lV m c t) (l0 m c t) (l1 m c t) (ix2 r q) = wt (A3 m c) (grp t) q 0 * past (A2 m c) (seq t) r (grp t) q 2 + wt (A3 m c) (grp t) q 1 * past (A2 m c) (seq t) r (grp t) q 1 := by
  unfold k0_pay9
  pointwise [pay7, pay8, ld0, ld1]

theorem pay11 : k0_pay11 (k0_pay6 (lC m c t) (lV m c t)) (k0_pay9 (lC m c t) (lV m c t) (l0 m c t) (l1 m c t)) (k0_pay10 (l2 m c t)) (k0_pay3 (iblk m c 0 t) (iblk m c 1 t)) (ix2 r q)
    = up (A0 m c) (A1 m c) (seq t) r (col (grp t) q) * conv (A2 m c) (A3 m c) (seq t) r (grp t) q := by
  unfold k0_pay11 k0_pay10 conv
  pointwise [pay6, pay9, pay3, ld2]

theorem pay12 : k0_pay12 (k0_pay3 (iblk m c 0 t) (iblk m c 1 t)) (lB m c t) (ix2 r q) = gr (A0 m c) (A1 m c) (A2 m c) (seq t) r (grp t) q := by
  unfold k0_pay12 gr
  pointwise [pay3, ldB]

set_option maxRecDepth 20000 in
theorem pay13 : k0_pay13 (iota .tc S2048x256 32 [0] iota_S2048x256_d0_w32) (k0_pay3 (iblk m c 0 t) (iblk m c 1 t)) (lB m c t) (l0 m c t) (l1 m c t) (l2 m c t) (ix2 r q)
    = din (A0 m c) (A1 m c) (A2 m c) (A3 m c) (seq t) r (grp t) q := by
  unfold k0_pay13 din next
  pointwise [pay12, ld0, ld1, ld2]
  rw [Words.select_slt (by norm_num) 2046 (by norm_num), Words.select_slt (by norm_num) 2047 (by norm_num)]
  congr 2
  · by_cases h : r.val < 2046
    · rw [if_pos h, dif_pos (by omega)]
      simp only [show (r.val + 2048 - 2046) % 2048 = r.val + 2 by omega]
    · rw [if_neg h, dif_neg (by omega), mul_zero]
  · by_cases h : r.val < 2047
    · rw [if_pos h, dif_pos (by omega)]
      simp only [show (r.val + 2048 - 2047) % 2048 = r.val + 1 by omega]
    · rw [if_neg h, dif_neg (by omega), mul_zero]

theorem pay14 : k0_pay14 (iota .tc S2048x256 32 [0] iota_S2048x256_d0_w32) (k0_pay5 (lV m c t)) (k0_pay3 (iblk m c 0 t) (iblk m c 1 t)) (lB m c t) (l0 m c t) (l1 m c t) (l2 m c t) (ix2 r q)
    = din (A0 m c) (A1 m c) (A2 m c) (A3 m c) (seq t) r (grp t) q * tV (A2 m c) (seq t) r (grp t) q := by
  unfold k0_pay14 k0_pay5
  pointwise [ldV]
  rw [pay13]

theorem pay15 : k0_pay15 (iota .tc S2048x256 32 [0] iota_S2048x256_d0_w32) (k0_pay4 (lC m c t)) (k0_pay3 (iblk m c 0 t) (iblk m c 1 t)) (lB m c t) (l0 m c t) (l1 m c t) (l2 m c t) (ix2 r q)
    = din (A0 m c) (A1 m c) (A2 m c) (A3 m c) (seq t) r (grp t) q * tC (A2 m c) (seq t) r (grp t) q := by
  unfold k0_pay15 k0_pay4
  pointwise [ldC]
  rw [pay13]

theorem pay1 (i : Fin 8) : k0_pay1 (k0_pay6 (lC m c t) (lV m c t)) (k0_pay7 (lC m c t) (lV m c t)) (k0_pay8 (lC m c t) (lV m c t)) (k0_pay12 (k0_pay3 (iblk m c 0 t) (iblk m c 1 t)) (lB m c t)) (ix2 i q)
    = dtap (A0 m c) (A1 m c) (A2 m c) (seq t) (grp t) q i := by
  unfold k0_pay1 dtap
  pointwise [pay6, pay7, pay8, pay12]
  rw [Words.select_eq (by norm_num) 2 (by norm_num), Words.select_eq (by norm_num) 1 (by norm_num), Words.select_eq (by norm_num) 0 (by norm_num)]

/-! ## The first result: the columns below 3072 -/

/-- Three column blocks stored one by one, read back. -/
theorem tiles (p0 p1 p2 : Vec Ideal S2048x256 .bf16) (G : S2048x768.Idx → EReal)
    (h0 : ∀ r q, p0 (ix2 r q) = G (ix2 r ⟨q.val, by omega⟩))
    (h1 : ∀ r q, p1 (ix2 r q) = G (ix2 r ⟨256 + q.val, by omega⟩))
    (h2 : ∀ r q, p2 (ix2 r q) = G (ix2 r ⟨512 + q.val, by omega⟩)) (y : S2048x768.Idx) :
    View.canon ([⟨Rect.unit ![0, 512] ![2048, 256] inb_S2048x768_S2048x256_0_512, p2⟩,
      ⟨Rect.unit ![0, 256] ![2048, 256] inb_S2048x768_S2048x256_0_256, p1⟩,
      ⟨Rect.unit ![0, 0] ![2048, 256] inb_S2048x768_S2048x256_0_0, p0⟩] : List (View.Piece (Elt Ideal) S2048x768 .bf16)) y = G y := by
  obtain ⟨r, k, rfl⟩ : ∃ (r : Fin 2048) (k : Fin 768), y = ix2 r k := ⟨y 0, y 1, eq_ix2 y⟩
  canon_tiles x h
  · obtain ⟨a, b, rfl⟩ : ∃ (a : Fin 2048) (b : Fin 256), x = ix2 a b := ⟨x 0, x 1, eq_ix2 x⟩
    rw [h2]
    exact congrArg G (congrArg₂ ix2 (Fin.ext h0.symm) (Fin.ext h1.symm))
  · obtain ⟨a, b, rfl⟩ : ∃ (a : Fin 2048) (b : Fin 256), x = ix2 a b := ⟨x 0, x 1, eq_ix2 x⟩
    rw [‹∀ r q, p1 (ix2 r q) = _›]
    exact congrArg G (congrArg₂ ix2 (Fin.ext h0.symm) (Fin.ext h1.symm))
  · obtain ⟨a, b, rfl⟩ : ∃ (a : Fin 2048) (b : Fin 256), x = ix2 a b := ⟨x 0, x 1, eq_ix2 x⟩
    rw [‹∀ r q, p0 (ix2 r q) = _›]
    exact congrArg G (congrArg₂ ix2 (Fin.ext h0.symm) (Fin.ext h1.symm))

/-- What the reference holds. -/
def G (i : (⟨2, ![8192, 6144]⟩ : Shape).Idx) : EReal := Cert.ConvARefIdeal.Read.val_main_v101 (F := Ideal) (A0 m c) (A1 m c) (A2 m c) (A3 m c) i

/-- … at the index a point's block places a block index at. -/
def Gb (y : S2048x768.Idx) : EReal := G m c ((win0_4.blk t).view.emb y)

theorem block4 (y : S2048x768.Idx) : (outsAt0 m c t.val t.isLt).1 y = Gb m c t y := by
  have hB : ∀ (r : Fin 2048) (q : Fin 256), Gb m c t (ix2 r ⟨q.val, by omega⟩)
      = up (A0 m c) (A1 m c) (seq t) r (col (grp t) q) * conv (A2 m c) (A3 m c) (seq t) r (grp t) q := fun r q => by
    rw [Gb, emb4, G, ← refB]; rfl
  have hC : ∀ (r : Fin 2048) (q : Fin 256), Gb m c t (ix2 r ⟨256 + q.val, by omega⟩)
      = din (A0 m c) (A1 m c) (A2 m c) (A3 m c) (seq t) r (grp t) q * tV (A2 m c) (seq t) r (grp t) q := fun r q => by
    rw [Gb, emb4, G, ← refC]; simp only [row, add_assoc]
  have hV : ∀ (r : Fin 2048) (q : Fin 256), Gb m c t (ix2 r ⟨512 + q.val, by omega⟩)
      = din (A0 m c) (A1 m c) (A2 m c) (A3 m c) (seq t) r (grp t) q * tC (A2 m c) (seq t) r (grp t) q := fun r q => by
    rw [Gb, emb4, G, ← refV]; simp only [row, add_assoc]
  by_cases h0 : t.val % 4 = 0
  · rw [outsAt0_A m c t h0 (by omega)]
    frame_out
    exact tiles _ _ _ _ (fun r q => (pay11 m c t r q).trans (hB r q).symm) (fun r q => (pay14 m c t r q).trans (hC r q).symm)
      (fun r q => (pay15 m c t r q).trans (hV r q).symm) y
  · rw [outsAt0_B m c t h0 (by omega)]
    frame_out
    exact tiles _ _ _ _ (fun r q => (pay11 m c t r q).trans (hB r q).symm) (fun r q => (pay14 m c t r q).trans (hC r q).symm)
      (fun r q => (pay15 m c t r q).trans (hV r q).symm) y

theorem final4 (i : (⟨2, ![8192, 6144]⟩ : Shape).Idx) (hi : (i 1).val < 3072) :
    (dats m 0 c).arrAt 4 cfg0.N i = G m c i := by
  revert hi
  refine (dats m 0 c).arrAt_forall_of_coversWhere 4 (fun i v => (i 1).val < 3072 → v = G m c i) (fun β => β 1 < 4) (by decide +kernel)
    (fun t hf y => ?_) (fun j hj => ?_) i
  · blk_simp
    intro _
    rw [after0_4]
    exact block4 m c t y
  · intro h
    blk_simp [Pipeline.Window.cell_apply] at hj h
    omega

/-! ## The second result: the taps' gradient -/

theorem final5 : (dats m 0 c).arrAt 5 cfg0.N = Cert.ConvARefIdeal.Read.val_main_v85 (F := Ideal) (A0 m c) (A1 m c) (A2 m c) := by
  refine (dats m 0 c).arrAt_eq_of_covers 5 _ (by decide +kernel) fun t hf y => ?_
  blk_simp
  obtain ⟨i, q, rfl⟩ : ∃ (i : Fin 8) (q : Fin 256), y = ix2 i q := ⟨y 0, y 1, eq_ix2 y⟩
  rw [after0_5, emb5]
  refine (Pipeline.eq_sum_fin_of_reset_step_apply_of_flush (fun n h => (outsAt0 m c n h).2) 4 (fun _ => 0)
    (fun t j => k0_pay1 (k0_pay6 (lC m c t) (lV m c t)) (k0_pay7 (lC m c t) (lV m c t)) (k0_pay8 (lC m c t) (lV m c t)) (k0_pay12 (k0_pay3 (iblk m c 0 t) (iblk m c 1 t)) (lB m c t)) j)
    (fun t h j => ?_) (fun t h j => ?_) t ((flush0_5 t).mp hf) (ix2 i q)).trans ?_
  · rw [outsAt0_A m c t h (by omega)]
    frame_out
    exact (zero_add _).symm
  · rw [outsAt0_B m c t h (by omega)]
    frame_out
    unfold k0_pay2
    pointwise
    rfl
  · rw [zero_add]
    have hq : (⟨(grp t).val * 256 + q.val, by omega⟩ : Fin 1024) = col (grp t) q := rfl
    rw [hq, ref85]
    refine Finset.sum_congr rfl fun s _ => ?_
    rw [pay1]
    have es : ∀ h, seq ⟨4 * (t.val / 4) + s.val, h⟩ = s := fun h => Fin.ext (by simp only [seq]; omega)
    have eg : ∀ h, grp ⟨4 * (t.val / 4) + s.val, h⟩ = grp t := fun h => Fin.ext (by simp only [grp]; omega)
    rw [es, eg]

/-! ## The claims -/

theorem mask_iff (x0 : FVec Ideal Cert.On_conv_a_cols.S8192x1024 .bf16) (x1 : FVec Ideal Cert.On_conv_a_cols.S1024x1024 .bf16)
    (x2 : FVec Ideal Cert.On_conv_a_cols.S8192x10240 .bf16) (x3 : FVec Ideal Cert.On_conv_a_cols.S8x1024 .f32)
    (i : (⟨2, ![8192, 6144]⟩ : Shape).Idx) : (Cert.On_conv_a_cols.fn (F := Ideal) x0 x1 x2 x3).1 i = 1#1 ↔ (i 1).val < 3072 := by
  show IntOp.cmpi .slt (BitVec.ofNat 32 (i 1).val) (BitVec.ofNat 32 3072) = 1#1 ↔ _
  have h : (i 1).val < 6144 := (i 1).isLt
  exact WordCmp.cmpi_slt_ofNat_eq_one_iff (by norm_num; omega) (by norm_num)

theorem ref_frame : Cert.quiescent_ConvARefIdeal := fun m ρ _ =>
  (θ_run Cert.ConvARefIdeal.defs _ _).mono (fun r h => ⟨fun c => (h c).2.2,
      Idealize.ShloMosaic.sem_eq_zero_of_no_sems (by decide) r.2⟩)
    (Cert.ConvARefIdeal.Value.run (F := Ideal) m ρ)

theorem algebraic : Cert.algebraic_ConvAIdeal_ConvARefIdeal_on_conv_a_cols := by
  intro m ρ m' ρ' _ hagree
  refine ⟨fun c => G m c, fun c => (dats m 0 c).arrAt 5 cfg0.N, ?_, ?_⟩
  · refine (θ_run Cert.ConvAIdeal.defs _ _).mono (fun r h c => ?_) (Value.run_blocks (F := Ideal) m ρ)
    obtain ⟨h0, h1, h⟩ := h c
    exact ⟨fun i hi => (congrFun h0 i).trans (final4 m c i ((mask_iff _ _ _ _ i).mp hi)), fun i _ => congrFun h1 i, h⟩
  · refine (θ_run Cert.ConvARefIdeal.defs _ _).mono (fun r h c => ?_) (Cert.ConvARefIdeal.Value.run (F := Ideal) m' ρ')
    obtain ⟨h0, h1, h⟩ := h c
    obtain ⟨a0, a1, a2, a3⟩ := hagree c
    rw [Cert.ConvARefIdeal.Read.val_main_v101_eq, a0, a1, a2, a3] at h0
    rw [Cert.ConvARefIdeal.Read.val_main_v85_eq, a0, a1, a2] at h1
    exact ⟨fun i _ => congrFun h0 i, fun i _ => (congrFun h1 i).trans (congrFun (final5 m c) i).symm, h⟩

end Cert.Proof.ConvA
-- ==== Proof.Reals.lean ====
/-
  Extended reals: constants read off their bit patterns, a finite nonnegative factor moved through a sum, arrays
  without infinite elements, and the operations at real numbers.
-/
module

public import Idealize.ShloMosaic.Lib.Pointwise
public import Idealize.ShloMosaic.Lib.IdealHost

@[expose] public section

noncomputable section

namespace Cert.Proof.Reals

open Idealize.ShloMosaic

theorem ofBits_half : Ideal.ofBits .f32 0x3F000000#32 = (((1 / 2 : ℝ) : ℝ) : EReal) := by
  simp [Ideal.ofBits, Ideal.ieee, -EReal.coe_mul]; norm_num

theorem mul_sum_of_nonneg {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih,
      EReal.left_distrib_of_nonneg_of_ne_top (EReal.coe_nonneg.mpr hc) (EReal.coe_ne_top c)]

theorem eq_coe_of_sub_self {x : EReal} (h : x - x = 0) : ∃ r : ℝ, x = r := by
  induction x using EReal.rec with
  | bot => simp at h
  | coe r => exact ⟨r, rfl⟩
  | top => simp at h

/-- The test `x - x == 0` says that no element is infinite. -/
theorem finite_of_test {s : Shape} {φ : FTy} (x y : FVec Ideal s φ) (i : s.Idx) (hy : y i = (0 : EReal))
    (h : cmpf .oeq (subf x x) y i = 1#1) : ∃ r : ℝ, x i = (r : EReal) := by
  refine eq_coe_of_sub_self ?_
  have h' : BitVec.ofBool (decide ((x i - x i : EReal) = y i)) = 1#1 := h
  rw [hy] at h'
  by_contra hne
  rw [decide_eq_false hne] at h'
  exact absurd h' (by decide)

/-- A function without infinite values is a real function. -/
theorem exists_real {ι : Type*} {f : ι → EReal} (h : ∀ i, ∃ r : ℝ, f i = r) : ∃ g : ι → ℝ, ∀ i, f i = g i :=
  ⟨fun i => (h i).choose, fun i => (h i).choose_spec⟩

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_div (a b : ℝ) (hb : b ≠ 0) : Ideal.div (a : EReal) (b : EReal) = ((a / b : ℝ) : EReal) := by
  rw [Ideal.div, if_neg (EReal.coe_ne_zero.mpr hb), ← EReal.coe_inv, ← EReal.coe_mul, div_eq_mul_inv]

theorem coe_exp (a : ℝ) : Ideal.exp (a : EReal) = ((Real.exp a : ℝ) : EReal) := rfl

theorem coe_rsqrt (a : ℝ) (ha : 0 < a) : Ideal.rsqrt (a : EReal) = (((√a)⁻¹ : ℝ) : EReal) := by
  show (if a < 0 then _ else if a = 0 then _ else _) = _
  rw [if_neg (not_lt.mpr ha.le), if_neg ha.ne']

theorem ofBits_neg_half : Ideal.ofBits .f32 0xBF000000#32 = (((-1 / 2 : ℝ) : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

/-- The norm's added constant. -/
theorem ofBits_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- The gradient of a row norm in its two forms. -/
theorem rmsnorm_grad {ι : Type*} [Fintype ι] (h d : ι → EReal) (n e : ℝ) (hn : 0 < n) (he : 0 < e)
    (hh : ∀ i, ∃ r : ℝ, h i = r) (hd : ∀ i, ∃ r : ℝ, d i = r) (k : ι) (v s : EReal)
    (hv : v = Ideal.div (∑ i, h i * h i) n + e) (hs : s = Ideal.rsqrt v) :
    s * (d k - h k * s * Ideal.div (∑ i, d i * (h i * s)) n)
      = d k * s + h k * Ideal.div ((∑ i, h i * d i) * (((-1 / 2 : ℝ) : EReal) * Ideal.div s v)) n
        + Ideal.div ((∑ i, h i * d i) * (((-1 / 2 : ℝ) : EReal) * Ideal.div s v)) n * h k := by
  obtain ⟨f, hf⟩ := exists_real hh
  obtain ⟨g, hg⟩ := exists_real hd
  have hq : 0 ≤ ∑ i, f i * f i := Finset.sum_nonneg fun i _ => mul_self_nonneg _
  have hw : 0 < (∑ i, f i * f i) / n + e := by positivity
  obtain ⟨w, hw'⟩ : ∃ w, w = (∑ i, f i * f i) / n + e := ⟨_, rfl⟩
  rw [← hw'] at hw
  have hvw : v = (w : EReal) := by
    rw [hv, hw']
    simp only [hf, ← EReal.coe_mul, coe_sum]
    rw [coe_div _ _ hn.ne', ← EReal.coe_add]
  have hsw : s = (((√w)⁻¹ : ℝ) : EReal) := by rw [hs, hvw, coe_rsqrt _ hw]
  have hsq : √w * √w = w := Real.mul_self_sqrt hw.le
  have hsp : 0 < √w := Real.sqrt_pos.mpr hw
  have h1 : ∑ i, g i * (f i * (√w)⁻¹) = (∑ i, f i * g i) * (√w)⁻¹ := by
    rw [Finset.sum_mul]
    exact Finset.sum_congr rfl fun i _ => by ring
  simp only [hf, hg, hvw, hsw, ← EReal.coe_mul, coe_sum, coe_div _ _ hn.ne', coe_div _ _ hw.ne', ← EReal.coe_sub,
    ← EReal.coe_add, h1]
  refine congrArg _ ?_
  obtain ⟨q, hq'⟩ : ∃ q, q = √w := ⟨_, rfl⟩
  rw [← hq'] at hsq hsp ⊢
  rw [← hsq]
  field_simp
  ring

/-- The logistic function. -/
def sig (a : ℝ) : ℝ := 1 / (1 + Real.exp (-a))

theorem div_exp (a : ℝ) : Ideal.div 1 (1 + Ideal.exp (-(a : EReal))) = ((sig a : ℝ) : EReal) := by
  rw [← EReal.coe_neg, coe_exp, ← EReal.coe_one, ← EReal.coe_add, coe_div _ _ (by positivity), sig]

theorem div_exp_sub (a : ℝ) : Ideal.div 1 (1 + Ideal.exp (0 - (a : EReal))) = ((sig a : ℝ) : EReal) := by
  rw [zero_sub, div_exp]

/-- The two forms of the derivative of `silu`. -/
theorem silu_grad (u g s : EReal) (hu : ∃ r : ℝ, u = r) (hg : ∃ r : ℝ, g = r) (hs : ∃ r : ℝ, s = r) :
    u * (s * (1 + g * (1 - s))) = u * s + g * u * (s * (1 - s)) := by
  obtain ⟨u, rfl⟩ := hu
  obtain ⟨g, rfl⟩ := hg
  obtain ⟨s, rfl⟩ := hs
  rw [← EReal.coe_one]
  norm_cast
  ring

end Cert.Proof.Reals

end
-- ==== Proof.DMnValue.lean ====
/-
  The gradient of the memory: a product accumulated over the keys' and the values' halves, then the row norm's gradient.
-/
module

public import proofs.«01_k».proof.Defs
public import proofs.«01_k».proof.Proof.Reals
public import proofs.«01_k».proof.Proof.Gen.Pre_finite_mn
public import proofs.«01_k».proof.Proof.Gen.DMnIdeal.Value
public import proofs.«01_k».proof.Proof.Gen.DMnRefIdeal.Run
public import proofs.«01_k».proof.Proof.Gen.DMnRefIdeal.Read
public import Idealize.ShloMosaic.Lib.Pipeline.ValueKit
public import Idealize.ShloMosaic.Lib.Pipeline.ReadBack
public import Idealize.ShloMosaic.Lib.Pointwise

@[expose] public section

noncomputable section

namespace Cert.Proof.DMn

open Cert.DMnIdeal Cert.DMnIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![0, 0] :=
  (by decide +kernel : ∀ t : Fin grid0.N, win0_0.index t = ![0, 0])
theorem e1 : ∀ t : Fin cfg0.N, win0_1.index t = ![0, 0] :=
  (by decide +kernel : ∀ t : Fin grid0.N, win0_1.index t = ![0, 0])
theorem e2 : ∀ t : Fin cfg0.N, win0_2.index t = ![t.val % 2, 0] :=
  (by decide +kernel : ∀ t : Fin grid0.N, win0_2.index t = ![t.val % 2, 0])
theorem e3 : ∀ t : Fin cfg0.N, win0_3.index t = ![0, 0] :=
  (by decide +kernel : ∀ t : Fin grid0.N, win0_3.index t = ![0, 0])
theorem e4 : ∀ t : Fin cfg0.N, win0_4.index t = ![0, 0] :=
  (by decide +kernel : ∀ t : Fin grid0.N, win0_4.index t = ![0, 0])
theorem e5 : ∀ t : Fin cfg0.N, win0_5.index t = ![0, 0] :=
  (by decide +kernel : ∀ t : Fin grid0.N, win0_5.index t = ![0, 0])
theorem e6 : ∀ t : Fin cfg0.N, win0_6.index t = ![0, 0] :=
  (by decide +kernel : ∀ t : Fin grid0.N, win0_6.index t = ![0, 0])

/-- The product's inner index `k` of point `t`'s tile. -/
def col (t : Fin cfg0.N) (k : Fin 1024) : Fin 2048 := ⟨t.val % 2 * 1024 + k.val, by omega⟩

variable (c : Dev nD) (t : Fin cfg0.N)

/-- The arguments' arrays. -/
def A0 : S1024x1024.Idx → EReal := m ((c : Thread nD τ).loc main_arg0)
def A1 : S1024x1024.Idx → EReal := m ((c : Thread nD τ).loc main_arg1)
def A2 : S2048x1024.Idx → EReal := m ((c : Thread nD τ).loc main_arg2)
def A3 : S1x1024.Idx → EReal := m ((c : Thread nD τ).loc main_arg3)
def A4 : S1024x1024.Idx → EReal := m ((c : Thread nD τ).loc main_arg4)

theorem blk0 (r : Fin 1024) (k : Fin 1024) : iblk m c 0 t (ix2 r k) = A0 m c (ix2 r k) := by
  blk_ext [iblk, V, A0, e0]
theorem blk1 (r : Fin 1024) (k : Fin 1024) : iblk m c 1 t (ix2 r k) = A1 m c (ix2 r k) := by
  blk_ext [iblk, V, A1, e1]
theorem blk2 (r : Fin 1024) (k : Fin 1024) : iblk m c 2 t (ix2 r k) = A2 m c (ix2 (col t r) k) := by
  blk_ext [iblk, V, A2, e2, col]
theorem blk3 (r : Fin 1) (k : Fin 1024) : iblk m c 3 t (ix2 r k) = A3 m c (ix2 r k) := by
  blk_ext [iblk, V, A3, e3]
theorem blk4 (r : Fin 1024) (k : Fin 1024) : iblk m c 4 t (ix2 r k) = A4 m c (ix2 r k) := by
  blk_ext [iblk, V, A4, e4]
theorem emb5 (r : Fin 1024) (k : Fin 1024) : (win0_5.blk t).view.emb (ix2 r k) = ix2 r k := by
  blk_ext [e5]
theorem emb6 (r : Fin 1) (k : Fin 1024) : (win0_6.blk t).view.emb (ix2 r k) = ix2 r k := by
  blk_ext [e6]

/-- The cotangent of the product, of the keys' and the values' side by side. -/
def cat (x0 x1 : (⟨2, ![1024, 1024]⟩ : Shape).Idx → EReal) (i : Fin 1024) (l : Fin 2048) : EReal :=
  if h : l.val < 1024 then x0 (ix2 i ⟨l.val, h⟩) else x1 (ix2 i ⟨l.val - 1024, by omega⟩)

/-- The cotangent of the normed row. -/
def dn (x0 x1 : (⟨2, ![1024, 1024]⟩ : Shape).Idx → EReal) (x2 : (⟨2, ![2048, 1024]⟩ : Shape).Idx → EReal)
    (i : Fin 1024) (k : Fin 1024) : EReal := ∑ l : Fin 2048, cat x0 x1 i l * x2 (ix2 l k)

/-- A row's mean square with the norm's constant added. -/
def ms (x4 : (⟨2, ![1024, 1024]⟩ : Shape).Idx → EReal) (i : Fin 1024) : EReal :=
  Ideal.div (∑ k : Fin 1024, x4 (ix2 i k) * x4 (ix2 i k)) (Ideal.ofBits .f32 0x44800000#32) + Ideal.ofBits .f32 0x358637BD#32

/-- The product of point `t`'s tiles. -/
def part (t : Fin cfg0.N) (i : S1024x1024.Idx) : EReal :=
  ∑ k : Fin 1024, cat (A0 m c) (A1 m c) (i 0) (col t k) * A2 m c (ix2 (col t k) (i 1))

theorem scratch_first (h : t.val % 2 = 0) (i : S1024x1024.Idx) :
    (outsAt0 m c t.val t.isLt).2.2 i = 0 + part m c t i := by
  obtain ⟨r, k, rfl⟩ : ∃ (r : Fin 1024) (k : Fin 1024), i = ix2 r k := ⟨i 0, i 1, eq_ix2 i⟩
  rw [outsAt0_A m c t h (by omega) (by omega), zero_add]
  frame_out
  unfold k0_pay1 part
  pointwise [blk0, blk2]
  refine Finset.sum_congr rfl fun l _ => ?_
  have hl : (col t l).val = l.val := by simp only [col]; omega
  rw [cat, dif_pos (by omega)]
  simp only [hl]

theorem scratch_next (h : ¬t.val % 2 = 0) (i : S1024x1024.Idx) :
    (outsAt0 m c t.val t.isLt).2.2 i
      = (outsAt0 m c (t.val - 1) (Nat.lt_of_le_of_lt (Nat.sub_le _ _) t.isLt)).2.2 i + part m c t i := by
  obtain ⟨r, k, rfl⟩ : ∃ (r : Fin 1024) (k : Fin 1024), i = ix2 r k := ⟨i 0, i 1, eq_ix2 i⟩
  rw [outsAt0_B m c t h (by omega) (by omega)]
  frame_out
  unfold k0_pay3 part
  pointwise [blk1, blk2]
  rw [read_unread_whole]
  refine congrArg _ (Finset.sum_congr rfl fun l _ => ?_)
  have hl : (col t l).val = 1024 + l.val := by simp only [col]; omega
  rw [cat, dif_neg (by omega)]
  simp only [hl, Nat.add_sub_cancel_left]

/-- What the last step writes. -/
theorem out_last (h : t.val % 2 = 1) (i : S1024x1024.Idx) :
    (outsAt0 m c t.val t.isLt).1 i
      = k0_pay7 (F := Ideal) (outsAt0 m c t.val t.isLt).2.2 (iblk m c 4 t) (iblk m c 3 t) i := by
  rw [outsAt0_B m c t (by omega) h h]
  frame_out

theorem gain_out (h : t.val % 2 = 1) (i : S1x1024.Idx) :
    (outsAt0 m c t.val t.isLt).2.1 i = k0_pay6 (F := Ideal) (outsAt0 m c t.val t.isLt).2.2 (iblk m c 4 t) i := by
  rw [outsAt0_B m c t (by omega) h h]
  frame_out

theorem scratch_last (h : t.val % 2 = 1) (r : Fin 1024) (k : Fin 1024) :
    (outsAt0 m c t.val t.isLt).2.2 (ix2 r k) = dn (A0 m c) (A1 m c) (A2 m c) r k := by
  rw [Pipeline.eq_sum_fin_of_reset_step_apply_of_flush (fun n h => (outsAt0 m c n h).2.2) 2 (fun _ => (0 : EReal)) (part m c)
    (fun t h i => scratch_first m c t h i) (fun t h i => scratch_next m c t h i) t h (ix2 r k), zero_add]
  refine Fin.sum_mul_add_congr fun s l hl => ?_
  have hc : col ⟨2 * (t.val / 2) + s.val, Pipeline.run_point_lt_of_flush t h s⟩ l = ⟨s.val * 1024 + l.val, hl⟩ :=
    Fin.ext (by simp only [col]; omega)
  simp only [ix2_0, ix2_1, hc]

/-- A row's reciprocal norm. -/
theorem pay4 (r : Fin 1024) (k : Fin 1) :
    k0_pay4 (F := Ideal) (iblk m c 4 t) (ix2 r k) = Ideal.rsqrt (ms (A4 m c) r) := by
  unfold k0_pay4 ms
  pointwise [blk4]

theorem pay5 (r : Fin 1024) (k : Fin 1024) : k0_pay5 (F := Ideal) (iblk m c 4 t) (ix2 r k)
    = A4 m c (ix2 r k) * Ideal.rsqrt (ms (A4 m c) r) := by
  unfold k0_pay5
  pointwise [blk4, pay4]

/-- A row's term of the gain's gradient. -/
def gterm (x0 x1 : (⟨2, ![1024, 1024]⟩ : Shape).Idx → EReal) (x2 : (⟨2, ![2048, 1024]⟩ : Shape).Idx → EReal)
    (x4 : (⟨2, ![1024, 1024]⟩ : Shape).Idx → EReal) (k : Fin 1024) (i : Fin 1024) : EReal :=
  dn x0 x1 x2 i k * (x4 (ix2 i k) * Ideal.rsqrt (ms x4 i))

theorem gain_last (h : t.val % 2 = 1) (r : Fin 1) (k : Fin 1024) :
    (outsAt0 m c t.val t.isLt).2.1 (ix2 r k) = ∑ l : Fin 1024, gterm (A0 m c) (A1 m c) (A2 m c) (A4 m c) k l := by
  rw [gain_out m c t h]
  unfold k0_pay6 gterm
  pointwise [pay5, scratch_last m c t h]

open Cert.DMnRefIdeal.Read

variable (x0 x1 : (⟨2, ![1024, 1024]⟩ : Shape).Idx → EReal) (x2 : (⟨2, ![2048, 1024]⟩ : Shape).Idx → EReal)
  (x4 : (⟨2, ![1024, 1024]⟩ : Shape).Idx → EReal) (x3 : (⟨2, ![1, 1024]⟩ : Shape).Idx → EReal)

theorem ref22 (i : Fin 1024) (l : Fin 2048) : val_main_v22 (F := Ideal) x0 x1 (ix2 i l) = cat x0 x1 i l := by
  unfold val_main_v22 val_main_v21 val_main_v20 val_main_cst_4 val_main_cst_3
  pointwise
  unfold cat
  have hl := l.isLt
  split_ifs <;> first | omega | simp

theorem ref23 (i : Fin 1024) (k : Fin 1024) : val_main_v23 (F := Ideal) x0 x1 x2 (ix2 i k) = dn x0 x1 x2 i k := by
  unfold val_main_v23 val_main_v16 val_main_v0 dn
  pointwise [ref22]

theorem ref7 (i : Fin 1024) (k : Fin 1) : val_main_v7 (F := Ideal) x4 (ix2 i k) = ms x4 i := by
  unfold val_main_v7 val_main_v6 val_main_v5 val_main_v4 val_main_v3 val_main_v2 val_main_v1 val_main_cst val_main_cst_0
    val_main_cst_1 ms
  pointwise

theorem ref26 (r : Fin 1) (k : Fin 1024) : val_main_v26 (F := Ideal) x0 x1 x2 x4 (ix2 r k)
    = ∑ i : Fin 1024, gterm x0 x1 x2 x4 k i := by
  unfold val_main_v26 val_main_v25 val_main_cst_5 val_main_v24 val_main_v13 val_main_v12 val_main_v8 gterm
  pointwise [ref7, ref23]
  exact Finset.sum_congr rfl fun i _ => mul_comm _ _

/-- The norm's factor of a row, as the reference writes it. -/
def bterm (d h : Fin 1024 → EReal) (s v : EReal) : EReal :=
  Ideal.div ((∑ k, h k * d k) * (Ideal.ofBits .f32 0xBF000000#32 * Ideal.div s v)) (Ideal.ofBits .f32 0x44800000#32)

theorem ref37 (i : Fin 1024) : val_main_v37 (F := Ideal) x0 x1 x2 x3 x4 (ix1 i)
    = bterm (fun k => dn x0 x1 x2 i k * x3 (ix2 0 k)) (fun k => x4 (ix2 i k)) (Ideal.rsqrt (ms x4 i)) (ms x4 i) := by
  unfold val_main_v37 val_main_cst_8 val_main_v36 val_main_v35 val_main_cst_7 val_main_v34 val_main_v31 val_main_v30 val_main_cst_6
    val_main_v29 val_main_v28 val_main_v27 val_main_v11 val_main_v10 val_main_cst_2 val_main_v9 val_main_v8 bterm
  pointwise [ref7, ref23]
  simp only [Finset.univ_unique, Finset.sum_singleton]

theorem ref42 (i : Fin 1024) (k : Fin 1024) : val_main_v42 (F := Ideal) x0 x1 x2 x3 x4 (ix2 i k)
    = dn x0 x1 x2 i k * x3 (ix2 0 k) * Ideal.rsqrt (ms x4 i)
      + x4 (ix2 i k) * bterm (fun k => dn x0 x1 x2 i k * x3 (ix2 0 k)) (fun k => x4 (ix2 i k)) (Ideal.rsqrt (ms x4 i)) (ms x4 i)
      + bterm (fun k => dn x0 x1 x2 i k * x3 (ix2 0 k)) (fun k => x4 (ix2 i k)) (Ideal.rsqrt (ms x4 i)) (ms x4 i) * x4 (ix2 i k) := by
  unfold val_main_v42 val_main_v41 val_main_v40 val_main_v39 val_main_v38 val_main_v33 val_main_v32 val_main_v28
    val_main_v27 val_main_v8
  pointwise [ref7, ref23, ref37]

/-- The arrays that matter have no infinite element. -/
def Fin' : Prop := ((∀ i, ∃ r : ℝ, A0 m c i = r) ∧ ∀ i, ∃ r : ℝ, A1 m c i = r)
  ∧ (∀ i, ∃ r : ℝ, A2 m c i = r) ∧ (∀ i, ∃ r : ℝ, A3 m c i = r) ∧ ∀ i, ∃ r : ℝ, A4 m c i = r

theorem dn_real (h0 : ∀ i, ∃ r : ℝ, x0 i = r) (h1 : ∀ i, ∃ r : ℝ, x1 i = r) (h2 : ∀ i, ∃ r : ℝ, x2 i = r)
    (i : Fin 1024) (k : Fin 1024) : ∃ r : ℝ, dn x0 x1 x2 i k = r := by
  have hc : ∀ l, ∃ r : ℝ, cat x0 x1 i l = r := fun l => by
    unfold cat
    split_ifs
    · exact h0 _
    · exact h1 _
  obtain ⟨f, hf⟩ := Reals.exists_real hc
  obtain ⟨g, hg⟩ := Reals.exists_real h2
  refine ⟨∑ l : Fin 2048, f l * g (ix2 l k), ?_⟩
  rw [dn, ← Reals.coe_sum]
  exact Finset.sum_congr rfl fun l _ => by rw [hf, hg, EReal.coe_mul]

theorem final5 (hf : Fin' m c) : (dats m 0 c).arrAt 5 cfg0.N
    = val_main_v42 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t hfl y => ?_
  blk_simp
  obtain ⟨r, k, rfl⟩ : ∃ (r : Fin 1024) (k : Fin 1024), y = ix2 r k := ⟨y 0, y 1, eq_ix2 y⟩
  have h : t.val % 2 = 1 := (flush0_5 t).mp hfl
  rw [after0_5, emb5, ref42, out_last m c t h]
  unfold k0_pay7
  pointwise [scratch_last m c t h, blk3, pay4, pay5]
  obtain ⟨e, he, hee⟩ := Reals.ofBits_eps
  have hd : ∀ k, ∃ s : ℝ, dn (A0 m c) (A1 m c) (A2 m c) r k * A3 m c (ix2 0 k) = s := fun k => by
    obtain ⟨a, ha⟩ := dn_real (A0 m c) (A1 m c) (A2 m c) hf.1.1 hf.1.2 hf.2.1 r k
    obtain ⟨b, hb⟩ := hf.2.2.1 (ix2 0 k)
    exact ⟨a * b, by rw [ha, hb, EReal.coe_mul]⟩
  have key := Reals.rmsnorm_grad (fun k => A4 m c (ix2 r k))
    (fun k => dn (A0 m c) (A1 m c) (A2 m c) r k * A3 m c (ix2 0 k)) 1024 e (by norm_num) he
    (fun _ => hf.2.2.2 _) hd k (ms (A4 m c) r) _ (by rw [ms, hee, Reals.ofBits_1024]) rfl
  rw [Reals.ofBits_1024]
  refine Eq.trans key ?_
  unfold bterm
  rw [Reals.ofBits_1024, Reals.ofBits_neg_half]
  rfl

theorem final6 (_ : Fin' m c) : (dats m 0 c).arrAt 6 cfg0.N
    = val_main_v26 (F := Ideal) (m ((c : Thread nD τ).loc main_arg0)) (m ((c : Thread nD τ).loc main_arg1))
        (m ((c : Thread nD τ).loc main_arg2)) (m ((c : Thread nD τ).loc main_arg4)) := by
  refine (dats m 0 c).arrAt_eq_of_covers 6 _ (by decide +kernel) fun t hfl y => ?_
  blk_simp
  obtain ⟨r, k, rfl⟩ : ∃ (r : Fin 1) (k : Fin 1024), y = ix2 r k := ⟨y 0, y 1, eq_ix2 y⟩
  rw [after0_6, emb6, ref26, gain_last m c t ((flush0_6 t).mp hfl)]
  rfl

theorem finite (hpre : Cert.Pre_DMnIdeal_finite_mn m) : Fin' m c :=
  ⟨⟨fun i => Reals.finite_of_test _ _ i (by exact Ideal.ofBits_zero_f32) (congrFun (hpre c).1 i),
    fun i => Reals.finite_of_test _ _ i (by exact Ideal.ofBits_zero_f32) (congrFun (hpre c).2.1 i)⟩,
    fun i => Reals.finite_of_test _ _ i (by exact Ideal.ofBits_zero_bf16) (congrFun (hpre c).2.2.1 i),
    fun i => Reals.finite_of_test _ _ i (by exact Ideal.ofBits_zero_f32) (congrFun (hpre c).2.2.2.1 i),
    fun i => Reals.finite_of_test _ _ i (by exact Ideal.ofBits_zero_f32) (congrFun (hpre c).2.2.2.2 i)⟩

theorem ref_frame : Cert.quiescent_DMnRefIdeal := fun m ρ _ =>
  (θ_run Cert.DMnRefIdeal.defs _ _).mono (fun r h => ⟨fun c => (h c).2.2,
      Idealize.ShloMosaic.sem_eq_zero_of_no_sems (by decide) r.2⟩)
    (Cert.DMnRefIdeal.Value.run (F := Ideal) m ρ)

theorem algebraic : Cert.algebraic_DMnIdeal_DMnRefIdeal_pre_finite_mn := by
  intro m ρ m' ρ' hpre hagree
  refine ⟨fun c => (dats m 0 c).arrAt 5 cfg0.N, fun c => (dats m 0 c).arrAt 6 cfg0.N, Value.run_blocks (F := Ideal) m ρ, ?_⟩
  refine (θ_run Cert.DMnRefIdeal.defs _ _).mono (fun r h c => ?_) (Cert.DMnRefIdeal.Value.run (F := Ideal) m' ρ')
  obtain ⟨h0, h1, h⟩ := h c
  obtain ⟨a0, a1, a2, a3, a4⟩ := hagree c
  rw [val_main_v42_eq, a0, a1, a2, a3, a4] at h0
  rw [val_main_v26_eq, a0, a1, a2, a4] at h1
  exact ⟨h0.trans (final5 m c (finite m c hpre)).symm, h1.trans (final6 m c (finite m c hpre)).symm, h⟩

end Cert.Proof.DMn

end
-- ==== Proof.DOValue.lean ====
/-
  The gradient of the attention's output in the output projection's input.
-/
module

public import proofs.«01_k».proof.Defs
public import proofs.«01_k».proof.Proof.Gen.DOIdeal.Value
public import proofs.«01_k».proof.Proof.Gen.DORefIdeal.Run
public import proofs.«01_k».proof.Proof.Gen.DORefIdeal.Read
public import Idealize.ShloMosaic.Lib.Pipeline.ValueKit
public import Idealize.ShloMosaic.Lib.Pipeline.ReadBack
public import Idealize.ShloMosaic.Lib.Pointwise

@[expose] public section

noncomputable section

namespace Cert.Proof.DO

open Cert.DOIdeal Cert.DOIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])

/-- The array row of row `r` of point `t`'s tile. -/
def row (t : Fin cfg0.N) (r : Fin 1024) : Fin 8192 := ⟨t.val * 1024 + r.val, by
  have := t.isLt; have h : cfg0.N = 8 := N_0; omega⟩

variable (c : Dev nD) (t : Fin cfg0.N)

theorem blk0 (r : Fin 1024) (k : Fin 1024) :
    iblk m c 0 t (ix2 r k) = m ((c : Thread nD τ).loc main_arg0) (ix2 (row t r) k) := by
  blk_ext [iblk, V, e0, row]
theorem blk1 (r : Fin 1024) (k : Fin 1024) :
    iblk m c 1 t (ix2 r k) = m ((c : Thread nD τ).loc main_arg1) (ix2 r k) := by
  blk_ext [iblk, V, e1]
theorem emb2 (r : Fin 1024) (k : Fin 1024) : (win0_2.blk t).view.emb (ix2 r k) = ix2 (row t r) k := by
  blk_ext [e2, row]

open Cert.DORefIdeal.Read

theorem final2 : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  obtain ⟨r, k, rfl⟩ : ∃ (r : Fin 1024) (k : Fin 1024), y = ix2 r k := ⟨y 0, y 1, eq_ix2 y⟩
  rw [after0_2, emb2]
  frame_out
  unfold_payloads
  unfold val_main_v4 val_main_v3 val_main_v0
  pointwise [blk0, blk1]
  all_goals rfl

theorem ref_frame : Cert.quiescent_DORefIdeal := fun m ρ _ =>
  (θ_run Cert.DORefIdeal.defs _ _).mono (fun r h => ⟨fun c => (h c).2,
      Idealize.ShloMosaic.sem_eq_zero_of_no_sems (by decide) r.2⟩)
    (Cert.DORefIdeal.Value.run (F := Ideal) m ρ)

theorem algebraic : Cert.algebraic_DOIdeal_DORefIdeal := by
  intro m ρ m' ρ' _ hagree
  refine ⟨fun c => (dats m 0 c).arrAt 2 cfg0.N, Value.run_blocks (F := Ideal) m ρ, ?_⟩
  refine (θ_run Cert.DORefIdeal.defs _ _).mono (fun r h c => ?_) (Cert.DORefIdeal.Value.run (F := Ideal) m' ρ')
  obtain ⟨h0, h⟩ := h c
  obtain ⟨a0, a1⟩ := hagree c
  rw [val_main_v4_eq, a0, a1] at h0
  exact ⟨h0.trans (final2 m c).symm, h⟩

end Cert.Proof.DO

end
-- ==== Proof.DUDtValue.lean ====
/-
  The gradient of the inner branch's normed input: the step widths' product added to the other products' sum, the row norm's
  gradient and the residual's cotangent.
-/
module

public import proofs.«01_k».proof.Defs
public import proofs.«01_k».proof.Proof.Reals
public import proofs.«01_k».proof.Proof.Gen.Pre_finite_dt
public import proofs.«01_k».proof.Proof.Gen.DUDtIdeal.Value
public import proofs.«01_k».proof.Proof.Gen.DUDtRefIdeal.Run
public import proofs.«01_k».proof.Proof.Gen.DUDtRefIdeal.Read
public import Idealize.ShloMosaic.Lib.Pipeline.ValueKit
public import Idealize.ShloMosaic.Lib.Pipeline.ReadBack
public import Idealize.ShloMosaic.Lib.Pointwise

@[expose] public section

noncomputable section

namespace Cert.Proof.DUDt

open Cert.DUDtIdeal Cert.DUDtIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])
theorem e3 : ∀ t : Fin cfg0.N, win0_3.index t = ![0, 0] :=
  (by decide +kernel : ∀ t : Fin grid0.N, win0_3.index t = ![0, 0])
theorem e4 : ∀ t : Fin cfg0.N, win0_4.index t = ![t.val, 0] :=
  (by decide +kernel : ∀ t : Fin grid0.N, win0_4.index t = ![t.val, 0])
theorem e5 : ∀ t : Fin cfg0.N, win0_5.index t = ![t.val, 0] :=
  (by decide +kernel : ∀ t : Fin grid0.N, win0_5.index t = ![t.val, 0])
theorem e6 : ∀ t : Fin cfg0.N, win0_6.index t = ![t.val, 0] :=
  (by decide +kernel : ∀ t : Fin grid0.N, win0_6.index t = ![t.val, 0])
theorem e7 : ∀ t : Fin cfg0.N, win0_7.index t = ![0, 0] :=
  (by decide +kernel : ∀ t : Fin grid0.N, win0_7.index t = ![0, 0])

/-- The array row of row `r` of point `t`'s tile. -/
def row (t : Fin cfg0.N) (r : Fin 1024) : Fin 8192 := ⟨t.val * 1024 + r.val, by
  have := t.isLt; have h : cfg0.N = 8 := N_0; omega⟩

variable (c : Dev nD) (t : Fin cfg0.N)

/-- The arguments' arrays. -/
def A0 : S8192x128.Idx → EReal := m ((c : Thread nD τ).loc main_arg0)
def A1 : S128x1024.Idx → EReal := m ((c : Thread nD τ).loc main_arg1)
def A2 : S8192x1024.Idx → EReal := m ((c : Thread nD τ).loc main_arg2)
def A3 : S1x1024.Idx → EReal := m ((c : Thread nD τ).loc main_arg3)
def A5 : S8192x1024.Idx → EReal := m ((c : Thread nD τ).loc main_arg5)
def A4 : S8192x1024.Idx → EReal := m ((c : Thread nD τ).loc main_arg4)

theorem blk0 (r : Fin 1024) (k : Fin 128) : iblk m c 0 t (ix2 r k) = A0 m c (ix2 (row t r) k) := by
  blk_ext [iblk, V, A0, e0, row]
theorem blk1 (r : Fin 128) (k : Fin 1024) : iblk m c 1 t (ix2 r k) = A1 m c (ix2 r k) := by
  blk_ext [iblk, V, A1, e1]
theorem blk2 (r : Fin 1024) (k : Fin 1024) : iblk m c 2 t (ix2 r k) = A2 m c (ix2 (row t r) k) := by
  blk_ext [iblk, V, A2, e2, row]
theorem blk3 (r : Fin 1) (k : Fin 1024) : iblk m c 3 t (ix2 r k) = A3 m c (ix2 r k) := by
  blk_ext [iblk, V, A3, e3]
theorem blk4 (r : Fin 1024) (k : Fin 1024) : iblk m c 4 t (ix2 r k) = A4 m c (ix2 (row t r) k) := by
  blk_ext [iblk, V, A4, e4, row]
theorem blk5 (r : Fin 1024) (k : Fin 1024) : iblk m c 5 t (ix2 r k) = A5 m c (ix2 (row t r) k) := by
  blk_ext [iblk, V, A5, e5, row]
theorem emb6 (r : Fin 1024) (k : Fin 1024) : (win0_6.blk t).view.emb (ix2 r k) = ix2 (row t r) k := by
  blk_ext [e6, row]
theorem emb7 (r : Fin 1) (k : Fin 1024) : (win0_7.blk t).view.emb (ix2 r k) = ix2 r k := by
  blk_ext [e7]

/-- The cotangent of the normed row. -/
def dn (x0 : (⟨2, ![8192, 128]⟩ : Shape).Idx → EReal) (x1 : (⟨2, ![128, 1024]⟩ : Shape).Idx → EReal)
    (x5 : (⟨2, ![8192, 1024]⟩ : Shape).Idx → EReal) (i : Fin 8192) (k : Fin 1024) : EReal :=
  (∑ l : Fin 128, x0 (ix2 i l) * x1 (ix2 l k)) + x5 (ix2 i k)

/-- A row's mean square with the norm's constant added. -/
def ms (x4 : (⟨2, ![8192, 1024]⟩ : Shape).Idx → EReal) (i : Fin 8192) : EReal :=
  Ideal.div (∑ k : Fin 1024, x4 (ix2 i k) * x4 (ix2 i k)) (Ideal.ofBits .f32 0x44800000#32) + Ideal.ofBits .f32 0x358637BD#32

/-- A row's term of the gain's gradient. -/
def gterm (x0 : (⟨2, ![8192, 128]⟩ : Shape).Idx → EReal) (x1 : (⟨2, ![128, 1024]⟩ : Shape).Idx → EReal)
    (x4 x5 : (⟨2, ![8192, 1024]⟩ : Shape).Idx → EReal) (k : Fin 1024) (i : Fin 8192) : EReal :=
  dn x0 x1 x5 i k * (x4 (ix2 i k) * Ideal.rsqrt (ms x4 i))

theorem pay3 (r : Fin 1024) (k : Fin 1024) :
    k0_pay3 (F := Ideal) (iblk m c 0 t) (iblk m c 1 t) (iblk m c 5 t) (ix2 r k) = dn (A0 m c) (A1 m c) (A5 m c) (row t r) k := by
  unfold k0_pay3 dn
  pointwise [blk0, blk1, blk5]

/-- A row's reciprocal norm. -/
theorem pay4 (r : Fin 1024) (k : Fin 1) :
    k0_pay4 (F := Ideal) (iblk m c 4 t) (ix2 r k) = Ideal.rsqrt (ms (A4 m c) (row t r)) := by
  unfold k0_pay4 ms
  pointwise [blk4]

theorem pay5 (r : Fin 1024) (k : Fin 1024) : k0_pay5 (F := Ideal) (iblk m c 4 t) (ix2 r k)
    = A4 m c (ix2 (row t r) k) * Ideal.rsqrt (ms (A4 m c) (row t r)) := by
  unfold k0_pay5
  pointwise [blk4, pay4]

/-- The sum of a row block's terms. -/
def gblock (t : Fin cfg0.N) (i : S1x1024.Idx) : EReal :=
  ∑ l : Fin 1024, gterm (A0 m c) (A1 m c) (A4 m c) (A5 m c) (i 1) (row t l)

theorem pay6 (r : Fin 1) (k : Fin 1024) :
    k0_pay6 (F := Ideal) (iblk m c 0 t) (iblk m c 1 t) (iblk m c 5 t) (iblk m c 4 t) (ix2 r k) = gblock m c t (ix2 r k) := by
  unfold k0_pay6 gblock gterm
  pointwise [pay3, pay5]

/-- What a row block's point writes. -/
theorem out6 (i : S1024x1024.Idx) : (outsAt0 m c t.val t.isLt).1 i
    = k0_pay2 (F := Ideal) (k0_pay7 (F := Ideal) (iblk m c 0 t) (iblk m c 1 t) (iblk m c 5 t) (iblk m c 4 t) (iblk m c 3 t)) (iblk m c 2 t) i := by
  have htl := t.isLt
  have hN : cfg0.N = 8 := N_0
  by_cases h : t.val % 8 = 0
  · rw [outsAt0_A m c t h (by omega)]
    frame_out
  · rw [outsAt0_B m c t h (by omega)]
    frame_out

theorem gain_first (h : t.val % 8 = 0) (i : S1x1024.Idx) :
    (outsAt0 m c t.val t.isLt).2 i = 0 + gblock m c t i := by
  have htl := t.isLt
  have hN : cfg0.N = 8 := N_0
  obtain ⟨r, k, rfl⟩ : ∃ (r : Fin 1) (k : Fin 1024), i = ix2 r k := ⟨i 0, i 1, eq_ix2 i⟩
  rw [outsAt0_A m c t h (by omega), zero_add, ← pay6]
  frame_out

theorem gain_next (h : ¬t.val % 8 = 0) (i : S1x1024.Idx) :
    (outsAt0 m c t.val t.isLt).2 i
      = (outsAt0 m c (t.val - 1) (Nat.lt_of_le_of_lt (Nat.sub_le _ _) t.isLt)).2 i + gblock m c t i := by
  have htl := t.isLt
  have hN : cfg0.N = 8 := N_0
  obtain ⟨r, k, rfl⟩ : ∃ (r : Fin 1) (k : Fin 1024), i = ix2 r k := ⟨i 0, i 1, eq_ix2 i⟩
  rw [outsAt0_B m c t h (by omega), ← pay6]
  frame_out
  unfold k0_pay1
  pointwise

theorem gain_last (h : t.val % 8 = 7) (r : Fin 1) (k : Fin 1024) :
    (outsAt0 m c t.val t.isLt).2 (ix2 r k) = ∑ i : Fin 8192, gterm (A0 m c) (A1 m c) (A4 m c) (A5 m c) k i := by
  have htl := t.isLt
  have hN : cfg0.N = 8 := N_0
  rw [Pipeline.eq_sum_fin_of_reset_step_apply_of_flush (fun n h => (outsAt0 m c n h).2) 8 (fun _ => (0 : EReal)) (gblock m c)
    (fun t h i => gain_first m c t h i) (fun t h i => gain_next m c t h i) t h (ix2 r k), zero_add]
  refine Fin.sum_mul_add_congr fun s l hl => ?_
  have hr : row ⟨8 * (t.val / 8) + s.val, Pipeline.run_point_lt_of_flush t h s⟩ l = ⟨s.val * 1024 + l.val, hl⟩ :=
    Fin.ext (by simp only [row]; omega)
  simp only [ix2_1, hr]

open Cert.DUDtRefIdeal.Read

variable (x0 : (⟨2, ![8192, 128]⟩ : Shape).Idx → EReal) (x1 : (⟨2, ![128, 1024]⟩ : Shape).Idx → EReal)
  (x2 x4 x5 : (⟨2, ![8192, 1024]⟩ : Shape).Idx → EReal) (x3 : (⟨2, ![1, 1024]⟩ : Shape).Idx → EReal)

theorem ref19 (i : Fin 8192) (k : Fin 1024) : val_main_v19 (F := Ideal) x0 x1 x5 (ix2 i k) = dn x0 x1 x5 i k := by
  unfold val_main_v19 val_main_v18 val_main_v16 val_main_v0 dn
  pointwise

theorem ref7 (i : Fin 8192) (k : Fin 1) : val_main_v7 (F := Ideal) x4 (ix2 i k) = ms x4 i := by
  unfold val_main_v7 val_main_v6 val_main_v5 val_main_v4 val_main_v3 val_main_v2 val_main_v1 val_main_cst val_main_cst_0
    val_main_cst_1 ms
  pointwise

theorem ref22 (r : Fin 1) (k : Fin 1024) : val_main_v22 (F := Ideal) x0 x1 x4 x5 (ix2 r k)
    = ∑ i : Fin 8192, gterm x0 x1 x4 x5 k i := by
  unfold val_main_v22 val_main_v21 val_main_cst_3 val_main_v20 val_main_v13 val_main_v12 val_main_v8 gterm
  pointwise [ref7, ref19]
  exact Finset.sum_congr rfl fun i _ => mul_comm _ _

/-- The norm's factor of a row, as the reference writes it. -/
def bterm (d h : Fin 1024 → EReal) (s v : EReal) : EReal :=
  Ideal.div ((∑ k, h k * d k) * (Ideal.ofBits .f32 0xBF000000#32 * Ideal.div s v)) (Ideal.ofBits .f32 0x44800000#32)

theorem ref33 (i : Fin 8192) : val_main_v33 (F := Ideal) x0 x1 x3 x4 x5 (ix1 i)
    = bterm (fun k => dn x0 x1 x5 i k * x3 (ix2 0 k)) (fun k => x4 (ix2 i k)) (Ideal.rsqrt (ms x4 i)) (ms x4 i) := by
  unfold val_main_v33 val_main_cst_6 val_main_v32 val_main_v31 val_main_cst_5 val_main_v30 val_main_v27 val_main_v26 val_main_cst_4
    val_main_v25 val_main_v24 val_main_v23 val_main_v11 val_main_v10 val_main_cst_2 val_main_v9 val_main_v8 bterm
  pointwise [ref7, ref19]
  simp only [Finset.univ_unique, Finset.sum_singleton]

theorem ref39 (i : Fin 8192) (k : Fin 1024) : val_main_v39 (F := Ideal) x0 x1 x2 x3 x4 x5 (ix2 i k)
    = x2 (ix2 i k) + (dn x0 x1 x5 i k * x3 (ix2 0 k) * Ideal.rsqrt (ms x4 i)
      + x4 (ix2 i k) * bterm (fun k => dn x0 x1 x5 i k * x3 (ix2 0 k)) (fun k => x4 (ix2 i k)) (Ideal.rsqrt (ms x4 i)) (ms x4 i)
      + bterm (fun k => dn x0 x1 x5 i k * x3 (ix2 0 k)) (fun k => x4 (ix2 i k)) (Ideal.rsqrt (ms x4 i)) (ms x4 i) * x4 (ix2 i k)) := by
  unfold val_main_v39 val_main_v38 val_main_v37 val_main_v36 val_main_v35 val_main_v34 val_main_v29 val_main_v28 val_main_v24
    val_main_v23 val_main_v8
  pointwise [ref7, ref19, ref33]

/-- The arrays that matter have no infinite element. -/
def Fin' : Prop := (∀ i, ∃ r : ℝ, A0 m c i = r) ∧ (∀ i, ∃ r : ℝ, A1 m c i = r) ∧ (∀ i, ∃ r : ℝ, A3 m c i = r)
  ∧ (∀ i, ∃ r : ℝ, A4 m c i = r) ∧ ∀ i, ∃ r : ℝ, A5 m c i = r

theorem dn_real (h0 : ∀ i, ∃ r : ℝ, x0 i = r) (h1 : ∀ i, ∃ r : ℝ, x1 i = r)
    (h5 : ∀ i, ∃ r : ℝ, x5 i = r)
    (i : Fin 8192) (k : Fin 1024) : ∃ r : ℝ, dn x0 x1 x5 i k = r := by
  obtain ⟨f, hf⟩ := Reals.exists_real h0
  obtain ⟨g, hg⟩ := Reals.exists_real h1
  obtain ⟨b, hb⟩ := h5 (ix2 i k)
  refine ⟨(∑ l : Fin 128, f (ix2 i l) * g (ix2 l k)) + b, ?_⟩
  rw [dn, EReal.coe_add, ← Reals.coe_sum, hb]
  refine congrArg (fun z : EReal => z + (b : EReal)) ?_
  exact Finset.sum_congr rfl fun l _ => by rw [hf, hg, EReal.coe_mul]

theorem final6 (hf : Fin' m c) : (dats m 0 c).arrAt 6 cfg0.N
    = val_main_v39 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hfl y => ?_
  blk_simp
  obtain ⟨r, k, rfl⟩ : ∃ (r : Fin 1024) (k : Fin 1024), y = ix2 r k := ⟨y 0, y 1, eq_ix2 y⟩
  rw [after0_6, emb6, ref39, out6 m c t]
  unfold k0_pay2 k0_pay7
  pointwise [pay3, pay4, pay5, blk2, blk3]
  refine congrArg (fun x : EReal => A2 m c (ix2 (row t r) k) + x) ?_
  obtain ⟨e, he, hee⟩ := Reals.ofBits_eps
  have hd : ∀ k, ∃ s : ℝ, dn (A0 m c) (A1 m c) (A5 m c) (row t r) k * A3 m c (ix2 0 k) = s := fun k => by
    obtain ⟨a, ha⟩ := dn_real (A0 m c) (A1 m c) (A5 m c) hf.1 hf.2.1 hf.2.2.2.2 (row t r) k
    obtain ⟨b, hb⟩ := hf.2.2.1 (ix2 0 k)
    exact ⟨a * b, by rw [ha, hb, EReal.coe_mul]⟩
  have key := Reals.rmsnorm_grad (fun k => A4 m c (ix2 (row t r) k))
    (fun k => dn (A0 m c) (A1 m c) (A5 m c) (row t r) k * A3 m c (ix2 0 k)) 1024 e (by norm_num) he
    (fun _ => hf.2.2.2.1 _) hd k (ms (A4 m c) (row t r)) _ (by rw [ms, hee, Reals.ofBits_1024]) rfl
  rw [Reals.ofBits_1024]
  refine Eq.trans key ?_
  unfold bterm
  rw [Reals.ofBits_1024, Reals.ofBits_neg_half]
  rfl

theorem final7 (_ : Fin' m c) : (dats m 0 c).arrAt 7 cfg0.N
    = val_main_v22 (F := Ideal) (m ((c : Thread nD τ).loc main_arg0)) (m ((c : Thread nD τ).loc main_arg1))
        (m ((c : Thread nD τ).loc main_arg4))
        (m ((c : Thread nD τ).loc main_arg5)) := by
  refine (dats m 0 c).arrAt_eq_of_covers 7 _ (by decide +kernel) fun t hfl y => ?_
  blk_simp
  obtain ⟨r, k, rfl⟩ : ∃ (r : Fin 1) (k : Fin 1024), y = ix2 r k := ⟨y 0, y 1, eq_ix2 y⟩
  rw [after0_7, emb7, ref22, gain_last m c t ((flush0_7 t).mp hfl)]
  rfl

theorem finite (hpre : Cert.Pre_DUDtIdeal_finite_dt m) : Fin' m c :=
  ⟨fun i => Reals.finite_of_test _ _ i (by exact Ideal.ofBits_zero_f32) (congrFun (hpre c).1 i),
    fun i => Reals.finite_of_test _ _ i (by exact Ideal.ofBits_zero_bf16) (congrFun (hpre c).2.1 i),
    fun i => Reals.finite_of_test _ _ i (by exact Ideal.ofBits_zero_f32) (congrFun (hpre c).2.2.1 i),
    fun i => Reals.finite_of_test _ _ i (by exact Ideal.ofBits_zero_f32) (congrFun (hpre c).2.2.2.1 i),
    fun i => Reals.finite_of_test _ _ i (by exact Ideal.ofBits_zero_f32) (congrFun (hpre c).2.2.2.2 i)⟩

theorem ref_frame : Cert.quiescent_DUDtRefIdeal := fun m ρ _ =>
  (θ_run Cert.DUDtRefIdeal.defs _ _).mono (fun r h => ⟨fun c => (h c).2.2,
      Idealize.ShloMosaic.sem_eq_zero_of_no_sems (by decide) r.2⟩)
    (Cert.DUDtRefIdeal.Value.run (F := Ideal) m ρ)

theorem algebraic : Cert.algebraic_DUDtIdeal_DUDtRefIdeal_pre_finite_dt := by
  intro m ρ m' ρ' hpre hagree
  refine ⟨fun c => (dats m 0 c).arrAt 6 cfg0.N, fun c => (dats m 0 c).arrAt 7 cfg0.N, Value.run_blocks (F := Ideal) m ρ, ?_⟩
  refine (θ_run Cert.DUDtRefIdeal.defs _ _).mono (fun r h c => ?_) (Cert.DUDtRefIdeal.Value.run (F := Ideal) m' ρ')
  obtain ⟨h0, h1, h⟩ := h c
  obtain ⟨a0, a1, a2, a3, a4, a5⟩ := hagree c
  rw [val_main_v39_eq, a0, a1, a2, a3, a4, a5] at h0
  rw [val_main_v22_eq, a0, a1, a4, a5] at h1
  exact ⟨h0.trans (final6 m c (finite m c hpre)).symm, h1.trans (final7 m c (finite m c hpre)).symm, h⟩

end Cert.Proof.DUDt

end
-- ==== Proof.DUnValue.lean ====
/-
  The gradient of the query projection's normed input: a product, the row norm's gradient and the residual's cotangent.
-/
module

public import proofs.«01_k».proof.Defs
public import proofs.«01_k».proof.Proof.Reals
public import proofs.«01_k».proof.Proof.Gen.Pre_finite_un
public import proofs.«01_k».proof.Proof.Gen.DUnIdeal.Value
public import proofs.«01_k».proof.Proof.Gen.DUnRefIdeal.Run
public import proofs.«01_k».proof.Proof.Gen.DUnRefIdeal.Read
public import Idealize.ShloMosaic.Lib.Pipeline.ValueKit
public import Idealize.ShloMosaic.Lib.Pipeline.ReadBack
public import Idealize.ShloMosaic.Lib.Pointwise

@[expose] public section

noncomputable section

namespace Cert.Proof.DUn

open Cert.DUnIdeal Cert.DUnIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])
theorem e3 : ∀ t : Fin cfg0.N, win0_3.index t = ![0, 0] :=
  (by decide +kernel : ∀ t : Fin grid0.N, win0_3.index t = ![0, 0])
theorem e4 : ∀ t : Fin cfg0.N, win0_4.index t = ![t.val, 0] :=
  (by decide +kernel : ∀ t : Fin grid0.N, win0_4.index t = ![t.val, 0])
theorem e5 : ∀ t : Fin cfg0.N, win0_5.index t = ![t.val, 0] :=
  (by decide +kernel : ∀ t : Fin grid0.N, win0_5.index t = ![t.val, 0])
theorem e6 : ∀ t : Fin cfg0.N, win0_6.index t = ![0, 0] :=
  (by decide +kernel : ∀ t : Fin grid0.N, win0_6.index t = ![0, 0])

/-- The array row of row `r` of point `t`'s tile. -/
def row (t : Fin cfg0.N) (r : Fin 1024) : Fin 8192 := ⟨t.val * 1024 + r.val, by
  have := t.isLt; have h : cfg0.N = 8 := N_0; omega⟩

variable (c : Dev nD) (t : Fin cfg0.N)

/-- The arguments' arrays. -/
def A0 : S8192x1024.Idx → EReal := m ((c : Thread nD τ).loc main_arg0)
def A1 : S1024x1024.Idx → EReal := m ((c : Thread nD τ).loc main_arg1)
def A2 : S8192x1024.Idx → EReal := m ((c : Thread nD τ).loc main_arg2)
def A3 : S1x1024.Idx → EReal := m ((c : Thread nD τ).loc main_arg3)
def A4 : S8192x1024.Idx → EReal := m ((c : Thread nD τ).loc main_arg4)

theorem blk0 (r : Fin 1024) (k : Fin 1024) : iblk m c 0 t (ix2 r k) = A0 m c (ix2 (row t r) k) := by
  blk_ext [iblk, V, A0, e0, row]
theorem blk1 (r : Fin 1024) (k : Fin 1024) : iblk m c 1 t (ix2 r k) = A1 m c (ix2 r k) := by
  blk_ext [iblk, V, A1, e1]
theorem blk2 (r : Fin 1024) (k : Fin 1024) : iblk m c 2 t (ix2 r k) = A2 m c (ix2 (row t r) k) := by
  blk_ext [iblk, V, A2, e2, row]
theorem blk3 (r : Fin 1) (k : Fin 1024) : iblk m c 3 t (ix2 r k) = A3 m c (ix2 r k) := by
  blk_ext [iblk, V, A3, e3]
theorem blk4 (r : Fin 1024) (k : Fin 1024) : iblk m c 4 t (ix2 r k) = A4 m c (ix2 (row t r) k) := by
  blk_ext [iblk, V, A4, e4, row]
theorem emb5 (r : Fin 1024) (k : Fin 1024) : (win0_5.blk t).view.emb (ix2 r k) = ix2 (row t r) k := by
  blk_ext [e5, row]
theorem emb6 (r : Fin 1) (k : Fin 1024) : (win0_6.blk t).view.emb (ix2 r k) = ix2 r k := by
  blk_ext [e6]

/-- The cotangent of the normed row. -/
def dn (x0 : (⟨2, ![8192, 1024]⟩ : Shape).Idx → EReal) (x1 : (⟨2, ![1024, 1024]⟩ : Shape).Idx → EReal)
    (i : Fin 8192) (k : Fin 1024) : EReal := ∑ l : Fin 1024, x0 (ix2 i l) * x1 (ix2 k l)

/-- A row's mean square with the norm's constant added. -/
def ms (x4 : (⟨2, ![8192, 1024]⟩ : Shape).Idx → EReal) (i : Fin 8192) : EReal :=
  Ideal.div (∑ k : Fin 1024, x4 (ix2 i k) * x4 (ix2 i k)) (Ideal.ofBits .f32 0x44800000#32) + Ideal.ofBits .f32 0x358637BD#32

/-- A row's term of the gain's gradient. -/
def gterm (x0 : (⟨2, ![8192, 1024]⟩ : Shape).Idx → EReal) (x1 : (⟨2, ![1024, 1024]⟩ : Shape).Idx → EReal)
    (x4 : (⟨2, ![8192, 1024]⟩ : Shape).Idx → EReal) (k : Fin 1024) (i : Fin 8192) : EReal :=
  dn x0 x1 i k * (x4 (ix2 i k) * Ideal.rsqrt (ms x4 i))

theorem pay2 (r : Fin 1024) (k : Fin 1024) :
    k0_pay2 (F := Ideal) (iblk m c 0 t) (iblk m c 1 t) (ix2 r k) = dn (A0 m c) (A1 m c) (row t r) k := by
  unfold k0_pay2 dn
  pointwise [blk0, blk1]

/-- A row's reciprocal norm. -/
theorem pay3 (r : Fin 1024) (k : Fin 1) :
    k0_pay3 (F := Ideal) (iblk m c 4 t) (ix2 r k) = Ideal.rsqrt (ms (A4 m c) (row t r)) := by
  unfold k0_pay3 ms
  pointwise [blk4]

theorem pay4 (r : Fin 1024) (k : Fin 1024) : k0_pay4 (F := Ideal) (iblk m c 4 t) (ix2 r k)
    = A4 m c (ix2 (row t r) k) * Ideal.rsqrt (ms (A4 m c) (row t r)) := by
  unfold k0_pay4
  pointwise [blk4, pay3]

/-- The sum of a row block's terms. -/
def gblock (t : Fin cfg0.N) (i : S1x1024.Idx) : EReal :=
  ∑ l : Fin 1024, gterm (A0 m c) (A1 m c) (A4 m c) (i 1) (row t l)

theorem pay5 (r : Fin 1) (k : Fin 1024) :
    k0_pay5 (F := Ideal) (iblk m c 0 t) (iblk m c 1 t) (iblk m c 4 t) (ix2 r k) = gblock m c t (ix2 r k) := by
  unfold k0_pay5 gblock gterm
  pointwise [pay2, pay4]

/-- What a row block's point writes. -/
theorem out5 (i : S1024x1024.Idx) : (outsAt0 m c t.val t.isLt).1 i
    = k0_pay1 (F := Ideal) (k0_pay6 (F := Ideal) (iblk m c 0 t) (iblk m c 1 t) (iblk m c 4 t) (iblk m c 3 t)) (iblk m c 2 t) i := by
  have htl := t.isLt
  have hN : cfg0.N = 8 := N_0
  by_cases h : t.val % 8 = 0
  · rw [outsAt0_A m c t h (by omega)]
    frame_out
  · rw [outsAt0_B m c t h (by omega)]
    frame_out

theorem gain_first (h : t.val % 8 = 0) (i : S1x1024.Idx) :
    (outsAt0 m c t.val t.isLt).2 i = 0 + gblock m c t i := by
  have htl := t.isLt
  have hN : cfg0.N = 8 := N_0
  obtain ⟨r, k, rfl⟩ : ∃ (r : Fin 1) (k : Fin 1024), i = ix2 r k := ⟨i 0, i 1, eq_ix2 i⟩
  rw [outsAt0_A m c t h (by omega), zero_add, ← pay5]
  frame_out

theorem gain_next (h : ¬t.val % 8 = 0) (i : S1x1024.Idx) :
    (outsAt0 m c t.val t.isLt).2 i
      = (outsAt0 m c (t.val - 1) (Nat.lt_of_le_of_lt (Nat.sub_le _ _) t.isLt)).2 i + gblock m c t i := by
  have htl := t.isLt
  have hN : cfg0.N = 8 := N_0
  obtain ⟨r, k, rfl⟩ : ∃ (r : Fin 1) (k : Fin 1024), i = ix2 r k := ⟨i 0, i 1, eq_ix2 i⟩
  rw [outsAt0_B m c t h (by omega), ← pay5]
  frame_out
  unfold k0_pay7
  pointwise

theorem gain_last (h : t.val % 8 = 7) (r : Fin 1) (k : Fin 1024) :
    (outsAt0 m c t.val t.isLt).2 (ix2 r k) = ∑ i : Fin 8192, gterm (A0 m c) (A1 m c) (A4 m c) k i := by
  have htl := t.isLt
  have hN : cfg0.N = 8 := N_0
  rw [Pipeline.eq_sum_fin_of_reset_step_apply_of_flush (fun n h => (outsAt0 m c n h).2) 8 (fun _ => (0 : EReal)) (gblock m c)
    (fun t h i => gain_first m c t h i) (fun t h i => gain_next m c t h i) t h (ix2 r k), zero_add]
  refine Fin.sum_mul_add_congr fun s l hl => ?_
  have hr : row ⟨8 * (t.val / 8) + s.val, Pipeline.run_point_lt_of_flush t h s⟩ l = ⟨s.val * 1024 + l.val, hl⟩ :=
    Fin.ext (by simp only [row]; omega)
  simp only [ix2_1, hr]

open Cert.DUnRefIdeal.Read

variable (x0 : (⟨2, ![8192, 1024]⟩ : Shape).Idx → EReal) (x1 : (⟨2, ![1024, 1024]⟩ : Shape).Idx → EReal)
  (x2 x4 : (⟨2, ![8192, 1024]⟩ : Shape).Idx → EReal) (x3 : (⟨2, ![1, 1024]⟩ : Shape).Idx → EReal)

theorem ref18 (i : Fin 8192) (k : Fin 1024) : val_main_v18 (F := Ideal) x0 x1 (ix2 i k) = dn x0 x1 i k := by
  unfold val_main_v18 val_main_v0 val_main_v1 dn
  pointwise

theorem ref8 (i : Fin 8192) (k : Fin 1) : val_main_v8 (F := Ideal) x4 (ix2 i k) = ms x4 i := by
  unfold val_main_v8 val_main_v7 val_main_v6 val_main_v5 val_main_v4 val_main_v3 val_main_v2 val_main_cst val_main_cst_0
    val_main_cst_1 ms
  pointwise

theorem ref21 (r : Fin 1) (k : Fin 1024) : val_main_v21 (F := Ideal) x0 x1 x4 (ix2 r k)
    = ∑ i : Fin 8192, gterm x0 x1 x4 k i := by
  unfold val_main_v21 val_main_v20 val_main_cst_3 val_main_v19 val_main_v14 val_main_v13 val_main_v9 gterm
  pointwise [ref8, ref18]
  exact Finset.sum_congr rfl fun i _ => mul_comm _ _

/-- The norm's factor of a row, as the reference writes it. -/
def bterm (d h : Fin 1024 → EReal) (s v : EReal) : EReal :=
  Ideal.div ((∑ k, h k * d k) * (Ideal.ofBits .f32 0xBF000000#32 * Ideal.div s v)) (Ideal.ofBits .f32 0x44800000#32)

theorem ref32 (i : Fin 8192) : val_main_v32 (F := Ideal) x0 x1 x3 x4 (ix1 i)
    = bterm (fun k => dn x0 x1 i k * x3 (ix2 0 k)) (fun k => x4 (ix2 i k)) (Ideal.rsqrt (ms x4 i)) (ms x4 i) := by
  unfold val_main_v32 val_main_cst_6 val_main_v31 val_main_v30 val_main_cst_5 val_main_v29 val_main_v26 val_main_v25 val_main_cst_4
    val_main_v24 val_main_v23 val_main_v22 val_main_v12 val_main_v11 val_main_cst_2 val_main_v10 val_main_v9 bterm
  pointwise [ref8, ref18]
  simp only [Finset.univ_unique, Finset.sum_singleton]

theorem ref38 (i : Fin 8192) (k : Fin 1024) : val_main_v38 (F := Ideal) x0 x1 x2 x3 x4 (ix2 i k)
    = x2 (ix2 i k) + (dn x0 x1 i k * x3 (ix2 0 k) * Ideal.rsqrt (ms x4 i)
      + x4 (ix2 i k) * bterm (fun k => dn x0 x1 i k * x3 (ix2 0 k)) (fun k => x4 (ix2 i k)) (Ideal.rsqrt (ms x4 i)) (ms x4 i)
      + bterm (fun k => dn x0 x1 i k * x3 (ix2 0 k)) (fun k => x4 (ix2 i k)) (Ideal.rsqrt (ms x4 i)) (ms x4 i) * x4 (ix2 i k)) := by
  unfold val_main_v38 val_main_v37 val_main_v36 val_main_v35 val_main_v34 val_main_v33 val_main_v28 val_main_v27 val_main_v23
    val_main_v22 val_main_v9
  pointwise [ref8, ref18, ref32]

/-- The arrays that matter have no infinite element. -/
def Fin' : Prop := (∀ i, ∃ r : ℝ, A0 m c i = r) ∧ (∀ i, ∃ r : ℝ, A1 m c i = r) ∧ (∀ i, ∃ r : ℝ, A3 m c i = r)
  ∧ ∀ i, ∃ r : ℝ, A4 m c i = r

theorem dn_real (h0 : ∀ i, ∃ r : ℝ, x0 i = r) (h1 : ∀ i, ∃ r : ℝ, x1 i = r)
    (i : Fin 8192) (k : Fin 1024) : ∃ r : ℝ, dn x0 x1 i k = r := by
  obtain ⟨f, hf⟩ := Reals.exists_real h0
  obtain ⟨g, hg⟩ := Reals.exists_real h1
  refine ⟨∑ l : Fin 1024, f (ix2 i l) * g (ix2 k l), ?_⟩
  rw [dn, ← Reals.coe_sum]
  exact Finset.sum_congr rfl fun l _ => by rw [hf, hg, EReal.coe_mul]

theorem final5 (hf : Fin' m c) : (dats m 0 c).arrAt 5 cfg0.N
    = val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hfl y => ?_
  blk_simp
  obtain ⟨r, k, rfl⟩ : ∃ (r : Fin 1024) (k : Fin 1024), y = ix2 r k := ⟨y 0, y 1, eq_ix2 y⟩
  rw [after0_5, emb5, ref38, out5 m c t]
  unfold k0_pay1 k0_pay6
  pointwise [pay2, pay3, pay4, blk2, blk3]
  refine congrArg (fun x : EReal => A2 m c (ix2 (row t r) k) + x) ?_
  obtain ⟨e, he, hee⟩ := Reals.ofBits_eps
  have hd : ∀ k, ∃ s : ℝ, dn (A0 m c) (A1 m c) (row t r) k * A3 m c (ix2 0 k) = s := fun k => by
    obtain ⟨a, ha⟩ := dn_real (A0 m c) (A1 m c) hf.1 hf.2.1 (row t r) k
    obtain ⟨b, hb⟩ := hf.2.2.1 (ix2 0 k)
    exact ⟨a * b, by rw [ha, hb, EReal.coe_mul]⟩
  have key := Reals.rmsnorm_grad (fun k => A4 m c (ix2 (row t r) k))
    (fun k => dn (A0 m c) (A1 m c) (row t r) k * A3 m c (ix2 0 k)) 1024 e (by norm_num) he
    (fun _ => hf.2.2.2 _) hd k (ms (A4 m c) (row t r)) _ (by rw [ms, hee, Reals.ofBits_1024]) rfl
  rw [Reals.ofBits_1024]
  refine Eq.trans key ?_
  unfold bterm
  rw [Reals.ofBits_1024, Reals.ofBits_neg_half]
  rfl

theorem final6 (_ : Fin' m c) : (dats m 0 c).arrAt 6 cfg0.N
    = val_main_v21 (F := Ideal) (m ((c : Thread nD τ).loc main_arg0)) (m ((c : Thread nD τ).loc main_arg1))
        (m ((c : Thread nD τ).loc main_arg4)) := by
  refine (dats m 0 c).arrAt_eq_of_covers 6 _ (by decide +kernel) fun t hfl y => ?_
  blk_simp
  obtain ⟨r, k, rfl⟩ : ∃ (r : Fin 1) (k : Fin 1024), y = ix2 r k := ⟨y 0, y 1, eq_ix2 y⟩
  rw [after0_6, emb6, ref21, gain_last m c t ((flush0_6 t).mp hfl)]
  rfl

theorem finite (hpre : Cert.Pre_DUnIdeal_finite_un m) : Fin' m c :=
  ⟨fun i => Reals.finite_of_test _ _ i (by exact Ideal.ofBits_zero_bf16) (congrFun (hpre c).1 i),
    fun i => Reals.finite_of_test _ _ i (by exact Ideal.ofBits_zero_bf16) (congrFun (hpre c).2.1 i),
    fun i => Reals.finite_of_test _ _ i (by exact Ideal.ofBits_zero_f32) (congrFun (hpre c).2.2.1 i),
    fun i => Reals.finite_of_test _ _ i (by exact Ideal.ofBits_zero_f32) (congrFun (hpre c).2.2.2 i)⟩

theorem ref_frame : Cert.quiescent_DUnRefIdeal := fun m ρ _ =>
  (θ_run Cert.DUnRefIdeal.defs _ _).mono (fun r h => ⟨fun c => (h c).2.2,
      Idealize.ShloMosaic.sem_eq_zero_of_no_sems (by decide) r.2⟩)
    (Cert.DUnRefIdeal.Value.run (F := Ideal) m ρ)

theorem algebraic : Cert.algebraic_DUnIdeal_DUnRefIdeal_pre_finite_un := by
  intro m ρ m' ρ' hpre hagree
  refine ⟨fun c => (dats m 0 c).arrAt 5 cfg0.N, fun c => (dats m 0 c).arrAt 6 cfg0.N, Value.run_blocks (F := Ideal) m ρ, ?_⟩
  refine (θ_run Cert.DUnRefIdeal.defs _ _).mono (fun r h c => ?_) (Cert.DUnRefIdeal.Value.run (F := Ideal) m' ρ')
  obtain ⟨h0, h1, h⟩ := h c
  obtain ⟨a0, a1, a2, a3, a4⟩ := hagree c
  rw [val_main_v38_eq, a0, a1, a2, a3, a4] at h0
  rw [val_main_v21_eq, a0, a1, a4] at h1
  exact ⟨h0.trans (final5 m c (finite m c hpre)).symm, h1.trans (final6 m c (finite m c hpre)).symm, h⟩

end Cert.Proof.DUn

end
-- ==== Proof.DwDownValue.lean ====
/-
  The gradient of a feed-forward layer's second weight: the kernel sums the products of four tiles of rows in a scratch
  array and halves the sum, the reference halves the incoming gradient first.
-/
module

public import proofs.«01_k».proof.Defs
public import proofs.«01_k».proof.Proof.Reals
public import proofs.«01_k».proof.Proof.Gen.DwDownIdeal.Value
public import proofs.«01_k».proof.Proof.Gen.DwDownRefIdeal.Run
public import proofs.«01_k».proof.Proof.Gen.DwDownRefIdeal.Read
public import Idealize.ShloMosaic.Lib.Pipeline.ValueKit
public import Idealize.ShloMosaic.Lib.Pipeline.ReadBack
public import Idealize.ShloMosaic.Lib.Pointwise

@[expose] public section

noncomputable section

namespace Cert.Proof.DwDown

open Cert.DwDownIdeal Cert.DwDownIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val % 4, t.val / 4] :=
  (by decide +kernel : ∀ t : Fin grid0.N, win0_0.index t = ![t.val % 4, t.val / 4])
theorem e1 : ∀ t : Fin cfg0.N, win0_1.index t = ![t.val % 4, 0] :=
  (by decide +kernel : ∀ t : Fin grid0.N, win0_1.index t = ![t.val % 4, 0])
theorem e2 : ∀ t : Fin cfg0.N, win0_2.index t = ![t.val / 4, 0] :=
  (by decide +kernel : ∀ t : Fin grid0.N, win0_2.index t = ![t.val / 4, 0])

/-- The array row of row `r` of point `t`'s tile. -/
def row (t : Fin cfg0.N) (r : Fin 2048) : Fin 8192 := ⟨t.val % 4 * 2048 + r.val, by omega⟩
/-- The array column of column `k` of point `t`'s tile. -/
def col (t : Fin cfg0.N) (k : Fin 1408) : Fin 2816 := ⟨t.val / 4 * 1408 + k.val, by
  have := t.isLt; have h : cfg0.N = 8 := N_0; omega⟩

variable (c : Dev nD) (t : Fin cfg0.N)

/-- The first argument's array. -/
def A0 : S8192x2816.Idx → EReal := m ((c : Thread nD τ).loc main_arg0)
/-- The second argument's array. -/
def A1 : S8192x1024.Idx → EReal := m ((c : Thread nD τ).loc main_arg1)

theorem blk0 (r : Fin 2048) (k : Fin 1408) :
    iblk m c 0 t (ix2 r k) = A0 m c (ix2 (row t r) (col t k)) := by
  blk_ext [iblk, V, A0, e0, row, col]
theorem blk1 (r : Fin 2048) (k : Fin 1024) :
    iblk m c 1 t (ix2 r k) = A1 m c (ix2 (row t r) k) := by
  blk_ext [iblk, V, A1, e1, row]
theorem emb2 (r : Fin 1408) (k : Fin 1024) : (win0_2.blk t).view.emb (ix2 r k) = ix2 (col t r) k := by
  blk_ext [e2, col]

/-- The product of point `t`'s tiles. -/
def part (t : Fin cfg0.N) (i : S1408x1024.Idx) : EReal :=
  ∑ k : Fin 2048, A0 m c (ix2 (row t k) (col t (i 0))) * A1 m c (ix2 (row t k) (i 1))

theorem pay1 (r : Fin 1408) (k : Fin 1024) :
    k0_pay1 (F := Ideal) (iblk m c 0 t) (iblk m c 1 t) (ix2 r k) = part m c t (ix2 r k) := by
  unfold k0_pay1 part
  pointwise [blk0, blk1]

theorem scratch_first (h : t.val % 4 = 0) (i : S1408x1024.Idx) :
    (outsAt0 m c t.val t.isLt).2 i = 0 + part m c t i := by
  obtain ⟨r, k, rfl⟩ : ∃ (r : Fin 1408) (k : Fin 1024), i = ix2 r k := ⟨i 0, i 1, eq_ix2 i⟩
  rw [outsAt0_A m c t h (by omega) (by omega), zero_add, ← pay1]
  frame_out
  unfold k0_pay2
  pointwise

theorem scratch_next (h : ¬t.val % 4 = 0) (i : S1408x1024.Idx) :
    (outsAt0 m c t.val t.isLt).2 i
      = (outsAt0 m c (t.val - 1) (Nat.lt_of_le_of_lt (Nat.sub_le _ _) t.isLt)).2 i + part m c t i := by
  obtain ⟨r, k, rfl⟩ : ∃ (r : Fin 1408) (k : Fin 1024), i = ix2 r k := ⟨i 0, i 1, eq_ix2 i⟩
  rw [← pay1]
  by_cases h2 : t.val % 4 = 3
  · rw [outsAt0_C m c t h (by omega) h2]
    frame_out
    unfold k0_pay3
    pointwise
    rw [read_unread_whole]
  · rw [outsAt0_B m c t h (by omega) h2]
    frame_out
    unfold k0_pay3
    pointwise
    rw [read_unread_whole]

theorem out_last (h : t.val % 4 = 3) (i : S1408x1024.Idx) :
    (outsAt0 m c t.val t.isLt).1 i = ((1 / 2 : ℝ) : EReal) * (outsAt0 m c t.val t.isLt).2 i := by
  obtain ⟨r, k, rfl⟩ : ∃ (r : Fin 1408) (k : Fin 1024), i = ix2 r k := ⟨i 0, i 1, eq_ix2 i⟩
  rw [outsAt0_C m c t (by omega) (by omega) h, ← Reals.ofBits_half]
  frame_out
  unfold k0_pay4
  pointwise

theorem scratch_last (h : t.val % 4 = 3) (r : Fin 1408) (k : Fin 1024) :
    (outsAt0 m c t.val t.isLt).2 (ix2 r k)
      = ∑ l : Fin 8192, A0 m c (ix2 l (col t r)) * A1 m c (ix2 l k) := by
  rw [Pipeline.eq_sum_fin_of_reset_step_apply_of_flush (fun n h => (outsAt0 m c n h).2) 4 (fun _ => (0 : EReal)) (part m c)
    (fun t h i => scratch_first m c t h i) (fun t h i => scratch_next m c t h i) t h (ix2 r k), zero_add]
  refine Fin.sum_mul_add_congr fun s l hl => ?_
  have hr : row ⟨4 * (t.val / 4) + s.val, Pipeline.run_point_lt_of_flush t h s⟩ l = ⟨s.val * 2048 + l.val, hl⟩ :=
    Fin.ext (by simp only [row]; omega)
  have hc : col ⟨4 * (t.val / 4) + s.val, Pipeline.run_point_lt_of_flush t h s⟩ r = col t r :=
    Fin.ext (by simp only [col]; omega)
  simp only [part, ix2_0, ix2_1, hr, hc]

open Cert.DwDownRefIdeal.Read

theorem ref (x0 : (⟨2, ![8192, 2816]⟩ : Shape).Idx → EReal) (x1 : (⟨2, ![8192, 1024]⟩ : Shape).Idx → EReal)
    (r : Fin 2816) (k : Fin 1024) :
    val_main_v9 (F := Ideal) x0 x1 (ix2 r k)
      = ((1 / 2 : ℝ) : EReal) * ∑ l : Fin 8192, x0 (ix2 l r) * x1 (ix2 l k) := by
  rw [Reals.mul_sum_of_nonneg _ _ (by norm_num), ← Reals.ofBits_half]
  unfold val_main_v9 val_main_v8 val_main_v7 val_main_v6 val_main_v0 val_main_v5
  pointwise
  refine Finset.sum_congr rfl fun l _ => ?_
  rw [mul_assoc]
  exact congrArg _ (mul_comm _ _)

theorem final2 : (dats m 0 c).arrAt 2 cfg0.N
    = val_main_v9 (F := Ideal) (m ((c : Thread nD τ).loc main_arg0)) (m ((c : Thread nD τ).loc main_arg1)) := by
  refine (dats m 0 c).arrAt_eq_of_covers 2 _ (by decide +kernel) fun t hf y => ?_
  blk_simp
  obtain ⟨r, k, rfl⟩ : ∃ (r : Fin 1408) (k : Fin 1024), y = ix2 r k := ⟨y 0, y 1, eq_ix2 y⟩
  have h : t.val % 4 = 3 := (flush0_2 t).mp hf
  rw [after0_2, emb2, ref, out_last m c t h, scratch_last m c t h]
  rfl

theorem ref_frame : Cert.quiescent_DwDownRefIdeal := fun m ρ _ =>
  (θ_run Cert.DwDownRefIdeal.defs _ _).mono (fun r h => ⟨fun c => (h c).2,
      Idealize.ShloMosaic.sem_eq_zero_of_no_sems (by decide) r.2⟩)
    (Cert.DwDownRefIdeal.Value.run (F := Ideal) m ρ)

theorem algebraic : Cert.algebraic_DwDownIdeal_DwDownRefIdeal := by
  intro m ρ m' ρ' _ hagree
  refine ⟨fun c => (dats m 0 c).arrAt 2 cfg0.N, Value.run_blocks (F := Ideal) m ρ, ?_⟩
  refine (θ_run Cert.DwDownRefIdeal.defs _ _).mono (fun r h c => ?_) (Cert.DwDownRefIdeal.Value.run (F := Ideal) m' ρ')
  obtain ⟨h0, h⟩ := h c
  obtain ⟨a0, a1⟩ := hagree c
  rw [val_main_v9_eq, a0, a1] at h0
  exact ⟨h0.trans (final2 m c).symm, h⟩

end Cert.Proof.DwDown

end
-- ==== Proof.DwDtValue.lean ====
/-
  The gradient of the step widths' projection: a product accumulated over four tiles of rows.
-/
module

public import proofs.«01_k».proof.Defs
public import proofs.«01_k».proof.Proof.Gen.DwDtIdeal.Value
public import proofs.«01_k».proof.Proof.Gen.DwDtRefIdeal.Run
public import proofs.«01_k».proof.Proof.Gen.DwDtRefIdeal.Read
public import Idealize.ShloMosaic.Lib.Pipeline.ValueKit
public import Idealize.ShloMosaic.Lib.Pipeline.ReadBack
public import Idealize.ShloMosaic.Lib.Pointwise

@[expose] public section

noncomputable section

namespace Cert.Proof.DwDt

open Cert.DwDtIdeal Cert.DwDtIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val % 4, 0] :=
  (by decide +kernel : ∀ t : Fin grid0.N, win0_0.index t = ![t.val % 4, 0])
theorem e1 : ∀ t : Fin cfg0.N, win0_1.index t = ![t.val % 4, 0] :=
  (by decide +kernel : ∀ t : Fin grid0.N, win0_1.index t = ![t.val % 4, 0])
theorem e2 : ∀ t : Fin cfg0.N, win0_2.index t = ![0, 0] :=
  (by decide +kernel : ∀ t : Fin grid0.N, win0_2.index t = ![0, 0])

/-- The array row of row `r` of point `t`'s tile. -/
def row (t : Fin cfg0.N) (r : Fin 2048) : Fin 8192 := ⟨t.val % 4 * 2048 + r.val, by omega⟩
variable (c : Dev nD) (t : Fin cfg0.N)

/-- The first argument's array. -/
def A0 : S8192x128.Idx → EReal := m ((c : Thread nD τ).loc main_arg0)
/-- The second argument's array. -/
def A1 : S8192x1024.Idx → EReal := m ((c : Thread nD τ).loc main_arg1)

theorem blk0 (r : Fin 2048) (k : Fin 128) :
    iblk m c 0 t (ix2 r k) = A0 m c (ix2 (row t r) k) := by
  blk_ext [iblk, V, A0, e0, row]
theorem blk1 (r : Fin 2048) (k : Fin 1024) :
    iblk m c 1 t (ix2 r k) = A1 m c (ix2 (row t r) k) := by
  blk_ext [iblk, V, A1, e1, row]
theorem emb2 (r : Fin 128) (k : Fin 1024) : (win0_2.blk t).view.emb (ix2 r k) = ix2 r k := by
  blk_ext [e2]

/-- The product of point `t`'s tiles. -/
def part (t : Fin cfg0.N) (i : S128x1024.Idx) : EReal :=
  ∑ k : Fin 2048, A0 m c (ix2 (row t k) (i 0)) * A1 m c (ix2 (row t k) (i 1))

theorem pay1 (r : Fin 128) (k : Fin 1024) :
    k0_pay1 (F := Ideal) (iblk m c 0 t) (iblk m c 1 t) (ix2 r k) = part m c t (ix2 r k) := by
  unfold k0_pay1 part
  pointwise [blk0, blk1]

theorem scratch_first (h : t.val % 4 = 0) (i : S128x1024.Idx) :
    (outsAt0 m c t.val t.isLt).2 i = 0 + part m c t i := by
  obtain ⟨r, k, rfl⟩ : ∃ (r : Fin 128) (k : Fin 1024), i = ix2 r k := ⟨i 0, i 1, eq_ix2 i⟩
  have htl := t.isLt
  have hN : cfg0.N = 4 := N_0
  rw [outsAt0_A m c t h (by omega) (by omega), zero_add, ← pay1]
  frame_out
  unfold k0_pay2
  pointwise

theorem scratch_next (h : ¬t.val % 4 = 0) (i : S128x1024.Idx) :
    (outsAt0 m c t.val t.isLt).2 i
      = (outsAt0 m c (t.val - 1) (Nat.lt_of_le_of_lt (Nat.sub_le _ _) t.isLt)).2 i + part m c t i := by
  obtain ⟨r, k, rfl⟩ : ∃ (r : Fin 128) (k : Fin 1024), i = ix2 r k := ⟨i 0, i 1, eq_ix2 i⟩
  rw [← pay1]
  by_cases h2 : t.val % 4 = 3
  · rw [outsAt0_C m c t h (by omega) h2]
    frame_out
    unfold k0_pay3
    pointwise
    rw [read_unread_whole]
  · rw [outsAt0_B m c t h (by omega) h2]
    frame_out
    unfold k0_pay3
    pointwise
    rw [read_unread_whole]

theorem out_last (h : t.val % 4 = 3) (i : S128x1024.Idx) :
    (outsAt0 m c t.val t.isLt).1 i = (outsAt0 m c t.val t.isLt).2 i := by
  obtain ⟨r, k, rfl⟩ : ∃ (r : Fin 128) (k : Fin 1024), i = ix2 r k := ⟨i 0, i 1, eq_ix2 i⟩
  rw [outsAt0_C m c t (by omega) (by omega) h]
  frame_out
  unfold k0_pay4
  pointwise

theorem scratch_last (h : t.val % 4 = 3) (r : Fin 128) (k : Fin 1024) :
    (outsAt0 m c t.val t.isLt).2 (ix2 r k)
      = ∑ l : Fin 8192, A0 m c (ix2 l r) * A1 m c (ix2 l k) := by
  rw [Pipeline.eq_sum_fin_of_reset_step_apply_of_flush (fun n h => (outsAt0 m c n h).2) 4 (fun _ => (0 : EReal)) (part m c)
    (fun t h i => scratch_first m c t h i) (fun t h i => scratch_next m c t h i) t h (ix2 r k), zero_add]
  refine Fin.sum_mul_add_congr fun s l hl => ?_
  have hr : row ⟨4 * (t.val / 4) + s.val, Pipeline.run_point_lt_of_flush t h s⟩ l = ⟨s.val * 2048 + l.val, hl⟩ :=
    Fin.ext (by simp only [row]; omega)
  simp only [part, ix2_0, ix2_1, hr]

open Cert.DwDtRefIdeal.Read

theorem ref (x0 : (⟨2, ![8192, 128]⟩ : Shape).Idx → EReal) (x1 : (⟨2, ![8192, 1024]⟩ : Shape).Idx → EReal)
    (r : Fin 128) (k : Fin 1024) :
    val_main_v7 (F := Ideal) x0 x1 (ix2 r k)
      = ∑ l : Fin 8192, x0 (ix2 l r) * x1 (ix2 l k) := by
  unfold val_main_v7 val_main_v6 val_main_v5 val_main_v4 val_main_v0
  pointwise

theorem final2 : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  blk_simp
  obtain ⟨r, k, rfl⟩ : ∃ (r : Fin 128) (k : Fin 1024), y = ix2 r k := ⟨y 0, y 1, eq_ix2 y⟩
  have h : t.val % 4 = 3 := (flush0_2 t).mp hf
  rw [after0_2, emb2, ref, out_last m c t h, scratch_last m c t h]
  rfl

theorem ref_frame : Cert.quiescent_DwDtRefIdeal := fun m ρ _ =>
  (θ_run Cert.DwDtRefIdeal.defs _ _).mono (fun r h => ⟨fun c => (h c).2,
      Idealize.ShloMosaic.sem_eq_zero_of_no_sems (by decide) r.2⟩)
    (Cert.DwDtRefIdeal.Value.run (F := Ideal) m ρ)

theorem algebraic : Cert.algebraic_DwDtIdeal_DwDtRefIdeal := by
  intro m ρ m' ρ' _ hagree
  refine ⟨fun c => (dats m 0 c).arrAt 2 cfg0.N, Value.run_blocks (F := Ideal) m ρ, ?_⟩
  refine (θ_run Cert.DwDtRefIdeal.defs _ _).mono (fun r h c => ?_) (Cert.DwDtRefIdeal.Value.run (F := Ideal) m' ρ')
  obtain ⟨h0, h⟩ := h c
  obtain ⟨a0, a1⟩ := hagree c
  rw [val_main_v7_eq, a0, a1] at h0
  exact ⟨h0.trans (final2 m c).symm, h⟩

end Cert.Proof.DwDt

end
-- ==== Proof.DwGateValue.lean ====
/-
  The gradient of a feed-forward layer's first weight, the rows of the gate: the kernel sums the products of four tiles
  of rows in a scratch array and writes the upper half of its result.
-/
module

public import proofs.«01_k».proof.Defs
public import proofs.«01_k».proof.Proof.Gen.DwGateIdeal.Value
public import proofs.«01_k».proof.Proof.Gen.On_gate_rows
public import proofs.«01_k».proof.Proof.Gen.DwGateRefIdeal.Run
public import proofs.«01_k».proof.Proof.Gen.DwGateRefIdeal.Read
public import Idealize.ShloMosaic.Lib.Pipeline.ValueKit
public import Idealize.ShloMosaic.Lib.Pipeline.ReadBack
public import Idealize.ShloMosaic.Lib.Pointwise

@[expose] public section

noncomputable section

namespace Cert.Proof.DwGate

open Cert.DwGateIdeal Cert.DwGateIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val % 4, t.val / 4] :=
  (by decide +kernel : ∀ t : Fin grid0.N, win0_0.index t = ![t.val % 4, t.val / 4])
theorem e1 : ∀ t : Fin cfg0.N, win0_1.index t = ![t.val % 4, 0] :=
  (by decide +kernel : ∀ t : Fin grid0.N, win0_1.index t = ![t.val % 4, 0])
theorem e2 : ∀ t : Fin cfg0.N, win0_2.index t = ![t.val / 4, 0] :=
  (by decide +kernel : ∀ t : Fin grid0.N, win0_2.index t = ![t.val / 4, 0])

/-- The array row of row `r` of point `t`'s tile. -/
def row (t : Fin cfg0.N) (r : Fin 2048) : Fin 8192 := ⟨t.val % 4 * 2048 + r.val, by omega⟩
/-- The array column of column `k` of point `t`'s tile. -/
def col (t : Fin cfg0.N) (k : Fin 1408) : Fin 2816 := ⟨t.val / 4 * 1408 + k.val, by
  have := t.isLt; have h : cfg0.N = 8 := N_0; omega⟩

variable (c : Dev nD) (t : Fin cfg0.N)

/-- The first argument's array. -/
def A0 : S8192x2816.Idx → EReal := m ((c : Thread nD τ).loc main_arg0)
/-- The second argument's array. -/
def A1 : S8192x1024.Idx → EReal := m ((c : Thread nD τ).loc main_arg1)

theorem blk0 (r : Fin 2048) (k : Fin 1408) :
    iblk m c 0 t (ix2 r k) = A0 m c (ix2 (row t r) (col t k)) := by
  blk_ext [iblk, V, A0, e0, row, col]
theorem blk1 (r : Fin 2048) (k : Fin 1024) :
    iblk m c 1 t (ix2 r k) = A1 m c (ix2 (row t r) k) := by
  blk_ext [iblk, V, A1, e1, row]
theorem emb2 (r : Fin 1408) (k : Fin 1024) : (win0_2.blk t).view.emb (ix2 r k) = ix2 ⟨(col t r).val, by omega⟩ k := by
  blk_ext [e2, col]

/-- The product of point `t`'s tiles. -/
def part (t : Fin cfg0.N) (i : S1408x1024.Idx) : EReal :=
  ∑ k : Fin 2048, A0 m c (ix2 (row t k) (col t (i 0))) * A1 m c (ix2 (row t k) (i 1))

theorem pay1 (r : Fin 1408) (k : Fin 1024) :
    k0_pay1 (F := Ideal) (iblk m c 0 t) (iblk m c 1 t) (ix2 r k) = part m c t (ix2 r k) := by
  unfold k0_pay1 part
  pointwise [blk0, blk1]

theorem scratch_first (h : t.val % 4 = 0) (i : S1408x1024.Idx) :
    (outsAt0 m c t.val t.isLt).2 i = 0 + part m c t i := by
  obtain ⟨r, k, rfl⟩ : ∃ (r : Fin 1408) (k : Fin 1024), i = ix2 r k := ⟨i 0, i 1, eq_ix2 i⟩
  rw [outsAt0_A m c t h (by omega) (by omega), zero_add, ← pay1]
  frame_out
  unfold k0_pay2
  pointwise

theorem scratch_next (h : ¬t.val % 4 = 0) (i : S1408x1024.Idx) :
    (outsAt0 m c t.val t.isLt).2 i
      = (outsAt0 m c (t.val - 1) (Nat.lt_of_le_of_lt (Nat.sub_le _ _) t.isLt)).2 i + part m c t i := by
  obtain ⟨r, k, rfl⟩ : ∃ (r : Fin 1408) (k : Fin 1024), i = ix2 r k := ⟨i 0, i 1, eq_ix2 i⟩
  rw [← pay1]
  by_cases h2 : t.val % 4 = 3
  · rw [outsAt0_C m c t h (by omega) h2]
    frame_out
    unfold k0_pay3
    pointwise
    rw [read_unread_whole]
  · rw [outsAt0_B m c t h (by omega) h2]
    frame_out
    unfold k0_pay3
    pointwise
    rw [read_unread_whole]

theorem out_last (h : t.val % 4 = 3) (i : S1408x1024.Idx) :
    (outsAt0 m c t.val t.isLt).1 i = (outsAt0 m c t.val t.isLt).2 i := by
  obtain ⟨r, k, rfl⟩ : ∃ (r : Fin 1408) (k : Fin 1024), i = ix2 r k := ⟨i 0, i 1, eq_ix2 i⟩
  rw [outsAt0_C m c t (by omega) (by omega) h]
  frame_out
  unfold k0_pay4
  pointwise

theorem scratch_last (h : t.val % 4 = 3) (r : Fin 1408) (k : Fin 1024) :
    (outsAt0 m c t.val t.isLt).2 (ix2 r k)
      = ∑ l : Fin 8192, A0 m c (ix2 l (col t r)) * A1 m c (ix2 l k) := by
  rw [Pipeline.eq_sum_fin_of_reset_step_apply_of_flush (fun n h => (outsAt0 m c n h).2) 4 (fun _ => (0 : EReal)) (part m c)
    (fun t h i => scratch_first m c t h i) (fun t h i => scratch_next m c t h i) t h (ix2 r k), zero_add]
  refine Fin.sum_mul_add_congr fun s l hl => ?_
  have hr : row ⟨4 * (t.val / 4) + s.val, Pipeline.run_point_lt_of_flush t h s⟩ l = ⟨s.val * 2048 + l.val, hl⟩ :=
    Fin.ext (by simp only [row]; omega)
  have hc : col ⟨4 * (t.val / 4) + s.val, Pipeline.run_point_lt_of_flush t h s⟩ r = col t r :=
    Fin.ext (by simp only [col]; omega)
  simp only [part, ix2_0, ix2_1, hr, hc]

open Cert.DwGateRefIdeal.Read

theorem ref (x0 : (⟨2, ![8192, 2816]⟩ : Shape).Idx → EReal) (x1 : (⟨2, ![8192, 1024]⟩ : Shape).Idx → EReal)
    (r : Fin 2816) (k : Fin 1024) :
    val_main_v9 (F := Ideal) x0 x1 (ix2 ⟨r.val, by omega⟩ k) = ∑ l : Fin 8192, x0 (ix2 l r) * x1 (ix2 l k) := by
  unfold val_main_v9 val_main_v8 val_main_v7 val_main_v6 val_main_v5 val_main_v1 val_main_v0
  pointwise

/-- The reference's array at the kernel's arguments. -/
def G : S5632x1024.Idx → EReal :=
  val_main_v9 (F := Ideal) (m ((c : Thread nD τ).loc main_arg0)) (m ((c : Thread nD τ).loc main_arg1))

theorem final2 (i : (⟨2, ![5632, 1024]⟩ : Shape).Idx) (hi : (i 0).val < 2816) : (dats m 0 c).arrAt 2 cfg0.N i = G m c i := by
  revert hi
  refine (dats m 0 c).arrAt_forall_of_coversWhere 2 (fun i v => (i 0).val < 2816 → v = G m c i) (fun β => β 0 < 2) (by decide +kernel)
    (fun t hf y => ?_) (fun j hj => ?_) i
  · blk_simp
    intro _
    obtain ⟨r, k, rfl⟩ : ∃ (r : Fin 1408) (k : Fin 1024), y = ix2 r k := ⟨y 0, y 1, eq_ix2 y⟩
    have h : t.val % 4 = 3 := (flush0_2 t).mp hf
    rw [after0_2, emb2, out_last m c t h, scratch_last m c t h]
    exact (ref _ _ _ k).symm
  · intro h
    blk_simp [Pipeline.Window.cell_apply] at hj h
    omega

theorem mask_iff (x0 : FVec Ideal Cert.On_gate_rows.S8192x2816 .bf16) (x1 : FVec Ideal Cert.On_gate_rows.S8192x1024 .bf16)
    (i : (⟨2, ![5632, 1024]⟩ : Shape).Idx) : Cert.On_gate_rows.fn (F := Ideal) x0 x1 i = 1#1 ↔ (i 0).val < 2816 := by
  show IntOp.cmpi .slt (BitVec.ofNat 32 (i 0).val) (BitVec.ofNat 32 2816) = 1#1 ↔ _
  have h : (i 0).val < 5632 := (i 0).isLt
  exact WordCmp.cmpi_slt_ofNat_eq_one_iff (by norm_num; omega) (by norm_num)

theorem ref_frame : Cert.quiescent_DwGateRefIdeal := fun m ρ _ =>
  (θ_run Cert.DwGateRefIdeal.defs _ _).mono (fun r h => ⟨fun c => (h c).2,
      Idealize.ShloMosaic.sem_eq_zero_of_no_sems (by decide) r.2⟩)
    (Cert.DwGateRefIdeal.Value.run (F := Ideal) m ρ)

theorem algebraic : Cert.algebraic_DwGateIdeal_DwGateRefIdeal_on_gate_rows := by
  intro m ρ m' ρ' _ hagree
  refine ⟨fun c => G m c, ?_, ?_⟩
  · refine (θ_run Cert.DwGateIdeal.defs _ _).mono (fun r h c => ?_) (Value.run_blocks (F := Ideal) m ρ)
    obtain ⟨h0, h⟩ := h c
    exact ⟨fun i hi => (congrFun h0 i).trans (final2 m c i ((mask_iff _ _ i).mp hi)), h⟩
  · refine (θ_run Cert.DwGateRefIdeal.defs _ _).mono (fun r h c => ?_) (Cert.DwGateRefIdeal.Value.run (F := Ideal) m' ρ')
    obtain ⟨h0, h⟩ := h c
    obtain ⟨a0, a1⟩ := hagree c
    rw [val_main_v9_eq, a0, a1] at h0
    exact ⟨fun i _ => congrFun h0 i, h⟩

end Cert.Proof.DwGate

end
-- ==== Proof.DwKeyValue.lean ====
/-
  The gradient of the keys' projection: a product of the whole arrays, written to the first rows of the two projections' array.
-/
module

public import proofs.«01_k».proof.Defs
public import proofs.«01_k».proof.Proof.Gen.DwKeyIdeal.Value
public import proofs.«01_k».proof.Proof.Gen.On_key_rows
public import proofs.«01_k».proof.Proof.Gen.DwKeyRefIdeal.Run
public import proofs.«01_k».proof.Proof.Gen.DwKeyRefIdeal.Read
public import Idealize.ShloMosaic.Lib.Pipeline.ValueKit
public import Idealize.ShloMosaic.Lib.Pipeline.ReadBack
public import Idealize.ShloMosaic.Lib.Pointwise

@[expose] public section

noncomputable section

namespace Cert.Proof.DwKey

open Cert.DwKeyIdeal Cert.DwKeyIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![0, 0] :=
  (by decide +kernel : ∀ t : Fin grid0.N, win0_0.index t = ![0, 0])
theorem e1 : ∀ t : Fin cfg0.N, win0_1.index t = ![0, 0] :=
  (by decide +kernel : ∀ t : Fin grid0.N, win0_1.index t = ![0, 0])
theorem e2 : ∀ t : Fin cfg0.N, win0_2.index t = ![0, 0] :=
  (by decide +kernel : ∀ t : Fin grid0.N, win0_2.index t = ![0, 0])

variable (c : Dev nD) (t : Fin cfg0.N)

/-- The first argument's array. -/
def A0 : S1024x1024.Idx → EReal := m ((c : Thread nD τ).loc main_arg0)
/-- The second argument's array. -/
def A1 : S1024x1024.Idx → EReal := m ((c : Thread nD τ).loc main_arg1)

theorem blk0 (r : Fin 1024) (k : Fin 1024) : iblk m c 0 t (ix2 r k) = A0 m c (ix2 r k) := by
  blk_ext [iblk, V, A0, e0]
theorem blk1 (r : Fin 1024) (k : Fin 1024) : iblk m c 1 t (ix2 r k) = A1 m c (ix2 r k) := by
  blk_ext [iblk, V, A1, e1]
theorem emb2 (r : Fin 1024) (k : Fin 1024) : (win0_2.blk t).view.emb (ix2 r k) = ix2 ⟨r.val, by omega⟩ k := by
  blk_ext [e2]

theorem pay1 (r : Fin 1024) (k : Fin 1024) :
    k0_pay1 (F := Ideal) (iblk m c 0 t) (iblk m c 1 t) (ix2 r k) = ∑ l : Fin 1024, A0 m c (ix2 l r) * A1 m c (ix2 l k) := by
  unfold k0_pay1
  pointwise [blk0, blk1]

theorem out (r : Fin 1024) (k : Fin 1024) :
    outsAt0 m c t (ix2 r k) = ∑ l : Fin 1024, A0 m c (ix2 l r) * A1 m c (ix2 l k) := by
  rw [← pay1 m c t]
  unfold outsAt0
  frame_out
  unfold k0_pay4 k0_pay2
  pointwise

open Cert.DwKeyRefIdeal.Read

theorem ref (x0 : (⟨2, ![1024, 1024]⟩ : Shape).Idx → EReal) (x1 : (⟨2, ![1024, 1024]⟩ : Shape).Idx → EReal)
    (r : Fin 1024) (k : Fin 1024) :
    val_main_v8 (F := Ideal) x0 x1 (ix2 ⟨r.val, by omega⟩ k) = ∑ l : Fin 1024, x0 (ix2 l r) * x1 (ix2 l k) := by
  unfold val_main_v8 val_main_v7 val_main_v6 val_main_v5 val_main_v4 val_main_v0
  pointwise

/-- The reference's array at the kernel's arguments. -/
def G : S2048x1024.Idx → EReal :=
  val_main_v8 (F := Ideal) (m ((c : Thread nD τ).loc main_arg0)) (m ((c : Thread nD τ).loc main_arg1))

theorem final2 (i : (⟨2, ![2048, 1024]⟩ : Shape).Idx) (hi : (i 0).val < 1024) : (dats m 0 c).arrAt 2 cfg0.N i = G m c i := by
  revert hi
  refine (dats m 0 c).arrAt_forall_of_coversWhere 2 (fun i v => (i 0).val < 1024 → v = G m c i) (fun β => β 0 < 1) (by decide +kernel)
    (fun t hf y => ?_) (fun j hj => ?_) i
  · blk_simp
    intro _
    obtain ⟨r, k, rfl⟩ : ∃ (r : Fin 1024) (k : Fin 1024), y = ix2 r k := ⟨y 0, y 1, eq_ix2 y⟩
    rw [after0_2, emb2, out m c t]
    exact (ref _ _ _ k).symm
  · intro h
    blk_simp [Pipeline.Window.cell_apply] at hj h
    omega

theorem mask_iff (x0 : FVec Ideal Cert.On_key_rows.S1024x1024 .f32) (x1 : FVec Ideal Cert.On_key_rows.S1024x1024 .bf16)
    (i : (⟨2, ![2048, 1024]⟩ : Shape).Idx) : Cert.On_key_rows.fn (F := Ideal) x0 x1 i = 1#1 ↔ (i 0).val < 1024 := by
  show IntOp.cmpi .slt (BitVec.ofNat 32 (i 0).val) (BitVec.ofNat 32 1024) = 1#1 ↔ _
  have h : (i 0).val < 2048 := (i 0).isLt
  exact WordCmp.cmpi_slt_ofNat_eq_one_iff (by norm_num; omega) (by norm_num)

theorem ref_frame : Cert.quiescent_DwKeyRefIdeal := fun m ρ _ =>
  (θ_run Cert.DwKeyRefIdeal.defs _ _).mono (fun r h => ⟨fun c => (h c).2,
      Idealize.ShloMosaic.sem_eq_zero_of_no_sems (by decide) r.2⟩)
    (Cert.DwKeyRefIdeal.Value.run (F := Ideal) m ρ)

theorem algebraic : Cert.algebraic_DwKeyIdeal_DwKeyRefIdeal_on_key_rows := by
  intro m ρ m' ρ' _ hagree
  refine ⟨fun c => G m c, ?_, ?_⟩
  · refine (θ_run Cert.DwKeyIdeal.defs _ _).mono (fun r h c => ?_) (Value.run_blocks (F := Ideal) m ρ)
    obtain ⟨h0, h⟩ := h c
    exact ⟨fun i hi => (congrFun h0 i).trans (final2 m c i ((mask_iff _ _ i).mp hi)), h⟩
  · refine (θ_run Cert.DwKeyRefIdeal.defs _ _).mono (fun r h c => ?_) (Cert.DwKeyRefIdeal.Value.run (F := Ideal) m' ρ')
    obtain ⟨h0, h⟩ := h c
    obtain ⟨a0, a1⟩ := hagree c
    rw [val_main_v8_eq, a0, a1] at h0
    exact ⟨fun i _ => congrFun h0 i, h⟩

end Cert.Proof.DwKey

end
-- ==== Proof.DwMixValue.lean ====
/-
  The gradient of a square output projection from a cotangent in f32.
-/
module

public import proofs.«01_k».proof.Defs
public import proofs.«01_k».proof.Proof.Gen.DwMixIdeal.Value
public import proofs.«01_k».proof.Proof.Gen.DwMixRefIdeal.Run
public import proofs.«01_k».proof.Proof.Gen.DwMixRefIdeal.Read
public import Idealize.ShloMosaic.Lib.Pipeline.ValueKit
public import Idealize.ShloMosaic.Lib.Pipeline.ReadBack
public import Idealize.ShloMosaic.Lib.Pointwise

@[expose] public section

noncomputable section

namespace Cert.Proof.DwMix

open Cert.DwMixIdeal Cert.DwMixIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val % 4, t.val / 4] :=
  (by decide +kernel : ∀ t : Fin grid0.N, win0_0.index t = ![t.val % 4, t.val / 4])
theorem e1 : ∀ t : Fin cfg0.N, win0_1.index t = ![t.val % 4, 0] :=
  (by decide +kernel : ∀ t : Fin grid0.N, win0_1.index t = ![t.val % 4, 0])
theorem e2 : ∀ t : Fin cfg0.N, win0_2.index t = ![t.val / 4, 0] :=
  (by decide +kernel : ∀ t : Fin grid0.N, win0_2.index t = ![t.val / 4, 0])

/-- The array row of row `r` of point `t`'s tile. -/
def row (t : Fin cfg0.N) (r : Fin 2048) : Fin 8192 := ⟨t.val % 4 * 2048 + r.val, by omega⟩
/-- The array column of column `k` of point `t`'s tile. -/
def col (t : Fin cfg0.N) (k : Fin 1024) : Fin 1024 := ⟨t.val / 4 * 1024 + k.val, by
  have := t.isLt; have h : cfg0.N = 4 := N_0; omega⟩

variable (c : Dev nD) (t : Fin cfg0.N)

/-- The first argument's array. -/
def A0 : S8192x1024.Idx → EReal := m ((c : Thread nD τ).loc main_arg0)
/-- The second argument's array. -/
def A1 : S8192x1024.Idx → EReal := m ((c : Thread nD τ).loc main_arg1)

theorem blk0 (r : Fin 2048) (k : Fin 1024) :
    iblk m c 0 t (ix2 r k) = A0 m c (ix2 (row t r) (col t k)) := by
  blk_ext [iblk, V, A0, e0, row, col]
theorem blk1 (r : Fin 2048) (k : Fin 1024) :
    iblk m c 1 t (ix2 r k) = A1 m c (ix2 (row t r) k) := by
  blk_ext [iblk, V, A1, e1, row]
theorem emb2 (r : Fin 1024) (k : Fin 1024) : (win0_2.blk t).view.emb (ix2 r k) = ix2 (col t r) k := by
  blk_ext [e2, col]

/-- The product of point `t`'s tiles. -/
def part (t : Fin cfg0.N) (i : S1024x1024.Idx) : EReal :=
  ∑ k : Fin 2048, A0 m c (ix2 (row t k) (col t (i 0))) * A1 m c (ix2 (row t k) (i 1))

theorem pay1 (r : Fin 1024) (k : Fin 1024) :
    k0_pay1 (F := Ideal) (iblk m c 0 t) (iblk m c 1 t) (ix2 r k) = part m c t (ix2 r k) := by
  unfold k0_pay1 part
  pointwise [blk0, blk1]

theorem scratch_first (h : t.val % 4 = 0) (i : S1024x1024.Idx) :
    (outsAt0 m c t.val t.isLt).2 i = 0 + part m c t i := by
  obtain ⟨r, k, rfl⟩ : ∃ (r : Fin 1024) (k : Fin 1024), i = ix2 r k := ⟨i 0, i 1, eq_ix2 i⟩
  have htl := t.isLt
  have hN : cfg0.N = 4 := N_0
  rw [outsAt0_A m c t h (by omega) (by omega), zero_add, ← pay1]
  frame_out
  unfold k0_pay2
  pointwise

theorem scratch_next (h : ¬t.val % 4 = 0) (i : S1024x1024.Idx) :
    (outsAt0 m c t.val t.isLt).2 i
      = (outsAt0 m c (t.val - 1) (Nat.lt_of_le_of_lt (Nat.sub_le _ _) t.isLt)).2 i + part m c t i := by
  obtain ⟨r, k, rfl⟩ : ∃ (r : Fin 1024) (k : Fin 1024), i = ix2 r k := ⟨i 0, i 1, eq_ix2 i⟩
  rw [← pay1]
  by_cases h2 : t.val % 4 = 3
  · rw [outsAt0_C m c t h (by omega) h2]
    frame_out
    unfold k0_pay3
    pointwise
    rw [read_unread_whole]
  · rw [outsAt0_B m c t h (by omega) h2]
    frame_out
    unfold k0_pay3
    pointwise
    rw [read_unread_whole]

theorem out_last (h : t.val % 4 = 3) (i : S1024x1024.Idx) :
    (outsAt0 m c t.val t.isLt).1 i = (outsAt0 m c t.val t.isLt).2 i := by
  obtain ⟨r, k, rfl⟩ : ∃ (r : Fin 1024) (k : Fin 1024), i = ix2 r k := ⟨i 0, i 1, eq_ix2 i⟩
  rw [outsAt0_C m c t (by omega) (by omega) h]
  frame_out
  unfold k0_pay4
  pointwise

theorem scratch_last (h : t.val % 4 = 3) (r : Fin 1024) (k : Fin 1024) :
    (outsAt0 m c t.val t.isLt).2 (ix2 r k)
      = ∑ l : Fin 8192, A0 m c (ix2 l (col t r)) * A1 m c (ix2 l k) := by
  rw [Pipeline.eq_sum_fin_of_reset_step_apply_of_flush (fun n h => (outsAt0 m c n h).2) 4 (fun _ => (0 : EReal)) (part m c)
    (fun t h i => scratch_first m c t h i) (fun t h i => scratch_next m c t h i) t h (ix2 r k), zero_add]
  refine Fin.sum_mul_add_congr fun s l hl => ?_
  have hr : row ⟨4 * (t.val / 4) + s.val, Pipeline.run_point_lt_of_flush t h s⟩ l = ⟨s.val * 2048 + l.val, hl⟩ :=
    Fin.ext (by simp only [row]; omega)
  have hc : col ⟨4 * (t.val / 4) + s.val, Pipeline.run_point_lt_of_flush t h s⟩ r = col t r :=
    Fin.ext (by simp only [col]; omega)
  simp only [part, ix2_0, ix2_1, hr, hc]

open Cert.DwMixRefIdeal.Read

theorem ref (x0 : (⟨2, ![8192, 1024]⟩ : Shape).Idx → EReal) (x1 : (⟨2, ![8192, 1024]⟩ : Shape).Idx → EReal)
    (r : Fin 1024) (k : Fin 1024) :
    val_main_v5 (F := Ideal) x0 x1 (ix2 r k)
      = ∑ l : Fin 8192, x0 (ix2 l r) * x1 (ix2 l k) := by
  unfold val_main_v5 val_main_v4 val_main_v3 val_main_v0
  pointwise
  exact Finset.sum_congr rfl fun l _ => mul_comm (G := EReal) _ _

theorem final2 : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  obtain ⟨r, k, rfl⟩ : ∃ (r : Fin 1024) (k : Fin 1024), y = ix2 r k := ⟨y 0, y 1, eq_ix2 y⟩
  have h : t.val % 4 = 3 := (flush0_2 t).mp hf
  rw [after0_2, emb2, ref, out_last m c t h, scratch_last m c t h]
  rfl

theorem ref_frame : Cert.quiescent_DwMixRefIdeal := fun m ρ _ =>
  (θ_run Cert.DwMixRefIdeal.defs _ _).mono (fun r h => ⟨fun c => (h c).2,
      Idealize.ShloMosaic.sem_eq_zero_of_no_sems (by decide) r.2⟩)
    (Cert.DwMixRefIdeal.Value.run (F := Ideal) m ρ)

theorem algebraic : Cert.algebraic_DwMixIdeal_DwMixRefIdeal := by
  intro m ρ m' ρ' _ hagree
  refine ⟨fun c => (dats m 0 c).arrAt 2 cfg0.N, Value.run_blocks (F := Ideal) m ρ, ?_⟩
  refine (θ_run Cert.DwMixRefIdeal.defs _ _).mono (fun r h c => ?_) (Cert.DwMixRefIdeal.Value.run (F := Ideal) m' ρ')
  obtain ⟨h0, h⟩ := h c
  obtain ⟨a0, a1⟩ := hagree c
  rw [val_main_v5_eq, a0, a1] at h0
  exact ⟨h0.trans (final2 m c).symm, h⟩

end Cert.Proof.DwMix

end
-- ==== Proof.DwOutValue.lean ====
/-
  The gradient of a square output projection: a product accumulated over four tiles of rows.
-/
module

public import proofs.«01_k».proof.Defs
public import proofs.«01_k».proof.Proof.Gen.DwOutIdeal.Value
public import proofs.«01_k».proof.Proof.Gen.DwOutRefIdeal.Run
public import proofs.«01_k».proof.Proof.Gen.DwOutRefIdeal.Read
public import Idealize.ShloMosaic.Lib.Pipeline.ValueKit
public import Idealize.ShloMosaic.Lib.Pipeline.ReadBack
public import Idealize.ShloMosaic.Lib.Pointwise

@[expose] public section

noncomputable section

namespace Cert.Proof.DwOut

open Cert.DwOutIdeal Cert.DwOutIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val % 4, t.val / 4] :=
  (by decide +kernel : ∀ t : Fin grid0.N, win0_0.index t = ![t.val % 4, t.val / 4])
theorem e1 : ∀ t : Fin cfg0.N, win0_1.index t = ![t.val % 4, 0] :=
  (by decide +kernel : ∀ t : Fin grid0.N, win0_1.index t = ![t.val % 4, 0])
theorem e2 : ∀ t : Fin cfg0.N, win0_2.index t = ![t.val / 4, 0] :=
  (by decide +kernel : ∀ t : Fin grid0.N, win0_2.index t = ![t.val / 4, 0])

/-- The array row of row `r` of point `t`'s tile. -/
def row (t : Fin cfg0.N) (r : Fin 2048) : Fin 8192 := ⟨t.val % 4 * 2048 + r.val, by omega⟩
/-- The array column of column `k` of point `t`'s tile. -/
def col (t : Fin cfg0.N) (k : Fin 1024) : Fin 1024 := ⟨t.val / 4 * 1024 + k.val, by
  have := t.isLt; have h : cfg0.N = 4 := N_0; omega⟩

variable (c : Dev nD) (t : Fin cfg0.N)

/-- The first argument's array. -/
def A0 : S8192x1024.Idx → EReal := m ((c : Thread nD τ).loc main_arg0)
/-- The second argument's array. -/
def A1 : S8192x1024.Idx → EReal := m ((c : Thread nD τ).loc main_arg1)

theorem blk0 (r : Fin 2048) (k : Fin 1024) :
    iblk m c 0 t (ix2 r k) = A0 m c (ix2 (row t r) (col t k)) := by
  blk_ext [iblk, V, A0, e0, row, col]
theorem blk1 (r : Fin 2048) (k : Fin 1024) :
    iblk m c 1 t (ix2 r k) = A1 m c (ix2 (row t r) k) := by
  blk_ext [iblk, V, A1, e1, row]
theorem emb2 (r : Fin 1024) (k : Fin 1024) : (win0_2.blk t).view.emb (ix2 r k) = ix2 (col t r) k := by
  blk_ext [e2, col]

/-- The product of point `t`'s tiles. -/
def part (t : Fin cfg0.N) (i : S1024x1024.Idx) : EReal :=
  ∑ k : Fin 2048, A0 m c (ix2 (row t k) (col t (i 0))) * A1 m c (ix2 (row t k) (i 1))

theorem pay1 (r : Fin 1024) (k : Fin 1024) :
    k0_pay1 (F := Ideal) (iblk m c 0 t) (iblk m c 1 t) (ix2 r k) = part m c t (ix2 r k) := by
  unfold k0_pay1 part
  pointwise [blk0, blk1]

theorem scratch_first (h : t.val % 4 = 0) (i : S1024x1024.Idx) :
    (outsAt0 m c t.val t.isLt).2 i = 0 + part m c t i := by
  obtain ⟨r, k, rfl⟩ : ∃ (r : Fin 1024) (k : Fin 1024), i = ix2 r k := ⟨i 0, i 1, eq_ix2 i⟩
  have htl := t.isLt
  have hN : cfg0.N = 4 := N_0
  rw [outsAt0_A m c t h (by omega) (by omega), zero_add, ← pay1]
  frame_out
  unfold k0_pay2
  pointwise

theorem scratch_next (h : ¬t.val % 4 = 0) (i : S1024x1024.Idx) :
    (outsAt0 m c t.val t.isLt).2 i
      = (outsAt0 m c (t.val - 1) (Nat.lt_of_le_of_lt (Nat.sub_le _ _) t.isLt)).2 i + part m c t i := by
  obtain ⟨r, k, rfl⟩ : ∃ (r : Fin 1024) (k : Fin 1024), i = ix2 r k := ⟨i 0, i 1, eq_ix2 i⟩
  rw [← pay1]
  by_cases h2 : t.val % 4 = 3
  · rw [outsAt0_C m c t h (by omega) h2]
    frame_out
    unfold k0_pay3
    pointwise
    rw [read_unread_whole]
  · rw [outsAt0_B m c t h (by omega) h2]
    frame_out
    unfold k0_pay3
    pointwise
    rw [read_unread_whole]

theorem out_last (h : t.val % 4 = 3) (i : S1024x1024.Idx) :
    (outsAt0 m c t.val t.isLt).1 i = (outsAt0 m c t.val t.isLt).2 i := by
  obtain ⟨r, k, rfl⟩ : ∃ (r : Fin 1024) (k : Fin 1024), i = ix2 r k := ⟨i 0, i 1, eq_ix2 i⟩
  rw [outsAt0_C m c t (by omega) (by omega) h]
  frame_out
  unfold k0_pay4
  pointwise

theorem scratch_last (h : t.val % 4 = 3) (r : Fin 1024) (k : Fin 1024) :
    (outsAt0 m c t.val t.isLt).2 (ix2 r k)
      = ∑ l : Fin 8192, A0 m c (ix2 l (col t r)) * A1 m c (ix2 l k) := by
  rw [Pipeline.eq_sum_fin_of_reset_step_apply_of_flush (fun n h => (outsAt0 m c n h).2) 4 (fun _ => (0 : EReal)) (part m c)
    (fun t h i => scratch_first m c t h i) (fun t h i => scratch_next m c t h i) t h (ix2 r k), zero_add]
  refine Fin.sum_mul_add_congr fun s l hl => ?_
  have hr : row ⟨4 * (t.val / 4) + s.val, Pipeline.run_point_lt_of_flush t h s⟩ l = ⟨s.val * 2048 + l.val, hl⟩ :=
    Fin.ext (by simp only [row]; omega)
  have hc : col ⟨4 * (t.val / 4) + s.val, Pipeline.run_point_lt_of_flush t h s⟩ r = col t r :=
    Fin.ext (by simp only [col]; omega)
  simp only [part, ix2_0, ix2_1, hr, hc]

open Cert.DwOutRefIdeal.Read

theorem ref (x0 : (⟨2, ![8192, 1024]⟩ : Shape).Idx → EReal) (x1 : (⟨2, ![8192, 1024]⟩ : Shape).Idx → EReal)
    (r : Fin 1024) (k : Fin 1024) :
    val_main_v6 (F := Ideal) x0 x1 (ix2 r k)
      = ∑ l : Fin 8192, x0 (ix2 l r) * x1 (ix2 l k) := by
  unfold val_main_v6 val_main_v5 val_main_v4 val_main_v1 val_main_v0
  pointwise
  exact Finset.sum_congr rfl fun l _ => mul_comm (G := EReal) _ _

theorem final2 : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  obtain ⟨r, k, rfl⟩ : ∃ (r : Fin 1024) (k : Fin 1024), y = ix2 r k := ⟨y 0, y 1, eq_ix2 y⟩
  have h : t.val % 4 = 3 := (flush0_2 t).mp hf
  rw [after0_2, emb2, ref, out_last m c t h, scratch_last m c t h]
  rfl

theorem ref_frame : Cert.quiescent_DwOutRefIdeal := fun m ρ _ =>
  (θ_run Cert.DwOutRefIdeal.defs _ _).mono (fun r h => ⟨fun c => (h c).2,
      Idealize.ShloMosaic.sem_eq_zero_of_no_sems (by decide) r.2⟩)
    (Cert.DwOutRefIdeal.Value.run (F := Ideal) m ρ)

theorem algebraic : Cert.algebraic_DwOutIdeal_DwOutRefIdeal := by
  intro m ρ m' ρ' _ hagree
  refine ⟨fun c => (dats m 0 c).arrAt 2 cfg0.N, Value.run_blocks (F := Ideal) m ρ, ?_⟩
  refine (θ_run Cert.DwOutRefIdeal.defs _ _).mono (fun r h c => ?_) (Cert.DwOutRefIdeal.Value.run (F := Ideal) m' ρ')
  obtain ⟨h0, h⟩ := h c
  obtain ⟨a0, a1⟩ := hagree c
  rw [val_main_v6_eq, a0, a1] at h0
  exact ⟨h0.trans (final2 m c).symm, h⟩

end Cert.Proof.DwOut

end
-- ==== Proof.DwSsmValue.lean ====
/-
  The gradient of the recurrence's output projection.
-/
module

public import proofs.«01_k».proof.Defs
public import proofs.«01_k».proof.Proof.Gen.DwSsmIdeal.Value
public import proofs.«01_k».proof.Proof.Gen.DwSsmRefIdeal.Run
public import proofs.«01_k».proof.Proof.Gen.DwSsmRefIdeal.Read
public import Idealize.ShloMosaic.Lib.Pipeline.ValueKit
public import Idealize.ShloMosaic.Lib.Pipeline.ReadBack
public import Idealize.ShloMosaic.Lib.Pointwise

@[expose] public section

noncomputable section

namespace Cert.Proof.DwSsm

open Cert.DwSsmIdeal Cert.DwSsmIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val % 4, t.val / 4] :=
  (by decide +kernel : ∀ t : Fin grid0.N, win0_0.index t = ![t.val % 4, t.val / 4])
theorem e1 : ∀ t : Fin cfg0.N, win0_1.index t = ![t.val % 4, 0] :=
  (by decide +kernel : ∀ t : Fin grid0.N, win0_1.index t = ![t.val % 4, 0])
theorem e2 : ∀ t : Fin cfg0.N, win0_2.index t = ![t.val / 4, 0] :=
  (by decide +kernel : ∀ t : Fin grid0.N, win0_2.index t = ![t.val / 4, 0])

/-- The array row of row `r` of point `t`'s tile. -/
def row (t : Fin cfg0.N) (r : Fin 2048) : Fin 8192 := ⟨t.val % 4 * 2048 + r.val, by omega⟩
/-- The array column of column `k` of point `t`'s tile. -/
def col (t : Fin cfg0.N) (k : Fin 1024) : Fin 2048 := ⟨t.val / 4 * 1024 + k.val, by
  have := t.isLt; have h : cfg0.N = 8 := N_0; omega⟩

variable (c : Dev nD) (t : Fin cfg0.N)

/-- The first argument's array. -/
def A0 : S8192x2048.Idx → EReal := m ((c : Thread nD τ).loc main_arg0)
/-- The second argument's array. -/
def A1 : S8192x1024.Idx → EReal := m ((c : Thread nD τ).loc main_arg1)

theorem blk0 (r : Fin 2048) (k : Fin 1024) :
    iblk m c 0 t (ix2 r k) = A0 m c (ix2 (row t r) (col t k)) := by
  blk_ext [iblk, V, A0, e0, row, col]
theorem blk1 (r : Fin 2048) (k : Fin 1024) :
    iblk m c 1 t (ix2 r k) = A1 m c (ix2 (row t r) k) := by
  blk_ext [iblk, V, A1, e1, row]
theorem emb2 (r : Fin 1024) (k : Fin 1024) : (win0_2.blk t).view.emb (ix2 r k) = ix2 (col t r) k := by
  blk_ext [e2, col]

/-- The product of point `t`'s tiles. -/
def part (t : Fin cfg0.N) (i : S1024x1024.Idx) : EReal :=
  ∑ k : Fin 2048, A0 m c (ix2 (row t k) (col t (i 0))) * A1 m c (ix2 (row t k) (i 1))

theorem pay1 (r : Fin 1024) (k : Fin 1024) :
    k0_pay1 (F := Ideal) (iblk m c 0 t) (iblk m c 1 t) (ix2 r k) = part m c t (ix2 r k) := by
  unfold k0_pay1 part
  pointwise [blk0, blk1]

theorem scratch_first (h : t.val % 4 = 0) (i : S1024x1024.Idx) :
    (outsAt0 m c t.val t.isLt).2 i = 0 + part m c t i := by
  obtain ⟨r, k, rfl⟩ : ∃ (r : Fin 1024) (k : Fin 1024), i = ix2 r k := ⟨i 0, i 1, eq_ix2 i⟩
  rw [outsAt0_A m c t h (by omega) (by omega), zero_add, ← pay1]
  frame_out
  unfold k0_pay2
  pointwise

theorem scratch_next (h : ¬t.val % 4 = 0) (i : S1024x1024.Idx) :
    (outsAt0 m c t.val t.isLt).2 i
      = (outsAt0 m c (t.val - 1) (Nat.lt_of_le_of_lt (Nat.sub_le _ _) t.isLt)).2 i + part m c t i := by
  obtain ⟨r, k, rfl⟩ : ∃ (r : Fin 1024) (k : Fin 1024), i = ix2 r k := ⟨i 0, i 1, eq_ix2 i⟩
  rw [← pay1]
  by_cases h2 : t.val % 4 = 3
  · rw [outsAt0_C m c t h (by omega) h2]
    frame_out
    unfold k0_pay3
    pointwise
    rw [read_unread_whole]
  · rw [outsAt0_B m c t h (by omega) h2]
    frame_out
    unfold k0_pay3
    pointwise
    rw [read_unread_whole]

theorem out_last (h : t.val % 4 = 3) (i : S1024x1024.Idx) :
    (outsAt0 m c t.val t.isLt).1 i = (outsAt0 m c t.val t.isLt).2 i := by
  obtain ⟨r, k, rfl⟩ : ∃ (r : Fin 1024) (k : Fin 1024), i = ix2 r k := ⟨i 0, i 1, eq_ix2 i⟩
  rw [outsAt0_C m c t (by omega) (by omega) h]
  frame_out
  unfold k0_pay4
  pointwise

theorem scratch_last (h : t.val % 4 = 3) (r : Fin 1024) (k : Fin 1024) :
    (outsAt0 m c t.val t.isLt).2 (ix2 r k)
      = ∑ l : Fin 8192, A0 m c (ix2 l (col t r)) * A1 m c (ix2 l k) := by
  rw [Pipeline.eq_sum_fin_of_reset_step_apply_of_flush (fun n h => (outsAt0 m c n h).2) 4 (fun _ => (0 : EReal)) (part m c)
    (fun t h i => scratch_first m c t h i) (fun t h i => scratch_next m c t h i) t h (ix2 r k), zero_add]
  refine Fin.sum_mul_add_congr fun s l hl => ?_
  have hr : row ⟨4 * (t.val / 4) + s.val, Pipeline.run_point_lt_of_flush t h s⟩ l = ⟨s.val * 2048 + l.val, hl⟩ :=
    Fin.ext (by simp only [row]; omega)
  have hc : col ⟨4 * (t.val / 4) + s.val, Pipeline.run_point_lt_of_flush t h s⟩ r = col t r :=
    Fin.ext (by simp only [col]; omega)
  simp only [part, ix2_0, ix2_1, hr, hc]

open Cert.DwSsmRefIdeal.Read

theorem ref (x0 : (⟨2, ![8192, 2048]⟩ : Shape).Idx → EReal) (x1 : (⟨2, ![8192, 1024]⟩ : Shape).Idx → EReal)
    (r : Fin 2048) (k : Fin 1024) :
    val_main_v6 (F := Ideal) x0 x1 (ix2 r k)
      = ∑ l : Fin 8192, x0 (ix2 l r) * x1 (ix2 l k) := by
  unfold val_main_v6 val_main_v5 val_main_v4 val_main_v1 val_main_v0
  pointwise
  exact Finset.sum_congr rfl fun l _ => mul_comm (G := EReal) _ _

theorem final2 : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  obtain ⟨r, k, rfl⟩ : ∃ (r : Fin 1024) (k : Fin 1024), y = ix2 r k := ⟨y 0, y 1, eq_ix2 y⟩
  have h : t.val % 4 = 3 := (flush0_2 t).mp hf
  rw [after0_2, emb2, ref, out_last m c t h, scratch_last m c t h]
  rfl

theorem ref_frame : Cert.quiescent_DwSsmRefIdeal := fun m ρ _ =>
  (θ_run Cert.DwSsmRefIdeal.defs _ _).mono (fun r h => ⟨fun c => (h c).2,
      Idealize.ShloMosaic.sem_eq_zero_of_no_sems (by decide) r.2⟩)
    (Cert.DwSsmRefIdeal.Value.run (F := Ideal) m ρ)

theorem algebraic : Cert.algebraic_DwSsmIdeal_DwSsmRefIdeal := by
  intro m ρ m' ρ' _ hagree
  refine ⟨fun c => (dats m 0 c).arrAt 2 cfg0.N, Value.run_blocks (F := Ideal) m ρ, ?_⟩
  refine (θ_run Cert.DwSsmRefIdeal.defs _ _).mono (fun r h c => ?_) (Cert.DwSsmRefIdeal.Value.run (F := Ideal) m' ρ')
  obtain ⟨h0, h⟩ := h c
  obtain ⟨a0, a1⟩ := hagree c
  rw [val_main_v6_eq, a0, a1] at h0
  exact ⟨h0.trans (final2 m c).symm, h⟩

end Cert.Proof.DwSsm

end
-- ==== Proof.DwUpValue.lean ====
/-
  The gradient of a feed-forward layer's first weight, the rows beside the gate: the kernel sums the products of four
  tiles of rows in a scratch array and writes them below the rows it is given.
-/
module

public import proofs.«01_k».proof.Defs
public import proofs.«01_k».proof.Proof.Gen.DwUpIdeal.Value
public import proofs.«01_k».proof.Proof.Gen.DwUpRefIdeal.Run
public import proofs.«01_k».proof.Proof.Gen.DwUpRefIdeal.Read
public import Idealize.ShloMosaic.Lib.Pipeline.ValueKit
public import Idealize.ShloMosaic.Lib.Pipeline.ReadBack
public import Idealize.ShloMosaic.Lib.Pointwise

@[expose] public section

noncomputable section

namespace Cert.Proof.DwUp

open Cert.DwUpIdeal Cert.DwUpIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val % 4, t.val / 4] :=
  (by decide +kernel : ∀ t : Fin grid0.N, win0_0.index t = ![t.val % 4, t.val / 4])
theorem e1 : ∀ t : Fin cfg0.N, win0_1.index t = ![t.val % 4, 0] :=
  (by decide +kernel : ∀ t : Fin grid0.N, win0_1.index t = ![t.val % 4, 0])
theorem e2 : ∀ t : Fin cfg0.N, win0_2.index t = ![2 + t.val / 4, 0] :=
  (by decide +kernel : ∀ t : Fin grid0.N, win0_2.index t = ![2 + t.val / 4, 0])

/-- The array row of row `r` of point `t`'s tile. -/
def row (t : Fin cfg0.N) (r : Fin 2048) : Fin 8192 := ⟨t.val % 4 * 2048 + r.val, by omega⟩
/-- The array column of column `k` of point `t`'s tile. -/
def col (t : Fin cfg0.N) (k : Fin 1408) : Fin 2816 := ⟨t.val / 4 * 1408 + k.val, by
  have := t.isLt; have h : cfg0.N = 8 := N_0; omega⟩

variable (c : Dev nD) (t : Fin cfg0.N)

/-- The first argument's array. -/
def A0 : S8192x2816.Idx → EReal := m ((c : Thread nD τ).loc main_arg0)
/-- The second argument's array. -/
def A1 : S8192x1024.Idx → EReal := m ((c : Thread nD τ).loc main_arg1)

theorem blk0 (r : Fin 2048) (k : Fin 1408) :
    iblk m c 0 t (ix2 r k) = A0 m c (ix2 (row t r) (col t k)) := by
  blk_ext [iblk, V, A0, e0, row, col]
theorem blk1 (r : Fin 2048) (k : Fin 1024) :
    iblk m c 1 t (ix2 r k) = A1 m c (ix2 (row t r) k) := by
  blk_ext [iblk, V, A1, e1, row]
theorem emb2 (r : Fin 1408) (k : Fin 1024) : (win0_2.blk t).view.emb (ix2 r k) = ix2 ⟨2816 + (col t r).val, by omega⟩ k := by
  blk_ext [e2, col]

/-- The product of point `t`'s tiles. -/
def part (t : Fin cfg0.N) (i : S1408x1024.Idx) : EReal :=
  ∑ k : Fin 2048, A0 m c (ix2 (row t k) (col t (i 0))) * A1 m c (ix2 (row t k) (i 1))

theorem pay1 (r : Fin 1408) (k : Fin 1024) :
    k0_pay1 (F := Ideal) (iblk m c 0 t) (iblk m c 1 t) (ix2 r k) = part m c t (ix2 r k) := by
  unfold k0_pay1 part
  pointwise [blk0, blk1]

theorem scratch_first (h : t.val % 4 = 0) (i : S1408x1024.Idx) :
    (outsAt0 m c t.val t.isLt).2 i = 0 + part m c t i := by
  obtain ⟨r, k, rfl⟩ : ∃ (r : Fin 1408) (k : Fin 1024), i = ix2 r k := ⟨i 0, i 1, eq_ix2 i⟩
  rw [outsAt0_A m c t h (by omega) (by omega), zero_add, ← pay1]
  frame_out
  unfold k0_pay2
  pointwise

theorem scratch_next (h : ¬t.val % 4 = 0) (i : S1408x1024.Idx) :
    (outsAt0 m c t.val t.isLt).2 i
      = (outsAt0 m c (t.val - 1) (Nat.lt_of_le_of_lt (Nat.sub_le _ _) t.isLt)).2 i + part m c t i := by
  obtain ⟨r, k, rfl⟩ : ∃ (r : Fin 1408) (k : Fin 1024), i = ix2 r k := ⟨i 0, i 1, eq_ix2 i⟩
  rw [← pay1]
  by_cases h2 : t.val % 4 = 3
  · rw [outsAt0_C m c t h (by omega) h2]
    frame_out
    unfold k0_pay3
    pointwise
    rw [read_unread_whole]
  · rw [outsAt0_B m c t h (by omega) h2]
    frame_out
    unfold k0_pay3
    pointwise
    rw [read_unread_whole]

theorem out_last (h : t.val % 4 = 3) (i : S1408x1024.Idx) :
    (outsAt0 m c t.val t.isLt).1 i = (outsAt0 m c t.val t.isLt).2 i := by
  obtain ⟨r, k, rfl⟩ : ∃ (r : Fin 1408) (k : Fin 1024), i = ix2 r k := ⟨i 0, i 1, eq_ix2 i⟩
  rw [outsAt0_C m c t (by omega) (by omega) h]
  frame_out
  unfold k0_pay4
  pointwise

theorem scratch_last (h : t.val % 4 = 3) (r : Fin 1408) (k : Fin 1024) :
    (outsAt0 m c t.val t.isLt).2 (ix2 r k)
      = ∑ l : Fin 8192, A0 m c (ix2 l (col t r)) * A1 m c (ix2 l k) := by
  rw [Pipeline.eq_sum_fin_of_reset_step_apply_of_flush (fun n h => (outsAt0 m c n h).2) 4 (fun _ => (0 : EReal)) (part m c)
    (fun t h i => scratch_first m c t h i) (fun t h i => scratch_next m c t h i) t h (ix2 r k), zero_add]
  refine Fin.sum_mul_add_congr fun s l hl => ?_
  have hr : row ⟨4 * (t.val / 4) + s.val, Pipeline.run_point_lt_of_flush t h s⟩ l = ⟨s.val * 2048 + l.val, hl⟩ :=
    Fin.ext (by simp only [row]; omega)
  have hc : col ⟨4 * (t.val / 4) + s.val, Pipeline.run_point_lt_of_flush t h s⟩ r = col t r :=
    Fin.ext (by simp only [col]; omega)
  simp only [part, ix2_0, ix2_1, hr, hc]

open Cert.DwUpRefIdeal.Read

theorem ref_new (x0 : (⟨2, ![8192, 2816]⟩ : Shape).Idx → EReal) (x1 : (⟨2, ![8192, 1024]⟩ : Shape).Idx → EReal)
    (x2 : (⟨2, ![5632, 1024]⟩ : Shape).Idx → EReal) (r : Fin 2816) (k : Fin 1024) :
    val_main_v10 (F := Ideal) x0 x1 x2 (ix2 ⟨2816 + r.val, by omega⟩ k) = ∑ l : Fin 8192, x0 (ix2 l r) * x1 (ix2 l k) := by
  unfold val_main_v10 val_main_v9 val_main_v8 val_main_v7 val_main_v6 val_main_v5 val_main_v1 val_main_v0
  pointwise

theorem ref_old (x0 : (⟨2, ![8192, 2816]⟩ : Shape).Idx → EReal) (x1 : (⟨2, ![8192, 1024]⟩ : Shape).Idx → EReal)
    (x2 : (⟨2, ![5632, 1024]⟩ : Shape).Idx → EReal) (r : Fin 5632) (k : Fin 1024) (h : r.val < 2816) :
    val_main_v10 (F := Ideal) x0 x1 x2 (ix2 r k) = x2 (ix2 r k) := by
  unfold val_main_v10 val_main_v9 val_main_v8
  pointwise
  rw [dif_pos h]

theorem final2 : (dats m 0 c).arrAt 2 cfg0.N
    = val_main_v10 (F := Ideal) (m ((c : Thread nD τ).loc main_arg0)) (m ((c : Thread nD τ).loc main_arg1))
        (m ((c : Thread nD τ).loc main_arg2)) := by
  refine funext fun i => (dats m 0 c).arrAt_forall_of_coversWhere 2 (fun i v => v = val_main_v10 (F := Ideal) _ _ _ i)
    (fun β => 2 ≤ β 0) (by decide +kernel) (fun t hf y => ?_) (fun j hj => ?_) i
  · blk_simp
    obtain ⟨r, k, rfl⟩ : ∃ (r : Fin 1408) (k : Fin 1024), y = ix2 r k := ⟨y 0, y 1, eq_ix2 y⟩
    have h : t.val % 4 = 3 := (flush0_2 t).mp hf
    rw [after0_2, emb2, ref_new, out_last m c t h, scratch_last m c t h]
    rfl
  · blk_simp [Pipeline.Window.cell_apply] at hj
    obtain ⟨r, k, rfl⟩ : ∃ (r : Fin 5632) (k : Fin 1024), j = ix2 r k := ⟨j 0, j 1, eq_ix2 j⟩
    have h : r.val < 2816 := by
      have h' : ¬2 ≤ r.val / 1408 := hj
      omega
    refine Eq.trans ?_ (ref_old _ _ _ r k h).symm
    rfl

theorem ref_frame : Cert.quiescent_DwUpRefIdeal := fun m ρ _ =>
  (θ_run Cert.DwUpRefIdeal.defs _ _).mono (fun r h => ⟨fun c => (h c).2,
      Idealize.ShloMosaic.sem_eq_zero_of_no_sems (by decide) r.2⟩)
    (Cert.DwUpRefIdeal.Value.run (F := Ideal) m ρ)

theorem algebraic : Cert.algebraic_DwUpIdeal_DwUpRefIdeal := by
  intro m ρ m' ρ' _ hagree
  refine ⟨fun c => (dats m 0 c).arrAt 2 cfg0.N, Value.run_blocks (F := Ideal) m ρ, ?_⟩
  refine (θ_run Cert.DwUpRefIdeal.defs _ _).mono (fun r h c => ?_) (Cert.DwUpRefIdeal.Value.run (F := Ideal) m' ρ')
  obtain ⟨h0, h⟩ := h c
  obtain ⟨a0, a1, a2⟩ := hagree c
  rw [val_main_v10_eq, a0, a1, a2] at h0
  exact ⟨h0.trans (final2 m c).symm, h⟩

end Cert.Proof.DwUp

end
-- ==== Proof.DwValValue.lean ====
/-
  The gradient of the values' projection: a product of the whole arrays, written after the keys' rows.
-/
module

public import proofs.«01_k».proof.Defs
public import proofs.«01_k».proof.Proof.Gen.DwValIdeal.Value
public import proofs.«01_k».proof.Proof.Gen.DwValRefIdeal.Run
public import proofs.«01_k».proof.Proof.Gen.DwValRefIdeal.Read
public import Idealize.ShloMosaic.Lib.Pipeline.ValueKit
public import Idealize.ShloMosaic.Lib.Pipeline.ReadBack
public import Idealize.ShloMosaic.Lib.Pointwise

@[expose] public section

noncomputable section

namespace Cert.Proof.DwVal

open Cert.DwValIdeal Cert.DwValIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![0, 0] :=
  (by decide +kernel : ∀ t : Fin grid0.N, win0_0.index t = ![0, 0])
theorem e1 : ∀ t : Fin cfg0.N, win0_1.index t = ![0, 0] :=
  (by decide +kernel : ∀ t : Fin grid0.N, win0_1.index t = ![0, 0])
theorem e2 : ∀ t : Fin cfg0.N, win0_2.index t = ![1, 0] :=
  (by decide +kernel : ∀ t : Fin grid0.N, win0_2.index t = ![1, 0])

variable (c : Dev nD) (t : Fin cfg0.N)

/-- The first argument's array. -/
def A0 : S1024x1024.Idx → EReal := m ((c : Thread nD τ).loc main_arg0)
/-- The second argument's array. -/
def A1 : S1024x1024.Idx → EReal := m ((c : Thread nD τ).loc main_arg1)

theorem blk0 (r : Fin 1024) (k : Fin 1024) : iblk m c 0 t (ix2 r k) = A0 m c (ix2 r k) := by
  blk_ext [iblk, V, A0, e0]
theorem blk1 (r : Fin 1024) (k : Fin 1024) : iblk m c 1 t (ix2 r k) = A1 m c (ix2 r k) := by
  blk_ext [iblk, V, A1, e1]
theorem emb2 (r : Fin 1024) (k : Fin 1024) : (win0_2.blk t).view.emb (ix2 r k) = ix2 ⟨1024 + r.val, by omega⟩ k := by
  blk_ext [e2]

theorem pay1 (r : Fin 1024) (k : Fin 1024) :
    k0_pay1 (F := Ideal) (iblk m c 0 t) (iblk m c 1 t) (ix2 r k) = ∑ l : Fin 1024, A0 m c (ix2 l r) * A1 m c (ix2 l k) := by
  unfold k0_pay1
  pointwise [blk0, blk1]

theorem out (r : Fin 1024) (k : Fin 1024) :
    outsAt0 m c t (ix2 r k) = ∑ l : Fin 1024, A0 m c (ix2 l r) * A1 m c (ix2 l k) := by
  rw [← pay1 m c t]
  unfold outsAt0
  frame_out
  unfold k0_pay4 k0_pay2
  pointwise

open Cert.DwValRefIdeal.Read

theorem ref_new (x0 : (⟨2, ![1024, 1024]⟩ : Shape).Idx → EReal) (x1 : (⟨2, ![1024, 1024]⟩ : Shape).Idx → EReal)
    (x2 : (⟨2, ![2048, 1024]⟩ : Shape).Idx → EReal) (r : Fin 1024) (k : Fin 1024) :
    val_main_v9 (F := Ideal) x0 x1 x2 (ix2 ⟨1024 + r.val, by omega⟩ k) = ∑ l : Fin 1024, x0 (ix2 l r) * x1 (ix2 l k) := by
  unfold val_main_v9 val_main_v8 val_main_v7 val_main_v6 val_main_v5 val_main_v4 val_main_v0
  pointwise

theorem ref_old (x0 : (⟨2, ![1024, 1024]⟩ : Shape).Idx → EReal) (x1 : (⟨2, ![1024, 1024]⟩ : Shape).Idx → EReal)
    (x2 : (⟨2, ![2048, 1024]⟩ : Shape).Idx → EReal) (r : Fin 2048) (k : Fin 1024) (h : r.val < 1024) :
    val_main_v9 (F := Ideal) x0 x1 x2 (ix2 r k) = x2 (ix2 r k) := by
  unfold val_main_v9 val_main_v8 val_main_v7
  pointwise
  rw [dif_pos h]

theorem final2 : (dats m 0 c).arrAt 2 cfg0.N
    = val_main_v9 (F := Ideal) (m ((c : Thread nD τ).loc main_arg0)) (m ((c : Thread nD τ).loc main_arg1))
        (m ((c : Thread nD τ).loc main_arg2)) := by
  refine funext fun i => (dats m 0 c).arrAt_forall_of_coversWhere 2 (fun i v => v = val_main_v9 (F := Ideal) _ _ _ i)
    (fun β => 1 ≤ β 0) (by decide +kernel) (fun t hf y => ?_) (fun j hj => ?_) i
  · blk_simp
    obtain ⟨r, k, rfl⟩ : ∃ (r : Fin 1024) (k : Fin 1024), y = ix2 r k := ⟨y 0, y 1, eq_ix2 y⟩
    rw [after0_2, emb2, ref_new, out m c t]
    rfl
  · blk_simp [Pipeline.Window.cell_apply] at hj
    obtain ⟨r, k, rfl⟩ : ∃ (r : Fin 2048) (k : Fin 1024), j = ix2 r k := ⟨j 0, j 1, eq_ix2 j⟩
    have h : r.val < 1024 := by
      have h' : ¬1 ≤ r.val / 1024 := hj
      omega
    refine Eq.trans ?_ (ref_old _ _ _ r k h).symm
    rfl

theorem ref_frame : Cert.quiescent_DwValRefIdeal := fun m ρ _ =>
  (θ_run Cert.DwValRefIdeal.defs _ _).mono (fun r h => ⟨fun c => (h c).2,
      Idealize.ShloMosaic.sem_eq_zero_of_no_sems (by decide) r.2⟩)
    (Cert.DwValRefIdeal.Value.run (F := Ideal) m ρ)

theorem algebraic : Cert.algebraic_DwValIdeal_DwValRefIdeal := by
  intro m ρ m' ρ' _ hagree
  refine ⟨fun c => (dats m 0 c).arrAt 2 cfg0.N, Value.run_blocks (F := Ideal) m ρ, ?_⟩
  refine (θ_run Cert.DwValRefIdeal.defs _ _).mono (fun r h c => ?_) (Cert.DwValRefIdeal.Value.run (F := Ideal) m' ρ')
  obtain ⟨h0, h⟩ := h c
  obtain ⟨a0, a1, a2⟩ := hagree c
  rw [val_main_v9_eq, a0, a1, a2] at h0
  exact ⟨h0.trans (final2 m c).symm, h⟩

end Cert.Proof.DwVal

end
-- ==== Proof.FfnDaValue.lean ====
/-
  The gradient of a feed-forward layer's product `(silu(gate) * up) @ w_d` in `gate` and `up`.
-/
module

public import proofs.«01_k».proof.Defs
public import proofs.«01_k».proof.Proof.Reals
public import proofs.«01_k».proof.Proof.Gen.Pre_finite_da
public import proofs.«01_k».proof.Proof.Gen.FfnDaIdeal.Value
public import proofs.«01_k».proof.Proof.Gen.FfnDaRefIdeal.Run
public import proofs.«01_k».proof.Proof.Gen.FfnDaRefIdeal.Read
public import Idealize.ShloMosaic.Lib.Pipeline.ValueKit
public import Idealize.ShloMosaic.Lib.Pipeline.ReadBack
public import Idealize.ShloMosaic.Lib.Pointwise

@[expose] public section

noncomputable section

namespace Cert.Proof.FfnDa

open Cert.FfnDaIdeal Cert.FfnDaIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])
theorem e3 : ∀ t : Fin cfg0.N, win0_3.index t = ![t.val, 0] :=
  (by decide +kernel : ∀ t : Fin grid0.N, win0_3.index t = ![t.val, 0])
theorem e4 : ∀ t : Fin cfg0.N, win0_4.index t = ![t.val, 0] :=
  (by decide +kernel : ∀ t : Fin grid0.N, win0_4.index t = ![t.val, 0])
theorem e5 : ∀ t : Fin cfg0.N, win0_5.index t = ![t.val, 0] :=
  (by decide +kernel : ∀ t : Fin grid0.N, win0_5.index t = ![t.val, 0])

/-- The array row of row `r` of point `t`'s tile. -/
def row (t : Fin cfg0.N) (r : Fin 512) : Fin 8192 := ⟨t.val * 512 + r.val, by
  have := t.isLt; have h : cfg0.N = 16 := N_0; omega⟩

variable (c : Dev nD) (t : Fin cfg0.N)

/-- The four arguments' arrays. -/
def A0 : S8192x1024.Idx → EReal := m ((c : Thread nD τ).loc main_arg0)
def A1 : S2816x1024.Idx → EReal := m ((c : Thread nD τ).loc main_arg1)
def A2 : S8192x2816.Idx → EReal := m ((c : Thread nD τ).loc main_arg2)
def A3 : S8192x2816.Idx → EReal := m ((c : Thread nD τ).loc main_arg3)

/-- The logistic function at an extended real. -/
def lg (x : EReal) : EReal := Ideal.div 1 (1 + Ideal.exp (-x))

theorem lg_real {x : EReal} (h : ∃ r : ℝ, x = r) : ∃ r : ℝ, lg x = r := by
  obtain ⟨r, rfl⟩ := h
  exact ⟨_, Reals.div_exp r⟩

/-- The logistic function of an array, as the host makes it. -/
def hostLg (x : FVec Ideal S8192x2816 .f32) : FVec Ideal S8192x2816 .f32 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf x)))

/-- The first saved factor: `up` times the derivative of `silu` at `gate`. -/
def F2 : S8192x2816.Idx → EReal := V m c main_v15
/-- The second saved factor: `silu(gate)`. -/
def F3 : S8192x2816.Idx → EReal := V m c main_v17

theorem F2_eq : F2 m c = truncf .bf16 (mulf (extf .f32 (m ((c : Thread nD τ).loc main_arg3)) bitsLt_bf16_f32)
    (mulf (hostLg (extf .f32 (m ((c : Thread nD τ).loc main_arg2)) bitsLt_bf16_f32))
      (addf (broadcastInDim S8192x2816 ![] bcast_S_S8192x2816 (constant S_ .f32 0x3F800000#32))
        (mulf (extf .f32 (m ((c : Thread nD τ).loc main_arg2)) bitsLt_bf16_f32)
          (subf (broadcastInDim S8192x2816 ![] bcast_S_S8192x2816 (constant S_ .f32 0x3F800000#32))
            (hostLg (extf .f32 (m ((c : Thread nD τ).loc main_arg2)) bitsLt_bf16_f32))))))) bitsLt_bf16_f32 := by
  unfold F2 hostLg
  simp only [V, hostOps0]; after_results_simp

theorem F3_eq : F3 m c = truncf .bf16 (mulf (extf .f32 (m ((c : Thread nD τ).loc main_arg2)) bitsLt_bf16_f32)
    (hostLg (extf .f32 (m ((c : Thread nD τ).loc main_arg2)) bitsLt_bf16_f32))) bitsLt_bf16_f32 := by
  unfold F3 hostLg
  simp only [V, hostOps0]; after_results_simp

theorem F2_apply (i : Fin 8192) (k : Fin 2816) : F2 m c (ix2 i k)
    = A3 m c (ix2 i k) * (lg (A2 m c (ix2 i k)) * (1 + A2 m c (ix2 i k) * (1 - lg (A2 m c (ix2 i k))))) := by
  rw [F2_eq]
  unfold hostLg
  pointwise [Ideal.ofBits_one_f32]
  rfl

theorem F3_apply (i : Fin 8192) (k : Fin 2816) : F3 m c (ix2 i k) = A2 m c (ix2 i k) * lg (A2 m c (ix2 i k)) := by
  rw [F3_eq]
  unfold hostLg
  pointwise [Ideal.ofBits_one_f32]
  rfl

theorem blk0 (r : Fin 512) (k : Fin 1024) : iblk m c 0 t (ix2 r k) = A0 m c (ix2 (row t r) k) := by
  rw [A0, ← V_main_arg0 m c]
  blk_ext [iblk, e0, row]
theorem blk1 (r : Fin 2816) (k : Fin 1024) : iblk m c 1 t (ix2 r k) = A1 m c (ix2 r k) := by
  rw [A1, ← V_main_arg1 m c]
  blk_ext [iblk, e1]
theorem blk2 (r : Fin 512) (k : Fin 2816) : iblk m c 2 t (ix2 r k) = F2 m c (ix2 (row t r) k) := by
  blk_ext [iblk, F2, e2, row]
theorem blk3 (r : Fin 512) (k : Fin 2816) : iblk m c 3 t (ix2 r k) = F3 m c (ix2 (row t r) k) := by
  blk_ext [iblk, F3, e3, row]
theorem emb4 (r : Fin 512) (k : Fin 2816) : (win0_4.blk t).view.emb (ix2 r k) = ix2 (row t r) k := by
  blk_ext [e4, row]
theorem emb5 (r : Fin 512) (k : Fin 2816) : (win0_5.blk t).view.emb (ix2 r k) = ix2 (row t r) k := by
  blk_ext [e5, row]

open Cert.FfnDaRefIdeal.Read

variable (x0 : (⟨2, ![8192, 1024]⟩ : Shape).Idx → EReal) (x1 : (⟨2, ![2816, 1024]⟩ : Shape).Idx → EReal)
  (x2 x3 : (⟨2, ![8192, 2816]⟩ : Shape).Idx → EReal)

/-- The cotangent of the product's left factor. -/
def da (i : Fin 8192) (j : Fin 2816) : EReal :=
  Ideal.ofBits .f32 0x3F000000#32 * ∑ l : Fin 1024, x0 (ix2 i l) * x1 (ix2 j l)

theorem da_real (h0 : ∀ i, ∃ r : ℝ, x0 i = r) (h1 : ∀ i, ∃ r : ℝ, x1 i = r) (i : Fin 8192) (j : Fin 2816) :
    ∃ r : ℝ, da x0 x1 i j = r := by
  obtain ⟨f, hf⟩ := Reals.exists_real h0
  obtain ⟨g, hg⟩ := Reals.exists_real h1
  refine ⟨1 / 2 * ∑ l : Fin 1024, f (ix2 i l) * g (ix2 j l), ?_⟩
  rw [da, EReal.coe_mul, ← Reals.coe_sum, Reals.ofBits_half]
  exact congrArg _ (Finset.sum_congr rfl fun l _ => by rw [hf, hg, EReal.coe_mul])

theorem ref10 (i : Fin 8192) (k : Fin 2816) : val_main_v10 (F := Ideal) x0 x1 (ix2 i k) = da x0 x1 i k := by
  unfold val_main_v10 val_main_v9 val_main_v8 val_main_cst_0 val_main_v0 da
  pointwise
  rw [Reals.ofBits_half, Reals.mul_sum_of_nonneg _ _ (by norm_num)]
  exact Finset.sum_congr rfl fun l _ => mul_assoc _ _ _

theorem ref3 (i : Fin 8192) (k : Fin 2816) :
    val_main_v3_2 (F := Ideal) x2 (ix2 i k) = lg (x2 (ix2 i k)) := by
  unfold val_main_v3_2 val_main_call0_v4 val_main_call0_v3 val_main_call0_v2 val_main_call0_v1 val_main_call0_v0
    val_main_call0_cst val_main_call0_cst_0 val_main_v1 lg
  pointwise [Ideal.ofBits_one_f32]

theorem ref14 (i : Fin 8192) (k : Fin 2816) : val_main_v14 (F := Ideal) x0 x1 x2 x3 (ix2 i k)
    = da x0 x1 i k * x3 (ix2 i k) * lg (x2 (ix2 i k))
      + x2 (ix2 i k) * (da x0 x1 i k * x3 (ix2 i k)) * (lg (x2 (ix2 i k)) * (1 - lg (x2 (ix2 i k)))) := by
  unfold val_main_v14 val_main_v13 val_main_call1_v2 val_main_call1_v1 val_main_call1_v0 val_main_v12
    val_main_v3_1 val_main_call0_v7 val_main_call0_v6 val_main_call0_cst_1 val_main_v1 val_main_v2
  pointwise [ref10, ref3, Ideal.ofBits_one_f32]

theorem pay1 (r : Fin 512) (k : Fin 2816) : k0_pay1 (F := Ideal) (iblk m c 0 t) (iblk m c 1 t) (ix2 r k)
    = da (A0 m c) (A1 m c) (row t r) k := by
  unfold k0_pay1 da
  pointwise [blk0, blk1]

/-- No element of the arguments is infinite. -/
def Fin' : Prop := ((∀ i, ∃ r : ℝ, A0 m c i = r) ∧ ∀ i, ∃ r : ℝ, A1 m c i = r)
  ∧ (∀ i, ∃ r : ℝ, A2 m c i = r) ∧ ∀ i, ∃ r : ℝ, A3 m c i = r

theorem final4 (hf : Fin' m c) : (dats m 0 c).arrAt 4 cfg0.N
    = val_main_v14 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  obtain ⟨r, k, rfl⟩ : ∃ (r : Fin 512) (k : Fin 2816), y = ix2 r k := ⟨y 0, y 1, eq_ix2 y⟩
  rw [after0_4, emb4, ref14]
  frame_out
  unfold k0_pay2
  pointwise [pay1, blk2, F2_apply]
  have hd := da_real (A0 m c) (A1 m c) hf.1.1 hf.1.2 (row t r) k
  have hu : ∃ s : ℝ, da (A0 m c) (A1 m c) (row t r) k * A3 m c (ix2 (row t r) k) = s := by
    obtain ⟨a, ha⟩ := hd
    obtain ⟨b, hb⟩ := hf.2.2 (ix2 (row t r) k)
    exact ⟨a * b, by rw [ha, hb, EReal.coe_mul]⟩
  rw [← mul_assoc (da (A0 m c) (A1 m c) (row t r) k)]
  exact Reals.silu_grad _ _ _ hu (hf.2.1 _) (lg_real (hf.2.1 _))

theorem final5 (_ : Fin' m c) : (dats m 0 c).arrAt 5 cfg0.N
    = val_main_v15 (F := Ideal) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  obtain ⟨r, k, rfl⟩ : ∃ (r : Fin 512) (k : Fin 2816), y = ix2 r k := ⟨y 0, y 1, eq_ix2 y⟩
  rw [after0_5, emb5]
  frame_out
  unfold k0_pay3 val_main_v15 val_main_v11 val_main_v3_0 val_main_v1
  pointwise [pay1, blk3, F3_apply, ref10, ref3]
  exact mul_comm (G := EReal) _ _

theorem finite (hpre : Cert.Pre_FfnDaIdeal_finite_da m) : Fin' m c :=
  ⟨⟨fun i => Reals.finite_of_test _ _ i (by exact Ideal.ofBits_zero_f32) (congrFun (hpre c).1 i),
    fun i => Reals.finite_of_test _ _ i (by exact Ideal.ofBits_zero_bf16) (congrFun (hpre c).2.1 i)⟩,
    fun i => Reals.finite_of_test _ _ i (by exact Ideal.ofBits_zero_bf16) (congrFun (hpre c).2.2.1 i),
    fun i => Reals.finite_of_test _ _ i (by exact Ideal.ofBits_zero_bf16) (congrFun (hpre c).2.2.2 i)⟩

theorem ref_frame : Cert.quiescent_FfnDaRefIdeal := fun m ρ _ =>
  (θ_run Cert.FfnDaRefIdeal.defs _ _).mono (fun r h => ⟨fun c => (h c).2.2,
      Idealize.ShloMosaic.sem_eq_zero_of_no_sems (by decide) r.2⟩)
    (Cert.FfnDaRefIdeal.Value.run (F := Ideal) m ρ)

theorem algebraic : Cert.algebraic_FfnDaIdeal_FfnDaRefIdeal_pre_finite_da := by
  intro m ρ m' ρ' hpre hagree
  refine ⟨fun c => (dats m 0 c).arrAt 4 cfg0.N, fun c => (dats m 0 c).arrAt 5 cfg0.N, Value.run_blocks (F := Ideal) m ρ, ?_⟩
  refine (θ_run Cert.FfnDaRefIdeal.defs _ _).mono (fun r h c => ?_) (Cert.FfnDaRefIdeal.Value.run (F := Ideal) m' ρ')
  obtain ⟨h0, h1, h⟩ := h c
  obtain ⟨a0, a1, a2, a3⟩ := hagree c
  rw [val_main_v14_eq, a0, a1, a2, a3] at h0
  rw [val_main_v15_eq, a0, a1, a2] at h1
  exact ⟨h0.trans (final4 m c (finite m c hpre)).symm, h1.trans (final5 m c (finite m c hpre)).symm, h⟩

end Cert.Proof.FfnDa

end
-- ==== Proof.FfnDnValue.lean ====
/-
  The gradient of a feed-forward layer's normed input: a product accumulated in four steps, then the row norm's gradient.
-/
module

public import proofs.«01_k».proof.Defs
public import proofs.«01_k».proof.Proof.Reals
public import proofs.«01_k».proof.Proof.Gen.Pre_finite_dn
public import proofs.«01_k».proof.Proof.Gen.FfnDnIdeal.Value
public import proofs.«01_k».proof.Proof.Gen.FfnDnRefIdeal.Run
public import proofs.«01_k».proof.Proof.Gen.FfnDnRefIdeal.Read
public import Idealize.ShloMosaic.Lib.Pipeline.ValueKit
public import Idealize.ShloMosaic.Lib.Pipeline.ReadBack
public import Idealize.ShloMosaic.Lib.Pointwise

@[expose] public section

noncomputable section

namespace Cert.Proof.FfnDn

open Cert.FfnDnIdeal Cert.FfnDnIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, t.val % 4 ≤ 1 → win0_0.index t = ![t.val / 4, t.val % 4] :=
  (by decide +kernel : ∀ t : Fin grid0.N, t.val % 4 ≤ 1 → win0_0.index t = ![t.val / 4, t.val % 4])
theorem e1 : ∀ t : Fin cfg0.N, 2 ≤ t.val % 4 → win0_1.index t = ![t.val / 4, t.val % 4 - 2] :=
  (by decide +kernel : ∀ t : Fin grid0.N, 2 ≤ t.val % 4 → win0_1.index t = ![t.val / 4, t.val % 4 - 2])
theorem e2 : ∀ t : Fin cfg0.N, win0_2.index t = ![t.val % 4, 0] :=
  (by decide +kernel : ∀ t : Fin grid0.N, win0_2.index t = ![t.val % 4, 0])
theorem e3 : ∀ t : Fin cfg0.N, win0_3.index t = ![t.val / 4, 0] :=
  (by decide +kernel : ∀ t : Fin grid0.N, win0_3.index t = ![t.val / 4, 0])
theorem e5 : ∀ t : Fin cfg0.N, win0_5.index t = ![0, 0] :=
  (by decide +kernel : ∀ t : Fin grid0.N, win0_5.index t = ![0, 0])
theorem e6 : ∀ t : Fin cfg0.N, win0_6.index t = ![t.val / 4, 0] :=
  (by decide +kernel : ∀ t : Fin grid0.N, win0_6.index t = ![t.val / 4, 0])
theorem e7 : ∀ t : Fin cfg0.N, win0_7.index t = ![t.val / 4, 0] :=
  (by decide +kernel : ∀ t : Fin grid0.N, win0_7.index t = ![t.val / 4, 0])
theorem e8 : ∀ t : Fin cfg0.N, win0_8.index t = ![0, 0] :=
  (by decide +kernel : ∀ t : Fin grid0.N, win0_8.index t = ![0, 0])

/-- The array row of row `r` of point `t`'s tile. -/
def row (t : Fin cfg0.N) (r : Fin 1024) : Fin 8192 := ⟨t.val / 4 * 1024 + r.val, by
  have := t.isLt; have h : cfg0.N = 32 := N_0; omega⟩
/-- The product's inner index `k` of point `t`'s tile. -/
def col (t : Fin cfg0.N) (k : Fin 1408) : Fin 5632 := ⟨t.val % 4 * 1408 + k.val, by omega⟩

variable (c : Dev nD) (t : Fin cfg0.N)

/-- The arguments' arrays. -/
def A0 : S8192x2816.Idx → EReal := m ((c : Thread nD τ).loc main_arg0)
def A1 : S8192x2816.Idx → EReal := m ((c : Thread nD τ).loc main_arg1)
def A2 : S5632x1024.Idx → EReal := m ((c : Thread nD τ).loc main_arg2)
def A3 : S8192x1024.Idx → EReal := m ((c : Thread nD τ).loc main_arg3)
def A5 : S1x1024.Idx → EReal := m ((c : Thread nD τ).loc main_arg5)
def A6 : S8192x1024.Idx → EReal := m ((c : Thread nD τ).loc main_arg6)

theorem blk0 (h : t.val % 4 ≤ 1) (r : Fin 1024) (k : Fin 1408) :
    iblk m c 0 t (ix2 r k) = A0 m c (ix2 (row t r) ⟨t.val % 4 * 1408 + k.val, by omega⟩) := by
  blk_ext [iblk, V, A0, e0 t h, row]
theorem blk1 (h : 2 ≤ t.val % 4) (r : Fin 1024) (k : Fin 1408) :
    iblk m c 1 t (ix2 r k) = A1 m c (ix2 (row t r) ⟨(t.val % 4 - 2) * 1408 + k.val, by omega⟩) := by
  blk_ext [iblk, V, A1, e1 t h, row]
theorem blk2 (r : Fin 1408) (k : Fin 1024) : iblk m c 2 t (ix2 r k) = A2 m c (ix2 (col t r) k) := by
  blk_ext [iblk, V, A2, e2, col]
theorem blk3 (r : Fin 1024) (k : Fin 1024) : iblk m c 3 t (ix2 r k) = A3 m c (ix2 (row t r) k) := by
  blk_ext [iblk, V, A3, e3, row]
theorem blk5 (r : Fin 1) (k : Fin 1024) : iblk m c 5 t (ix2 r k) = A5 m c (ix2 r k) := by
  blk_ext [iblk, V, A5, e5]
theorem blk6 (r : Fin 1024) (k : Fin 1024) : iblk m c 6 t (ix2 r k) = A6 m c (ix2 (row t r) k) := by
  blk_ext [iblk, V, A6, e6, row]
theorem emb7 (r : Fin 1024) (k : Fin 1024) : (win0_7.blk t).view.emb (ix2 r k) = ix2 (row t r) k := by
  blk_ext [e7, row]
theorem emb8 (r : Fin 1) (k : Fin 1024) : (win0_8.blk t).view.emb (ix2 r k) = ix2 r k := by
  blk_ext [e8]

/-- The cotangent of the product, of its two halves side by side. -/
def cat (x0 x1 : (⟨2, ![8192, 2816]⟩ : Shape).Idx → EReal) (i : Fin 8192) (l : Fin 5632) : EReal :=
  if h : l.val < 2816 then x0 (ix2 i ⟨l.val, h⟩) else x1 (ix2 i ⟨l.val - 2816, by omega⟩)

/-- The cotangent of the normed row. -/
def dn (x0 x1 : (⟨2, ![8192, 2816]⟩ : Shape).Idx → EReal) (x2 : (⟨2, ![5632, 1024]⟩ : Shape).Idx → EReal)
    (i : Fin 8192) (k : Fin 1024) : EReal := ∑ l : Fin 5632, cat x0 x1 i l * x2 (ix2 l k)

/-- A row's mean square with the norm's constant added. -/
def ms (x6 : (⟨2, ![8192, 1024]⟩ : Shape).Idx → EReal) (i : Fin 8192) : EReal :=
  Ideal.div (∑ k : Fin 1024, x6 (ix2 i k) * x6 (ix2 i k)) (Ideal.ofBits .f32 0x44800000#32) + Ideal.ofBits .f32 0x358637BD#32

/-- The product of point `t`'s tiles. -/
def part (t : Fin cfg0.N) (i : S1024x1024.Idx) : EReal :=
  ∑ k : Fin 1408, cat (A0 m c) (A1 m c) (row t (i 0)) (col t k) * A2 m c (ix2 (col t k) (i 1))

theorem scratch_first (h : t.val % 4 = 0) (i : S1024x1024.Idx) :
    (outsAt0 m c t.val t.isLt).2.2 i = 0 + part m c t i := by
  obtain ⟨r, k, rfl⟩ : ∃ (r : Fin 1024) (k : Fin 1024), i = ix2 r k := ⟨i 0, i 1, eq_ix2 i⟩
  rw [outsAt0_A m c t h (by omega) (by omega) (by omega), zero_add]
  frame_out
  unfold k0_pay1 part
  pointwise [blk0 m c t (by omega), blk2]
  refine Finset.sum_congr rfl fun l _ => ?_
  rw [cat, dif_pos (by simp only [col]; omega)]
  rfl

/-- A step on the second array's columns. -/
theorem step_up (h : 2 ≤ t.val % 4) (X : S1024x1024.Idx → EReal) (r k : Fin 1024) :
    k0_pay3 (F := Ideal) X (iblk m c 1 t) (iblk m c 2 t) (ix2 r k) = X (ix2 r k) + part m c t (ix2 r k) := by
  unfold k0_pay3 part
  pointwise [blk1 m c t h, blk2]
  refine congrArg _ (Finset.sum_congr rfl fun l _ => ?_)
  have hl : (col t l).val = 2816 + ((t.val % 4 - 2) * 1408 + l.val) := by simp only [col]; omega
  rw [cat, dif_neg (by omega)]
  simp only [hl, Nat.add_sub_cancel_left]

theorem scratch_next (h : ¬t.val % 4 = 0) (i : S1024x1024.Idx) :
    (outsAt0 m c t.val t.isLt).2.2 i
      = (outsAt0 m c (t.val - 1) (Nat.lt_of_le_of_lt (Nat.sub_le _ _) t.isLt)).2.2 i + part m c t i := by
  obtain ⟨r, k, rfl⟩ : ∃ (r : Fin 1024) (k : Fin 1024), i = ix2 r k := ⟨i 0, i 1, eq_ix2 i⟩
  by_cases h1 : t.val % 4 = 1
  · rw [outsAt0_B m c t h h1 (by omega) (by omega)]
    frame_out
    unfold k0_pay2 part
    pointwise [blk0 m c t (by omega), blk2]
    rw [read_unread_whole]
    refine congrArg _ (Finset.sum_congr rfl fun l _ => ?_)
    rw [cat, dif_pos (by simp only [col]; omega)]
    rfl
  by_cases h2 : t.val % 4 = 2
  · rw [outsAt0_C m c t h (by omega) (by omega) (by omega)]
    frame_out
    rw [read_unread_whole]
    exact step_up m c t (by omega) _ r k
  by_cases h4 : t.val < 4
  · rw [outsAt0_D m c t h (by omega) (by omega) (by omega) h4 (by omega)]
    frame_out
    rw [read_unread_whole]
    exact step_up m c t (by omega) _ r k
  · rw [outsAt0_E m c t h (by omega) (by omega) (by omega) h4 (by omega)]
    frame_out
    rw [read_unread_whole]
    exact step_up m c t (by omega) _ r k

/-- What the last step of a row block writes. -/
theorem out_last (h : t.val % 4 = 3) (i : S1024x1024.Idx) :
    (outsAt0 m c t.val t.isLt).1 i
      = k0_pay8 (F := Ideal) (outsAt0 m c t.val t.isLt).2.2 (iblk m c 6 t) (iblk m c 5 t) (iblk m c 3 t) i := by
  by_cases h4 : t.val < 4
  · rw [outsAt0_D m c t (by omega) (by omega) (by omega) h h4 (by omega)]
    frame_out
  · rw [outsAt0_E m c t (by omega) (by omega) (by omega) h h4 (by omega)]
    frame_out

theorem gain_first (h : t.val % 4 = 3) (h4 : t.val < 4) (i : S1x1024.Idx) :
    (outsAt0 m c t.val t.isLt).2.1 i = k0_pay6 (F := Ideal) (outsAt0 m c t.val t.isLt).2.2 (iblk m c 6 t) i := by
  rw [outsAt0_D m c t (by omega) (by omega) (by omega) h h4 (by omega)]
  frame_out

theorem gain_next (h : t.val % 4 = 3) (h4 : 4 ≤ t.val) (i : S1x1024.Idx) :
    (outsAt0 m c t.val t.isLt).2.1 i
      = (outsAt0 m c (t.val - 1) (Nat.lt_of_le_of_lt (Nat.sub_le _ _) t.isLt)).2.1 i
        + k0_pay6 (F := Ideal) (outsAt0 m c t.val t.isLt).2.2 (iblk m c 6 t) i := by
  rw [outsAt0_E m c t (by omega) (by omega) (by omega) h (by omega) h4]
  obtain ⟨r, k, rfl⟩ : ∃ (r : Fin 1) (k : Fin 1024), i = ix2 r k := ⟨i 0, i 1, eq_ix2 i⟩
  frame_out
  unfold k0_pay7
  pointwise

theorem gain_keep (h : ¬t.val % 4 = 3) (i : S1x1024.Idx) :
    (outsAt0 m c t.val t.isLt).2.1 i
      = (outsAt0 m c (t.val - 1) (Nat.lt_of_le_of_lt (Nat.sub_le _ _) t.isLt)).2.1 i := by
  by_cases h0 : t.val % 4 = 0
  · rw [outsAt0_A m c t h0 (by omega) (by omega) (by omega)]
    unfold out0_A_8
    first | rfl | simp only [read_unread_whole]
  by_cases h1 : t.val % 4 = 1
  · rw [outsAt0_B m c t h0 h1 (by omega) (by omega)]
    unfold out0_B_8
    first | rfl | simp only [read_unread_whole]
  · rw [outsAt0_C m c t h0 h1 (by omega) h]
    unfold out0_C_8
    first | rfl | simp only [read_unread_whole]

theorem scratch_last (h : t.val % 4 = 3) (r : Fin 1024) (k : Fin 1024) :
    (outsAt0 m c t.val t.isLt).2.2 (ix2 r k) = dn (A0 m c) (A1 m c) (A2 m c) (row t r) k := by
  rw [Pipeline.eq_sum_fin_of_reset_step_apply_of_flush (fun n h => (outsAt0 m c n h).2.2) 4 (fun _ => (0 : EReal)) (part m c)
    (fun t h i => scratch_first m c t h i) (fun t h i => scratch_next m c t h i) t h (ix2 r k), zero_add]
  refine Fin.sum_mul_add_congr fun s l hl => ?_
  have hc : col ⟨4 * (t.val / 4) + s.val, Pipeline.run_point_lt_of_flush t h s⟩ l = ⟨s.val * 1408 + l.val, hl⟩ :=
    Fin.ext (by simp only [col]; omega)
  have hr : row ⟨4 * (t.val / 4) + s.val, Pipeline.run_point_lt_of_flush t h s⟩ r = row t r :=
    Fin.ext (by simp only [row]; omega)
  simp only [ix2_0, ix2_1, hr, hc]

/-- A row's reciprocal norm. -/
theorem pay4 (r : Fin 1024) (k : Fin 1) :
    k0_pay4 (F := Ideal) (iblk m c 6 t) (ix2 r k) = Ideal.rsqrt (ms (A6 m c) (row t r)) := by
  unfold k0_pay4 ms
  pointwise [blk6]

theorem pay5 (r : Fin 1024) (k : Fin 1024) : k0_pay5 (F := Ideal) (iblk m c 6 t) (ix2 r k)
    = A6 m c (ix2 (row t r) k) * Ideal.rsqrt (ms (A6 m c) (row t r)) := by
  unfold k0_pay5
  pointwise [blk6, pay4]

/-- A row's term of the gain's gradient. -/
def gterm (x0 x1 : (⟨2, ![8192, 2816]⟩ : Shape).Idx → EReal) (x2 : (⟨2, ![5632, 1024]⟩ : Shape).Idx → EReal)
    (x6 : (⟨2, ![8192, 1024]⟩ : Shape).Idx → EReal) (k : Fin 1024) (i : Fin 8192) : EReal :=
  dn x0 x1 x2 i k * (x6 (ix2 i k) * Ideal.rsqrt (ms x6 i))

theorem pay6 (h : t.val % 4 = 3) (r : Fin 1) (k : Fin 1024) :
    k0_pay6 (F := Ideal) (outsAt0 m c t.val t.isLt).2.2 (iblk m c 6 t) (ix2 r k)
      = ∑ l : Fin 1024, gterm (A0 m c) (A1 m c) (A2 m c) (A6 m c) k (row t l) := by
  unfold k0_pay6 gterm
  pointwise [pay5, scratch_last m c t h]

/-- The gain's terms of row block `s`. -/
def gblock (k : Fin 1024) (s : ℕ) : EReal :=
  if h : s < 8 then ∑ l : Fin 1024, gterm (A0 m c) (A1 m c) (A2 m c) (A6 m c) k ⟨s * 1024 + l.val, by omega⟩ else 0

theorem gain (r : Fin 1) (k : Fin 1024) (s : ℕ) (t : Fin cfg0.N) (ht : t.val = 4 * s + 3) :
    (outsAt0 m c t.val t.isLt).2.1 (ix2 r k) = ∑ b ∈ Finset.range (s + 1), gblock m c k b := by
  have hN : cfg0.N = 32 := N_0
  have hb : k0_pay6 (F := Ideal) (outsAt0 m c t.val t.isLt).2.2 (iblk m c 6 t) (ix2 r k) = gblock m c k s := by
    have htl := t.isLt
    rw [pay6 m c t (by omega), gblock, dif_pos (by omega)]
    refine Finset.sum_congr rfl fun l _ => congrArg _ (Fin.ext ?_)
    simp only [row]
    omega
  induction s generalizing t with
  | zero => rw [gain_first m c t (by omega) (by omega), hb, Finset.sum_range_one]
  | succ s ih =>
    have htl := t.isLt
    rw [gain_next m c t (by omega) (by omega), hb, Finset.sum_range_succ _ (s + 1)]
    have k1 := gain_keep m c ⟨t.val - 1, by omega⟩ (by simp only; omega) (ix2 r k)
    have k2 := gain_keep m c ⟨t.val - 2, by omega⟩ (by simp only; omega) (ix2 r k)
    have k3 := gain_keep m c ⟨t.val - 3, by omega⟩ (by simp only; omega) (ix2 r k)
    have hp := ih ⟨t.val - 4, by omega⟩ (by simp only; omega) (by
      have htl := t.isLt
      rw [pay6 m c _ (by simp only; omega), gblock, dif_pos (by omega)]
      refine Finset.sum_congr rfl fun l _ => congrArg _ (Fin.ext ?_)
      simp only [row]
      omega)
    simp only [Nat.sub_sub] at k1 k2 k3 hp
    rw [k1, k2, k3, hp]

theorem gain_last (t : Fin cfg0.N) (h : t.val % 32 = 31) (r : Fin 1) (k : Fin 1024) :
    (outsAt0 m c t.val t.isLt).2.1 (ix2 r k) = ∑ i : Fin 8192, gterm (A0 m c) (A1 m c) (A2 m c) (A6 m c) k i := by
  have hN : cfg0.N = 32 := N_0
  have htl := t.isLt
  rw [gain m c r k 7 t (by omega), Finset.sum_range]
  have hg : ∀ s : Fin 8, gblock m c k s.val
      = ∑ l : Fin 1024, gterm (A0 m c) (A1 m c) (A2 m c) (A6 m c) k ⟨s.val * 1024 + l.val, by omega⟩ := fun s => by
    rw [gblock, dif_pos s.isLt]
  rw [Finset.sum_congr rfl fun s _ => hg s]
  exact Fin.sum_mul_add_congr fun s l hl => rfl

open Cert.FfnDnRefIdeal.Read

variable (x0 x1 : (⟨2, ![8192, 2816]⟩ : Shape).Idx → EReal) (x2 : (⟨2, ![5632, 1024]⟩ : Shape).Idx → EReal)
  (x3 x6 : (⟨2, ![8192, 1024]⟩ : Shape).Idx → EReal) (x5 : (⟨2, ![1, 1024]⟩ : Shape).Idx → EReal)

theorem ref24 (i : Fin 8192) (l : Fin 5632) : val_main_v24 (F := Ideal) x0 x1 (ix2 i l) = cat x0 x1 i l := by
  unfold val_main_v24 val_main_v23 val_main_v22 val_main_cst_4 val_main_cst_3 val_main_v1 val_main_v0
  pointwise
  unfold cat
  have hl := l.isLt
  split_ifs <;> first | omega | simp

theorem ref25 (i : Fin 8192) (k : Fin 1024) : val_main_v25 (F := Ideal) x0 x1 x2 (ix2 i k) = dn x0 x1 x2 i k := by
  unfold val_main_v25 val_main_v18 val_main_v2 dn
  pointwise [ref24]

theorem ref9 (i : Fin 8192) (k : Fin 1) : val_main_v9 (F := Ideal) x6 (ix2 i k) = ms x6 i := by
  unfold val_main_v9 val_main_v8 val_main_v7 val_main_v6 val_main_v5 val_main_v4 val_main_v3 val_main_cst val_main_cst_0
    val_main_cst_1 ms
  pointwise

theorem ref28 (r : Fin 1) (k : Fin 1024) : val_main_v28 (F := Ideal) x0 x1 x2 x6 (ix2 r k)
    = ∑ i : Fin 8192, gterm x0 x1 x2 x6 k i := by
  unfold val_main_v28 val_main_v27 val_main_cst_5 val_main_v26 val_main_v15 val_main_v14 val_main_v10 gterm
  pointwise [ref9, ref25]
  exact Finset.sum_congr rfl fun i _ => mul_comm _ _

/-- The norm's factor of a row, as the reference writes it. -/
def bterm (d h : Fin 1024 → EReal) (s v : EReal) : EReal :=
  Ideal.div ((∑ k, h k * d k) * (Ideal.ofBits .f32 0xBF000000#32 * Ideal.div s v)) (Ideal.ofBits .f32 0x44800000#32)

theorem ref39 (i : Fin 8192) : val_main_v39 (F := Ideal) x0 x1 x2 x5 x6 (ix1 i)
    = bterm (fun k => dn x0 x1 x2 i k * x5 (ix2 0 k)) (fun k => x6 (ix2 i k)) (Ideal.rsqrt (ms x6 i)) (ms x6 i) := by
  unfold val_main_v39 val_main_cst_8 val_main_v38 val_main_v37 val_main_cst_7 val_main_v36 val_main_v33 val_main_v32 val_main_cst_6
    val_main_v31 val_main_v30 val_main_v29 val_main_v13 val_main_v12 val_main_cst_2 val_main_v11 val_main_v10 bterm
  pointwise [ref9, ref25]
  simp only [Finset.univ_unique, Finset.sum_singleton]

theorem ref45 (i : Fin 8192) (k : Fin 1024) : val_main_v45 (F := Ideal) x0 x1 x2 x3 x5 x6 (ix2 i k)
    = x3 (ix2 i k) + (dn x0 x1 x2 i k * x5 (ix2 0 k) * Ideal.rsqrt (ms x6 i)
      + x6 (ix2 i k) * bterm (fun k => dn x0 x1 x2 i k * x5 (ix2 0 k)) (fun k => x6 (ix2 i k)) (Ideal.rsqrt (ms x6 i)) (ms x6 i)
      + bterm (fun k => dn x0 x1 x2 i k * x5 (ix2 0 k)) (fun k => x6 (ix2 i k)) (Ideal.rsqrt (ms x6 i)) (ms x6 i) * x6 (ix2 i k)) := by
  unfold val_main_v45 val_main_v44 val_main_v43 val_main_v42 val_main_v41 val_main_v40 val_main_v35 val_main_v34 val_main_v30
    val_main_v29 val_main_v10
  pointwise [ref9, ref25, ref39]

/-- The arrays that matter have no infinite element. -/
def Fin' : Prop := ((∀ i, ∃ r : ℝ, A0 m c i = r) ∧ ∀ i, ∃ r : ℝ, A1 m c i = r)
  ∧ (∀ i, ∃ r : ℝ, A2 m c i = r) ∧ (∀ i, ∃ r : ℝ, A5 m c i = r) ∧ ∀ i, ∃ r : ℝ, A6 m c i = r

theorem dn_real (h0 : ∀ i, ∃ r : ℝ, x0 i = r) (h1 : ∀ i, ∃ r : ℝ, x1 i = r) (h2 : ∀ i, ∃ r : ℝ, x2 i = r)
    (i : Fin 8192) (k : Fin 1024) : ∃ r : ℝ, dn x0 x1 x2 i k = r := by
  have hc : ∀ l, ∃ r : ℝ, cat x0 x1 i l = r := fun l => by
    unfold cat
    split_ifs
    · exact h0 _
    · exact h1 _
  obtain ⟨f, hf⟩ := Reals.exists_real hc
  obtain ⟨g, hg⟩ := Reals.exists_real h2
  refine ⟨∑ l : Fin 5632, f l * g (ix2 l k), ?_⟩
  rw [dn, ← Reals.coe_sum]
  exact Finset.sum_congr rfl fun l _ => by rw [hf, hg, EReal.coe_mul]

theorem final7 (hf : Fin' m c) : (dats m 0 c).arrAt 7 cfg0.N
    = val_main_v45 (F := Ideal) (m ((c : Thread nD τ).loc main_arg0)) (m ((c : Thread nD τ).loc main_arg1))
        (m ((c : Thread nD τ).loc main_arg2)) (m ((c : Thread nD τ).loc main_arg3))
        (m ((c : Thread nD τ).loc main_arg5)) (m ((c : Thread nD τ).loc main_arg6)) := by
  refine (dats m 0 c).arrAt_eq_of_covers 7 _ (by decide +kernel) fun t hfl y => ?_
  blk_simp
  obtain ⟨r, k, rfl⟩ : ∃ (r : Fin 1024) (k : Fin 1024), y = ix2 r k := ⟨y 0, y 1, eq_ix2 y⟩
  have h : t.val % 4 = 3 := (flush0_7 t).mp hfl
  rw [after0_7, emb7, ref45, out_last m c t h]
  unfold k0_pay8
  pointwise [scratch_last m c t h, blk3, blk5, pay4, pay5]
  refine congrArg (fun x : EReal => A3 m c (ix2 (row t r) k) + x) ?_
  obtain ⟨e, he, hee⟩ := Reals.ofBits_eps
  have hd : ∀ k, ∃ s : ℝ, dn (A0 m c) (A1 m c) (A2 m c) (row t r) k * A5 m c (ix2 0 k) = s := fun k => by
    obtain ⟨a, ha⟩ := dn_real (A0 m c) (A1 m c) (A2 m c) hf.1.1 hf.1.2 hf.2.1 (row t r) k
    obtain ⟨b, hb⟩ := hf.2.2.1 (ix2 0 k)
    exact ⟨a * b, by rw [ha, hb, EReal.coe_mul]⟩
  have key := Reals.rmsnorm_grad (fun k => A6 m c (ix2 (row t r) k))
    (fun k => dn (A0 m c) (A1 m c) (A2 m c) (row t r) k * A5 m c (ix2 0 k)) 1024 e (by norm_num) he
    (fun _ => hf.2.2.2 _) hd k (ms (A6 m c) (row t r)) _ (by rw [ms, hee, Reals.ofBits_1024]) rfl
  rw [Reals.ofBits_1024]
  refine Eq.trans key ?_
  unfold bterm
  rw [Reals.ofBits_1024, Reals.ofBits_neg_half]
  rfl

theorem final8 (_ : Fin' m c) : (dats m 0 c).arrAt 8 cfg0.N
    = val_main_v28 (F := Ideal) (m ((c : Thread nD τ).loc main_arg0)) (m ((c : Thread nD τ).loc main_arg1))
        (m ((c : Thread nD τ).loc main_arg2)) (m ((c : Thread nD τ).loc main_arg6)) := by
  refine (dats m 0 c).arrAt_eq_of_covers 8 _ (by decide +kernel) fun t hfl y => ?_
  blk_simp
  obtain ⟨r, k, rfl⟩ : ∃ (r : Fin 1) (k : Fin 1024), y = ix2 r k := ⟨y 0, y 1, eq_ix2 y⟩
  rw [after0_8, emb8, ref28, gain_last m c t ((flush0_8 t).mp hfl)]
  rfl

theorem finite (hpre : Cert.Pre_FfnDnIdeal_finite_dn m) : Fin' m c :=
  ⟨⟨fun i => Reals.finite_of_test _ _ i (by exact Ideal.ofBits_zero_bf16) (congrFun (hpre c).1 i),
    fun i => Reals.finite_of_test _ _ i (by exact Ideal.ofBits_zero_bf16) (congrFun (hpre c).2.1 i)⟩,
    fun i => Reals.finite_of_test _ _ i (by exact Ideal.ofBits_zero_bf16) (congrFun (hpre c).2.2.1 i),
    fun i => Reals.finite_of_test _ _ i (by exact Ideal.ofBits_zero_f32) (congrFun (hpre c).2.2.2.1 i),
    fun i => Reals.finite_of_test _ _ i (by exact Ideal.ofBits_zero_f32) (congrFun (hpre c).2.2.2.2 i)⟩

theorem ref_frame : Cert.quiescent_FfnDnRefIdeal := fun m ρ _ =>
  (θ_run Cert.FfnDnRefIdeal.defs _ _).mono (fun r h => ⟨fun c => (h c).2.2,
      Idealize.ShloMosaic.sem_eq_zero_of_no_sems (by decide) r.2⟩)
    (Cert.FfnDnRefIdeal.Value.run (F := Ideal) m ρ)

theorem algebraic : Cert.algebraic_FfnDnIdeal_FfnDnRefIdeal_pre_finite_dn := by
  intro m ρ m' ρ' hpre hagree
  refine ⟨fun c => (dats m 0 c).arrAt 7 cfg0.N, fun c => (dats m 0 c).arrAt 8 cfg0.N, Value.run_blocks (F := Ideal) m ρ, ?_⟩
  refine (θ_run Cert.FfnDnRefIdeal.defs _ _).mono (fun r h c => ?_) (Cert.FfnDnRefIdeal.Value.run (F := Ideal) m' ρ')
  obtain ⟨h0, h1, h⟩ := h c
  obtain ⟨a0, a1, a2, a3, a4, a5, a6⟩ := hagree c
  rw [val_main_v45_eq, a0, a1, a2, a3, a5, a6] at h0
  rw [val_main_v28_eq, a0, a1, a2, a6] at h1
  exact ⟨h0.trans (final7 m c (finite m c hpre)).symm, h1.trans (final8 m c (finite m c hpre)).symm, h⟩

end Cert.Proof.FfnDn

end
-- ==== Proof.FfnDownValue.lean ====
/-
  The second half of a feed-forward layer: the residual sum and its scaled row norm.
-/
module

public import proofs.«01_k».proof.Defs
public import proofs.«01_k».proof.Proof.Gen.FfnDownIdeal.Value
public import proofs.«01_k».proof.Proof.Gen.FfnDownRefIdeal.Run
public import proofs.«01_k».proof.Proof.Gen.FfnDownRefIdeal.Read
public import Idealize.ShloMosaic.Lib.Pipeline.ValueKit
public import Idealize.ShloMosaic.Lib.Pipeline.ReadBack
public import Idealize.ShloMosaic.Lib.Pointwise

@[expose] public section

noncomputable section

namespace Cert.Proof.FfnDown

open Cert.FfnDownIdeal Cert.FfnDownIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])
theorem e3 : ∀ t : Fin cfg0.N, win0_3.index t = ![0, 0] :=
  (by decide +kernel : ∀ t : Fin grid0.N, win0_3.index t = ![0, 0])
theorem e4 : ∀ t : Fin cfg0.N, win0_4.index t = ![t.val, 0] :=
  (by decide +kernel : ∀ t : Fin grid0.N, win0_4.index t = ![t.val, 0])
theorem e5 : ∀ t : Fin cfg0.N, win0_5.index t = ![t.val, 0] :=
  (by decide +kernel : ∀ t : Fin grid0.N, win0_5.index t = ![t.val, 0])

/-- The array row of row `r` of point `t`'s tile. -/
def row (t : Fin cfg0.N) (r : Fin 1024) : Fin 8192 := ⟨t.val * 1024 + r.val, by
  have := t.isLt; have h : cfg0.N = 8 := N_0; omega⟩

variable (c : Dev nD) (t : Fin cfg0.N)

/-- The four arguments' arrays. -/
def A0 : S8192x2816.Idx → EReal := m ((c : Thread nD τ).loc main_arg0)
def A1 : S2816x1024.Idx → EReal := m ((c : Thread nD τ).loc main_arg1)
def A2 : S8192x1024.Idx → EReal := m ((c : Thread nD τ).loc main_arg2)
def A3 : S1x1024.Idx → EReal := m ((c : Thread nD τ).loc main_arg3)

theorem blk0 (r : Fin 1024) (k : Fin 2816) : iblk m c 0 t (ix2 r k) = A0 m c (ix2 (row t r) k) := by
  blk_ext [iblk, V, A0, e0, row]
theorem blk1 (r : Fin 2816) (k : Fin 1024) : iblk m c 1 t (ix2 r k) = A1 m c (ix2 r k) := by
  blk_ext [iblk, V, A1, e1]
theorem blk2 (r : Fin 1024) (k : Fin 1024) : iblk m c 2 t (ix2 r k) = A2 m c (ix2 (row t r) k) := by
  blk_ext [iblk, V, A2, e2, row]
theorem blk3 (r : Fin 1) (k : Fin 1024) : iblk m c 3 t (ix2 r k) = A3 m c (ix2 r k) := by
  blk_ext [iblk, V, A3, e3]
theorem emb4 (r : Fin 1024) (k : Fin 1024) : (win0_4.blk t).view.emb (ix2 r k) = ix2 (row t r) k := by
  blk_ext [e4, row]
theorem emb5 (r : Fin 1024) (k : Fin 1024) : (win0_5.blk t).view.emb (ix2 r k) = ix2 (row t r) k := by
  blk_ext [e5, row]

open Cert.FfnDownRefIdeal.Read

/-- The residual sum. -/
def sum (x0 : (⟨2, ![8192, 2816]⟩ : Shape).Idx → EReal) (x1 : (⟨2, ![2816, 1024]⟩ : Shape).Idx → EReal)
    (x2 : (⟨2, ![8192, 1024]⟩ : Shape).Idx → EReal) (i : Fin 8192) (k : Fin 1024) : EReal :=
  x2 (ix2 i k) + Ideal.ofBits .f32 0x3F000000#32 * ∑ l : Fin 2816, x0 (ix2 i l) * x1 (ix2 l k)

variable (x0 : (⟨2, ![8192, 2816]⟩ : Shape).Idx → EReal) (x1 : (⟨2, ![2816, 1024]⟩ : Shape).Idx → EReal)
    (x2 : (⟨2, ![8192, 1024]⟩ : Shape).Idx → EReal) (x3 : (⟨2, ![1, 1024]⟩ : Shape).Idx → EReal)

theorem ref5 (i : Fin 8192) (k : Fin 1024) : val_main_v5 (F := Ideal) x0 x1 x2 (ix2 i k) = sum x0 x1 x2 i k := by
  unfold val_main_v5 val_main_v4 val_main_v3 val_main_v2 val_main_v1 val_main_v0 val_main_cst sum
  pointwise

theorem pay1 (r : Fin 1024) (k : Fin 1024) :
    k0_pay1 (F := Ideal) (iblk m c 0 t) (iblk m c 1 t) (iblk m c 2 t) (ix2 r k)
      = sum (A0 m c) (A1 m c) (A2 m c) (row t r) k := by
  unfold k0_pay1 sum
  pointwise [blk0, blk1, blk2]

theorem final4 : (dats m 0 c).arrAt 4 cfg0.N
    = val_main_v5 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  obtain ⟨r, k, rfl⟩ : ∃ (r : Fin 1024) (k : Fin 1024), y = ix2 r k := ⟨y 0, y 1, eq_ix2 y⟩
  rw [after0_4, emb4, ref5]
  frame_out
  exact pay1 m c t r k

theorem final5 : (dats m 0 c).arrAt 5 cfg0.N
    = val_main_v18 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  obtain ⟨r, k, rfl⟩ : ∃ (r : Fin 1024) (k : Fin 1024), y = ix2 r k := ⟨y 0, y 1, eq_ix2 y⟩
  rw [after0_5, emb5]
  frame_out
  unfold k0_pay2 val_main_v18 val_main_v17 val_main_v16 val_main_v15 val_main_v14 val_main_v13 val_main_v12 val_main_v11 val_main_v10
    val_main_v9 val_main_v8 val_main_v7 val_main_v6 val_main_cst_0 val_main_cst_1 val_main_cst_2
  pointwise [pay1, blk3, ref5]
  rfl

theorem ref_frame : Cert.quiescent_FfnDownRefIdeal := fun m ρ _ =>
  (θ_run Cert.FfnDownRefIdeal.defs _ _).mono (fun r h => ⟨fun c => (h c).2.2,
      Idealize.ShloMosaic.sem_eq_zero_of_no_sems (by decide) r.2⟩)
    (Cert.FfnDownRefIdeal.Value.run (F := Ideal) m ρ)

theorem algebraic : Cert.algebraic_FfnDownIdeal_FfnDownRefIdeal := by
  intro m ρ m' ρ' _ hagree
  refine ⟨fun c => (dats m 0 c).arrAt 4 cfg0.N, fun c => (dats m 0 c).arrAt 5 cfg0.N, Value.run_blocks (F := Ideal) m ρ, ?_⟩
  refine (θ_run Cert.FfnDownRefIdeal.defs _ _).mono (fun r h c => ?_) (Cert.FfnDownRefIdeal.Value.run (F := Ideal) m' ρ')
  obtain ⟨h0, h1, h⟩ := h c
  obtain ⟨a0, a1, a2, a3⟩ := hagree c
  rw [val_main_v5_eq, a0, a1, a2] at h0
  rw [val_main_v18_eq, a0, a1, a2, a3] at h1
  exact ⟨h0.trans (final4 m c).symm, h1.trans (final5 m c).symm, h⟩

end Cert.Proof.FfnDown

end
-- ==== Proof.FfnLossValue.lean ====
/-
  The last feed-forward layer's output with the loss head: the residual sum, its row norm, the loss, and the loss's gradient in
  the residual sum and in the norm's gain.
-/
module

public import proofs.«01_k».proof.Defs
public import proofs.«01_k».proof.Proof.Reals
public import proofs.«01_k».proof.Proof.Gen.Pre_finite_loss
public import proofs.«01_k».proof.Proof.Gen.FfnLossIdeal.Value
public import proofs.«01_k».proof.Proof.Gen.FfnLossRefIdeal.Run
public import proofs.«01_k».proof.Proof.Gen.FfnLossRefIdeal.Read
public import Idealize.ShloMosaic.Lib.Pipeline.ValueKit
public import Idealize.ShloMosaic.Lib.Pipeline.ReadBack
public import Idealize.ShloMosaic.Lib.Pointwise

@[expose] public section

noncomputable section

namespace Cert.Proof.FfnLoss

open Cert.FfnLossIdeal Cert.FfnLossIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])
theorem e3 : ∀ t : Fin cfg0.N, win0_3.index t = ![0, 0] :=
  (by decide +kernel : ∀ t : Fin grid0.N, win0_3.index t = ![0, 0])
theorem e4 : ∀ t : Fin cfg0.N, win0_4.index t = ![t.val, 0] :=
  (by decide +kernel : ∀ t : Fin grid0.N, win0_4.index t = ![t.val, 0])
theorem e5 : ∀ t : Fin cfg0.N, win0_5.index t = ![t.val, 0] :=
  (by decide +kernel : ∀ t : Fin grid0.N, win0_5.index t = ![t.val, 0])
theorem e6 : ∀ t : Fin cfg0.N, win0_6.index t = ![0, 0] :=
  (by decide +kernel : ∀ t : Fin grid0.N, win0_6.index t = ![0, 0])
theorem e7 : ∀ t : Fin cfg0.N, win0_7.index t = ![0, 0] :=
  (by decide +kernel : ∀ t : Fin grid0.N, win0_7.index t = ![0, 0])

/-- The array row of row `r` of point `t`'s tile. -/
def row (t : Fin cfg0.N) (r : Fin 1024) : Fin 8192 := ⟨t.val * 1024 + r.val, by
  have := t.isLt; have h : cfg0.N = 8 := N_0; omega⟩

variable (c : Dev nD) (t : Fin cfg0.N)

/-- The arguments' arrays. -/
def A0 : S8192x2816.Idx → EReal := m ((c : Thread nD τ).loc main_arg0)
def A1 : S2816x1024.Idx → EReal := m ((c : Thread nD τ).loc main_arg1)
def A2 : S8192x1024.Idx → EReal := m ((c : Thread nD τ).loc main_arg2)
def A3 : S1x1024.Idx → EReal := m ((c : Thread nD τ).loc main_arg3)
def A4 : S8192x1024.Idx → EReal := m ((c : Thread nD τ).loc main_arg4)

theorem blk0 (r : Fin 1024) (k : Fin 2816) : iblk m c 0 t (ix2 r k) = A0 m c (ix2 (row t r) k) := by
  blk_ext [iblk, V, A0, e0, row]
theorem blk1 (r : Fin 2816) (k : Fin 1024) : iblk m c 1 t (ix2 r k) = A1 m c (ix2 r k) := by
  blk_ext [iblk, V, A1, e1]
theorem blk2 (r : Fin 1024) (k : Fin 1024) : iblk m c 2 t (ix2 r k) = A2 m c (ix2 (row t r) k) := by
  blk_ext [iblk, V, A2, e2, row]
theorem blk3 (r : Fin 1) (k : Fin 1024) : iblk m c 3 t (ix2 r k) = A3 m c (ix2 r k) := by
  blk_ext [iblk, V, A3, e3]
theorem blk4 (r : Fin 1024) (k : Fin 1024) : iblk m c 4 t (ix2 r k) = A4 m c (ix2 (row t r) k) := by
  blk_ext [iblk, V, A4, e4, row]
theorem emb5 (r : Fin 1024) (k : Fin 1024) : (win0_5.blk t).view.emb (ix2 r k) = ix2 (row t r) k := by
  blk_ext [e5, row]
theorem emb6 (r : Fin 1) (k : Fin 1024) : (win0_6.blk t).view.emb (ix2 r k) = ix2 r k := by
  blk_ext [e6]
theorem emb7 (r : Fin 1) (k : Fin 128) : (win0_7.blk t).view.emb (ix2 r k) = ix2 r k := by
  blk_ext [e7]

/-! ## The quantities of a row -/

section
variable (x0 : (⟨2, ![8192, 2816]⟩ : Shape).Idx → EReal) (x1 : (⟨2, ![2816, 1024]⟩ : Shape).Idx → EReal)
  (x2 : (⟨2, ![8192, 1024]⟩ : Shape).Idx → EReal) (x3 : (⟨2, ![1, 1024]⟩ : Shape).Idx → EReal)
  (x4 : (⟨2, ![8192, 1024]⟩ : Shape).Idx → EReal)

/-- The residual sum. -/
def sum (i : Fin 8192) (k : Fin 1024) : EReal :=
  x2 (ix2 i k) + Ideal.ofBits .f32 0x3F000000#32 * ∑ l : Fin 2816, x0 (ix2 i l) * x1 (ix2 l k)

/-- A row's mean square with the norm's constant added. -/
def ms (i : Fin 8192) : EReal :=
  Ideal.div (∑ k : Fin 1024, sum x0 x1 x2 i k * sum x0 x1 x2 i k) (Ideal.ofBits .f32 0x44800000#32) + Ideal.ofBits .f32 0x358637BD#32

/-- The normed row without its gain. -/
def nrm (i : Fin 8192) (k : Fin 1024) : EReal := sum x0 x1 x2 i k * Ideal.rsqrt (ms x0 x1 x2 i)

/-- The output's difference from the target. -/
def err (i : Fin 8192) (k : Fin 1024) : EReal := nrm x0 x1 x2 i k * x3 (ix2 0 k) - x4 (ix2 i k)

/-- The loss's gradient in the output. -/
def dout (i : Fin 8192) (k : Fin 1024) : EReal := err x0 x1 x2 x3 x4 i k * Ideal.ofBits .f32 0x3A800000#32

/-- A row's term of the gain's gradient. -/
def gterm (k : Fin 1024) (i : Fin 8192) : EReal := dout x0 x1 x2 x3 x4 i k * nrm x0 x1 x2 i k

/-- A row's sum of squared differences. -/
def sq (i : Fin 8192) : EReal := ∑ k : Fin 1024, err x0 x1 x2 x3 x4 i k * err x0 x1 x2 x3 x4 i k

theorem ofBits_2048 : Ideal.ofBits .f32 0x3A000000#32 = (((1 / 2048 : ℝ) : ℝ) : EReal) := by
  simp [Ideal.ofBits, Ideal.ieee, -EReal.coe_mul]; norm_num

theorem ofBits_inv : Ideal.ofBits .f32 0x3A800000#32 = (((1 / 1024 : ℝ) : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-! ## The reference -/

open Cert.FfnLossRefIdeal.Read

theorem ref5 (i : Fin 8192) (k : Fin 1024) : val_main_v5 (F := Ideal) x0 x1 x2 (ix2 i k) = sum x0 x1 x2 i k := by
  unfold val_main_v5 val_main_v4 val_main_v3 val_main_v2 val_main_v1 val_main_v0 val_main_cst sum
  pointwise

theorem ref12 (i : Fin 8192) (k : Fin 1) : val_main_v12 (F := Ideal) x0 x1 x2 (ix2 i k) = ms x0 x1 x2 i := by
  unfold val_main_v12 val_main_v11 val_main_v10 val_main_v9 val_main_v8 val_main_v7 val_main_v6 val_main_cst_0 val_main_cst_1
    val_main_cst_2 ms
  pointwise [ref5]

theorem ref18 (i : Fin 8192) (k : Fin 1024) : val_main_v18 (F := Ideal) x0 x1 x2 (ix2 i k) = nrm x0 x1 x2 i k := by
  unfold val_main_v18 val_main_v17 val_main_v13 nrm
  pointwise [ref5, ref12]

theorem ref21 (i : Fin 8192) (k : Fin 1024) : val_main_v21 (F := Ideal) x0 x1 x2 x3 x4 (ix2 i k) = err x0 x1 x2 x3 x4 i k := by
  unfold val_main_v21 val_main_v20 val_main_v19 err
  pointwise [ref18]

theorem ref35 (i : Fin 8192) (k : Fin 1024) : val_main_v35 (F := Ideal) x0 x1 x2 x3 x4 (ix2 i k) = dout x0 x1 x2 x3 x4 i k := by
  unfold val_main_v35 val_main_v34 val_main_v33 val_main_v32 val_main_v31 val_main_v30 val_main_v24 val_main_v23 val_main_cst_11
    val_main_cst_10 val_main_cst_9 val_main_cst_4 dout
  pointwise [ref21]
  rw [Reals.ofBits_half, Reals.ofBits_1024, Reals.coe_div _ _ (by norm_num), ofBits_two, ofBits_inv,
    ← mul_assoc, ← EReal.coe_mul, mul_comm]
  norm_num

theorem ref38 (r : Fin 1) (k : Fin 1024) : val_main_v38 (F := Ideal) x0 x1 x2 x3 x4 (ix2 r k)
    = ∑ i : Fin 8192, gterm x0 x1 x2 x3 x4 k i := by
  unfold val_main_v38 val_main_v37 val_main_cst_12 val_main_v36 gterm
  pointwise [ref18, ref35]
  exact Finset.sum_congr rfl fun i _ => mul_comm _ _

theorem ref55 (r : Fin 1) (k : Fin 128) : val_main_v55 (F := Ideal) x0 x1 x2 x3 x4 (ix2 r k)
    = ∑ i : Fin 8192, Ideal.ofBits .f32 0x3A000000#32 * sq x0 x1 x2 x3 x4 i := by
  unfold val_main_v55 val_main_v29 val_main_cst_8 val_main_v28 val_main_cst_7 val_main_v27 val_main_v26 val_main_cst_6 val_main_v25
    val_main_cst_5 val_main_v22
  pointwise [ref21]
  rw [Reals.ofBits_half, Reals.mul_sum_of_nonneg _ _ (by norm_num)]
  refine Finset.sum_congr rfl fun i _ => ?_
  rw [Reals.ofBits_1024, ofBits_2048]
  show _ * Ideal.div (sq x0 x1 x2 x3 x4 i) _ = _
  rw [Ideal.div, if_neg (EReal.coe_ne_zero.mpr (by norm_num)), ← EReal.coe_inv, mul_comm (sq x0 x1 x2 x3 x4 i), ← mul_assoc,
    ← EReal.coe_mul]
  norm_num

/-- The norm's factor of a row, as the reference writes it. -/
def bterm (d h : Fin 1024 → EReal) (s v : EReal) : EReal :=
  Ideal.div ((∑ k, h k * d k) * (Ideal.ofBits .f32 0xBF000000#32 * Ideal.div s v)) (Ideal.ofBits .f32 0x44800000#32)

/-- A row's factor. -/
def bt (i : Fin 8192) : EReal :=
  bterm (fun k => dout x0 x1 x2 x3 x4 i k * x3 (ix2 0 k)) (fun k => sum x0 x1 x2 i k) (Ideal.rsqrt (ms x0 x1 x2 i)) (ms x0 x1 x2 i)

theorem ref49 (i : Fin 8192) : val_main_v49 (F := Ideal) x0 x1 x2 x3 x4 (ix1 i) = bt x0 x1 x2 x3 x4 i := by
  unfold val_main_v49 val_main_cst_15 val_main_v48 val_main_v47 val_main_cst_14 val_main_v46 val_main_v43 val_main_v42 val_main_cst_13
    val_main_v41 val_main_v40 val_main_v39 val_main_v16 val_main_v15 val_main_cst_3 val_main_v14 val_main_v13 bt bterm
  pointwise [ref12, ref5, ref35]
  simp only [Finset.univ_unique, Finset.sum_singleton]

theorem ref54 (i : Fin 8192) (k : Fin 1024) : val_main_v54 (F := Ideal) x0 x1 x2 x3 x4 (ix2 i k)
    = dout x0 x1 x2 x3 x4 i k * x3 (ix2 0 k) * Ideal.rsqrt (ms x0 x1 x2 i)
      + sum x0 x1 x2 i k * bt x0 x1 x2 x3 x4 i + bt x0 x1 x2 x3 x4 i * sum x0 x1 x2 i k := by
  unfold val_main_v54 val_main_v53 val_main_v52 val_main_v51 val_main_v50 val_main_v45 val_main_v44 val_main_v40 val_main_v39
    val_main_v13
  pointwise [ref12, ref5, ref35, ref49]

end

/-! ## The kernel's tiles -/

theorem pay6 (r : Fin 1024) (k : Fin 1024) :
    k0_pay6 (F := Ideal) (iblk m c 0 t) (iblk m c 1 t) (iblk m c 2 t) (ix2 r k)
      = sum (A0 m c) (A1 m c) (A2 m c) (row t r) k := by
  unfold k0_pay6 sum
  pointwise [blk0, blk1, blk2]

theorem pay7 (r : Fin 1024) (k : Fin 1) : k0_pay7 (F := Ideal) (iblk m c 0 t) (iblk m c 1 t) (iblk m c 2 t) (ix2 r k)
    = Ideal.rsqrt (ms (A0 m c) (A1 m c) (A2 m c) (row t r)) := by
  unfold k0_pay7 ms
  pointwise [pay6]

theorem pay8 (r : Fin 1024) (k : Fin 1024) : k0_pay8 (F := Ideal) (iblk m c 0 t) (iblk m c 1 t) (iblk m c 2 t) (ix2 r k)
    = nrm (A0 m c) (A1 m c) (A2 m c) (row t r) k := by
  unfold k0_pay8 nrm
  pointwise [pay6, pay7]

theorem pay9 (r : Fin 1024) (k : Fin 1024) :
    k0_pay9 (F := Ideal) (iblk m c 0 t) (iblk m c 1 t) (iblk m c 2 t) (iblk m c 3 t) (iblk m c 4 t) (ix2 r k)
      = err (A0 m c) (A1 m c) (A2 m c) (A3 m c) (A4 m c) (row t r) k := by
  unfold k0_pay9 err
  pointwise [pay8, blk3, blk4]

theorem pay10 (r : Fin 1024) (k : Fin 1024) :
    k0_pay10 (F := Ideal) (iblk m c 0 t) (iblk m c 1 t) (iblk m c 2 t) (iblk m c 3 t) (iblk m c 4 t) (ix2 r k)
      = dout (A0 m c) (A1 m c) (A2 m c) (A3 m c) (A4 m c) (row t r) k := by
  unfold k0_pay10 dout
  pointwise [pay9]

/-- The gain's terms of row block `s`. -/
def gblock (k : Fin 1024) (s : ℕ) : EReal :=
  if h : s < 8 then ∑ l : Fin 1024, gterm (A0 m c) (A1 m c) (A2 m c) (A3 m c) (A4 m c) k ⟨s * 1024 + l.val, by omega⟩ else 0

theorem pay2 (r : Fin 1) (k : Fin 1024) :
    k0_pay2 (F := Ideal) (k0_pay8 (iblk m c 0 t) (iblk m c 1 t) (iblk m c 2 t))
      (k0_pay10 (iblk m c 0 t) (iblk m c 1 t) (iblk m c 2 t) (iblk m c 3 t) (iblk m c 4 t)) (ix2 r k) = gblock m c k t.val := by
  have htl : t.val < cfg0.N := t.isLt
  have hN : cfg0.N = 8 := N_0
  rw [gblock, dif_pos (by omega)]
  unfold k0_pay2 gterm
  pointwise [pay8, pay10]
  rfl

/-- The loss's terms of row block `s`. -/
def lblock (s : ℕ) : EReal :=
  if h : s < 8 then ∑ l : Fin 1024, Ideal.ofBits .f32 0x3A000000#32 * sq (A0 m c) (A1 m c) (A2 m c) (A3 m c) (A4 m c) ⟨s * 1024 + l.val, by omega⟩
  else 0

theorem pay3 (r : Fin 1) (k : Fin 128) :
    k0_pay3 (F := Ideal) (k0_pay9 (iblk m c 0 t) (iblk m c 1 t) (iblk m c 2 t) (iblk m c 3 t) (iblk m c 4 t)) (ix2 r k)
      = lblock m c t.val := by
  have htl : t.val < cfg0.N := t.isLt
  have hN : cfg0.N = 8 := N_0
  rw [lblock, dif_pos (by omega), ofBits_2048, ← Reals.mul_sum_of_nonneg _ _ (by norm_num), ← ofBits_2048]
  unfold k0_pay3 sq
  pointwise [pay9]
  rfl

/-! ## The arrays after the run -/

theorem gain (r : Fin 1) (k : Fin 1024) (s : ℕ) (t : Fin cfg0.N) (ht : t.val = s) :
    (outsAt0 m c t.val t.isLt).2.1 (ix2 r k) = ∑ b ∈ Finset.range (s + 1), gblock m c k b := by
  have hN : cfg0.N = 8 := N_0
  have htl : t.val < cfg0.N := t.isLt
  induction s generalizing t with
  | zero =>
    have hb : gblock m c k 0 = k0_pay2 (F := Ideal) (k0_pay8 (iblk m c 0 t) (iblk m c 1 t) (iblk m c 2 t))
      (k0_pay10 (iblk m c 0 t) (iblk m c 1 t) (iblk m c 2 t) (iblk m c 3 t) (iblk m c 4 t)) (ix2 r k) := by
      rw [pay2 m c t r k, ht]
    rw [outsAt0_A m c t (by omega) (by omega), Finset.sum_range_one, hb]
    frame_out
  | succ s ih =>
    have hb : gblock m c k (s + 1) = k0_pay2 (F := Ideal) (k0_pay8 (iblk m c 0 t) (iblk m c 1 t) (iblk m c 2 t))
      (k0_pay10 (iblk m c 0 t) (iblk m c 1 t) (iblk m c 2 t) (iblk m c 3 t) (iblk m c 4 t)) (ix2 r k) := by
      rw [pay2 m c t r k, ht]
    have hp := ih ⟨t.val - 1, by omega⟩ (by simp only; omega) (by simp only; omega)
    simp only at hp
    rw [outsAt0_B m c t (by omega) (by omega), Finset.sum_range_succ _ (s + 1), hb, ← hp]
    frame_out
    unfold k0_pay4
    pointwise

theorem loss (r : Fin 1) (k : Fin 128) (s : ℕ) (t : Fin cfg0.N) (ht : t.val = s) :
    (outsAt0 m c t.val t.isLt).2.2 (ix2 r k) = ∑ b ∈ Finset.range (s + 1), lblock m c b := by
  have hN : cfg0.N = 8 := N_0
  have htl : t.val < cfg0.N := t.isLt
  induction s generalizing t with
  | zero =>
    have hb : lblock m c 0 = k0_pay3 (F := Ideal) (k0_pay9 (iblk m c 0 t) (iblk m c 1 t) (iblk m c 2 t) (iblk m c 3 t) (iblk m c 4 t)) (ix2 r k) := by
      rw [pay3 m c t r k, ht]
    rw [outsAt0_A m c t (by omega) (by omega), Finset.sum_range_one, hb]
    frame_out
  | succ s ih =>
    have hb : lblock m c (s + 1) = k0_pay3 (F := Ideal) (k0_pay9 (iblk m c 0 t) (iblk m c 1 t) (iblk m c 2 t) (iblk m c 3 t) (iblk m c 4 t)) (ix2 r k) := by
      rw [pay3 m c t r k, ht]
    have hp := ih ⟨t.val - 1, by omega⟩ (by simp only; omega) (by simp only; omega)
    simp only at hp
    rw [outsAt0_B m c t (by omega) (by omega), Finset.sum_range_succ _ (s + 1), hb, ← hp]
    frame_out
    unfold k0_pay5
    pointwise

/-- The arrays have no infinite element. -/
def Fin' : Prop := (∀ i, ∃ r : ℝ, A0 m c i = r) ∧ (∀ i, ∃ r : ℝ, A1 m c i = r) ∧ (∀ i, ∃ r : ℝ, A2 m c i = r)
  ∧ (∀ i, ∃ r : ℝ, A3 m c i = r) ∧ ∀ i, ∃ r : ℝ, A4 m c i = r

theorem sum_real (hf : Fin' m c) (i : Fin 8192) (k : Fin 1024) : ∃ r : ℝ, sum (A0 m c) (A1 m c) (A2 m c) i k = r := by
  obtain ⟨f, hf0⟩ := Reals.exists_real hf.1
  obtain ⟨g, hg⟩ := Reals.exists_real hf.2.1
  obtain ⟨h, hh⟩ := Reals.exists_real hf.2.2.1
  refine ⟨h (ix2 i k) + 1 / 2 * ∑ l : Fin 2816, f (ix2 i l) * g (ix2 l k), ?_⟩
  rw [sum, Reals.ofBits_half]
  simp only [hf0, hg, hh, ← EReal.coe_mul, Reals.coe_sum, ← EReal.coe_add]

theorem dout_real (hf : Fin' m c) (i : Fin 8192) (k : Fin 1024) :
    ∃ r : ℝ, dout (A0 m c) (A1 m c) (A2 m c) (A3 m c) (A4 m c) i k * A3 m c (ix2 0 k) = r := by
  obtain ⟨f, hs⟩ := Reals.exists_real fun k => sum_real m c hf i k
  obtain ⟨g, hg⟩ := hf.2.2.2.1 (ix2 0 k)
  obtain ⟨u, hu⟩ := hf.2.2.2.2 (ix2 i k)
  obtain ⟨e, he, hee⟩ := Reals.ofBits_eps
  have hq : 0 ≤ ∑ i, f i * f i := Finset.sum_nonneg fun i _ => mul_self_nonneg _
  have hw : 0 < (∑ i, f i * f i) / 1024 + e := by positivity
  have hm : ms (A0 m c) (A1 m c) (A2 m c) i = (((∑ i, f i * f i) / 1024 + e : ℝ) : EReal) := by
    rw [ms, hee, Reals.ofBits_1024]
    simp only [hs, ← EReal.coe_mul, Reals.coe_sum]
    rw [Reals.coe_div _ _ (by norm_num), ← EReal.coe_add]
  refine ⟨(f k * (√((∑ i, f i * f i) / 1024 + e))⁻¹ * g - u) * (1 / 1024) * g, ?_⟩
  rw [dout, err, nrm, hm, Reals.coe_rsqrt _ hw, hs, hg, hu, ofBits_inv]
  simp only [← EReal.coe_mul, ← EReal.coe_sub]

open Cert.FfnLossRefIdeal.Read

theorem pay1 (hf : Fin' m c) (r k : Fin 1024) :
    k0_pay1 (F := Ideal) (k0_pay7 (iblk m c 0 t) (iblk m c 1 t) (iblk m c 2 t))
      (k0_pay11 (iblk m c 0 t) (iblk m c 1 t) (iblk m c 2 t) (iblk m c 3 t) (iblk m c 4 t) (iblk m c 3 t)) (ix2 r k)
      = val_main_v54 (F := Ideal) (A0 m c) (A1 m c) (A2 m c) (A3 m c) (A4 m c) (ix2 (row t r) k) := by
  rw [ref54]
  unfold k0_pay1 k0_pay11
  pointwise [pay7, pay8, pay10, blk3]
  obtain ⟨e, he, hee⟩ := Reals.ofBits_eps
  have key := Reals.rmsnorm_grad (fun k => sum (A0 m c) (A1 m c) (A2 m c) (row t r) k)
    (fun k => dout (A0 m c) (A1 m c) (A2 m c) (A3 m c) (A4 m c) (row t r) k * A3 m c (ix2 0 k)) 1024 e (by norm_num) he
    (fun _ => sum_real m c hf _ _) (fun _ => dout_real m c hf _ _) k (ms (A0 m c) (A1 m c) (A2 m c) (row t r)) _
    (by rw [ms, hee, Reals.ofBits_1024]) rfl
  unfold bt bterm
  rw [Reals.ofBits_1024, Reals.ofBits_neg_half]
  exact key

theorem final5 (hf : Fin' m c) : (dats m 0 c).arrAt 5 cfg0.N
    = val_main_v54 (F := Ideal) (A0 m c) (A1 m c) (A2 m c) (A3 m c) (A4 m c) := by
  refine (dats m 0 c).arrAt_eq_of_covers 5 _ (by decide +kernel) fun t hfl y => ?_
  blk_simp
  obtain ⟨r, k, rfl⟩ : ∃ (r : Fin 1024) (k : Fin 1024), y = ix2 r k := ⟨y 0, y 1, eq_ix2 y⟩
  have htl : t.val < cfg0.N := t.isLt
  have hN : cfg0.N = 8 := N_0
  rw [after0_5, emb5, ← pay1 m c t hf]
  by_cases h : t.val % 8 = 0
  · rw [outsAt0_A m c t h (by omega)]
    frame_out
  · rw [outsAt0_B m c t h (by omega)]
    frame_out

theorem final6 : (dats m 0 c).arrAt 6 cfg0.N
    = val_main_v38 (F := Ideal) (A0 m c) (A1 m c) (A2 m c) (A3 m c) (A4 m c) := by
  refine (dats m 0 c).arrAt_eq_of_covers 6 _ (by decide +kernel) fun t hfl y => ?_
  blk_simp
  obtain ⟨r, k, rfl⟩ : ∃ (r : Fin 1) (k : Fin 1024), y = ix2 r k := ⟨y 0, y 1, eq_ix2 y⟩
  have hN : cfg0.N = 8 := N_0
  have htl : t.val < cfg0.N := t.isLt
  have h7 := (flush0_6 t).mp hfl
  rw [after0_6, emb6, ref38, gain m c r k 7 t (by omega), Finset.sum_range]
  have hg : ∀ s : Fin 8, gblock m c k s.val
      = ∑ l : Fin 1024, gterm (A0 m c) (A1 m c) (A2 m c) (A3 m c) (A4 m c) k ⟨s.val * 1024 + l.val, by omega⟩ := fun s => by
    rw [gblock, dif_pos s.isLt]
  rw [Finset.sum_congr rfl fun s _ => hg s]
  exact Fin.sum_mul_add_congr fun s l hl => rfl

theorem final7 : (dats m 0 c).arrAt 7 cfg0.N
    = val_main_v55 (F := Ideal) (A0 m c) (A1 m c) (A2 m c) (A3 m c) (A4 m c) := by
  refine (dats m 0 c).arrAt_eq_of_covers 7 _ (by decide +kernel) fun t hfl y => ?_
  blk_simp
  obtain ⟨r, k, rfl⟩ : ∃ (r : Fin 1) (k : Fin 128), y = ix2 r k := ⟨y 0, y 1, eq_ix2 y⟩
  have hN : cfg0.N = 8 := N_0
  have htl : t.val < cfg0.N := t.isLt
  have h7 := (flush0_7 t).mp hfl
  rw [after0_7, emb7, ref55, loss m c r k 7 t (by omega), Finset.sum_range]
  have hg : ∀ s : Fin 8, lblock m c s.val = ∑ l : Fin 1024, Ideal.ofBits .f32 0x3A000000#32
      * sq (A0 m c) (A1 m c) (A2 m c) (A3 m c) (A4 m c) ⟨s.val * 1024 + l.val, by omega⟩ := fun s => by
    rw [lblock, dif_pos s.isLt]
  rw [Finset.sum_congr rfl fun s _ => hg s]
  exact Fin.sum_mul_add_congr fun s l hl => rfl

/-! ## The claims -/

theorem finite (hpre : Cert.Pre_FfnLossIdeal_finite_loss m) : Fin' m c :=
  ⟨fun i => Reals.finite_of_test _ _ i (by exact Ideal.ofBits_zero_bf16) (congrFun (hpre c).1 i),
    fun i => Reals.finite_of_test _ _ i (by exact Ideal.ofBits_zero_bf16) (congrFun (hpre c).2.1 i),
    fun i => Reals.finite_of_test _ _ i (by exact Ideal.ofBits_zero_f32) (congrFun (hpre c).2.2.1 i),
    fun i => Reals.finite_of_test _ _ i (by exact Ideal.ofBits_zero_f32) (congrFun (hpre c).2.2.2.1 i),
    fun i => Reals.finite_of_test _ _ i (by exact Ideal.ofBits_zero_f32) (congrFun (hpre c).2.2.2.2 i)⟩

theorem ref_frame : Cert.quiescent_FfnLossRefIdeal := fun m ρ _ =>
  (θ_run Cert.FfnLossRefIdeal.defs _ _).mono (fun r h => ⟨fun c => (h c).2.2.2,
      Idealize.ShloMosaic.sem_eq_zero_of_no_sems (by decide) r.2⟩)
    (Cert.FfnLossRefIdeal.Value.run (F := Ideal) m ρ)

theorem algebraic : Cert.algebraic_FfnLossIdeal_FfnLossRefIdeal_pre_finite_loss := by
  intro m ρ m' ρ' hpre hagree
  refine ⟨fun c => (dats m 0 c).arrAt 5 cfg0.N, fun c => (dats m 0 c).arrAt 6 cfg0.N, fun c => (dats m 0 c).arrAt 7 cfg0.N,
    Value.run_blocks (F := Ideal) m ρ, ?_⟩
  refine (θ_run Cert.FfnLossRefIdeal.defs _ _).mono (fun r h c => ?_) (Cert.FfnLossRefIdeal.Value.run (F := Ideal) m' ρ')
  obtain ⟨h0, h1, h2, h⟩ := h c
  obtain ⟨a0, a1, a2, a3, a4⟩ := hagree c
  rw [val_main_v54_eq, a0, a1, a2, a3, a4] at h0
  rw [val_main_v38_eq, a0, a1, a2, a3, a4] at h1
  rw [val_main_v55_eq, a0, a1, a2, a3, a4] at h2
  exact ⟨h0.trans (final5 m c (finite m c hpre)).symm, h1.trans (final6 m c).symm, h2.trans (final7 m c).symm, h⟩

end Cert.Proof.FfnLoss

end
-- ==== Proof.FfnUpValue.lean ====
/-
  The first half of a feed-forward layer: `silu(gate) * up` and the gradient's two factors.
-/
module

public import proofs.«01_k».proof.Defs
public import proofs.«01_k».proof.Proof.Reals
public import proofs.«01_k».proof.Proof.Gen.Pre_finite_up
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Pipeline.ValueKit
public import Idealize.ShloMosaic.Lib.Pipeline.ReadBack
public import Idealize.ShloMosaic.Lib.Pointwise

@[expose] public section

noncomputable section

namespace Cert.Proof.FfnUp

open Cert.FfnUpIdeal Cert.FfnUpIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![1, 0] :=
  (by decide +kernel : ∀ t : Fin grid0.N, win0_2.index t = ![1, 0])
theorem e3 : ∀ t : Fin cfg0.N, win0_3.index t = ![t.val, 0] :=
  (by decide +kernel : ∀ t : Fin grid0.N, win0_3.index t = ![t.val, 0])
theorem e4 : ∀ t : Fin cfg0.N, win0_4.index t = ![t.val, 0] :=
  (by decide +kernel : ∀ t : Fin grid0.N, win0_4.index t = ![t.val, 0])
theorem e5 : ∀ t : Fin cfg0.N, win0_5.index t = ![t.val, 0] :=
  (by decide +kernel : ∀ t : Fin grid0.N, win0_5.index t = ![t.val, 0])

/-- The array row of row `r` of point `t`'s tile. -/
def row (t : Fin cfg0.N) (r : Fin 512) : Fin 8192 := ⟨t.val * 512 + r.val, by
  have := t.isLt; have h : cfg0.N = 16 := N_0; omega⟩
/-- A row of the matrix's first half. -/
def lo (k : Fin 2816) : Fin 5632 := ⟨k.val, by omega⟩
/-- A row of the matrix's second half. -/
def hi (k : Fin 2816) : Fin 5632 := ⟨2816 + k.val, by omega⟩

variable (c : Dev nD) (t : Fin cfg0.N)

/-- The two arguments' arrays. -/
def A0 : S8192x1024.Idx → EReal := m ((c : Thread nD τ).loc main_arg0)
def A1 : S5632x1024.Idx → EReal := m ((c : Thread nD τ).loc main_arg1)

theorem blk0 (r : Fin 512) (k : Fin 1024) : iblk m c 0 t (ix2 r k) = A0 m c (ix2 (row t r) k) := by
  blk_ext [iblk, V, A0, e0, row]
theorem blk1 (r : Fin 2816) (k : Fin 1024) : iblk m c 1 t (ix2 r k) = A1 m c (ix2 (lo r) k) := by
  blk_ext [iblk, V, A1, e1, lo]
theorem blk2 (r : Fin 2816) (k : Fin 1024) : iblk m c 2 t (ix2 r k) = A1 m c (ix2 (hi r) k) := by
  blk_ext [iblk, V, A1, e2, hi]
theorem emb3 (r : Fin 512) (k : Fin 2816) : (win0_3.blk t).view.emb (ix2 r k) = ix2 (row t r) k := by
  blk_ext [e3, row]
theorem emb4 (r : Fin 512) (k : Fin 2816) : (win0_4.blk t).view.emb (ix2 r k) = ix2 (row t r) k := by
  blk_ext [e4, row]
theorem emb5 (r : Fin 512) (k : Fin 2816) : (win0_5.blk t).view.emb (ix2 r k) = ix2 (row t r) k := by
  blk_ext [e5, row]

open Cert.FfnUpRefIdeal.Read

variable (x0 : (⟨2, ![8192, 1024]⟩ : Shape).Idx → EReal) (x1 : (⟨2, ![5632, 1024]⟩ : Shape).Idx → EReal)

/-- An element of the gate/up product. -/
def dot (i : Fin 8192) (j : Fin 5632) : EReal := ∑ l : Fin 1024, x0 (ix2 i l) * x1 (ix2 j l)

theorem dot_real (h0 : ∀ i, ∃ r : ℝ, x0 i = r) (h1 : ∀ i, ∃ r : ℝ, x1 i = r) (i : Fin 8192) (j : Fin 5632) :
    ∃ r : ℝ, dot x0 x1 i j = r := by
  obtain ⟨f, hf⟩ := Reals.exists_real h0
  obtain ⟨g, hg⟩ := Reals.exists_real h1
  refine ⟨∑ l : Fin 1024, f (ix2 i l) * g (ix2 j l), ?_⟩
  rw [dot, ← Reals.coe_sum]
  exact Finset.sum_congr rfl fun l _ => by rw [hf, hg, EReal.coe_mul]

/-- The logistic function at an extended real. -/
def lg (x : EReal) : EReal := Ideal.div 1 (1 + Ideal.exp (-x))

theorem lg_real {x : EReal} (h : ∃ r : ℝ, x = r) : ∃ r : ℝ, lg x = r := by
  obtain ⟨r, rfl⟩ := h
  exact ⟨_, Reals.div_exp r⟩

theorem ref4 (i : Fin 8192) (k : Fin 2816) : val_main_v4 (F := Ideal) x0 x1 (ix2 i k) = dot x0 x1 i (lo k) := by
  unfold val_main_v4 val_main_v3 val_main_v2 val_main_v1 val_main_v0 dot lo
  pointwise
theorem ref5 (i : Fin 8192) (k : Fin 2816) : val_main_v5 (F := Ideal) x0 x1 (ix2 i k) = dot x0 x1 i (hi k) := by
  unfold val_main_v5 val_main_v3 val_main_v2 val_main_v1 val_main_v0 dot hi
  pointwise
theorem ref6 (i : Fin 8192) (k : Fin 2816) :
    val_main_v6_2 (F := Ideal) x0 x1 (ix2 i k) = lg (dot x0 x1 i (lo k)) := by
  unfold val_main_v6_2 val_main_call0_v4 val_main_call0_v3 val_main_call0_v2 val_main_call0_v1 val_main_call0_v0
    val_main_call0_cst val_main_call0_cst_0 lg
  pointwise [ref4, Ideal.ofBits_one_f32]

theorem ref12 (i : Fin 8192) (k : Fin 2816) : val_main_v12 (F := Ideal) x0 x1 (ix2 i k)
    = dot x0 x1 i (hi k) * lg (dot x0 x1 i (lo k))
      + dot x0 x1 i (lo k) * dot x0 x1 i (hi k) * (lg (dot x0 x1 i (lo k)) * (1 - lg (dot x0 x1 i (lo k)))) := by
  unfold val_main_v12 val_main_v11 val_main_call1_v2 val_main_call1_v1 val_main_call1_v0 val_main_v10 val_main_v8 val_main_cst
    val_main_v6_1 val_main_call0_v7 val_main_call0_v6 val_main_call0_cst_1
  pointwise [ref4, ref5, ref6, Ideal.ofBits_one_f32, one_mul]

theorem pay1 (r : Fin 512) (k : Fin 2816) : k0_pay1 (F := Ideal) (iblk m c 0 t) (iblk m c 1 t) (ix2 r k)
    = dot (A0 m c) (A1 m c) (row t r) (lo k) := by
  unfold k0_pay1 dot
  pointwise [blk0, blk1]
theorem pay2 (r : Fin 512) (k : Fin 2816) : k0_pay2 (F := Ideal) (iblk m c 0 t) (iblk m c 2 t) (ix2 r k)
    = dot (A0 m c) (A1 m c) (row t r) (hi k) := by
  unfold k0_pay2 dot
  pointwise [blk0, blk2]
theorem pay3 (r : Fin 512) (k : Fin 2816) : k0_pay3 (F := Ideal) (iblk m c 0 t) (iblk m c 1 t) (ix2 r k)
    = lg (dot (A0 m c) (A1 m c) (row t r) (lo k)) := by
  unfold k0_pay3 lg
  pointwise [pay1, Ideal.ofBits_one_f32, zero_sub]

/-- No element of the arguments is infinite. -/
def Fin' : Prop := (∀ i, ∃ r : ℝ, A0 m c i = r) ∧ ∀ i, ∃ r : ℝ, A1 m c i = r

theorem final3 (hf : Fin' m c) : (dats m 0 c).arrAt 3 cfg0.N
    = val_main_v12 (F := Ideal) (m ((c : Thread nD τ).loc main_arg0)) (m ((c : Thread nD τ).loc main_arg1)) := by
  refine (dats m 0 c).arrAt_eq_of_covers 3 _ (by decide +kernel) fun t _ y => ?_
  blk_simp
  obtain ⟨r, k, rfl⟩ : ∃ (r : Fin 512) (k : Fin 2816), y = ix2 r k := ⟨y 0, y 1, eq_ix2 y⟩
  rw [after0_3, emb3, ref12]
  frame_out
  unfold k0_pay5
  pointwise [pay1, pay2, pay3, Ideal.ofBits_one_f32]
  have hd := fun j => dot_real (A0 m c) (A1 m c) hf.1 hf.2 (row t r) j
  exact Reals.silu_grad _ _ _ (hd _) (hd _) (lg_real (hd _))

theorem final4 (_ : Fin' m c) : (dats m 0 c).arrAt 4 cfg0.N
    = val_main_v13 (F := Ideal) (m ((c : Thread nD τ).loc main_arg0)) (m ((c : Thread nD τ).loc main_arg1)) := by
  refine (dats m 0 c).arrAt_eq_of_covers 4 _ (by decide +kernel) fun t _ y => ?_
  blk_simp
  obtain ⟨r, k, rfl⟩ : ∃ (r : Fin 512) (k : Fin 2816), y = ix2 r k := ⟨y 0, y 1, eq_ix2 y⟩
  rw [after0_4, emb4]
  frame_out
  unfold k0_pay6 k0_pay4 val_main_v13 val_main_v9 val_main_v8 val_main_cst val_main_v6_0
  pointwise [pay1, pay3, ref4, ref6, Ideal.ofBits_one_f32, mul_one]
  rfl

theorem final5 (_ : Fin' m c) : (dats m 0 c).arrAt 5 cfg0.N
    = val_main_v14 (F := Ideal) (m ((c : Thread nD τ).loc main_arg0)) (m ((c : Thread nD τ).loc main_arg1)) := by
  refine (dats m 0 c).arrAt_eq_of_covers 5 _ (by decide +kernel) fun t _ y => ?_
  blk_simp
  obtain ⟨r, k, rfl⟩ : ∃ (r : Fin 512) (k : Fin 2816), y = ix2 r k := ⟨y 0, y 1, eq_ix2 y⟩
  rw [after0_5, emb5]
  frame_out
  unfold k0_pay7 k0_pay4 val_main_v14 val_main_v7 val_main_v6_0
  pointwise [pay1, pay2, pay3, ref4, ref5, ref6]
  rfl

theorem finite (hpre : Cert.Pre_FfnUpIdeal_finite_up m) : Fin' m c :=
  ⟨fun i => Reals.finite_of_test _ _ i (by exact Ideal.ofBits_zero_bf16) (congrFun (hpre c).1 i),
    fun i => Reals.finite_of_test _ _ i (by exact Ideal.ofBits_zero_bf16) (congrFun (hpre c).2 i)⟩

theorem ref_frame : Cert.quiescent_FfnUpRefIdeal := fun m ρ _ =>
  (θ_run Cert.FfnUpRefIdeal.defs _ _).mono (fun r h => ⟨fun c => (h c).2.2.2,
      Idealize.ShloMosaic.sem_eq_zero_of_no_sems (by decide) r.2⟩)
    (Cert.FfnUpRefIdeal.Value.run (F := Ideal) m ρ)

theorem algebraic : Cert.algebraic_FfnUpIdeal_FfnUpRefIdeal_pre_finite_up := by
  intro m ρ m' ρ' hpre hagree
  refine ⟨fun c => (dats m 0 c).arrAt 3 cfg0.N, fun c => (dats m 0 c).arrAt 4 cfg0.N, fun c => (dats m 0 c).arrAt 5 cfg0.N, Value.run_blocks (F := Ideal) m ρ, ?_⟩
  refine (θ_run Cert.FfnUpRefIdeal.defs _ _).mono (fun r h c => ?_) (Cert.FfnUpRefIdeal.Value.run (F := Ideal) m' ρ')
  obtain ⟨h0, h1, h2, h⟩ := h c
  obtain ⟨a0, a1⟩ := hagree c
  rw [val_main_v12_eq, a0, a1] at h0
  rw [val_main_v13_eq, a0, a1] at h1
  rw [val_main_v14_eq, a0, a1] at h2
  exact ⟨h0.trans (final3 m c (finite m c hpre)).symm, h1.trans (final4 m c (finite m c hpre)).symm, h2.trans (final5 m c (finite m c hpre)).symm, h⟩

end Cert.Proof.FfnUp

end
-- ==== Proof.GateNormRef.lean ====
/-
  The gradient of the gated group norm as its reference computes it, a row of a group at a time.
-/
module

public import proofs.«01_k».proof.Defs
public import proofs.«01_k».proof.Proof.Reals
public import proofs.«01_k».proof.Proof.Gen.GateNormRefIdeal.Read
public import Idealize.ShloMosaic.Lib.Pointwise

@[expose] public section

noncomputable section

namespace Cert.Proof.GateNorm

open Idealize.ShloMosaic Cert.GateNormRefIdeal.Read

/-- The logistic function at an extended real. -/
def lg (x : EReal) : EReal := Ideal.div 1 (1 + Ideal.exp (-x))

theorem lg_real {x : EReal} (h : ∃ r : ℝ, x = r) : ∃ r : ℝ, lg x = r := by
  obtain ⟨r, rfl⟩ := h
  exact ⟨_, Reals.div_exp r⟩

theorem ofBits_512 : Ideal.ofBits .f32 0x44000000#32 = ((512 : ℝ) : EReal) := by
  simp [Ideal.ofBits, Ideal.ieee, -EReal.coe_mul]; norm_num

/-- The column of entry `l` of group `h`. -/
def hcol (h : Fin 4) (l : Fin 512) : Fin 2048 := ⟨h.val * 512 + l.val, by omega⟩

theorem cols (k : Fin 2048) : ∃ (h : Fin 4) (l : Fin 512), k = hcol h l :=
  ⟨⟨k.val / 512, by omega⟩, ⟨k.val % 512, by omega⟩, Fin.ext (by simp only [hcol]; omega)⟩

/-- A gate's column among the projection's columns. -/
def zcol (k : Fin 2048) : Fin 10240 := ⟨6144 + k.val, by omega⟩

variable (x0 : (⟨2, ![8192, 1024]⟩ : Shape).Idx → EReal) (x1 : (⟨2, ![2048, 1024]⟩ : Shape).Idx → EReal)
  (x2 : (⟨2, ![8192, 2048]⟩ : Shape).Idx → EReal) (x3 : (⟨2, ![8192, 10240]⟩ : Shape).Idx → EReal)
  (x4 : (⟨2, ![1, 2048]⟩ : Shape).Idx → EReal)

/-- The gate. -/
def gz (i : Fin 8192) (k : Fin 2048) : EReal := x3 (ix2 i (zcol k))

/-- The gated value. -/
def yg (i : Fin 8192) (k : Fin 2048) : EReal := x2 (ix2 i k) * (gz x3 i k * lg (gz x3 i k))

/-- The mean square of a group's row with the norm's constant added. -/
def ms (h : Fin 4) (i : Fin 8192) : EReal :=
  Ideal.div (∑ l : Fin 512, yg x2 x3 i (hcol h l) * yg x2 x3 i (hcol h l)) (Ideal.ofBits .f32 0x44000000#32)
    + Ideal.ofBits .f32 0x358637BD#32

/-- The normed value without its gain. -/
def nrm (h : Fin 4) (i : Fin 8192) (l : Fin 512) : EReal := yg x2 x3 i (hcol h l) * Ideal.rsqrt (ms x2 x3 h i)

/-- The gradient of the norm's output. -/
def dn (i : Fin 8192) (k : Fin 2048) : EReal := ∑ x : Fin 1024, x0 (ix2 i x) * x1 (ix2 k x)

/-- The gradient of the normed value. -/
def gy (i : Fin 8192) (k : Fin 2048) : EReal := dn x0 x1 i k * x4 (ix2 0 k)

/-- The norm's factor of a group's row, as the reference writes it. -/
def bterm (d h : Fin 512 → EReal) (s v : EReal) : EReal :=
  Ideal.div ((∑ k, h k * d k) * (Ideal.ofBits .f32 0xBF000000#32 * Ideal.div s v)) (Ideal.ofBits .f32 0x44000000#32)

/-- The factor of a group's row. -/
def bt (h : Fin 4) (i : Fin 8192) : EReal :=
  bterm (fun l => gy x0 x1 x4 i (hcol h l)) (fun l => yg x2 x3 i (hcol h l)) (Ideal.rsqrt (ms x2 x3 h i)) (ms x2 x3 h i)

/-- The gradient of the gated value, as the reference writes it. -/
def dyg (h : Fin 4) (i : Fin 8192) (l : Fin 512) : EReal :=
  gy x0 x1 x4 i (hcol h l) * Ideal.rsqrt (ms x2 x3 h i) + yg x2 x3 i (hcol h l) * bt x0 x1 x2 x3 x4 h i
    + bt x0 x1 x2 x3 x4 h i * yg x2 x3 i (hcol h l)

variable (i : Fin 8192) (k : Fin 2048) (h : Fin 4) (l : Fin 512)

theorem v4 : val_main_v4 (F := Ideal) x3 (ix2 i k) = gz x3 i k := by
  unfold val_main_v4 val_main_v3 gz zcol
  pointwise

theorem v52 : val_main_v5_2 (F := Ideal) x3 (ix2 i k) = lg (gz x3 i k) := by
  unfold val_main_v5_2 val_main_call0_v4 val_main_call0_v3 val_main_call0_v2 val_main_call0_v1 val_main_call0_v0
    val_main_call0_cst val_main_call0_cst_0 lg
  pointwise [v4, Ideal.ofBits_one_f32]

theorem v6 : val_main_v6 (F := Ideal) x2 x3 (ix2 i k) = yg x2 x3 i k := by
  unfold val_main_v6 val_main_v5_0 val_main_v2 yg
  pointwise [v4, v52]

theorem hcol_div (p) : (⟨(hcol h l).val / 512, p⟩ : Fin 4) = h := Fin.ext (by simp only [hcol]; omega)
theorem hcol_mod (p) : (⟨(hcol h l).val % 512, p⟩ : Fin 512) = l := Fin.ext (by simp only [hcol]; omega)

theorem v7 : val_main_v7 (F := Ideal) x2 x3 (ix3 i h l) = yg x2 x3 i (hcol h l) := by
  unfold val_main_v7
  pointwise
  exact v6 x2 x3 i _

theorem v14 (u : Fin 1) : val_main_v14 (F := Ideal) x2 x3 (ix3 i h u) = ms x2 x3 h i := by
  unfold val_main_v14 val_main_v13 val_main_v12 val_main_v11 val_main_v10 val_main_v9 val_main_v8 val_main_cst val_main_cst_0
    val_main_cst_1 ms
  pointwise [v7]

theorem v20 : val_main_v20 (F := Ideal) x2 x3 (ix3 i h l) = nrm x2 x3 h i l := by
  unfold val_main_v20 val_main_v19 val_main_v15 nrm
  pointwise [v7, v14]

theorem v21 : val_main_v21 (F := Ideal) x2 x3 (ix2 i (hcol h l)) = nrm x2 x3 h i l := by
  unfold val_main_v21
  pointwise
  rw [hcol_div, hcol_mod, v20]

theorem v25 : val_main_v25 (F := Ideal) x0 x1 (ix2 i k) = dn x0 x1 i k := by
  unfold val_main_v25 val_main_v0 val_main_v1 dn
  pointwise

theorem v28 (r : Fin 1) : val_main_v28 (F := Ideal) x0 x1 x2 x3 (ix2 r (hcol h l))
    = ∑ i : Fin 8192, dn x0 x1 i (hcol h l) * nrm x2 x3 h i l := by
  unfold val_main_v28 val_main_v27 val_main_cst_3 val_main_v26
  pointwise [v25, v21]
  exact Finset.sum_congr rfl fun i _ => mul_comm _ _

theorem v30 : val_main_v30 (F := Ideal) x0 x1 x4 (ix2 i k) = gy x0 x1 x4 i k := by
  unfold val_main_v30 val_main_v29 gy
  pointwise [v25]

theorem v31 : val_main_v31 (F := Ideal) x0 x1 x4 (ix3 i h l) = gy x0 x1 x4 i (hcol h l) := by
  unfold val_main_v31
  pointwise
  exact v30 x0 x1 x4 i _

theorem v40 : val_main_v40 (F := Ideal) x0 x1 x2 x3 x4 (ix2 i h) = bt x0 x1 x2 x3 x4 h i := by
  unfold val_main_v40 val_main_cst_6 val_main_v39 val_main_v38 val_main_cst_5 val_main_v37 val_main_v34 val_main_v33 val_main_cst_4
    val_main_v32 val_main_v18 val_main_v17 val_main_cst_2 val_main_v16 val_main_v15 bt bterm
  pointwise [v14, v7, v31]
  simp only [Finset.univ_unique, Finset.sum_singleton]

theorem v45 : val_main_v45 (F := Ideal) x0 x1 x2 x3 x4 (ix3 i h l) = dyg x0 x1 x2 x3 x4 h i l := by
  unfold val_main_v45 val_main_v44 val_main_v43 val_main_v42 val_main_v41 val_main_v36 val_main_v35 val_main_v15 dyg
  pointwise [v14, v7, v31, v40]

theorem v46 : val_main_v46 (F := Ideal) x0 x1 x2 x3 x4 (ix2 i (hcol h l)) = dyg x0 x1 x2 x3 x4 h i l := by
  unfold val_main_v46
  pointwise
  rw [hcol_div, hcol_mod, v45]

theorem v50 : val_main_v50 (F := Ideal) x0 x1 x2 x3 x4 (ix2 i (hcol h l))
    = dyg x0 x1 x2 x3 x4 h i l * (gz x3 i (hcol h l) * lg (gz x3 i (hcol h l))) := by
  unfold val_main_v50 val_main_v48 val_main_v5_0
  pointwise [v46, v4, v52]

theorem v51 : val_main_v51 (F := Ideal) x0 x1 x2 x3 x4 (ix2 i (hcol h l))
    = x2 (ix2 i (hcol h l)) * dyg x0 x1 x2 x3 x4 h i l * lg (gz x3 i (hcol h l))
      + gz x3 i (hcol h l) * (x2 (ix2 i (hcol h l)) * dyg x0 x1 x2 x3 x4 h i l)
        * (lg (gz x3 i (hcol h l)) * (1 - lg (gz x3 i (hcol h l)))) := by
  unfold val_main_v51 val_main_v49 val_main_call1_v2 val_main_call1_v1 val_main_call1_v0 val_main_v47 val_main_v2
    val_main_v5_1 val_main_call0_v7 val_main_call0_v6 val_main_call0_cst_1
  pointwise [v46, v4, v52, Ideal.ofBits_one_f32]

end Cert.Proof.GateNorm

end
-- ==== Proof.GateNormValue.lean ====
/-
  The gradient of the gated group norm with the output projection before it: the gradients in the scan's output, in the gate and in
  the norm's gain, a group of columns at a time.
-/
module

public import proofs.«01_k».proof.Defs
public import proofs.«01_k».proof.Proof.Reals
public import proofs.«01_k».proof.Proof.GateNormRef
public import proofs.«01_k».proof.Proof.Gen.Pre_finite_gate
public import proofs.«01_k».proof.Proof.Gen.GateNormIdeal.Value
public import proofs.«01_k».proof.Proof.Gen.GateNormRefIdeal.Run
public import proofs.«01_k».proof.Proof.Gen.GateNormRefIdeal.Read
public import Idealize.ShloMosaic.Lib.Pipeline.ValueKit
public import Idealize.ShloMosaic.Lib.Pipeline.ReadBack
public import Idealize.ShloMosaic.Lib.Pointwise

@[expose] public section

noncomputable section

namespace Cert.Proof.GateNorm

open Cert.GateNormIdeal Cert.GateNormIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])
theorem e3 : ∀ t : Fin cfg0.N, win0_3.index t = ![t.val, 3] :=
  (by decide +kernel : ∀ t : Fin grid0.N, win0_3.index t = ![t.val, 3])
theorem e4 : ∀ t : Fin cfg0.N, win0_4.index t = ![0, 0] :=
  (by decide +kernel : ∀ t : Fin grid0.N, win0_4.index t = ![0, 0])
theorem e5 : ∀ t : Fin cfg0.N, win0_5.index t = ![t.val, 0] :=
  (by decide +kernel : ∀ t : Fin grid0.N, win0_5.index t = ![t.val, 0])
theorem e6 : ∀ t : Fin cfg0.N, win0_6.index t = ![t.val, 0] :=
  (by decide +kernel : ∀ t : Fin grid0.N, win0_6.index t = ![t.val, 0])
theorem e7 : ∀ t : Fin cfg0.N, win0_7.index t = ![0, 0] :=
  (by decide +kernel : ∀ t : Fin grid0.N, win0_7.index t = ![0, 0])

/-- The array row of row `r` of point `t`'s tile. -/
def row (t : Fin cfg0.N) (r : Fin 512) : Fin 8192 := ⟨t.val * 512 + r.val, by
  have := t.isLt; have h : cfg0.N = 16 := N_0; omega⟩

variable (c : Dev nD) (t : Fin cfg0.N)

/-- The arguments' arrays. -/
def A0 : S8192x1024.Idx → EReal := m ((c : Thread nD τ).loc main_arg0)
def A1 : S2048x1024.Idx → EReal := m ((c : Thread nD τ).loc main_arg1)
def A2 : S8192x2048.Idx → EReal := m ((c : Thread nD τ).loc main_arg2)
def A3 : S8192x10240.Idx → EReal := m ((c : Thread nD τ).loc main_arg3)
def A4 : S1x2048.Idx → EReal := m ((c : Thread nD τ).loc main_arg4)

theorem blk0 (r : Fin 512) (k : Fin 1024) : iblk m c 0 t (ix2 r k) = A0 m c (ix2 (row t r) k) := by
  blk_ext [iblk, V, A0, e0, row]
theorem blk1 (r : Fin 2048) (k : Fin 1024) : iblk m c 1 t (ix2 r k) = A1 m c (ix2 r k) := by
  blk_ext [iblk, V, A1, e1]
theorem blk2 (r : Fin 512) (k : Fin 2048) : iblk m c 2 t (ix2 r k) = A2 m c (ix2 (row t r) k) := by
  blk_ext [iblk, V, A2, e2, row]
theorem blk3 (r : Fin 512) (k : Fin 2048) : iblk m c 3 t (ix2 r k) = A3 m c (ix2 (row t r) (zcol k)) := by
  blk_ext [iblk, V, A3, e3, row, zcol]
theorem blk4 (r : Fin 1) (k : Fin 2048) : iblk m c 4 t (ix2 r k) = A4 m c (ix2 r k) := by
  blk_ext [iblk, V, A4, e4]
theorem emb5 (r : Fin 512) (k : Fin 2048) : (win0_5.blk t).view.emb (ix2 r k) = ix2 (row t r) k := by
  blk_ext [e5, row]
theorem emb6 (r : Fin 512) (k : Fin 2048) : (win0_6.blk t).view.emb (ix2 r k) = ix2 (row t r) k := by
  blk_ext [e6, row]
theorem emb7 (r : Fin 1) (k : Fin 2048) : (win0_7.blk t).view.emb (ix2 r k) = ix2 r k := by
  blk_ext [e7]

/-! ## A group's tiles -/

def tz (h : Fin 4) : S512x512.Idx → EReal := fun i => A3 m c (ix2 (row t (i 0)) (zcol (hcol h (i 1))))
def ty (h : Fin 4) : S512x512.Idx → EReal := fun i => A2 m c (ix2 (row t (i 0)) (hcol h (i 1)))
def tn (h : Fin 4) : S512x512.Idx → EReal := fun i => dn (A0 m c) (A1 m c) (row t (i 0)) (hcol h (i 1))
def tg (h : Fin 4) : S1x512.Idx → EReal := fun i => A4 m c (ix2 (i 0) (hcol h (i 1)))

theorem pay4 (r : Fin 512) (k : Fin 2048) : k0_pay4 (F := Ideal) (iblk m c 0 t) (iblk m c 1 t) (ix2 r k) = dn (A0 m c) (A1 m c) (row t r) k := by
  unfold k0_pay4 dn
  pointwise [blk0, blk1]

theorem ldz (h : Fin 4) (o : ℕ) (ho : o = h.val * 512) (inb) :
    View.ld (iblk m c 3 t) (Rect.unit ![0, o] ![512, 512] inb) = tz m c t h := by
  funext i
  refine (View.ld_unit_apply_of _ _ _ _ _ (ix2 (i 0) (hcol h (i 1))) fun a => ?_).trans (blk3 m c t _ _)
  subst ho
  match a with
  | ⟨0, _⟩ => exact (Nat.zero_add _).symm
  | ⟨1, _⟩ => rfl
theorem ldy (h : Fin 4) (o : ℕ) (ho : o = h.val * 512) (inb) :
    View.ld (iblk m c 2 t) (Rect.unit ![0, o] ![512, 512] inb) = ty m c t h := by
  funext i
  refine (View.ld_unit_apply_of _ _ _ _ _ (ix2 (i 0) (hcol h (i 1))) fun a => ?_).trans (blk2 m c t _ _)
  subst ho
  match a with
  | ⟨0, _⟩ => exact (Nat.zero_add _).symm
  | ⟨1, _⟩ => rfl
theorem ldg (h : Fin 4) (o : ℕ) (ho : o = h.val * 512) (inb) :
    View.ld (iblk m c 4 t) (Rect.unit ![0, o] ![1, 512] inb) = tg m c h := by
  funext i
  refine (View.ld_unit_apply_of _ _ _ _ _ (ix2 (i 0) (hcol h (i 1))) fun a => ?_).trans (blk4 m c t _ _)
  subst ho
  match a with
  | ⟨0, _⟩ => exact (Nat.zero_add _).symm
  | ⟨1, _⟩ => rfl
theorem hz : (![0, 0] : Fin 2 → Nat) = fun _ => 0 := funext fun a => by fin_cases a <;> rfl
/-- A group's columns of the scratch buffer, after the product was written to the whole of it. -/
theorem ldn (h : Fin 4) (o : ℕ) (ho : o = h.val * 512) (inb) (inb') :
    (View.whole cc0_scratch0).readCov (Val := Elt Ideal)
      [⟨Rect.unit ![0, 0] ![512, 2048] inb', k0_pay4 (F := Ideal) (iblk m c 0 t) (iblk m c 1 t)⟩]
      (Rect.unit ![0, o] ![512, 512] inb).toLoadRect = tn m c t h := by
  refine (View.readCov_fill (View.whole cc0_scratch0) inb' _ [] _ fun a => congrFun hz a).trans ?_
  funext i
  refine (View.ld_unit_apply_of _ _ _ _ _ (ix2 (i 0) (hcol h (i 1))) fun a => ?_).trans (pay4 m c t _ _)
  subst ho
  match a with
  | ⟨0, _⟩ => exact (Nat.zero_add _).symm
  | ⟨1, _⟩ => rfl

section
variable (z y n : S512x512.Idx → EReal) (g : S1x512.Idx → EReal)

/-- A tile's gated values, the mean square of a row of them, and the gradient of the normed row. -/
def tyg (r k : Fin 512) : EReal := y (ix2 r k) * (z (ix2 r k) * lg (z (ix2 r k)))
def tms (r : Fin 512) : EReal :=
  Ideal.div (∑ k, tyg z y r k * tyg z y r k) (Ideal.ofBits .f32 0x44000000#32) + Ideal.ofBits .f32 0x358637BD#32
def tgy (r k : Fin 512) : EReal := n (ix2 r k) * g (ix2 0 k)
/-- The gradient of the gated value, as the kernel writes it. -/
def tdyg (r k : Fin 512) : EReal := Ideal.rsqrt (tms z y r) * (tgy n g r k - tyg z y r k * Ideal.rsqrt (tms z y r)
  * Ideal.div (∑ x, tgy n g r x * (tyg z y r x * Ideal.rsqrt (tms z y r))) (Ideal.ofBits .f32 0x44000000#32))

theorem pay7 (r k : Fin 512) : k0_pay7 (F := Ideal) z (ix2 r k) = z (ix2 r k) * lg (z (ix2 r k)) := by
  unfold k0_pay7 k0_pay5 lg
  pointwise [Ideal.ofBits_one_f32, zero_sub]

theorem pay8 (r k : Fin 512) : k0_pay8 (F := Ideal) z y (ix2 r k) = tyg z y r k := by
  unfold k0_pay8 k0_pay6 tyg
  pointwise [pay7]

theorem pay9 (r : Fin 512) (u : Fin 1) : k0_pay9 (F := Ideal) z y (ix2 r u) = Ideal.rsqrt (tms z y r) := by
  unfold k0_pay9 tms
  pointwise [pay8]

theorem pay10 (r k : Fin 512) : k0_pay10 (F := Ideal) z y (ix2 r k) = tyg z y r k * Ideal.rsqrt (tms z y r) := by
  unfold k0_pay10
  pointwise [pay8, pay9]

theorem pay11 (r k : Fin 512) : k0_pay11 (F := Ideal) n g (ix2 r k) = tgy n g r k := by
  unfold k0_pay11 tgy
  pointwise

theorem pay12 (r : Fin 512) (u : Fin 1) : k0_pay12 (F := Ideal) z y n g (ix2 r u)
    = ∑ x, tgy n g r x * (tyg z y r x * Ideal.rsqrt (tms z y r)) := by
  unfold k0_pay12
  pointwise [pay10, pay11]

theorem pay13 (r k : Fin 512) : k0_pay13 (F := Ideal) (k0_pay9 z y) (k0_pay10 z y) (k0_pay11 n g) (k0_pay12 z y n g) (ix2 r k)
    = tdyg z y n g r k := by
  unfold k0_pay13 tdyg
  pointwise [pay9, pay10, pay11, pay12]

/-- A tile of each of the two gradients. -/
def tdy : S512x512.Idx → EReal := k0_pay14 (F := Ideal) (k0_pay7 z) (k0_pay9 z y) (k0_pay10 z y) (k0_pay11 n g) (k0_pay12 z y n g)
def tdz : S512x512.Idx → EReal := k0_pay15 (F := Ideal) (k0_pay5 z) (k0_pay6 y) (k0_pay9 z y) (k0_pay10 z y) (k0_pay11 n g) (k0_pay12 z y n g)

theorem tdy_apply (r k : Fin 512) : tdy z y n g (ix2 r k) = tdyg z y n g r k * (z (ix2 r k) * lg (z (ix2 r k))) := by
  unfold tdy k0_pay14
  pointwise [pay13, pay7]

theorem tdz_apply (r k : Fin 512) : tdz z y n g (ix2 r k)
    = tdyg z y n g r k * y (ix2 r k) * (lg (z (ix2 r k)) * (1 + z (ix2 r k) * (1 - lg (z (ix2 r k))))) := by
  unfold tdz k0_pay15 k0_pay5 k0_pay6 lg
  pointwise [pay13, Ideal.ofBits_one_f32, zero_sub]

theorem pay16 (x : S512x512.Idx → EReal) (u : Fin 1) (k : Fin 512) :
    k0_pay16 (F := Ideal) x n (ix2 u k) = ∑ r : Fin 512, n (ix2 r k) * x (ix2 r k) := by
  unfold k0_pay16
  pointwise

theorem pay17 (x : S512x512.Idx → EReal) (p : S1x512.Idx → EReal) (u : Fin 1) (k : Fin 512) :
    k0_pay17 (F := Ideal) x n p (ix2 u k) = p (ix2 u k) + k0_pay16 (F := Ideal) x n (ix2 u k) := by
  unfold k0_pay17
  pointwise

/-! ## The other groups' payloads are the first group's -/

theorem dy3 : k0_pay50 (F := Ideal) z y n g = tdy z y n g := rfl
theorem dy2 : k0_pay39 (F := Ideal) (k0_pay34 z) (k0_pay36 z y) (k0_pay37 z y) n g = tdy z y n g := rfl
theorem dy1 : k0_pay25 (F := Ideal) (k0_pay18 z) (k0_pay19 y) (FloatOps.ofBits .f32 0#32) n g = tdy z y n g := rfl
theorem dy0 : k0_pay14 (F := Ideal) (k0_pay7 z) (k0_pay9 z y) (k0_pay10 z y) (k0_pay11 n g) (k0_pay12 z y n g) = tdy z y n g := rfl
theorem dz3 : k0_pay1 (F := Ideal) (k0_pay43 z) (k0_pay51 z y n g) (k0_pay52 z) = tdz z y n g := rfl
theorem dz2 : k0_pay40 (F := Ideal) (k0_pay32 z) (k0_pay33 y) (k0_pay36 z y) (k0_pay37 z y) n g = tdz z y n g := rfl
theorem dz1 : k0_pay29 (F := Ideal) (k0_pay18 z) (k0_pay26 (k0_pay18 z) (k0_pay19 y) (FloatOps.ofBits .f32 0#32) n g)
    (k0_pay27 (k0_pay18 z)) (k0_pay28 (k0_pay18 z)) = tdz z y n g := rfl
theorem dz0 : k0_pay15 (F := Ideal) (k0_pay5 z) (k0_pay6 y) (k0_pay9 z y) (k0_pay10 z y) (k0_pay11 n g) (k0_pay12 z y n g)
    = tdz z y n g := rfl
theorem nrm3 : k0_pay48 (F := Ideal) z y = k0_pay10 z y := rfl
theorem nrm2 : k0_pay37 (F := Ideal) z y = k0_pay10 z y := rfl
theorem nrm1 : k0_pay23 (F := Ideal) (k0_pay18 z) (k0_pay19 y) (FloatOps.ofBits .f32 0#32) = k0_pay10 z y := rfl
theorem sum3 (x) : k0_pay2 (F := Ideal) x n = k0_pay16 x n := rfl
theorem sum2 (x) : k0_pay41 (F := Ideal) x n = k0_pay16 x n := rfl
theorem sum1 (x) : k0_pay30 (F := Ideal) x n = k0_pay16 x n := rfl
theorem add3 (x p) : k0_pay3 (F := Ideal) x n p = k0_pay17 x n p := rfl
theorem add2 (x p) : k0_pay42 (F := Ideal) x n p = k0_pay17 x n p := rfl
theorem add1 (x p) : k0_pay31 (F := Ideal) x n p = k0_pay17 x n p := rfl

end

/-! ## What each point leaves -/

theorem head {h h' : Fin 4} {l l' : Fin 512} {o : ℕ} (e : h.val * 512 + l.val = o + l'.val) (ho : o = h'.val * 512) : h = h' ∧ l = l' :=
  ⟨Fin.ext (by omega), Fin.ext (by omega)⟩

theorem ldacc (x : S1x2048.Idx → EReal) (h : Fin 4) (o : ℕ) (ho : o = h.val * 512) (inb) (k : Fin 1) (l : Fin 512) :
    View.ld (Val := Elt Ideal) (e' := .f32) (S := S1x2048) x (Rect.unit ![0, o] ![1, 512] inb) (ix2 k l) = x (ix2 k (hcol h l)) := by
  refine View.ld_unit_apply_of _ _ _ _ _ (ix2 k (hcol h l)) fun a => ?_
  subst ho
  match a with
  | ⟨0, _⟩ => exact (Nat.zero_add _).symm
  | ⟨1, _⟩ => rfl

/-- The gain's terms of row block `s`. -/
def gblock (h : Fin 4) (l : Fin 512) (s : ℕ) : EReal :=
  if hs : s < 16 then ∑ r : Fin 512, dn (A0 m c) (A1 m c) ⟨s * 512 + r.val, by omega⟩ (hcol h l)
    * nrm (A2 m c) (A3 m c) h ⟨s * 512 + r.val, by omega⟩ l else 0

theorem part16 (h : Fin 4) (u : Fin 1) (l : Fin 512) :
    k0_pay16 (F := Ideal) (k0_pay10 (tz m c t h) (ty m c t h)) (tn m c t h) (ix2 u l) = gblock m c h l t.val := by
  have htl : t.val < cfg0.N := t.isLt
  have hN : cfg0.N = 16 := N_0
  rw [gblock, dif_pos (by omega), pay16]
  refine Finset.sum_congr rfl fun r _ => ?_
  rw [pay10]
  rfl

theorem out5 (r : Fin 512) (h : Fin 4) (l : Fin 512) : (outsAt0 m c t.val t.isLt).1 (ix2 r (hcol h l))
    = tdy (tz m c t h) (ty m c t h) (tn m c t h) (tg m c h) (ix2 r l) := by
  have htl := t.isLt
  have hN : cfg0.N = 16 := N_0
  by_cases ht : t.val % 16 = 0
  · rw [outsAt0_A m c t ht (by omega) ht (by omega) ht (by omega) ht (by omega)]
    frame_out
    canon_tiles x hx using View.cover_of_tiled_head _ _ _ (by rfl) _
    all_goals obtain ⟨r', l', rfl⟩ : ∃ (r' : Fin 512) (l' : Fin 512), x = ix2 r' l' := ⟨x 0, x 1, eq_ix2 x⟩
    · obtain rfl : r = r' := Fin.ext hx0
      obtain ⟨rfl, rfl⟩ : h = 3 ∧ l = l' := head hx1 rfl
      rw [dy3, ldz m c t 3 1536 rfl, ldy m c t 3 1536 rfl, ldn m c t 3 1536 rfl, ldg m c t 3 1536 rfl]
    · obtain rfl : r = r' := Fin.ext hx0
      obtain ⟨rfl, rfl⟩ : h = 2 ∧ l = l' := head hx1 rfl
      rw [dy2, ldz m c t 2 1024 rfl, ldy m c t 2 1024 rfl, ldn m c t 2 1024 rfl, ldg m c t 2 1024 rfl]
    · obtain rfl : r = r' := Fin.ext hx0
      obtain ⟨rfl, rfl⟩ : h = 1 ∧ l = l' := head hx1 rfl
      rw [dy1, ldz m c t 1 512 rfl, ldy m c t 1 512 rfl, ldn m c t 1 512 rfl, ldg m c t 1 512 rfl]
    · obtain rfl : r = r' := Fin.ext hx0
      obtain ⟨rfl, rfl⟩ : h = 0 ∧ l = l' := head (hx1.trans (Nat.zero_add _).symm) rfl
      rw [dy0, ldz m c t 0 0 rfl, ldy m c t 0 0 rfl, ldn m c t 0 0 rfl, ldg m c t 0 0 rfl]
  · rw [outsAt0_B m c t ht (by omega) ht (by omega) ht (by omega) ht (by omega)]
    frame_out
    canon_tiles x hx using View.cover_of_tiled_head _ _ _ (by rfl) _
    all_goals obtain ⟨r', l', rfl⟩ : ∃ (r' : Fin 512) (l' : Fin 512), x = ix2 r' l' := ⟨x 0, x 1, eq_ix2 x⟩
    · obtain rfl : r = r' := Fin.ext hx0
      obtain ⟨rfl, rfl⟩ : h = 3 ∧ l = l' := head hx1 rfl
      rw [dy3, ldz m c t 3 1536 rfl, ldy m c t 3 1536 rfl, ldn m c t 3 1536 rfl, ldg m c t 3 1536 rfl]
    · obtain rfl : r = r' := Fin.ext hx0
      obtain ⟨rfl, rfl⟩ : h = 2 ∧ l = l' := head hx1 rfl
      rw [dy2, ldz m c t 2 1024 rfl, ldy m c t 2 1024 rfl, ldn m c t 2 1024 rfl, ldg m c t 2 1024 rfl]
    · obtain rfl : r = r' := Fin.ext hx0
      obtain ⟨rfl, rfl⟩ : h = 1 ∧ l = l' := head hx1 rfl
      rw [dy1, ldz m c t 1 512 rfl, ldy m c t 1 512 rfl, ldn m c t 1 512 rfl, ldg m c t 1 512 rfl]
    · obtain rfl : r = r' := Fin.ext hx0
      obtain ⟨rfl, rfl⟩ : h = 0 ∧ l = l' := head (hx1.trans (Nat.zero_add _).symm) rfl
      rw [dy0, ldz m c t 0 0 rfl, ldy m c t 0 0 rfl, ldn m c t 0 0 rfl, ldg m c t 0 0 rfl]

theorem out6 (r : Fin 512) (h : Fin 4) (l : Fin 512) : (outsAt0 m c t.val t.isLt).2.1 (ix2 r (hcol h l))
    = tdz (tz m c t h) (ty m c t h) (tn m c t h) (tg m c h) (ix2 r l) := by
  have htl := t.isLt
  have hN : cfg0.N = 16 := N_0
  by_cases ht : t.val % 16 = 0
  · rw [outsAt0_A m c t ht (by omega) ht (by omega) ht (by omega) ht (by omega)]
    frame_out
    canon_tiles x hx using View.cover_of_tiled_head _ _ _ (by rfl) _
    all_goals obtain ⟨r', l', rfl⟩ : ∃ (r' : Fin 512) (l' : Fin 512), x = ix2 r' l' := ⟨x 0, x 1, eq_ix2 x⟩
    · obtain rfl : r = r' := Fin.ext hx0
      obtain ⟨rfl, rfl⟩ : h = 3 ∧ l = l' := head hx1 rfl
      rw [dz3, ldz m c t 3 1536 rfl, ldy m c t 3 1536 rfl, ldn m c t 3 1536 rfl, ldg m c t 3 1536 rfl]
    · obtain rfl : r = r' := Fin.ext hx0
      obtain ⟨rfl, rfl⟩ : h = 2 ∧ l = l' := head hx1 rfl
      rw [dz2, ldz m c t 2 1024 rfl, ldy m c t 2 1024 rfl, ldn m c t 2 1024 rfl, ldg m c t 2 1024 rfl]
    · obtain rfl : r = r' := Fin.ext hx0
      obtain ⟨rfl, rfl⟩ : h = 1 ∧ l = l' := head hx1 rfl
      rw [dz1, ldz m c t 1 512 rfl, ldy m c t 1 512 rfl, ldn m c t 1 512 rfl, ldg m c t 1 512 rfl]
    · obtain rfl : r = r' := Fin.ext hx0
      obtain ⟨rfl, rfl⟩ : h = 0 ∧ l = l' := head (hx1.trans (Nat.zero_add _).symm) rfl
      rw [dz0, ldz m c t 0 0 rfl, ldy m c t 0 0 rfl, ldn m c t 0 0 rfl, ldg m c t 0 0 rfl]
  · rw [outsAt0_B m c t ht (by omega) ht (by omega) ht (by omega) ht (by omega)]
    frame_out
    canon_tiles x hx using View.cover_of_tiled_head _ _ _ (by rfl) _
    all_goals obtain ⟨r', l', rfl⟩ : ∃ (r' : Fin 512) (l' : Fin 512), x = ix2 r' l' := ⟨x 0, x 1, eq_ix2 x⟩
    · obtain rfl : r = r' := Fin.ext hx0
      obtain ⟨rfl, rfl⟩ : h = 3 ∧ l = l' := head hx1 rfl
      rw [dz3, ldz m c t 3 1536 rfl, ldy m c t 3 1536 rfl, ldn m c t 3 1536 rfl, ldg m c t 3 1536 rfl]
    · obtain rfl : r = r' := Fin.ext hx0
      obtain ⟨rfl, rfl⟩ : h = 2 ∧ l = l' := head hx1 rfl
      rw [dz2, ldz m c t 2 1024 rfl, ldy m c t 2 1024 rfl, ldn m c t 2 1024 rfl, ldg m c t 2 1024 rfl]
    · obtain rfl : r = r' := Fin.ext hx0
      obtain ⟨rfl, rfl⟩ : h = 1 ∧ l = l' := head hx1 rfl
      rw [dz1, ldz m c t 1 512 rfl, ldy m c t 1 512 rfl, ldn m c t 1 512 rfl, ldg m c t 1 512 rfl]
    · obtain rfl : r = r' := Fin.ext hx0
      obtain ⟨rfl, rfl⟩ : h = 0 ∧ l = l' := head (hx1.trans (Nat.zero_add _).symm) rfl
      rw [dz0, ldz m c t 0 0 rfl, ldy m c t 0 0 rfl, ldn m c t 0 0 rfl, ldg m c t 0 0 rfl]

theorem out7_A (ht : t.val % 16 = 0) (u : Fin 1) (h : Fin 4) (l : Fin 512) :
    (outsAt0 m c t.val t.isLt).2.2 (ix2 u (hcol h l)) = gblock m c h l t.val := by
  have htl := t.isLt
  have hN : cfg0.N = 16 := N_0
  rw [outsAt0_A m c t ht (by omega) ht (by omega) ht (by omega) ht (by omega)]
  frame_out
  canon_tiles x hx using View.cover_of_tiled_head _ _ _ (by rfl) _
  all_goals obtain ⟨r', l', rfl⟩ : ∃ (r' : Fin 1) (l' : Fin 512), x = ix2 r' l' := ⟨x 0, x 1, eq_ix2 x⟩
  · obtain rfl : u = r' := Fin.ext hx0
    obtain ⟨rfl, rfl⟩ : h = 3 ∧ l = l' := head hx1 rfl
    rw [sum3, nrm3, ldz m c t 3 1536 rfl, ldy m c t 3 1536 rfl, ldn m c t 3 1536 rfl]
    exact part16 m c t 3 u l
  · obtain rfl : u = r' := Fin.ext hx0
    obtain ⟨rfl, rfl⟩ : h = 2 ∧ l = l' := head hx1 rfl
    rw [sum2, nrm2, ldz m c t 2 1024 rfl, ldy m c t 2 1024 rfl, ldn m c t 2 1024 rfl]
    exact part16 m c t 2 u l
  · obtain rfl : u = r' := Fin.ext hx0
    obtain ⟨rfl, rfl⟩ : h = 1 ∧ l = l' := head hx1 rfl
    rw [sum1, nrm1, ldz m c t 1 512 rfl, ldy m c t 1 512 rfl, ldn m c t 1 512 rfl]
    exact part16 m c t 1 u l
  · obtain rfl : u = r' := Fin.ext hx0
    obtain ⟨rfl, rfl⟩ : h = 0 ∧ l = l' := head (hx1.trans (Nat.zero_add _).symm) rfl
    rw [ldz m c t 0 0 rfl, ldy m c t 0 0 rfl, ldn m c t 0 0 rfl]
    exact part16 m c t 0 u l

theorem out7_B (ht : ¬t.val % 16 = 0) (u : Fin 1) (h : Fin 4) (l : Fin 512) : (outsAt0 m c t.val t.isLt).2.2 (ix2 u (hcol h l))
    = (outsAt0 m c (t.val - 1) (Nat.lt_of_le_of_lt (Nat.sub_le _ _) t.isLt)).2.2 (ix2 u (hcol h l)) + gblock m c h l t.val := by
  rw [outsAt0_B m c t ht (by omega) ht (by omega) ht (by omega) ht (by omega)]
  frame_out
  canon_tiles x hx using View.cover_of_tiled_head _ _ _ (by rfl) _
  all_goals obtain ⟨r', l', rfl⟩ : ∃ (r' : Fin 1) (l' : Fin 512), x = ix2 r' l' := ⟨x 0, x 1, eq_ix2 x⟩
  · obtain rfl : u = r' := Fin.ext hx0
    obtain ⟨rfl, rfl⟩ : h = 3 ∧ l = l' := head hx1 rfl
    rw [add3, nrm3, ldz m c t 3 1536 rfl, ldy m c t 3 1536 rfl, ldn m c t 3 1536 rfl]
    exact (pay17 _ _ _ _ _).trans (congrArg₂ (· + ·) (ldacc _ 3 1536 rfl _ u l) (part16 m c t 3 u l))
  · obtain rfl : u = r' := Fin.ext hx0
    obtain ⟨rfl, rfl⟩ : h = 2 ∧ l = l' := head hx1 rfl
    rw [add2, nrm2, ldz m c t 2 1024 rfl, ldy m c t 2 1024 rfl, ldn m c t 2 1024 rfl]
    exact (pay17 _ _ _ _ _).trans (congrArg₂ (· + ·) (ldacc _ 2 1024 rfl _ u l) (part16 m c t 2 u l))
  · obtain rfl : u = r' := Fin.ext hx0
    obtain ⟨rfl, rfl⟩ : h = 1 ∧ l = l' := head hx1 rfl
    rw [add1, nrm1, ldz m c t 1 512 rfl, ldy m c t 1 512 rfl, ldn m c t 1 512 rfl]
    exact (pay17 _ _ _ _ _).trans (congrArg₂ (· + ·) (ldacc _ 1 512 rfl _ u l) (part16 m c t 1 u l))
  · obtain rfl : u = r' := Fin.ext hx0
    obtain ⟨rfl, rfl⟩ : h = 0 ∧ l = l' := head (hx1.trans (Nat.zero_add _).symm) rfl
    rw [ldz m c t 0 0 rfl, ldy m c t 0 0 rfl, ldn m c t 0 0 rfl]
    exact (pay17 _ _ _ _ _).trans (congrArg₂ (· + ·) (ldacc _ 0 0 rfl _ u l) (part16 m c t 0 u l))

/-! ## The arrays after the run -/

theorem gain (u : Fin 1) (h : Fin 4) (l : Fin 512) (s : ℕ) (t : Fin cfg0.N) (ht : t.val = s) :
    (outsAt0 m c t.val t.isLt).2.2 (ix2 u (hcol h l)) = ∑ b ∈ Finset.range (s + 1), gblock m c h l b := by
  have hN : cfg0.N = 16 := N_0
  have htl : t.val < cfg0.N := t.isLt
  induction s generalizing t with
  | zero =>
    have hb := out7_A m c t (by omega) u h l
    rw [hb, ht, Finset.sum_range_one]
  | succ s ih =>
    have hp := ih ⟨t.val - 1, by omega⟩ (by simp only; omega) (by simp only; omega)
    simp only at hp
    rw [out7_B m c t (by omega) u h l, Finset.sum_range_succ _ (s + 1), ← hp]
    exact congrArg _ (by rw [ht])

/-- The arrays have no infinite element. -/
def Fin' : Prop := (∀ i, ∃ r : ℝ, A0 m c i = r) ∧ (∀ i, ∃ r : ℝ, A1 m c i = r) ∧ (∀ i, ∃ r : ℝ, A2 m c i = r)
  ∧ (∀ i k, ∃ r : ℝ, gz (A3 m c) i k = r) ∧ ∀ i, ∃ r : ℝ, A4 m c i = r

theorem yg_real (hf : Fin' m c) (i : Fin 8192) (k : Fin 2048) : ∃ r : ℝ, yg (A2 m c) (A3 m c) i k = r := by
  obtain ⟨y, hy⟩ := hf.2.2.1 (ix2 i k)
  obtain ⟨z, hz⟩ := hf.2.2.2.1 i k
  obtain ⟨s, hs⟩ := lg_real (hf.2.2.2.1 i k)
  exact ⟨y * (z * s), by rw [yg, hs, hy, hz, ← EReal.coe_mul, ← EReal.coe_mul]⟩

theorem gy_real (hf : Fin' m c) (i : Fin 8192) (k : Fin 2048) : ∃ r : ℝ, gy (A0 m c) (A1 m c) (A4 m c) i k = r := by
  obtain ⟨f, hf0⟩ := Reals.exists_real hf.1
  obtain ⟨g, hg⟩ := Reals.exists_real hf.2.1
  obtain ⟨w, hw⟩ := hf.2.2.2.2 (ix2 0 k)
  refine ⟨(∑ x, f (ix2 i x) * g (ix2 k x)) * w, ?_⟩
  rw [gy, dn, hw]
  simp only [hf0, hg, ← EReal.coe_mul, Reals.coe_sum]

theorem ms_real (hf : Fin' m c) (h : Fin 4) (i : Fin 8192) : ∃ w : ℝ, 0 < w ∧ ms (A2 m c) (A3 m c) h i = w := by
  obtain ⟨f, hs⟩ := Reals.exists_real fun l => yg_real m c hf i (hcol h l)
  obtain ⟨e, he, hee⟩ := Reals.ofBits_eps
  have hq : 0 ≤ ∑ i, f i * f i := Finset.sum_nonneg fun i _ => mul_self_nonneg _
  refine ⟨(∑ i, f i * f i) / 512 + e, by positivity, ?_⟩
  rw [ms, hee, ofBits_512]
  simp only [hs, ← EReal.coe_mul, Reals.coe_sum]
  rw [Reals.coe_div _ _ (by norm_num), ← EReal.coe_add]

theorem dyg_real (hf : Fin' m c) (h : Fin 4) (i : Fin 8192) (l : Fin 512) :
    ∃ r : ℝ, dyg (A0 m c) (A1 m c) (A2 m c) (A3 m c) (A4 m c) h i l = r := by
  obtain ⟨f, hs⟩ := Reals.exists_real fun l => yg_real m c hf i (hcol h l)
  obtain ⟨g, hg⟩ := Reals.exists_real fun l => gy_real m c hf i (hcol h l)
  obtain ⟨w, hw, hm⟩ := ms_real m c hf h i
  rw [dyg, bt, bterm, hm, Reals.coe_rsqrt _ hw, Reals.ofBits_neg_half, ofBits_512]
  simp only [hs, hg, ← EReal.coe_mul, Reals.coe_sum, Reals.coe_div _ _ hw.ne', Reals.coe_div _ (512 : ℝ) (by norm_num), ← EReal.coe_add]
  exact ⟨_, rfl⟩

theorem tdyg_eq (hf : Fin' m c) (h : Fin 4) (r l : Fin 512) : tdyg (tz m c t h) (ty m c t h) (tn m c t h) (tg m c h) r l
    = dyg (A0 m c) (A1 m c) (A2 m c) (A3 m c) (A4 m c) h (row t r) l := by
  obtain ⟨e, he, hee⟩ := Reals.ofBits_eps
  have key := Reals.rmsnorm_grad (fun l => yg (A2 m c) (A3 m c) (row t r) (hcol h l))
    (fun l => gy (A0 m c) (A1 m c) (A4 m c) (row t r) (hcol h l)) 512 e (by norm_num) he
    (fun _ => yg_real m c hf _ _) (fun _ => gy_real m c hf _ _) l (ms (A2 m c) (A3 m c) h (row t r)) _
    (by rw [ms, hee, ofBits_512]) rfl
  rw [dyg, bt, bterm, ofBits_512, Reals.ofBits_neg_half, ← key, ← ofBits_512]
  rfl

open Cert.GateNormRefIdeal.Read

theorem final5 (hf : Fin' m c) : (dats m 0 c).arrAt 5 cfg0.N
    = val_main_v50 (F := Ideal) (A0 m c) (A1 m c) (A2 m c) (A3 m c) (A4 m c) := by
  refine (dats m 0 c).arrAt_eq_of_covers 5 _ (by decide +kernel) fun t _ y => ?_
  blk_simp
  obtain ⟨r, k, rfl⟩ : ∃ (r : Fin 512) (k : Fin 2048), y = ix2 r k := ⟨y 0, y 1, eq_ix2 y⟩
  obtain ⟨h, l, rfl⟩ := cols k
  rw [after0_5, emb5, out5, tdy_apply, tdyg_eq m c t hf, v50]
  rfl

theorem final6 (hf : Fin' m c) : (dats m 0 c).arrAt 6 cfg0.N
    = val_main_v51 (F := Ideal) (A0 m c) (A1 m c) (A2 m c) (A3 m c) (A4 m c) := by
  refine (dats m 0 c).arrAt_eq_of_covers 6 _ (by decide +kernel) fun t _ y => ?_
  blk_simp
  obtain ⟨r, k, rfl⟩ : ∃ (r : Fin 512) (k : Fin 2048), y = ix2 r k := ⟨y 0, y 1, eq_ix2 y⟩
  obtain ⟨h, l, rfl⟩ := cols k
  rw [after0_6, emb6, out6, tdz_apply, tdyg_eq m c t hf, v51, mul_comm (dyg _ _ _ _ _ _ _ _)]
  have hu : ∃ s : ℝ, A2 m c (ix2 (row t r) (hcol h l)) * dyg (A0 m c) (A1 m c) (A2 m c) (A3 m c) (A4 m c) h (row t r) l = s := by
    obtain ⟨a, ha⟩ := dyg_real m c hf h (row t r) l
    obtain ⟨b, hb⟩ := hf.2.2.1 (ix2 (row t r) (hcol h l))
    exact ⟨b * a, by rw [ha, hb, EReal.coe_mul]⟩
  exact Reals.silu_grad _ _ _ hu (hf.2.2.2.1 _ _) (lg_real (hf.2.2.2.1 _ _))

theorem final7 : (dats m 0 c).arrAt 7 cfg0.N
    = val_main_v28 (F := Ideal) (A0 m c) (A1 m c) (A2 m c) (A3 m c) := by
  refine (dats m 0 c).arrAt_eq_of_covers 7 _ (by decide +kernel) fun t hfl y => ?_
  blk_simp
  obtain ⟨r, k, rfl⟩ : ∃ (r : Fin 1) (k : Fin 2048), y = ix2 r k := ⟨y 0, y 1, eq_ix2 y⟩
  obtain ⟨h, l, rfl⟩ := cols k
  have hN : cfg0.N = 16 := N_0
  have htl : t.val < cfg0.N := t.isLt
  have h7 := (flush0_7 t).mp hfl
  rw [after0_7, emb7, v28, gain m c r h l 15 t (by omega), Finset.sum_range]
  have hg : ∀ s : Fin 16, gblock m c h l s.val
      = ∑ r : Fin 512, dn (A0 m c) (A1 m c) ⟨s.val * 512 + r.val, by omega⟩ (hcol h l)
        * nrm (A2 m c) (A3 m c) h ⟨s.val * 512 + r.val, by omega⟩ l := fun s => by
    rw [gblock, dif_pos s.isLt]
  rw [Finset.sum_congr rfl fun s _ => hg s]
  exact Fin.sum_mul_add_congr fun s l hl => rfl

/-! ## The claims -/

theorem finite (hpre : Cert.Pre_GateNormIdeal_finite_gate m) : Fin' m c := by
  refine ⟨fun i => Reals.finite_of_test _ _ i (by exact Ideal.ofBits_zero_bf16) (congrFun (hpre c).1 i),
    fun i => Reals.finite_of_test _ _ i (by exact Ideal.ofBits_zero_bf16) (congrFun (hpre c).2.1 i),
    fun i => Reals.finite_of_test _ _ i (by exact Ideal.ofBits_zero_bf16) (congrFun (hpre c).2.2.1 i),
    fun i k => ?_,
    fun i => Reals.finite_of_test _ _ i (by exact Ideal.ofBits_zero_f32) (congrFun (hpre c).2.2.2.2 i)⟩
  obtain ⟨r, hr⟩ := Reals.finite_of_test _ _ (ix2 i k) (by exact Ideal.ofBits_zero_bf16) (congrFun (hpre c).2.2.2.1 (ix2 i k))
  refine ⟨r, Eq.trans ?_ hr⟩
  exact (v4 (A3 m c) i k).symm

theorem ref_frame : Cert.quiescent_GateNormRefIdeal := fun m ρ _ =>
  (θ_run Cert.GateNormRefIdeal.defs _ _).mono (fun r h => ⟨fun c => (h c).2.2.2,
      Idealize.ShloMosaic.sem_eq_zero_of_no_sems (by decide) r.2⟩)
    (Cert.GateNormRefIdeal.Value.run (F := Ideal) m ρ)

theorem algebraic : Cert.algebraic_GateNormIdeal_GateNormRefIdeal_pre_finite_gate := by
  intro m ρ m' ρ' hpre hagree
  refine ⟨fun c => (dats m 0 c).arrAt 5 cfg0.N, fun c => (dats m 0 c).arrAt 6 cfg0.N, fun c => (dats m 0 c).arrAt 7 cfg0.N,
    Value.run_blocks (F := Ideal) m ρ, ?_⟩
  refine (θ_run Cert.GateNormRefIdeal.defs _ _).mono (fun r h c => ?_) (Cert.GateNormRefIdeal.Value.run (F := Ideal) m' ρ')
  obtain ⟨h0, h1, h2, h⟩ := h c
  obtain ⟨a0, a1, a2, a3, a4⟩ := hagree c
  rw [val_main_v50_eq, a0, a1, a2, a3, a4] at h0
  rw [val_main_v51_eq, a0, a1, a2, a3, a4] at h1
  rw [val_main_v28_eq, a0, a1, a2, a3] at h2
  exact ⟨h0.trans (final5 m c (finite m c hpre)).symm, h1.trans (final6 m c (finite m c hpre)).symm, h2.trans (final7 m c).symm, h⟩

end Cert.Proof.GateNorm

end
-- ==== Proof.GateOutValue.lean ====
/-
  The gated group norm and the output projection after it: the normed values, a group of columns at a time, and their product with the
  projection's weights.
-/
module

public import proofs.«01_k».proof.Defs
public import proofs.«01_k».proof.Proof.Reals
public import proofs.«01_k».proof.Proof.Gen.GateOutIdeal.Value
public import proofs.«01_k».proof.Proof.Gen.GateOutRefIdeal.Run
public import proofs.«01_k».proof.Proof.Gen.GateOutRefIdeal.Read
public import Idealize.ShloMosaic.Lib.Pipeline.ValueKit
public import Idealize.ShloMosaic.Lib.Pipeline.ReadBack
public import Idealize.ShloMosaic.Lib.Pointwise

@[expose] public section

noncomputable section

namespace Cert.Proof.GateOut

open Cert.GateOutIdeal Cert.GateOutIdeal.Gen Idealize.ShloMosaic Idealize.ShloMosaic.TcCoe Idealize.SL.Sem
open Idealize.ShloMosaic.Pipeline (Dat)

/-- The logistic function at an extended real. -/
def lg (x : EReal) : EReal := Ideal.div 1 (1 + Ideal.exp (-x))

/-- The column of entry `l` of group `h`. -/
def hcol (h : Fin 4) (l : Fin 512) : Fin 2048 := ⟨h.val * 512 + l.val, by omega⟩

theorem cols (k : Fin 2048) : ∃ (h : Fin 4) (l : Fin 512), k = hcol h l :=
  ⟨⟨k.val / 512, by omega⟩, ⟨k.val % 512, by omega⟩, Fin.ext (by simp only [hcol]; omega)⟩

/-- A gate's column among the projection's columns. -/
def zcol (k : Fin 2048) : Fin 10240 := ⟨6144 + k.val, by omega⟩

/-! ## The reference, read at an index -/

section
open Cert.GateOutRefIdeal.Read

variable (x0 : (⟨2, ![8192, 2048]⟩ : Shape).Idx → EReal) (x1 : (⟨2, ![8192, 10240]⟩ : Shape).Idx → EReal)
  (x2 : (⟨2, ![1, 2048]⟩ : Shape).Idx → EReal) (x3 : (⟨2, ![2048, 1024]⟩ : Shape).Idx → EReal)

/-- The gated value. -/
def yg (i : Fin 8192) (k : Fin 2048) : EReal := x0 (ix2 i k) * (x1 (ix2 i (zcol k)) * lg (x1 (ix2 i (zcol k))))

/-- The mean square of a group's row with the norm's constant added. -/
def ms (h : Fin 4) (i : Fin 8192) : EReal :=
  Ideal.div (∑ l : Fin 512, yg x0 x1 i (hcol h l) * yg x0 x1 i (hcol h l)) (Ideal.ofBits .f32 0x44000000#32)
    + Ideal.ofBits .f32 0x358637BD#32

/-- The normed value. -/
def nrm (h : Fin 4) (i : Fin 8192) (l : Fin 512) : EReal :=
  yg x0 x1 i (hcol h l) * Ideal.rsqrt (ms x0 x1 h i) * x2 (ix2 0 (hcol h l))

variable (i : Fin 8192) (k : Fin 2048) (h : Fin 4) (l : Fin 512)

theorem v5 : val_main_v5 (F := Ideal) x0 x1 (ix2 i k) = yg x0 x1 i k := by
  unfold val_main_v5 val_main_v4 val_main_v0 val_main_call0_v5 val_main_call0_v4 val_main_call0_v3 val_main_call0_v2 val_main_call0_v1
    val_main_call0_v0 val_main_call0_cst val_main_call0_cst_0 val_main_v3 val_main_v1 yg lg zcol
  pointwise [Ideal.ofBits_one_f32]

theorem hcol_div (p) : (⟨(hcol h l).val / 512, p⟩ : Fin 4) = h := Fin.ext (by simp only [hcol]; omega)
theorem hcol_mod (p) : (⟨(hcol h l).val % 512, p⟩ : Fin 512) = l := Fin.ext (by simp only [hcol]; omega)

theorem v6 : val_main_v6 (F := Ideal) x0 x1 (ix3 i h l) = yg x0 x1 i (hcol h l) := by
  unfold val_main_v6
  pointwise
  exact v5 x0 x1 i _

theorem v13 (u : Fin 1) : val_main_v13 (F := Ideal) x0 x1 (ix3 i h u) = ms x0 x1 h i := by
  unfold val_main_v13 val_main_v12 val_main_v11 val_main_v10 val_main_v9 val_main_v8 val_main_v7 val_main_cst val_main_cst_0
    val_main_cst_1 ms
  pointwise [v6]

theorem v16 : val_main_v16 (F := Ideal) x0 x1 (ix3 i h l) = yg x0 x1 i (hcol h l) * Ideal.rsqrt (ms x0 x1 h i) := by
  unfold val_main_v16 val_main_v15 val_main_v14
  pointwise [v6, v13]

theorem v19 : val_main_v19 (F := Ideal) x0 x1 x2 (ix2 i (hcol h l)) = nrm x0 x1 x2 h i l := by
  unfold val_main_v19 val_main_v18 val_main_v17 nrm
  pointwise
  rw [hcol_div, hcol_mod, v16]

theorem v20 : val_main_v20 (F := Ideal) x0 x1 x2 (ix2 i (hcol h l)) = nrm x0 x1 x2 h i l := by
  unfold val_main_v20
  pointwise [v19]

theorem v22 (q : Fin 1024) : val_main_v22 (F := Ideal) x0 x1 x2 x3 (ix2 i q)
    = ∑ k : Fin 2048, val_main_v20 (F := Ideal) x0 x1 x2 (ix2 i k) * x3 (ix2 k q) := by
  unfold val_main_v22 val_main_v21 val_main_v2 val_main_v20
  pointwise

end

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![t.val, 3] :=
  (by decide +kernel : ∀ t : Fin grid0.N, win0_1.index t = ![t.val, 3])
theorem e2 : ∀ t : Fin cfg0.N, win0_2.index t = ![0, 0] :=
  (by decide +kernel : ∀ t : Fin grid0.N, win0_2.index t = ![0, 0])
theorem e3 : ∀ t : Fin cfg0.N, win0_3.index t = ![0, 0] :=
  (by decide +kernel : ∀ t : Fin grid0.N, win0_3.index t = ![0, 0])
theorem e4 : ∀ t : Fin cfg0.N, win0_4.index t = ![t.val, 0] :=
  (by decide +kernel : ∀ t : Fin grid0.N, win0_4.index t = ![t.val, 0])
theorem e5 : ∀ t : Fin cfg0.N, win0_5.index t = ![t.val, 0] :=
  (by decide +kernel : ∀ t : Fin grid0.N, win0_5.index t = ![t.val, 0])

/-- The array row of row `r` of point `t`'s tile. -/
def row (t : Fin cfg0.N) (r : Fin 512) : Fin 8192 := ⟨t.val * 512 + r.val, by
  have := t.isLt; have h : cfg0.N = 16 := N_0; omega⟩

variable (c : Dev nD) (t : Fin cfg0.N)

/-- The arguments' arrays. -/
def A0 : S8192x2048.Idx → EReal := m ((c : Thread nD τ).loc main_arg0)
def A1 : S8192x10240.Idx → EReal := m ((c : Thread nD τ).loc main_arg1)
def A2 : S1x2048.Idx → EReal := m ((c : Thread nD τ).loc main_arg2)
def A3 : S2048x1024.Idx → EReal := m ((c : Thread nD τ).loc main_arg3)

theorem blk0 (r : Fin 512) (k : Fin 2048) : iblk m c 0 t (ix2 r k) = A0 m c (ix2 (row t r) k) := by
  blk_ext [iblk, V, A0, e0, row]
theorem blk1 (r : Fin 512) (k : Fin 2048) : iblk m c 1 t (ix2 r k) = A1 m c (ix2 (row t r) (zcol k)) := by
  blk_ext [iblk, V, A1, e1, row, zcol]
theorem blk2 (r : Fin 1) (k : Fin 2048) : iblk m c 2 t (ix2 r k) = A2 m c (ix2 r k) := by
  blk_ext [iblk, V, A2, e2]
theorem blk3 (r : Fin 2048) (k : Fin 1024) : iblk m c 3 t (ix2 r k) = A3 m c (ix2 r k) := by
  blk_ext [iblk, V, A3, e3]
theorem emb4 (r : Fin 512) (k : Fin 2048) : (win0_4.blk t).view.emb (ix2 r k) = ix2 (row t r) k := by
  blk_ext [e4, row]
theorem emb5 (r : Fin 512) (k : Fin 1024) : (win0_5.blk t).view.emb (ix2 r k) = ix2 (row t r) k := by
  blk_ext [e5, row]

/-! ## A group's tiles -/

def tz (h : Fin 4) : S512x512.Idx → EReal := fun i => A1 m c (ix2 (row t (i 0)) (zcol (hcol h (i 1))))
def ty (h : Fin 4) : S512x512.Idx → EReal := fun i => A0 m c (ix2 (row t (i 0)) (hcol h (i 1)))
def tg (h : Fin 4) : S1x512.Idx → EReal := fun i => A2 m c (ix2 (i 0) (hcol h (i 1)))

theorem ldz (h : Fin 4) (o : ℕ) (ho : o = h.val * 512) (inb) :
    View.ld (iblk m c 1 t) (Rect.unit ![0, o] ![512, 512] inb) = tz m c t h := by
  funext i
  refine (View.ld_unit_apply_of _ _ _ _ _ (ix2 (i 0) (hcol h (i 1))) fun a => ?_).trans (blk1 m c t _ _)
  subst ho
  match a with
  | ⟨0, _⟩ => exact (Nat.zero_add _).symm
  | ⟨1, _⟩ => rfl
theorem ldy (h : Fin 4) (o : ℕ) (ho : o = h.val * 512) (inb) :
    View.ld (iblk m c 0 t) (Rect.unit ![0, o] ![512, 512] inb) = ty m c t h := by
  funext i
  refine (View.ld_unit_apply_of _ _ _ _ _ (ix2 (i 0) (hcol h (i 1))) fun a => ?_).trans (blk0 m c t _ _)
  subst ho
  match a with
  | ⟨0, _⟩ => exact (Nat.zero_add _).symm
  | ⟨1, _⟩ => rfl
theorem ldg (h : Fin 4) (o : ℕ) (ho : o = h.val * 512) (inb) :
    View.ld (iblk m c 2 t) (Rect.unit ![0, o] ![1, 512] inb) = tg m c h := by
  funext i
  refine (View.ld_unit_apply_of _ _ _ _ _ (ix2 (i 0) (hcol h (i 1))) fun a => ?_).trans (blk2 m c t _ _)
  subst ho
  match a with
  | ⟨0, _⟩ => exact (Nat.zero_add _).symm
  | ⟨1, _⟩ => rfl

section
variable (z y : S512x512.Idx → EReal) (g : S1x512.Idx → EReal)

/-- A tile's gated values and the mean square of a row of them. -/
def tyg (r k : Fin 512) : EReal := y (ix2 r k) * (z (ix2 r k) * lg (z (ix2 r k)))
def tms (r : Fin 512) : EReal :=
  Ideal.div (∑ k, tyg z y r k * tyg z y r k) (Ideal.ofBits .f32 0x44000000#32) + Ideal.ofBits .f32 0x358637BD#32

theorem pay2 (r k : Fin 512) : k0_pay2 (F := Ideal) z y (ix2 r k) = tyg z y r k := by
  unfold k0_pay2 tyg lg
  pointwise [Ideal.ofBits_one_f32, zero_sub]

theorem pay3 (r k : Fin 512) : k0_pay3 (F := Ideal) (k0_pay2 z y) g (ix2 r k)
    = tyg z y r k * Ideal.rsqrt (tms z y r) * g (ix2 0 k) := by
  unfold k0_pay3 tms
  pointwise [pay2]

/-! ## The other groups' payloads are the second group's -/

theorem pay5 : k0_pay5 (F := Ideal) z y g = k0_pay3 (k0_pay2 z y) g := rfl
theorem pay4 : k0_pay4 (F := Ideal) z y g = k0_pay3 (k0_pay2 z y) g := rfl
theorem pay1 : k0_pay1 (F := Ideal) z y g = k0_pay3 (k0_pay2 z y) g := rfl

end

/-! ## What each point leaves -/

theorem head {h h' : Fin 4} {l l' : Fin 512} {o : ℕ} (e : h.val * 512 + l.val = o + l'.val) (ho : o = h'.val * 512) : h = h' ∧ l = l' :=
  ⟨Fin.ext (by omega), Fin.ext (by omega)⟩

theorem part (h : Fin 4) (r l : Fin 512) : k0_pay3 (F := Ideal) (k0_pay2 (tz m c t h) (ty m c t h)) (tg m c h) (ix2 r l)
    = nrm (A0 m c) (A1 m c) (A2 m c) h (row t r) l := by
  rw [pay3]
  rfl

theorem out4 (r : Fin 512) (h : Fin 4) (l : Fin 512) : (outsAt0 m c t).1 (ix2 r (hcol h l))
    = nrm (A0 m c) (A1 m c) (A2 m c) h (row t r) l := by
  unfold outsAt0
  frame_out
  canon_tiles x hx using View.cover_of_tiled_head _ _ _ (by rfl) _
  all_goals obtain ⟨r', l', rfl⟩ : ∃ (r' : Fin 512) (l' : Fin 512), x = ix2 r' l' := ⟨x 0, x 1, eq_ix2 x⟩
  · obtain rfl : r = r' := Fin.ext hx0
    obtain ⟨rfl, rfl⟩ : h = 3 ∧ l = l' := head hx1 rfl
    rw [pay5, ldz m c t 3 1536 rfl, ldy m c t 3 1536 rfl, ldg m c t 3 1536 rfl]
    exact part m c t 3 r l
  · obtain rfl : r = r' := Fin.ext hx0
    obtain ⟨rfl, rfl⟩ : h = 2 ∧ l = l' := head hx1 rfl
    rw [pay4, ldz m c t 2 1024 rfl, ldy m c t 2 1024 rfl, ldg m c t 2 1024 rfl]
    exact part m c t 2 r l
  · obtain rfl : r = r' := Fin.ext hx0
    obtain ⟨rfl, rfl⟩ : h = 1 ∧ l = l' := head hx1 rfl
    rw [ldz m c t 1 512 rfl, ldy m c t 1 512 rfl, ldg m c t 1 512 rfl]
    exact part m c t 1 r l
  · obtain rfl : r = r' := Fin.ext hx0
    obtain ⟨rfl, rfl⟩ : h = 0 ∧ l = l' := head (hx1.trans (Nat.zero_add _).symm) rfl
    rw [pay1, ldz m c t 0 0 rfl, ldy m c t 0 0 rfl, ldg m c t 0 0 rfl]
    exact part m c t 0 r l

/-- The output projection of a row, from tiles stored before. -/
theorem proj (L : List (View.Piece (Elt Ideal) S512x2048 .bf16)) (z : S512x2048.Idx → EReal) (h : ∀ y, View.canon L y = z y)
    (r : Fin 512) (q : Fin 1024) :
    k0_pay6 (F := Ideal) ((ms0_4 t).view.readCov L (Rect.unit (s := S512x2048) ![0, 0] S512x2048.size inb_S512x2048_S512x2048_0_0).toLoadRect)
      (iblk m c 3 t) (ix2 r q) = ∑ k : Fin 2048, z (ix2 r k) * A3 m c (ix2 k q) := by
  rw [View.readCov_eq_canon']
  have e : (fun j => View.canon L ((Rect.unit (s := S512x2048) ![0, 0] S512x2048.size inb_S512x2048_S512x2048_0_0).toLoadRect.idx j)) = z := by
    funext j
    rw [h]
    refine congrArg z (funext fun a => Fin.ext ?_)
    match a with
    | ⟨0, _⟩ => exact (Nat.zero_add _).trans (Nat.one_mul _)
    | ⟨1, _⟩ => exact (Nat.zero_add _).trans (Nat.one_mul _)
  rw [e]
  unfold k0_pay6
  pointwise [blk3]

theorem out5 (r : Fin 512) (q : Fin 1024) : (outsAt0 m c t).2 (ix2 r q)
    = ∑ k : Fin 2048, (outsAt0 m c t).1 (ix2 r k) * A3 m c (ix2 k q) := by
  generalize hz : (outsAt0 m c t).1 = z
  unfold outsAt0
  frame_out
  refine proj m c t _ z (fun y => ?_) r q
  rw [← hz]
  unfold outsAt0
  frame_out

theorem final4 : (dats m 0 c).arrAt 4 cfg0.N = Cert.GateOutRefIdeal.Read.val_main_v20 (F := Ideal) (A0 m c) (A1 m c) (A2 m c) := by
  refine (dats m 0 c).arrAt_eq_of_covers 4 _ (by decide +kernel) fun t _ y => ?_
  blk_simp
  obtain ⟨r, k, rfl⟩ : ∃ (r : Fin 512) (k : Fin 2048), y = ix2 r k := ⟨y 0, y 1, eq_ix2 y⟩
  obtain ⟨h, l, rfl⟩ := cols k
  rw [after0_4, emb4, out4, v20]

theorem final5 : (dats m 0 c).arrAt 5 cfg0.N
    = Cert.GateOutRefIdeal.Read.val_main_v22 (F := Ideal) (A0 m c) (A1 m c) (A2 m c) (A3 m c) := by
  refine (dats m 0 c).arrAt_eq_of_covers 5 _ (by decide +kernel) fun t _ y => ?_
  blk_simp
  obtain ⟨r, q, rfl⟩ : ∃ (r : Fin 512) (q : Fin 1024), y = ix2 r q := ⟨y 0, y 1, eq_ix2 y⟩
  rw [after0_5, emb5, out5, v22]
  refine Finset.sum_congr (M := EReal) rfl fun k _ => ?_
  obtain ⟨h, l, rfl⟩ := cols k
  rw [out4, v20]

/-! ## The claims -/

theorem ref_frame : Cert.quiescent_GateOutRefIdeal := fun m ρ _ =>
  (θ_run Cert.GateOutRefIdeal.defs _ _).mono (fun r h => ⟨fun c => (h c).2.2,
      Idealize.ShloMosaic.sem_eq_zero_of_no_sems (by decide) r.2⟩)
    (Cert.GateOutRefIdeal.Value.run (F := Ideal) m ρ)

theorem algebraic : Cert.algebraic_GateOutIdeal_GateOutRefIdeal := by
  intro m ρ m' ρ' _ hagree
  refine ⟨fun c => (dats m 0 c).arrAt 4 cfg0.N, fun c => (dats m 0 c).arrAt 5 cfg0.N, Value.run_blocks (F := Ideal) m ρ, ?_⟩
  refine (θ_run Cert.GateOutRefIdeal.defs _ _).mono (fun r h c => ?_) (Cert.GateOutRefIdeal.Value.run (F := Ideal) m' ρ')
  obtain ⟨h0, h1, h⟩ := h c
  obtain ⟨a0, a1, a2, a3⟩ := hagree c
  rw [Cert.GateOutRefIdeal.Read.val_main_v20_eq, a0, a1, a2] at h0
  rw [Cert.GateOutRefIdeal.Read.val_main_v22_eq, a0, a1, a2, a3] at h1
  exact ⟨h0.trans (final4 m c).symm, h1.trans (final5 m c).symm, h⟩

end Cert.Proof.GateOut

end
-- ==== Proof.InDtValue.lean ====
/-
  The step widths' columns of the input projection: a product tiled over rows.
-/
module

public import proofs.«01_k».proof.Defs
public import proofs.«01_k».proof.Proof.Gen.InDtIdeal.Value
public import proofs.«01_k».proof.Proof.Gen.InDtRefIdeal.Run
public import proofs.«01_k».proof.Proof.Gen.InDtRefIdeal.Read
public import Idealize.ShloMosaic.Lib.Pipeline.ValueKit
public import Idealize.ShloMosaic.Lib.Pipeline.ReadBack
public import Idealize.ShloMosaic.Lib.Pointwise

@[expose] public section

noncomputable section

namespace Cert.Proof.InDt

open Cert.InDtIdeal Cert.InDtIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])

/-- The array row of row `r` of point `t`'s tile. -/
def row (t : Fin cfg0.N) (r : Fin 1024) : Fin 8192 := ⟨t.val * 1024 + r.val, by
  have := t.isLt; have h : cfg0.N = 8 := N_0; omega⟩

variable (c : Dev nD) (t : Fin cfg0.N)

theorem blk0 (r : Fin 1024) (k : Fin 1024) :
    iblk m c 0 t (ix2 r k) = m ((c : Thread nD τ).loc main_arg0) (ix2 (row t r) k) := by
  blk_ext [iblk, V, e0, row]
theorem blk1 (r : Fin 128) (k : Fin 1024) :
    iblk m c 1 t (ix2 r k) = m ((c : Thread nD τ).loc main_arg1) (ix2 r k) := by
  blk_ext [iblk, V, e1]
theorem emb2 (r : Fin 1024) (k : Fin 128) : (win0_2.blk t).view.emb (ix2 r k) = ix2 (row t r) k := by
  blk_ext [e2, row]

open Cert.InDtRefIdeal.Read

theorem final2 : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  obtain ⟨r, k, rfl⟩ : ∃ (r : Fin 1024) (k : Fin 128), y = ix2 r k := ⟨y 0, y 1, eq_ix2 y⟩
  rw [after0_2, emb2]
  frame_out
  unfold_payloads
  unfold val_main_v3 val_main_v2 val_main_v1 val_main_v0
  pointwise [blk0, blk1]

theorem ref_frame : Cert.quiescent_InDtRefIdeal := fun m ρ _ =>
  (θ_run Cert.InDtRefIdeal.defs _ _).mono (fun r h => ⟨fun c => (h c).2,
      Idealize.ShloMosaic.sem_eq_zero_of_no_sems (by decide) r.2⟩)
    (Cert.InDtRefIdeal.Value.run (F := Ideal) m ρ)

theorem algebraic : Cert.algebraic_InDtIdeal_InDtRefIdeal := by
  intro m ρ m' ρ' _ hagree
  refine ⟨fun c => (dats m 0 c).arrAt 2 cfg0.N, Value.run_blocks (F := Ideal) m ρ, ?_⟩
  refine (θ_run Cert.InDtRefIdeal.defs _ _).mono (fun r h c => ?_) (Cert.InDtRefIdeal.Value.run (F := Ideal) m' ρ')
  obtain ⟨h0, h⟩ := h c
  obtain ⟨a0, a1⟩ := hagree c
  rw [val_main_v3_eq, a0, a1] at h0
  exact ⟨h0.trans (final2 m c).symm, h⟩

end Cert.Proof.InDt

end
-- ==== Proof.InDuValue.lean ====
/-
  The gradient of the input projection's argument: the kernel sums the products of five tiles of the projection's
  columns, the tiles taken from the three arrays that make up the projection's gradient.
-/
module

public import proofs.«01_k».proof.Defs
public import proofs.«01_k».proof.Proof.Gen.InDuIdeal.Value
public import proofs.«01_k».proof.Proof.Gen.InDuRefIdeal.Run
public import proofs.«01_k».proof.Proof.Gen.InDuRefIdeal.Read
public import Idealize.ShloMosaic.Lib.Pipeline.ValueKit
public import Idealize.ShloMosaic.Lib.Pipeline.ReadBack
public import Idealize.ShloMosaic.Lib.Pointwise

@[expose] public section

noncomputable section

namespace Cert.Proof.InDu

open Cert.InDuIdeal Cert.InDuIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, t.val % 5 ≤ 2 → win0_0.index t = ![t.val / 5, t.val % 5] :=
  (by decide +kernel : ∀ t : Fin grid0.N, t.val % 5 ≤ 2 → win0_0.index t = ![t.val / 5, t.val % 5])
theorem e1 : ∀ t : Fin cfg0.N, win0_1.index t = ![t.val / 5, 0] :=
  (by decide +kernel : ∀ t : Fin grid0.N, win0_1.index t = ![t.val / 5, 0])
theorem e2 : ∀ t : Fin cfg0.N, win0_2.index t = ![t.val / 5, 0] :=
  (by decide +kernel : ∀ t : Fin grid0.N, win0_2.index t = ![t.val / 5, 0])
theorem e3 : ∀ t : Fin cfg0.N, win0_3.index t = ![t.val % 5, 0] :=
  (by decide +kernel : ∀ t : Fin grid0.N, win0_3.index t = ![t.val % 5, 0])
theorem e4 : ∀ t : Fin cfg0.N, win0_4.index t = ![t.val / 5, 0] :=
  (by decide +kernel : ∀ t : Fin grid0.N, win0_4.index t = ![t.val / 5, 0])

/-- The array row of row `r` of point `t`'s tile. -/
def row (t : Fin cfg0.N) (r : Fin 1024) : Fin 8192 := ⟨t.val / 5 * 1024 + r.val, by
  have := t.isLt; have h : cfg0.N = 40 := N_0; omega⟩
/-- The projection's column of column `k` of point `t`'s tile. -/
def col (t : Fin cfg0.N) (k : Fin 2048) : Fin 10240 := ⟨t.val % 5 * 2048 + k.val, by omega⟩

variable (c : Dev nD) (t : Fin cfg0.N)

/-- The four arguments' arrays. -/
def A0 : S8192x6144.Idx → EReal := m ((c : Thread nD τ).loc main_arg0)
def A1 : S8192x2048.Idx → EReal := m ((c : Thread nD τ).loc main_arg1)
def A2 : S8192x2048.Idx → EReal := m ((c : Thread nD τ).loc main_arg2)
def A3 : S10240x1024.Idx → EReal := m ((c : Thread nD τ).loc main_arg3)

theorem blk0 (h : t.val % 5 ≤ 2) (r : Fin 1024) (k : Fin 2048) :
    iblk m c 0 t (ix2 r k) = A0 m c (ix2 (row t r) ⟨t.val % 5 * 2048 + k.val, by omega⟩) := by
  blk_ext [iblk, V, A0, e0 t h, row]
theorem blk1 (r : Fin 1024) (k : Fin 2048) : iblk m c 1 t (ix2 r k) = A1 m c (ix2 (row t r) k) := by
  blk_ext [iblk, V, A1, e1, row]
theorem blk2 (r : Fin 1024) (k : Fin 2048) : iblk m c 2 t (ix2 r k) = A2 m c (ix2 (row t r) k) := by
  blk_ext [iblk, V, A2, e2, row]
theorem blk3 (r : Fin 2048) (k : Fin 1024) : iblk m c 3 t (ix2 r k) = A3 m c (ix2 (col t r) k) := by
  blk_ext [iblk, V, A3, e3, col]
theorem emb4 (r : Fin 1024) (k : Fin 1024) : (win0_4.blk t).view.emb (ix2 r k) = ix2 (row t r) k := by
  blk_ext [e4, row]

/-- The projection's gradient, of its three arrays side by side. -/
def cat (x0 : (⟨2, ![8192, 6144]⟩ : Shape).Idx → EReal) (x1 x2 : (⟨2, ![8192, 2048]⟩ : Shape).Idx → EReal)
    (i : Fin 8192) (l : Fin 10240) : EReal :=
  if h : l.val < 6144 then x0 (ix2 i ⟨l.val, h⟩)
  else if h' : l.val < 8192 then x1 (ix2 i ⟨l.val - 6144, by omega⟩)
  else x2 (ix2 i ⟨l.val - 8192, by omega⟩)

/-- The product of point `t`'s tiles. -/
def part (t : Fin cfg0.N) (i : S1024x1024.Idx) : EReal :=
  ∑ k : Fin 2048, cat (A0 m c) (A1 m c) (A2 m c) (row t (i 0)) (col t k) * A3 m c (ix2 (col t k) (i 1))

theorem scratch_first (h : t.val % 5 = 0) (i : S1024x1024.Idx) :
    (outsAt0 m c t.val t.isLt).2 i = 0 + part m c t i := by
  obtain ⟨r, k, rfl⟩ : ∃ (r : Fin 1024) (k : Fin 1024), i = ix2 r k := ⟨i 0, i 1, eq_ix2 i⟩
  rw [outsAt0_A m c t h (by omega) (by omega) (by omega) (by omega), zero_add]
  frame_out
  unfold k0_pay1 part
  pointwise [blk0 m c t (by omega), blk3]
  refine Finset.sum_congr rfl fun l _ => ?_
  rw [cat, dif_pos (by simp only [col]; omega)]
  rfl

theorem scratch_next (h : ¬t.val % 5 = 0) (i : S1024x1024.Idx) :
    (outsAt0 m c t.val t.isLt).2 i
      = (outsAt0 m c (t.val - 1) (Nat.lt_of_le_of_lt (Nat.sub_le _ _) t.isLt)).2 i + part m c t i := by
  obtain ⟨r, k, rfl⟩ : ∃ (r : Fin 1024) (k : Fin 1024), i = ix2 r k := ⟨i 0, i 1, eq_ix2 i⟩
  by_cases h2 : t.val % 5 ≤ 2
  · rw [outsAt0_B m c t h (by omega) (by omega) (by omega) (by omega)]
    frame_out
    unfold k0_pay2 part
    pointwise [blk0 m c t h2, blk3]
    rw [read_unread_whole]
    refine congrArg _ (Finset.sum_congr rfl fun l _ => ?_)
    rw [cat, dif_pos (by simp only [col]; omega)]
    rfl
  by_cases h3 : t.val % 5 = 3
  · rw [outsAt0_C m c t h (by omega) h3 (by omega) (by omega)]
    frame_out
    unfold k0_pay3 part
    pointwise [blk1, blk3]
    rw [read_unread_whole]
    refine congrArg _ (Finset.sum_congr rfl fun l _ => ?_)
    have hl : (col t l).val = 6144 + l.val := by simp only [col]; omega
    rw [cat, dif_neg (by omega), dif_pos (by omega)]
    simp only [hl, Nat.add_sub_cancel_left]
  · rw [outsAt0_D m c t h (by omega) h3 (by omega) (by omega)]
    frame_out
    unfold k0_pay4 part
    pointwise [blk2, blk3]
    rw [read_unread_whole]
    refine congrArg _ (Finset.sum_congr rfl fun l _ => ?_)
    have hl : (col t l).val = 8192 + l.val := by simp only [col]; omega
    rw [cat, dif_neg (by omega), dif_neg (by omega)]
    simp only [hl, Nat.add_sub_cancel_left]

theorem out_last (h : t.val % 5 = 4) (i : S1024x1024.Idx) :
    (outsAt0 m c t.val t.isLt).1 i = (outsAt0 m c t.val t.isLt).2 i := by
  obtain ⟨r, k, rfl⟩ : ∃ (r : Fin 1024) (k : Fin 1024), i = ix2 r k := ⟨i 0, i 1, eq_ix2 i⟩
  rw [outsAt0_D m c t (by omega) (by omega) (by omega) h h]
  frame_out

theorem scratch_last (h : t.val % 5 = 4) (r : Fin 1024) (k : Fin 1024) :
    (outsAt0 m c t.val t.isLt).2 (ix2 r k)
      = ∑ l : Fin 10240, cat (A0 m c) (A1 m c) (A2 m c) (row t r) l * A3 m c (ix2 l k) := by
  rw [Pipeline.eq_sum_fin_of_reset_step_apply_of_flush (fun n h => (outsAt0 m c n h).2) 5 (fun _ => (0 : EReal)) (part m c)
    (fun t h i => scratch_first m c t h i) (fun t h i => scratch_next m c t h i) t h (ix2 r k), zero_add]
  refine Fin.sum_mul_add_congr fun s l hl => ?_
  have hc : col ⟨5 * (t.val / 5) + s.val, Pipeline.run_point_lt_of_flush t h s⟩ l = ⟨s.val * 2048 + l.val, hl⟩ :=
    Fin.ext (by simp only [col]; omega)
  have hr : row ⟨5 * (t.val / 5) + s.val, Pipeline.run_point_lt_of_flush t h s⟩ r = row t r :=
    Fin.ext (by simp only [row]; omega)
  simp only [ix2_0, ix2_1, hr, hc]

open Cert.InDuRefIdeal.Read

variable (x0 : (⟨2, ![8192, 6144]⟩ : Shape).Idx → EReal) (x1 x2 : (⟨2, ![8192, 2048]⟩ : Shape).Idx → EReal)
  (x3 : (⟨2, ![10240, 1024]⟩ : Shape).Idx → EReal)

theorem ref_cat (i : Fin 8192) (l : Fin 10240) : val_main_v14 (F := Ideal) x0 x1 x2 (ix2 i l) = cat x0 x1 x2 i l := by
  unfold val_main_v14 val_main_v13 val_main_v12 val_main_v11 val_main_v10 val_main_cst_2 val_main_cst_1 val_main_cst_0
    val_main_v2 val_main_v1 val_main_v0
  pointwise
  unfold cat
  have hl := l.isLt
  split_ifs <;> first | omega | simp

theorem ref (i : Fin 8192) (k : Fin 1024) :
    val_main_v15 (F := Ideal) x0 x1 x2 x3 (ix2 i k) = ∑ l : Fin 10240, cat x0 x1 x2 i l * x3 (ix2 l k) := by
  unfold val_main_v15 val_main_v5 val_main_v3
  pointwise [ref_cat]

theorem final4 : (dats m 0 c).arrAt 4 cfg0.N
    = val_main_v15 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  obtain ⟨r, k, rfl⟩ : ∃ (r : Fin 1024) (k : Fin 1024), y = ix2 r k := ⟨y 0, y 1, eq_ix2 y⟩
  have h : t.val % 5 = 4 := (flush0_4 t).mp hf
  rw [after0_4, emb4, ref, out_last m c t h, scratch_last m c t h]
  rfl

theorem ref_frame : Cert.quiescent_InDuRefIdeal := fun m ρ _ =>
  (θ_run Cert.InDuRefIdeal.defs _ _).mono (fun r h => ⟨fun c => (h c).2,
      Idealize.ShloMosaic.sem_eq_zero_of_no_sems (by decide) r.2⟩)
    (Cert.InDuRefIdeal.Value.run (F := Ideal) m ρ)

theorem algebraic : Cert.algebraic_InDuIdeal_InDuRefIdeal := by
  intro m ρ m' ρ' _ hagree
  refine ⟨fun c => (dats m 0 c).arrAt 4 cfg0.N, Value.run_blocks (F := Ideal) m ρ, ?_⟩
  refine (θ_run Cert.InDuRefIdeal.defs _ _).mono (fun r h c => ?_) (Cert.InDuRefIdeal.Value.run (F := Ideal) m' ρ')
  obtain ⟨h0, h⟩ := h c
  obtain ⟨a0, a1, a2, a3⟩ := hagree c
  rw [val_main_v15_eq, a0, a1, a2, a3] at h0
  exact ⟨h0.trans (final4 m c).symm, h⟩

end Cert.Proof.InDu

end
-- ==== Proof.InDwCxValue.lean ====
/-
  The gradient of the input projection's weight at the convolved columns: the kernel sums the products of four tiles of
  rows in a scratch array.
-/
module

public import proofs.«01_k».proof.Defs
public import proofs.«01_k».proof.Proof.Gen.InDwCxIdeal.Value
public import proofs.«01_k».proof.Proof.Gen.InDwCxRefIdeal.Run
public import proofs.«01_k».proof.Proof.Gen.InDwCxRefIdeal.Read
public import Idealize.ShloMosaic.Lib.Pipeline.ValueKit
public import Idealize.ShloMosaic.Lib.Pipeline.ReadBack
public import Idealize.ShloMosaic.Lib.Pointwise

@[expose] public section

noncomputable section

namespace Cert.Proof.InDwCx

open Cert.InDwCxIdeal Cert.InDwCxIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val % 4, t.val / 4] :=
  (by decide +kernel : ∀ t : Fin grid0.N, win0_0.index t = ![t.val % 4, t.val / 4])
theorem e1 : ∀ t : Fin cfg0.N, win0_1.index t = ![t.val % 4, 0] :=
  (by decide +kernel : ∀ t : Fin grid0.N, win0_1.index t = ![t.val % 4, 0])
theorem e2 : ∀ t : Fin cfg0.N, win0_2.index t = ![t.val / 4, 0] :=
  (by decide +kernel : ∀ t : Fin grid0.N, win0_2.index t = ![t.val / 4, 0])

/-- The array row of row `r` of point `t`'s tile. -/
def row (t : Fin cfg0.N) (r : Fin 2048) : Fin 8192 := ⟨t.val % 4 * 2048 + r.val, by omega⟩
/-- The array column of column `k` of point `t`'s tile. -/
def col (t : Fin cfg0.N) (k : Fin 1024) : Fin 6144 := ⟨t.val / 4 * 1024 + k.val, by
  have := t.isLt; have h : cfg0.N = 24 := N_0; omega⟩

variable (c : Dev nD) (t : Fin cfg0.N)

/-- The first argument's array. -/
def A0 : S8192x6144.Idx → EReal := m ((c : Thread nD τ).loc main_arg0)
/-- The second argument's array. -/
def A1 : S8192x1024.Idx → EReal := m ((c : Thread nD τ).loc main_arg1)

theorem blk0 (r : Fin 2048) (k : Fin 1024) :
    iblk m c 0 t (ix2 r k) = A0 m c (ix2 (row t r) (col t k)) := by
  blk_ext [iblk, V, A0, e0, row, col]
theorem blk1 (r : Fin 2048) (k : Fin 1024) :
    iblk m c 1 t (ix2 r k) = A1 m c (ix2 (row t r) k) := by
  blk_ext [iblk, V, A1, e1, row]
theorem emb2 (r : Fin 1024) (k : Fin 1024) : (win0_2.blk t).view.emb (ix2 r k) = ix2 (col t r) k := by
  blk_ext [e2, col]

/-- The product of point `t`'s tiles. -/
def part (t : Fin cfg0.N) (i : S1024x1024.Idx) : EReal :=
  ∑ k : Fin 2048, A0 m c (ix2 (row t k) (col t (i 0))) * A1 m c (ix2 (row t k) (i 1))

theorem pay1 (r : Fin 1024) (k : Fin 1024) :
    k0_pay1 (F := Ideal) (iblk m c 0 t) (iblk m c 1 t) (ix2 r k) = part m c t (ix2 r k) := by
  unfold k0_pay1 part
  pointwise [blk0, blk1]

theorem scratch_first (h : t.val % 4 = 0) (i : S1024x1024.Idx) :
    (outsAt0 m c t.val t.isLt).2 i = 0 + part m c t i := by
  obtain ⟨r, k, rfl⟩ : ∃ (r : Fin 1024) (k : Fin 1024), i = ix2 r k := ⟨i 0, i 1, eq_ix2 i⟩
  rw [outsAt0_A m c t h (by omega) (by omega), zero_add, ← pay1]
  frame_out
  unfold k0_pay2
  pointwise

theorem scratch_next (h : ¬t.val % 4 = 0) (i : S1024x1024.Idx) :
    (outsAt0 m c t.val t.isLt).2 i
      = (outsAt0 m c (t.val - 1) (Nat.lt_of_le_of_lt (Nat.sub_le _ _) t.isLt)).2 i + part m c t i := by
  obtain ⟨r, k, rfl⟩ : ∃ (r : Fin 1024) (k : Fin 1024), i = ix2 r k := ⟨i 0, i 1, eq_ix2 i⟩
  rw [← pay1]
  by_cases h2 : t.val % 4 = 3
  · rw [outsAt0_C m c t h (by omega) h2]
    frame_out
    unfold k0_pay3
    pointwise
    rw [read_unread_whole]
  · rw [outsAt0_B m c t h (by omega) h2]
    frame_out
    unfold k0_pay3
    pointwise
    rw [read_unread_whole]

theorem out_last (h : t.val % 4 = 3) (i : S1024x1024.Idx) :
    (outsAt0 m c t.val t.isLt).1 i = (outsAt0 m c t.val t.isLt).2 i := by
  obtain ⟨r, k, rfl⟩ : ∃ (r : Fin 1024) (k : Fin 1024), i = ix2 r k := ⟨i 0, i 1, eq_ix2 i⟩
  rw [outsAt0_C m c t (by omega) (by omega) h]
  frame_out
  unfold k0_pay4
  pointwise

theorem scratch_last (h : t.val % 4 = 3) (r : Fin 1024) (k : Fin 1024) :
    (outsAt0 m c t.val t.isLt).2 (ix2 r k)
      = ∑ l : Fin 8192, A0 m c (ix2 l (col t r)) * A1 m c (ix2 l k) := by
  rw [Pipeline.eq_sum_fin_of_reset_step_apply_of_flush (fun n h => (outsAt0 m c n h).2) 4 (fun _ => (0 : EReal)) (part m c)
    (fun t h i => scratch_first m c t h i) (fun t h i => scratch_next m c t h i) t h (ix2 r k), zero_add]
  refine Fin.sum_mul_add_congr fun s l hl => ?_
  have hr : row ⟨4 * (t.val / 4) + s.val, Pipeline.run_point_lt_of_flush t h s⟩ l = ⟨s.val * 2048 + l.val, hl⟩ :=
    Fin.ext (by simp only [row]; omega)
  have hc : col ⟨4 * (t.val / 4) + s.val, Pipeline.run_point_lt_of_flush t h s⟩ r = col t r :=
    Fin.ext (by simp only [col]; omega)
  simp only [part, ix2_0, ix2_1, hr, hc]

open Cert.InDwCxRefIdeal.Read

theorem ref (x0 : (⟨2, ![8192, 6144]⟩ : Shape).Idx → EReal) (x1 : (⟨2, ![8192, 1024]⟩ : Shape).Idx → EReal)
    (r : Fin 6144) (k : Fin 1024) :
    val_main_v8 (F := Ideal) x0 x1 (ix2 r k)
      = ∑ l : Fin 8192, x0 (ix2 l r) * x1 (ix2 l k) := by
  unfold val_main_v8 val_main_v7 val_main_v6 val_main_v5 val_main_v1 val_main_v0
  pointwise

theorem final2 : (dats m 0 c).arrAt 2 cfg0.N
    = val_main_v8 (F := Ideal) (m ((c : Thread nD τ).loc main_arg0)) (m ((c : Thread nD τ).loc main_arg1)) := by
  refine (dats m 0 c).arrAt_eq_of_covers 2 _ (by decide +kernel) fun t hf y => ?_
  blk_simp
  obtain ⟨r, k, rfl⟩ : ∃ (r : Fin 1024) (k : Fin 1024), y = ix2 r k := ⟨y 0, y 1, eq_ix2 y⟩
  have h : t.val % 4 = 3 := (flush0_2 t).mp hf
  rw [after0_2, emb2, ref, out_last m c t h, scratch_last m c t h]
  rfl

theorem ref_frame : Cert.quiescent_InDwCxRefIdeal := fun m ρ _ =>
  (θ_run Cert.InDwCxRefIdeal.defs _ _).mono (fun r h => ⟨fun c => (h c).2,
      Idealize.ShloMosaic.sem_eq_zero_of_no_sems (by decide) r.2⟩)
    (Cert.InDwCxRefIdeal.Value.run (F := Ideal) m ρ)

theorem algebraic : Cert.algebraic_InDwCxIdeal_InDwCxRefIdeal := by
  intro m ρ m' ρ' _ hagree
  refine ⟨fun c => (dats m 0 c).arrAt 2 cfg0.N, Value.run_blocks (F := Ideal) m ρ, ?_⟩
  refine (θ_run Cert.InDwCxRefIdeal.defs _ _).mono (fun r h c => ?_) (Cert.InDwCxRefIdeal.Value.run (F := Ideal) m' ρ')
  obtain ⟨h0, h⟩ := h c
  obtain ⟨a0, a1⟩ := hagree c
  rw [val_main_v8_eq, a0, a1] at h0
  exact ⟨h0.trans (final2 m c).symm, h⟩

end Cert.Proof.InDwCx

end
-- ==== Proof.InDwZValue.lean ====
/-
  The gradient of the input projection's weight at the columns of one gate: the kernel sums the products of four tiles
  of rows in a scratch array.
-/
module

public import proofs.«01_k».proof.Defs
public import proofs.«01_k».proof.Proof.Gen.InDwZIdeal.Value
public import proofs.«01_k».proof.Proof.Gen.InDwZRefIdeal.Run
public import proofs.«01_k».proof.Proof.Gen.InDwZRefIdeal.Read
public import Idealize.ShloMosaic.Lib.Pipeline.ValueKit
public import Idealize.ShloMosaic.Lib.Pipeline.ReadBack
public import Idealize.ShloMosaic.Lib.Pointwise

@[expose] public section

noncomputable section

namespace Cert.Proof.InDwZ

open Cert.InDwZIdeal Cert.InDwZIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val % 4, t.val / 4] :=
  (by decide +kernel : ∀ t : Fin grid0.N, win0_0.index t = ![t.val % 4, t.val / 4])
theorem e1 : ∀ t : Fin cfg0.N, win0_1.index t = ![t.val % 4, 0] :=
  (by decide +kernel : ∀ t : Fin grid0.N, win0_1.index t = ![t.val % 4, 0])
theorem e2 : ∀ t : Fin cfg0.N, win0_2.index t = ![t.val / 4, 0] :=
  (by decide +kernel : ∀ t : Fin grid0.N, win0_2.index t = ![t.val / 4, 0])

/-- The array row of row `r` of point `t`'s tile. -/
def row (t : Fin cfg0.N) (r : Fin 2048) : Fin 8192 := ⟨t.val % 4 * 2048 + r.val, by omega⟩
/-- The array column of column `k` of point `t`'s tile. -/
def col (t : Fin cfg0.N) (k : Fin 1024) : Fin 2048 := ⟨t.val / 4 * 1024 + k.val, by
  have := t.isLt; have h : cfg0.N = 8 := N_0; omega⟩

variable (c : Dev nD) (t : Fin cfg0.N)

/-- The first argument's array. -/
def A0 : S8192x2048.Idx → EReal := m ((c : Thread nD τ).loc main_arg0)
/-- The second argument's array. -/
def A1 : S8192x1024.Idx → EReal := m ((c : Thread nD τ).loc main_arg1)

theorem blk0 (r : Fin 2048) (k : Fin 1024) :
    iblk m c 0 t (ix2 r k) = A0 m c (ix2 (row t r) (col t k)) := by
  blk_ext [iblk, V, A0, e0, row, col]
theorem blk1 (r : Fin 2048) (k : Fin 1024) :
    iblk m c 1 t (ix2 r k) = A1 m c (ix2 (row t r) k) := by
  blk_ext [iblk, V, A1, e1, row]
theorem emb2 (r : Fin 1024) (k : Fin 1024) : (win0_2.blk t).view.emb (ix2 r k) = ix2 (col t r) k := by
  blk_ext [e2, col]

/-- The product of point `t`'s tiles. -/
def part (t : Fin cfg0.N) (i : S1024x1024.Idx) : EReal :=
  ∑ k : Fin 2048, A0 m c (ix2 (row t k) (col t (i 0))) * A1 m c (ix2 (row t k) (i 1))

theorem pay1 (r : Fin 1024) (k : Fin 1024) :
    k0_pay1 (F := Ideal) (iblk m c 0 t) (iblk m c 1 t) (ix2 r k) = part m c t (ix2 r k) := by
  unfold k0_pay1 part
  pointwise [blk0, blk1]

theorem scratch_first (h : t.val % 4 = 0) (i : S1024x1024.Idx) :
    (outsAt0 m c t.val t.isLt).2 i = 0 + part m c t i := by
  obtain ⟨r, k, rfl⟩ : ∃ (r : Fin 1024) (k : Fin 1024), i = ix2 r k := ⟨i 0, i 1, eq_ix2 i⟩
  rw [outsAt0_A m c t h (by omega) (by omega), zero_add, ← pay1]
  frame_out
  unfold k0_pay2
  pointwise

theorem scratch_next (h : ¬t.val % 4 = 0) (i : S1024x1024.Idx) :
    (outsAt0 m c t.val t.isLt).2 i
      = (outsAt0 m c (t.val - 1) (Nat.lt_of_le_of_lt (Nat.sub_le _ _) t.isLt)).2 i + part m c t i := by
  obtain ⟨r, k, rfl⟩ : ∃ (r : Fin 1024) (k : Fin 1024), i = ix2 r k := ⟨i 0, i 1, eq_ix2 i⟩
  rw [← pay1]
  by_cases h2 : t.val % 4 = 3
  · rw [outsAt0_C m c t h (by omega) h2]
    frame_out
    unfold k0_pay3
    pointwise
    rw [read_unread_whole]
  · rw [outsAt0_B m c t h (by omega) h2]
    frame_out
    unfold k0_pay3
    pointwise
    rw [read_unread_whole]

theorem out_last (h : t.val % 4 = 3) (i : S1024x1024.Idx) :
    (outsAt0 m c t.val t.isLt).1 i = (outsAt0 m c t.val t.isLt).2 i := by
  obtain ⟨r, k, rfl⟩ : ∃ (r : Fin 1024) (k : Fin 1024), i = ix2 r k := ⟨i 0, i 1, eq_ix2 i⟩
  rw [outsAt0_C m c t (by omega) (by omega) h]
  frame_out
  unfold k0_pay4
  pointwise

theorem scratch_last (h : t.val % 4 = 3) (r : Fin 1024) (k : Fin 1024) :
    (outsAt0 m c t.val t.isLt).2 (ix2 r k)
      = ∑ l : Fin 8192, A0 m c (ix2 l (col t r)) * A1 m c (ix2 l k) := by
  rw [Pipeline.eq_sum_fin_of_reset_step_apply_of_flush (fun n h => (outsAt0 m c n h).2) 4 (fun _ => (0 : EReal)) (part m c)
    (fun t h i => scratch_first m c t h i) (fun t h i => scratch_next m c t h i) t h (ix2 r k), zero_add]
  refine Fin.sum_mul_add_congr fun s l hl => ?_
  have hr : row ⟨4 * (t.val / 4) + s.val, Pipeline.run_point_lt_of_flush t h s⟩ l = ⟨s.val * 2048 + l.val, hl⟩ :=
    Fin.ext (by simp only [row]; omega)
  have hc : col ⟨4 * (t.val / 4) + s.val, Pipeline.run_point_lt_of_flush t h s⟩ r = col t r :=
    Fin.ext (by simp only [col]; omega)
  simp only [part, ix2_0, ix2_1, hr, hc]

open Cert.InDwZRefIdeal.Read

theorem ref (x0 : (⟨2, ![8192, 2048]⟩ : Shape).Idx → EReal) (x1 : (⟨2, ![8192, 1024]⟩ : Shape).Idx → EReal)
    (r : Fin 2048) (k : Fin 1024) :
    val_main_v8 (F := Ideal) x0 x1 (ix2 r k)
      = ∑ l : Fin 8192, x0 (ix2 l r) * x1 (ix2 l k) := by
  unfold val_main_v8 val_main_v7 val_main_v6 val_main_v5 val_main_v1 val_main_v0
  pointwise

theorem final2 : (dats m 0 c).arrAt 2 cfg0.N
    = val_main_v8 (F := Ideal) (m ((c : Thread nD τ).loc main_arg0)) (m ((c : Thread nD τ).loc main_arg1)) := by
  refine (dats m 0 c).arrAt_eq_of_covers 2 _ (by decide +kernel) fun t hf y => ?_
  blk_simp
  obtain ⟨r, k, rfl⟩ : ∃ (r : Fin 1024) (k : Fin 1024), y = ix2 r k := ⟨y 0, y 1, eq_ix2 y⟩
  have h : t.val % 4 = 3 := (flush0_2 t).mp hf
  rw [after0_2, emb2, ref, out_last m c t h, scratch_last m c t h]
  rfl

theorem ref_frame : Cert.quiescent_InDwZRefIdeal := fun m ρ _ =>
  (θ_run Cert.InDwZRefIdeal.defs _ _).mono (fun r h => ⟨fun c => (h c).2,
      Idealize.ShloMosaic.sem_eq_zero_of_no_sems (by decide) r.2⟩)
    (Cert.InDwZRefIdeal.Value.run (F := Ideal) m ρ)

theorem algebraic : Cert.algebraic_InDwZIdeal_InDwZRefIdeal := by
  intro m ρ m' ρ' _ hagree
  refine ⟨fun c => (dats m 0 c).arrAt 2 cfg0.N, Value.run_blocks (F := Ideal) m ρ, ?_⟩
  refine (θ_run Cert.InDwZRefIdeal.defs _ _).mono (fun r h c => ?_) (Cert.InDwZRefIdeal.Value.run (F := Ideal) m' ρ')
  obtain ⟨h0, h⟩ := h c
  obtain ⟨a0, a1⟩ := hagree c
  rw [val_main_v8_eq, a0, a1] at h0
  exact ⟨h0.trans (final2 m c).symm, h⟩

end Cert.Proof.InDwZ

end
-- ==== Proof.InProjValue.lean ====
/-
  The input projection: a product tiled over rows and columns.
-/
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit
public import Idealize.ShloMosaic.Lib.Pipeline.ReadBack
public import Idealize.ShloMosaic.Lib.Pointwise

@[expose] public section

noncomputable section

namespace Cert.Proof.InProj

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val / 5, 0] :=
  (by decide +kernel : ∀ t : Fin grid0.N, win0_0.index t = ![t.val / 5, 0])
theorem e1 : ∀ t : Fin cfg0.N, win0_1.index t = ![t.val % 5, 0] :=
  (by decide +kernel : ∀ t : Fin grid0.N, win0_1.index t = ![t.val % 5, 0])
theorem e3 : ∀ t : Fin cfg0.N, win0_3.index t = ![t.val / 5, t.val % 5] :=
  (by decide +kernel : ∀ t : Fin grid0.N, win0_3.index t = ![t.val / 5, t.val % 5])

/-- The array row of row `r` of point `t`'s tile. -/
def row (t : Fin cfg0.N) (r : Fin 1024) : Fin 8192 := ⟨t.val / 5 * 1024 + r.val, by
  have := t.isLt; have h : cfg0.N = 40 := N_0; omega⟩
/-- The array column of column `k` of point `t`'s tile. -/
def col (t : Fin cfg0.N) (k : Fin 2048) : Fin 10240 := ⟨t.val % 5 * 2048 + k.val, by omega⟩

variable (c : Dev nD) (t : Fin cfg0.N)

theorem blk0 (r : Fin 1024) (k : Fin 1024) :
    iblk m c 0 t (ix2 r k) = m ((c : Thread nD τ).loc main_arg0) (ix2 (row t r) k) := by
  blk_ext [iblk, V, e0, row]
theorem blk1 (r : Fin 2048) (k : Fin 1024) :
    iblk m c 1 t (ix2 r k) = m ((c : Thread nD τ).loc main_arg1) (ix2 (col t r) k) := by
  blk_ext [iblk, V, e1, col]
theorem emb3 (r : Fin 1024) (k : Fin 2048) : (win0_3.blk t).view.emb (ix2 r k) = ix2 (row t r) (col t k) := by
  blk_ext [e3, row, col]

open Cert.InProjRefIdeal.Read

theorem final3 : (dats m 0 c).arrAt 3 cfg0.N
    = val_main_v4 (F := Ideal) (m ((c : Thread nD τ).loc main_arg0)) (m ((c : Thread nD τ).loc main_arg1)) := by
  refine (dats m 0 c).arrAt_eq_of_covers 3 _ (by decide +kernel) fun t hf y => ?_
  blk_simp
  obtain ⟨r, k, rfl⟩ : ∃ (r : Fin 1024) (k : Fin 2048), y = ix2 r k := ⟨y 0, y 1, eq_ix2 y⟩
  rw [after0_3, emb3]
  frame_out
  unfold_payloads
  unfold val_main_v4 val_main_v3 val_main_v2 val_main_v1 val_main_v0
  pointwise [blk0, blk1]

theorem ref_frame : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

theorem algebraic : Cert.algebraic_InProjIdeal_InProjRefIdeal := by
  intro m ρ m' ρ' _ hagree
  refine ⟨fun c => (dats m 0 c).arrAt 3 cfg0.N, Value.run_blocks (F := Ideal) m ρ, ?_⟩
  refine (θ_run Cert.InProjRefIdeal.defs _ _).mono (fun r h c => ?_) (Cert.InProjRefIdeal.Value.run (F := Ideal) m' ρ')
  obtain ⟨h0, h⟩ := h c
  obtain ⟨a0, a1, a2⟩ := hagree c
  rw [val_main_v4_eq, a0, a1] at h0
  exact ⟨h0.trans (final3 m c).symm, h⟩

end Cert.Proof.InProj

end
-- ==== Proof.KvProjValue.lean ====
/-
  The projection of the memory to keys and values: one product.
-/
module

public import proofs.«01_k».proof.Defs
public import proofs.«01_k».proof.Proof.Gen.KvProjIdeal.Value
public import proofs.«01_k».proof.Proof.Gen.KvProjRefIdeal.Run
public import proofs.«01_k».proof.Proof.Gen.KvProjRefIdeal.Read
public import Idealize.ShloMosaic.Lib.Pipeline.ValueKit
public import Idealize.ShloMosaic.Lib.Pipeline.ReadBack
public import Idealize.ShloMosaic.Lib.Pointwise

@[expose] public section

noncomputable section

namespace Cert.Proof.KvProj

open Cert.KvProjIdeal Cert.KvProjIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![0, 0] :=
  (by decide +kernel : ∀ t : Fin grid0.N, win0_0.index t = ![0, 0])
theorem e1 : ∀ t : Fin cfg0.N, win0_1.index t = ![0, 0] :=
  (by decide +kernel : ∀ t : Fin grid0.N, win0_1.index t = ![0, 0])
theorem e2 : ∀ t : Fin cfg0.N, win0_2.index t = ![0, 0] :=
  (by decide +kernel : ∀ t : Fin grid0.N, win0_2.index t = ![0, 0])

/-- The array row of row `r` of point `t`'s tile. -/
def row (t : Fin cfg0.N) (r : Fin 1024) : Fin 1024 := r

variable (c : Dev nD) (t : Fin cfg0.N)

theorem blk0 (r : Fin 1024) (k : Fin 1024) :
    iblk m c 0 t (ix2 r k) = m ((c : Thread nD τ).loc main_arg0) (ix2 (row t r) k) := by
  blk_ext [iblk, V, e0, row]
theorem blk1 (r : Fin 2048) (k : Fin 1024) :
    iblk m c 1 t (ix2 r k) = m ((c : Thread nD τ).loc main_arg1) (ix2 r k) := by
  blk_ext [iblk, V, e1]
theorem emb2 (r : Fin 1024) (k : Fin 2048) : (win0_2.blk t).view.emb (ix2 r k) = ix2 (row t r) k := by
  blk_ext [e2, row]

open Cert.KvProjRefIdeal.Read

theorem final2 : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  obtain ⟨r, k, rfl⟩ : ∃ (r : Fin 1024) (k : Fin 2048), y = ix2 r k := ⟨y 0, y 1, eq_ix2 y⟩
  rw [after0_2, emb2]
  frame_out
  unfold_payloads
  unfold val_main_v4 val_main_v3 val_main_v2 val_main_v1 val_main_v0
  pointwise [blk0, blk1]

theorem ref_frame : Cert.quiescent_KvProjRefIdeal := fun m ρ _ =>
  (θ_run Cert.KvProjRefIdeal.defs _ _).mono (fun r h => ⟨fun c => (h c).2,
      Idealize.ShloMosaic.sem_eq_zero_of_no_sems (by decide) r.2⟩)
    (Cert.KvProjRefIdeal.Value.run (F := Ideal) m ρ)

theorem algebraic : Cert.algebraic_KvProjIdeal_KvProjRefIdeal := by
  intro m ρ m' ρ' _ hagree
  refine ⟨fun c => (dats m 0 c).arrAt 2 cfg0.N, Value.run_blocks (F := Ideal) m ρ, ?_⟩
  refine (θ_run Cert.KvProjRefIdeal.defs _ _).mono (fun r h c => ?_) (Cert.KvProjRefIdeal.Value.run (F := Ideal) m' ρ')
  obtain ⟨h0, h⟩ := h c
  obtain ⟨a0, a1⟩ := hagree c
  rw [val_main_v4_eq, a0, a1] at h0
  exact ⟨h0.trans (final2 m c).symm, h⟩

end Cert.Proof.KvProj

end
-- ==== Proof.MemNormValue.lean ====
/-
  The row norm of the memory.
-/
module

public import proofs.«01_k».proof.Defs
public import proofs.«01_k».proof.Proof.Gen.MemNormIdeal.Value
public import proofs.«01_k».proof.Proof.Gen.MemNormRefIdeal.Run
public import proofs.«01_k».proof.Proof.Gen.MemNormRefIdeal.Read
public import Idealize.ShloMosaic.Lib.Pipeline.ValueKit
public import Idealize.ShloMosaic.Lib.Pipeline.ReadBack
public import Idealize.ShloMosaic.Lib.Pointwise

@[expose] public section

noncomputable section

namespace Cert.Proof.MemNorm

open Cert.MemNormIdeal Cert.MemNormIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])

/-- The array row of row `r` of point `t`'s tile. -/
def row (t : Fin cfg0.N) (r : Fin 512) : Fin 1024 := ⟨t.val * 512 + r.val, by
  have := t.isLt; have h : cfg0.N = 2 := N_0; omega⟩

variable (c : Dev nD) (t : Fin cfg0.N)

theorem blk0 (r : Fin 512) (k : Fin 1024) :
    iblk m c 0 t (ix2 r k) = m ((c : Thread nD τ).loc main_arg0) (ix2 (row t r) k) := by
  blk_ext [iblk, V, e0, row]
theorem blk1 (r : Fin 1) (k : Fin 1024) :
    iblk m c 1 t (ix2 r k) = m ((c : Thread nD τ).loc main_arg1) (ix2 r k) := by
  blk_ext [iblk, V, e1]
theorem emb2 (r : Fin 512) (k : Fin 1024) : (win0_2.blk t).view.emb (ix2 r k) = ix2 (row t r) k := by
  blk_ext [e2, row]

open Cert.MemNormRefIdeal.Read

theorem final2 : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t hf y => ?_
  blk_simp
  obtain ⟨r, k, rfl⟩ : ∃ (r : Fin 512) (k : Fin 1024), y = ix2 r k := ⟨y 0, y 1, eq_ix2 y⟩
  rw [after0_2, emb2]
  frame_out
  unfold_payloads
  unfold val_main_v12 val_main_v11 val_main_v10 val_main_v9 val_main_v8 val_main_v7 val_main_v6 val_main_v5 val_main_v4
    val_main_v3 val_main_v2 val_main_v1 val_main_v0 val_main_cst val_main_cst_0 val_main_cst_1
  pointwise [blk0, blk1]

theorem ref_frame : Cert.quiescent_MemNormRefIdeal := fun m ρ _ =>
  (θ_run Cert.MemNormRefIdeal.defs _ _).mono (fun r h => ⟨fun c => (h c).2,
      Idealize.ShloMosaic.sem_eq_zero_of_no_sems (by decide) r.2⟩)
    (Cert.MemNormRefIdeal.Value.run (F := Ideal) m ρ)

theorem algebraic : Cert.algebraic_MemNormIdeal_MemNormRefIdeal := by
  intro m ρ m' ρ' _ hagree
  refine ⟨fun c => (dats m 0 c).arrAt 2 cfg0.N, Value.run_blocks (F := Ideal) m ρ, ?_⟩
  refine (θ_run Cert.MemNormRefIdeal.defs _ _).mono (fun r h c => ?_) (Cert.MemNormRefIdeal.Value.run (F := Ideal) m' ρ')
  obtain ⟨h0, h⟩ := h c
  obtain ⟨a0, a1⟩ := hagree c
  rw [val_main_v12_eq, a0, a1] at h0
  exact ⟨h0.trans (final2 m c).symm, h⟩

end Cert.Proof.MemNorm

end
-- ==== Proof.MergeOutValue.lean ====
/-
  The merge of the two branches, the mixing product added to the residual, and the row norm of the sum.
-/
module

public import proofs.«01_k».proof.Defs
public import proofs.«01_k».proof.Proof.Gen.MergeOutIdeal.Value
public import proofs.«01_k».proof.Proof.Gen.MergeOutRefIdeal.Run
public import proofs.«01_k».proof.Proof.Gen.MergeOutRefIdeal.Read
public import Idealize.ShloMosaic.Lib.Pipeline.ValueKit
public import Idealize.ShloMosaic.Lib.Pipeline.ReadBack
public import Idealize.ShloMosaic.Lib.Pointwise

@[expose] public section

noncomputable section

namespace Cert.Proof.MergeOut

open Cert.MergeOutIdeal Cert.MergeOutIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![t.val, 0] :=
  (by decide +kernel : ∀ t : Fin grid0.N, win0_1.index t = ![t.val, 0])
theorem e2 : ∀ t : Fin cfg0.N, win0_2.index t = ![t.val, 8] :=
  (by decide +kernel : ∀ t : Fin grid0.N, win0_2.index t = ![t.val, 8])
theorem e3 : ∀ t : Fin cfg0.N, win0_3.index t = ![t.val, 9] :=
  (by decide +kernel : ∀ t : Fin grid0.N, win0_3.index t = ![t.val, 9])
theorem e4 : ∀ t : Fin cfg0.N, win0_4.index t = ![0, 0] :=
  (by decide +kernel : ∀ t : Fin grid0.N, win0_4.index t = ![0, 0])
theorem e5 : ∀ t : Fin cfg0.N, win0_5.index t = ![t.val, 0] :=
  (by decide +kernel : ∀ t : Fin grid0.N, win0_5.index t = ![t.val, 0])
theorem e6 : ∀ t : Fin cfg0.N, win0_6.index t = ![0, 0] :=
  (by decide +kernel : ∀ t : Fin grid0.N, win0_6.index t = ![0, 0])
theorem e7 : ∀ t : Fin cfg0.N, win0_7.index t = ![t.val, 0] :=
  (by decide +kernel : ∀ t : Fin grid0.N, win0_7.index t = ![t.val, 0])
theorem e8 : ∀ t : Fin cfg0.N, win0_8.index t = ![t.val, 0] :=
  (by decide +kernel : ∀ t : Fin grid0.N, win0_8.index t = ![t.val, 0])
theorem e9 : ∀ t : Fin cfg0.N, win0_9.index t = ![t.val, 0] :=
  (by decide +kernel : ∀ t : Fin grid0.N, win0_9.index t = ![t.val, 0])

/-- The array row of row `r` of point `t`'s tile. -/
def row (t : Fin cfg0.N) (r : Fin 512) : Fin 8192 := ⟨t.val * 512 + r.val, by
  have := t.isLt; have h : cfg0.N = 16 := N_0; omega⟩

variable (c : Dev nD) (t : Fin cfg0.N)

/-- The six arguments' arrays. -/
def A0 : S8192x1024.Idx → EReal := m ((c : Thread nD τ).loc main_arg0)
def A1 : S8192x1024.Idx → EReal := m ((c : Thread nD τ).loc main_arg1)
def A2 : S8192x10240.Idx → EReal := m ((c : Thread nD τ).loc main_arg2)
def A3 : S1024x1024.Idx → EReal := m ((c : Thread nD τ).loc main_arg3)
def A4 : S8192x1024.Idx → EReal := m ((c : Thread nD τ).loc main_arg4)
def A5 : S1x1024.Idx → EReal := m ((c : Thread nD τ).loc main_arg5)

theorem blk0 (r : Fin 512) (k : Fin 1024) : iblk m c 0 t (ix2 r k) = A0 m c (ix2 (row t r) k) := by
  blk_ext [iblk, V, A0, e0, row]
theorem blk1 (r : Fin 512) (k : Fin 1024) : iblk m c 1 t (ix2 r k) = A1 m c (ix2 (row t r) k) := by
  blk_ext [iblk, V, A1, e1, row]
theorem blk2 (r : Fin 512) (k : Fin 1024) : iblk m c 2 t (ix2 r k) = A2 m c (ix2 (row t r) ⟨8192 + k.val, by omega⟩) := by
  blk_ext [iblk, V, A2, e2, row]
theorem blk3 (r : Fin 512) (k : Fin 1024) : iblk m c 3 t (ix2 r k) = A2 m c (ix2 (row t r) ⟨9216 + k.val, by omega⟩) := by
  blk_ext [iblk, V, A2, e3, row]
theorem blk4 (r : Fin 1024) (k : Fin 1024) : iblk m c 4 t (ix2 r k) = A3 m c (ix2 r k) := by
  blk_ext [iblk, V, A3, e4]
theorem blk5 (r : Fin 512) (k : Fin 1024) : iblk m c 5 t (ix2 r k) = A4 m c (ix2 (row t r) k) := by
  blk_ext [iblk, V, A4, e5, row]
theorem blk6 (r : Fin 1) (k : Fin 1024) : iblk m c 6 t (ix2 r k) = A5 m c (ix2 r k) := by
  blk_ext [iblk, V, A5, e6]
theorem emb7 (r : Fin 512) (k : Fin 1024) : (win0_7.blk t).view.emb (ix2 r k) = ix2 (row t r) k := by
  blk_ext [e7, row]
theorem emb8 (r : Fin 512) (k : Fin 1024) : (win0_8.blk t).view.emb (ix2 r k) = ix2 (row t r) k := by
  blk_ext [e8, row]
theorem emb9 (r : Fin 512) (k : Fin 1024) : (win0_9.blk t).view.emb (ix2 r k) = ix2 (row t r) k := by
  blk_ext [e9, row]

open Cert.MergeOutRefIdeal.Read

variable (x0 x1 : (⟨2, ![8192, 1024]⟩ : Shape).Idx → EReal) (x2 : (⟨2, ![8192, 10240]⟩ : Shape).Idx → EReal)
  (x3 : (⟨2, ![1024, 1024]⟩ : Shape).Idx → EReal) (x4 : (⟨2, ![8192, 1024]⟩ : Shape).Idx → EReal)
  (x5 : (⟨2, ![1, 1024]⟩ : Shape).Idx → EReal)

/-- The logistic function of the gate at column `o + k`. -/
def gate (o : Nat) (ho : o + 1024 ≤ 10240) (i : Fin 8192) (k : Fin 1024) : EReal :=
  Ideal.div 1 (1 + Ideal.exp (0 - x2 (ix2 i ⟨o + k.val, by omega⟩)))

/-- The merged branches. -/
def merged (i : Fin 8192) (k : Fin 1024) : EReal :=
  gate x2 8192 (by omega) i k * x0 (ix2 i k) + gate x2 9216 (by omega) i k * x1 (ix2 i k)

/-- The residual sum. -/
def sum (i : Fin 8192) (k : Fin 1024) : EReal := x4 (ix2 i k) + ∑ l : Fin 1024, merged x0 x1 x2 i l * x3 (ix2 l k)

theorem ref20 (i : Fin 8192) (k : Fin 1024) : val_main_v20 (F := Ideal) x0 x1 x2 (ix2 i k) = merged x0 x1 x2 i k := by
  unfold val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v2 val_main_v1
    val_main_v0 val_main_cst val_main_cst_0 val_main_cst_1 val_main_cst_2 merged gate
  pointwise
  rw [zero_sub, zero_sub]

theorem ref22 (i : Fin 8192) (k : Fin 1024) :
    val_main_v22 (F := Ideal) x0 x1 x2 x3 x4 (ix2 i k) = sum x0 x1 x2 x3 x4 i k := by
  unfold val_main_v22 val_main_v21 val_main_v3 sum
  pointwise [ref20]

theorem pay2 (r : Fin 512) (k : Fin 1024) :
    k0_pay2 (F := Ideal) (iblk m c 2 t) (iblk m c 0 t) (iblk m c 3 t) (iblk m c 1 t) (ix2 r k)
      = merged (A0 m c) (A1 m c) (A2 m c) (row t r) k := by
  unfold k0_pay2 merged gate
  pointwise [blk0, blk1, blk2, blk3]

theorem pay3 (r : Fin 512) (k : Fin 1024) :
    k0_pay3 (F := Ideal) (iblk m c 2 t) (iblk m c 0 t) (iblk m c 3 t) (iblk m c 1 t) (iblk m c 5 t) (iblk m c 4 t) (ix2 r k)
      = sum (A0 m c) (A1 m c) (A2 m c) (A3 m c) (A4 m c) (row t r) k := by
  unfold k0_pay3 sum
  pointwise [pay2, blk4, blk5]

theorem final7 : (dats m 0 c).arrAt 7 cfg0.N = val_main_v23 (F := Ideal) (A0 m c) (A1 m c) (A2 m c) := by
  refine (dats m 0 c).arrAt_eq_of_covers 7 _ (by decide +kernel) fun t hf y => ?_
  blk_simp
  obtain ⟨r, k, rfl⟩ : ∃ (r : Fin 512) (k : Fin 1024), y = ix2 r k := ⟨y 0, y 1, eq_ix2 y⟩
  rw [after0_7, emb7]
  frame_out
  unfold val_main_v23
  pointwise [ref20]
  exact pay2 m c t r k

theorem final8 : (dats m 0 c).arrAt 8 cfg0.N = val_main_v22 (F := Ideal) (A0 m c) (A1 m c) (A2 m c) (A3 m c) (A4 m c) := by
  refine (dats m 0 c).arrAt_eq_of_covers 8 _ (by decide +kernel) fun t hf y => ?_
  blk_simp
  obtain ⟨r, k, rfl⟩ : ∃ (r : Fin 512) (k : Fin 1024), y = ix2 r k := ⟨y 0, y 1, eq_ix2 y⟩
  rw [after0_8, emb8, ref22]
  frame_out
  exact pay3 m c t r k

theorem final9 : (dats m 0 c).arrAt 9 cfg0.N
    = val_main_v36 (F := Ideal) (A0 m c) (A1 m c) (A2 m c) (A3 m c) (A4 m c) (A5 m c) := by
  refine (dats m 0 c).arrAt_eq_of_covers 9 _ (by decide +kernel) fun t hf y => ?_
  blk_simp
  obtain ⟨r, k, rfl⟩ : ∃ (r : Fin 512) (k : Fin 1024), y = ix2 r k := ⟨y 0, y 1, eq_ix2 y⟩
  rw [after0_9, emb9]
  frame_out
  unfold k0_pay1 k0_pay4 k0_pay5 val_main_v36 val_main_v35 val_main_v34 val_main_v33 val_main_v32 val_main_v31 val_main_v30
    val_main_v29 val_main_v28 val_main_v27 val_main_v26 val_main_v25 val_main_v24 val_main_cst_3 val_main_cst_4 val_main_cst_5
  pointwise [pay3, blk6, ref22]

theorem ref_frame : Cert.quiescent_MergeOutRefIdeal := fun m ρ _ =>
  (θ_run Cert.MergeOutRefIdeal.defs _ _).mono (fun r h => ⟨fun c => (h c).2.2.2,
      Idealize.ShloMosaic.sem_eq_zero_of_no_sems (by decide) r.2⟩)
    (Cert.MergeOutRefIdeal.Value.run (F := Ideal) m ρ)

theorem algebraic : Cert.algebraic_MergeOutIdeal_MergeOutRefIdeal := by
  intro m ρ m' ρ' _ hagree
  refine ⟨fun c => (dats m 0 c).arrAt 7 cfg0.N, fun c => (dats m 0 c).arrAt 8 cfg0.N,
    fun c => (dats m 0 c).arrAt 9 cfg0.N, Value.run_blocks (F := Ideal) m ρ, ?_⟩
  refine (θ_run Cert.MergeOutRefIdeal.defs _ _).mono (fun r h c => ?_) (Cert.MergeOutRefIdeal.Value.run (F := Ideal) m' ρ')
  obtain ⟨h0, h1, h2, h⟩ := h c
  obtain ⟨a0, a1, a2, a3, a4, a5⟩ := hagree c
  rw [val_main_v23_eq, a0, a1, a2] at h0
  rw [val_main_v22_eq, a0, a1, a2, a3, a4] at h1
  rw [val_main_v36_eq, a0, a1, a2, a3, a4, a5] at h2
  exact ⟨h0.trans (final7 m c).symm, h1.trans (final8 m c).symm, h2.trans (final9 m c).symm, h⟩

end Cert.Proof.MergeOut

end
-- ==== Proof.MergeValue.lean ====
/-
  The gradient of the merge of the two branches: what the kernel's three result arrays hold after the run, read as the
  reference's values of the same arguments.
-/
module

public import proofs.«01_k».proof.Defs
public import proofs.«01_k».proof.Proof.Gen.MergeIdeal.Value
public import proofs.«01_k».proof.Proof.Gen.MergeRefIdeal.Read
public import Idealize.ShloMosaic.Lib.Pipeline.ValueKit
public import Idealize.ShloMosaic.Lib.Pointwise

@[expose] public section

noncomputable section

namespace Cert.Proof.Merge

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-! ## Where each window's block lies -/

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])
theorem e3 : ∀ t : Fin cfg0.N, win0_3.index t = ![t.val, 0] :=
  (by decide +kernel : ∀ t : Fin grid0.N, win0_3.index t = ![t.val, 0])
theorem e4 : ∀ t : Fin cfg0.N, win0_4.index t = ![t.val, 8] :=
  (by decide +kernel : ∀ t : Fin grid0.N, win0_4.index t = ![t.val, 8])
theorem e5 : ∀ t : Fin cfg0.N, win0_5.index t = ![t.val, 9] :=
  (by decide +kernel : ∀ t : Fin grid0.N, win0_5.index t = ![t.val, 9])
theorem e6 : ∀ t : Fin cfg0.N, win0_6.index t = ![t.val, 0] :=
  (by decide +kernel : ∀ t : Fin grid0.N, win0_6.index t = ![t.val, 0])
theorem e7 : ∀ t : Fin cfg0.N, win0_7.index t = ![t.val, 0] :=
  (by decide +kernel : ∀ t : Fin grid0.N, win0_7.index t = ![t.val, 0])
theorem e8 : ∀ t : Fin cfg0.N, win0_8.index t = ![t.val, 0] :=
  (by decide +kernel : ∀ t : Fin grid0.N, win0_8.index t = ![t.val, 0])

/-- The array row of row `r` of point `t`'s block. -/
def row (t : Fin cfg0.N) (r : Fin 512) : Fin 8192 := ⟨t.val * 512 + r.val, by
  have := t.isLt; have h : cfg0.N = 16 := N_0; omega⟩

variable (c : Dev nD) (t : Fin cfg0.N)

theorem blk0 (r : Fin 512) (k : Fin 1024) :
    iblk m c 0 t (ix2 r k) = m ((c : Thread nD τ).loc main_arg0) (ix2 (row t r) k) := by
  blk_ext [iblk, V, e0, row]
theorem blk1 (r : Fin 1024) (k : Fin 1024) :
    iblk m c 1 t (ix2 r k) = m ((c : Thread nD τ).loc main_arg1) (ix2 r k) := by
  blk_ext [iblk, V, e1]
theorem blk2 (r : Fin 512) (k : Fin 1024) :
    iblk m c 2 t (ix2 r k) = m ((c : Thread nD τ).loc main_arg2) (ix2 (row t r) k) := by
  blk_ext [iblk, V, e2, row]
theorem blk3 (r : Fin 512) (k : Fin 1024) :
    iblk m c 3 t (ix2 r k) = m ((c : Thread nD τ).loc main_arg3) (ix2 (row t r) k) := by
  blk_ext [iblk, V, e3, row]
theorem blk4 (r : Fin 512) (k : Fin 1024) :
    iblk m c 4 t (ix2 r k) = m ((c : Thread nD τ).loc main_arg4) (ix2 (row t r) ⟨8192 + k.val, by omega⟩) := by
  blk_ext [iblk, V, e4, row]
theorem blk5 (r : Fin 512) (k : Fin 1024) :
    iblk m c 5 t (ix2 r k) = m ((c : Thread nD τ).loc main_arg4) (ix2 (row t r) ⟨9216 + k.val, by omega⟩) := by
  blk_ext [iblk, V, e5, row]

theorem emb6 (r : Fin 512) (k : Fin 1024) : (win0_6.blk t).view.emb (ix2 r k) = ix2 (row t r) k := by
  blk_ext [e6, row]

theorem emb7 (r : Fin 512) (k : Fin 1024) : (win0_7.blk t).view.emb (ix2 r k) = ix2 (row t r) k := by
  blk_ext [e7, row]
theorem emb8 (r : Fin 512) (k : Fin 2048) : (win0_8.blk t).view.emb (ix2 r k) = ix2 (row t r) k := by
  blk_ext [e8, row]

theorem hz : (![0, 0] : Fin 2 → Nat) = fun _ => 0 := funext fun a => by fin_cases a <;> rfl

/-! ## The reference's values at an index -/

open Cert.MergeRefIdeal.Read

variable (x0 : (⟨2, ![8192, 1024]⟩ : Shape).Idx → EReal) (x1 : (⟨2, ![1024, 1024]⟩ : Shape).Idx → EReal)
  (x2 x3 : (⟨2, ![8192, 1024]⟩ : Shape).Idx → EReal) (x4 : (⟨2, ![8192, 10240]⟩ : Shape).Idx → EReal)

/-- The logistic function of the gate at column `o + k`. -/
def gate (o : Nat) (ho : o + 1024 ≤ 10240) (i : Fin 8192) (k : Fin 1024) : EReal :=
  Ideal.div 1 (1 + Ideal.exp (0 - x4 (ix2 i ⟨o + k.val, by omega⟩)))

/-- The gradient of the mixed value. -/
def mixed (i : Fin 8192) (k : Fin 1024) : EReal := ∑ x : Fin 1024, x0 (ix2 i x) * x1 (ix2 k x)

theorem ref_gate_a (i : Fin 8192) (k : Fin 1024) :
    val_main_v11 (F := Ideal) x4 (ix2 i k) = gate x4 8192 (by omega) i k := by
  unfold val_main_v11 val_main_v9 val_main_v7 val_main_v6 val_main_v4 val_main_v3 val_main_v8 val_main_v10 val_main_cst val_main_cst_0 gate
  pointwise
  rw [zero_sub]

theorem ref_gate_b (i : Fin 8192) (k : Fin 1024) :
    val_main_v21 (F := Ideal) x4 (ix2 i k) = gate x4 9216 (by omega) i k := by
  unfold val_main_v21 val_main_v19 val_main_v17 val_main_v16 val_main_v5 val_main_v3 val_main_v18 val_main_v20 val_main_cst_2 val_main_cst_3 gate
  pointwise
  rw [zero_sub]

theorem ref_mixed (i : Fin 8192) (k : Fin 1024) :
    val_main_v28 (F := Ideal) x0 x1 (ix2 i k) = mixed x0 x1 i k := by
  unfold val_main_v28 val_main_v0 mixed
  pointwise

theorem ref35 (i : Fin 8192) (k : Fin 1024) :
    val_main_v35 (F := Ideal) x0 x1 x4 (ix2 i k) = gate x4 8192 (by omega) i k * mixed x0 x1 i k := by
  unfold val_main_v35 val_main_v32
  pointwise [ref_gate_a, ref_mixed]

theorem ref36 (i : Fin 8192) (k : Fin 1024) :
    val_main_v36 (F := Ideal) x0 x1 x4 (ix2 i k) = gate x4 9216 (by omega) i k * mixed x0 x1 i k := by
  unfold val_main_v36 val_main_v29
  pointwise [ref_gate_b, ref_mixed]

theorem ref34 (i : Fin 8192) (k : Fin 1024) :
    val_main_v34 (F := Ideal) x0 x1 x2 x4 (ix2 i k)
      = mixed x0 x1 i k * x2 (ix2 i k) * (gate x4 8192 (by omega) i k * (1 - gate x4 8192 (by omega) i k)) := by
  unfold val_main_v34 val_main_v33 val_main_v14 val_main_v13 val_main_v12 val_main_cst_1 val_main_v1
  pointwise [ref_gate_a, ref_mixed]

theorem ref31 (i : Fin 8192) (k : Fin 1024) :
    val_main_v31 (F := Ideal) x0 x1 x3 x4 (ix2 i k)
      = mixed x0 x1 i k * x3 (ix2 i k) * (gate x4 9216 (by omega) i k * (1 - gate x4 9216 (by omega) i k)) := by
  unfold val_main_v31 val_main_v30 val_main_v24 val_main_v23 val_main_v22 val_main_cst_4 val_main_v2
  pointwise [ref_gate_b, ref_mixed]

theorem ref38_left (i : Fin 8192) (k : Fin 2048) (l : Fin 1024) (h : k.val = l.val) :
    val_main_v38 (F := Ideal) x0 x1 x2 x3 x4 (ix2 i k)
      = mixed x0 x1 i l * x2 (ix2 i l) * (gate x4 8192 (by omega) i l * (1 - gate x4 8192 (by omega) i l)) := by
  rw [show k = ⟨l.val, by omega⟩ from Fin.ext h]
  unfold val_main_v38 val_main_v37
  pointwise [ref34, ref31]

theorem ref38_right (i : Fin 8192) (k : Fin 2048) (l : Fin 1024) (h : k.val = 1024 + l.val) :
    val_main_v38 (F := Ideal) x0 x1 x2 x3 x4 (ix2 i k)
      = mixed x0 x1 i l * x3 (ix2 i l) * (gate x4 9216 (by omega) i l * (1 - gate x4 9216 (by omega) i l)) := by
  rw [show k = ⟨1024 + l.val, by omega⟩ from Fin.ext h]
  unfold val_main_v38 val_main_v37
  pointwise [ref34, ref31]

/-! ## What the kernel leaves -/

theorem final6 : (dats m 0 c).arrAt 6 cfg0.N
    = val_main_v35 (F := Ideal) (m ((c : Thread nD τ).loc main_arg0)) (m ((c : Thread nD τ).loc main_arg1)) (m ((c : Thread nD τ).loc main_arg4)) := by
  refine (dats m 0 c).arrAt_eq_of_covers 6 _ (by decide +kernel) fun t hf y => ?_
  blk_simp
  obtain ⟨r, k, rfl⟩ : ∃ (r : Fin 512) (k : Fin 1024), y = ix2 r k := ⟨y 0, y 1, eq_ix2 y⟩
  rw [after0_6, emb6, ref35, mul_comm]
  frame_out
  unfold_payloads
  pointwise [blk0, blk1, blk4]
  rfl

theorem final7 : (dats m 0 c).arrAt 7 cfg0.N
    = val_main_v36 (F := Ideal) (m ((c : Thread nD τ).loc main_arg0)) (m ((c : Thread nD τ).loc main_arg1)) (m ((c : Thread nD τ).loc main_arg4)) := by
  refine (dats m 0 c).arrAt_eq_of_covers 7 _ (by decide +kernel) fun t hf y => ?_
  blk_simp
  obtain ⟨r, k, rfl⟩ : ∃ (r : Fin 512) (k : Fin 1024), y = ix2 r k := ⟨y 0, y 1, eq_ix2 y⟩
  rw [after0_7, emb7, ref36, mul_comm]
  frame_out
  unfold_payloads
  pointwise [blk0, blk1, blk5]
  rfl

theorem final8 : (dats m 0 c).arrAt 8 cfg0.N
    = val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  obtain ⟨r, k, rfl⟩ : ∃ (r : Fin 512) (k : Fin 2048), y = ix2 r k := ⟨y 0, y 1, eq_ix2 y⟩
  rw [after0_8, emb8]
  frame_out
  canon_tiles x h using cover0_8 ..
  all_goals obtain ⟨r', l, rfl⟩ : ∃ (r' : Fin 512) (l : Fin 1024), x = ix2 r' l := ⟨x 0, x 1, eq_ix2 x⟩
  · obtain rfl : r = r' := Fin.ext h0
    rw [ref38_right _ _ _ _ _ _ k l h1, ← mul_assoc]
    unfold_payloads
    pointwise [blk0, blk1, blk3, blk5]
    rfl
  · obtain rfl : r = r' := Fin.ext h0
    rw [ref38_left _ _ _ _ _ _ k l h1, ← mul_assoc]
    unfold_payloads
    pointwise [blk0, blk1, blk2, blk4]
    rfl

/-! ## The claims -/

theorem ref_frame : Cert.quiescent_MergeRefIdeal := fun m ρ _ =>
  (θ_run Cert.MergeRefIdeal.defs _ _).mono (fun r h => ⟨fun c => (h c).2.2.2,
      Idealize.ShloMosaic.sem_eq_zero_of_no_sems (by decide) r.2⟩)
    (Cert.MergeRefIdeal.Value.run (F := Ideal) m ρ)

theorem algebraic : Cert.algebraic_MergeIdeal_MergeRefIdeal := by
  intro m ρ m' ρ' _ hagree
  refine ⟨fun c => (dats m 0 c).arrAt 6 cfg0.N, fun c => (dats m 0 c).arrAt 7 cfg0.N,
    fun c => (dats m 0 c).arrAt 8 cfg0.N, Value.run_blocks (F := Ideal) m ρ, ?_⟩
  refine (θ_run Cert.MergeRefIdeal.defs _ _).mono (fun r h c => ?_) (Cert.MergeRefIdeal.Value.run (F := Ideal) m' ρ')
  obtain ⟨h0, h1, h2, h⟩ := h c
  obtain ⟨a0, a1, a2, a3, a4⟩ := hagree c
  rw [val_main_v35_eq, a0, a1, a4] at h0
  rw [val_main_v36_eq, a0, a1, a4] at h1
  rw [val_main_v38_eq, a0, a1, a2, a3, a4] at h2
  exact ⟨h0.trans (final6 m c).symm, h1.trans (final7 m c).symm, h2.trans (final8 m c).symm, h⟩

end Cert.Proof.Merge

end
-- ==== Proof.OProjValue.lean ====
/-
  The attention's output projection: the residual sum and its scaled row norm.
-/
module

public import proofs.«01_k».proof.Defs
public import proofs.«01_k».proof.Proof.Gen.OProjIdeal.Value
public import proofs.«01_k».proof.Proof.Gen.OProjRefIdeal.Run
public import proofs.«01_k».proof.Proof.Gen.OProjRefIdeal.Read
public import Idealize.ShloMosaic.Lib.Pipeline.ValueKit
public import Idealize.ShloMosaic.Lib.Pipeline.ReadBack
public import Idealize.ShloMosaic.Lib.Pointwise

@[expose] public section

noncomputable section

namespace Cert.Proof.OProj

open Cert.OProjIdeal Cert.OProjIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])
theorem e3 : ∀ t : Fin cfg0.N, win0_3.index t = ![0, 0] :=
  (by decide +kernel : ∀ t : Fin grid0.N, win0_3.index t = ![0, 0])
theorem e4 : ∀ t : Fin cfg0.N, win0_4.index t = ![t.val, 0] :=
  (by decide +kernel : ∀ t : Fin grid0.N, win0_4.index t = ![t.val, 0])
theorem e5 : ∀ t : Fin cfg0.N, win0_5.index t = ![t.val, 0] :=
  (by decide +kernel : ∀ t : Fin grid0.N, win0_5.index t = ![t.val, 0])

/-- The array row of row `r` of point `t`'s tile. -/
def row (t : Fin cfg0.N) (r : Fin 1024) : Fin 8192 := ⟨t.val * 1024 + r.val, by
  have := t.isLt; have h : cfg0.N = 8 := N_0; omega⟩

variable (c : Dev nD) (t : Fin cfg0.N)

/-- The four arguments' arrays. -/
def A0 : S8192x1024.Idx → EReal := m ((c : Thread nD τ).loc main_arg0)
def A1 : S1024x1024.Idx → EReal := m ((c : Thread nD τ).loc main_arg1)
def A2 : S8192x1024.Idx → EReal := m ((c : Thread nD τ).loc main_arg2)
def A3 : S1x1024.Idx → EReal := m ((c : Thread nD τ).loc main_arg3)

theorem blk0 (r : Fin 1024) (k : Fin 1024) : iblk m c 0 t (ix2 r k) = A0 m c (ix2 (row t r) k) := by
  blk_ext [iblk, V, A0, e0, row]
theorem blk1 (r : Fin 1024) (k : Fin 1024) : iblk m c 1 t (ix2 r k) = A1 m c (ix2 r k) := by
  blk_ext [iblk, V, A1, e1]
theorem blk2 (r : Fin 1024) (k : Fin 1024) : iblk m c 2 t (ix2 r k) = A2 m c (ix2 (row t r) k) := by
  blk_ext [iblk, V, A2, e2, row]
theorem blk3 (r : Fin 1) (k : Fin 1024) : iblk m c 3 t (ix2 r k) = A3 m c (ix2 r k) := by
  blk_ext [iblk, V, A3, e3]
theorem emb4 (r : Fin 1024) (k : Fin 1024) : (win0_4.blk t).view.emb (ix2 r k) = ix2 (row t r) k := by
  blk_ext [e4, row]
theorem emb5 (r : Fin 1024) (k : Fin 1024) : (win0_5.blk t).view.emb (ix2 r k) = ix2 (row t r) k := by
  blk_ext [e5, row]

open Cert.OProjRefIdeal.Read

/-- The residual sum. -/
def sum (x0 : (⟨2, ![8192, 1024]⟩ : Shape).Idx → EReal) (x1 : (⟨2, ![1024, 1024]⟩ : Shape).Idx → EReal)
    (x2 : (⟨2, ![8192, 1024]⟩ : Shape).Idx → EReal) (i : Fin 8192) (k : Fin 1024) : EReal :=
  x2 (ix2 i k) + ∑ l : Fin 1024, x0 (ix2 i l) * x1 (ix2 l k)

variable (x0 : (⟨2, ![8192, 1024]⟩ : Shape).Idx → EReal) (x1 : (⟨2, ![1024, 1024]⟩ : Shape).Idx → EReal)
    (x2 : (⟨2, ![8192, 1024]⟩ : Shape).Idx → EReal) (x3 : (⟨2, ![1, 1024]⟩ : Shape).Idx → EReal)

theorem ref3 (i : Fin 8192) (k : Fin 1024) : val_main_v3 (F := Ideal) x0 x1 x2 (ix2 i k) = sum x0 x1 x2 i k := by
  unfold val_main_v3 val_main_v2 val_main_v1 val_main_v0 sum
  pointwise

theorem pay1 (r : Fin 1024) (k : Fin 1024) :
    k0_pay1 (F := Ideal) (iblk m c 0 t) (iblk m c 1 t) (iblk m c 2 t) (ix2 r k)
      = sum (A0 m c) (A1 m c) (A2 m c) (row t r) k := by
  unfold k0_pay1 sum
  pointwise [blk0, blk1, blk2]

theorem final4 : (dats m 0 c).arrAt 4 cfg0.N
    = val_main_v3 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  obtain ⟨r, k, rfl⟩ : ∃ (r : Fin 1024) (k : Fin 1024), y = ix2 r k := ⟨y 0, y 1, eq_ix2 y⟩
  rw [after0_4, emb4, ref3]
  frame_out
  exact pay1 m c t r k

theorem final5 : (dats m 0 c).arrAt 5 cfg0.N
    = val_main_v16 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  obtain ⟨r, k, rfl⟩ : ∃ (r : Fin 1024) (k : Fin 1024), y = ix2 r k := ⟨y 0, y 1, eq_ix2 y⟩
  rw [after0_5, emb5]
  frame_out
  unfold k0_pay2 val_main_v16 val_main_v15 val_main_v14 val_main_v13 val_main_v12 val_main_v11 val_main_v10
    val_main_v9 val_main_v8 val_main_v7 val_main_v6 val_main_v5 val_main_v4 val_main_cst val_main_cst_0 val_main_cst_1
  pointwise [pay1, blk3, ref3]
  rfl

theorem ref_frame : Cert.quiescent_OProjRefIdeal := fun m ρ _ =>
  (θ_run Cert.OProjRefIdeal.defs _ _).mono (fun r h => ⟨fun c => (h c).2.2,
      Idealize.ShloMosaic.sem_eq_zero_of_no_sems (by decide) r.2⟩)
    (Cert.OProjRefIdeal.Value.run (F := Ideal) m ρ)

theorem algebraic : Cert.algebraic_OProjIdeal_OProjRefIdeal := by
  intro m ρ m' ρ' _ hagree
  refine ⟨fun c => (dats m 0 c).arrAt 4 cfg0.N, fun c => (dats m 0 c).arrAt 5 cfg0.N, Value.run_blocks (F := Ideal) m ρ, ?_⟩
  refine (θ_run Cert.OProjRefIdeal.defs _ _).mono (fun r h c => ?_) (Cert.OProjRefIdeal.Value.run (F := Ideal) m' ρ')
  obtain ⟨h0, h1, h⟩ := h c
  obtain ⟨a0, a1, a2, a3⟩ := hagree c
  rw [val_main_v3_eq, a0, a1, a2] at h0
  rw [val_main_v16_eq, a0, a1, a2, a3] at h1
  exact ⟨h0.trans (final4 m c).symm, h1.trans (final5 m c).symm, h⟩

end Cert.Proof.OProj

end
-- ==== Proof.OutAValue.lean ====
/-
  The output projection of the short convolution.
-/
module

public import proofs.«01_k».proof.Defs
public import proofs.«01_k».proof.Proof.Gen.OutAIdeal.Value
public import proofs.«01_k».proof.Proof.Gen.OutARefIdeal.Run
public import proofs.«01_k».proof.Proof.Gen.OutARefIdeal.Read
public import Idealize.ShloMosaic.Lib.Pipeline.ValueKit
public import Idealize.ShloMosaic.Lib.Pipeline.ReadBack
public import Idealize.ShloMosaic.Lib.Pointwise

@[expose] public section

noncomputable section

namespace Cert.Proof.OutA

open Cert.OutAIdeal Cert.OutAIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e3 : ∀ t : Fin cfg0.N, win0_3.index t = ![t.val, 0] :=
  (by decide +kernel : ∀ t : Fin grid0.N, win0_3.index t = ![t.val, 0])

/-- The array row of row `r` of point `t`'s tile. -/
def row (t : Fin cfg0.N) (r : Fin 1024) : Fin 8192 := ⟨t.val * 1024 + r.val, by
  have := t.isLt; have h : cfg0.N = 8 := N_0; omega⟩

variable (c : Dev nD) (t : Fin cfg0.N)

theorem blk0 (r : Fin 1024) (k : Fin 1024) :
    iblk m c 0 t (ix2 r k) = m ((c : Thread nD τ).loc main_arg0) (ix2 (row t r) k) := by
  blk_ext [iblk, V, e0, row]
theorem blk1 (r : Fin 1024) (k : Fin 1024) :
    iblk m c 1 t (ix2 r k) = m ((c : Thread nD τ).loc main_arg1) (ix2 r k) := by
  blk_ext [iblk, V, e1]
theorem emb3 (r : Fin 1024) (k : Fin 1024) : (win0_3.blk t).view.emb (ix2 r k) = ix2 (row t r) k := by
  blk_ext [e3, row]

open Cert.OutARefIdeal.Read

theorem final3 : (dats m 0 c).arrAt 3 cfg0.N
    = val_main_v3 (F := Ideal) (m ((c : Thread nD τ).loc main_arg0)) (m ((c : Thread nD τ).loc main_arg1)) := by
  refine (dats m 0 c).arrAt_eq_of_covers 3 _ (by decide +kernel) fun t hf y => ?_
  blk_simp
  obtain ⟨r, k, rfl⟩ : ∃ (r : Fin 1024) (k : Fin 1024), y = ix2 r k := ⟨y 0, y 1, eq_ix2 y⟩
  rw [after0_3, emb3]
  frame_out
  unfold_payloads
  unfold val_main_v3 val_main_v2 val_main_v1 val_main_v0
  pointwise [blk0, blk1]
  all_goals rfl

theorem ref_frame : Cert.quiescent_OutARefIdeal := fun m ρ _ =>
  (θ_run Cert.OutARefIdeal.defs _ _).mono (fun r h => ⟨fun c => (h c).2,
      Idealize.ShloMosaic.sem_eq_zero_of_no_sems (by decide) r.2⟩)
    (Cert.OutARefIdeal.Value.run (F := Ideal) m ρ)

theorem algebraic : Cert.algebraic_OutAIdeal_OutARefIdeal := by
  intro m ρ m' ρ' _ hagree
  refine ⟨fun c => (dats m 0 c).arrAt 3 cfg0.N, Value.run_blocks (F := Ideal) m ρ, ?_⟩
  refine (θ_run Cert.OutARefIdeal.defs _ _).mono (fun r h c => ?_) (Cert.OutARefIdeal.Value.run (F := Ideal) m' ρ')
  obtain ⟨h0, h⟩ := h c
  obtain ⟨a0, a1, a2⟩ := hagree c
  rw [val_main_v3_eq, a0, a1] at h0
  exact ⟨h0.trans (final3 m c).symm, h⟩

end Cert.Proof.OutA

end
-- ==== Proof.QProjValue.lean ====
/-
  The query projection.
-/
module

public import proofs.«01_k».proof.Defs
public import proofs.«01_k».proof.Proof.Gen.QProjIdeal.Value
public import proofs.«01_k».proof.Proof.Gen.QProjRefIdeal.Run
public import proofs.«01_k».proof.Proof.Gen.QProjRefIdeal.Read
public import Idealize.ShloMosaic.Lib.Pipeline.ValueKit
public import Idealize.ShloMosaic.Lib.Pipeline.ReadBack
public import Idealize.ShloMosaic.Lib.Pointwise

@[expose] public section

noncomputable section

namespace Cert.Proof.QProj

open Cert.QProjIdeal Cert.QProjIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])

/-- The array row of row `r` of point `t`'s tile. -/
def row (t : Fin cfg0.N) (r : Fin 1024) : Fin 8192 := ⟨t.val * 1024 + r.val, by
  have := t.isLt; have h : cfg0.N = 8 := N_0; omega⟩

variable (c : Dev nD) (t : Fin cfg0.N)

theorem blk0 (r : Fin 1024) (k : Fin 1024) :
    iblk m c 0 t (ix2 r k) = m ((c : Thread nD τ).loc main_arg0) (ix2 (row t r) k) := by
  blk_ext [iblk, V, e0, row]
theorem blk1 (r : Fin 1024) (k : Fin 1024) :
    iblk m c 1 t (ix2 r k) = m ((c : Thread nD τ).loc main_arg1) (ix2 r k) := by
  blk_ext [iblk, V, e1]
theorem emb2 (r : Fin 1024) (k : Fin 1024) : (win0_2.blk t).view.emb (ix2 r k) = ix2 (row t r) k := by
  blk_ext [e2, row]

open Cert.QProjRefIdeal.Read

theorem final2 : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  obtain ⟨r, k, rfl⟩ : ∃ (r : Fin 1024) (k : Fin 1024), y = ix2 r k := ⟨y 0, y 1, eq_ix2 y⟩
  rw [after0_2, emb2]
  frame_out
  unfold_payloads
  unfold val_main_v3 val_main_v2 val_main_v1 val_main_v0
  pointwise [blk0, blk1]
  all_goals rfl

theorem ref_frame : Cert.quiescent_QProjRefIdeal := fun m ρ _ =>
  (θ_run Cert.QProjRefIdeal.defs _ _).mono (fun r h => ⟨fun c => (h c).2,
      Idealize.ShloMosaic.sem_eq_zero_of_no_sems (by decide) r.2⟩)
    (Cert.QProjRefIdeal.Value.run (F := Ideal) m ρ)

theorem algebraic : Cert.algebraic_QProjIdeal_QProjRefIdeal := by
  intro m ρ m' ρ' _ hagree
  refine ⟨fun c => (dats m 0 c).arrAt 2 cfg0.N, Value.run_blocks (F := Ideal) m ρ, ?_⟩
  refine (θ_run Cert.QProjRefIdeal.defs _ _).mono (fun r h c => ?_) (Cert.QProjRefIdeal.Value.run (F := Ideal) m' ρ')
  obtain ⟨h0, h⟩ := h c
  obtain ⟨a0, a1⟩ := hagree c
  rw [val_main_v3_eq, a0, a1] at h0
  exact ⟨h0.trans (final2 m c).symm, h⟩

end Cert.Proof.QProj

end
-- ==== Proof.RowNormValue.lean ====
/-
  The row norm in front of the first feed-forward layer.
-/
module

public import proofs.«01_k».proof.Defs
public import proofs.«01_k».proof.Proof.Gen.RowNormIdeal.Value
public import proofs.«01_k».proof.Proof.Gen.RowNormRefIdeal.Run
public import proofs.«01_k».proof.Proof.Gen.RowNormRefIdeal.Read
public import Idealize.ShloMosaic.Lib.Pipeline.ValueKit
public import Idealize.ShloMosaic.Lib.Pipeline.ReadBack
public import Idealize.ShloMosaic.Lib.Pointwise

@[expose] public section

noncomputable section

namespace Cert.Proof.RowNorm

open Cert.RowNormIdeal Cert.RowNormIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![0, 0] :=
  (by decide +kernel : ∀ t : Fin grid0.N, win0_1.index t = ![0, 0])
theorem e2 : ∀ t : Fin cfg0.N, win0_2.index t = ![t.val, 0] :=
  (by decide +kernel : ∀ t : Fin grid0.N, win0_2.index t = ![t.val, 0])

/-- The array row of row `r` of point `t`'s tile. -/
def row (t : Fin cfg0.N) (r : Fin 512) : Fin 8192 := ⟨t.val * 512 + r.val, by
  have := t.isLt; have h : cfg0.N = 16 := N_0; omega⟩

variable (c : Dev nD) (t : Fin cfg0.N)

theorem blk0 (r : Fin 512) (k : Fin 1024) :
    iblk m c 0 t (ix2 r k) = m ((c : Thread nD τ).loc main_arg0) (ix2 (row t r) k) := by
  blk_ext [iblk, V, e0, row]
theorem blk1 (r : Fin 1) (k : Fin 1024) :
    iblk m c 1 t (ix2 r k) = m ((c : Thread nD τ).loc main_arg1) (ix2 r k) := by
  blk_ext [iblk, V, e1]
theorem emb2 (r : Fin 512) (k : Fin 1024) : (win0_2.blk t).view.emb (ix2 r k) = ix2 (row t r) k := by
  blk_ext [e2, row]

open Cert.RowNormRefIdeal.Read

theorem final2 : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t hf y => ?_
  blk_simp
  obtain ⟨r, k, rfl⟩ : ∃ (r : Fin 512) (k : Fin 1024), y = ix2 r k := ⟨y 0, y 1, eq_ix2 y⟩
  rw [after0_2, emb2]
  frame_out
  unfold_payloads
  unfold val_main_v12 val_main_v11 val_main_v10 val_main_v9 val_main_v8 val_main_v7 val_main_v6 val_main_v5 val_main_v4
    val_main_v3 val_main_v2 val_main_v1 val_main_v0 val_main_cst val_main_cst_0 val_main_cst_1
  pointwise [blk0, blk1]

theorem ref_frame : Cert.quiescent_RowNormRefIdeal := fun m ρ _ =>
  (θ_run Cert.RowNormRefIdeal.defs _ _).mono (fun r h => ⟨fun c => (h c).2,
      Idealize.ShloMosaic.sem_eq_zero_of_no_sems (by decide) r.2⟩)
    (Cert.RowNormRefIdeal.Value.run (F := Ideal) m ρ)

theorem algebraic : Cert.algebraic_RowNormIdeal_RowNormRefIdeal := by
  intro m ρ m' ρ' _ hagree
  refine ⟨fun c => (dats m 0 c).arrAt 2 cfg0.N, Value.run_blocks (F := Ideal) m ρ, ?_⟩
  refine (θ_run Cert.RowNormRefIdeal.defs _ _).mono (fun r h c => ?_) (Cert.RowNormRefIdeal.Value.run (F := Ideal) m' ρ')
  obtain ⟨h0, h⟩ := h c
  obtain ⟨a0, a1⟩ := hagree c
  rw [val_main_v12_eq, a0, a1] at h0
  exact ⟨h0.trans (final2 m c).symm, h⟩

end Cert.Proof.RowNorm

end
-- ==== Proof.SumSmallValue.lean ====
/-
  The sum of the eight devices' packed gradients of the small weights.
-/
module

public import proofs.«01_k».proof.Defs
public import proofs.«01_k».proof.Proof.Gen.SumSmallIdeal.Value
public import proofs.«01_k».proof.Proof.Gen.SumSmallRefIdeal.Run
public import proofs.«01_k».proof.Proof.Gen.SumSmallRefIdeal.Read
public import Idealize.ShloMosaic.Lib.Pipeline.ValueKit
public import Idealize.ShloMosaic.Lib.Pointwise

@[expose] public section

noncomputable section

namespace Cert.Proof.SumSmall

open Cert.SumSmallIdeal Cert.SumSmallIdeal.Gen Idealize.ShloMosaic Idealize.ShloMosaic.TcCoe Idealize.SL.Sem
open Cert.SumSmallRefIdeal.Read

variable (x : S8x232x128.Idx → EReal)

/-- A device's part of the parts' array. -/
theorem part (j : ℕ) (hj : j < 8) (inb) (a : Fin 1) (r : Fin 232) (k : Fin 128) :
    View.ld (Val := Elt Ideal) (e' := .f32) (S := S8x232x128) x (Rect.unit ![j, 0, 0] ![1, 232, 128] inb) (ix3 a r k)
      = x (ix3 ⟨j, hj⟩ r k) := by
  refine View.ld_unit_apply_of _ _ _ _ _ (ix3 ⟨j, hj⟩ r k) fun d => ?_
  obtain rfl : a = 0 := Subsingleton.elim _ _
  match d with
  | ⟨0, _⟩ => rfl
  | ⟨1, _⟩ => exact (Nat.zero_add _).symm
  | ⟨2, _⟩ => exact (Nat.zero_add _).symm

theorem total : Value.G1 (F := Ideal) x = val_main_v0 (F := Ideal) x := by
  funext y
  obtain ⟨r, k, rfl⟩ : ∃ (r : Fin 232) (k : Fin 128), y = ix2 r k := ⟨y 0, y 1, eq_ix2 y⟩
  have ref : val_main_v0 (F := Ideal) x (ix2 r k) = ∑ j : Fin 8, x (ix3 j r k) := by
    unfold val_main_v0 val_main_cst
    pointwise
  rw [ref, Fin.sum_univ_eight]
  unfold Value.G1 k0_pay1
  pointwise [part]

theorem ref_frame : Cert.quiescent_SumSmallRefIdeal := fun m ρ _ =>
  (θ_run Cert.SumSmallRefIdeal.defs _ _).mono (fun r h => ⟨fun c => (h c).2,
      Idealize.ShloMosaic.sem_eq_zero_of_no_sems (by decide) r.2⟩)
    (Cert.SumSmallRefIdeal.Value.run (F := Ideal) m ρ)

theorem algebraic : Cert.algebraic_SumSmallIdeal_SumSmallRefIdeal := by
  intro m ρ m' ρ' _ hagree
  refine ⟨_, Value.run (F := Ideal) m ρ, ?_⟩
  refine (θ_run Cert.SumSmallRefIdeal.defs _ _).mono (fun r h c => ?_) (Cert.SumSmallRefIdeal.Value.run (F := Ideal) m' ρ')
  obtain ⟨h0, h⟩ := h c
  rw [val_main_v0_eq, hagree c] at h0
  exact ⟨h0.trans (total _).symm, h⟩

end Cert.Proof.SumSmall

end
-- ==== Proof.XAttnRef.lean ====
/-
  The gradient of the cross attention as its reference computes it, row by row: scores, weights, and the scores' cotangent.
-/
module

public import proofs.«01_k».proof.Defs
public import proofs.«01_k».proof.Proof.Reals
public import proofs.«01_k».proof.Proof.Gen.XAttnRefIdeal.Read
public import Idealize.ShloMosaic.Lib.Pipeline.ValueKit
public import Idealize.ShloMosaic.Lib.Pointwise

@[expose] public section

noncomputable section

namespace Cert.Proof.XAttn

open Cert.XAttnRefIdeal Cert.XAttnRefIdeal.Gen Cert.XAttnRefIdeal.Read Idealize.ShloMosaic

/-- The scores' factor. -/
def scale : EReal := Ideal.ofBits .f32 0x3D800000#32

/-- The largest entry of a row. -/
def top (f : Fin 256 → EReal) : EReal := Finset.fold max (Ideal.ofBits .f32 0xFF800000#32) f Finset.univ

/-- The exponential of a row's entry, from the largest one down. -/
def ex (f : Fin 256 → EReal) (k : Fin 256) : EReal := Ideal.exp (f k - top f)

/-- A row's weights. -/
def soft (f : Fin 256 → EReal) (k : Fin 256) : EReal := ex f k * Ideal.div 1 (∑ x, ex f x)

/-- The cotangent of a row of scores from the cotangent `g` of its weights. -/
def grad (f g : Fin 256 → EReal) (k : Fin 256) : EReal := soft f k * (g k - ∑ x, g x * soft f x) * scale

/-! ## The two forms of a row -/

theorem ofBits_neg_top : Ideal.ofBits .f32 0xFF800000#32 = ⊥ := by
  simp [Ideal.ofBits, Ideal.ieee]

theorem scale_real : ∃ r : ℝ, scale = r := by
  refine ⟨1 / 16, ?_⟩
  unfold scale
  simp [Ideal.ofBits, Ideal.ieee, -EReal.coe_mul]; norm_num

theorem top_real (f : Fin 256 → ℝ) : ∃ r : ℝ, top (fun k => (f k : EReal)) = r := by
  rw [top, ofBits_neg_top]
  have h : ∀ s : Finset (Fin 256), Finset.fold max (⊥ : EReal) (fun k => (f k : EReal)) s = ⊥ ∧ s = ∅
      ∨ ∃ r : ℝ, Finset.fold max (⊥ : EReal) (fun k => (f k : EReal)) s = r := by
    intro s
    classical
    induction s using Finset.induction_on with
    | empty => exact .inl ⟨Finset.fold_empty, rfl⟩
    | insert a s ha ih =>
      right
      rw [Finset.fold_insert ha]
      rcases ih with ⟨ih, _⟩ | ⟨r, ih⟩
      · exact ⟨f a, by rw [ih, max_eq_left bot_le]⟩
      · exact ⟨max (f a) r, by rw [ih]; exact (EReal.coe_strictMono.monotone.map_max).symm⟩
  rcases h Finset.univ with ⟨_, h⟩ | h
  · exact absurd h (Finset.univ_nonempty (α := Fin 256)).ne_empty
  · exact h

theorem ex_real (f : Fin 256 → EReal) (hf : ∀ k, ∃ r : ℝ, f k = r) : ∃ e : Fin 256 → ℝ, (∀ k, 0 < e k) ∧ ∀ k, ex f k = e k := by
  obtain ⟨f', hf'⟩ := Reals.exists_real hf
  obtain rfl : f = fun k => (f' k : EReal) := funext hf'
  obtain ⟨r, hr⟩ := top_real f'
  refine ⟨fun k => Real.exp (f' k - r), fun k => Real.exp_pos _, fun k => ?_⟩
  rw [ex, hr, ← EReal.coe_sub, Reals.coe_exp]

/-- A row's weights as quotients. -/
theorem soft_div (f : Fin 256 → EReal) (hf : ∀ k, ∃ r : ℝ, f k = r) (k : Fin 256) : Ideal.div (ex f k) (∑ x, ex f x) = soft f k := by
  obtain ⟨e, he, h⟩ := ex_real f hf
  have hz : (0 : ℝ) < ∑ x, e x := Finset.sum_pos (fun x _ => he x) Finset.univ_nonempty
  rw [soft]
  simp only [h, Reals.coe_sum]
  rw [Reals.coe_div _ _ hz.ne', ← EReal.coe_one, Reals.coe_div _ _ hz.ne', ← EReal.coe_mul, mul_one_div]

/-- The cotangent of a row of scores with the quotients' derivatives taken apart. -/
theorem grad_div (f g : Fin 256 → EReal) (hf : ∀ k, ∃ r : ℝ, f k = r) (k : Fin 256) :
    (Ideal.div (g k) (∑ x, ex f x) + -∑ x, g x * Ideal.div 1 ((∑ y, ex f y) * ∑ y, ex f y) * ex f x) * ex f k * scale
      = grad f g k := by
  obtain ⟨e, he, h⟩ := ex_real f hf
  have hz : (0 : ℝ) < ∑ x, e x := Finset.sum_pos (fun x _ => he x) Finset.univ_nonempty
  unfold grad soft
  simp only [h, Reals.coe_sum]
  generalize (∑ x, e x) = z at hz
  have ha : (0 : ℝ) ≤ 1 / z := by positivity
  rw [← EReal.coe_mul, ← EReal.coe_one, Reals.coe_div _ _ hz.ne', Reals.coe_div _ _ (mul_pos hz hz).ne']
  have hd : Ideal.div (g k) (z : EReal) = ((1 / z : ℝ) : EReal) * g k := by
    rw [Ideal.div, if_neg (EReal.coe_ne_zero.mpr hz.ne'), ← EReal.coe_inv, one_div, mul_comm (G := EReal)]
  have hs : ∑ x, g x * ((1 / (z * z) : ℝ) : EReal) * (e x : EReal) = ((1 / z : ℝ) : EReal) * ∑ x, g x * ((e x : EReal) * ((1 / z : ℝ) : EReal)) := by
    rw [Reals.mul_sum_of_nonneg _ _ ha]
    refine Finset.sum_congr rfl fun x _ => ?_
    rw [← EReal.coe_mul, mul_assoc, ← EReal.coe_mul, ← mul_assoc, mul_comm ((1 / z : ℝ) : EReal) (g x), mul_assoc, ← EReal.coe_mul]
    congr 2
    field_simp
  rw [hd, hs, ← mul_neg, ← EReal.left_distrib_of_nonneg_of_ne_top (EReal.coe_nonneg.mpr ha) (EReal.coe_ne_top _),
    ← sub_eq_add_neg, mul_comm (G := EReal) _ (e k : EReal), ← mul_assoc (e k : EReal)]

/-! ## The reference, read at an index -/

/-- The array row of position `s` of sequence `b`. -/
def srow (b : Fin 4) (s : Fin 2048) : Fin 8192 := ⟨b.val * 2048 + s.val, by omega⟩

/-- The array row of key `k` of sequence `b`. -/
def brow (b : Fin 4) (k : Fin 256) : Fin 1024 := ⟨b.val * 256 + k.val, by omega⟩

/-- The column of entry `d` of head `h`. -/
def hcol (h : Fin 4) (d : Fin 256) : Fin 1024 := ⟨h.val * 256 + d.val, by omega⟩

/-- A key's column among the keys' and values' columns. -/
def kcol (k : Fin 1024) : Fin 2048 := ⟨k.val, by omega⟩

/-- A value's column among the keys' and values' columns. -/
def vcol (k : Fin 1024) : Fin 2048 := ⟨1024 + k.val, by omega⟩

variable (x0 x1 : (⟨2, ![8192, 1024]⟩ : Shape).Idx → EReal) (x2 : (⟨2, ![1024, 2048]⟩ : Shape).Idx → EReal)

/-- A row of scores. -/
def score (b h : Fin 4) (i : Fin 8192) (k : Fin 256) : EReal :=
  (∑ d, x1 (ix2 i (hcol h d)) * x2 (ix2 (brow b k) (kcol (hcol h d)))) * scale

/-- The cotangent of a row of weights. -/
def dweight (b h : Fin 4) (i : Fin 8192) (k : Fin 256) : EReal :=
  ∑ d, x0 (ix2 i (hcol h d)) * x2 (ix2 (brow b k) (vcol (hcol h d)))

/-- The cotangent of a row of scores. -/
def dscore (b h : Fin 4) (i : Fin 8192) : Fin 256 → EReal := grad (score x1 x2 b h i) (dweight x0 x2 b h i)

variable (b h : Fin 4) (s : Fin 2048) (k l : Fin 256)

theorem v10 : val_main_v10 (F := Ideal) x1 x2 (ix4 b h s k) = score x1 x2 b h (srow b s) k := by
  unfold val_main_v10 val_main_v9 val_main_cst val_main_v8 val_main_v6 val_main_v5 val_main_v3 val_main_v2 val_main_v1
  generalize hz : score x1 x2 b h (srow b s) k = z
  pointwise
  rw [← hz]
  rfl

theorem v11 : val_main_v11 (F := Ideal) x1 x2 (ix3 b h s) = top (score x1 x2 b h (srow b s)) := by
  unfold val_main_v11 val_main_cst_0
  generalize hz : top (score x1 x2 b h (srow b s)) = z
  pointwise [v10]
  rw [← hz]
  rfl

theorem v18 : val_main_v18 (F := Ideal) x1 x2 (ix3 b h s) = top (score x1 x2 b h (srow b s)) := by
  rw [val_main_v18_apply, v11, val_main_v17_apply]
  exact (congrArg (max · _) ofBits_neg_top).trans (max_eq_right bot_le)

theorem v31 : val_main_v31 (F := Ideal) x1 x2 (ix4 b h s k) = ex (score x1 x2 b h (srow b s)) k := by
  unfold val_main_v31 val_main_v30 val_main_v29 val_main_v28 ex
  generalize hz : top (score x1 x2 b h (srow b s)) = z
  pointwise [v10, v18, hz]

theorem v33 (u : Fin 1) : val_main_v33 (F := Ideal) x1 x2 (ix4 b h s u) = ∑ x, ex (score x1 x2 b h (srow b s)) x := by
  unfold val_main_v33 val_main_v32 val_main_cst_8
  pointwise [v31]

theorem v35 (hf : ∀ k, ∃ r : ℝ, score x1 x2 b h (srow b s) k = r) :
    val_main_v35 (F := Ideal) x1 x2 (ix4 b h s k) = soft (score x1 x2 b h (srow b s)) k := by
  rw [← soft_div _ hf]
  unfold val_main_v35 val_main_v34
  pointwise [v31, v33]

theorem v44 : val_main_v44 (F := Ideal) x0 x2 (ix4 b h s k) = dweight x0 x2 b h (srow b s) k := by
  unfold val_main_v44 val_main_v43 val_main_v42 val_main_v0 val_main_v7 val_main_v4 val_main_v2
  generalize hz : dweight x0 x2 b h (srow b s) k = z
  pointwise
  rw [← hz]
  rfl

theorem v60 (hf : ∀ k, ∃ r : ℝ, score x1 x2 b h (srow b s) k = r) :
    val_main_v60 (F := Ideal) x0 x1 x2 (ix4 b h s k) = dscore x0 x1 x2 b h (srow b s) k := by
  rw [dscore, ← grad_div _ _ hf]
  unfold val_main_v60 val_main_v59 val_main_cst_12 val_main_v58 val_main_v57 val_main_v56 val_main_v55 val_main_cst_11 val_main_v54 val_main_v53
    val_main_v52 val_main_v51 val_main_v50 val_main_cst_10 val_main_v49 val_main_v48 val_main_v47 val_main_v38 val_main_v37 val_main_v36 val_main_cst_9 scale
  pointwise [v31, v33, v44]
  rw [Fin.sum_univ_one]

theorem srow_div (p) : (⟨(srow b s).val / 2048, p⟩ : Fin 4) = b := Fin.ext (by simp only [srow]; omega)
theorem srow_mod (p) : (⟨(srow b s).val % 2048, p⟩ : Fin 2048) = s := Fin.ext (by simp only [srow]; omega)
theorem srow_brow (p) : (⟨(srow b s).val / 2048 * 256 + k.val, p⟩ : Fin 1024) = brow b k := Fin.ext (by simp only [srow, brow]; omega)
theorem brow_div (p) : (⟨(brow b k).val / 256, p⟩ : Fin 4) = b := Fin.ext (by simp only [brow]; omega)
theorem brow_mod (p) : (⟨(brow b k).val % 256, p⟩ : Fin 256) = k := Fin.ext (by simp only [brow]; omega)
theorem brow_srow (p) : (⟨(brow b k).val / 256 * 2048 + s.val, p⟩ : Fin 8192) = srow b s := Fin.ext (by simp only [srow, brow]; omega)
theorem hcol_div (p) : (⟨(hcol h l).val / 256, p⟩ : Fin 4) = h := Fin.ext (by simp only [hcol]; omega)

theorem v68 (hf : ∀ i k, ∃ r : ℝ, score x1 x2 b h i k = r) : val_main_v68 (F := Ideal) x0 x1 x2 (ix2 (srow b s) (hcol h l))
    = ∑ k, dscore x0 x1 x2 b h (srow b s) k * x2 (ix2 (brow b k) (kcol (hcol h l))) := by
  unfold val_main_v68 val_main_v67 val_main_v64 val_main_v63 val_main_v6 val_main_v3 val_main_v2
  pointwise
  refine Finset.sum_congr rfl fun x _ => ?_
  rw [srow_div, hcol_div, srow_mod, srow_brow, v60 _ _ _ _ _ _ _ (hf _)]
  rfl

theorem v66 (hf : ∀ i k, ∃ r : ℝ, score x1 x2 b h i k = r) : val_main_v66 (F := Ideal) x0 x1 x2 (ix2 (brow b k) (hcol h l))
    = ∑ s, dscore x0 x1 x2 b h (srow b s) k * x1 (ix2 (srow b s) (hcol h l)) := by
  unfold val_main_v66 val_main_v62 val_main_v61 val_main_v5 val_main_v1
  pointwise
  refine Finset.sum_congr rfl fun x _ => ?_
  rw [brow_div, hcol_div, brow_mod, brow_srow, v60 _ _ _ _ _ _ _ (hf _)]

theorem v65 (hf : ∀ i k, ∃ r : ℝ, score x1 x2 b h i k = r) : val_main_v65 (F := Ideal) x0 x1 x2 (ix2 (brow b k) (hcol h l))
    = ∑ s, soft (score x1 x2 b h (srow b s)) k * x0 (ix2 (srow b s) (hcol h l)) := by
  unfold val_main_v65 val_main_v46 val_main_v45 val_main_v43 val_main_v42 val_main_v0
  pointwise
  refine Finset.sum_congr rfl fun x _ => ?_
  rw [brow_div, hcol_div, brow_mod, brow_srow, v35 _ _ _ _ _ _ (hf _), mul_comm]

end Cert.Proof.XAttn

end
-- ==== Proof.XAttnTile.lean ====
/-
  The gradient of the cross attention: queries, keys and values, a head at a time over two row blocks of each sequence.
-/
module

public import proofs.«01_k».proof.Defs
public import proofs.«01_k».proof.Proof.Reals
public import proofs.«01_k».proof.Proof.XAttnRef
public import proofs.«01_k».proof.Proof.Gen.Pre_finite_xattn
public import proofs.«01_k».proof.Proof.Gen.XAttnIdeal.Value
public import proofs.«01_k».proof.Proof.Gen.XAttnRefIdeal.Run
public import proofs.«01_k».proof.Proof.Gen.XAttnRefIdeal.Read
public import Idealize.ShloMosaic.Lib.Pipeline.ValueKit
public import Idealize.ShloMosaic.Lib.Pipeline.ReadBack
public import Idealize.ShloMosaic.Lib.Pointwise

@[expose] public section

noncomputable section

namespace Cert.Proof.XAttn

open Cert.XAttnIdeal Cert.XAttnIdeal.Gen Idealize.ShloMosaic Idealize.ShloMosaic.TcCoe Idealize.SL.Sem
open Idealize.ShloMosaic.Pipeline (Dat)

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![t.val, 0] :=
  (by decide +kernel : ∀ t : Fin grid0.N, win0_1.index t = ![t.val, 0])
theorem e2 : ∀ t : Fin cfg0.N, win0_2.index t = ![t.val / 2, 0] :=
  (by decide +kernel : ∀ t : Fin grid0.N, win0_2.index t = ![t.val / 2, 0])
theorem e3 : ∀ t : Fin cfg0.N, win0_3.index t = ![t.val / 2, 1] :=
  (by decide +kernel : ∀ t : Fin grid0.N, win0_3.index t = ![t.val / 2, 1])
theorem e4 : ∀ t : Fin cfg0.N, win0_4.index t = ![t.val, 0] :=
  (by decide +kernel : ∀ t : Fin grid0.N, win0_4.index t = ![t.val, 0])
theorem e5 : ∀ t : Fin cfg0.N, win0_5.index t = ![t.val / 2, 0] :=
  (by decide +kernel : ∀ t : Fin grid0.N, win0_5.index t = ![t.val / 2, 0])
theorem e6 : ∀ t : Fin cfg0.N, win0_6.index t = ![t.val / 2, 0] :=
  (by decide +kernel : ∀ t : Fin grid0.N, win0_6.index t = ![t.val / 2, 0])

/-- The array row of row `r` of point `t`'s tile. -/
def row (t : Fin cfg0.N) (r : Fin 1024) : Fin 8192 := ⟨t.val * 1024 + r.val, by
  have := t.isLt; have h : cfg0.N = 8 := N_0; omega⟩

/-- The array row of row `r` of point `t`'s keys. -/
def krow (t : Fin cfg0.N) (r : Fin 256) : Fin 1024 := ⟨t.val / 2 * 256 + r.val, by
  have := t.isLt; have h : cfg0.N = 8 := N_0; omega⟩

variable (c : Dev nD) (t : Fin cfg0.N)

/-- The arguments' arrays. -/
def A0 : S8192x1024.Idx → EReal := m ((c : Thread nD τ).loc main_arg0)
def A1 : S8192x1024.Idx → EReal := m ((c : Thread nD τ).loc main_arg1)
def A2 : S1024x2048.Idx → EReal := m ((c : Thread nD τ).loc main_arg2)

theorem blk0 (r : Fin 1024) (k : Fin 1024) : iblk m c 0 t (ix2 r k) = A0 m c (ix2 (row t r) k) := by
  blk_ext [iblk, V, A0, e0, row]
theorem blk1 (r : Fin 1024) (k : Fin 1024) : iblk m c 1 t (ix2 r k) = A1 m c (ix2 (row t r) k) := by
  blk_ext [iblk, V, A1, e1, row]
theorem blk2 (r : Fin 256) (k : Fin 1024) : iblk m c 2 t (ix2 r k) = A2 m c (ix2 (krow t r) (kcol k)) := by
  blk_ext [iblk, V, A2, e2, krow, kcol]
theorem blk3 (r : Fin 256) (k : Fin 1024) : iblk m c 3 t (ix2 r k) = A2 m c (ix2 (krow t r) (vcol k)) := by
  blk_ext [iblk, V, A2, e3, krow, vcol]
theorem emb4 (r : Fin 1024) (k : Fin 1024) : (win0_4.blk t).view.emb (ix2 r k) = ix2 (row t r) k := by
  blk_ext [e4, row]
theorem emb5 (r : Fin 256) (k : Fin 1024) : (win0_5.blk t).view.emb (ix2 r k) = ix2 (krow t r) k := by
  blk_ext [e5, krow]
theorem emb6 (r : Fin 256) (k : Fin 1024) : (win0_6.blk t).view.emb (ix2 r k) = ix2 (krow t r) k := by
  blk_ext [e6, krow]

/-! ## A head's tiles -/

def tq (h : Fin 4) : S1024x256.Idx → EReal := fun i => A1 m c (ix2 (row t (i 0)) (hcol h (i 1)))
def td (h : Fin 4) : S1024x256.Idx → EReal := fun i => A0 m c (ix2 (row t (i 0)) (hcol h (i 1)))
def tk (h : Fin 4) : S256x256.Idx → EReal := fun i => A2 m c (ix2 (krow t (i 0)) (kcol (hcol h (i 1))))
def tv (h : Fin 4) : S256x256.Idx → EReal := fun i => A2 m c (ix2 (krow t (i 0)) (vcol (hcol h (i 1))))

theorem ldq (h : Fin 4) (o : ℕ) (ho : o = h.val * 256) (inb) :
    View.ld (iblk m c 1 t) (Rect.unit ![0, o] ![1024, 256] inb) = tq m c t h := by
  funext i
  refine (View.ld_unit_apply_of _ _ _ _ _ (ix2 (i 0) (hcol h (i 1))) fun a => ?_).trans (blk1 m c t _ _)
  subst ho
  match a with
  | ⟨0, _⟩ => exact (Nat.zero_add _).symm
  | ⟨1, _⟩ => rfl
theorem ldo (h : Fin 4) (o : ℕ) (ho : o = h.val * 256) (inb) :
    View.ld (iblk m c 0 t) (Rect.unit ![0, o] ![1024, 256] inb) = td m c t h := by
  funext i
  refine (View.ld_unit_apply_of _ _ _ _ _ (ix2 (i 0) (hcol h (i 1))) fun a => ?_).trans (blk0 m c t _ _)
  subst ho
  match a with
  | ⟨0, _⟩ => exact (Nat.zero_add _).symm
  | ⟨1, _⟩ => rfl
theorem ldk (h : Fin 4) (o : ℕ) (ho : o = h.val * 256) (inb) :
    View.ld (iblk m c 2 t) (Rect.unit ![0, o] ![256, 256] inb) = tk m c t h := by
  funext i
  refine (View.ld_unit_apply_of _ _ _ _ _ (ix2 (i 0) (hcol h (i 1))) fun a => ?_).trans (blk2 m c t _ _)
  subst ho
  match a with
  | ⟨0, _⟩ => exact (Nat.zero_add _).symm
  | ⟨1, _⟩ => rfl
theorem ldv (h : Fin 4) (o : ℕ) (ho : o = h.val * 256) (inb) :
    View.ld (iblk m c 3 t) (Rect.unit ![0, o] ![256, 256] inb) = tv m c t h := by
  funext i
  refine (View.ld_unit_apply_of _ _ _ _ _ (ix2 (i 0) (hcol h (i 1))) fun a => ?_).trans (blk3 m c t _ _)
  subst ho
  match a with
  | ⟨0, _⟩ => exact (Nat.zero_add _).symm
  | ⟨1, _⟩ => rfl

/-- A row of a tile's scores, and the cotangent of a row of its weights. -/
def tscore (q : S1024x256.Idx → EReal) (kk : S256x256.Idx → EReal) (r : Fin 1024) (k : Fin 256) : EReal :=
  (∑ d, q (ix2 r d) * kk (ix2 k d)) * scale
def tdw (o : S1024x256.Idx → EReal) (v : S256x256.Idx → EReal) (r : Fin 1024) (k : Fin 256) : EReal :=
  ∑ d, o (ix2 r d) * v (ix2 k d)

variable (q o : S1024x256.Idx → EReal) (kk v : S256x256.Idx → EReal)

theorem pay6 (r : Fin 1024) (k : Fin 256) : k0_pay6 (F := Ideal) q kk (ix2 r k) = soft (tscore q kk r) k := by
  generalize hz : soft (tscore q kk r) k = z
  unfold k0_pay6
  pointwise
  rw [← hz]
  rfl

theorem pay7 (k l : Fin 256) : k0_pay7 (F := Ideal) q kk o (ix2 k l) = ∑ r, soft (tscore q kk r) k * o (ix2 r l) := by
  unfold k0_pay7
  pointwise [pay6]

theorem pay8 (r : Fin 1024) (k : Fin 256) : k0_pay8 (F := Ideal) q kk v o (ix2 r k) = grad (tscore q kk r) (tdw o v r) k := by
  generalize hz : grad (tscore q kk r) (tdw o v r) k = z
  unfold k0_pay8
  pointwise [pay6]
  rw [← hz]
  rfl

theorem pay9 (r : Fin 1024) (l : Fin 256) :
    k0_pay9 (F := Ideal) q kk v o (ix2 r l) = ∑ k, grad (tscore q kk r) (tdw o v r) k * kk (ix2 k l) := by
  unfold k0_pay9
  pointwise [pay8]

theorem pay10 (k l : Fin 256) :
    k0_pay10 (F := Ideal) q kk v o (ix2 k l) = ∑ r, grad (tscore q kk r) (tdw o v r) k * q (ix2 r l) := by
  unfold k0_pay10
  pointwise [pay8]

/-! ## The other heads' payloads are the first head's -/

theorem nine3 : k0_pay2 (F := Ideal) kk (k0_pay28 q kk) (k0_pay30 v o) (k0_pay31 q kk v o) = k0_pay9 q kk v o := rfl
theorem nine2 : k0_pay24 (F := Ideal) kk (k0_pay22 q kk v o) (FloatOps.ofBits .f32 0x3D800000#32) = k0_pay9 q kk v o := rfl
theorem nine1 : k0_pay16 (F := Ideal) q kk v o = k0_pay9 q kk v o := rfl
theorem ten3 : k0_pay3 (F := Ideal) q (k0_pay28 q kk) (k0_pay30 v o) (k0_pay31 q kk v o) = k0_pay10 q kk v o := rfl
theorem ten2 : k0_pay25 (F := Ideal) q (k0_pay22 q kk v o) (FloatOps.ofBits .f32 0x3D800000#32) = k0_pay10 q kk v o := rfl
theorem ten1 : k0_pay17 (F := Ideal) q (k0_pay15 q kk v o) = k0_pay10 q kk v o := rfl
theorem seven3 : k0_pay29 (F := Ideal) q kk o = k0_pay7 q kk o := rfl
theorem seven2 : k0_pay21 (F := Ideal) q kk o = k0_pay7 q kk o := rfl
theorem seven1 : k0_pay14 (F := Ideal) q kk o = k0_pay7 q kk o := rfl
theorem add3 (x a b d) : k0_pay4 (F := Ideal) q a b d x = k0_pay11 (k0_pay3 q a b d) x := rfl
theorem add2 (x a z) : k0_pay26 (F := Ideal) q a z x = k0_pay11 (k0_pay25 q a z) x := rfl
theorem add1 (x a) : k0_pay18 (F := Ideal) q a x = k0_pay11 (k0_pay17 q a) x := rfl
theorem sum3 (x y) : k0_pay5 (F := Ideal) y x = k0_pay11 y x := rfl
theorem sum2 (x y) : k0_pay27 (F := Ideal) y x = k0_pay11 y x := rfl
theorem sum1 (x y) : k0_pay19 (F := Ideal) y x = k0_pay11 y x := rfl
theorem sum0 (x y) : k0_pay12 (F := Ideal) y x = k0_pay11 y x := rfl

/-! ## The row block's parts -/

/-- The sequence of a point. -/
def seq (t : Fin cfg0.N) : Fin 4 := ⟨t.val / 2, by have := t.isLt; have h : cfg0.N = 8 := N_0; omega⟩

theorem krow_eq (k : Fin 256) : krow t k = brow (seq t) k := rfl

theorem tscore_eq (h : Fin 4) (r : Fin 1024) : tscore (tq m c t h) (tk m c t h) r = score (A1 m c) (A2 m c) (seq t) h (row t r) := rfl
theorem tdw_eq (h : Fin 4) (r : Fin 1024) : tdw (td m c t h) (tv m c t h) r = dweight (A0 m c) (A2 m c) (seq t) h (row t r) := rfl

/-- What a row block adds to the keys' and the values' gradients. -/
def dkpart (t : Fin cfg0.N) (h : Fin 4) (k l : Fin 256) : EReal :=
  ∑ r : Fin 1024, dscore (A0 m c) (A1 m c) (A2 m c) (seq t) h (row t r) k * A1 m c (ix2 (row t r) (hcol h l))
def dvpart (t : Fin cfg0.N) (h : Fin 4) (k l : Fin 256) : EReal :=
  ∑ r : Fin 1024, soft (score (A1 m c) (A2 m c) (seq t) h (row t r)) k * A0 m c (ix2 (row t r) (hcol h l))

theorem part9 (h : Fin 4) (r : Fin 1024) (l : Fin 256) :
    k0_pay9 (F := Ideal) (tq m c t h) (tk m c t h) (tv m c t h) (td m c t h) (ix2 r l)
      = ∑ k, dscore (A0 m c) (A1 m c) (A2 m c) (seq t) h (row t r) k * A2 m c (ix2 (krow t k) (kcol (hcol h l))) := by
  rw [pay9]
  rfl
theorem part10 (h : Fin 4) (k l : Fin 256) :
    k0_pay10 (F := Ideal) (tq m c t h) (tk m c t h) (tv m c t h) (td m c t h) (ix2 k l) = dkpart m c t h k l := by
  rw [pay10]
  rfl
theorem part7 (h : Fin 4) (k l : Fin 256) :
    k0_pay7 (F := Ideal) (tq m c t h) (tk m c t h) (td m c t h) (ix2 k l) = dvpart m c t h k l := by
  rw [pay7]
  rfl

end Cert.Proof.XAttn
-- ==== Proof.XAttnValue.lean ====
/-
  The gradient of the cross attention: queries, keys and values, a head at a time over two row blocks of each sequence.
-/
module

public import proofs.«01_k».proof.Defs
public import proofs.«01_k».proof.Proof.Reals
public import proofs.«01_k».proof.Proof.XAttnRef
public import proofs.«01_k».proof.Proof.XAttnTile
public import proofs.«01_k».proof.Proof.Gen.Pre_finite_xattn
public import proofs.«01_k».proof.Proof.Gen.XAttnIdeal.Value
public import proofs.«01_k».proof.Proof.Gen.XAttnRefIdeal.Run
public import proofs.«01_k».proof.Proof.Gen.XAttnRefIdeal.Read
public import Idealize.ShloMosaic.Lib.Pipeline.ValueKit
public import Idealize.ShloMosaic.Lib.Pipeline.ReadBack
public import Idealize.ShloMosaic.Lib.Pointwise

@[expose] public section

noncomputable section

namespace Cert.Proof.XAttn

open Cert.XAttnIdeal Cert.XAttnIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-! ## What each point leaves -/

theorem head {h h' : Fin 4} {l l' : Fin 256} {o : ℕ} (e : h.val * 256 + l.val = o + l'.val) (ho : o = h'.val * 256) : h = h' ∧ l = l' :=
  ⟨Fin.ext (by omega), Fin.ext (by omega)⟩

theorem acc (x y : S256x256.Idx → EReal) (k l : Fin 256) : k0_pay11 (F := Ideal) x y (ix2 k l) = y (ix2 k l) + x (ix2 k l) := by
  unfold k0_pay11
  pointwise

theorem ldacc (x : S256x1024.Idx → EReal) (h : Fin 4) (o : ℕ) (ho : o = h.val * 256) (inb) (k l : Fin 256) :
    View.ld (Val := Elt Ideal) (e' := .f32) (S := S256x1024) x (Rect.unit ![0, o] ![256, 256] inb) (ix2 k l) = x (ix2 k (hcol h l)) := by
  refine View.ld_unit_apply_of _ _ _ _ _ (ix2 k (hcol h l)) fun a => ?_
  subst ho
  match a with
  | ⟨0, _⟩ => exact (Nat.zero_add _).symm
  | ⟨1, _⟩ => rfl

theorem out4 (r : Fin 1024) (h : Fin 4) (l : Fin 256) : (outsAt0 m c t.val t.isLt).1 (ix2 r (hcol h l))
    = ∑ k, dscore (A0 m c) (A1 m c) (A2 m c) (seq t) h (row t r) k * A2 m c (ix2 (krow t k) (kcol (hcol h l))) := by
  have htl := t.isLt
  have hN : cfg0.N = 8 := N_0
  by_cases ht : t.val % 2 = 0
  · rw [outsAt0_A m c t ht (by omega) ht (by omega) ht (by omega) ht (by omega)]
    frame_out
    canon_tiles x hx using View.cover_of_tiled_head _ _ _ (by rfl) _
    all_goals obtain ⟨r', l', rfl⟩ : ∃ (r' : Fin 1024) (l' : Fin 256), x = ix2 r' l' := ⟨x 0, x 1, eq_ix2 x⟩
    · obtain rfl : r = r' := Fin.ext hx0
      obtain ⟨rfl, rfl⟩ : h = 3 ∧ l = l' := head hx1 rfl
      rw [nine3, ldk m c t 3 768 rfl, ldq m c t 3 768 rfl, ldv m c t 3 768 rfl, ldo m c t 3 768 rfl]
      exact part9 m c t 3 r l
    · obtain rfl : r = r' := Fin.ext hx0
      obtain ⟨rfl, rfl⟩ : h = 2 ∧ l = l' := head hx1 rfl
      rw [nine2, ldk m c t 2 512 rfl, ldq m c t 2 512 rfl, ldv m c t 2 512 rfl, ldo m c t 2 512 rfl]
      exact part9 m c t 2 r l
    · obtain rfl : r = r' := Fin.ext hx0
      obtain ⟨rfl, rfl⟩ : h = 1 ∧ l = l' := head hx1 rfl
      rw [nine1, ldk m c t 1 256 rfl, ldq m c t 1 256 rfl, ldv m c t 1 256 rfl, ldo m c t 1 256 rfl]
      exact part9 m c t 1 r l
    · obtain rfl : r = r' := Fin.ext hx0
      obtain ⟨rfl, rfl⟩ : h = 0 ∧ l = l' := head (hx1.trans (Nat.zero_add _).symm) rfl
      rw [ldk m c t 0 0 rfl, ldq m c t 0 0 rfl, ldv m c t 0 0 rfl, ldo m c t 0 0 rfl]
      exact part9 m c t 0 r l
  · rw [outsAt0_B m c t ht (by omega) ht (by omega) ht (by omega) ht (by omega)]
    frame_out
    canon_tiles x hx using View.cover_of_tiled_head _ _ _ (by rfl) _
    all_goals obtain ⟨r', l', rfl⟩ : ∃ (r' : Fin 1024) (l' : Fin 256), x = ix2 r' l' := ⟨x 0, x 1, eq_ix2 x⟩
    · obtain rfl : r = r' := Fin.ext hx0
      obtain ⟨rfl, rfl⟩ : h = 3 ∧ l = l' := head hx1 rfl
      rw [nine3, ldk m c t 3 768 rfl, ldq m c t 3 768 rfl, ldv m c t 3 768 rfl, ldo m c t 3 768 rfl]
      exact part9 m c t 3 r l
    · obtain rfl : r = r' := Fin.ext hx0
      obtain ⟨rfl, rfl⟩ : h = 2 ∧ l = l' := head hx1 rfl
      rw [nine2, ldk m c t 2 512 rfl, ldq m c t 2 512 rfl, ldv m c t 2 512 rfl, ldo m c t 2 512 rfl]
      exact part9 m c t 2 r l
    · obtain rfl : r = r' := Fin.ext hx0
      obtain ⟨rfl, rfl⟩ : h = 1 ∧ l = l' := head hx1 rfl
      rw [nine1, ldk m c t 1 256 rfl, ldq m c t 1 256 rfl, ldv m c t 1 256 rfl, ldo m c t 1 256 rfl]
      exact part9 m c t 1 r l
    · obtain rfl : r = r' := Fin.ext hx0
      obtain ⟨rfl, rfl⟩ : h = 0 ∧ l = l' := head (hx1.trans (Nat.zero_add _).symm) rfl
      rw [ldk m c t 0 0 rfl, ldq m c t 0 0 rfl, ldv m c t 0 0 rfl, ldo m c t 0 0 rfl]
      exact part9 m c t 0 r l

theorem out5_A (ht : t.val % 2 = 0) (k : Fin 256) (h : Fin 4) (l : Fin 256) :
    (outsAt0 m c t.val t.isLt).2.1 (ix2 k (hcol h l)) = dkpart m c t h k l := by
  rw [outsAt0_A m c t ht (by omega) ht (by omega) ht (by omega) ht (by omega)]
  frame_out
  canon_tiles x hx using View.cover_of_tiled_head _ _ _ (by rfl) _
  all_goals obtain ⟨r', l', rfl⟩ : ∃ (r' : Fin 256) (l' : Fin 256), x = ix2 r' l' := ⟨x 0, x 1, eq_ix2 x⟩
  · obtain rfl : k = r' := Fin.ext hx0
    obtain ⟨rfl, rfl⟩ : h = 3 ∧ l = l' := head hx1 rfl
    rw [ten3, ldk m c t 3 768 rfl, ldq m c t 3 768 rfl, ldv m c t 3 768 rfl, ldo m c t 3 768 rfl]
    exact part10 m c t 3 k l
  · obtain rfl : k = r' := Fin.ext hx0
    obtain ⟨rfl, rfl⟩ : h = 2 ∧ l = l' := head hx1 rfl
    rw [ten2, ldk m c t 2 512 rfl, ldq m c t 2 512 rfl, ldv m c t 2 512 rfl, ldo m c t 2 512 rfl]
    exact part10 m c t 2 k l
  · obtain rfl : k = r' := Fin.ext hx0
    obtain ⟨rfl, rfl⟩ : h = 1 ∧ l = l' := head hx1 rfl
    rw [ten1, ldk m c t 1 256 rfl, ldq m c t 1 256 rfl, ldv m c t 1 256 rfl, ldo m c t 1 256 rfl]
    exact part10 m c t 1 k l
  · obtain rfl : k = r' := Fin.ext hx0
    obtain ⟨rfl, rfl⟩ : h = 0 ∧ l = l' := head (hx1.trans (Nat.zero_add _).symm) rfl
    rw [ldk m c t 0 0 rfl, ldq m c t 0 0 rfl, ldv m c t 0 0 rfl, ldo m c t 0 0 rfl]
    exact part10 m c t 0 k l

theorem out5_B (ht : ¬t.val % 2 = 0) (k : Fin 256) (h : Fin 4) (l : Fin 256) : (outsAt0 m c t.val t.isLt).2.1 (ix2 k (hcol h l))
    = (outsAt0 m c (t.val - 1) (Nat.lt_of_le_of_lt (Nat.sub_le _ _) t.isLt)).2.1 (ix2 k (hcol h l)) + dkpart m c t h k l := by
  rw [outsAt0_B m c t ht (by omega) ht (by omega) ht (by omega) ht (by omega)]
  frame_out
  canon_tiles x hx using View.cover_of_tiled_head _ _ _ (by rfl) _
  all_goals obtain ⟨r', l', rfl⟩ : ∃ (r' : Fin 256) (l' : Fin 256), x = ix2 r' l' := ⟨x 0, x 1, eq_ix2 x⟩
  · obtain rfl : k = r' := Fin.ext hx0
    obtain ⟨rfl, rfl⟩ : h = 3 ∧ l = l' := head hx1 rfl
    rw [add3, ten3, ldk m c t 3 768 rfl, ldq m c t 3 768 rfl, ldv m c t 3 768 rfl, ldo m c t 3 768 rfl]
    exact (acc _ _ _ _).trans (congrArg₂ (· + ·) (ldacc _ 3 768 rfl _ k l) (part10 m c t 3 k l))
  · obtain rfl : k = r' := Fin.ext hx0
    obtain ⟨rfl, rfl⟩ : h = 2 ∧ l = l' := head hx1 rfl
    rw [add2, ten2, ldk m c t 2 512 rfl, ldq m c t 2 512 rfl, ldv m c t 2 512 rfl, ldo m c t 2 512 rfl]
    exact (acc _ _ _ _).trans (congrArg₂ (· + ·) (ldacc _ 2 512 rfl _ k l) (part10 m c t 2 k l))
  · obtain rfl : k = r' := Fin.ext hx0
    obtain ⟨rfl, rfl⟩ : h = 1 ∧ l = l' := head hx1 rfl
    rw [add1, ten1, ldk m c t 1 256 rfl, ldq m c t 1 256 rfl, ldv m c t 1 256 rfl, ldo m c t 1 256 rfl]
    exact (acc _ _ _ _).trans (congrArg₂ (· + ·) (ldacc _ 1 256 rfl _ k l) (part10 m c t 1 k l))
  · obtain rfl : k = r' := Fin.ext hx0
    obtain ⟨rfl, rfl⟩ : h = 0 ∧ l = l' := head (hx1.trans (Nat.zero_add _).symm) rfl
    rw [ldk m c t 0 0 rfl, ldq m c t 0 0 rfl, ldv m c t 0 0 rfl, ldo m c t 0 0 rfl]
    exact (acc _ _ _ _).trans (congrArg₂ (· + ·) (ldacc _ 0 0 rfl _ k l) (part10 m c t 0 k l))

theorem out6_A (ht : t.val % 2 = 0) (k : Fin 256) (h : Fin 4) (l : Fin 256) :
    (outsAt0 m c t.val t.isLt).2.2 (ix2 k (hcol h l)) = dvpart m c t h k l := by
  rw [outsAt0_A m c t ht (by omega) ht (by omega) ht (by omega) ht (by omega)]
  frame_out
  canon_tiles x hx using View.cover_of_tiled_head _ _ _ (by rfl) _
  all_goals obtain ⟨r', l', rfl⟩ : ∃ (r' : Fin 256) (l' : Fin 256), x = ix2 r' l' := ⟨x 0, x 1, eq_ix2 x⟩
  · obtain rfl : k = r' := Fin.ext hx0
    obtain ⟨rfl, rfl⟩ : h = 3 ∧ l = l' := head hx1 rfl
    rw [seven3, ldk m c t 3 768 rfl, ldq m c t 3 768 rfl, ldo m c t 3 768 rfl]
    exact part7 m c t 3 k l
  · obtain rfl : k = r' := Fin.ext hx0
    obtain ⟨rfl, rfl⟩ : h = 2 ∧ l = l' := head hx1 rfl
    rw [seven2, ldk m c t 2 512 rfl, ldq m c t 2 512 rfl, ldo m c t 2 512 rfl]
    exact part7 m c t 2 k l
  · obtain rfl : k = r' := Fin.ext hx0
    obtain ⟨rfl, rfl⟩ : h = 1 ∧ l = l' := head hx1 rfl
    rw [seven1, ldk m c t 1 256 rfl, ldq m c t 1 256 rfl, ldo m c t 1 256 rfl]
    exact part7 m c t 1 k l
  · obtain rfl : k = r' := Fin.ext hx0
    obtain ⟨rfl, rfl⟩ : h = 0 ∧ l = l' := head (hx1.trans (Nat.zero_add _).symm) rfl
    rw [ldk m c t 0 0 rfl, ldq m c t 0 0 rfl, ldo m c t 0 0 rfl]
    exact part7 m c t 0 k l

theorem out6_B (ht : ¬t.val % 2 = 0) (k : Fin 256) (h : Fin 4) (l : Fin 256) : (outsAt0 m c t.val t.isLt).2.2 (ix2 k (hcol h l))
    = (outsAt0 m c (t.val - 1) (Nat.lt_of_le_of_lt (Nat.sub_le _ _) t.isLt)).2.2 (ix2 k (hcol h l)) + dvpart m c t h k l := by
  rw [outsAt0_B m c t ht (by omega) ht (by omega) ht (by omega) ht (by omega)]
  frame_out
  canon_tiles x hx using View.cover_of_tiled_head _ _ _ (by rfl) _
  all_goals obtain ⟨r', l', rfl⟩ : ∃ (r' : Fin 256) (l' : Fin 256), x = ix2 r' l' := ⟨x 0, x 1, eq_ix2 x⟩
  · obtain rfl : k = r' := Fin.ext hx0
    obtain ⟨rfl, rfl⟩ : h = 3 ∧ l = l' := head hx1 rfl
    rw [sum3, seven3, ldk m c t 3 768 rfl, ldq m c t 3 768 rfl, ldo m c t 3 768 rfl]
    exact (acc _ _ _ _).trans (congrArg₂ (· + ·) (ldacc _ 3 768 rfl _ k l) (part7 m c t 3 k l))
  · obtain rfl : k = r' := Fin.ext hx0
    obtain ⟨rfl, rfl⟩ : h = 2 ∧ l = l' := head hx1 rfl
    rw [sum2, seven2, ldk m c t 2 512 rfl, ldq m c t 2 512 rfl, ldo m c t 2 512 rfl]
    exact (acc _ _ _ _).trans (congrArg₂ (· + ·) (ldacc _ 2 512 rfl _ k l) (part7 m c t 2 k l))
  · obtain rfl : k = r' := Fin.ext hx0
    obtain ⟨rfl, rfl⟩ : h = 1 ∧ l = l' := head hx1 rfl
    rw [sum1, seven1, ldk m c t 1 256 rfl, ldq m c t 1 256 rfl, ldo m c t 1 256 rfl]
    exact (acc _ _ _ _).trans (congrArg₂ (· + ·) (ldacc _ 1 256 rfl _ k l) (part7 m c t 1 k l))
  · obtain rfl : k = r' := Fin.ext hx0
    obtain ⟨rfl, rfl⟩ : h = 0 ∧ l = l' := head (hx1.trans (Nat.zero_add _).symm) rfl
    rw [sum0, ldk m c t 0 0 rfl, ldq m c t 0 0 rfl, ldo m c t 0 0 rfl]
    exact (acc _ _ _ _).trans (congrArg₂ (· + ·) (ldacc _ 0 0 rfl _ k l) (part7 m c t 0 k l))

/-! ## The arrays after the run -/

/-- A sum over a sequence's positions in its two row blocks. -/
theorem two_blocks (f : Fin 8192 → EReal) (ht : t.val % 2 = 1) (t' : Fin cfg0.N) (h' : t'.val = t.val - 1) :
    (∑ r, f (row t' r)) + ∑ r, f (row t r) = ∑ s, f (srow (seq t) s) := by
  refine (congrArg₂ (· + ·) ?_ ?_).trans (Fin.sum_univ_add (a := 1024) (b := 1024) fun s : Fin 2048 => f (srow (seq t) s)).symm
  · refine Finset.sum_congr rfl fun r _ => congrArg f (Fin.ext ?_)
    simp only [row, srow, seq, Fin.val_castAdd]
    omega
  · refine Finset.sum_congr rfl fun r _ => congrArg f (Fin.ext ?_)
    simp only [row, srow, seq, Fin.val_natAdd]
    omega

theorem cols (k : Fin 1024) : ∃ (h : Fin 4) (l : Fin 256), k = hcol h l :=
  ⟨⟨k.val / 256, by omega⟩, ⟨k.val % 256, by omega⟩, Fin.ext (by simp only [hcol]; omega)⟩

theorem rows (t : Fin cfg0.N) (r : Fin 1024) : ∃ s : Fin 2048, row t r = srow (seq t) s :=
  ⟨⟨t.val % 2 * 1024 + r.val, by omega⟩, Fin.ext (by simp only [row, srow, seq]; omega)⟩

/-- No query, key or value is infinite. -/
def Fin' : Prop := (∀ i, ∃ r : ℝ, A1 m c i = r) ∧ ∀ i, ∃ r : ℝ, A2 m c i = r

theorem score_real (hf : Fin' m c) (b h : Fin 4) (i : Fin 8192) (k : Fin 256) : ∃ r : ℝ, score (A1 m c) (A2 m c) b h i k = r := by
  obtain ⟨x, hx⟩ := Reals.exists_real hf.1
  obtain ⟨y, hy⟩ := Reals.exists_real hf.2
  obtain ⟨z, hz⟩ := scale_real
  unfold score
  simp only [hx, hy, hz, ← EReal.coe_mul, Reals.coe_sum]
  exact ⟨_, rfl⟩

theorem final4 (hf : Fin' m c) : (dats m 0 c).arrAt 4 cfg0.N = Cert.XAttnRefIdeal.Read.val_main_v68 (F := Ideal) (A0 m c) (A1 m c) (A2 m c) := by
  refine (dats m 0 c).arrAt_eq_of_covers 4 _ (by decide +kernel) fun t _ y => ?_
  blk_simp
  obtain ⟨r, k, rfl⟩ : ∃ (r : Fin 1024) (k : Fin 1024), y = ix2 r k := ⟨y 0, y 1, eq_ix2 y⟩
  obtain ⟨h, l, rfl⟩ := cols k
  rw [after0_4, emb4, out4]
  obtain ⟨s, hs⟩ := rows t r
  rw [hs, v68 _ _ _ _ _ _ _ fun i k => score_real m c hf _ _ i k]
  rfl

theorem final5 (hf : Fin' m c) : (dats m 0 c).arrAt 5 cfg0.N = Cert.XAttnRefIdeal.Read.val_main_v66 (F := Ideal) (A0 m c) (A1 m c) (A2 m c) := by
  refine (dats m 0 c).arrAt_eq_of_covers 5 _ (by decide +kernel) fun t ht y => ?_
  have ht := (flush0_5 t).mp ht
  have htl := t.isLt
  blk_simp
  obtain ⟨r, k, rfl⟩ : ∃ (r : Fin 256) (k : Fin 1024), y = ix2 r k := ⟨y 0, y 1, eq_ix2 y⟩
  obtain ⟨h, l, rfl⟩ := cols k
  rw [after0_5, emb5, out5_B m c t (by omega),
    out5_A m c ⟨t.val - 1, Nat.lt_of_le_of_lt (Nat.sub_le _ _) t.isLt⟩ (by show (t.val - 1) % 2 = 0; omega)]
  have hq : seq ⟨t.val - 1, Nat.lt_of_le_of_lt (Nat.sub_le _ _) t.isLt⟩ = seq t := Fin.ext (by simp only [seq]; omega)
  unfold dkpart
  rw [hq, two_blocks t (fun i => dscore (A0 m c) (A1 m c) (A2 m c) (seq t) h i r * A1 m c (ix2 i (hcol h l))) ht _ rfl,
    krow_eq, v66 _ _ _ _ _ _ _ fun i k => score_real m c hf _ _ i k]

theorem final6 (hf : Fin' m c) : (dats m 0 c).arrAt 6 cfg0.N = Cert.XAttnRefIdeal.Read.val_main_v65 (F := Ideal) (A0 m c) (A1 m c) (A2 m c) := by
  refine (dats m 0 c).arrAt_eq_of_covers 6 _ (by decide +kernel) fun t ht y => ?_
  have ht := (flush0_6 t).mp ht
  have htl := t.isLt
  blk_simp
  obtain ⟨r, k, rfl⟩ : ∃ (r : Fin 256) (k : Fin 1024), y = ix2 r k := ⟨y 0, y 1, eq_ix2 y⟩
  obtain ⟨h, l, rfl⟩ := cols k
  rw [after0_6, emb6, out6_B m c t (by omega),
    out6_A m c ⟨t.val - 1, Nat.lt_of_le_of_lt (Nat.sub_le _ _) t.isLt⟩ (by show (t.val - 1) % 2 = 0; omega)]
  have hq : seq ⟨t.val - 1, Nat.lt_of_le_of_lt (Nat.sub_le _ _) t.isLt⟩ = seq t := Fin.ext (by simp only [seq]; omega)
  unfold dvpart
  rw [hq, two_blocks t (fun i => soft (score (A1 m c) (A2 m c) (seq t) h i) r * A0 m c (ix2 i (hcol h l))) ht _ rfl,
    krow_eq, v65 _ _ _ _ _ _ _ fun i k => score_real m c hf _ _ i k]

/-! ## The claims -/

theorem finite (hpre : Cert.Pre_XAttnIdeal_finite_xattn m) : Fin' m c :=
  ⟨fun i => Reals.finite_of_test _ _ i (by exact Ideal.ofBits_zero_bf16) (congrFun (hpre c).1 i),
    fun i => Reals.finite_of_test _ _ i (by exact Ideal.ofBits_zero_bf16) (congrFun (hpre c).2 i)⟩

theorem ref_frame : Cert.quiescent_XAttnRefIdeal := fun m ρ _ =>
  (θ_run Cert.XAttnRefIdeal.defs _ _).mono (fun r h => ⟨fun c => (h c).2.2.2,
      Idealize.ShloMosaic.sem_eq_zero_of_no_sems (by decide) r.2⟩)
    (Cert.XAttnRefIdeal.Value.run (F := Ideal) m ρ)

theorem algebraic : Cert.algebraic_XAttnIdeal_XAttnRefIdeal_pre_finite_xattn := by
  intro m ρ m' ρ' hpre hagree
  refine ⟨fun c => (dats m 0 c).arrAt 4 cfg0.N, fun c => (dats m 0 c).arrAt 5 cfg0.N, fun c => (dats m 0 c).arrAt 6 cfg0.N,
    Value.run_blocks (F := Ideal) m ρ, ?_⟩
  refine (θ_run Cert.XAttnRefIdeal.defs _ _).mono (fun r h c => ?_) (Cert.XAttnRefIdeal.Value.run (F := Ideal) m' ρ')
  obtain ⟨h0, h1, h2, h⟩ := h c
  obtain ⟨a0, a1, a2⟩ := hagree c
  rw [Cert.XAttnRefIdeal.Read.val_main_v68_eq, a0, a1, a2] at h0
  rw [Cert.XAttnRefIdeal.Read.val_main_v66_eq, a0, a1, a2] at h1
  rw [Cert.XAttnRefIdeal.Read.val_main_v65_eq, a0, a1, a2] at h2
  exact ⟨h0.trans (final4 m c (finite m c hpre)).symm, h1.trans (final5 m c (finite m c hpre)).symm,
    h2.trans (final6 m c (finite m c hpre)).symm, h⟩

end Cert.Proof.XAttn

end
-- ==== Proof.XFwdValue.lean ====
/-
  The cross attention, a head at a time over two row blocks of each sequence.
-/
module

public import proofs.«01_k».proof.Defs
public import proofs.«01_k».proof.Proof.Reals
public import proofs.«01_k».proof.Proof.XAttnRef
public import proofs.«01_k».proof.Proof.Gen.Pre_finite_scores
public import proofs.«01_k».proof.Proof.Gen.XFwdIdeal.Value
public import proofs.«01_k».proof.Proof.Gen.XFwdRefIdeal.Run
public import proofs.«01_k».proof.Proof.Gen.XFwdRefIdeal.Read
public import Idealize.ShloMosaic.Lib.Pipeline.ValueKit
public import Idealize.ShloMosaic.Lib.Pipeline.ReadBack
public import Idealize.ShloMosaic.Lib.Pointwise

@[expose] public section

noncomputable section

namespace Cert.Proof.XFwd

open Cert.XFwdIdeal Cert.XFwdIdeal.Gen Idealize.ShloMosaic Idealize.ShloMosaic.TcCoe Idealize.SL.Sem
open Idealize.ShloMosaic.Pipeline (Dat)
open Cert.Proof.XAttn (scale scale_real top ex soft soft_div score srow brow hcol kcol vcol ofBits_neg_top)

/-! ## The reference, read at an index -/

section
open Cert.XFwdRefIdeal.Read

variable (x0 : (⟨2, ![8192, 1024]⟩ : Shape).Idx → EReal) (x1 : (⟨2, ![1024, 2048]⟩ : Shape).Idx → EReal)
variable (b h : Fin 4) (s : Fin 2048) (k l : Fin 256)

theorem v9 : val_main_v9 (F := Ideal) x0 x1 (ix4 b h s k) = score x0 x1 b h (srow b s) k := by
  unfold val_main_v9 val_main_v8 val_main_cst val_main_v7 val_main_v4 val_main_v3 val_main_v2 val_main_v1 val_main_v0
  generalize hz : score x0 x1 b h (srow b s) k = z
  pointwise
  rw [← hz]
  rfl

theorem v10 : val_main_v10 (F := Ideal) x0 x1 (ix3 b h s) = top (score x0 x1 b h (srow b s)) := by
  unfold val_main_v10 val_main_cst_0
  generalize hz : top (score x0 x1 b h (srow b s)) = z
  pointwise [v9]
  rw [← hz]
  rfl

theorem v12 : val_main_v12 (F := Ideal) x0 x1 (ix3 b h s) = top (score x0 x1 b h (srow b s)) := by
  rw [val_main_v12_apply, v10, val_main_v11_apply]
  exact (congrArg (max · _) ofBits_neg_top).trans (max_eq_right bot_le)

theorem v16 : val_main_v16 (F := Ideal) x0 x1 (ix4 b h s k) = ex (score x0 x1 b h (srow b s)) k := by
  unfold val_main_v16 val_main_v15 val_main_v14 val_main_v13 ex
  generalize hz : top (score x0 x1 b h (srow b s)) = z
  pointwise [v9, v12, hz]

theorem v18 (u : Fin 1) : val_main_v18 (F := Ideal) x0 x1 (ix4 b h s u) = ∑ x, ex (score x0 x1 b h (srow b s)) x := by
  unfold val_main_v18 val_main_v17 val_main_cst_2
  pointwise [v16]

theorem v20 (hf : ∀ k, ∃ r : ℝ, score x0 x1 b h (srow b s) k = r) :
    val_main_v20 (F := Ideal) x0 x1 (ix4 b h s k) = soft (score x0 x1 b h (srow b s)) k := by
  rw [← soft_div _ hf]
  unfold val_main_v20 val_main_v19
  pointwise [v16, v18]

theorem v24 (hf : ∀ i k, ∃ r : ℝ, score x0 x1 b h i k = r) : val_main_v24 (F := Ideal) x0 x1 (ix2 (srow b s) (hcol h l))
    = ∑ k, soft (score x0 x1 b h (srow b s)) k * x1 (ix2 (brow b k) (vcol (hcol h l))) := by
  unfold val_main_v24 val_main_v23 val_main_v22 val_main_v21 val_main_v6 val_main_v5 val_main_v1
  pointwise
  refine Finset.sum_congr rfl fun x _ => ?_
  rw [XAttn.srow_div, XAttn.hcol_div, XAttn.srow_mod, XAttn.srow_brow, v20 _ _ _ _ _ _ (hf _), mul_comm]
  rfl

end

variable (m : (ℓ : Loc nD τ sig) → Buf (Elt Ideal) ℓ)

theorem e0 : ∀ t : Fin cfg0.N, win0_0.index t = ![t.val, 0] :=
  (by decide +kernel : ∀ t : Fin grid0.N, win0_0.index t = ![t.val, 0])
theorem e1 : ∀ t : Fin cfg0.N, win0_1.index t = ![t.val / 2, 0] :=
  (by decide +kernel : ∀ t : Fin grid0.N, win0_1.index t = ![t.val / 2, 0])
theorem e2 : ∀ t : Fin cfg0.N, win0_2.index t = ![t.val / 2, 1] :=
  (by decide +kernel : ∀ t : Fin grid0.N, win0_2.index t = ![t.val / 2, 1])
theorem e3 : ∀ t : Fin cfg0.N, win0_3.index t = ![t.val, 0] :=
  (by decide +kernel : ∀ t : Fin grid0.N, win0_3.index t = ![t.val, 0])

/-- The array row of row `r` of point `t`'s tile. -/
def row (t : Fin cfg0.N) (r : Fin 1024) : Fin 8192 := ⟨t.val * 1024 + r.val, by
  have := t.isLt; have h : cfg0.N = 8 := N_0; omega⟩

/-- The array row of row `r` of point `t`'s keys. -/
def krow (t : Fin cfg0.N) (r : Fin 256) : Fin 1024 := ⟨t.val / 2 * 256 + r.val, by
  have := t.isLt; have h : cfg0.N = 8 := N_0; omega⟩

/-- The sequence of a point. -/
def seq (t : Fin cfg0.N) : Fin 4 := ⟨t.val / 2, by have := t.isLt; have h : cfg0.N = 8 := N_0; omega⟩

variable (c : Dev nD) (t : Fin cfg0.N)

/-- The arguments' arrays. -/
def A0 : S8192x1024.Idx → EReal := m ((c : Thread nD τ).loc main_arg0)
def A1 : S1024x2048.Idx → EReal := m ((c : Thread nD τ).loc main_arg1)

theorem blk0 (r : Fin 1024) (k : Fin 1024) : iblk m c 0 t (ix2 r k) = A0 m c (ix2 (row t r) k) := by
  blk_ext [iblk, V, A0, e0, row]
theorem blk1 (r : Fin 256) (k : Fin 1024) : iblk m c 1 t (ix2 r k) = A1 m c (ix2 (krow t r) (kcol k)) := by
  blk_ext [iblk, V, A1, e1, krow, kcol]
theorem blk2 (r : Fin 256) (k : Fin 1024) : iblk m c 2 t (ix2 r k) = A1 m c (ix2 (krow t r) (vcol k)) := by
  blk_ext [iblk, V, A1, e2, krow, vcol]
theorem emb3 (r : Fin 1024) (k : Fin 1024) : (win0_3.blk t).view.emb (ix2 r k) = ix2 (row t r) k := by
  blk_ext [e3, row]

/-! ## A head's tiles -/

def tq (h : Fin 4) : S1024x256.Idx → EReal := fun i => A0 m c (ix2 (row t (i 0)) (hcol h (i 1)))
def tk (h : Fin 4) : S256x256.Idx → EReal := fun i => A1 m c (ix2 (krow t (i 0)) (kcol (hcol h (i 1))))
def tv (h : Fin 4) : S256x256.Idx → EReal := fun i => A1 m c (ix2 (krow t (i 0)) (vcol (hcol h (i 1))))

theorem ldq (h : Fin 4) (o : ℕ) (ho : o = h.val * 256) (inb) :
    View.ld (iblk m c 0 t) (Rect.unit ![0, o] ![1024, 256] inb) = tq m c t h := by
  funext i
  refine (View.ld_unit_apply_of _ _ _ _ _ (ix2 (i 0) (hcol h (i 1))) fun a => ?_).trans (blk0 m c t _ _)
  subst ho
  match a with
  | ⟨0, _⟩ => exact (Nat.zero_add _).symm
  | ⟨1, _⟩ => rfl
theorem ldk (h : Fin 4) (o : ℕ) (ho : o = h.val * 256) (inb) :
    View.ld (iblk m c 1 t) (Rect.unit ![0, o] ![256, 256] inb) = tk m c t h := by
  funext i
  refine (View.ld_unit_apply_of _ _ _ _ _ (ix2 (i 0) (hcol h (i 1))) fun a => ?_).trans (blk1 m c t _ _)
  subst ho
  match a with
  | ⟨0, _⟩ => exact (Nat.zero_add _).symm
  | ⟨1, _⟩ => rfl
theorem ldv (h : Fin 4) (o : ℕ) (ho : o = h.val * 256) (inb) :
    View.ld (iblk m c 2 t) (Rect.unit ![0, o] ![256, 256] inb) = tv m c t h := by
  funext i
  refine (View.ld_unit_apply_of _ _ _ _ _ (ix2 (i 0) (hcol h (i 1))) fun a => ?_).trans (blk2 m c t _ _)
  subst ho
  match a with
  | ⟨0, _⟩ => exact (Nat.zero_add _).symm
  | ⟨1, _⟩ => rfl

section
variable (q : S1024x256.Idx → EReal) (kk v : S256x256.Idx → EReal)

/-- A row of a tile's scores. -/
def tscore (r : Fin 1024) (k : Fin 256) : EReal := (∑ d, q (ix2 r d) * kk (ix2 k d)) * scale

theorem pay3 (r : Fin 1024) (k : Fin 256) : k0_pay3 (F := Ideal) q kk (ix2 r k) = ex (tscore q kk r) k := by
  generalize hz : ex (tscore q kk r) k = z
  unfold k0_pay3
  pointwise
  rw [← hz]
  rfl

theorem pay4 (r : Fin 1024) (u : Fin 1) : k0_pay4 (F := Ideal) q kk (ix2 r u) = ∑ x, ex (tscore q kk r) x := by
  unfold k0_pay4
  pointwise [pay3]

theorem pay6 (r : Fin 1024) (l : Fin 256) : k0_pay6 (F := Ideal) (k0_pay3 q kk) (k0_pay4 q kk) k0_pay5 v (ix2 r l)
    = ∑ k, soft (tscore q kk r) k * v (ix2 k l) := by
  unfold k0_pay6 k0_pay5 soft
  pointwise [pay3, pay4, Ideal.ofBits_one_f32]

/-! ## The other heads' payloads are the second head's -/

theorem out_3 : k0_pay1 (F := Ideal) (k0_pay8 q kk) k0_pay9 v = k0_pay6 (k0_pay3 q kk) (k0_pay4 q kk) k0_pay5 v := rfl
theorem out_2 : k0_pay7 (F := Ideal) q kk v = k0_pay6 (k0_pay3 q kk) (k0_pay4 q kk) k0_pay5 v := rfl
theorem out_0 : k0_pay2 (F := Ideal) q kk v = k0_pay6 (k0_pay3 q kk) (k0_pay4 q kk) k0_pay5 v := rfl

end

theorem part (h : Fin 4) (r : Fin 1024) (l : Fin 256) :
    k0_pay6 (F := Ideal) (k0_pay3 (tq m c t h) (tk m c t h)) (k0_pay4 (tq m c t h) (tk m c t h)) k0_pay5 (tv m c t h) (ix2 r l)
      = ∑ k, soft (score (A0 m c) (A1 m c) (seq t) h (row t r)) k * A1 m c (ix2 (krow t k) (vcol (hcol h l))) := by
  rw [pay6]
  rfl

/-! ## What each point leaves -/

theorem head {h h' : Fin 4} {l l' : Fin 256} {o : ℕ} (e : h.val * 256 + l.val = o + l'.val) (ho : o = h'.val * 256) : h = h' ∧ l = l' :=
  ⟨Fin.ext (by omega), Fin.ext (by omega)⟩

theorem out3 (r : Fin 1024) (h : Fin 4) (l : Fin 256) : out0_3 (iblk m c 0 t) (iblk m c 1 t) (iblk m c 2 t) (ix2 r (hcol h l))
    = ∑ k, soft (score (A0 m c) (A1 m c) (seq t) h (row t r)) k * A1 m c (ix2 (krow t k) (vcol (hcol h l))) := by
  unfold out0_3
  canon_tiles x hx using View.cover_of_tiled_head _ _ _ (by rfl) _
  all_goals obtain ⟨r', l', rfl⟩ : ∃ (r' : Fin 1024) (l' : Fin 256), x = ix2 r' l' := ⟨x 0, x 1, eq_ix2 x⟩
  · obtain rfl : r = r' := Fin.ext hx0
    obtain ⟨rfl, rfl⟩ : h = 3 ∧ l = l' := head hx1 rfl
    rw [ldq m c t 3 768 rfl, ldk m c t 3 768 rfl, ldv m c t 3 768 rfl, out_3]
    exact part m c t 3 r l
  · obtain rfl : r = r' := Fin.ext hx0
    obtain ⟨rfl, rfl⟩ : h = 2 ∧ l = l' := head hx1 rfl
    rw [ldq m c t 2 512 rfl, ldk m c t 2 512 rfl, ldv m c t 2 512 rfl, out_2]
    exact part m c t 2 r l
  · obtain rfl : r = r' := Fin.ext hx0
    obtain ⟨rfl, rfl⟩ : h = 1 ∧ l = l' := head hx1 rfl
    rw [ldq m c t 1 256 rfl, ldk m c t 1 256 rfl, ldq m c t 1 256 rfl, ldk m c t 1 256 rfl, ldv m c t 1 256 rfl]
    exact part m c t 1 r l
  · obtain rfl : r = r' := Fin.ext hx0
    obtain ⟨rfl, rfl⟩ : h = 0 ∧ l = l' := head (hx1.trans (Nat.zero_add _).symm) rfl
    rw [ldq m c t 0 0 rfl, ldk m c t 0 0 rfl, ldv m c t 0 0 rfl, out_0]
    exact part m c t 0 r l

theorem cols (k : Fin 1024) : ∃ (h : Fin 4) (l : Fin 256), k = hcol h l :=
  ⟨⟨k.val / 256, by omega⟩, ⟨k.val % 256, by omega⟩, Fin.ext (by simp only [hcol]; omega)⟩

theorem rows (t : Fin cfg0.N) (r : Fin 1024) : ∃ s : Fin 2048, row t r = srow (seq t) s :=
  ⟨⟨t.val % 2 * 1024 + r.val, by omega⟩, Fin.ext (by simp only [row, srow, seq]; omega)⟩

/-- No query or key is infinite. -/
def Fin' : Prop := (∀ i, ∃ r : ℝ, A0 m c i = r) ∧ ∀ i k, ∃ r : ℝ, A1 m c (ix2 i (kcol k)) = r

theorem score_real (hf : Fin' m c) (b h : Fin 4) (i : Fin 8192) (k : Fin 256) : ∃ r : ℝ, score (A0 m c) (A1 m c) b h i k = r := by
  obtain ⟨x, hx⟩ := Reals.exists_real hf.1
  obtain ⟨y, hy⟩ := Reals.exists_real fun d => hf.2 (brow b k) (hcol h d)
  obtain ⟨z, hz⟩ := scale_real
  unfold score
  simp only [hx, hy, hz, ← EReal.coe_mul, Reals.coe_sum]
  exact ⟨_, rfl⟩

theorem final3 (hf : Fin' m c) : (dats m 0 c).arrAt 3 cfg0.N = Cert.XFwdRefIdeal.Read.val_main_v24 (F := Ideal) (A0 m c) (A1 m c) := by
  refine (dats m 0 c).arrAt_eq_of_covers 3 _ (by decide +kernel) fun t _ y => ?_
  blk_simp
  obtain ⟨r, k, rfl⟩ : ∃ (r : Fin 1024) (k : Fin 1024), y = ix2 r k := ⟨y 0, y 1, eq_ix2 y⟩
  obtain ⟨h, l, rfl⟩ := cols k
  rw [after0_3, emb3, out3]
  obtain ⟨s, hs⟩ := rows t r
  rw [hs, v24 _ _ _ _ _ _ fun i k => score_real m c hf _ _ i k]
  rfl

/-! ## The claims -/

theorem finite (hpre : Cert.Pre_XFwdIdeal_finite_scores m) : Fin' m c := by
  refine ⟨fun i => Reals.finite_of_test _ _ i (by exact Ideal.ofBits_zero_bf16) (congrFun (hpre c).1 i), fun i k => ?_⟩
  obtain ⟨x, hx⟩ := Reals.finite_of_test _ _ (ix2 i k) (by exact Ideal.ofBits_zero_bf16) (congrFun (hpre c).2 (ix2 i k))
  refine ⟨x, Eq.trans ?_ hx⟩
  unfold A1 kcol
  pointwise

theorem ref_frame : Cert.quiescent_XFwdRefIdeal := fun m ρ _ =>
  (θ_run Cert.XFwdRefIdeal.defs _ _).mono (fun r h => ⟨fun c => (h c).2,
      Idealize.ShloMosaic.sem_eq_zero_of_no_sems (by decide) r.2⟩)
    (Cert.XFwdRefIdeal.Value.run (F := Ideal) m ρ)

theorem algebraic : Cert.algebraic_XFwdIdeal_XFwdRefIdeal_pre_finite_scores := by
  intro m ρ m' ρ' hpre hagree
  refine ⟨fun c => (dats m 0 c).arrAt 3 cfg0.N, Value.run_blocks (F := Ideal) m ρ, ?_⟩
  refine (θ_run Cert.XFwdRefIdeal.defs _ _).mono (fun r h c => ?_) (Cert.XFwdRefIdeal.Value.run (F := Ideal) m' ρ')
  obtain ⟨h0, h⟩ := h c
  obtain ⟨a0, a1⟩ := hagree c
  rw [Cert.XFwdRefIdeal.Read.val_main_v24_eq, a0, a1] at h0
  exact ⟨h0.trans (final3 m c (finite m c hpre)).symm, h⟩

end Cert.Proof.XFwd

end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.ConvA
public import proofs.«01_k».proof.Proof.Gen.ConvA.Skeleton
public import proofs.«01_k».proof.Proof.Gen.ConvA.Launch
public import proofs.«01_k».proof.Proof.Gen.ConvA.Points
public import proofs.«01_k».proof.Proof.Gen.ConvA.Frame
public import proofs.«01_k».proof.Proof.Gen.ConvAIdeal
public import proofs.«01_k».proof.Proof.Gen.ConvAIdeal.Skeleton
public import proofs.«01_k».proof.Proof.Gen.ConvAIdeal.Launch
public import proofs.«01_k».proof.Proof.Gen.ConvAIdeal.Points
public import proofs.«01_k».proof.Proof.Gen.ConvAIdeal.Frame
public import proofs.«01_k».proof.Proof.Gen.ConvAIdeal.Value
public import proofs.«01_k».proof.Proof.Gen.ConvARefIdeal
public import proofs.«01_k».proof.Proof.Gen.ConvARefIdeal.Run
public import proofs.«01_k».proof.Proof.Gen.ConvARefIdeal.Read
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.DwGate
public import proofs.«01_k».proof.Proof.Gen.DwGate.Skeleton
public import proofs.«01_k».proof.Proof.Gen.DwGate.Launch
public import proofs.«01_k».proof.Proof.Gen.DwGate.Points
public import proofs.«01_k».proof.Proof.Gen.DwGate.Frame
public import proofs.«01_k».proof.Proof.Gen.DwGateIdeal
public import proofs.«01_k».proof.Proof.Gen.DwGateIdeal.Skeleton
public import proofs.«01_k».proof.Proof.Gen.DwGateIdeal.Launch
public import proofs.«01_k».proof.Proof.Gen.DwGateIdeal.Points
public import proofs.«01_k».proof.Proof.Gen.DwGateIdeal.Frame
public import proofs.«01_k».proof.Proof.Gen.DwGateIdeal.Value
public import proofs.«01_k».proof.Proof.Gen.DwGateRefIdeal
public import proofs.«01_k».proof.Proof.Gen.DwGateRefIdeal.Run
public import proofs.«01_k».proof.Proof.Gen.DwGateRefIdeal.Read
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpIdeal.Value
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.InDwCx
public import proofs.«01_k».proof.Proof.Gen.InDwCx.Skeleton
public import proofs.«01_k».proof.Proof.Gen.InDwCx.Launch
public import proofs.«01_k».proof.Proof.Gen.InDwCx.Points
public import proofs.«01_k».proof.Proof.Gen.InDwCx.Frame
public import proofs.«01_k».proof.Proof.Gen.InDwCxIdeal
public import proofs.«01_k».proof.Proof.Gen.InDwCxIdeal.Skeleton
public import proofs.«01_k».proof.Proof.Gen.InDwCxIdeal.Launch
public import proofs.«01_k».proof.Proof.Gen.InDwCxIdeal.Points
public import proofs.«01_k».proof.Proof.Gen.InDwCxIdeal.Frame
public import proofs.«01_k».proof.Proof.Gen.InDwCxIdeal.Value
public import proofs.«01_k».proof.Proof.Gen.InDwCxRefIdeal
public import proofs.«01_k».proof.Proof.Gen.InDwCxRefIdeal.Run
public import proofs.«01_k».proof.Proof.Gen.InDwCxRefIdeal.Read
public import proofs.«01_k».proof.Proof.Gen.InDwZ
public import proofs.«01_k».proof.Proof.Gen.InDwZ.Skeleton
public import proofs.«01_k».proof.Proof.Gen.InDwZ.Launch
public import proofs.«01_k».proof.Proof.Gen.InDwZ.Points
public import proofs.«01_k».proof.Proof.Gen.InDwZ.Frame
public import proofs.«01_k».proof.Proof.Gen.InDwZIdeal
public import proofs.«01_k».proof.Proof.Gen.InDwZIdeal.Skeleton
public import proofs.«01_k».proof.Proof.Gen.InDwZIdeal.Launch
public import proofs.«01_k».proof.Proof.Gen.InDwZIdeal.Points
public import proofs.«01_k».proof.Proof.Gen.InDwZIdeal.Frame
public import proofs.«01_k».proof.Proof.Gen.InDwZIdeal.Value
public import proofs.«01_k».proof.Proof.Gen.InDwZRefIdeal
public import proofs.«01_k».proof.Proof.Gen.InDwZRefIdeal.Run
public import proofs.«01_k».proof.Proof.Gen.InDwZRefIdeal.Read
public import proofs.«01_k».proof.Proof.Gen.InDu
public import proofs.«01_k».proof.Proof.Gen.InDu.Skeleton
public import proofs.«01_k».proof.Proof.Gen.InDu.Launch
public import proofs.«01_k».proof.Proof.Gen.InDu.Points
public import proofs.«01_k».proof.Proof.Gen.InDu.Frame
public import proofs.«01_k».proof.Proof.Gen.InDuIdeal
public import proofs.«01_k».proof.Proof.Gen.InDuIdeal.Skeleton
public import proofs.«01_k».proof.Proof.Gen.InDuIdeal.Launch
public import proofs.«01_k».proof.Proof.Gen.InDuIdeal.Points
public import proofs.«01_k».proof.Proof.Gen.InDuIdeal.Frame
public import proofs.«01_k».proof.Proof.Gen.InDuIdeal.Value
public import proofs.«01_k».proof.Proof.Gen.InDuRefIdeal
public import proofs.«01_k».proof.Proof.Gen.InDuRefIdeal.Run
public import proofs.«01_k».proof.Proof.Gen.InDuRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDa
public import proofs.«01_k».proof.Proof.Gen.FfnDa.Skeleton
public import proofs.«01_k».proof.Proof.Gen.FfnDa.Launch
public import proofs.«01_k».proof.Proof.Gen.FfnDa.Points
public import proofs.«01_k».proof.Proof.Gen.FfnDa.Frame
public import proofs.«01_k».proof.Proof.Gen.FfnDaIdeal
public import proofs.«01_k».proof.Proof.Gen.FfnDaIdeal.Skeleton
public import proofs.«01_k».proof.Proof.Gen.FfnDaIdeal.Launch
public import proofs.«01_k».proof.Proof.Gen.FfnDaIdeal.Points
public import proofs.«01_k».proof.Proof.Gen.FfnDaIdeal.Frame
public import proofs.«01_k».proof.Proof.Gen.FfnDaIdeal.Value
public import proofs.«01_k».proof.Proof.Gen.FfnDaRefIdeal
public import proofs.«01_k».proof.Proof.Gen.FfnDaRefIdeal.Run
public import proofs.«01_k».proof.Proof.Gen.FfnDaRefIdeal.Read
public import proofs.«01_k».proof.Proof.Gen.FfnDn
public import proofs.«01_k».proof.Proof.Gen.FfnDn.Skeleton
public import proofs.«01_k».proof.Proof.Gen.FfnDn.Launch
public import proofs.«01_k».proof.Proof.Gen.FfnDn.Points
public import proofs.«01_k».proof.Proof.Gen.FfnDn.Frame
public import proofs.«01_k».proof.Proof.Gen.FfnDnIdeal
public import proofs.«01_k».proof.Proof.Gen.FfnDnIdeal.Skeleton
public import proofs.«01_k».proof.Proof.Gen.FfnDnIdeal.Launch
public import proofs.«01_k».proof.Proof.Gen.FfnDnIdeal.Points
public import proofs.«01_k».proof.Proof.Gen.FfnDnIdeal.Frame
public import proofs.«01_k».proof.Proof.Gen.FfnDnIdeal.Value
public import proofs.«01_k».proof.Proof.Gen.FfnDnRefIdeal
public import proofs.«01_k».proof.Proof.Gen.FfnDnRefIdeal.Run
public import proofs.«01_k».proof.Proof.Gen.FfnDnRefIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.DwMix
public import proofs.«01_k».proof.Proof.Gen.DwMix.Skeleton
public import proofs.«01_k».proof.Proof.Gen.DwMix.Launch
public import proofs.«01_k».proof.Proof.Gen.DwMix.Points
public import proofs.«01_k».proof.Proof.Gen.DwMix.Frame
public import proofs.«01_k».proof.Proof.Gen.DwMixIdeal
public import proofs.«01_k».proof.Proof.Gen.DwMixIdeal.Skeleton
public import proofs.«01_k».proof.Proof.Gen.DwMixIdeal.Launch
public import proofs.«01_k».proof.Proof.Gen.DwMixIdeal.Points
public import proofs.«01_k».proof.Proof.Gen.DwMixIdeal.Frame
public import proofs.«01_k».proof.Proof.Gen.DwMixIdeal.Value
public import proofs.«01_k».proof.Proof.Gen.DwMixRefIdeal
public import proofs.«01_k».proof.Proof.Gen.DwMixRefIdeal.Run
public import proofs.«01_k».proof.Proof.Gen.DwMixRefIdeal.Read
public import proofs.«01_k».proof.Proof.Gen.DwSsm
public import proofs.«01_k».proof.Proof.Gen.DwSsm.Skeleton
public import proofs.«01_k».proof.Proof.Gen.DwSsm.Launch
public import proofs.«01_k».proof.Proof.Gen.DwSsm.Points
public import proofs.«01_k».proof.Proof.Gen.DwSsm.Frame
public import proofs.«01_k».proof.Proof.Gen.DwSsmIdeal
public import proofs.«01_k».proof.Proof.Gen.DwSsmIdeal.Skeleton
public import proofs.«01_k».proof.Proof.Gen.DwSsmIdeal.Launch
public import proofs.«01_k».proof.Proof.Gen.DwSsmIdeal.Points
public import proofs.«01_k».proof.Proof.Gen.DwSsmIdeal.Frame
public import proofs.«01_k».proof.Proof.Gen.DwSsmIdeal.Value
public import proofs.«01_k».proof.Proof.Gen.DwSsmRefIdeal
public import proofs.«01_k».proof.Proof.Gen.DwSsmRefIdeal.Run
public import proofs.«01_k».proof.Proof.Gen.DwSsmRefIdeal.Read
public import proofs.«01_k».proof.Proof.Gen.OutA
public import proofs.«01_k».proof.Proof.Gen.OutA.Skeleton
public import proofs.«01_k».proof.Proof.Gen.OutA.Launch
public import proofs.«01_k».proof.Proof.Gen.OutA.Points
public import proofs.«01_k».proof.Proof.Gen.OutA.Frame
public import proofs.«01_k».proof.Proof.Gen.OutAIdeal
public import proofs.«01_k».proof.Proof.Gen.OutAIdeal.Skeleton
public import proofs.«01_k».proof.Proof.Gen.OutAIdeal.Launch
public import proofs.«01_k».proof.Proof.Gen.OutAIdeal.Points
public import proofs.«01_k».proof.Proof.Gen.OutAIdeal.Frame
public import proofs.«01_k».proof.Proof.Gen.OutAIdeal.Value
public import proofs.«01_k».proof.Proof.Gen.OutARefIdeal
public import proofs.«01_k».proof.Proof.Gen.OutARefIdeal.Run
public import proofs.«01_k».proof.Proof.Gen.OutARefIdeal.Read
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjIdeal.Value
public import proofs.«01_k».proof.Proof.Gen.QProjRefIdeal
public import proofs.«01_k».proof.Proof.Gen.QProjRefIdeal.Run
public import proofs.«01_k».proof.Proof.Gen.QProjRefIdeal.Read
public import proofs.«01_k».proof.Proof.Gen.OProj
public import proofs.«01_k».proof.Proof.Gen.OProj.Skeleton
public import proofs.«01_k».proof.Proof.Gen.OProj.Launch
public import proofs.«01_k».proof.Proof.Gen.OProj.Points
public import proofs.«01_k».proof.Proof.Gen.OProj.Frame
public import proofs.«01_k».proof.Proof.Gen.OProjIdeal
public import proofs.«01_k».proof.Proof.Gen.OProjIdeal.Skeleton
public import proofs.«01_k».proof.Proof.Gen.OProjIdeal.Launch
public import proofs.«01_k».proof.Proof.Gen.OProjIdeal.Points
public import proofs.«01_k».proof.Proof.Gen.OProjIdeal.Frame
public import proofs.«01_k».proof.Proof.Gen.OProjIdeal.Value
public import proofs.«01_k».proof.Proof.Gen.OProjRefIdeal
public import proofs.«01_k».proof.Proof.Gen.OProjRefIdeal.Run
public import proofs.«01_k».proof.Proof.Gen.OProjRefIdeal.Read
public import proofs.«01_k».proof.Proof.Gen.DO
public import proofs.«01_k».proof.Proof.Gen.DO.Skeleton
public import proofs.«01_k».proof.Proof.Gen.DO.Launch
public import proofs.«01_k».proof.Proof.Gen.DO.Points
public import proofs.«01_k».proof.Proof.Gen.DO.Frame
public import proofs.«01_k».proof.Proof.Gen.DOIdeal
public import proofs.«01_k».proof.Proof.Gen.DOIdeal.Skeleton
public import proofs.«01_k».proof.Proof.Gen.DOIdeal.Launch
public import proofs.«01_k».proof.Proof.Gen.DOIdeal.Points
public import proofs.«01_k».proof.Proof.Gen.DOIdeal.Frame
public import proofs.«01_k».proof.Proof.Gen.DOIdeal.Value
public import proofs.«01_k».proof.Proof.Gen.DORefIdeal
public import proofs.«01_k».proof.Proof.Gen.DORefIdeal.Run
public import proofs.«01_k».proof.Proof.Gen.DORefIdeal.Read
public import proofs.«01_k».proof.Proof.Gen.DUn
public import proofs.«01_k».proof.Proof.Gen.DUn.Skeleton
public import proofs.«01_k».proof.Proof.Gen.DUn.Launch
public import proofs.«01_k».proof.Proof.Gen.DUn.Points
public import proofs.«01_k».proof.Proof.Gen.DUn.Frame
public import proofs.«01_k».proof.Proof.Gen.DUnIdeal
public import proofs.«01_k».proof.Proof.Gen.DUnIdeal.Skeleton
public import proofs.«01_k».proof.Proof.Gen.DUnIdeal.Launch
public import proofs.«01_k».proof.Proof.Gen.DUnIdeal.Points
public import proofs.«01_k».proof.Proof.Gen.DUnIdeal.Frame
public import proofs.«01_k».proof.Proof.Gen.DUnIdeal.Value
public import proofs.«01_k».proof.Proof.Gen.DUnRefIdeal
public import proofs.«01_k».proof.Proof.Gen.DUnRefIdeal.Run
public import proofs.«01_k».proof.Proof.Gen.DUnRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamSsm
public import proofs.«01_k».proof.Proof.Gen.AdamSsm.Skeleton
public import proofs.«01_k».proof.Proof.Gen.AdamSsm.Launch
public import proofs.«01_k».proof.Proof.Gen.AdamSsm.Points
public import proofs.«01_k».proof.Proof.Gen.AdamSsm.Frame
public import proofs.«01_k».proof.Proof.Gen.AdamSsmIdeal
public import proofs.«01_k».proof.Proof.Gen.AdamSsmIdeal.Skeleton
public import proofs.«01_k».proof.Proof.Gen.AdamSsmIdeal.Launch
public import proofs.«01_k».proof.Proof.Gen.AdamSsmIdeal.Points
public import proofs.«01_k».proof.Proof.Gen.AdamSsmIdeal.Frame
public import proofs.«01_k».proof.Proof.Gen.AdamSsmIdeal.Value
public import proofs.«01_k».proof.Proof.Gen.AdamSsmRefIdeal
public import proofs.«01_k».proof.Proof.Gen.AdamSsmRefIdeal.Run
public import proofs.«01_k».proof.Proof.Gen.AdamSsmRefIdeal.Read
public import proofs.«01_k».proof.Proof.Gen.AdamGateUp
public import proofs.«01_k».proof.Proof.Gen.AdamGateUp.Skeleton
public import proofs.«01_k».proof.Proof.Gen.AdamGateUp.Launch
public import proofs.«01_k».proof.Proof.Gen.AdamGateUp.Points
public import proofs.«01_k».proof.Proof.Gen.AdamGateUp.Frame
public import proofs.«01_k».proof.Proof.Gen.AdamGateUpIdeal
public import proofs.«01_k».proof.Proof.Gen.AdamGateUpIdeal.Skeleton
public import proofs.«01_k».proof.Proof.Gen.AdamGateUpIdeal.Launch
public import proofs.«01_k».proof.Proof.Gen.AdamGateUpIdeal.Points
public import proofs.«01_k».proof.Proof.Gen.AdamGateUpIdeal.Frame
public import proofs.«01_k».proof.Proof.Gen.AdamGateUpIdeal.Value
public import proofs.«01_k».proof.Proof.Gen.AdamGateUpRefIdeal
public import proofs.«01_k».proof.Proof.Gen.AdamGateUpRefIdeal.Run
public import proofs.«01_k».proof.Proof.Gen.AdamGateUpRefIdeal.Read
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvIdeal.Value
public import proofs.«01_k».proof.Proof.Gen.AdamKvRefIdeal
public import proofs.«01_k».proof.Proof.Gen.AdamKvRefIdeal.Run
public import proofs.«01_k».proof.Proof.Gen.AdamKvRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.XAttn
public import proofs.«01_k».proof.Proof.Gen.XAttn.Skeleton
public import proofs.«01_k».proof.Proof.Gen.XAttn.Launch
public import proofs.«01_k».proof.Proof.Gen.XAttn.Points
public import proofs.«01_k».proof.Proof.Gen.XAttn.Frame
public import proofs.«01_k».proof.Proof.Gen.XAttnIdeal
public import proofs.«01_k».proof.Proof.Gen.XAttnIdeal.Skeleton
public import proofs.«01_k».proof.Proof.Gen.XAttnIdeal.Launch
public import proofs.«01_k».proof.Proof.Gen.XAttnIdeal.Points
public import proofs.«01_k».proof.Proof.Gen.XAttnIdeal.Frame
public import proofs.«01_k».proof.Proof.Gen.XAttnIdeal.Value
public import proofs.«01_k».proof.Proof.Gen.XAttnRefIdeal
public import proofs.«01_k».proof.Proof.Gen.XAttnRefIdeal.Run
public import proofs.«01_k».proof.Proof.Gen.XAttnRefIdeal.Read
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.SumSmallRefIdeal
public import proofs.«01_k».proof.Proof.Gen.SumSmallRefIdeal.Run
public import proofs.«01_k».proof.Proof.Gen.SumSmallRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.FfnLoss
public import proofs.«01_k».proof.Proof.Gen.FfnLoss.Skeleton
public import proofs.«01_k».proof.Proof.Gen.FfnLoss.Launch
public import proofs.«01_k».proof.Proof.Gen.FfnLoss.Points
public import proofs.«01_k».proof.Proof.Gen.FfnLoss.Frame
public import proofs.«01_k».proof.Proof.Gen.FfnLossIdeal
public import proofs.«01_k».proof.Proof.Gen.FfnLossIdeal.Skeleton
public import proofs.«01_k».proof.Proof.Gen.FfnLossIdeal.Launch
public import proofs.«01_k».proof.Proof.Gen.FfnLossIdeal.Points
public import proofs.«01_k».proof.Proof.Gen.FfnLossIdeal.Frame
public import proofs.«01_k».proof.Proof.Gen.FfnLossIdeal.Value
public import proofs.«01_k».proof.Proof.Gen.FfnLossRefIdeal
public import proofs.«01_k».proof.Proof.Gen.FfnLossRefIdeal.Run
public import proofs.«01_k».proof.Proof.Gen.FfnLossRefIdeal.Read
public import proofs.«01_k».proof.Proof.Gen.GateNorm
public import proofs.«01_k».proof.Proof.Gen.GateNorm.Skeleton
public import proofs.«01_k».proof.Proof.Gen.GateNorm.Launch
public import proofs.«01_k».proof.Proof.Gen.GateNorm.Points
public import proofs.«01_k».proof.Proof.Gen.GateNorm.Frame
public import proofs.«01_k».proof.Proof.Gen.GateNormIdeal
public import proofs.«01_k».proof.Proof.Gen.GateNormIdeal.Skeleton
public import proofs.«01_k».proof.Proof.Gen.GateNormIdeal.Launch
public import proofs.«01_k».proof.Proof.Gen.GateNormIdeal.Points
public import proofs.«01_k».proof.Proof.Gen.GateNormIdeal.Frame
public import proofs.«01_k».proof.Proof.Gen.GateNormIdeal.Value
public import proofs.«01_k».proof.Proof.Gen.GateNormRefIdeal
public import proofs.«01_k».proof.Proof.Gen.GateNormRefIdeal.Run
public import proofs.«01_k».proof.Proof.Gen.GateNormRefIdeal.Read
public import proofs.«01_k».proof.Proof.Gen.MergeOut
public import proofs.«01_k».proof.Proof.Gen.MergeOut.Skeleton
public import proofs.«01_k».proof.Proof.Gen.MergeOut.Launch
public import proofs.«01_k».proof.Proof.Gen.MergeOut.Points
public import proofs.«01_k».proof.Proof.Gen.MergeOut.Frame
public import proofs.«01_k».proof.Proof.Gen.MergeOutIdeal
public import proofs.«01_k».proof.Proof.Gen.MergeOutIdeal.Skeleton
public import proofs.«01_k».proof.Proof.Gen.MergeOutIdeal.Launch
public import proofs.«01_k».proof.Proof.Gen.MergeOutIdeal.Points
public import proofs.«01_k».proof.Proof.Gen.MergeOutIdeal.Frame
public import proofs.«01_k».proof.Proof.Gen.MergeOutIdeal.Value
public import proofs.«01_k».proof.Proof.Gen.MergeOutRefIdeal
public import proofs.«01_k».proof.Proof.Gen.MergeOutRefIdeal.Run
public import proofs.«01_k».proof.Proof.Gen.MergeOutRefIdeal.Read
public import proofs.«01_k».proof.Proof.Gen.GateOut
public import proofs.«01_k».proof.Proof.Gen.GateOut.Skeleton
public import proofs.«01_k».proof.Proof.Gen.GateOut.Launch
public import proofs.«01_k».proof.Proof.Gen.GateOut.Points
public import proofs.«01_k».proof.Proof.Gen.GateOut.Frame
public import proofs.«01_k».proof.Proof.Gen.GateOutIdeal
public import proofs.«01_k».proof.Proof.Gen.GateOutIdeal.Skeleton
public import proofs.«01_k».proof.Proof.Gen.GateOutIdeal.Launch
public import proofs.«01_k».proof.Proof.Gen.GateOutIdeal.Points
public import proofs.«01_k».proof.Proof.Gen.GateOutIdeal.Frame
public import proofs.«01_k».proof.Proof.Gen.GateOutIdeal.Value
public import proofs.«01_k».proof.Proof.Gen.GateOutRefIdeal
public import proofs.«01_k».proof.Proof.Gen.GateOutRefIdeal.Run
public import proofs.«01_k».proof.Proof.Gen.GateOutRefIdeal.Read
public import proofs.«01_k».proof.Proof.Gen.XFwd
public import proofs.«01_k».proof.Proof.Gen.XFwd.Skeleton
public import proofs.«01_k».proof.Proof.Gen.XFwd.Launch
public import proofs.«01_k».proof.Proof.Gen.XFwd.Points
public import proofs.«01_k».proof.Proof.Gen.XFwd.Frame
public import proofs.«01_k».proof.Proof.Gen.XFwdIdeal
public import proofs.«01_k».proof.Proof.Gen.XFwdIdeal.Skeleton
public import proofs.«01_k».proof.Proof.Gen.XFwdIdeal.Launch
public import proofs.«01_k».proof.Proof.Gen.XFwdIdeal.Points
public import proofs.«01_k».proof.Proof.Gen.XFwdIdeal.Frame
public import proofs.«01_k».proof.Proof.Gen.XFwdIdeal.Value
public import proofs.«01_k».proof.Proof.Gen.XFwdRefIdeal
public import proofs.«01_k».proof.Proof.Gen.XFwdRefIdeal.Run
public import proofs.«01_k».proof.Proof.Gen.XFwdRefIdeal.Read
public import proofs.«01_k».proof.Proof.Gen.CAFwd
public import proofs.«01_k».proof.Proof.Gen.CAFwd.Skeleton
public import proofs.«01_k».proof.Proof.Gen.CAFwd.Launch
public import proofs.«01_k».proof.Proof.Gen.CAFwd.Points
public import proofs.«01_k».proof.Proof.Gen.CAFwd.Frame
public import proofs.«01_k».proof.Proof.Gen.CAFwdIdeal
public import proofs.«01_k».proof.Proof.Gen.CAFwdIdeal.Skeleton
public import proofs.«01_k».proof.Proof.Gen.CAFwdIdeal.Launch
public import proofs.«01_k».proof.Proof.Gen.CAFwdIdeal.Points
public import proofs.«01_k».proof.Proof.Gen.CAFwdIdeal.Frame
public import proofs.«01_k».proof.Proof.Gen.CAFwdIdeal.Value
public import proofs.«01_k».proof.Proof.Gen.CAFwdRefIdeal
public import proofs.«01_k».proof.Proof.Gen.CAFwdRefIdeal.Run
public import proofs.«01_k».proof.Proof.Gen.CAFwdRefIdeal.Read
public import proofs.«01_k».proof.Proof.Gen.KvProj
public import proofs.«01_k».proof.Proof.Gen.KvProj.Skeleton
public import proofs.«01_k».proof.Proof.Gen.KvProj.Launch
public import proofs.«01_k».proof.Proof.Gen.KvProj.Points
public import proofs.«01_k».proof.Proof.Gen.KvProj.Frame
public import proofs.«01_k».proof.Proof.Gen.KvProjIdeal
public import proofs.«01_k».proof.Proof.Gen.KvProjIdeal.Skeleton
public import proofs.«01_k».proof.Proof.Gen.KvProjIdeal.Launch
public import proofs.«01_k».proof.Proof.Gen.KvProjIdeal.Points
public import proofs.«01_k».proof.Proof.Gen.KvProjIdeal.Frame
public import proofs.«01_k».proof.Proof.Gen.KvProjIdeal.Value
public import proofs.«01_k».proof.Proof.Gen.KvProjRefIdeal
public import proofs.«01_k».proof.Proof.Gen.KvProjRefIdeal.Run
public import proofs.«01_k».proof.Proof.Gen.KvProjRefIdeal.Read
public import proofs.«01_k».proof.Proof.Gen.RowNorm
public import proofs.«01_k».proof.Proof.Gen.RowNorm.Skeleton
public import proofs.«01_k».proof.Proof.Gen.RowNorm.Launch
public import proofs.«01_k».proof.Proof.Gen.RowNorm.Points
public import proofs.«01_k».proof.Proof.Gen.RowNorm.Frame
public import proofs.«01_k».proof.Proof.Gen.RowNormIdeal
public import proofs.«01_k».proof.Proof.Gen.RowNormIdeal.Skeleton
public import proofs.«01_k».proof.Proof.Gen.RowNormIdeal.Launch
public import proofs.«01_k».proof.Proof.Gen.RowNormIdeal.Points
public import proofs.«01_k».proof.Proof.Gen.RowNormIdeal.Frame
public import proofs.«01_k».proof.Proof.Gen.RowNormIdeal.Value
public import proofs.«01_k».proof.Proof.Gen.RowNormRefIdeal
public import proofs.«01_k».proof.Proof.Gen.RowNormRefIdeal.Run
public import proofs.«01_k».proof.Proof.Gen.RowNormRefIdeal.Read
public import proofs.«01_k».proof.Proof.Gen.MemNorm
public import proofs.«01_k».proof.Proof.Gen.MemNorm.Skeleton
public import proofs.«01_k».proof.Proof.Gen.MemNorm.Launch
public import proofs.«01_k».proof.Proof.Gen.MemNorm.Points
public import proofs.«01_k».proof.Proof.Gen.MemNorm.Frame
public import proofs.«01_k».proof.Proof.Gen.MemNormIdeal
public import proofs.«01_k».proof.Proof.Gen.MemNormIdeal.Skeleton
public import proofs.«01_k».proof.Proof.Gen.MemNormIdeal.Launch
public import proofs.«01_k».proof.Proof.Gen.MemNormIdeal.Points
public import proofs.«01_k».proof.Proof.Gen.MemNormIdeal.Frame
public import proofs.«01_k».proof.Proof.Gen.MemNormIdeal.Value
public import proofs.«01_k».proof.Proof.Gen.MemNormRefIdeal
public import proofs.«01_k».proof.Proof.Gen.MemNormRefIdeal.Run
public import proofs.«01_k».proof.Proof.Gen.MemNormRefIdeal.Read
public import proofs.«01_k».proof.Proof.Gen.DwKey
public import proofs.«01_k».proof.Proof.Gen.DwKey.Skeleton
public import proofs.«01_k».proof.Proof.Gen.DwKey.Launch
public import proofs.«01_k».proof.Proof.Gen.DwKey.Points
public import proofs.«01_k».proof.Proof.Gen.DwKey.Frame
public import proofs.«01_k».proof.Proof.Gen.DwKeyIdeal
public import proofs.«01_k».proof.Proof.Gen.DwKeyIdeal.Skeleton
public import proofs.«01_k».proof.Proof.Gen.DwKeyIdeal.Launch
public import proofs.«01_k».proof.Proof.Gen.DwKeyIdeal.Points
public import proofs.«01_k».proof.Proof.Gen.DwKeyIdeal.Frame
public import proofs.«01_k».proof.Proof.Gen.DwKeyIdeal.Value
public import proofs.«01_k».proof.Proof.Gen.DwKeyRefIdeal
public import proofs.«01_k».proof.Proof.Gen.DwKeyRefIdeal.Run
public import proofs.«01_k».proof.Proof.Gen.DwKeyRefIdeal.Read
public import proofs.«01_k».proof.Proof.Gen.DwVal
public import proofs.«01_k».proof.Proof.Gen.DwVal.Skeleton
public import proofs.«01_k».proof.Proof.Gen.DwVal.Launch
public import proofs.«01_k».proof.Proof.Gen.DwVal.Points
public import proofs.«01_k».proof.Proof.Gen.DwVal.Frame
public import proofs.«01_k».proof.Proof.Gen.DwValIdeal
public import proofs.«01_k».proof.Proof.Gen.DwValIdeal.Skeleton
public import proofs.«01_k».proof.Proof.Gen.DwValIdeal.Launch
public import proofs.«01_k».proof.Proof.Gen.DwValIdeal.Points
public import proofs.«01_k».proof.Proof.Gen.DwValIdeal.Frame
public import proofs.«01_k».proof.Proof.Gen.DwValIdeal.Value
public import proofs.«01_k».proof.Proof.Gen.DwValRefIdeal
public import proofs.«01_k».proof.Proof.Gen.DwValRefIdeal.Run
public import proofs.«01_k».proof.Proof.Gen.DwValRefIdeal.Read
public import proofs.«01_k».proof.Proof.Gen.InDt
public import proofs.«01_k».proof.Proof.Gen.InDt.Skeleton
public import proofs.«01_k».proof.Proof.Gen.InDt.Launch
public import proofs.«01_k».proof.Proof.Gen.InDt.Points
public import proofs.«01_k».proof.Proof.Gen.InDt.Frame
public import proofs.«01_k».proof.Proof.Gen.InDtIdeal
public import proofs.«01_k».proof.Proof.Gen.InDtIdeal.Skeleton
public import proofs.«01_k».proof.Proof.Gen.InDtIdeal.Launch
public import proofs.«01_k».proof.Proof.Gen.InDtIdeal.Points
public import proofs.«01_k».proof.Proof.Gen.InDtIdeal.Frame
public import proofs.«01_k».proof.Proof.Gen.InDtIdeal.Value
public import proofs.«01_k».proof.Proof.Gen.InDtRefIdeal
public import proofs.«01_k».proof.Proof.Gen.InDtRefIdeal.Run
public import proofs.«01_k».proof.Proof.Gen.InDtRefIdeal.Read
public import proofs.«01_k».proof.Proof.Gen.DwDt
public import proofs.«01_k».proof.Proof.Gen.DwDt.Skeleton
public import proofs.«01_k».proof.Proof.Gen.DwDt.Launch
public import proofs.«01_k».proof.Proof.Gen.DwDt.Points
public import proofs.«01_k».proof.Proof.Gen.DwDt.Frame
public import proofs.«01_k».proof.Proof.Gen.DwDtIdeal
public import proofs.«01_k».proof.Proof.Gen.DwDtIdeal.Skeleton
public import proofs.«01_k».proof.Proof.Gen.DwDtIdeal.Launch
public import proofs.«01_k».proof.Proof.Gen.DwDtIdeal.Points
public import proofs.«01_k».proof.Proof.Gen.DwDtIdeal.Frame
public import proofs.«01_k».proof.Proof.Gen.DwDtIdeal.Value
public import proofs.«01_k».proof.Proof.Gen.DwDtRefIdeal
public import proofs.«01_k».proof.Proof.Gen.DwDtRefIdeal.Run
public import proofs.«01_k».proof.Proof.Gen.DwDtRefIdeal.Read
public import proofs.«01_k».proof.Proof.Gen.DMn
public import proofs.«01_k».proof.Proof.Gen.DMn.Skeleton
public import proofs.«01_k».proof.Proof.Gen.DMn.Launch
public import proofs.«01_k».proof.Proof.Gen.DMn.Points
public import proofs.«01_k».proof.Proof.Gen.DMn.Frame
public import proofs.«01_k».proof.Proof.Gen.DMnIdeal
public import proofs.«01_k».proof.Proof.Gen.DMnIdeal.Skeleton
public import proofs.«01_k».proof.Proof.Gen.DMnIdeal.Launch
public import proofs.«01_k».proof.Proof.Gen.DMnIdeal.Points
public import proofs.«01_k».proof.Proof.Gen.DMnIdeal.Frame
public import proofs.«01_k».proof.Proof.Gen.DMnIdeal.Value
public import proofs.«01_k».proof.Proof.Gen.DMnRefIdeal
public import proofs.«01_k».proof.Proof.Gen.DMnRefIdeal.Run
public import proofs.«01_k».proof.Proof.Gen.DMnRefIdeal.Read
public import proofs.«01_k».proof.Proof.Gen.DUDt
public import proofs.«01_k».proof.Proof.Gen.DUDt.Skeleton
public import proofs.«01_k».proof.Proof.Gen.DUDt.Launch
public import proofs.«01_k».proof.Proof.Gen.DUDt.Points
public import proofs.«01_k».proof.Proof.Gen.DUDt.Frame
public import proofs.«01_k».proof.Proof.Gen.DUDtIdeal
public import proofs.«01_k».proof.Proof.Gen.DUDtIdeal.Skeleton
public import proofs.«01_k».proof.Proof.Gen.DUDtIdeal.Launch
public import proofs.«01_k».proof.Proof.Gen.DUDtIdeal.Points
public import proofs.«01_k».proof.Proof.Gen.DUDtIdeal.Frame
public import proofs.«01_k».proof.Proof.Gen.DUDtIdeal.Value
public import proofs.«01_k».proof.Proof.Gen.DUDtRefIdeal
public import proofs.«01_k».proof.Proof.Gen.DUDtRefIdeal.Run
public import proofs.«01_k».proof.Proof.Gen.DUDtRefIdeal.Read
public import proofs.«01_k».proof.Proof.Gen.Pre_finite_up
public import proofs.«01_k».proof.Proof.Gen.Pre_finite_da
public import proofs.«01_k».proof.Proof.Gen.Pre_finite_dn
public import proofs.«01_k».proof.Proof.Gen.Pre_finite_un
public import proofs.«01_k».proof.Proof.Gen.Pre_finite_xattn
public import proofs.«01_k».proof.Proof.Gen.Pre_finite_loss
public import proofs.«01_k».proof.Proof.Gen.Pre_finite_gate
public import proofs.«01_k».proof.Proof.Gen.Pre_finite_scores
public import proofs.«01_k».proof.Proof.Gen.Pre_finite_mn
public import proofs.«01_k».proof.Proof.Gen.Pre_finite_dt
public import proofs.«01_k».proof.Proof.Gen.On_conv_a_cols
public import proofs.«01_k».proof.Proof.Gen.On_gate_rows
public import proofs.«01_k».proof.Proof.Gen.On_key_rows
public import proofs.«01_k».proof.Proof.Adam
public import proofs.«01_k».proof.Proof.AdamDownValue
public import proofs.«01_k».proof.Proof.AdamGateUpValue
public import proofs.«01_k».proof.Proof.AdamInValue
public import proofs.«01_k».proof.Proof.AdamKvValue
public import proofs.«01_k».proof.Proof.AdamOutValue
public import proofs.«01_k».proof.Proof.AdamSmallValue
public import proofs.«01_k».proof.Proof.AdamSsmValue
public import proofs.«01_k».proof.Proof.CAFwdValue
public import proofs.«01_k».proof.Proof.ConvARef
public import proofs.«01_k».proof.Proof.ConvAValue
public import proofs.«01_k».proof.Proof.DMnValue
public import proofs.«01_k».proof.Proof.DOValue
public import proofs.«01_k».proof.Proof.DUDtValue
public import proofs.«01_k».proof.Proof.DUnValue
public import proofs.«01_k».proof.Proof.DwDownValue
public import proofs.«01_k».proof.Proof.DwDtValue
public import proofs.«01_k».proof.Proof.DwGateValue
public import proofs.«01_k».proof.Proof.DwKeyValue
public import proofs.«01_k».proof.Proof.DwMixValue
public import proofs.«01_k».proof.Proof.DwOutValue
public import proofs.«01_k».proof.Proof.DwSsmValue
public import proofs.«01_k».proof.Proof.DwUpValue
public import proofs.«01_k».proof.Proof.DwValValue
public import proofs.«01_k».proof.Proof.FfnDaValue
public import proofs.«01_k».proof.Proof.FfnDnValue
public import proofs.«01_k».proof.Proof.FfnDownValue
public import proofs.«01_k».proof.Proof.FfnLossValue
public import proofs.«01_k».proof.Proof.FfnUpValue
public import proofs.«01_k».proof.Proof.GateNormRef
public import proofs.«01_k».proof.Proof.GateNormValue
public import proofs.«01_k».proof.Proof.GateOutValue
public import proofs.«01_k».proof.Proof.InDtValue
public import proofs.«01_k».proof.Proof.InDuValue
public import proofs.«01_k».proof.Proof.InDwCxValue
public import proofs.«01_k».proof.Proof.InDwZValue
public import proofs.«01_k».proof.Proof.InProjValue
public import proofs.«01_k».proof.Proof.KvProjValue
public import proofs.«01_k».proof.Proof.MemNormValue
public import proofs.«01_k».proof.Proof.MergeOutValue
public import proofs.«01_k».proof.Proof.MergeValue
public import proofs.«01_k».proof.Proof.OProjValue
public import proofs.«01_k».proof.Proof.OutAValue
public import proofs.«01_k».proof.Proof.QProjValue
public import proofs.«01_k».proof.Proof.Reals
public import proofs.«01_k».proof.Proof.RowNormValue
public import proofs.«01_k».proof.Proof.SumSmallValue
public import proofs.«01_k».proof.Proof.Words
public import proofs.«01_k».proof.Proof.XAttnRef
public import proofs.«01_k».proof.Proof.XAttnTile
public import proofs.«01_k».proof.Proof.XAttnValue
public import proofs.«01_k».proof.Proof.XFwdValue
public import Idealize.ShloMosaic.Adequacy
public import Idealize.ShloMosaic.Init

@[expose] public section

noncomputable section

namespace Cert.Proof

open Idealize.ShloMosaic Idealize.SL.Sem

theorem claim : Cert.Claim := ⟨Cert.Merge.Gen.facts, Cert.MergeIdeal.Gen.facts, Cert.MergeRefIdeal.Gen.facts, Cert.ConvA.Gen.facts, Cert.ConvAIdeal.Gen.facts, Cert.ConvARefIdeal.Gen.facts, Cert.DwDown.Gen.facts, Cert.DwDownIdeal.Gen.facts, Cert.DwDownRefIdeal.Gen.facts, Cert.DwGate.Gen.facts, Cert.DwGateIdeal.Gen.facts, Cert.DwGateRefIdeal.Gen.facts, Cert.DwUp.Gen.facts, Cert.DwUpIdeal.Gen.facts, Cert.DwUpRefIdeal.Gen.facts, Cert.InDwCx.Gen.facts, Cert.InDwCxIdeal.Gen.facts, Cert.InDwCxRefIdeal.Gen.facts, Cert.InDwZ.Gen.facts, Cert.InDwZIdeal.Gen.facts, Cert.InDwZRefIdeal.Gen.facts, Cert.InDu.Gen.facts, Cert.InDuIdeal.Gen.facts, Cert.InDuRefIdeal.Gen.facts, Cert.InProj.Gen.facts, Cert.InProjIdeal.Gen.facts, Cert.InProjRefIdeal.Gen.facts, Cert.FfnDown.Gen.facts, Cert.FfnDownIdeal.Gen.facts, Cert.FfnDownRefIdeal.Gen.facts, Cert.FfnUp.Gen.facts, Cert.FfnUpIdeal.Gen.facts, Cert.FfnUpRefIdeal.Gen.facts, Cert.FfnDa.Gen.facts, Cert.FfnDaIdeal.Gen.facts, Cert.FfnDaRefIdeal.Gen.facts, Cert.FfnDn.Gen.facts, Cert.FfnDnIdeal.Gen.facts, Cert.FfnDnRefIdeal.Gen.facts, Cert.DwOut.Gen.facts, Cert.DwOutIdeal.Gen.facts, Cert.DwOutRefIdeal.Gen.facts, Cert.DwMix.Gen.facts, Cert.DwMixIdeal.Gen.facts, Cert.DwMixRefIdeal.Gen.facts, Cert.DwSsm.Gen.facts, Cert.DwSsmIdeal.Gen.facts, Cert.DwSsmRefIdeal.Gen.facts, Cert.OutA.Gen.facts, Cert.OutAIdeal.Gen.facts, Cert.OutARefIdeal.Gen.facts, Cert.QProj.Gen.facts, Cert.QProjIdeal.Gen.facts, Cert.QProjRefIdeal.Gen.facts, Cert.OProj.Gen.facts, Cert.OProjIdeal.Gen.facts, Cert.OProjRefIdeal.Gen.facts, Cert.DO.Gen.facts, Cert.DOIdeal.Gen.facts, Cert.DORefIdeal.Gen.facts, Cert.DUn.Gen.facts, Cert.DUnIdeal.Gen.facts, Cert.DUnRefIdeal.Gen.facts, Cert.AdamDown.Gen.facts, Cert.AdamDownIdeal.Gen.facts, Cert.AdamDownRefIdeal.Gen.facts, Cert.AdamOut.Gen.facts, Cert.AdamOutIdeal.Gen.facts, Cert.AdamOutRefIdeal.Gen.facts, Cert.AdamSsm.Gen.facts, Cert.AdamSsmIdeal.Gen.facts, Cert.AdamSsmRefIdeal.Gen.facts, Cert.AdamGateUp.Gen.facts, Cert.AdamGateUpIdeal.Gen.facts, Cert.AdamGateUpRefIdeal.Gen.facts, Cert.AdamKv.Gen.facts, Cert.AdamKvIdeal.Gen.facts, Cert.AdamKvRefIdeal.Gen.facts, Cert.AdamIn.Gen.facts, Cert.AdamInIdeal.Gen.facts, Cert.AdamInRefIdeal.Gen.facts, Cert.XAttn.Gen.facts, Cert.XAttnIdeal.Gen.facts, Cert.XAttnRefIdeal.Gen.facts, Cert.SumSmall.Gen.facts, Cert.SumSmallIdeal.Gen.facts, Cert.SumSmallRefIdeal.Gen.facts, Cert.AdamSmall.Gen.facts, Cert.AdamSmallIdeal.Gen.facts, Cert.AdamSmallRefIdeal.Gen.facts, Cert.FfnLoss.Gen.facts, Cert.FfnLossIdeal.Gen.facts, Cert.FfnLossRefIdeal.Gen.facts, Cert.GateNorm.Gen.facts, Cert.GateNormIdeal.Gen.facts, Cert.GateNormRefIdeal.Gen.facts, Cert.MergeOut.Gen.facts, Cert.MergeOutIdeal.Gen.facts, Cert.MergeOutRefIdeal.Gen.facts, Cert.GateOut.Gen.facts, Cert.GateOutIdeal.Gen.facts, Cert.GateOutRefIdeal.Gen.facts, Cert.XFwd.Gen.facts, Cert.XFwdIdeal.Gen.facts, Cert.XFwdRefIdeal.Gen.facts, Cert.CAFwd.Gen.facts, Cert.CAFwdIdeal.Gen.facts, Cert.CAFwdRefIdeal.Gen.facts, Cert.KvProj.Gen.facts, Cert.KvProjIdeal.Gen.facts, Cert.KvProjRefIdeal.Gen.facts, Cert.RowNorm.Gen.facts, Cert.RowNormIdeal.Gen.facts, Cert.RowNormRefIdeal.Gen.facts, Cert.MemNorm.Gen.facts, Cert.MemNormIdeal.Gen.facts, Cert.MemNormRefIdeal.Gen.facts, Cert.DwKey.Gen.facts, Cert.DwKeyIdeal.Gen.facts, Cert.DwKeyRefIdeal.Gen.facts, Cert.DwVal.Gen.facts, Cert.DwValIdeal.Gen.facts, Cert.DwValRefIdeal.Gen.facts, Cert.InDt.Gen.facts, Cert.InDtIdeal.Gen.facts, Cert.InDtRefIdeal.Gen.facts, Cert.DwDt.Gen.facts, Cert.DwDtIdeal.Gen.facts, Cert.DwDtRefIdeal.Gen.facts, Cert.DMn.Gen.facts, Cert.DMnIdeal.Gen.facts, Cert.DMnRefIdeal.Gen.facts, Cert.DUDt.Gen.facts, Cert.DUDtIdeal.Gen.facts, Cert.DUDtRefIdeal.Gen.facts, Cert.Pre_finite_up.Gen.facts, Cert.Pre_finite_da.Gen.facts, Cert.Pre_finite_dn.Gen.facts, Cert.Pre_finite_un.Gen.facts, Cert.Pre_finite_xattn.Gen.facts, Cert.Pre_finite_loss.Gen.facts, Cert.Pre_finite_gate.Gen.facts, Cert.Pre_finite_scores.Gen.facts, Cert.Pre_finite_mn.Gen.facts, Cert.Pre_finite_dt.Gen.facts, Cert.On_conv_a_cols.Gen.facts, Cert.On_gate_rows.Gen.facts, Cert.On_key_rows.Gen.facts,
  fun m ρ _ => Cert.Merge.Gen.frame m ρ,
  fun m ρ _ => Cert.MergeIdeal.Gen.frame m ρ,
  Cert.Proof.Merge.ref_frame,
  fun m ρ _ => Cert.ConvA.Gen.frame m ρ,
  fun m ρ _ => Cert.ConvAIdeal.Gen.frame m ρ,
  Cert.Proof.ConvA.ref_frame,
  fun m ρ _ => Cert.DwDown.Gen.frame m ρ,
  fun m ρ _ => Cert.DwDownIdeal.Gen.frame m ρ,
  Cert.Proof.DwDown.ref_frame,
  fun m ρ _ => Cert.DwGate.Gen.frame m ρ,
  fun m ρ _ => Cert.DwGateIdeal.Gen.frame m ρ,
  Cert.Proof.DwGate.ref_frame,
  fun m ρ _ => Cert.DwUp.Gen.frame m ρ,
  fun m ρ _ => Cert.DwUpIdeal.Gen.frame m ρ,
  Cert.Proof.DwUp.ref_frame,
  fun m ρ _ => Cert.InDwCx.Gen.frame m ρ,
  fun m ρ _ => Cert.InDwCxIdeal.Gen.frame m ρ,
  Cert.Proof.InDwCx.ref_frame,
  fun m ρ _ => Cert.InDwZ.Gen.frame m ρ,
  fun m ρ _ => Cert.InDwZIdeal.Gen.frame m ρ,
  Cert.Proof.InDwZ.ref_frame,
  fun m ρ _ => Cert.InDu.Gen.frame m ρ,
  fun m ρ _ => Cert.InDuIdeal.Gen.frame m ρ,
  Cert.Proof.InDu.ref_frame,
  fun m ρ _ => Cert.InProj.Gen.frame m ρ,
  fun m ρ _ => Cert.InProjIdeal.Gen.frame m ρ,
  Cert.Proof.InProj.ref_frame,
  fun m ρ _ => Cert.FfnDown.Gen.frame m ρ,
  fun m ρ _ => Cert.FfnDownIdeal.Gen.frame m ρ,
  Cert.Proof.FfnDown.ref_frame,
  fun m ρ _ => Cert.FfnUp.Gen.frame m ρ,
  fun m ρ _ => Cert.FfnUpIdeal.Gen.frame m ρ,
  fun m ρ _ => Cert.FfnUpIdeal.Gen.frame m ρ,
  Cert.Proof.FfnUp.ref_frame,
  fun m ρ _ => Cert.Proof.FfnUp.ref_frame m ρ trivial,
  fun m ρ _ => Cert.FfnDa.Gen.frame m ρ,
  fun m ρ _ => Cert.FfnDaIdeal.Gen.frame m ρ,
  fun m ρ _ => Cert.FfnDaIdeal.Gen.frame m ρ,
  Cert.Proof.FfnDa.ref_frame,
  fun m ρ _ => Cert.Proof.FfnDa.ref_frame m ρ trivial,
  fun m ρ _ => Cert.FfnDn.Gen.frame m ρ,
  fun m ρ _ => Cert.FfnDnIdeal.Gen.frame m ρ,
  fun m ρ _ => Cert.FfnDnIdeal.Gen.frame m ρ,
  Cert.Proof.FfnDn.ref_frame,
  fun m ρ _ => Cert.Proof.FfnDn.ref_frame m ρ trivial,
  fun m ρ _ => Cert.DwOut.Gen.frame m ρ,
  fun m ρ _ => Cert.DwOutIdeal.Gen.frame m ρ,
  Cert.Proof.DwOut.ref_frame,
  fun m ρ _ => Cert.DwMix.Gen.frame m ρ,
  fun m ρ _ => Cert.DwMixIdeal.Gen.frame m ρ,
  Cert.Proof.DwMix.ref_frame,
  fun m ρ _ => Cert.DwSsm.Gen.frame m ρ,
  fun m ρ _ => Cert.DwSsmIdeal.Gen.frame m ρ,
  Cert.Proof.DwSsm.ref_frame,
  fun m ρ _ => Cert.OutA.Gen.frame m ρ,
  fun m ρ _ => Cert.OutAIdeal.Gen.frame m ρ,
  Cert.Proof.OutA.ref_frame,
  fun m ρ _ => Cert.QProj.Gen.frame m ρ,
  fun m ρ _ => Cert.QProjIdeal.Gen.frame m ρ,
  Cert.Proof.QProj.ref_frame,
  fun m ρ _ => Cert.OProj.Gen.frame m ρ,
  fun m ρ _ => Cert.OProjIdeal.Gen.frame m ρ,
  Cert.Proof.OProj.ref_frame,
  fun m ρ _ => Cert.DO.Gen.frame m ρ,
  fun m ρ _ => Cert.DOIdeal.Gen.frame m ρ,
  Cert.Proof.DO.ref_frame,
  fun m ρ _ => Cert.DUn.Gen.frame m ρ,
  fun m ρ _ => Cert.DUnIdeal.Gen.frame m ρ,
  fun m ρ _ => Cert.DUnIdeal.Gen.frame m ρ,
  Cert.Proof.DUn.ref_frame,
  fun m ρ _ => Cert.Proof.DUn.ref_frame m ρ trivial,
  fun m ρ _ => Cert.AdamDown.Gen.frame m ρ,
  fun m ρ _ => Cert.AdamDownIdeal.Gen.frame m ρ,
  Cert.Proof.AdamDown.ref_frame,
  fun m ρ _ => Cert.AdamOut.Gen.frame m ρ,
  fun m ρ _ => Cert.AdamOutIdeal.Gen.frame m ρ,
  Cert.Proof.AdamOut.ref_frame,
  fun m ρ _ => Cert.AdamSsm.Gen.frame m ρ,
  fun m ρ _ => Cert.AdamSsmIdeal.Gen.frame m ρ,
  Cert.Proof.AdamSsm.ref_frame,
  fun m ρ _ => Cert.AdamGateUp.Gen.frame m ρ,
  fun m ρ _ => Cert.AdamGateUpIdeal.Gen.frame m ρ,
  Cert.Proof.AdamGateUp.ref_frame,
  fun m ρ _ => Cert.AdamKv.Gen.frame m ρ,
  fun m ρ _ => Cert.AdamKvIdeal.Gen.frame m ρ,
  Cert.Proof.AdamKv.ref_frame,
  fun m ρ _ => Cert.AdamIn.Gen.frame m ρ,
  fun m ρ _ => Cert.AdamInIdeal.Gen.frame m ρ,
  Cert.Proof.AdamIn.ref_frame,
  fun m ρ _ => Cert.XAttn.Gen.frame m ρ,
  fun m ρ _ => Cert.XAttnIdeal.Gen.frame m ρ,
  fun m ρ _ => Cert.XAttnIdeal.Gen.frame m ρ,
  Cert.Proof.XAttn.ref_frame,
  fun m ρ _ => Cert.Proof.XAttn.ref_frame m ρ trivial,
  fun m ρ _ => Cert.SumSmall.Gen.frame m ρ,
  fun m ρ _ => Cert.SumSmallIdeal.Gen.frame m ρ,
  Cert.Proof.SumSmall.ref_frame,
  fun m ρ _ => Cert.AdamSmall.Gen.frame m ρ,
  fun m ρ _ => Cert.AdamSmallIdeal.Gen.frame m ρ,
  Cert.Proof.AdamSmall.ref_frame,
  fun m ρ _ => Cert.FfnLoss.Gen.frame m ρ,
  fun m ρ _ => Cert.FfnLossIdeal.Gen.frame m ρ,
  fun m ρ _ => Cert.FfnLossIdeal.Gen.frame m ρ,
  Cert.Proof.FfnLoss.ref_frame,
  fun m ρ _ => Cert.Proof.FfnLoss.ref_frame m ρ trivial,
  fun m ρ _ => Cert.GateNorm.Gen.frame m ρ,
  fun m ρ _ => Cert.GateNormIdeal.Gen.frame m ρ,
  fun m ρ _ => Cert.GateNormIdeal.Gen.frame m ρ,
  Cert.Proof.GateNorm.ref_frame,
  fun m ρ _ => Cert.Proof.GateNorm.ref_frame m ρ trivial,
  fun m ρ _ => Cert.MergeOut.Gen.frame m ρ,
  fun m ρ _ => Cert.MergeOutIdeal.Gen.frame m ρ,
  Cert.Proof.MergeOut.ref_frame,
  fun m ρ _ => Cert.GateOut.Gen.frame m ρ,
  fun m ρ _ => Cert.GateOutIdeal.Gen.frame m ρ,
  Cert.Proof.GateOut.ref_frame,
  fun m ρ _ => Cert.XFwd.Gen.frame m ρ,
  fun m ρ _ => Cert.XFwdIdeal.Gen.frame m ρ,
  fun m ρ _ => Cert.XFwdIdeal.Gen.frame m ρ,
  Cert.Proof.XFwd.ref_frame,
  fun m ρ _ => Cert.Proof.XFwd.ref_frame m ρ trivial,
  fun m ρ _ => Cert.CAFwd.Gen.frame m ρ,
  fun m ρ _ => Cert.CAFwdIdeal.Gen.frame m ρ,
  Cert.Proof.CAFwd.ref_frame,
  fun m ρ _ => Cert.KvProj.Gen.frame m ρ,
  fun m ρ _ => Cert.KvProjIdeal.Gen.frame m ρ,
  Cert.Proof.KvProj.ref_frame,
  fun m ρ _ => Cert.RowNorm.Gen.frame m ρ,
  fun m ρ _ => Cert.RowNormIdeal.Gen.frame m ρ,
  Cert.Proof.RowNorm.ref_frame,
  fun m ρ _ => Cert.MemNorm.Gen.frame m ρ,
  fun m ρ _ => Cert.MemNormIdeal.Gen.frame m ρ,
  Cert.Proof.MemNorm.ref_frame,
  fun m ρ _ => Cert.DwKey.Gen.frame m ρ,
  fun m ρ _ => Cert.DwKeyIdeal.Gen.frame m ρ,
  Cert.Proof.DwKey.ref_frame,
  fun m ρ _ => Cert.DwVal.Gen.frame m ρ,
  fun m ρ _ => Cert.DwValIdeal.Gen.frame m ρ,
  Cert.Proof.DwVal.ref_frame,
  fun m ρ _ => Cert.InDt.Gen.frame m ρ,
  fun m ρ _ => Cert.InDtIdeal.Gen.frame m ρ,
  Cert.Proof.InDt.ref_frame,
  fun m ρ _ => Cert.DwDt.Gen.frame m ρ,
  fun m ρ _ => Cert.DwDtIdeal.Gen.frame m ρ,
  Cert.Proof.DwDt.ref_frame,
  fun m ρ _ => Cert.DMn.Gen.frame m ρ,
  fun m ρ _ => Cert.DMnIdeal.Gen.frame m ρ,
  fun m ρ _ => Cert.DMnIdeal.Gen.frame m ρ,
  Cert.Proof.DMn.ref_frame,
  fun m ρ _ => Cert.Proof.DMn.ref_frame m ρ trivial,
  fun m ρ _ => Cert.DUDt.Gen.frame m ρ,
  fun m ρ _ => Cert.DUDtIdeal.Gen.frame m ρ,
  fun m ρ _ => Cert.DUDtIdeal.Gen.frame m ρ,
  Cert.Proof.DUDt.ref_frame,
  fun m ρ _ => Cert.Proof.DUDt.ref_frame m ρ trivial,
  trivial,
  Cert.Proof.Merge.algebraic,
  trivial,
  Cert.Proof.ConvA.algebraic,
  trivial,
  Cert.Proof.DwDown.algebraic,
  trivial,
  Cert.Proof.DwGate.algebraic,
  trivial,
  Cert.Proof.DwUp.algebraic,
  trivial,
  Cert.Proof.InDwCx.algebraic,
  trivial,
  Cert.Proof.InDwZ.algebraic,
  trivial,
  Cert.Proof.InDu.algebraic,
  trivial,
  Cert.Proof.InProj.algebraic,
  trivial,
  Cert.Proof.FfnDown.algebraic,
  trivial,
  Cert.Proof.FfnUp.algebraic,
  trivial,
  Cert.Proof.FfnDa.algebraic,
  trivial,
  Cert.Proof.FfnDn.algebraic,
  trivial,
  Cert.Proof.DwOut.algebraic,
  trivial,
  Cert.Proof.DwMix.algebraic,
  trivial,
  Cert.Proof.DwSsm.algebraic,
  trivial,
  Cert.Proof.OutA.algebraic,
  trivial,
  Cert.Proof.QProj.algebraic,
  trivial,
  Cert.Proof.OProj.algebraic,
  trivial,
  Cert.Proof.DO.algebraic,
  trivial,
  Cert.Proof.DUn.algebraic,
  trivial,
  Cert.Proof.AdamDown.algebraic,
  trivial,
  Cert.Proof.AdamOut.algebraic,
  trivial,
  Cert.Proof.AdamSsm.algebraic,
  trivial,
  Cert.Proof.AdamGateUp.algebraic,
  trivial,
  Cert.Proof.AdamKv.algebraic,
  trivial,
  Cert.Proof.AdamIn.algebraic,
  trivial,
  Cert.Proof.XAttn.algebraic,
  trivial,
  Cert.Proof.SumSmall.algebraic,
  trivial,
  Cert.Proof.AdamSmall.algebraic,
  trivial,
  Cert.Proof.FfnLoss.algebraic,
  trivial,
  Cert.Proof.GateNorm.algebraic,
  trivial,
  Cert.Proof.MergeOut.algebraic,
  trivial,
  Cert.Proof.GateOut.algebraic,
  trivial,
  Cert.Proof.XFwd.algebraic,
  trivial,
  Cert.Proof.CAFwd.algebraic,
  trivial,
  Cert.Proof.KvProj.algebraic,
  trivial,
  Cert.Proof.RowNorm.algebraic,
  trivial,
  Cert.Proof.MemNorm.algebraic,
  trivial,
  Cert.Proof.DwKey.algebraic,
  trivial,
  Cert.Proof.DwVal.algebraic,
  trivial,
  Cert.Proof.InDt.algebraic,
  trivial,
  Cert.Proof.DwDt.algebraic,
  trivial,
  Cert.Proof.DMn.algebraic,
  trivial,
  Cert.Proof.DUDt.algebraic⟩

end Cert.Proof

end
